-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_scales [hPre_positive_scales : Cert.Pre_positive_scales.Facts] (m : (ℓ : Loc Cert.KernelIdeal.nD Cert.KernelIdeal.τ Cert.KernelIdeal.sig) → Buf (Elt Ideal) ℓ) : Prop :=
  ∀ c : Dev Cert.KernelIdeal.nD,
    (Cert.Pre_positive_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_scales [hPre_positive_scales : Cert.Pre_positive_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_positive_scales [hKernelIdeal : Cert.KernelIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_positive_scales [hReferenceIdeal : Cert.ReferenceIdeal.Facts] [hPre_positive_scales : Cert.Pre_positive_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_positive_scales [hKernelIdeal : Cert.KernelIdeal.Facts] [hReferenceIdeal : Cert.ReferenceIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_positive_scales : Cert.Pre_positive_scales.Facts),
    quiescent_Kernel (hKernel := hKernel)
    ∧ quiescent_KernelIdeal (hKernelIdeal := hKernelIdeal)
    ∧ quiescent_KernelIdeal_pre_positive_scales (hKernelIdeal := hKernelIdeal) (hPre_positive_scales := hPre_positive_scales)
    ∧ quiescent_ReferenceIdeal (hReferenceIdeal := hReferenceIdeal)
    ∧ quiescent_ReferenceIdeal_pre_positive_scales (hReferenceIdeal := hReferenceIdeal) (hPre_positive_scales := hPre_positive_scales)
    ∧ preserves_Kernel_KernelIdeal
    ∧ algebraic_KernelIdeal_ReferenceIdeal_pre_positive_scales (hKernelIdeal := hKernelIdeal) (hReferenceIdeal := hReferenceIdeal) (hPre_positive_scales := hPre_positive_scales)
-- ==== Pre_positive_scales.lean ====
abbrev S3x80x144x256 : Shape := ⟨4, ![3, 80, 144, 256]⟩
abbrev S3x80x144 : Shape := ⟨3, ![3, 80, 144]⟩
abbrev S3x11520x256 : Shape := ⟨3, ![3, 11520, 256]⟩
abbrev S3x11520 : Shape := ⟨2, ![3, 11520]⟩
abbrev S3 : Shape := ⟨1, ![3]⟩
abbrev S_ : Shape := ⟨0, ![]⟩

class Facts : Prop where
  bcast_S_S3x80x144 : S_.BroadcastsInDim S3x80x144 (![] : Fin 0 → Fin S3x80x144.rank)
  reducesTo_S3x80x144_S_d0_1_2 : S3x80x144.ReducesTo [0, 1, 2] S_
  h_S_ : 0 < S_.numel

variable [Facts]

def fn {F : FTy → Type} [FloatOps F] (main_arg0 : FVec F S3x80x144x256 .fp8e4m3) (main_arg1 : FVec F S3x80x144 .f32) (main_arg2 : FVec F S3x11520x256 .fp8e4m3) (main_arg3 : FVec F S3x11520 .f32) (main_arg4 : FVec F S3 .f32) : IVec S_ 1 :=
  let main_cst : FVec F S_ .f32 := constant S_ .f32 0x00000000#32
  let main_v0 : FVec F S3x80x144 .f32 := broadcastInDim S3x80x144 ![] bcast_S_S3x80x144 main_cst
  let main_v1 : IVec S3x80x144 1 := cmpf .ogt main_arg1 main_v0
  let main_c : IVec S_ 1 := constantI S_ 1 1#1
  let main_v2 : IVec S_ 1 := (fun x v => Host.reduce IntOp.andi x v reducesTo_S3x80x144_S_d0_1_2 h_S_) main_v1 main_c
  main_v2
-- ==== Kernel.lean ====
abbrev S3x80x144x256 : Shape := ⟨4, ![3, 80, 144, 256]⟩
abbrev S3x80x144 : Shape := ⟨3, ![3, 80, 144]⟩
abbrev S3x11520x256 : Shape := ⟨3, ![3, 11520, 256]⟩
abbrev S3x11520 : Shape := ⟨2, ![3, 11520]⟩
abbrev S3 : Shape := ⟨1, ![3]⟩
abbrev S8x720 : Shape := ⟨2, ![8, 720]⟩
abbrev S3x11520x1 : Shape := ⟨3, ![3, 11520, 1]⟩
abbrev S3x11520x128 : Shape := ⟨3, ![3, 11520, 128]⟩
abbrev S3x5x16x9x4x4 : Shape := ⟨6, ![3, 5, 16, 9, 4, 4]⟩
abbrev S3x9x5x4x16x4 : Shape := ⟨6, ![3, 9, 5, 4, 16, 4]⟩
abbrev S3x9x5x1x256 : Shape := ⟨5, ![3, 9, 5, 1, 256]⟩
abbrev S3x80x18x90x8x128 : Shape := ⟨6, ![3, 80, 18, 90, 8, 128]⟩
abbrev S3x144x2880x80 : Shape := ⟨4, ![3, 144, 2880, 80]⟩
abbrev S3x720x144x80 : Shape := ⟨4, ![3, 720, 144, 80]⟩
abbrev S3x180x144x80 : Shape := ⟨4, ![3, 180, 144, 80]⟩
abbrev S3x9x5x8x256 : Shape := ⟨5, ![3, 9, 5, 8, 256]⟩
abbrev S1x16x16x256 : Shape := ⟨4, ![1, 16, 16, 256]⟩
abbrev S1x1x1x1x256 : Shape := ⟨5, ![1, 1, 1, 1, 256]⟩
abbrev S1x11520x256 : Shape := ⟨3, ![1, 11520, 256]⟩
abbrev S1x11520x128 : Shape := ⟨3, ![1, 11520, 128]⟩
abbrev S1x16x2x90x8x128 : Shape := ⟨6, ![1, 16, 2, 90, 8, 128]⟩
abbrev S1x16x2880x80 : Shape := ⟨4, ![1, 16, 2880, 80]⟩
abbrev S1x720x16x80 : Shape := ⟨4, ![1, 720, 16, 80]⟩
abbrev S1x180x16x80 : Shape := ⟨4, ![1, 180, 16, 80]⟩
abbrev S1x1x1x8x256 : Shape := ⟨5, ![1, 1, 1, 8, 256]⟩
abbrev S2x11520x128 : Shape := ⟨3, ![2, 11520, 128]⟩
abbrev S2x2880x128 : Shape := ⟨3, ![2, 2880, 128]⟩
abbrev S1440x128 : Shape := ⟨2, ![1440, 128]⟩
abbrev S720x128 : Shape := ⟨2, ![720, 128]⟩
abbrev S360x128 : Shape := ⟨2, ![360, 128]⟩
abbrev S192x128 : Shape := ⟨2, ![192, 128]⟩
abbrev S6x1280x512 : Shape := ⟨3, ![6, 1280, 512]⟩
abbrev S6x1280x128 : Shape := ⟨3, ![6, 1280, 128]⟩
abbrev S2x1280x128 : Shape := ⟨3, ![2, 1280, 128]⟩
abbrev S1x16x4x256 : Shape := ⟨4, ![1, 16, 4, 256]⟩
abbrev S16x4x256 : Shape := ⟨3, ![16, 4, 256]⟩
abbrev S64x256 : Shape := ⟨2, ![64, 256]⟩
abbrev S256x256 : Shape := ⟨2, ![256, 256]⟩
abbrev S1x288x256 : Shape := ⟨3, ![1, 288, 256]⟩
abbrev S288x256 : Shape := ⟨2, ![288, 256]⟩
abbrev S1x288x128 : Shape := ⟨3, ![1, 288, 128]⟩
abbrev S288x128 : Shape := ⟨2, ![288, 128]⟩
abbrev S36x8x128 : Shape := ⟨3, ![36, 8, 128]⟩
abbrev S8x128 : Shape := ⟨2, ![8, 128]⟩
abbrev S1x72x128 : Shape := ⟨3, ![1, 72, 128]⟩
abbrev S72x128 : Shape := ⟨2, ![72, 128]⟩
abbrev S1x1x1x1x128 : Shape := ⟨5, ![1, 1, 1, 1, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S64x128 : Shape := ⟨2, ![64, 128]⟩
abbrev S16x4x128 : Shape := ⟨3, ![16, 4, 128]⟩
abbrev S1x16x1x1x4x128 : Shape := ⟨6, ![1, 16, 1, 1, 4, 128]⟩
abbrev S1x2880x128 : Shape := ⟨3, ![1, 2880, 128]⟩
abbrev S2880x128 : Shape := ⟨2, ![2880, 128]⟩
abbrev S360x8x128 : Shape := ⟨3, ![360, 8, 128]⟩
abbrev S1x512x128 : Shape := ⟨3, ![1, 512, 128]⟩
abbrev S512x128 : Shape := ⟨2, ![512, 128]⟩
abbrev S128x512 : Shape := ⟨2, ![128, 512]⟩
abbrev S64x512 : Shape := ⟨2, ![64, 512]⟩
abbrev S1x64x512 : Shape := ⟨3, ![1, 64, 512]⟩
abbrev S1x320x128 : Shape := ⟨3, ![1, 320, 128]⟩
abbrev S320x128 : Shape := ⟨2, ![320, 128]⟩
abbrev S128x320 : Shape := ⟨2, ![128, 320]⟩
abbrev S64x320 : Shape := ⟨2, ![64, 320]⟩
abbrev S1x64x320 : Shape := ⟨3, ![1, 64, 320]⟩
abbrev S90x8x128 : Shape := ⟨3, ![90, 8, 128]⟩
abbrev S1x64x128 : Shape := ⟨3, ![1, 64, 128]⟩
abbrev S80x128 : Shape := ⟨2, ![80, 128]⟩
abbrev S128x80 : Shape := ⟨2, ![128, 80]⟩
abbrev S64x80 : Shape := ⟨2, ![64, 80]⟩
abbrev S1x64x80 : Shape := ⟨3, ![1, 64, 80]⟩
abbrev S12x128 : Shape := ⟨2, ![12, 128]⟩
abbrev S18x128 : Shape := ⟨2, ![18, 128]⟩
abbrev S24x8x128 : Shape := ⟨3, ![24, 8, 128]⟩
abbrev S128x64 : Shape := ⟨2, ![128, 64]⟩
abbrev S64x64 : Shape := ⟨2, ![64, 64]⟩
abbrev S1x64x64 : Shape := ⟨3, ![1, 64, 64]⟩
abbrev S1 : Shape := ⟨1, ![1]⟩
abbrev S2x128 : Shape := ⟨2, ![2, 128]⟩
abbrev S1x1x1x8x128 : Shape := ⟨5, ![1, 1, 1, 8, 128]⟩
abbrev S1x320x512 : Shape := ⟨3, ![1, 320, 512]⟩
abbrev S320x512 : Shape := ⟨2, ![320, 512]⟩
abbrev S80x4x512 : Shape := ⟨3, ![80, 4, 512]⟩
abbrev S80x1x512 : Shape := ⟨3, ![80, 1, 512]⟩
abbrev S80x512 : Shape := ⟨2, ![80, 512]⟩
abbrev S512x80 : Shape := ⟨2, ![512, 80]⟩
abbrev S1x1x512x80 : Shape := ⟨4, ![1, 1, 512, 80]⟩
abbrev S320x80 : Shape := ⟨2, ![320, 80]⟩
abbrev S1x1x320x80 : Shape := ⟨4, ![1, 1, 320, 80]⟩
abbrev S80x4x128 : Shape := ⟨3, ![80, 4, 128]⟩
abbrev S80x1x128 : Shape := ⟨3, ![80, 1, 128]⟩
abbrev S128x1x80 : Shape := ⟨3, ![128, 1, 80]⟩
abbrev S128x4x80 : Shape := ⟨3, ![128, 4, 80]⟩
abbrev S1x128x4x80 : Shape := ⟨4, ![1, 128, 4, 80]⟩
abbrev S80x80 : Shape := ⟨2, ![80, 80]⟩
abbrev S80x1x80 : Shape := ⟨3, ![80, 1, 80]⟩
abbrev S80x4x80 : Shape := ⟨3, ![80, 4, 80]⟩
abbrev S1x80x4x80 : Shape := ⟨4, ![1, 80, 4, 80]⟩
abbrev S52x80 : Shape := ⟨2, ![52, 80]⟩
abbrev S52x1x80 : Shape := ⟨3, ![52, 1, 80]⟩
abbrev S52x4x80 : Shape := ⟨3, ![52, 4, 80]⟩
abbrev S1x52x4x80 : Shape := ⟨4, ![1, 52, 4, 80]⟩

abbrev nBuf : Space → Nat
  | .hbm => 16
  | .vmem => 28
  | .smem => 1
  | _ => 0

abbrev bufTy : (tb : Table) → Fin (tcTables nBuf tb) → BufTy
  | .hbm, ⟨0, _⟩ => ⟨S3x80x144x256, .fp8e4m3⟩
  | .hbm, ⟨1, _⟩ => ⟨S3x80x144, .f32⟩
  | .hbm, ⟨2, _⟩ => ⟨S3x11520x256, .fp8e4m3⟩
  | .hbm, ⟨3, _⟩ => ⟨S3x11520, .f32⟩
  | .hbm, ⟨4, _⟩ => ⟨S3, .f32⟩
  | .hbm, ⟨5, _⟩ => ⟨S8x720, .bf16⟩
  | .hbm, ⟨6, _⟩ => ⟨S3x11520x1, .f32⟩
  | .hbm, ⟨7, _⟩ => ⟨S3x11520x128, .f32⟩
  | .hbm, ⟨8, _⟩ => ⟨S3x5x16x9x4x4, .f32⟩
  | .hbm, ⟨9, _⟩ => ⟨S3x9x5x4x16x4, .f32⟩
  | .hbm, ⟨10, _⟩ => ⟨S3x9x5x1x256, .f32⟩
  | .hbm, ⟨11, _⟩ => ⟨S3x80x18x90x8x128, .fp8e4m3⟩
  | .hbm, ⟨12, _⟩ => ⟨S3x144x2880x80, .fp8e4m3⟩
  | .hbm, ⟨13, _⟩ => ⟨S3x720x144x80, .fp8e4m3⟩
  | .hbm, ⟨14, _⟩ => ⟨S3x180x144x80, .fp8e4m3⟩
  | .hbm, ⟨15, _⟩ => ⟨S3x9x5x8x256, .f32⟩
  | .local _ .vmem, ⟨0, _⟩ => ⟨S1x16x16x256, .fp8e4m3⟩
  | .local _ .vmem, ⟨1, _⟩ => ⟨S1x16x16x256, .fp8e4m3⟩
  | .local _ .vmem, ⟨2, _⟩ => ⟨S1x1x1x1x256, .f32⟩
  | .local _ .vmem, ⟨3, _⟩ => ⟨S1x1x1x1x256, .f32⟩
  | .local _ .vmem, ⟨4, _⟩ => ⟨S1x11520x256, .fp8e4m3⟩
  | .local _ .vmem, ⟨5, _⟩ => ⟨S1x11520x256, .fp8e4m3⟩
  | .local _ .vmem, ⟨6, _⟩ => ⟨S1x11520x128, .f32⟩
  | .local _ .vmem, ⟨7, _⟩ => ⟨S1x11520x128, .f32⟩
  | .local _ .vmem, ⟨8, _⟩ => ⟨S8x720, .bf16⟩
  | .local _ .vmem, ⟨9, _⟩ => ⟨S1x16x2x90x8x128, .fp8e4m3⟩
  | .local _ .vmem, ⟨10, _⟩ => ⟨S1x16x2x90x8x128, .fp8e4m3⟩
  | .local _ .vmem, ⟨11, _⟩ => ⟨S1x16x2880x80, .fp8e4m3⟩
  | .local _ .vmem, ⟨12, _⟩ => ⟨S1x16x2880x80, .fp8e4m3⟩
  | .local _ .vmem, ⟨13, _⟩ => ⟨S1x720x16x80, .fp8e4m3⟩
  | .local _ .vmem, ⟨14, _⟩ => ⟨S1x720x16x80, .fp8e4m3⟩
  | .local _ .vmem, ⟨15, _⟩ => ⟨S1x180x16x80, .fp8e4m3⟩
  | .local _ .vmem, ⟨16, _⟩ => ⟨S1x180x16x80, .fp8e4m3⟩
  | .local _ .vmem, ⟨17, _⟩ => ⟨S1x1x1x8x256, .f32⟩
  | .local _ .vmem, ⟨18, _⟩ => ⟨S1x1x1x8x256, .f32⟩
  | .local _ .vmem, ⟨19, _⟩ => ⟨S2x11520x128, .f32⟩
  | .local _ .vmem, ⟨20, _⟩ => ⟨S2x2880x128, .f32⟩
  | .local _ .vmem, ⟨21, _⟩ => ⟨S1440x128, .f32⟩
  | .local _ .vmem, ⟨22, _⟩ => ⟨S720x128, .f32⟩
  | .local _ .vmem, ⟨23, _⟩ => ⟨S360x128, .f32⟩
  | .local _ .vmem, ⟨24, _⟩ => ⟨S192x128, .f32⟩
  | .local _ .vmem, ⟨25, _⟩ => ⟨S6x1280x512, .fp8e4m3⟩
  | .local _ .vmem, ⟨26, _⟩ => ⟨S6x1280x128, .fp8e4m3⟩
  | .local _ .vmem, ⟨27, _⟩ => ⟨S2x1280x128, .fp8e4m3⟩
  | .local _ .smem, ⟨0, _⟩ => ⟨S3, .f32⟩
  | _, _ => ⟨S3x80x144x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![3, 9, 5], ![false, false, false]⟩

def k0_off1 (i : grid0.Coords) (c0_i32 : BitVec 32) : Fin 3 → Nat :=
  let c0_3019 : Index := 0#32
  let arg2 : BitVec 32 := BitVec.ofNat 32 (i 2).val
  let c16_i32 : BitVec 32 := 16#32
  let v3887 : BitVec 32 := Scalar.muli arg2 c16_i32
  let v3888 : BitVec 32 := Scalar.addi c0_i32 v3887
  let c4_i32 : BitVec 32 := 4#32
  let v3889 : BitVec 32 := Scalar.muli v3888 c4_i32
  let v3890 : Index := Scalar.indexCast v3889
  let c0_3020 : Index := 0#32
  ![0, v3890.toNat, 0]
def k0_off2 (i : grid0.Coords) (c0_i32_3031 : BitVec 32) : Fin 3 → Nat :=
  let c1_3033 : Index := 1#32
  let arg2 : BitVec 32 := BitVec.ofNat 32 (i 2).val
  let c16_i32_3030 : BitVec 32 := 16#32
  let v3913 : BitVec 32 := Scalar.muli arg2 c16_i32_3030
  let v3914 : BitVec 32 := Scalar.addi c0_i32_3031 v3913
  let c4_i32_3032 : BitVec 32 := 4#32
  let v3915 : BitVec 32 := Scalar.muli v3914 c4_i32_3032
  let v3916 : Index := Scalar.indexCast v3915
  let c0_3034 : Index := 0#32
  ![1, v3916.toNat, 0]
def k0_off3 (i : grid0.Coords) (c0_i32_3046 : BitVec 32) : Fin 3 → Nat :=
  let c2_3048 : Index := 2#32
  let arg2 : BitVec 32 := BitVec.ofNat 32 (i 2).val
  let c16_i32_3045 : BitVec 32 := 16#32
  let v3939 : BitVec 32 := Scalar.muli arg2 c16_i32_3045
  let v3940 : BitVec 32 := Scalar.addi c0_i32_3046 v3939
  let c4_i32_3047 : BitVec 32 := 4#32
  let v3941 : BitVec 32 := Scalar.muli v3940 c4_i32_3047
  let v3942 : Index := Scalar.indexCast v3941
  let c0_3049 : Index := 0#32
  ![2, v3942.toNat, 0]
def k0_off4 (i : grid0.Coords) (c0_i32_3061 : BitVec 32) : Fin 3 → Nat :=
  let c3_3063 : Index := 3#32
  let arg2 : BitVec 32 := BitVec.ofNat 32 (i 2).val
  let c16_i32_3060 : BitVec 32 := 16#32
  let v3965 : BitVec 32 := Scalar.muli arg2 c16_i32_3060
  let v3966 : BitVec 32 := Scalar.addi c0_i32_3061 v3965
  let c4_i32_3062 : BitVec 32 := 4#32
  let v3967 : BitVec 32 := Scalar.muli v3966 c4_i32_3062
  let v3968 : Index := Scalar.indexCast v3967
  let c0_3064 : Index := 0#32
  ![3, v3968.toNat, 0]
def k0_off5 (i : grid0.Coords) (c0_i32_3076 : BitVec 32) : Fin 3 → Nat :=
  let c4_3078 : Index := 4#32
  let arg2 : BitVec 32 := BitVec.ofNat 32 (i 2).val
  let c16_i32_3075 : BitVec 32 := 16#32
  let v3991 : BitVec 32 := Scalar.muli arg2 c16_i32_3075
  let v3992 : BitVec 32 := Scalar.addi c0_i32_3076 v3991
  let c4_i32_3077 : BitVec 32 := 4#32
  let v3993 : BitVec 32 := Scalar.muli v3992 c4_i32_3077
  let v3994 : Index := Scalar.indexCast v3993
  let c0_3079 : Index := 0#32
  ![4, v3994.toNat, 0]
def k0_off6 (i : grid0.Coords) (c0_i32_3091 : BitVec 32) : Fin 3 → Nat :=
  let c5_3093 : Index := 5#32
  let arg2 : BitVec 32 := BitVec.ofNat 32 (i 2).val
  let c16_i32_3090 : BitVec 32 := 16#32
  let v4017 : BitVec 32 := Scalar.muli arg2 c16_i32_3090
  let v4018 : BitVec 32 := Scalar.addi c0_i32_3091 v4017
  let c4_i32_3092 : BitVec 32 := 4#32
  let v4019 : BitVec 32 := Scalar.muli v4018 c4_i32_3092
  let v4020 : Index := Scalar.indexCast v4019
  let c0_3094 : Index := 0#32
  ![5, v4020.toNat, 0]
def k0_off7 (i : grid0.Coords) (c0_i32_3275 : BitVec 32) : Fin 3 → Nat :=
  let c0_3277 : Index := 0#32
  let arg2 : BitVec 32 := BitVec.ofNat 32 (i 2).val
  let c16_i32_3274 : BitVec 32 := 16#32
  let v4219 : BitVec 32 := Scalar.muli arg2 c16_i32_3274
  let v4220 : BitVec 32 := Scalar.addi c0_i32_3275 v4219
  let c4_i32_3276 : BitVec 32 := 4#32
  let v4221 : BitVec 32 := Scalar.muli v4220 c4_i32_3276
  let v4222 : Index := Scalar.indexCast v4221
  let c0_3278 : Index := 0#32
  ![0, v4222.toNat, 0]
def k0_off8 (i : grid0.Coords) (c0_i32_3289 : BitVec 32) : Fin 3 → Nat :=
  let c1_3291 : Index := 1#32
  let arg2 : BitVec 32 := BitVec.ofNat 32 (i 2).val
  let c16_i32_3288 : BitVec 32 := 16#32
  let v4244 : BitVec 32 := Scalar.muli arg2 c16_i32_3288
  let v4245 : BitVec 32 := Scalar.addi c0_i32_3289 v4244
  let c4_i32_3290 : BitVec 32 := 4#32
  let v4246 : BitVec 32 := Scalar.muli v4245 c4_i32_3290
  let v4247 : Index := Scalar.indexCast v4246
  let c0_3292 : Index := 0#32
  ![1, v4247.toNat, 0]
def k0_off9 (i : grid0.Coords) (c0_i32_3303 : BitVec 32) : Fin 3 → Nat :=
  let c2_3305 : Index := 2#32
  let arg2 : BitVec 32 := BitVec.ofNat 32 (i 2).val
  let c16_i32_3302 : BitVec 32 := 16#32
  let v4269 : BitVec 32 := Scalar.muli arg2 c16_i32_3302
  let v4270 : BitVec 32 := Scalar.addi c0_i32_3303 v4269
  let c4_i32_3304 : BitVec 32 := 4#32
  let v4271 : BitVec 32 := Scalar.muli v4270 c4_i32_3304
  let v4272 : Index := Scalar.indexCast v4271
  let c0_3306 : Index := 0#32
  ![2, v4272.toNat, 0]
def k0_off10 (i : grid0.Coords) (c0_i32_3317 : BitVec 32) : Fin 3 → Nat :=
  let c3_3319 : Index := 3#32
  let arg2 : BitVec 32 := BitVec.ofNat 32 (i 2).val
  let c16_i32_3316 : BitVec 32 := 16#32
  let v4294 : BitVec 32 := Scalar.muli arg2 c16_i32_3316
  let v4295 : BitVec 32 := Scalar.addi c0_i32_3317 v4294
  let c4_i32_3318 : BitVec 32 := 4#32
  let v4296 : BitVec 32 := Scalar.muli v4295 c4_i32_3318
  let v4297 : Index := Scalar.indexCast v4296
  let c0_3320 : Index := 0#32
  ![3, v4297.toNat, 0]
def k0_off11 (i : grid0.Coords) (c0_i32_3331 : BitVec 32) : Fin 3 → Nat :=
  let c4_3333 : Index := 4#32
  let arg2 : BitVec 32 := BitVec.ofNat 32 (i 2).val
  let c16_i32_3330 : BitVec 32 := 16#32
  let v4319 : BitVec 32 := Scalar.muli arg2 c16_i32_3330
  let v4320 : BitVec 32 := Scalar.addi c0_i32_3331 v4319
  let c4_i32_3332 : BitVec 32 := 4#32
  let v4321 : BitVec 32 := Scalar.muli v4320 c4_i32_3332
  let v4322 : Index := Scalar.indexCast v4321
  let c0_3334 : Index := 0#32
  ![4, v4322.toNat, 0]
def k0_off12 (i : grid0.Coords) (c0_i32_3345 : BitVec 32) : Fin 3 → Nat :=
  let c5_3347 : Index := 5#32
  let arg2 : BitVec 32 := BitVec.ofNat 32 (i 2).val
  let c16_i32_3344 : BitVec 32 := 16#32
  let v4344 : BitVec 32 := Scalar.muli arg2 c16_i32_3344
  let v4345 : BitVec 32 := Scalar.addi c0_i32_3345 v4344
  let c4_i32_3346 : BitVec 32 := 4#32
  let v4346 : BitVec 32 := Scalar.muli v4345 c4_i32_3346
  let v4347 : Index := Scalar.indexCast v4346
  let c0_3348 : Index := 0#32
  ![5, v4347.toNat, 0]
def k0_off13 (i : grid0.Coords) (c0_i32_3420 : BitVec 32) : Fin 3 → Nat :=
  let c0_3422 : Index := 0#32
  let arg2 : BitVec 32 := BitVec.ofNat 32 (i 2).val
  let c16_i32_3419 : BitVec 32 := 16#32
  let v4451 : BitVec 32 := Scalar.muli arg2 c16_i32_3419
  let v4452 : BitVec 32 := Scalar.addi c0_i32_3420 v4451
  let c4_i32_3421 : BitVec 32 := 4#32
  let v4453 : BitVec 32 := Scalar.muli v4452 c4_i32_3421
  let v4454 : Index := Scalar.indexCast v4453
  let c0_3423 : Index := 0#32
  ![0, v4454.toNat, 0]
def k0_off14 (i : grid0.Coords) (c0_i32_3430 : BitVec 32) : Fin 3 → Nat :=
  let c1_3432 : Index := 1#32
  let arg2 : BitVec 32 := BitVec.ofNat 32 (i 2).val
  let c16_i32_3429 : BitVec 32 := 16#32
  let v4469 : BitVec 32 := Scalar.muli arg2 c16_i32_3429
  let v4470 : BitVec 32 := Scalar.addi c0_i32_3430 v4469
  let c4_i32_3431 : BitVec 32 := 4#32
  let v4471 : BitVec 32 := Scalar.muli v4470 c4_i32_3431
  let v4472 : Index := Scalar.indexCast v4471
  let c0_3433 : Index := 0#32
  ![1, v4472.toNat, 0]
def k0_off15 (i : grid0.Coords) : Fin 1 → Nat :=
  let arg0 : BitVec 32 := BitVec.ofNat 32 (i 0).val
  let v4498 : Index := Scalar.indexCast arg0
  ![v4498.toNat]
def k0_cond1 (i : grid0.Coords) : BitVec 1 :=
  let arg2 : BitVec 32 := BitVec.ofNat 32 (i 2).val
  let c4_i32_5527 : BitVec 32 := 4#32
  let v7217 : BitVec 1 := Scalar.cmpi .eq arg2 c4_i32_5527
  let v7218 : BitVec 32 := Scalar.extui v7217
  let c0_i32_5528 : BitVec 32 := 0#32
  let v7219 : BitVec 1 := Scalar.cmpi .ne v7218 c0_i32_5528
  v7219

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg2.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x16x16x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x11520x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x11520x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S8x720 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x16x2x90x8x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x16x2880x80 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x720x16x80 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x180x16x80 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S3x80x144x256 : Shape := ⟨4, ![3, 80, 144, 256]⟩
abbrev S3x80x144 : Shape := ⟨3, ![3, 80, 144]⟩
abbrev S3x11520x256 : Shape := ⟨3, ![3, 11520, 256]⟩
abbrev S3x11520 : Shape := ⟨2, ![3, 11520]⟩
abbrev S3 : Shape := ⟨1, ![3]⟩
abbrev S3x80x18x90x8x128 : Shape := ⟨6, ![3, 80, 18, 90, 8, 128]⟩
abbrev S1x80x144x256 : Shape := ⟨4, ![1, 80, 144, 256]⟩
abbrev S80x144x256 : Shape := ⟨3, ![80, 144, 256]⟩
abbrev S11520x256 : Shape := ⟨2, ![11520, 256]⟩
abbrev S1x80x144 : Shape := ⟨3, ![1, 80, 144]⟩
abbrev S80x144 : Shape := ⟨2, ![80, 144]⟩
abbrev S11520x1 : Shape := ⟨2, ![11520, 1]⟩
abbrev S1x11520x256 : Shape := ⟨3, ![1, 11520, 256]⟩
abbrev S1x11520 : Shape := ⟨2, ![1, 11520]⟩
abbrev S11520 : Shape := ⟨1, ![11520]⟩
abbrev S11520x11520 : Shape := ⟨2, ![11520, 11520]⟩
abbrev S80x18x8x90x128 : Shape := ⟨5, ![80, 18, 8, 90, 128]⟩
abbrev S80x18x90x8x128 : Shape := ⟨5, ![80, 18, 90, 8, 128]⟩
abbrev S1x80x18x90x8x128 : Shape := ⟨6, ![1, 80, 18, 90, 8, 128]⟩

abbrev nBuf : Space → Nat
  | .hbm => 6
  | .vmem => 6
  | .smem => 0
  | _ => 0

abbrev bufTy : (tb : Table) → Fin (tcTables nBuf tb) → BufTy
  | .hbm, ⟨0, _⟩ => ⟨S3x80x144x256, .fp8e4m3⟩
  | .hbm, ⟨1, _⟩ => ⟨S3x80x144, .f32⟩
  | .hbm, ⟨2, _⟩ => ⟨S3x11520x256, .fp8e4m3⟩
  | .hbm, ⟨3, _⟩ => ⟨S3x11520, .f32⟩
  | .hbm, ⟨4, _⟩ => ⟨S3, .f32⟩
  | .hbm, ⟨5, _⟩ => ⟨S3x80x18x90x8x128, .fp8e4m3⟩
  | .local _ .vmem, ⟨0, _⟩ => ⟨S3x80x144x256, .fp8e4m3⟩
  | .local _ .vmem, ⟨1, _⟩ => ⟨S3x80x144, .f32⟩
  | .local _ .vmem, ⟨2, _⟩ => ⟨S3x11520x256, .fp8e4m3⟩
  | .local _ .vmem, ⟨3, _⟩ => ⟨S3x11520, .f32⟩
  | .local _ .vmem, ⟨4, _⟩ => ⟨S3, .f32⟩
  | .local _ .vmem, ⟨5, _⟩ => ⟨S3x80x18x90x8x128, .fp8e4m3⟩
  | _, _ => ⟨S3x80x144x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x80x144x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x80x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x11520x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x11520 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x80x18x90x8x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Steps.lean ====
/-
  Running a straight program of loads and stores over a fixed family of buffers.

  `Steps … X p Q` says: from buffers whose contents are described by the state `X`, the program `p` runs
  and leaves a result `a` and a state `Y` with `Q a Y`. The rules below are one per constructor: a value,
  a sequence, a load, a store. A load or store of one buffer of the family is admitted by taking that
  buffer out of the family and putting it back (`Lens`).
-/
module

public import Idealize.ShloMosaic.Lib.Pipeline.FrameBody

@[expose] public section

noncomputable section

namespace Cert.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Name : Type} [DecidableEq Name]
variable {Ix : Type} [DecidableEq Ix] {U : Type} [URA U] {Lvl : Type} [Preorder Lvl] {Λ : Labels}

local notation "𝕄" => MT nD τ sig Ix Val Name U Lvl

variable (defs : Defs nD τ sig Val Λ) (𝒱 : Variants) (c : Thread nD τ) (E : Set Name)
variable {σ : Type} (St : σ → sProp (MT nD τ sig Ix Val Name U Lvl)) {α β : Type}

/-- From the buffers at state `X` the program runs, leaving a result `a` and a state `Y` with `Q a Y`. -/
def Steps (X : σ) (p : Prog (TpuEff nD τ sig Val Λ c.2) α) (Q : α → σ → Prop) : Prop :=
  ∀ K : α → sProp 𝕄, (iprop(St X ∗ (∀ a, ∀ Y, ⌜Q a Y⌝ -∗ St Y -∗ K a)) : sProp 𝕄) ⊢ wp frame (wpE defs 𝒱 c none) E p K

/-- The buffer `m` of the family: at state `X` it holds `get X`, and giving it other contents is the state
    `put X Y`. -/
def Lens {sp : Space} {s : Shape} {e : EltTy} (m : Memref sig c.2.kind sp s e) (get : σ → s.Idx → Val e)
    (put : σ → (s.Idx → Val e) → σ) : Prop :=
  ∀ X, St X ⊢ (iprop(owns c m fullShare (get X) ∗ (∀ Y, owns c m fullShare Y -∗ St (put X Y))) : sProp 𝕄)

/-- The buffer `m` of the family: at state `X` it holds `get X`, and the state does not change when it is read. -/
def Sees {sp : Space} {s : Shape} {e : EltTy} (m : Memref sig c.2.kind sp s e) (get : σ → s.Idx → Val e) : Prop :=
  ∀ X, St X ⊢ (iprop(owns c m fullShare (get X) ∗ (owns c m fullShare (get X) -∗ St X)) : sProp 𝕄)

variable {defs 𝒱 c E St}

theorem Lens.sees {sp : Space} {s : Shape} {e : EltTy} {m : Memref sig c.2.kind sp s e} {get : σ → s.Idx → Val e}
    {put : σ → (s.Idx → Val e) → σ} (h : Lens c St m get put) (hs : ∀ X, put X (get X) = X) : Sees c St m get := by
  refine fun X => (h X).trans (sep_mono_right ?_)
  iintro H HY
  have e2 : St X = St (put X (get X)) := by rw [hs]
  rw [e2]
  iapply H
  iexact HY

/-- The first buffer of a family. -/
theorem Lens.here {P : σ → sProp 𝕄} {sp : Space} {s : Shape} {e : EltTy} {m : Memref sig c.2.kind sp s e}
    {get : σ → s.Idx → Val e} {put : σ → (s.Idx → Val e) → σ} (h : ∀ X Y, get (put X Y) = Y) (hP : ∀ X Y, P (put X Y) = P X) :
    Lens c (fun X => iprop(owns c m fullShare (get X) ∗ P X)) m get put := by
  intro X
  iintro ⟨H, HP⟩
  isplitl [H]; · iexact H
  iintro %Y HY
  beta_reduce
  rw [h, hP]
  isplitl [HY]; · iexact HY
  iexact HP

/-- The last buffer of a family. -/
theorem Lens.last {sp : Space} {s : Shape} {e : EltTy} {m : Memref sig c.2.kind sp s e}
    {get : σ → s.Idx → Val e} {put : σ → (s.Idx → Val e) → σ} (h : ∀ X Y, get (put X Y) = Y) :
    Lens (Ix := Ix) (Name := Name) (U := U) (Lvl := Lvl) c (fun X => owns c m fullShare (get X)) m get put := by
  intro X
  iintro H
  isplitl [H]; · iexact H
  iintro %Y HY
  beta_reduce
  rw [h]
  iexact HY

/-- A later buffer of a family. -/
theorem Lens.there {P R : σ → sProp 𝕄} {sp : Space} {s : Shape} {e : EltTy} {m : Memref sig c.2.kind sp s e}
    {get : σ → s.Idx → Val e} {put : σ → (s.Idx → Val e) → σ} (h : Lens c R m get put) (hP : ∀ X Y, P (put X Y) = P X) :
    Lens c (fun X => iprop(P X ∗ R X)) m get put := by
  refine fun X => (sep_mono_right (h X)).trans ?_
  iintro ⟨HP, H, HR⟩
  isplitl [H]; · iexact H
  iintro %Y HY
  beta_reduce
  rw [hP]
  isplitl [HP]; · iexact HP
  iapply HR
  iexact HY

theorem Sees.here {P : σ → sProp 𝕄} {sp : Space} {s : Shape} {e : EltTy} {m : Memref sig c.2.kind sp s e}
    {get : σ → s.Idx → Val e} :
    Sees c (fun X => iprop(owns c m fullShare (get X) ∗ P X)) m get := by
  intro X
  iintro ⟨H, HP⟩
  isplitl [H]; · iexact H
  iintro HY
  isplitl [HY]; · iexact HY
  iexact HP

theorem Sees.there {P R : σ → sProp 𝕄} {sp : Space} {s : Shape} {e : EltTy} {m : Memref sig c.2.kind sp s e}
    {get : σ → s.Idx → Val e} (h : Sees c R m get) : Sees c (fun X => iprop(P X ∗ R X)) m get := by
  refine fun X => (sep_mono_right (h X)).trans ?_
  iintro ⟨HP, H, HR⟩
  isplitl [H]; · iexact H
  iintro HY
  isplitl [HP]; · iexact HP
  iapply HR
  iexact HY

theorem Steps.ret {X : σ} {a : α} {Q : α → σ → Prop} (h : Q a X) : Steps defs 𝒱 c E St X (Prog.ret a) Q := by
  intro K
  refine BIBase.Entails.trans ?_ (le_wp_ret _ _ _ a K)
  iintro ⟨HX, HK⟩
  ispecialize HK $$ %a %X
  iapply HK
  · ipureintro; exact h
  · iexact HX

theorem Steps.bind {X : σ} {p : Prog (TpuEff nD τ sig Val Λ c.2) α} {k : α → Prog (TpuEff nD τ sig Val Λ c.2) β}
    {Q : β → σ → Prop} (h : Steps defs 𝒱 c E St X p fun a Y => Steps defs 𝒱 c E St Y (k a) Q) :
    Steps defs 𝒱 c E St X (Prog.bind p k) Q := by
  intro K
  refine BIBase.Entails.trans ?_ (Entails.of_eq (wp_bind _ _ _ p k K).symm)
  refine BIBase.Entails.trans ?_ (h _)
  iintro ⟨HX, HK⟩
  isplitl [HX]; · iexact HX
  iintro %a %Y %hY HY
  iapply (hY K)
  isplitl [HY]; · iexact HY
  iexact HK

/-- A sequence whose first program is known to leave some result at a state in `I`. -/
theorem Steps.seq {X : σ} {p : Prog (TpuEff nD τ sig Val Λ c.2) α} {k : α → Prog (TpuEff nD τ sig Val Λ c.2) β}
    {Q : β → σ → Prop} (I : α → σ → Prop) (h : Steps defs 𝒱 c E St X p I)
    (hk : ∀ a Y, I a Y → Steps defs 𝒱 c E St Y (k a) Q) : Steps defs 𝒱 c E St X (Prog.bind p k) Q := by
  refine .bind fun K => BIBase.Entails.trans ?_ (h K)
  iintro ⟨HX, HK⟩
  isplitl [HX]; · iexact HX
  iintro %a %Y %hY
  iapply HK
  ipureintro; exact hk a Y hY

theorem Steps.mono {X : σ} {p : Prog (TpuEff nD τ sig Val Λ c.2) α} {Q Q' : α → σ → Prop}
    (h : Steps defs 𝒱 c E St X p Q) (hQ : ∀ a Y, Q a Y → Q' a Y) : Steps defs 𝒱 c E St X p Q' := by
  refine fun K => BIBase.Entails.trans ?_ (h K)
  iintro ⟨HX, HK⟩
  isplitl [HX]; · iexact HX
  iintro %a %Y %hY
  iapply HK
  ipureintro; exact hQ a Y hY

theorem Steps.load {X : σ} {cs : CoreSpace} {s : Shape} {e : EltTy} {m : Memref sig c.2.kind cs s e} {r : LoadRect s}
    {hl : m.view.LoadsAt r} {k : (r.shape.Idx → Val e) → Prog (TpuEff nD τ sig Val Λ c.2) α} {Q : α → σ → Prop}
    {get : σ → s.Idx → Val e} (hm : Sees c St m get) (h : Steps defs 𝒱 c E St X (k fun x => get X (r.idx x)) Q) :
    Steps defs 𝒱 c E St X (.op (.load m r hl) k) Q := by
  refine fun K => (sep_mono_left (hm X)).trans ?_
  iintro ⟨⟨Ho, Hb⟩, HK⟩
  unfold owns
  icases Ho with ⟨%f, %hf, Ho⟩
  iapply (wp_load 𝒱 c none E (hl := hl) (k := k) (S := m.view.set) (f := f) (by
    intro y hy; exact (Finset.map_subset_map.mpr (Finset.subset_univ _)) hy)) $$ Ho
  iintro Ho
  have e1 : m.view.readAt Val r f = fun x => get X (r.idx x) := by funext x; rw [← hf]; rfl
  rw [e1]
  iapply (h K)
  isplitl [Ho Hb]
  · iapply Hb
    iexists f
    isplitr; · ipureintro; exact hf
    iexact Ho
  · iexact HK

theorem read_write_eq_overlay {κ : Kind} {sp : Space} {s : Shape} {e : EltTy} (v : View sig κ sp s e) (r : Rect s)
    (f : v.ty.Contents Val) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_cons_miss _ _ _ _ _ hy, Rect.overlay_of_not_mem _ _ _ hy]; rfl

theorem Steps.store {X : σ} {cs : CoreSpace} {s : Shape} {e : EltTy} {m : Memref sig c.2.kind cs s e} {r : Rect s}
    {w : r.shape.Idx → Val e} {hx : (m.access r).Stores Finset.univ} {hmk : Finset.univ = Finset.univ ∨ ∀ a, r.stride a = 1}
    {k : PUnit → Prog (TpuEff nD τ sig Val Λ c.2) α} {Q : α → σ → Prop}
    {get : σ → s.Idx → Val e} {put : σ → (s.Idx → Val e) → σ} (hm : Lens c St m get put)
    (h : Steps defs 𝒱 c E St (put X (r.overlay (get X) w)) (k ⟨⟩) Q) :
    Steps defs 𝒱 c E St X (.op (.store m r w Finset.univ hx hmk) k) Q := by
  refine fun K => (sep_mono_left (hm X)).trans ?_
  iintro ⟨⟨Ho, Hb⟩, HK⟩
  unfold owns
  icases Ho with ⟨%f, %hf, Ho⟩
  iapply (wp_store_writes₀ 𝒱 c none E (hx := hx) (hm := hmk) (k := k) (S := m.view.set) (f := f)
    (View.set_slice_subset m.view r)) $$ Ho
  iintro Ho
  iapply (h K)
  isplitl [Ho Hb]
  · iapply Hb
    iexists _
    isplitr [Ho]
    swap; · iexact Ho
    ipureintro; rw [read_write_eq_overlay, hf]
  · iexact HK

/-! ### Buffers nothing is said of -/

/-- A load whose value is not followed. -/
theorem Steps.loadAny {X : σ} {cs : CoreSpace} {s : Shape} {e : EltTy} {m : Memref sig c.2.kind cs s e} {r : LoadRect s}
    {hl : m.view.LoadsAt r} {k : (r.shape.Idx → Val e) → Prog (TpuEff nD τ sig Val Λ c.2) α} {Q : α → σ → Prop}
    {get : σ → s.Idx → Val e} (hm : Sees c St m get) (h : ∀ v, Steps defs 𝒱 c E St X (k v) Q) :
    Steps defs 𝒱 c E St X (.op (.load m r hl) k) Q :=
  .load hm (h _)

/-- A store to a buffer that the condition `I` on the state does not read. -/
theorem Steps.storeAny {I : σ → Prop} {X : σ} (hX : I X) {cs : CoreSpace} {s : Shape} {e : EltTy} {m : Memref sig c.2.kind cs s e}
    {r : Rect s} {w : r.shape.Idx → Val e} {hx : (m.access r).Stores Finset.univ}
    {hmk : Finset.univ = Finset.univ ∨ ∀ a, r.stride a = 1} {k : PUnit → Prog (TpuEff nD τ sig Val Λ c.2) α} {Q : α → σ → Prop}
    {get : σ → s.Idx → Val e} {put : σ → (s.Idx → Val e) → σ} (hm : Lens c St m get put) (hs : ∀ X Y, I X → I (put X Y))
    (h : ∀ X, I X → Steps defs 𝒱 c E St X (k ⟨⟩) Q) :
    Steps defs 𝒱 c E St X (.op (.store m r w Finset.univ hx hmk) k) Q :=
  .store hm (h _ (hs _ _ hX))

/-! ### The same rules for the first instruction of a block -/

theorem Steps.pure' {X : σ} {a : α} {Q : α → σ → Prop} (h : Q a X) :
    Steps defs 𝒱 c E St X (pure a : Prog (TpuEff nD τ sig Val Λ c.2) α) Q := .ret h

/-- A part of the program that has been run, and what follows. -/
theorem Steps.part {X : σ} {p : Prog (TpuEff nD τ sig Val Λ c.2) α} {k : α → Prog (TpuEff nD τ sig Val Λ c.2) β}
    {Q : β → σ → Prop} {I : α → σ → Prop} (h : Steps defs 𝒱 c E St X p I)
    (hk : ∀ a Y, I a Y → Steps defs 𝒱 c E St Y (k a) Q) : Steps defs 𝒱 c E St X (p >>= k) Q := .seq I h hk

theorem Steps.doLoad {X : σ} {cs : CoreSpace} {s : Shape} {e : EltTy} {m : Memref sig c.2.kind cs s e} {r : LoadRect s}
    {hl : m.view.LoadsAt r} {k : (r.shape.Idx → Val e) → Prog (TpuEff nD τ sig Val Λ c.2) α} {Q : α → σ → Prop}
    {get : σ → s.Idx → Val e} (hm : Sees c St m get)
    (h : ∀ v : r.shape.Idx → Val e, (v = fun x => get X (r.idx x)) → Steps defs 𝒱 c E St X (k v) Q) :
    Steps defs 𝒱 c E St X (Prog.lift (.load m r hl) >>= k) Q := .load hm (h _ rfl)

theorem Steps.doStore {X : σ} {cs : CoreSpace} {s : Shape} {e : EltTy} {m : Memref sig c.2.kind cs s e} {r : Rect s}
    {w : r.shape.Idx → Val e} {hx : (m.access r).Stores Finset.univ} {hmk : Finset.univ = Finset.univ ∨ ∀ a, r.stride a = 1}
    {k : PUnit → Prog (TpuEff nD τ sig Val Λ c.2) α} {Q : α → σ → Prop}
    {get : σ → s.Idx → Val e} {put : σ → (s.Idx → Val e) → σ} (hm : Lens c St m get put) (I : σ → Prop)
    (hI : I (put X (r.overlay (get X) w))) (h : ∀ X, I X → Steps defs 𝒱 c E St X (k ⟨⟩) Q) :
    Steps defs 𝒱 c E St X (Prog.lift (.store m r w Finset.univ hx hmk) >>= k) Q := .store hm (h _ hI)

/-! ### Programs that keep a relation of the buffers before and after -/

/-- However the buffers start, the program runs and leaves them in the relation `I` to how they were. -/
def Moves (defs : Defs nD τ sig Val Λ) (𝒱 : Variants) (c : Thread nD τ) (E : Set Name)
    (St : σ → sProp (MT nD τ sig Ix Val Name U Lvl)) (I : σ → σ → Prop) (p : Prog (TpuEff nD τ sig Val Λ c.2) α) : Prop :=
  ∀ X, Steps defs 𝒱 c E St X p fun _ Y => I X Y

variable {I : σ → σ → Prop}

theorem Moves.ret [Std.Refl I] {a : α} : Moves defs 𝒱 c E St I (pure a : Prog (TpuEff nD τ sig Val Λ c.2) α) :=
  fun X => .ret (Std.Refl.refl X)

theorem Moves.bind [IsTrans σ I] {p : Prog (TpuEff nD τ sig Val Λ c.2) α} {k : α → Prog (TpuEff nD τ sig Val Λ c.2) β}
    (h : Moves defs 𝒱 c E St I p) (hk : ∀ a, Moves defs 𝒱 c E St I (k a)) : Moves defs 𝒱 c E St I (p >>= k) :=
  fun X => .seq _ (h X) fun a Y hY => (hk a Y).mono fun _ _ hZ => IsTrans.trans _ _ _ hY hZ

theorem Moves.load [Std.Refl I] {cs : CoreSpace} {s : Shape} {e : EltTy} {m : Memref sig c.2.kind cs s e} {r : LoadRect s}
    {hl : m.view.LoadsAt r} {get : σ → s.Idx → Val e} (hm : Sees c St m get) :
    Moves defs 𝒱 c E St I (Prog.lift (.load m r hl)) :=
  fun X => .load hm (.ret (Std.Refl.refl X))

theorem Moves.store {cs : CoreSpace} {s : Shape} {e : EltTy} {m : Memref sig c.2.kind cs s e} {r : Rect s}
    {w : r.shape.Idx → Val e} {hx : (m.access r).Stores Finset.univ} {hmk : Finset.univ = Finset.univ ∨ ∀ a, r.stride a = 1}
    {get : σ → s.Idx → Val e} {put : σ → (s.Idx → Val e) → σ} (hm : Lens c St m get put) (hI : ∀ X Y, I X (put X Y)) :
    Moves defs 𝒱 c E St I (Prog.lift (.store m r w Finset.univ hx hmk)) :=
  fun X => .store hm (.ret (hI X _))

theorem Moves.ite {P : Prop} [Decidable P] {p : P → Prog (TpuEff nD τ sig Val Λ c.2) α} {q : ¬ P → Prog (TpuEff nD τ sig Val Λ c.2) α}
    (h : ∀ hp, Moves defs 𝒱 c E St I (p hp)) (h' : ∀ hp, Moves defs 𝒱 c E St I (q hp)) :
    Moves defs 𝒱 c E St I (if hp : P then p hp else q hp) := by
  split
  · exact h _
  · exact h' _

end Cert.Steps

end
-- ==== Proof.KernelOwn.lean ====
/-
  The buffers of the correlation kernel: the inputs' staging buffers, held at fixed contents, and the
  outputs' and scratch buffers, whose contents are the fields of a `State`. One lemma per buffer takes it
  out of the family, for a load (`see_*`) or a store (`lens_*`).
-/
module

public import proofs.«01_k».proof.Proof.Gen.Kernel
public import proofs.«01_k».proof.Proof.Steps

@[expose] public section

noncomputable section

namespace Cert.Kernel.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Steps

variable {F : FTy → Type} [FloatOps F]

local notation "𝕄" => MT nD τ sig Unit (Elt F) ℕ (UR sig nD τ) ℕ

/-- The memrefs the body is called with, each a whole buffer. -/
structure Refs where
  temp : Memref sig .tc .smem S3 .f32
  w_temp : temp.IsWhole
  q : Memref sig .tc .vmem S1x16x16x256 .fp8e4m3
  w_q : q.IsWhole
  qs : Memref sig .tc .vmem S1x1x1x1x256 .f32
  w_qs : qs.IsWhole
  k : Memref sig .tc .vmem S1x11520x256 .fp8e4m3
  w_k : k.IsWhole
  ks : Memref sig .tc .vmem S1x11520x128 .f32
  w_ks : ks.IsWhole
  grid : Memref sig .tc .vmem S8x720 .bf16
  w_grid : grid.IsWhole
  o0 : Memref sig .tc .vmem S1x16x2x90x8x128 .fp8e4m3
  w_o0 : o0.IsWhole
  o1 : Memref sig .tc .vmem S1x16x2880x80 .fp8e4m3
  w_o1 : o1.IsWhole
  o2 : Memref sig .tc .vmem S1x720x16x80 .fp8e4m3
  w_o2 : o2.IsWhole
  o3 : Memref sig .tc .vmem S1x180x16x80 .fp8e4m3
  w_o3 : o3.IsWhole
  st : Memref sig .tc .vmem S1x1x1x8x256 .f32
  w_st : st.IsWhole
  x : Memref sig .tc .vmem S2x11520x128 .f32
  w_x : x.IsWhole
  l1 : Memref sig .tc .vmem S2x2880x128 .f32
  w_l1 : l1.IsWhole
  v : Memref sig .tc .vmem S1440x128 .f32
  w_v : v.IsWhole
  l2 : Memref sig .tc .vmem S720x128 .f32
  w_l2 : l2.IsWhole
  h : Memref sig .tc .vmem S360x128 .f32
  w_h : h.IsWhole
  l3 : Memref sig .tc .vmem S192x128 .f32
  w_l3 : l3.IsWhole
  t1 : Memref sig .tc .vmem S6x1280x512 .fp8e4m3
  w_t1 : t1.IsWhole
  t2 : Memref sig .tc .vmem S6x1280x128 .fp8e4m3
  w_t2 : t2.IsWhole
  t3 : Memref sig .tc .vmem S2x1280x128 .fp8e4m3
  w_t3 : t3.IsWhole

/-- The contents of the input windows' buffers. -/
structure Ins (F : FTy → Type) where
  temp : Vec F S3 .f32
  q : Vec F S1x16x16x256 .fp8e4m3
  qs : Vec F S1x1x1x1x256 .f32
  k : Vec F S1x11520x256 .fp8e4m3
  ks : Vec F S1x11520x128 .f32
  grid : Vec F S8x720 .bf16

/-- The contents of the buffers the body writes. -/
structure State (F : FTy → Type) where
  o0 : Vec F S1x16x2x90x8x128 .fp8e4m3
  o1 : Vec F S1x16x2880x80 .fp8e4m3
  o2 : Vec F S1x720x16x80 .fp8e4m3
  o3 : Vec F S1x180x16x80 .fp8e4m3
  st : Vec F S1x1x1x8x256 .f32
  x : Vec F S2x11520x128 .f32
  l1 : Vec F S2x2880x128 .f32
  v : Vec F S1440x128 .f32
  l2 : Vec F S720x128 .f32
  h : Vec F S360x128 .f32
  l3 : Vec F S192x128 .f32
  t1 : Vec F S6x1280x512 .fp8e4m3
  t2 : Vec F S6x1280x128 .fp8e4m3
  t3 : Vec F S2x1280x128 .fp8e4m3

/-- A function of the body's memrefs, at these. -/
abbrev Refs.app.{u} {α : Sort u} (R : Refs) (f : ∀ (a0 : Memref sig .tc .smem S3 .f32) (h0 : a0.IsWhole) (a1 : Memref sig .tc .vmem S1x16x16x256 .fp8e4m3) (h1 : a1.IsWhole) (a2 : Memref sig .tc .vmem S1x1x1x1x256 .f32) (h2 : a2.IsWhole) (a3 : Memref sig .tc .vmem S1x11520x256 .fp8e4m3) (h3 : a3.IsWhole) (a4 : Memref sig .tc .vmem S1x11520x128 .f32) (h4 : a4.IsWhole) (a5 : Memref sig .tc .vmem S8x720 .bf16) (h5 : a5.IsWhole) (a6 : Memref sig .tc .vmem S1x16x2x90x8x128 .fp8e4m3) (h6 : a6.IsWhole) (a7 : Memref sig .tc .vmem S1x16x2880x80 .fp8e4m3) (h7 : a7.IsWhole) (a8 : Memref sig .tc .vmem S1x720x16x80 .fp8e4m3) (h8 : a8.IsWhole) (a9 : Memref sig .tc .vmem S1x180x16x80 .fp8e4m3) (h9 : a9.IsWhole) (a10 : Memref sig .tc .vmem S1x1x1x8x256 .f32) (h10 : a10.IsWhole) (a11 : Memref sig .tc .vmem S2x11520x128 .f32) (h11 : a11.IsWhole) (a12 : Memref sig .tc .vmem S2x2880x128 .f32) (h12 : a12.IsWhole) (a13 : Memref sig .tc .vmem S1440x128 .f32) (h13 : a13.IsWhole) (a14 : Memref sig .tc .vmem S720x128 .f32) (h14 : a14.IsWhole) (a15 : Memref sig .tc .vmem S360x128 .f32) (h15 : a15.IsWhole) (a16 : Memref sig .tc .vmem S192x128 .f32) (h16 : a16.IsWhole) (a17 : Memref sig .tc .vmem S6x1280x512 .fp8e4m3) (h17 : a17.IsWhole) (a18 : Memref sig .tc .vmem S6x1280x128 .fp8e4m3) (h18 : a18.IsWhole) (a19 : Memref sig .tc .vmem S2x1280x128 .fp8e4m3) (h19 : a19.IsWhole), α) : α :=
  f R.temp R.w_temp R.q R.w_q R.qs R.w_qs R.k R.w_k R.ks R.w_ks R.grid R.w_grid R.o0 R.w_o0 R.o1 R.w_o1 R.o2 R.w_o2 R.o3 R.w_o3 R.st R.w_st R.x R.w_x R.l1 R.w_l1 R.v R.w_v R.l2 R.w_l2 R.h R.w_h R.l3 R.w_l3 R.t1 R.w_t1 R.t2 R.w_t2 R.t3 R.w_t3

/-- Any two states. -/
structure Any (X Y : State F) : Prop where

instance : Std.Refl (Any (F := F)) := ⟨fun _ => ⟨⟩⟩
instance : IsTrans (State F) Any := ⟨fun _ _ _ _ _ => ⟨⟩⟩

variable (c : Dev nD) (R : Refs) (i : Ins F)

/-- The body's buffers, the inputs' at `i` and the others' at `X`. -/
def St (X : State F) : sProp 𝕄 :=
  iprop(owns (c : Thread nD τ) R.temp fullShare i.temp ∗ owns (c : Thread nD τ) R.q fullShare i.q ∗ owns (c : Thread nD τ) R.qs fullShare i.qs ∗ owns (c : Thread nD τ) R.k fullShare i.k ∗ owns (c : Thread nD τ) R.ks fullShare i.ks ∗ owns (c : Thread nD τ) R.grid fullShare i.grid ∗ owns (c : Thread nD τ) R.o0 fullShare X.o0 ∗ owns (c : Thread nD τ) R.o1 fullShare X.o1 ∗ owns (c : Thread nD τ) R.o2 fullShare X.o2 ∗ owns (c : Thread nD τ) R.o3 fullShare X.o3 ∗ owns (c : Thread nD τ) R.st fullShare X.st ∗ owns (c : Thread nD τ) R.x fullShare X.x ∗ owns (c : Thread nD τ) R.l1 fullShare X.l1 ∗ owns (c : Thread nD τ) R.v fullShare X.v ∗ owns (c : Thread nD τ) R.l2 fullShare X.l2 ∗ owns (c : Thread nD τ) R.h fullShare X.h ∗ owns (c : Thread nD τ) R.l3 fullShare X.l3 ∗ owns (c : Thread nD τ) R.t1 fullShare X.t1 ∗ owns (c : Thread nD τ) R.t2 fullShare X.t2 ∗ owns (c : Thread nD τ) R.t3 fullShare X.t3)

theorem see_temp : Sees (c : Thread nD τ) (St c R i) R.temp (fun _ => i.temp) := .here

theorem see_q : Sees (c : Thread nD τ) (St c R i) R.q (fun _ => i.q) := .there (.here)

theorem see_qs : Sees (c : Thread nD τ) (St c R i) R.qs (fun _ => i.qs) := .there (.there (.here))

theorem see_k : Sees (c : Thread nD τ) (St c R i) R.k (fun _ => i.k) := .there (.there (.there (.here)))

theorem see_ks : Sees (c : Thread nD τ) (St c R i) R.ks (fun _ => i.ks) := .there (.there (.there (.there (.here))))

theorem see_grid : Sees (c : Thread nD τ) (St c R i) R.grid (fun _ => i.grid) := .there (.there (.there (.there (.there (.here)))))

theorem lens_o0 : Lens (c : Thread nD τ) (St c R i) R.o0 (fun X => X.o0) (fun X Y => { X with o0 := Y }) :=
  .there (.there (.there (.there (.there (.there (.here (fun _ _ => rfl) (fun _ _ => rfl)) (fun _ _ => rfl)) (fun _ _ => rfl)) (fun _ _ => rfl)) (fun _ _ => rfl)) (fun _ _ => rfl)) (fun _ _ => rfl)
theorem see_o0 : Sees (c : Thread nD τ) (St c R i) R.o0 (fun X => X.o0) := (lens_o0 c R i).sees fun _ => rfl

theorem lens_o1 : Lens (c : Thread nD τ) (St c R i) R.o1 (fun X => X.o1) (fun X Y => { X with o1 := Y }) :=
  .there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)
theorem see_o1 : Sees (c : Thread nD τ) (St c R i) R.o1 (fun X => X.o1) := (lens_o1 c R i).sees fun _ => rfl

theorem lens_o2 : Lens (c : Thread nD τ) (St c R i) R.o2 (fun X => X.o2) (fun X Y => { X with o2 := Y }) :=
  .there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)
theorem see_o2 : Sees (c : Thread nD τ) (St c R i) R.o2 (fun X => X.o2) := (lens_o2 c R i).sees fun _ => rfl

theorem lens_o3 : Lens (c : Thread nD τ) (St c R i) R.o3 (fun X => X.o3) (fun X Y => { X with o3 := Y }) :=
  .there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_o3 : Sees (c : Thread nD τ) (St c R i) R.o3 (fun X => X.o3) := (lens_o3 c R i).sees fun _ => rfl

theorem lens_st : Lens (c : Thread nD τ) (St c R i) R.st (fun X => X.st) (fun X Y => { X with st := Y }) :=
  .there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_st : Sees (c : Thread nD τ) (St c R i) R.st (fun X => X.st) := (lens_st c R i).sees fun _ => rfl

theorem lens_x : Lens (c : Thread nD τ) (St c R i) R.x (fun X => X.x) (fun X Y => { X with x := Y }) :=
  .there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_x : Sees (c : Thread nD τ) (St c R i) R.x (fun X => X.x) := (lens_x c R i).sees fun _ => rfl

theorem lens_l1 : Lens (c : Thread nD τ) (St c R i) R.l1 (fun X => X.l1) (fun X Y => { X with l1 := Y }) :=
  .there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_l1 : Sees (c : Thread nD τ) (St c R i) R.l1 (fun X => X.l1) := (lens_l1 c R i).sees fun _ => rfl

theorem lens_v : Lens (c : Thread nD τ) (St c R i) R.v (fun X => X.v) (fun X Y => { X with v := Y }) :=
  .there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_v : Sees (c : Thread nD τ) (St c R i) R.v (fun X => X.v) := (lens_v c R i).sees fun _ => rfl

theorem lens_l2 : Lens (c : Thread nD τ) (St c R i) R.l2 (fun X => X.l2) (fun X Y => { X with l2 := Y }) :=
  .there (.there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_l2 : Sees (c : Thread nD τ) (St c R i) R.l2 (fun X => X.l2) := (lens_l2 c R i).sees fun _ => rfl

theorem lens_h : Lens (c : Thread nD τ) (St c R i) R.h (fun X => X.h) (fun X Y => { X with h := Y }) :=
  .there (.there (.there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_h : Sees (c : Thread nD τ) (St c R i) R.h (fun X => X.h) := (lens_h c R i).sees fun _ => rfl

theorem lens_l3 : Lens (c : Thread nD τ) (St c R i) R.l3 (fun X => X.l3) (fun X Y => { X with l3 := Y }) :=
  .there (.there (.there (.there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_l3 : Sees (c : Thread nD τ) (St c R i) R.l3 (fun X => X.l3) := (lens_l3 c R i).sees fun _ => rfl

theorem lens_t1 : Lens (c : Thread nD τ) (St c R i) R.t1 (fun X => X.t1) (fun X Y => { X with t1 := Y }) :=
  .there (.there (.there (.there (.there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_t1 : Sees (c : Thread nD τ) (St c R i) R.t1 (fun X => X.t1) := (lens_t1 c R i).sees fun _ => rfl

theorem lens_t2 : Lens (c : Thread nD τ) (St c R i) R.t2 (fun X => X.t2) (fun X Y => { X with t2 := Y }) :=
  .there (.there (.there (.there (.there (.there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_t2 : Sees (c : Thread nD τ) (St c R i) R.t2 (fun X => X.t2) := (lens_t2 c R i).sees fun _ => rfl

theorem lens_t3 : Lens (c : Thread nD τ) (St c R i) R.t3 (fun X => X.t3) (fun X Y => { X with t3 := Y }) :=
  .there (.there (.there (.there (.there (.there (.there (.there (.there (.there (.there (.there (.there (.there (.there (.there (.there (.there (.there (.last (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_t3 : Sees (c : Thread nD τ) (St c R i) R.t3 (fun X => X.t3) := (lens_t3 c R i).sees fun _ => rfl

/-! ### Single instructions -/

section
variable {c R i}
variable {defs : Defs nD τ sig (Elt F) Λ₀} {𝒱 : Variants} {E : Set ℕ} {I : State F → State F → Prop}

theorem move_load_temp [Std.Refl I] {r : LoadRect S3} {hl : R.temp.view.LoadsAt r} :
    Moves defs 𝒱 (c : Thread nD τ) E (St c R i) I (Prog.lift (.load R.temp r hl) : Prog (TpuEff nD τ sig (Elt F) Λ₀ .tc) _) :=
  Moves.load (see_temp c R i)

theorem move_load_q [Std.Refl I] {r : LoadRect S1x16x16x256} {hl : R.q.view.LoadsAt r} :
    Moves defs 𝒱 (c : Thread nD τ) E (St c R i) I (Prog.lift (.load R.q r hl) : Prog (TpuEff nD τ sig (Elt F) Λ₀ .tc) _) :=
  Moves.load (see_q c R i)

theorem move_load_qs [Std.Refl I] {r : LoadRect S1x1x1x1x256} {hl : R.qs.view.LoadsAt r} :
    Moves defs 𝒱 (c : Thread nD τ) E (St c R i) I (Prog.lift (.load R.qs r hl) : Prog (TpuEff nD τ sig (Elt F) Λ₀ .tc) _) :=
  Moves.load (see_qs c R i)

theorem move_load_k [Std.Refl I] {r : LoadRect S1x11520x256} {hl : R.k.view.LoadsAt r} :
    Moves defs 𝒱 (c : Thread nD τ) E (St c R i) I (Prog.lift (.load R.k r hl) : Prog (TpuEff nD τ sig (Elt F) Λ₀ .tc) _) :=
  Moves.load (see_k c R i)

theorem move_load_ks [Std.Refl I] {r : LoadRect S1x11520x128} {hl : R.ks.view.LoadsAt r} :
    Moves defs 𝒱 (c : Thread nD τ) E (St c R i) I (Prog.lift (.load R.ks r hl) : Prog (TpuEff nD τ sig (Elt F) Λ₀ .tc) _) :=
  Moves.load (see_ks c R i)

theorem move_load_grid [Std.Refl I] {r : LoadRect S8x720} {hl : R.grid.view.LoadsAt r} :
    Moves defs 𝒱 (c : Thread nD τ) E (St c R i) I (Prog.lift (.load R.grid r hl) : Prog (TpuEff nD τ sig (Elt F) Λ₀ .tc) _) :=
  Moves.load (see_grid c R i)

theorem move_load_o0 [Std.Refl I] {r : LoadRect S1x16x2x90x8x128} {hl : R.o0.view.LoadsAt r} :
    Moves defs 𝒱 (c : Thread nD τ) E (St c R i) I (Prog.lift (.load R.o0 r hl) : Prog (TpuEff nD τ sig (Elt F) Λ₀ .tc) _) :=
  Moves.load (see_o0 c R i)

theorem move_store_o0 (hI : ∀ X Y, I X { X with o0 := Y }) {r : Rect S1x16x2x90x8x128} {w : Vec F r.shape .fp8e4m3} {hx : (R.o0.access r).Stores Finset.univ}
    {hm : Finset.univ = Finset.univ ∨ ∀ a, r.stride a = 1} :
    Moves defs 𝒱 (c : Thread nD τ) E (St c R i) I (Prog.lift (.store R.o0 r w Finset.univ hx hm) : Prog (TpuEff nD τ sig (Elt F) Λ₀ .tc) _) :=
  Moves.store (lens_o0 c R i) hI

theorem move_load_o1 [Std.Refl I] {r : LoadRect S1x16x2880x80} {hl : R.o1.view.LoadsAt r} :
    Moves defs 𝒱 (c : Thread nD τ) E (St c R i) I (Prog.lift (.load R.o1 r hl) : Prog (TpuEff nD τ sig (Elt F) Λ₀ .tc) _) :=
  Moves.load (see_o1 c R i)

theorem move_store_o1 (hI : ∀ X Y, I X { X with o1 := Y }) {r : Rect S1x16x2880x80} {w : Vec F r.shape .fp8e4m3} {hx : (R.o1.access r).Stores Finset.univ}
    {hm : Finset.univ = Finset.univ ∨ ∀ a, r.stride a = 1} :
    Moves defs 𝒱 (c : Thread nD τ) E (St c R i) I (Prog.lift (.store R.o1 r w Finset.univ hx hm) : Prog (TpuEff nD τ sig (Elt F) Λ₀ .tc) _) :=
  Moves.store (lens_o1 c R i) hI

theorem move_load_o2 [Std.Refl I] {r : LoadRect S1x720x16x80} {hl : R.o2.view.LoadsAt r} :
    Moves defs 𝒱 (c : Thread nD τ) E (St c R i) I (Prog.lift (.load R.o2 r hl) : Prog (TpuEff nD τ sig (Elt F) Λ₀ .tc) _) :=
  Moves.load (see_o2 c R i)

theorem move_store_o2 (hI : ∀ X Y, I X { X with o2 := Y }) {r : Rect S1x720x16x80} {w : Vec F r.shape .fp8e4m3} {hx : (R.o2.access r).Stores Finset.univ}
    {hm : Finset.univ = Finset.univ ∨ ∀ a, r.stride a = 1} :
    Moves defs 𝒱 (c : Thread nD τ) E (St c R i) I (Prog.lift (.store R.o2 r w Finset.univ hx hm) : Prog (TpuEff nD τ sig (Elt F) Λ₀ .tc) _) :=
  Moves.store (lens_o2 c R i) hI

theorem move_load_o3 [Std.Refl I] {r : LoadRect S1x180x16x80} {hl : R.o3.view.LoadsAt r} :
    Moves defs 𝒱 (c : Thread nD τ) E (St c R i) I (Prog.lift (.load R.o3 r hl) : Prog (TpuEff nD τ sig (Elt F) Λ₀ .tc) _) :=
  Moves.load (see_o3 c R i)

theorem move_store_o3 (hI : ∀ X Y, I X { X with o3 := Y }) {r : Rect S1x180x16x80} {w : Vec F r.shape .fp8e4m3} {hx : (R.o3.access r).Stores Finset.univ}
    {hm : Finset.univ = Finset.univ ∨ ∀ a, r.stride a = 1} :
    Moves defs 𝒱 (c : Thread nD τ) E (St c R i) I (Prog.lift (.store R.o3 r w Finset.univ hx hm) : Prog (TpuEff nD τ sig (Elt F) Λ₀ .tc) _) :=
  Moves.store (lens_o3 c R i) hI

theorem move_load_st [Std.Refl I] {r : LoadRect S1x1x1x8x256} {hl : R.st.view.LoadsAt r} :
    Moves defs 𝒱 (c : Thread nD τ) E (St c R i) I (Prog.lift (.load R.st r hl) : Prog (TpuEff nD τ sig (Elt F) Λ₀ .tc) _) :=
  Moves.load (see_st c R i)

theorem move_store_st (hI : ∀ X Y, I X { X with st := Y }) {r : Rect S1x1x1x8x256} {w : Vec F r.shape .f32} {hx : (R.st.access r).Stores Finset.univ}
    {hm : Finset.univ = Finset.univ ∨ ∀ a, r.stride a = 1} :
    Moves defs 𝒱 (c : Thread nD τ) E (St c R i) I (Prog.lift (.store R.st r w Finset.univ hx hm) : Prog (TpuEff nD τ sig (Elt F) Λ₀ .tc) _) :=
  Moves.store (lens_st c R i) hI

theorem move_load_x [Std.Refl I] {r : LoadRect S2x11520x128} {hl : R.x.view.LoadsAt r} :
    Moves defs 𝒱 (c : Thread nD τ) E (St c R i) I (Prog.lift (.load R.x r hl) : Prog (TpuEff nD τ sig (Elt F) Λ₀ .tc) _) :=
  Moves.load (see_x c R i)

theorem move_store_x (hI : ∀ X Y, I X { X with x := Y }) {r : Rect S2x11520x128} {w : Vec F r.shape .f32} {hx : (R.x.access r).Stores Finset.univ}
    {hm : Finset.univ = Finset.univ ∨ ∀ a, r.stride a = 1} :
    Moves defs 𝒱 (c : Thread nD τ) E (St c R i) I (Prog.lift (.store R.x r w Finset.univ hx hm) : Prog (TpuEff nD τ sig (Elt F) Λ₀ .tc) _) :=
  Moves.store (lens_x c R i) hI

theorem move_load_l1 [Std.Refl I] {r : LoadRect S2x2880x128} {hl : R.l1.view.LoadsAt r} :
    Moves defs 𝒱 (c : Thread nD τ) E (St c R i) I (Prog.lift (.load R.l1 r hl) : Prog (TpuEff nD τ sig (Elt F) Λ₀ .tc) _) :=
  Moves.load (see_l1 c R i)

theorem move_store_l1 (hI : ∀ X Y, I X { X with l1 := Y }) {r : Rect S2x2880x128} {w : Vec F r.shape .f32} {hx : (R.l1.access r).Stores Finset.univ}
    {hm : Finset.univ = Finset.univ ∨ ∀ a, r.stride a = 1} :
    Moves defs 𝒱 (c : Thread nD τ) E (St c R i) I (Prog.lift (.store R.l1 r w Finset.univ hx hm) : Prog (TpuEff nD τ sig (Elt F) Λ₀ .tc) _) :=
  Moves.store (lens_l1 c R i) hI

theorem move_load_v [Std.Refl I] {r : LoadRect S1440x128} {hl : R.v.view.LoadsAt r} :
    Moves defs 𝒱 (c : Thread nD τ) E (St c R i) I (Prog.lift (.load R.v r hl) : Prog (TpuEff nD τ sig (Elt F) Λ₀ .tc) _) :=
  Moves.load (see_v c R i)

theorem move_store_v (hI : ∀ X Y, I X { X with v := Y }) {r : Rect S1440x128} {w : Vec F r.shape .f32} {hx : (R.v.access r).Stores Finset.univ}
    {hm : Finset.univ = Finset.univ ∨ ∀ a, r.stride a = 1} :
    Moves defs 𝒱 (c : Thread nD τ) E (St c R i) I (Prog.lift (.store R.v r w Finset.univ hx hm) : Prog (TpuEff nD τ sig (Elt F) Λ₀ .tc) _) :=
  Moves.store (lens_v c R i) hI

theorem move_load_l2 [Std.Refl I] {r : LoadRect S720x128} {hl : R.l2.view.LoadsAt r} :
    Moves defs 𝒱 (c : Thread nD τ) E (St c R i) I (Prog.lift (.load R.l2 r hl) : Prog (TpuEff nD τ sig (Elt F) Λ₀ .tc) _) :=
  Moves.load (see_l2 c R i)

theorem move_store_l2 (hI : ∀ X Y, I X { X with l2 := Y }) {r : Rect S720x128} {w : Vec F r.shape .f32} {hx : (R.l2.access r).Stores Finset.univ}
    {hm : Finset.univ = Finset.univ ∨ ∀ a, r.stride a = 1} :
    Moves defs 𝒱 (c : Thread nD τ) E (St c R i) I (Prog.lift (.store R.l2 r w Finset.univ hx hm) : Prog (TpuEff nD τ sig (Elt F) Λ₀ .tc) _) :=
  Moves.store (lens_l2 c R i) hI

theorem move_load_h [Std.Refl I] {r : LoadRect S360x128} {hl : R.h.view.LoadsAt r} :
    Moves defs 𝒱 (c : Thread nD τ) E (St c R i) I (Prog.lift (.load R.h r hl) : Prog (TpuEff nD τ sig (Elt F) Λ₀ .tc) _) :=
  Moves.load (see_h c R i)

theorem move_store_h (hI : ∀ X Y, I X { X with h := Y }) {r : Rect S360x128} {w : Vec F r.shape .f32} {hx : (R.h.access r).Stores Finset.univ}
    {hm : Finset.univ = Finset.univ ∨ ∀ a, r.stride a = 1} :
    Moves defs 𝒱 (c : Thread nD τ) E (St c R i) I (Prog.lift (.store R.h r w Finset.univ hx hm) : Prog (TpuEff nD τ sig (Elt F) Λ₀ .tc) _) :=
  Moves.store (lens_h c R i) hI

theorem move_load_l3 [Std.Refl I] {r : LoadRect S192x128} {hl : R.l3.view.LoadsAt r} :
    Moves defs 𝒱 (c : Thread nD τ) E (St c R i) I (Prog.lift (.load R.l3 r hl) : Prog (TpuEff nD τ sig (Elt F) Λ₀ .tc) _) :=
  Moves.load (see_l3 c R i)

theorem move_store_l3 (hI : ∀ X Y, I X { X with l3 := Y }) {r : Rect S192x128} {w : Vec F r.shape .f32} {hx : (R.l3.access r).Stores Finset.univ}
    {hm : Finset.univ = Finset.univ ∨ ∀ a, r.stride a = 1} :
    Moves defs 𝒱 (c : Thread nD τ) E (St c R i) I (Prog.lift (.store R.l3 r w Finset.univ hx hm) : Prog (TpuEff nD τ sig (Elt F) Λ₀ .tc) _) :=
  Moves.store (lens_l3 c R i) hI

theorem move_load_t1 [Std.Refl I] {r : LoadRect S6x1280x512} {hl : R.t1.view.LoadsAt r} :
    Moves defs 𝒱 (c : Thread nD τ) E (St c R i) I (Prog.lift (.load R.t1 r hl) : Prog (TpuEff nD τ sig (Elt F) Λ₀ .tc) _) :=
  Moves.load (see_t1 c R i)

theorem move_store_t1 (hI : ∀ X Y, I X { X with t1 := Y }) {r : Rect S6x1280x512} {w : Vec F r.shape .fp8e4m3} {hx : (R.t1.access r).Stores Finset.univ}
    {hm : Finset.univ = Finset.univ ∨ ∀ a, r.stride a = 1} :
    Moves defs 𝒱 (c : Thread nD τ) E (St c R i) I (Prog.lift (.store R.t1 r w Finset.univ hx hm) : Prog (TpuEff nD τ sig (Elt F) Λ₀ .tc) _) :=
  Moves.store (lens_t1 c R i) hI

theorem move_load_t2 [Std.Refl I] {r : LoadRect S6x1280x128} {hl : R.t2.view.LoadsAt r} :
    Moves defs 𝒱 (c : Thread nD τ) E (St c R i) I (Prog.lift (.load R.t2 r hl) : Prog (TpuEff nD τ sig (Elt F) Λ₀ .tc) _) :=
  Moves.load (see_t2 c R i)

theorem move_store_t2 (hI : ∀ X Y, I X { X with t2 := Y }) {r : Rect S6x1280x128} {w : Vec F r.shape .fp8e4m3} {hx : (R.t2.access r).Stores Finset.univ}
    {hm : Finset.univ = Finset.univ ∨ ∀ a, r.stride a = 1} :
    Moves defs 𝒱 (c : Thread nD τ) E (St c R i) I (Prog.lift (.store R.t2 r w Finset.univ hx hm) : Prog (TpuEff nD τ sig (Elt F) Λ₀ .tc) _) :=
  Moves.store (lens_t2 c R i) hI

theorem move_load_t3 [Std.Refl I] {r : LoadRect S2x1280x128} {hl : R.t3.view.LoadsAt r} :
    Moves defs 𝒱 (c : Thread nD τ) E (St c R i) I (Prog.lift (.load R.t3 r hl) : Prog (TpuEff nD τ sig (Elt F) Λ₀ .tc) _) :=
  Moves.load (see_t3 c R i)

theorem move_store_t3 (hI : ∀ X Y, I X { X with t3 := Y }) {r : Rect S2x1280x128} {w : Vec F r.shape .fp8e4m3} {hx : (R.t3.access r).Stores Finset.univ}
    {hm : Finset.univ = Finset.univ ∨ ∀ a, r.stride a = 1} :
    Moves defs 𝒱 (c : Thread nD τ) E (St c R i) I (Prog.lift (.store R.t3 r w Finset.univ hx hm) : Prog (TpuEff nD τ sig (Elt F) Λ₀ .tc) _) :=
  Moves.store (lens_t3 c R i) hI

theorem move_smem_temp [Std.Refl I] {r : Rect S3} {h1 : r.shape.numel = 1} {h2 : EltTy.f32.packing = 1} :
    Moves defs 𝒱 (c : Thread nD τ) E (St c R i) I (smemLoad R.temp r h1 h2 : Prog (TpuEff nD τ sig (Elt F) Λ₀ .tc) _) :=
  fun X => Steps.load (see_temp c R i) (.ret (Std.Refl.refl X))

theorem move_ret [Std.Refl I] {α : Type} {a : α} :
    Moves defs 𝒱 (c : Thread nD τ) E (St c R i) I (pure a : Prog (TpuEff nD τ sig (Elt F) Λ₀ .tc) α) := Moves.ret

theorem move_bind [IsTrans (State F) I] {α β : Type} {p : Prog (TpuEff nD τ sig (Elt F) Λ₀ .tc) α}
    {k : α → Prog (TpuEff nD τ sig (Elt F) Λ₀ .tc) β} (h : Moves defs 𝒱 (c : Thread nD τ) E (St c R i) I p)
    (hk : ∀ a, Moves defs 𝒱 (c : Thread nD τ) E (St c R i) I (k a)) :
    Moves defs 𝒱 (c : Thread nD τ) E (St c R i) I (p >>= k) := Moves.bind h hk
end

end Cert.Kernel.Own

end
-- ==== Proof.KernelRun1.lean ====
/-
  The parts of the kernel body run from any contents of the buffers (parts 1 to 44).
-/
module

public import proofs.«01_k».proof.Proof.Gen.Kernel.Skeleton
public import proofs.«01_k».proof.Proof.KernelOwn

@[expose] public section

set_option maxRecDepth 65536

noncomputable section

namespace Cert.Kernel.Own

open Idealize.ShloMosaic Idealize.ShloMosaic.TcCoe Idealize.SL Idealize.SL.Sem
open Cert.Steps Cert.Kernel.Gen

variable {F : FTy → Type} [FloatOps F]
variable (defs : Defs nD τ sig (Elt F) Λ₀) (𝒱 : Variants) (c : Dev nD) (E : Set ℕ) (R : Refs) (i : Ins F) (g : grid0.Coords)

set_option maxHeartbeats 0 in
/-- Parts 1 to 15 of the body. -/
theorem kernel_parts_1 :
    (Moves defs 𝒱 (c : Thread nD τ) E (St c R i) Any (R.app (k0_part1 (F := F) g))) ∧
    (∀ (v7252 : FVec F S512x80 .fp8e4m3), Moves defs 𝒱 (c : Thread nD τ) E (St c R i) Any (R.app (k0_part2 (F := F) g) v7252)) ∧
    (Moves defs 𝒱 (c : Thread nD τ) E (St c R i) Any (R.app (k0_part3 (F := F) g))) ∧
    (∀ (v7316 : FVec F S512x80 .fp8e4m3), Moves defs 𝒱 (c : Thread nD τ) E (St c R i) Any (R.app (k0_part4 (F := F) g) v7316)) ∧
    (Moves defs 𝒱 (c : Thread nD τ) E (St c R i) Any (R.app (k0_part5 (F := F) g))) ∧
    (∀ (v7380 : FVec F S512x80 .fp8e4m3), Moves defs 𝒱 (c : Thread nD τ) E (St c R i) Any (R.app (k0_part6 (F := F) g) v7380)) ∧
    (Moves defs 𝒱 (c : Thread nD τ) E (St c R i) Any (R.app (k0_part7 (F := F) g))) ∧
    (∀ (v7444 : FVec F S80x512 .fp8e4m3), Moves defs 𝒱 (c : Thread nD τ) E (St c R i) Any (R.app (k0_part8 (F := F) g) v7444)) ∧
    (Moves defs 𝒱 (c : Thread nD τ) E (St c R i) Any (R.app (k0_part9 (F := F) g))) ∧
    (∀ (v7508 : FVec F S80x512 .fp8e4m3), Moves defs 𝒱 (c : Thread nD τ) E (St c R i) Any (R.app (k0_part10 (F := F) g) v7508)) ∧
    (Moves defs 𝒱 (c : Thread nD τ) E (St c R i) Any (R.app (k0_part11 (F := F) g))) ∧
    (∀ (v7572 : FVec F S80x512 .fp8e4m3), Moves defs 𝒱 (c : Thread nD τ) E (St c R i) Any (R.app (k0_part12 (F := F) g) v7572)) ∧
    (∀ (v7604 : FVec F S1x1x320x80 .fp8e4m3), Moves defs 𝒱 (c : Thread nD τ) E (St c R i) Any (R.app (k0_part13 (F := F) g) v7604)) ∧
    (∀ (v7636 : FVec F S80x512 .fp8e4m3), Moves defs 𝒱 (c : Thread nD τ) E (St c R i) Any (R.app (k0_part14 (F := F) g) v7636)) ∧
    (∀ (v7668 : FVec F S1x1x512x80 .fp8e4m3), Moves defs 𝒱 (c : Thread nD τ) E (St c R i) Any (R.app (k0_part15 (F := F) g) v7668)) := by
  refine ⟨?_, ?_, ?_, ?_, ?_, ?_, ?_, ?_, ?_, ?_, ?_, ?_, ?_, ?_, ?_⟩ <;> intros <;> unfold Refs.app <;>
    (first
      | (rw [k0_part1_eq_skeleton]; unfold k0_part1_skel)
      | (rw [k0_part2_eq_skeleton]; unfold k0_part2_skel)
      | (rw [k0_part3_eq_skeleton]; unfold k0_part3_skel)
      | (rw [k0_part4_eq_skeleton]; unfold k0_part4_skel)
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)) <;>
    repeat' first
      | with_reducible exact move_ret
      | with_reducible refine move_bind ?_ fun _ => ?_
      | with_reducible exact move_load_o1
      | with_reducible exact move_load_t1
      | with_reducible exact move_store_o1 fun _ _ => ⟨⟩
      | split

set_option maxHeartbeats 0 in
/-- Parts 16 to 30 of the body. -/
theorem kernel_parts_16 :
    (∀ (v7700 : FVec F S80x512 .fp8e4m3), Moves defs 𝒱 (c : Thread nD τ) E (St c R i) Any (R.app (k0_part16 (F := F) g) v7700)) ∧
    (∀ (v7732 : FVec F S1x1x512x80 .fp8e4m3), Moves defs 𝒱 (c : Thread nD τ) E (St c R i) Any (R.app (k0_part17 (F := F) g) v7732)) ∧
    (∀ (v7764 : FVec F S80x512 .fp8e4m3), Moves defs 𝒱 (c : Thread nD τ) E (St c R i) Any (R.app (k0_part18 (F := F) g) v7764)) ∧
    (∀ (v7796 : FVec F S1x1x512x80 .fp8e4m3), Moves defs 𝒱 (c : Thread nD τ) E (St c R i) Any (R.app (k0_part19 (F := F) g) v7796)) ∧
    (∀ (v7828 : FVec F S80x1x512 .fp8e4m3), Moves defs 𝒱 (c : Thread nD τ) E (St c R i) Any (R.app (k0_part20 (F := F) g) v7828)) ∧
    (∀ (v7860 : FVec F S1x1x512x80 .fp8e4m3), Moves defs 𝒱 (c : Thread nD τ) E (St c R i) Any (R.app (k0_part21 (F := F) g) v7860)) ∧
    (∀ (v7892 : FVec F S80x1x512 .fp8e4m3), Moves defs 𝒱 (c : Thread nD τ) E (St c R i) Any (R.app (k0_part22 (F := F) g) v7892)) ∧
    (∀ (v7924 : FVec F S1x1x512x80 .fp8e4m3), Moves defs 𝒱 (c : Thread nD τ) E (St c R i) Any (R.app (k0_part23 (F := F) g) v7924)) ∧
    (∀ (v7956 : FVec F S80x1x512 .fp8e4m3), Moves defs 𝒱 (c : Thread nD τ) E (St c R i) Any (R.app (k0_part24 (F := F) g) v7956)) ∧
    (∀ (v7986 : FVec F S320x80 .fp8e4m3), Moves defs 𝒱 (c : Thread nD τ) E (St c R i) Any (R.app (k0_part25 (F := F) g) v7986)) ∧
    (∀ (v8020 : FVec F S80x1x512 .fp8e4m3), Moves defs 𝒱 (c : Thread nD τ) E (St c R i) Any (R.app (k0_part26 (F := F) g) v8020)) ∧
    (∀ (v8050 : FVec F S512x80 .fp8e4m3), Moves defs 𝒱 (c : Thread nD τ) E (St c R i) Any (R.app (k0_part27 (F := F) g) v8050)) ∧
    (∀ (v8084 : FVec F S80x1x512 .fp8e4m3), Moves defs 𝒱 (c : Thread nD τ) E (St c R i) Any (R.app (k0_part28 (F := F) g) v8084)) ∧
    (Moves defs 𝒱 (c : Thread nD τ) E (St c R i) Any (R.app (k0_part29 (F := F) g))) ∧
    (∀ (v8168 : FVec F S1x128x4x80 .fp8e4m3), Moves defs 𝒱 (c : Thread nD τ) E (St c R i) Any (R.app (k0_part30 (F := F) g) v8168)) := by
  refine ⟨?_, ?_, ?_, ?_, ?_, ?_, ?_, ?_, ?_, ?_, ?_, ?_, ?_, ?_, ?_⟩ <;> intros <;> unfold Refs.app <;>
    (first
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
      | (rw [k0_part20_eq_skeleton]; unfold k0_part20_skel)
      | (rw [k0_part21_eq_skeleton]; unfold k0_part21_skel)
      | (rw [k0_part22_eq_skeleton]; unfold k0_part22_skel)
      | (rw [k0_part23_eq_skeleton]; unfold k0_part23_skel)
      | (rw [k0_part24_eq_skeleton]; unfold k0_part24_skel)
      | (rw [k0_part25_eq_skeleton]; unfold k0_part25_skel)
      | (rw [k0_part26_eq_skeleton]; unfold k0_part26_skel)
      | (rw [k0_part27_eq_skeleton]; unfold k0_part27_skel)
      | (rw [k0_part28_eq_skeleton]; unfold k0_part28_skel)
      | (rw [k0_part29_eq_skeleton]; unfold k0_part29_skel)
      | (rw [k0_part30_eq_skeleton]; unfold k0_part30_skel)) <;>
    repeat' first
      | with_reducible exact move_ret
      | with_reducible refine move_bind ?_ fun _ => ?_
      | with_reducible exact move_load_o1
      | with_reducible exact move_load_o2
      | with_reducible exact move_load_t1
      | with_reducible exact move_load_t2
      | with_reducible exact move_store_o1 fun _ _ => ⟨⟩
      | with_reducible exact move_store_o2 fun _ _ => ⟨⟩
      | split

set_option maxHeartbeats 0 in
/-- Parts 31 to 44 of the body. -/
theorem kernel_parts_31 :
    (∀ (v8211 : FVec F S128x4x80 .fp8e4m3) (v8212 : Vec F S1x128x4x80 .fp8e4m3), Moves defs 𝒱 (c : Thread nD τ) E (St c R i) Any (R.app (k0_part31 (F := F) g) v8211 v8212)) ∧
    (∀ (v8257 : FVec F S128x4x80 .fp8e4m3), Moves defs 𝒱 (c : Thread nD τ) E (St c R i) Any (R.app (k0_part32 (F := F) g) v8257)) ∧
    (∀ (v8303 : FVec F S128x4x80 .fp8e4m3), Moves defs 𝒱 (c : Thread nD τ) E (St c R i) Any (R.app (k0_part33 (F := F) g) v8303)) ∧
    (∀ (v8336 v8340 v8344 v8348 : FVec F S128x1x80 .fp8e4m3), Moves defs 𝒱 (c : Thread nD τ) E (St c R i) Any (R.app (k0_part34 (F := F) g) v8336 v8340 v8344 v8348)) ∧
    (∀ (v8382 v8386 v8390 : FVec F S128x1x80 .fp8e4m3) (v8392 : FVec F S80x128 .fp8e4m3), Moves defs 𝒱 (c : Thread nD τ) E (St c R i) Any (R.app (k0_part35 (F := F) g) v8382 v8386 v8390 v8392)) ∧
    (∀ (v8424 : FVec F S80x4x128 .fp8e4m3) (v8428 v8432 v8436 : FVec F S128x1x80 .fp8e4m3), Moves defs 𝒱 (c : Thread nD τ) E (St c R i) Any (R.app (k0_part36 (F := F) g) v8424 v8428 v8432 v8436)) ∧
    (∀ (v8470 : FVec F S80x4x128 .fp8e4m3) (v8474 v8478 : FVec F S128x1x80 .fp8e4m3) (v8480 : FVec F S80x128 .fp8e4m3), Moves defs 𝒱 (c : Thread nD τ) E (St c R i) Any (R.app (k0_part37 (F := F) g) v8470 v8474 v8478 v8480)) ∧
    (∀ (v8516 : FVec F S80x4x128 .fp8e4m3) (v8520 v8524 : FVec F S128x1x80 .fp8e4m3), Moves defs 𝒱 (c : Thread nD τ) E (St c R i) Any (R.app (k0_part38 (F := F) g) v8516 v8520 v8524)) ∧
    (∀ (v8562 : FVec F S80x4x128 .fp8e4m3) (v8567 : FVec F S80x1x80 .fp8e4m3) (v8568 : FVec F S80x1x128 .fp8e4m3), Moves defs 𝒱 (c : Thread nD τ) E (St c R i) Any (R.app (k0_part39 (F := F) g) v8562 v8567 v8568)) ∧
    (Moves defs 𝒱 (c : Thread nD τ) E (St c R i) Any (R.app (k0_part40 (F := F) g))) ∧
    (∀ (v8664 : FVec F S80x4x80 .fp8e4m3), Moves defs 𝒱 (c : Thread nD τ) E (St c R i) Any (R.app (k0_part41 (F := F) g) v8664)) ∧
    (∀ (v8697 v8701 v8705 : FVec F S128x1x80 .fp8e4m3) (v8708 : FVec F S128x80 .fp8e4m3), Moves defs 𝒱 (c : Thread nD τ) E (St c R i) Any (R.app (k0_part42 (F := F) g) v8697 v8701 v8705 v8708)) ∧
    (∀ (v8743 v8747 v8751 : FVec F S128x1x80 .fp8e4m3) (v8752 : FVec F S80x1x128 .fp8e4m3), Moves defs 𝒱 (c : Thread nD τ) E (St c R i) Any (R.app (k0_part43 (F := F) g) v8743 v8747 v8751 v8752)) ∧
    (∀ (v8789 : FVec F S80x4x128 .fp8e4m3) (v8794 : FVec F S52x1x80 .fp8e4m3) (v8796 : FVec F S80x128 .fp8e4m3), Moves defs 𝒱 (c : Thread nD τ) E (St c R i) Any (R.app (k0_part44 (F := F) g) v8789 v8794 v8796)) := by
  refine ⟨?_, ?_, ?_, ?_, ?_, ?_, ?_, ?_, ?_, ?_, ?_, ?_, ?_, ?_⟩ <;> intros <;> unfold Refs.app <;>
    (first
      | (rw [k0_part31_eq_skeleton]; unfold k0_part31_skel)
      | (rw [k0_part32_eq_skeleton]; unfold k0_part32_skel)
      | (rw [k0_part33_eq_skeleton]; unfold k0_part33_skel)
      | (rw [k0_part34_eq_skeleton]; unfold k0_part34_skel)
      | (rw [k0_part35_eq_skeleton]; unfold k0_part35_skel)
      | (rw [k0_part36_eq_skeleton]; unfold k0_part36_skel)
      | (rw [k0_part37_eq_skeleton]; unfold k0_part37_skel)
      | (rw [k0_part38_eq_skeleton]; unfold k0_part38_skel)
      | (rw [k0_part39_eq_skeleton]; unfold k0_part39_skel)
      | (rw [k0_part40_eq_skeleton]; unfold k0_part40_skel)
      | (rw [k0_part41_eq_skeleton]; unfold k0_part41_skel)
      | (rw [k0_part42_eq_skeleton]; unfold k0_part42_skel)
      | (rw [k0_part43_eq_skeleton]; unfold k0_part43_skel)
      | (rw [k0_part44_eq_skeleton]; unfold k0_part44_skel)) <;>
    repeat' first
      | with_reducible exact move_ret
      | with_reducible refine move_bind ?_ fun _ => ?_
      | with_reducible exact move_load_o2
      | with_reducible exact move_load_o3
      | with_reducible exact move_load_t2
      | with_reducible exact move_load_t3
      | with_reducible exact move_store_o2 fun _ _ => ⟨⟩
      | with_reducible exact move_store_o3 fun _ _ => ⟨⟩
      | split

end Cert.Kernel.Own

end
-- ==== Proof.KernelRun2.lean ====
/-
  The parts of the kernel body run from any contents of the buffers (parts 46 to 90).
-/
module

public import proofs.«01_k».proof.Proof.Gen.Kernel.Skeleton
public import proofs.«01_k».proof.Proof.KernelOwn

@[expose] public section

set_option maxRecDepth 65536

noncomputable section

namespace Cert.Kernel.Own

open Idealize.ShloMosaic Idealize.ShloMosaic.TcCoe Idealize.SL Idealize.SL.Sem
open Cert.Steps Cert.Kernel.Gen

variable {F : FTy → Type} [FloatOps F]
variable (defs : Defs nD τ sig (Elt F) Λ₀) (𝒱 : Variants) (c : Dev nD) (E : Set ℕ) (R : Refs) (i : Ins F) (g : grid0.Coords)

set_option maxHeartbeats 0 in
/-- Parts 46 to 60 of the body. -/
theorem kernel_parts_46 :
    (Moves defs 𝒱 (c : Thread nD τ) E (St c R i) Any (R.app (k0_part46 (F := F) g))) ∧
    (∀ (v15 : FVec F S288x256 .f32) (v17 : FVec F S288x128 .f32), Moves defs 𝒱 (c : Thread nD τ) E (St c R i) Any (R.app (k0_part47 (F := F) g) v15 v17)) ∧
    (∀ (v12 : FVec F S256x256 .fp8e4m3) (v25 : FVec F S8x128 .f32) (v49 v51 v53 v55 : FVec F S72x128 .f32), Moves defs 𝒱 (c : Thread nD τ) E (St c R i) Any (R.app (k0_part48 (F := F) g) v12 v25 v49 v51 v53 v55)) ∧
    (∀ (v12 : FVec F S256x256 .fp8e4m3) (v47 : FVec F S8x128 .f32) (v64 : FVec F S288x256 .f32) (v66 : FVec F S288x128 .f32) (v86 : FVec F S72x128 .f32), Moves defs 𝒱 (c : Thread nD τ) E (St c R i) Any (R.app (k0_part49 (F := F) g) v12 v47 v64 v66 v86)) ∧
    (∀ (v75 v98 : FVec F S8x128 .f32) (v115 : FVec F S288x256 .f32), Moves defs 𝒱 (c : Thread nD τ) E (St c R i) Any (R.app (k0_part50 (F := F) g) v75 v98 v115)) ∧
    (∀ (v12 : FVec F S256x256 .fp8e4m3) (v126 : FVec F S8x128 .f32), Moves defs 𝒱 (c : Thread nD τ) E (St c R i) Any (R.app (k0_part51 (F := F) g) v12 v126)) ∧
    (∀ (v149 : FVec F S8x128 .f32) (v166 : FVec F S288x256 .f32) (v168 : FVec F S288x128 .f32) (v178 : Vec F S1x72x128 .f32), Moves defs 𝒱 (c : Thread nD τ) E (St c R i) Any (R.app (k0_part52 (F := F) g) v149 v166 v168 v178)) ∧
    (∀ (v12 : FVec F S256x256 .fp8e4m3) (v177 : FVec F S8x128 .f32) (v202 v204 v206 v208 : FVec F S72x128 .f32), Moves defs 𝒱 (c : Thread nD τ) E (St c R i) Any (R.app (k0_part53 (F := F) g) v12 v177 v202 v204 v206 v208)) ∧
    (∀ (v12 : FVec F S256x256 .fp8e4m3) (v200 : FVec F S8x128 .f32) (v217 : FVec F S288x256 .f32) (v219 : FVec F S288x128 .f32) (v239 : FVec F S72x128 .f32), Moves defs 𝒱 (c : Thread nD τ) E (St c R i) Any (R.app (k0_part54 (F := F) g) v12 v200 v217 v219 v239)) ∧
    (∀ (v228 v251 : FVec F S8x128 .f32) (v268 : FVec F S288x256 .f32), Moves defs 𝒱 (c : Thread nD τ) E (St c R i) Any (R.app (k0_part55 (F := F) g) v228 v251 v268)) ∧
    (∀ (v12 : FVec F S256x256 .fp8e4m3) (v279 : FVec F S8x128 .f32), Moves defs 𝒱 (c : Thread nD τ) E (St c R i) Any (R.app (k0_part56 (F := F) g) v12 v279)) ∧
    (∀ (v302 : FVec F S8x128 .f32) (v319 : FVec F S288x256 .f32) (v321 : FVec F S288x128 .f32) (v331 : Vec F S1x72x128 .f32), Moves defs 𝒱 (c : Thread nD τ) E (St c R i) Any (R.app (k0_part57 (F := F) g) v302 v319 v321 v331)) ∧
    (∀ (v12 : FVec F S256x256 .fp8e4m3) (v330 : FVec F S8x128 .f32) (v355 v357 v359 v361 : FVec F S72x128 .f32), Moves defs 𝒱 (c : Thread nD τ) E (St c R i) Any (R.app (k0_part58 (F := F) g) v12 v330 v355 v357 v359 v361)) ∧
    (∀ (v12 : FVec F S256x256 .fp8e4m3) (v353 : FVec F S8x128 .f32) (v370 : FVec F S288x256 .f32) (v372 : FVec F S288x128 .f32) (v392 : FVec F S72x128 .f32), Moves defs 𝒱 (c : Thread nD τ) E (St c R i) Any (R.app (k0_part59 (F := F) g) v12 v353 v370 v372 v392)) ∧
    (∀ (v381 v404 : FVec F S8x128 .f32) (v421 : FVec F S288x256 .f32), Moves defs 𝒱 (c : Thread nD τ) E (St c R i) Any (R.app (k0_part60 (F := F) g) v381 v404 v421)) := by
  refine ⟨?_, ?_, ?_, ?_, ?_, ?_, ?_, ?_, ?_, ?_, ?_, ?_, ?_, ?_, ?_⟩ <;> intros <;> unfold Refs.app <;>
    (first
      | (rw [k0_part46_eq_skeleton]; unfold k0_part46_skel)
      | (rw [k0_part47_eq_skeleton]; unfold k0_part47_skel)
      | (rw [k0_part48_eq_skeleton]; unfold k0_part48_skel)
      | (rw [k0_part49_eq_skeleton]; unfold k0_part49_skel)
      | (rw [k0_part50_eq_skeleton]; unfold k0_part50_skel)
      | (rw [k0_part51_eq_skeleton]; unfold k0_part51_skel)
      | (rw [k0_part52_eq_skeleton]; unfold k0_part52_skel)
      | (rw [k0_part53_eq_skeleton]; unfold k0_part53_skel)
      | (rw [k0_part54_eq_skeleton]; unfold k0_part54_skel)
      | (rw [k0_part55_eq_skeleton]; unfold k0_part55_skel)
      | (rw [k0_part56_eq_skeleton]; unfold k0_part56_skel)
      | (rw [k0_part57_eq_skeleton]; unfold k0_part57_skel)
      | (rw [k0_part58_eq_skeleton]; unfold k0_part58_skel)
      | (rw [k0_part59_eq_skeleton]; unfold k0_part59_skel)
      | (rw [k0_part60_eq_skeleton]; unfold k0_part60_skel)) <;>
    repeat' first
      | with_reducible exact move_ret
      | with_reducible refine move_bind ?_ fun _ => ?_
      | with_reducible exact move_load_q
      | with_reducible exact move_load_k
      | with_reducible exact move_load_ks
      | with_reducible exact move_load_x
      | with_reducible exact move_load_l1
      | with_reducible exact move_store_x fun _ _ => ⟨⟩
      | with_reducible exact move_store_l1 fun _ _ => ⟨⟩
      | split

set_option maxHeartbeats 0 in
/-- Parts 61 to 75 of the body. -/
theorem kernel_parts_61 :
    (∀ (v12 : FVec F S256x256 .fp8e4m3) (v432 : FVec F S8x128 .f32), Moves defs 𝒱 (c : Thread nD τ) E (St c R i) Any (R.app (k0_part61 (F := F) g) v12 v432)) ∧
    (∀ (v455 : FVec F S8x128 .f32) (v472 : FVec F S288x256 .f32) (v474 : FVec F S288x128 .f32) (v484 : Vec F S1x72x128 .f32), Moves defs 𝒱 (c : Thread nD τ) E (St c R i) Any (R.app (k0_part62 (F := F) g) v455 v472 v474 v484)) ∧
    (∀ (v12 : FVec F S256x256 .fp8e4m3) (v483 : FVec F S8x128 .f32) (v508 v510 v512 v514 : FVec F S72x128 .f32), Moves defs 𝒱 (c : Thread nD τ) E (St c R i) Any (R.app (k0_part63 (F := F) g) v12 v483 v508 v510 v512 v514)) ∧
    (∀ (v12 : FVec F S256x256 .fp8e4m3) (v506 : FVec F S8x128 .f32) (v523 : FVec F S288x256 .f32) (v525 : FVec F S288x128 .f32) (v545 : FVec F S72x128 .f32), Moves defs 𝒱 (c : Thread nD τ) E (St c R i) Any (R.app (k0_part64 (F := F) g) v12 v506 v523 v525 v545)) ∧
    (∀ (v534 v557 : FVec F S8x128 .f32) (v574 : FVec F S288x256 .f32), Moves defs 𝒱 (c : Thread nD τ) E (St c R i) Any (R.app (k0_part65 (F := F) g) v534 v557 v574)) ∧
    (∀ (v12 : FVec F S256x256 .fp8e4m3) (v585 : FVec F S8x128 .f32), Moves defs 𝒱 (c : Thread nD τ) E (St c R i) Any (R.app (k0_part66 (F := F) g) v12 v585)) ∧
    (∀ (v608 : FVec F S8x128 .f32) (v625 : FVec F S288x256 .f32) (v627 : FVec F S288x128 .f32) (v637 : Vec F S1x72x128 .f32), Moves defs 𝒱 (c : Thread nD τ) E (St c R i) Any (R.app (k0_part67 (F := F) g) v608 v625 v627 v637)) ∧
    (∀ (v12 : FVec F S256x256 .fp8e4m3) (v636 : FVec F S8x128 .f32) (v661 v663 v665 v667 : FVec F S72x128 .f32), Moves defs 𝒱 (c : Thread nD τ) E (St c R i) Any (R.app (k0_part68 (F := F) g) v12 v636 v661 v663 v665 v667)) ∧
    (∀ (v12 : FVec F S256x256 .fp8e4m3) (v659 : FVec F S8x128 .f32) (v676 : FVec F S288x256 .f32) (v678 : FVec F S288x128 .f32) (v698 : FVec F S72x128 .f32), Moves defs 𝒱 (c : Thread nD τ) E (St c R i) Any (R.app (k0_part69 (F := F) g) v12 v659 v676 v678 v698)) ∧
    (∀ (v687 v710 : FVec F S8x128 .f32) (v727 : FVec F S288x256 .f32), Moves defs 𝒱 (c : Thread nD τ) E (St c R i) Any (R.app (k0_part70 (F := F) g) v687 v710 v727)) ∧
    (∀ (v12 : FVec F S256x256 .fp8e4m3) (v738 : FVec F S8x128 .f32), Moves defs 𝒱 (c : Thread nD τ) E (St c R i) Any (R.app (k0_part71 (F := F) g) v12 v738)) ∧
    (∀ (v761 : FVec F S8x128 .f32) (v778 : FVec F S288x256 .f32) (v780 : FVec F S288x128 .f32) (v790 : Vec F S1x72x128 .f32), Moves defs 𝒱 (c : Thread nD τ) E (St c R i) Any (R.app (k0_part72 (F := F) g) v761 v778 v780 v790)) ∧
    (∀ (v12 : FVec F S256x256 .fp8e4m3) (v789 : FVec F S8x128 .f32) (v814 v816 v818 v820 : FVec F S72x128 .f32), Moves defs 𝒱 (c : Thread nD τ) E (St c R i) Any (R.app (k0_part73 (F := F) g) v12 v789 v814 v816 v818 v820)) ∧
    (∀ (v12 : FVec F S256x256 .fp8e4m3) (v812 : FVec F S8x128 .f32) (v829 : FVec F S288x256 .f32) (v831 : FVec F S288x128 .f32) (v851 : FVec F S72x128 .f32), Moves defs 𝒱 (c : Thread nD τ) E (St c R i) Any (R.app (k0_part74 (F := F) g) v12 v812 v829 v831 v851)) ∧
    (∀ (v840 v863 : FVec F S8x128 .f32) (v880 : FVec F S288x256 .f32), Moves defs 𝒱 (c : Thread nD τ) E (St c R i) Any (R.app (k0_part75 (F := F) g) v840 v863 v880)) := by
  refine ⟨?_, ?_, ?_, ?_, ?_, ?_, ?_, ?_, ?_, ?_, ?_, ?_, ?_, ?_, ?_⟩ <;> intros <;> unfold Refs.app <;>
    (first
      | (rw [k0_part61_eq_skeleton]; unfold k0_part61_skel)
      | (rw [k0_part62_eq_skeleton]; unfold k0_part62_skel)
      | (rw [k0_part63_eq_skeleton]; unfold k0_part63_skel)
      | (rw [k0_part64_eq_skeleton]; unfold k0_part64_skel)
      | (rw [k0_part65_eq_skeleton]; unfold k0_part65_skel)
      | (rw [k0_part66_eq_skeleton]; unfold k0_part66_skel)
      | (rw [k0_part67_eq_skeleton]; unfold k0_part67_skel)
      | (rw [k0_part68_eq_skeleton]; unfold k0_part68_skel)
      | (rw [k0_part69_eq_skeleton]; unfold k0_part69_skel)
      | (rw [k0_part70_eq_skeleton]; unfold k0_part70_skel)
      | (rw [k0_part71_eq_skeleton]; unfold k0_part71_skel)
      | (rw [k0_part72_eq_skeleton]; unfold k0_part72_skel)
      | (rw [k0_part73_eq_skeleton]; unfold k0_part73_skel)
      | (rw [k0_part74_eq_skeleton]; unfold k0_part74_skel)
      | (rw [k0_part75_eq_skeleton]; unfold k0_part75_skel)) <;>
    repeat' first
      | with_reducible exact move_ret
      | with_reducible refine move_bind ?_ fun _ => ?_
      | with_reducible exact move_load_k
      | with_reducible exact move_load_ks
      | with_reducible exact move_load_x
      | with_reducible exact move_load_l1
      | with_reducible exact move_store_x fun _ _ => ⟨⟩
      | with_reducible exact move_store_l1 fun _ _ => ⟨⟩
      | split

set_option maxHeartbeats 0 in
/-- Parts 76 to 90 of the body. -/
theorem kernel_parts_76 :
    (∀ (v12 : FVec F S256x256 .fp8e4m3) (v891 : FVec F S8x128 .f32), Moves defs 𝒱 (c : Thread nD τ) E (St c R i) Any (R.app (k0_part76 (F := F) g) v12 v891)) ∧
    (∀ (v914 : FVec F S8x128 .f32) (v931 : FVec F S288x256 .f32) (v933 : FVec F S288x128 .f32) (v943 : Vec F S1x72x128 .f32), Moves defs 𝒱 (c : Thread nD τ) E (St c R i) Any (R.app (k0_part77 (F := F) g) v914 v931 v933 v943)) ∧
    (∀ (v12 : FVec F S256x256 .fp8e4m3) (v942 : FVec F S8x128 .f32) (v967 v969 v971 v973 : FVec F S72x128 .f32), Moves defs 𝒱 (c : Thread nD τ) E (St c R i) Any (R.app (k0_part78 (F := F) g) v12 v942 v967 v969 v971 v973)) ∧
    (∀ (v12 : FVec F S256x256 .fp8e4m3) (v965 : FVec F S8x128 .f32) (v982 : FVec F S288x256 .f32) (v984 : FVec F S288x128 .f32) (v1004 : FVec F S72x128 .f32), Moves defs 𝒱 (c : Thread nD τ) E (St c R i) Any (R.app (k0_part79 (F := F) g) v12 v965 v982 v984 v1004)) ∧
    (∀ (v993 v1016 : FVec F S8x128 .f32) (v1033 : FVec F S288x256 .f32), Moves defs 𝒱 (c : Thread nD τ) E (St c R i) Any (R.app (k0_part80 (F := F) g) v993 v1016 v1033)) ∧
    (∀ (v12 : FVec F S256x256 .fp8e4m3) (v1044 : FVec F S8x128 .f32), Moves defs 𝒱 (c : Thread nD τ) E (St c R i) Any (R.app (k0_part81 (F := F) g) v12 v1044)) ∧
    (∀ (v1067 : FVec F S8x128 .f32) (v1084 : FVec F S288x256 .f32) (v1086 : FVec F S288x128 .f32) (v1096 : Vec F S1x72x128 .f32), Moves defs 𝒱 (c : Thread nD τ) E (St c R i) Any (R.app (k0_part82 (F := F) g) v1067 v1084 v1086 v1096)) ∧
    (∀ (v12 : FVec F S256x256 .fp8e4m3) (v1095 : FVec F S8x128 .f32) (v1120 v1122 v1124 v1126 : FVec F S72x128 .f32), Moves defs 𝒱 (c : Thread nD τ) E (St c R i) Any (R.app (k0_part83 (F := F) g) v12 v1095 v1120 v1122 v1124 v1126)) ∧
    (∀ (v12 : FVec F S256x256 .fp8e4m3) (v1118 : FVec F S8x128 .f32) (v1135 : FVec F S288x256 .f32) (v1137 : FVec F S288x128 .f32) (v1157 : FVec F S72x128 .f32), Moves defs 𝒱 (c : Thread nD τ) E (St c R i) Any (R.app (k0_part84 (F := F) g) v12 v1118 v1135 v1137 v1157)) ∧
    (∀ (v1146 v1169 : FVec F S8x128 .f32) (v1186 : FVec F S288x256 .f32), Moves defs 𝒱 (c : Thread nD τ) E (St c R i) Any (R.app (k0_part85 (F := F) g) v1146 v1169 v1186)) ∧
    (∀ (v12 : FVec F S256x256 .fp8e4m3) (v1197 : FVec F S8x128 .f32), Moves defs 𝒱 (c : Thread nD τ) E (St c R i) Any (R.app (k0_part86 (F := F) g) v12 v1197)) ∧
    (∀ (v1220 : FVec F S8x128 .f32) (v1237 : FVec F S288x256 .f32) (v1239 : FVec F S288x128 .f32) (v1249 : Vec F S1x72x128 .f32), Moves defs 𝒱 (c : Thread nD τ) E (St c R i) Any (R.app (k0_part87 (F := F) g) v1220 v1237 v1239 v1249)) ∧
    (∀ (v12 : FVec F S256x256 .fp8e4m3) (v1248 : FVec F S8x128 .f32) (v1273 v1275 v1277 v1279 : FVec F S72x128 .f32), Moves defs 𝒱 (c : Thread nD τ) E (St c R i) Any (R.app (k0_part88 (F := F) g) v12 v1248 v1273 v1275 v1277 v1279)) ∧
    (∀ (v12 : FVec F S256x256 .fp8e4m3) (v1271 : FVec F S8x128 .f32) (v1288 : FVec F S288x256 .f32) (v1290 : FVec F S288x128 .f32) (v1310 : FVec F S72x128 .f32), Moves defs 𝒱 (c : Thread nD τ) E (St c R i) Any (R.app (k0_part89 (F := F) g) v12 v1271 v1288 v1290 v1310)) ∧
    (∀ (v1299 v1322 : FVec F S8x128 .f32) (v1339 : FVec F S288x256 .f32), Moves defs 𝒱 (c : Thread nD τ) E (St c R i) Any (R.app (k0_part90 (F := F) g) v1299 v1322 v1339)) := by
  refine ⟨?_, ?_, ?_, ?_, ?_, ?_, ?_, ?_, ?_, ?_, ?_, ?_, ?_, ?_, ?_⟩ <;> intros <;> unfold Refs.app <;>
    (first
      | (rw [k0_part76_eq_skeleton]; unfold k0_part76_skel)
      | (rw [k0_part77_eq_skeleton]; unfold k0_part77_skel)
      | (rw [k0_part78_eq_skeleton]; unfold k0_part78_skel)
      | (rw [k0_part79_eq_skeleton]; unfold k0_part79_skel)
      | (rw [k0_part80_eq_skeleton]; unfold k0_part80_skel)
      | (rw [k0_part81_eq_skeleton]; unfold k0_part81_skel)
      | (rw [k0_part82_eq_skeleton]; unfold k0_part82_skel)
      | (rw [k0_part83_eq_skeleton]; unfold k0_part83_skel)
      | (rw [k0_part84_eq_skeleton]; unfold k0_part84_skel)
      | (rw [k0_part85_eq_skeleton]; unfold k0_part85_skel)
      | (rw [k0_part86_eq_skeleton]; unfold k0_part86_skel)
      | (rw [k0_part87_eq_skeleton]; unfold k0_part87_skel)
      | (rw [k0_part88_eq_skeleton]; unfold k0_part88_skel)
      | (rw [k0_part89_eq_skeleton]; unfold k0_part89_skel)
      | (rw [k0_part90_eq_skeleton]; unfold k0_part90_skel)) <;>
    repeat' first
      | with_reducible exact move_ret
      | with_reducible refine move_bind ?_ fun _ => ?_
      | with_reducible exact move_load_k
      | with_reducible exact move_load_ks
      | with_reducible exact move_load_x
      | with_reducible exact move_load_l1
      | with_reducible exact move_store_x fun _ _ => ⟨⟩
      | with_reducible exact move_store_l1 fun _ _ => ⟨⟩
      | split

end Cert.Kernel.Own

end
-- ==== Proof.KernelRun3.lean ====
/-
  The parts of the kernel body run from any contents of the buffers (parts 91 to 135).
-/
module

public import proofs.«01_k».proof.Proof.Gen.Kernel.Skeleton
public import proofs.«01_k».proof.Proof.KernelOwn

@[expose] public section

set_option maxRecDepth 65536

noncomputable section

namespace Cert.Kernel.Own

open Idealize.ShloMosaic Idealize.ShloMosaic.TcCoe Idealize.SL Idealize.SL.Sem
open Cert.Steps Cert.Kernel.Gen

variable {F : FTy → Type} [FloatOps F]
variable (defs : Defs nD τ sig (Elt F) Λ₀) (𝒱 : Variants) (c : Dev nD) (E : Set ℕ) (R : Refs) (i : Ins F) (g : grid0.Coords)

set_option maxHeartbeats 0 in
/-- Parts 91 to 105 of the body. -/
theorem kernel_parts_91 :
    (∀ (v12 : FVec F S256x256 .fp8e4m3) (v1350 : FVec F S8x128 .f32), Moves defs 𝒱 (c : Thread nD τ) E (St c R i) Any (R.app (k0_part91 (F := F) g) v12 v1350)) ∧
    (∀ (v1373 : FVec F S8x128 .f32) (v1390 : FVec F S288x256 .f32) (v1392 : FVec F S288x128 .f32) (v1402 : Vec F S1x72x128 .f32), Moves defs 𝒱 (c : Thread nD τ) E (St c R i) Any (R.app (k0_part92 (F := F) g) v1373 v1390 v1392 v1402)) ∧
    (∀ (v12 : FVec F S256x256 .fp8e4m3) (v1401 : FVec F S8x128 .f32) (v1426 v1428 v1430 v1432 : FVec F S72x128 .f32), Moves defs 𝒱 (c : Thread nD τ) E (St c R i) Any (R.app (k0_part93 (F := F) g) v12 v1401 v1426 v1428 v1430 v1432)) ∧
    (∀ (v12 : FVec F S256x256 .fp8e4m3) (v1424 : FVec F S8x128 .f32) (v1441 : FVec F S288x256 .f32) (v1443 : FVec F S288x128 .f32) (v1463 : FVec F S72x128 .f32), Moves defs 𝒱 (c : Thread nD τ) E (St c R i) Any (R.app (k0_part94 (F := F) g) v12 v1424 v1441 v1443 v1463)) ∧
    (∀ (v1452 v1475 : FVec F S8x128 .f32) (v1492 : FVec F S288x256 .f32), Moves defs 𝒱 (c : Thread nD τ) E (St c R i) Any (R.app (k0_part95 (F := F) g) v1452 v1475 v1492)) ∧
    (∀ (v12 : FVec F S256x256 .fp8e4m3) (v1503 : FVec F S8x128 .f32), Moves defs 𝒱 (c : Thread nD τ) E (St c R i) Any (R.app (k0_part96 (F := F) g) v12 v1503)) ∧
    (∀ (v1526 : FVec F S8x128 .f32) (v1543 : FVec F S288x256 .f32) (v1545 : FVec F S288x128 .f32) (v1555 : Vec F S1x72x128 .f32), Moves defs 𝒱 (c : Thread nD τ) E (St c R i) Any (R.app (k0_part97 (F := F) g) v1526 v1543 v1545 v1555)) ∧
    (∀ (v12 : FVec F S256x256 .fp8e4m3) (v1554 : FVec F S8x128 .f32) (v1579 v1581 v1583 v1585 : FVec F S72x128 .f32), Moves defs 𝒱 (c : Thread nD τ) E (St c R i) Any (R.app (k0_part98 (F := F) g) v12 v1554 v1579 v1581 v1583 v1585)) ∧
    (∀ (v12 : FVec F S256x256 .fp8e4m3) (v1577 : FVec F S8x128 .f32) (v1594 : FVec F S288x256 .f32) (v1596 : FVec F S288x128 .f32) (v1616 : FVec F S72x128 .f32), Moves defs 𝒱 (c : Thread nD τ) E (St c R i) Any (R.app (k0_part99 (F := F) g) v12 v1577 v1594 v1596 v1616)) ∧
    (∀ (v1605 v1628 : FVec F S8x128 .f32) (v1645 : FVec F S288x256 .f32), Moves defs 𝒱 (c : Thread nD τ) E (St c R i) Any (R.app (k0_part100 (F := F) g) v1605 v1628 v1645)) ∧
    (∀ (v12 : FVec F S256x256 .fp8e4m3) (v1656 : FVec F S8x128 .f32), Moves defs 𝒱 (c : Thread nD τ) E (St c R i) Any (R.app (k0_part101 (F := F) g) v12 v1656)) ∧
    (∀ (v1679 : FVec F S8x128 .f32) (v1696 : FVec F S288x256 .f32) (v1698 : FVec F S288x128 .f32) (v1708 : Vec F S1x72x128 .f32), Moves defs 𝒱 (c : Thread nD τ) E (St c R i) Any (R.app (k0_part102 (F := F) g) v1679 v1696 v1698 v1708)) ∧
    (∀ (v12 : FVec F S256x256 .fp8e4m3) (v1707 : FVec F S8x128 .f32) (v1732 v1734 v1736 v1738 : FVec F S72x128 .f32), Moves defs 𝒱 (c : Thread nD τ) E (St c R i) Any (R.app (k0_part103 (F := F) g) v12 v1707 v1732 v1734 v1736 v1738)) ∧
    (∀ (v12 : FVec F S256x256 .fp8e4m3) (v1730 : FVec F S8x128 .f32) (v1747 : FVec F S288x256 .f32) (v1749 : FVec F S288x128 .f32) (v1769 : FVec F S72x128 .f32), Moves defs 𝒱 (c : Thread nD τ) E (St c R i) Any (R.app (k0_part104 (F := F) g) v12 v1730 v1747 v1749 v1769)) ∧
    (∀ (v1758 v1781 : FVec F S8x128 .f32) (v1798 : FVec F S288x256 .f32), Moves defs 𝒱 (c : Thread nD τ) E (St c R i) Any (R.app (k0_part105 (F := F) g) v1758 v1781 v1798)) := by
  refine ⟨?_, ?_, ?_, ?_, ?_, ?_, ?_, ?_, ?_, ?_, ?_, ?_, ?_, ?_, ?_⟩ <;> intros <;> unfold Refs.app <;>
    (first
      | (rw [k0_part91_eq_skeleton]; unfold k0_part91_skel)
      | (rw [k0_part92_eq_skeleton]; unfold k0_part92_skel)
      | (rw [k0_part93_eq_skeleton]; unfold k0_part93_skel)
      | (rw [k0_part94_eq_skeleton]; unfold k0_part94_skel)
      | (rw [k0_part95_eq_skeleton]; unfold k0_part95_skel)
      | (rw [k0_part96_eq_skeleton]; unfold k0_part96_skel)
      | (rw [k0_part97_eq_skeleton]; unfold k0_part97_skel)
      | (rw [k0_part98_eq_skeleton]; unfold k0_part98_skel)
      | (rw [k0_part99_eq_skeleton]; unfold k0_part99_skel)
      | (rw [k0_part100_eq_skeleton]; unfold k0_part100_skel)
      | (rw [k0_part101_eq_skeleton]; unfold k0_part101_skel)
      | (rw [k0_part102_eq_skeleton]; unfold k0_part102_skel)
      | (rw [k0_part103_eq_skeleton]; unfold k0_part103_skel)
      | (rw [k0_part104_eq_skeleton]; unfold k0_part104_skel)
      | (rw [k0_part105_eq_skeleton]; unfold k0_part105_skel)) <;>
    repeat' first
      | with_reducible exact move_ret
      | with_reducible refine move_bind ?_ fun _ => ?_
      | with_reducible exact move_load_k
      | with_reducible exact move_load_ks
      | with_reducible exact move_load_x
      | with_reducible exact move_load_l1
      | with_reducible exact move_store_x fun _ _ => ⟨⟩
      | with_reducible exact move_store_l1 fun _ _ => ⟨⟩
      | split

set_option maxHeartbeats 0 in
/-- Parts 106 to 120 of the body. -/
theorem kernel_parts_106 :
    (∀ (v12 : FVec F S256x256 .fp8e4m3) (v1809 : FVec F S8x128 .f32), Moves defs 𝒱 (c : Thread nD τ) E (St c R i) Any (R.app (k0_part106 (F := F) g) v12 v1809)) ∧
    (∀ (v1832 : FVec F S8x128 .f32) (v1849 : FVec F S288x256 .f32) (v1851 : FVec F S288x128 .f32) (v1861 : Vec F S1x72x128 .f32), Moves defs 𝒱 (c : Thread nD τ) E (St c R i) Any (R.app (k0_part107 (F := F) g) v1832 v1849 v1851 v1861)) ∧
    (∀ (v12 : FVec F S256x256 .fp8e4m3) (v1860 : FVec F S8x128 .f32) (v1885 v1887 v1889 v1891 : FVec F S72x128 .f32), Moves defs 𝒱 (c : Thread nD τ) E (St c R i) Any (R.app (k0_part108 (F := F) g) v12 v1860 v1885 v1887 v1889 v1891)) ∧
    (∀ (v12 : FVec F S256x256 .fp8e4m3) (v1883 : FVec F S8x128 .f32) (v1900 : FVec F S288x256 .f32) (v1902 : FVec F S288x128 .f32) (v1922 : FVec F S72x128 .f32), Moves defs 𝒱 (c : Thread nD τ) E (St c R i) Any (R.app (k0_part109 (F := F) g) v12 v1883 v1900 v1902 v1922)) ∧
    (∀ (v1911 v1934 : FVec F S8x128 .f32) (v1951 : FVec F S288x256 .f32), Moves defs 𝒱 (c : Thread nD τ) E (St c R i) Any (R.app (k0_part110 (F := F) g) v1911 v1934 v1951)) ∧
    (∀ (v12 : FVec F S256x256 .fp8e4m3) (v1962 : FVec F S8x128 .f32), Moves defs 𝒱 (c : Thread nD τ) E (St c R i) Any (R.app (k0_part111 (F := F) g) v12 v1962)) ∧
    (∀ (v1985 : FVec F S8x128 .f32) (v2002 : FVec F S288x256 .f32) (v2004 : FVec F S288x128 .f32) (v2014 : Vec F S1x72x128 .f32), Moves defs 𝒱 (c : Thread nD τ) E (St c R i) Any (R.app (k0_part112 (F := F) g) v1985 v2002 v2004 v2014)) ∧
    (∀ (v2013 : FVec F S8x128 .f32) (v2038 v2040 v2042 v2044 : FVec F S72x128 .f32), Moves defs 𝒱 (c : Thread nD τ) E (St c R i) Any (R.app (k0_part113 (F := F) g) v2013 v2038 v2040 v2042 v2044)) ∧
    (∀ (v2062 : FVec F S1x128 .f32) (v2079 : FVec F S16x4x128 .fp8e4m3), Moves defs 𝒱 (c : Thread nD τ) E (St c R i) Any (R.app (k0_part114 (F := F) g) v2062 v2079)) ∧
    (∀ (v2062 : FVec F S1x128 .f32) (cst_1677 : F .f32) (v2108 : FVec F S128x128 .f32), Moves defs 𝒱 (c : Thread nD τ) E (St c R i) Any (R.app (k0_part115 (F := F) g) v2062 cst_1677 v2108)) ∧
    (∀ (v2062 : FVec F S1x128 .f32) (v2139 : FVec F S16x4x128 .fp8e4m3), Moves defs 𝒱 (c : Thread nD τ) E (St c R i) Any (R.app (k0_part116 (F := F) g) v2062 v2139)) ∧
    (∀ (v2062 : FVec F S1x128 .f32) (v2171 : FVec F S128x128 .fp8e4m3), Moves defs 𝒱 (c : Thread nD τ) E (St c R i) Any (R.app (k0_part117 (F := F) g) v2062 v2171)) ∧
    (∀ (v2062 : FVec F S1x128 .f32) (v2199 : FVec F S16x4x128 .fp8e4m3), Moves defs 𝒱 (c : Thread nD τ) E (St c R i) Any (R.app (k0_part118 (F := F) g) v2062 v2199)) ∧
    (∀ (v2062 : FVec F S1x128 .f32) (v2232 : FVec F S128x128 .fp8e4m3) (v2234 : FVec F S16x4x128 .fp8e4m3), Moves defs 𝒱 (c : Thread nD τ) E (St c R i) Any (R.app (k0_part119 (F := F) g) v2062 v2232 v2234)) ∧
    (∀ (v2062 : FVec F S1x128 .f32) (v2262 : FVec F S1x16x1x1x4x128 .fp8e4m3), Moves defs 𝒱 (c : Thread nD τ) E (St c R i) Any (R.app (k0_part120 (F := F) g) v2062 v2262)) := by
  refine ⟨?_, ?_, ?_, ?_, ?_, ?_, ?_, ?_, ?_, ?_, ?_, ?_, ?_, ?_, ?_⟩ <;> intros <;> unfold Refs.app <;>
    (first
      | (rw [k0_part106_eq_skeleton]; unfold k0_part106_skel)
      | (rw [k0_part107_eq_skeleton]; unfold k0_part107_skel)
      | (rw [k0_part108_eq_skeleton]; unfold k0_part108_skel)
      | (rw [k0_part109_eq_skeleton]; unfold k0_part109_skel)
      | (rw [k0_part110_eq_skeleton]; unfold k0_part110_skel)
      | (rw [k0_part111_eq_skeleton]; unfold k0_part111_skel)
      | (rw [k0_part112_eq_skeleton]; unfold k0_part112_skel)
      | (rw [k0_part113_eq_skeleton]; unfold k0_part113_skel)
      | (rw [k0_part114_eq_skeleton]; unfold k0_part114_skel)
      | (rw [k0_part115_eq_skeleton]; unfold k0_part115_skel)
      | (rw [k0_part116_eq_skeleton]; unfold k0_part116_skel)
      | (rw [k0_part117_eq_skeleton]; unfold k0_part117_skel)
      | (rw [k0_part118_eq_skeleton]; unfold k0_part118_skel)
      | (rw [k0_part119_eq_skeleton]; unfold k0_part119_skel)
      | (rw [k0_part120_eq_skeleton]; unfold k0_part120_skel)) <;>
    repeat' first
      | with_reducible exact move_ret
      | with_reducible refine move_bind ?_ fun _ => ?_
      | with_reducible exact move_load_qs
      | with_reducible exact move_load_k
      | with_reducible exact move_load_ks
      | with_reducible exact move_load_o0
      | with_reducible exact move_load_x
      | with_reducible exact move_load_l1
      | with_reducible exact move_store_o0 fun _ _ => ⟨⟩
      | with_reducible exact move_store_x fun _ _ => ⟨⟩
      | with_reducible exact move_store_l1 fun _ _ => ⟨⟩
      | split

set_option maxHeartbeats 0 in
/-- Parts 121 to 135 of the body. -/
theorem kernel_parts_121 :
    (∀ (v2062 : FVec F S1x128 .f32) (v2292 : FVec F S128x128 .fp8e4m3) (v2294 : FVec F S16x4x128 .fp8e4m3), Moves defs 𝒱 (c : Thread nD τ) E (St c R i) Any (R.app (k0_part121 (F := F) g) v2062 v2292 v2294)) ∧
    (∀ (v2062 : FVec F S1x128 .f32), Moves defs 𝒱 (c : Thread nD τ) E (St c R i) Any (R.app (k0_part122 (F := F) g) v2062)) ∧
    (∀ (v2062 : FVec F S1x128 .f32) (v2352 : FVec F S128x128 .fp8e4m3) (v2354 : FVec F S16x4x128 .fp8e4m3), Moves defs 𝒱 (c : Thread nD τ) E (St c R i) Any (R.app (k0_part123 (F := F) g) v2062 v2352 v2354)) ∧
    (∀ (v2062 : FVec F S1x128 .f32) (v2384 : FVec F S128x128 .f32), Moves defs 𝒱 (c : Thread nD τ) E (St c R i) Any (R.app (k0_part124 (F := F) g) v2062 v2384)) ∧
    (∀ (v2062 : FVec F S1x128 .f32) (v2412 : FVec F S128x128 .fp8e4m3) (v2417 : FVec F S1x16x1x1x4x128 .fp8e4m3), Moves defs 𝒱 (c : Thread nD τ) E (St c R i) Any (R.app (k0_part125 (F := F) g) v2062 v2412 v2417)) ∧
    (∀ (v2062 : FVec F S1x128 .f32) (v2446 : FVec F S128x128 .f32) (cst_1936 : F .f32), Moves defs 𝒱 (c : Thread nD τ) E (St c R i) Any (R.app (k0_part126 (F := F) g) v2062 v2446 cst_1936)) ∧
    (∀ (v2062 : FVec F S1x128 .f32) (v2479 : FVec F S16x4x128 .fp8e4m3), Moves defs 𝒱 (c : Thread nD τ) E (St c R i) Any (R.app (k0_part127 (F := F) g) v2062 v2479)) ∧
    (∀ (v2062 : FVec F S1x128 .f32) (cst_1982 : F .f32) (v2508 : FVec F S128x128 .f32), Moves defs 𝒱 (c : Thread nD τ) E (St c R i) Any (R.app (k0_part128 (F := F) g) v2062 cst_1982 v2508)) ∧
    (∀ (v2062 : FVec F S1x128 .f32) (v2539 : FVec F S16x4x128 .fp8e4m3), Moves defs 𝒱 (c : Thread nD τ) E (St c R i) Any (R.app (k0_part129 (F := F) g) v2062 v2539)) ∧
    (∀ (v2062 : FVec F S1x128 .f32) (v2571 : FVec F S128x128 .fp8e4m3), Moves defs 𝒱 (c : Thread nD τ) E (St c R i) Any (R.app (k0_part130 (F := F) g) v2062 v2571)) ∧
    (∀ (v2062 : FVec F S1x128 .f32) (v2599 : FVec F S16x4x128 .fp8e4m3), Moves defs 𝒱 (c : Thread nD τ) E (St c R i) Any (R.app (k0_part131 (F := F) g) v2062 v2599)) ∧
    (∀ (v2062 : FVec F S1x128 .f32) (v2632 : FVec F S128x128 .fp8e4m3) (v2634 : FVec F S16x4x128 .fp8e4m3), Moves defs 𝒱 (c : Thread nD τ) E (St c R i) Any (R.app (k0_part132 (F := F) g) v2062 v2632 v2634)) ∧
    (∀ (v2062 : FVec F S1x128 .f32) (v2662 : FVec F S1x16x1x1x4x128 .fp8e4m3), Moves defs 𝒱 (c : Thread nD τ) E (St c R i) Any (R.app (k0_part133 (F := F) g) v2062 v2662)) ∧
    (∀ (v2062 : FVec F S1x128 .f32) (v2692 : FVec F S128x128 .fp8e4m3) (v2694 : FVec F S16x4x128 .fp8e4m3), Moves defs 𝒱 (c : Thread nD τ) E (St c R i) Any (R.app (k0_part134 (F := F) g) v2062 v2692 v2694)) ∧
    (∀ (v2062 : FVec F S1x128 .f32), Moves defs 𝒱 (c : Thread nD τ) E (St c R i) Any (R.app (k0_part135 (F := F) g) v2062)) := by
  refine ⟨?_, ?_, ?_, ?_, ?_, ?_, ?_, ?_, ?_, ?_, ?_, ?_, ?_, ?_, ?_⟩ <;> intros <;> unfold Refs.app <;>
    (first
      | (rw [k0_part121_eq_skeleton]; unfold k0_part121_skel)
      | (rw [k0_part122_eq_skeleton]; unfold k0_part122_skel)
      | (rw [k0_part123_eq_skeleton]; unfold k0_part123_skel)
      | (rw [k0_part124_eq_skeleton]; unfold k0_part124_skel)
      | (rw [k0_part125_eq_skeleton]; unfold k0_part125_skel)
      | (rw [k0_part126_eq_skeleton]; unfold k0_part126_skel)
      | (rw [k0_part127_eq_skeleton]; unfold k0_part127_skel)
      | (rw [k0_part128_eq_skeleton]; unfold k0_part128_skel)
      | (rw [k0_part129_eq_skeleton]; unfold k0_part129_skel)
      | (rw [k0_part130_eq_skeleton]; unfold k0_part130_skel)
      | (rw [k0_part131_eq_skeleton]; unfold k0_part131_skel)
      | (rw [k0_part132_eq_skeleton]; unfold k0_part132_skel)
      | (rw [k0_part133_eq_skeleton]; unfold k0_part133_skel)
      | (rw [k0_part134_eq_skeleton]; unfold k0_part134_skel)
      | (rw [k0_part135_eq_skeleton]; unfold k0_part135_skel)) <;>
    repeat' first
      | with_reducible exact move_ret
      | with_reducible refine move_bind ?_ fun _ => ?_
      | with_reducible exact move_load_o0
      | with_reducible exact move_load_x
      | with_reducible exact move_store_o0 fun _ _ => ⟨⟩
      | split

end Cert.Kernel.Own

end
-- ==== Proof.KernelRun4.lean ====
/-
  The parts of the kernel body run from any contents of the buffers (parts 136 to 180).
-/
module

public import proofs.«01_k».proof.Proof.Gen.Kernel.Skeleton
public import proofs.«01_k».proof.Proof.KernelOwn

@[expose] public section

set_option maxRecDepth 65536

noncomputable section

namespace Cert.Kernel.Own

open Idealize.ShloMosaic Idealize.ShloMosaic.TcCoe Idealize.SL Idealize.SL.Sem
open Cert.Steps Cert.Kernel.Gen

variable {F : FTy → Type} [FloatOps F]
variable (defs : Defs nD τ sig (Elt F) Λ₀) (𝒱 : Variants) (c : Dev nD) (E : Set ℕ) (R : Refs) (i : Ins F) (g : grid0.Coords)

set_option maxHeartbeats 0 in
/-- Parts 136 to 150 of the body. -/
theorem kernel_parts_136 :
    (∀ (v2062 : FVec F S1x128 .f32) (v2752 : FVec F S128x128 .fp8e4m3) (v2754 : FVec F S16x4x128 .fp8e4m3), Moves defs 𝒱 (c : Thread nD τ) E (St c R i) Any (R.app (k0_part136 (F := F) g) v2062 v2752 v2754)) ∧
    (∀ (v2062 : FVec F S1x128 .f32) (v2784 : FVec F S128x128 .f32), Moves defs 𝒱 (c : Thread nD τ) E (St c R i) Any (R.app (k0_part137 (F := F) g) v2062 v2784)) ∧
    (∀ (v2062 : FVec F S1x128 .f32) (v2812 : FVec F S128x128 .fp8e4m3) (v2817 : FVec F S1x16x1x1x4x128 .fp8e4m3), Moves defs 𝒱 (c : Thread nD τ) E (St c R i) Any (R.app (k0_part138 (F := F) g) v2062 v2812 v2817)) ∧
    (∀ (v2062 : FVec F S1x128 .f32) (v2846 : FVec F S128x128 .f32) (cst_2238 : F .f32), Moves defs 𝒱 (c : Thread nD τ) E (St c R i) Any (R.app (k0_part139 (F := F) g) v2062 v2846 cst_2238)) ∧
    (∀ (v2062 : FVec F S1x128 .f32) (v2879 : FVec F S16x4x128 .fp8e4m3), Moves defs 𝒱 (c : Thread nD τ) E (St c R i) Any (R.app (k0_part140 (F := F) g) v2062 v2879)) ∧
    (∀ (v2062 : FVec F S1x128 .f32) (cst_2284 : F .f32) (v2908 : FVec F S128x128 .f32), Moves defs 𝒱 (c : Thread nD τ) E (St c R i) Any (R.app (k0_part141 (F := F) g) v2062 cst_2284 v2908)) ∧
    (∀ (v2062 : FVec F S1x128 .f32) (v2939 : FVec F S16x4x128 .fp8e4m3), Moves defs 𝒱 (c : Thread nD τ) E (St c R i) Any (R.app (k0_part142 (F := F) g) v2062 v2939)) ∧
    (∀ (v2062 : FVec F S1x128 .f32) (v2971 : FVec F S128x128 .fp8e4m3), Moves defs 𝒱 (c : Thread nD τ) E (St c R i) Any (R.app (k0_part143 (F := F) g) v2062 v2971)) ∧
    (∀ (v2062 : FVec F S1x128 .f32) (v2999 : FVec F S16x4x128 .fp8e4m3), Moves defs 𝒱 (c : Thread nD τ) E (St c R i) Any (R.app (k0_part144 (F := F) g) v2062 v2999)) ∧
    (∀ (v2062 : FVec F S1x128 .f32) (v3032 : FVec F S128x128 .fp8e4m3) (v3034 : FVec F S16x4x128 .fp8e4m3), Moves defs 𝒱 (c : Thread nD τ) E (St c R i) Any (R.app (k0_part145 (F := F) g) v2062 v3032 v3034)) ∧
    (∀ (v2062 : FVec F S1x128 .f32) (v3062 : FVec F S1x16x1x1x4x128 .fp8e4m3), Moves defs 𝒱 (c : Thread nD τ) E (St c R i) Any (R.app (k0_part146 (F := F) g) v2062 v3062)) ∧
    (∀ (v2062 : FVec F S1x128 .f32) (v3092 : FVec F S128x128 .fp8e4m3) (v3094 : FVec F S16x4x128 .fp8e4m3), Moves defs 𝒱 (c : Thread nD τ) E (St c R i) Any (R.app (k0_part147 (F := F) g) v2062 v3092 v3094)) ∧
    (∀ (v2062 : FVec F S1x128 .f32), Moves defs 𝒱 (c : Thread nD τ) E (St c R i) Any (R.app (k0_part148 (F := F) g) v2062)) ∧
    (∀ (v2062 : FVec F S1x128 .f32) (v3152 : FVec F S128x128 .fp8e4m3) (v3154 : FVec F S16x4x128 .fp8e4m3), Moves defs 𝒱 (c : Thread nD τ) E (St c R i) Any (R.app (k0_part149 (F := F) g) v2062 v3152 v3154)) ∧
    (∀ (v2062 : FVec F S1x128 .f32) (v3184 : FVec F S128x128 .f32), Moves defs 𝒱 (c : Thread nD τ) E (St c R i) Any (R.app (k0_part150 (F := F) g) v2062 v3184)) := by
  refine ⟨?_, ?_, ?_, ?_, ?_, ?_, ?_, ?_, ?_, ?_, ?_, ?_, ?_, ?_, ?_⟩ <;> intros <;> unfold Refs.app <;>
    (first
      | (rw [k0_part136_eq_skeleton]; unfold k0_part136_skel)
      | (rw [k0_part137_eq_skeleton]; unfold k0_part137_skel)
      | (rw [k0_part138_eq_skeleton]; unfold k0_part138_skel)
      | (rw [k0_part139_eq_skeleton]; unfold k0_part139_skel)
      | (rw [k0_part140_eq_skeleton]; unfold k0_part140_skel)
      | (rw [k0_part141_eq_skeleton]; unfold k0_part141_skel)
      | (rw [k0_part142_eq_skeleton]; unfold k0_part142_skel)
      | (rw [k0_part143_eq_skeleton]; unfold k0_part143_skel)
      | (rw [k0_part144_eq_skeleton]; unfold k0_part144_skel)
      | (rw [k0_part145_eq_skeleton]; unfold k0_part145_skel)
      | (rw [k0_part146_eq_skeleton]; unfold k0_part146_skel)
      | (rw [k0_part147_eq_skeleton]; unfold k0_part147_skel)
      | (rw [k0_part148_eq_skeleton]; unfold k0_part148_skel)
      | (rw [k0_part149_eq_skeleton]; unfold k0_part149_skel)
      | (rw [k0_part150_eq_skeleton]; unfold k0_part150_skel)) <;>
    repeat' first
      | with_reducible exact move_ret
      | with_reducible refine move_bind ?_ fun _ => ?_
      | with_reducible exact move_load_o0
      | with_reducible exact move_load_x
      | with_reducible exact move_store_o0 fun _ _ => ⟨⟩
      | split

set_option maxHeartbeats 0 in
/-- Parts 151 to 165 of the body. -/
theorem kernel_parts_151 :
    (∀ (v2062 : FVec F S1x128 .f32) (v3212 : FVec F S128x128 .fp8e4m3) (v3217 : FVec F S1x16x1x1x4x128 .fp8e4m3), Moves defs 𝒱 (c : Thread nD τ) E (St c R i) Any (R.app (k0_part151 (F := F) g) v2062 v3212 v3217)) ∧
    (∀ (v2062 : FVec F S1x128 .f32) (v3246 : FVec F S128x128 .f32) (cst_2540 : F .f32), Moves defs 𝒱 (c : Thread nD τ) E (St c R i) Any (R.app (k0_part152 (F := F) g) v2062 v3246 cst_2540)) ∧
    (∀ (v2062 : FVec F S1x128 .f32) (v3279 : FVec F S16x4x128 .fp8e4m3), Moves defs 𝒱 (c : Thread nD τ) E (St c R i) Any (R.app (k0_part153 (F := F) g) v2062 v3279)) ∧
    (∀ (v2062 : FVec F S1x128 .f32) (cst_2586 : F .f32) (v3308 : FVec F S128x128 .f32), Moves defs 𝒱 (c : Thread nD τ) E (St c R i) Any (R.app (k0_part154 (F := F) g) v2062 cst_2586 v3308)) ∧
    (∀ (v2062 : FVec F S1x128 .f32) (v3339 : FVec F S16x4x128 .fp8e4m3), Moves defs 𝒱 (c : Thread nD τ) E (St c R i) Any (R.app (k0_part155 (F := F) g) v2062 v3339)) ∧
    (∀ (v2062 : FVec F S1x128 .f32) (v3371 : FVec F S128x128 .fp8e4m3), Moves defs 𝒱 (c : Thread nD τ) E (St c R i) Any (R.app (k0_part156 (F := F) g) v2062 v3371)) ∧
    (∀ (v2062 : FVec F S1x128 .f32) (v3399 : FVec F S16x4x128 .fp8e4m3), Moves defs 𝒱 (c : Thread nD τ) E (St c R i) Any (R.app (k0_part157 (F := F) g) v2062 v3399)) ∧
    (∀ (v2062 : FVec F S1x128 .f32) (v3432 : FVec F S128x128 .fp8e4m3) (v3434 : FVec F S16x4x128 .fp8e4m3), Moves defs 𝒱 (c : Thread nD τ) E (St c R i) Any (R.app (k0_part158 (F := F) g) v2062 v3432 v3434)) ∧
    (∀ (v2062 : FVec F S1x128 .f32) (v3462 : FVec F S1x16x1x1x4x128 .fp8e4m3), Moves defs 𝒱 (c : Thread nD τ) E (St c R i) Any (R.app (k0_part159 (F := F) g) v2062 v3462)) ∧
    (∀ (v2062 : FVec F S1x128 .f32) (v3492 : FVec F S128x128 .fp8e4m3) (v3494 : FVec F S16x4x128 .fp8e4m3), Moves defs 𝒱 (c : Thread nD τ) E (St c R i) Any (R.app (k0_part160 (F := F) g) v2062 v3492 v3494)) ∧
    (∀ (v2062 : FVec F S1x128 .f32), Moves defs 𝒱 (c : Thread nD τ) E (St c R i) Any (R.app (k0_part161 (F := F) g) v2062)) ∧
    (∀ (v2062 : FVec F S1x128 .f32) (v3552 : FVec F S128x128 .fp8e4m3) (v3554 : FVec F S16x4x128 .fp8e4m3), Moves defs 𝒱 (c : Thread nD τ) E (St c R i) Any (R.app (k0_part162 (F := F) g) v2062 v3552 v3554)) ∧
    (∀ (v2062 : FVec F S1x128 .f32) (v3584 : FVec F S128x128 .f32), Moves defs 𝒱 (c : Thread nD τ) E (St c R i) Any (R.app (k0_part163 (F := F) g) v2062 v3584)) ∧
    (∀ (v2062 : FVec F S1x128 .f32) (v3612 : FVec F S128x128 .fp8e4m3) (v3617 : FVec F S1x16x1x1x4x128 .fp8e4m3), Moves defs 𝒱 (c : Thread nD τ) E (St c R i) Any (R.app (k0_part164 (F := F) g) v2062 v3612 v3617)) ∧
    (∀ (v2062 : FVec F S1x128 .f32) (v3646 : FVec F S128x128 .f32) (cst_2843 : F .f32), Moves defs 𝒱 (c : Thread nD τ) E (St c R i) Any (R.app (k0_part165 (F := F) g) v2062 v3646 cst_2843)) := by
  refine ⟨?_, ?_, ?_, ?_, ?_, ?_, ?_, ?_, ?_, ?_, ?_, ?_, ?_, ?_, ?_⟩ <;> intros <;> unfold Refs.app <;>
    (first
      | (rw [k0_part151_eq_skeleton]; unfold k0_part151_skel)
      | (rw [k0_part152_eq_skeleton]; unfold k0_part152_skel)
      | (rw [k0_part153_eq_skeleton]; unfold k0_part153_skel)
      | (rw [k0_part154_eq_skeleton]; unfold k0_part154_skel)
      | (rw [k0_part155_eq_skeleton]; unfold k0_part155_skel)
      | (rw [k0_part156_eq_skeleton]; unfold k0_part156_skel)
      | (rw [k0_part157_eq_skeleton]; unfold k0_part157_skel)
      | (rw [k0_part158_eq_skeleton]; unfold k0_part158_skel)
      | (rw [k0_part159_eq_skeleton]; unfold k0_part159_skel)
      | (rw [k0_part160_eq_skeleton]; unfold k0_part160_skel)
      | (rw [k0_part161_eq_skeleton]; unfold k0_part161_skel)
      | (rw [k0_part162_eq_skeleton]; unfold k0_part162_skel)
      | (rw [k0_part163_eq_skeleton]; unfold k0_part163_skel)
      | (rw [k0_part164_eq_skeleton]; unfold k0_part164_skel)
      | (rw [k0_part165_eq_skeleton]; unfold k0_part165_skel)) <;>
    repeat' first
      | with_reducible exact move_ret
      | with_reducible refine move_bind ?_ fun _ => ?_
      | with_reducible exact move_load_o0
      | with_reducible exact move_load_x
      | with_reducible exact move_store_o0 fun _ _ => ⟨⟩
      | split

set_option maxHeartbeats 0 in
/-- Parts 166 to 180 of the body. -/
theorem kernel_parts_166 :
    (∀ (v2062 : FVec F S1x128 .f32) (v3679 : FVec F S16x4x128 .fp8e4m3), Moves defs 𝒱 (c : Thread nD τ) E (St c R i) Any (R.app (k0_part166 (F := F) g) v2062 v3679)) ∧
    (∀ (v2062 : FVec F S1x128 .f32) (cst_2890 : F .f32) (v3708 : FVec F S128x128 .f32), Moves defs 𝒱 (c : Thread nD τ) E (St c R i) Any (R.app (k0_part167 (F := F) g) v2062 cst_2890 v3708)) ∧
    (∀ (v2062 : FVec F S1x128 .f32) (v3739 : FVec F S16x4x128 .fp8e4m3), Moves defs 𝒱 (c : Thread nD τ) E (St c R i) Any (R.app (k0_part168 (F := F) g) v2062 v3739)) ∧
    (∀ (v2062 : FVec F S1x128 .f32) (v3771 : FVec F S128x128 .fp8e4m3), Moves defs 𝒱 (c : Thread nD τ) E (St c R i) Any (R.app (k0_part169 (F := F) g) v2062 v3771)) ∧
    (∀ (v2062 : FVec F S1x128 .f32) (v3799 : FVec F S16x4x128 .fp8e4m3), Moves defs 𝒱 (c : Thread nD τ) E (St c R i) Any (R.app (k0_part170 (F := F) g) v2062 v3799)) ∧
    (∀ (v2062 : FVec F S1x128 .f32) (v3832 : FVec F S128x128 .fp8e4m3) (v3834 : FVec F S16x4x128 .fp8e4m3), Moves defs 𝒱 (c : Thread nD τ) E (St c R i) Any (R.app (k0_part171 (F := F) g) v2062 v3832 v3834)) ∧
    (∀ (arg2 : BitVec 32) (v2054 : FVec F S1x128 .f32) (v3862 : FVec F S1x16x1x1x4x128 .fp8e4m3), Moves defs 𝒱 (c : Thread nD τ) E (St c R i) Any (R.app (k0_part172 (F := F) g) arg2 v2054 v3862)) ∧
    (∀ (arg2 : BitVec 32) (v3875 : FVec F S1x128 .f32) (v3894 : FVec F S64x512 .fp8e4m3), Moves defs 𝒱 (c : Thread nD τ) E (St c R i) Any (R.app (k0_part173 (F := F) g) arg2 v3875 v3894)) ∧
    (∀ (arg2 : BitVec 32) (v3875 : FVec F S1x128 .f32) (v3935 : FVec F S512x128 .f32), Moves defs 𝒱 (c : Thread nD τ) E (St c R i) Any (R.app (k0_part174 (F := F) g) arg2 v3875 v3935)) ∧
    (∀ (arg2 : BitVec 32) (v3875 : FVec F S1x128 .f32) (v3972 : FVec F S64x512 .fp8e4m3), Moves defs 𝒱 (c : Thread nD τ) E (St c R i) Any (R.app (k0_part175 (F := F) g) arg2 v3875 v3972)) ∧
    (∀ (arg2 : BitVec 32) (v3875 : FVec F S1x128 .f32) (v4006 : Vec F S1x320x128 .f32), Moves defs 𝒱 (c : Thread nD τ) E (St c R i) Any (R.app (k0_part176 (F := F) g) arg2 v3875 v4006)) ∧
    (∀ (v4040 : Vec F S1x72x128 .f32), Moves defs 𝒱 (c : Thread nD τ) E (St c R i) Any (R.app (k0_part177 (F := F) g) v4040)) ∧
    (∀ (v4068 : FVec F S72x128 .f32), Moves defs 𝒱 (c : Thread nD τ) E (St c R i) Any (R.app (k0_part178 (F := F) g) v4068)) ∧
    (∀ (v4097 : FVec F S72x128 .f32), Moves defs 𝒱 (c : Thread nD τ) E (St c R i) Any (R.app (k0_part179 (F := F) g) v4097)) ∧
    (∀ (v4124 : FVec F S72x128 .f32) (v4125 : Vec F S72x128 .f32), Moves defs 𝒱 (c : Thread nD τ) E (St c R i) Any (R.app (k0_part180 (F := F) g) v4124 v4125)) := by
  refine ⟨?_, ?_, ?_, ?_, ?_, ?_, ?_, ?_, ?_, ?_, ?_, ?_, ?_, ?_, ?_⟩ <;> intros <;> unfold Refs.app <;>
    (first
      | (rw [k0_part166_eq_skeleton]; unfold k0_part166_skel)
      | (rw [k0_part167_eq_skeleton]; unfold k0_part167_skel)
      | (rw [k0_part168_eq_skeleton]; unfold k0_part168_skel)
      | (rw [k0_part169_eq_skeleton]; unfold k0_part169_skel)
      | (rw [k0_part170_eq_skeleton]; unfold k0_part170_skel)
      | (rw [k0_part171_eq_skeleton]; unfold k0_part171_skel)
      | (rw [k0_part172_eq_skeleton]; unfold k0_part172_skel)
      | (rw [k0_part173_eq_skeleton]; unfold k0_part173_skel)
      | (rw [k0_part174_eq_skeleton]; unfold k0_part174_skel)
      | (rw [k0_part175_eq_skeleton]; unfold k0_part175_skel)
      | (rw [k0_part176_eq_skeleton]; unfold k0_part176_skel)
      | (rw [k0_part177_eq_skeleton]; unfold k0_part177_skel)
      | (rw [k0_part178_eq_skeleton]; unfold k0_part178_skel)
      | (rw [k0_part179_eq_skeleton]; unfold k0_part179_skel)
      | (rw [k0_part180_eq_skeleton]; unfold k0_part180_skel)) <;>
    repeat' first
      | with_reducible exact move_ret
      | with_reducible refine move_bind ?_ fun _ => ?_
      | with_reducible exact move_load_o0
      | with_reducible exact move_load_x
      | with_reducible exact move_load_l1
      | with_reducible exact move_load_v
      | with_reducible exact move_load_t1
      | with_reducible exact move_store_o0 fun _ _ => ⟨⟩
      | with_reducible exact move_store_v fun _ _ => ⟨⟩
      | with_reducible exact move_store_t1 fun _ _ => ⟨⟩
      | split

end Cert.Kernel.Own

end
-- ==== Proof.KernelRun5.lean ====
/-
  The parts of the kernel body run from any contents of the buffers (parts 181 to 225).
-/
module

public import proofs.«01_k».proof.Proof.Gen.Kernel.Skeleton
public import proofs.«01_k».proof.Proof.KernelOwn

@[expose] public section

set_option maxRecDepth 65536

noncomputable section

namespace Cert.Kernel.Own

open Idealize.ShloMosaic Idealize.ShloMosaic.TcCoe Idealize.SL Idealize.SL.Sem
open Cert.Steps Cert.Kernel.Gen

variable {F : FTy → Type} [FloatOps F]
variable (defs : Defs nD τ sig (Elt F) Λ₀) (𝒱 : Variants) (c : Dev nD) (E : Set ℕ) (R : Refs) (i : Ins F) (g : grid0.Coords)

set_option maxHeartbeats 0 in
/-- Parts 181 to 195 of the body. -/
theorem kernel_parts_181 :
    (∀ (v4153 : FVec F S72x128 .f32), Moves defs 𝒱 (c : Thread nD τ) E (St c R i) Any (R.app (k0_part181 (F := F) g) v4153)) ∧
    (∀ (v2054 : FVec F S1x128 .f32) (v4180 : FVec F S72x128 .f32), Moves defs 𝒱 (c : Thread nD τ) E (St c R i) Any (R.app (k0_part182 (F := F) g) v2054 v4180)) ∧
    (∀ (arg2 : BitVec 32) (v4208 : FVec F S1x128 .f32) (v4217 : FVec F S128x128 .fp8e4m3), Moves defs 𝒱 (c : Thread nD τ) E (St c R i) Any (R.app (k0_part183 (F := F) g) arg2 v4208 v4217)) ∧
    (∀ (arg2 : BitVec 32) (v4208 : FVec F S1x128 .f32) (v4251 : FVec F S64x128 .fp8e4m3) (v4253 : BitVec 32), Moves defs 𝒱 (c : Thread nD τ) E (St c R i) Any (R.app (k0_part184 (F := F) g) arg2 v4208 v4251 v4253)) ∧
    (∀ (arg2 : BitVec 32) (v4208 : FVec F S1x128 .f32) (v4288 v4289 : FVec F S128x128 .f32), Moves defs 𝒱 (c : Thread nD τ) E (St c R i) Any (R.app (k0_part185 (F := F) g) arg2 v4208 v4288 v4289)) ∧
    (∀ (arg2 : BitVec 32) (v4208 : FVec F S1x128 .f32) (v4326 : FVec F S64x128 .fp8e4m3) (c16_i32_3335 : BitVec 32), Moves defs 𝒱 (c : Thread nD τ) E (St c R i) Any (R.app (k0_part186 (F := F) g) arg2 v4208 v4326 c16_i32_3335)) ∧
    (∀ (v4361 : FVec F S360x128 .f32), Moves defs 𝒱 (c : Thread nD τ) E (St c R i) Any (R.app (k0_part187 (F := F) g) v4361)) ∧
    (∀ (v4389 : FVec F S18x128 .f32), Moves defs 𝒱 (c : Thread nD τ) E (St c R i) Any (R.app (k0_part188 (F := F) g) v4389)) ∧
    (∀ (arg2 : BitVec 32) (v2054 : FVec F S1x128 .f32), Moves defs 𝒱 (c : Thread nD τ) E (St c R i) Any (R.app (k0_part189 (F := F) g) arg2 v2054)) ∧
    (∀ (arg2 : BitVec 32) (v2054 : FVec F S1x128 .f32) (v4447 : FVec F S192x128 .fp8e4m3) (v4449 : FVec F S128x128 .fp8e4m3) (v4450 : FVec F S64x128 .fp8e4m3) (v4453 : BitVec 32), Moves defs 𝒱 (c : Thread nD τ) E (St c R i) Any (R.app (k0_part190 (F := F) g) arg2 v2054 v4447 v4449 v4450 v4453)) ∧
    (∀ (arg0 : BitVec 32) (v4484 : Vec F S720x128 .f32) (v4486 : FVec F S1x128 .f32) (v4488 : FVec F S128 .f32), Moves defs 𝒱 (c : Thread nD τ) E (St c R i) Any (R.app (k0_part191 (F := F) g) arg0 v4484 v4486 v4488)) ∧
    (∀ (v4522 : IVec S1x128 32) (c64_i32 : BitVec 32) (v4524 v4531 : IVec S1x128 32) (v4533 : BitVec 32) (v4534 : BitVec 1), Moves defs 𝒱 (c : Thread nD τ) E (St c R i) Any (R.app (k0_part192 (F := F) g) v4522 c64_i32 v4524 v4531 v4533 v4534)) ∧
    (∀ (arg1 arg2 : BitVec 32) (v4519 : FVec F S2x128 .f32) (v4522 v4546 : IVec S1x128 32) (v4572 : BitVec 32) (v4574 : IVec S1x128 32) (v4576 v4578 : IVec S1x128 1) (v4579 : BitVec 1), Moves defs 𝒱 (c : Thread nD τ) E (St c R i) Any (R.app (k0_part193 (F := F) g) arg1 arg2 v4519 v4522 v4546 v4572 v4574 v4576 v4578 v4579)) ∧
    (∀ (v2036 : FVec F S8x128 .f32) (v2061 v3874 v4207 v4439 v4614 v4615 v4620 v4625 : FVec F S1x128 .f32) (cst_3483 : F .f32), Moves defs 𝒱 (c : Thread nD τ) E (St c R i) Any (R.app (k0_part194 (F := F) g) v2036 v2061 v3874 v4207 v4439 v4614 v4615 v4620 v4625 cst_3483)) ∧
    (∀ (v4645 : FVec F S1x128 .f32) (v4655 : FVec F S128x128 .fp8e4m3) (v4657 : FVec F S16x4x128 .fp8e4m3) (v4658 : Vec F S1x16x1x1x4x128 .fp8e4m3), Moves defs 𝒱 (c : Thread nD τ) E (St c R i) Any (R.app (k0_part195 (F := F) g) v4645 v4655 v4657 v4658)) := by
  refine ⟨?_, ?_, ?_, ?_, ?_, ?_, ?_, ?_, ?_, ?_, ?_, ?_, ?_, ?_, ?_⟩ <;> intros <;> unfold Refs.app <;>
    (first
      | (rw [k0_part181_eq_skeleton]; unfold k0_part181_skel)
      | (rw [k0_part182_eq_skeleton]; unfold k0_part182_skel)
      | (rw [k0_part183_eq_skeleton]; unfold k0_part183_skel)
      | (rw [k0_part184_eq_skeleton]; unfold k0_part184_skel)
      | (rw [k0_part185_eq_skeleton]; unfold k0_part185_skel)
      | (rw [k0_part186_eq_skeleton]; unfold k0_part186_skel)
      | (rw [k0_part187_eq_skeleton]; unfold k0_part187_skel)
      | (rw [k0_part188_eq_skeleton]; unfold k0_part188_skel)
      | (rw [k0_part189_eq_skeleton]; unfold k0_part189_skel)
      | (rw [k0_part190_eq_skeleton]; unfold k0_part190_skel)
      | (rw [k0_part191_eq_skeleton]; unfold k0_part191_skel)
      | (rw [k0_part192_eq_skeleton]; unfold k0_part192_skel)
      | (rw [k0_part193_eq_skeleton]; unfold k0_part193_skel)
      | (rw [k0_part194_eq_skeleton]; unfold k0_part194_skel)
      | (rw [k0_part195_eq_skeleton]; unfold k0_part195_skel)) <;>
    repeat' first
      | with_reducible exact move_ret
      | with_reducible refine move_bind ?_ fun _ => ?_
      | with_reducible exact move_load_qs
      | with_reducible exact move_load_grid
      | with_reducible exact move_load_o0
      | with_reducible exact move_load_st
      | with_reducible exact move_load_x
      | with_reducible exact move_load_l1
      | with_reducible exact move_load_v
      | with_reducible exact move_load_l2
      | with_reducible exact move_load_h
      | with_reducible exact move_load_l3
      | with_reducible exact move_load_t2
      | with_reducible exact move_load_t3
      | with_reducible exact move_store_o0 fun _ _ => ⟨⟩
      | with_reducible exact move_store_st fun _ _ => ⟨⟩
      | with_reducible exact move_store_v fun _ _ => ⟨⟩
      | with_reducible exact move_store_l2 fun _ _ => ⟨⟩
      | with_reducible exact move_store_h fun _ _ => ⟨⟩
      | with_reducible exact move_store_l3 fun _ _ => ⟨⟩
      | with_reducible exact move_store_t2 fun _ _ => ⟨⟩
      | with_reducible exact move_store_t3 fun _ _ => ⟨⟩
      | exact move_smem_temp
      | split

set_option maxHeartbeats 0 in
/-- Parts 196 to 210 of the body. -/
theorem kernel_parts_196 :
    (∀ (v4645 : FVec F S1x128 .f32) (v4687 v4688 : FVec F S128x128 .f32), Moves defs 𝒱 (c : Thread nD τ) E (St c R i) Any (R.app (k0_part196 (F := F) g) v4645 v4687 v4688)) ∧
    (∀ (v4645 : FVec F S1x128 .f32) (v4715 : FVec F S128x128 .fp8e4m3), Moves defs 𝒱 (c : Thread nD τ) E (St c R i) Any (R.app (k0_part197 (F := F) g) v4645 v4715)) ∧
    (∀ (v4645 : FVec F S1x128 .f32) (v4749 : FVec F S128x128 .f32) (cst_3587 cst_3588 : F .f32), Moves defs 𝒱 (c : Thread nD τ) E (St c R i) Any (R.app (k0_part198 (F := F) g) v4645 v4749 cst_3587 cst_3588)) ∧
    (∀ (v4645 : FVec F S1x128 .f32) (v4782 : FVec F S16x4x128 .fp8e4m3), Moves defs 𝒱 (c : Thread nD τ) E (St c R i) Any (R.app (k0_part199 (F := F) g) v4645 v4782)) ∧
    (∀ (v4645 : FVec F S1x128 .f32) (v4811 v4812 : FVec F S128x128 .f32), Moves defs 𝒱 (c : Thread nD τ) E (St c R i) Any (R.app (k0_part200 (F := F) g) v4645 v4811 v4812)) ∧
    (∀ (v4645 : FVec F S1x128 .f32) (v4842 : FVec F S16x4x128 .fp8e4m3), Moves defs 𝒱 (c : Thread nD τ) E (St c R i) Any (R.app (k0_part201 (F := F) g) v4645 v4842)) ∧
    (∀ (v4645 : FVec F S1x128 .f32) (v4875 : FVec F S128x128 .fp8e4m3), Moves defs 𝒱 (c : Thread nD τ) E (St c R i) Any (R.app (k0_part202 (F := F) g) v4645 v4875)) ∧
    (∀ (v4645 : FVec F S1x128 .f32) (v4902 : FVec F S16x4x128 .fp8e4m3) (v4903 : Vec F S1x16x1x1x4x128 .fp8e4m3), Moves defs 𝒱 (c : Thread nD τ) E (St c R i) Any (R.app (k0_part203 (F := F) g) v4645 v4902 v4903)) ∧
    (∀ (v4645 : FVec F S1x128 .f32) (v4935 : FVec F S128x128 .fp8e4m3) (v4937 : FVec F S16x4x128 .fp8e4m3), Moves defs 𝒱 (c : Thread nD τ) E (St c R i) Any (R.app (k0_part204 (F := F) g) v4645 v4935 v4937)) ∧
    (∀ (v4645 : FVec F S1x128 .f32), Moves defs 𝒱 (c : Thread nD τ) E (St c R i) Any (R.app (k0_part205 (F := F) g) v4645)) ∧
    (∀ (v4645 : FVec F S1x128 .f32) (v4995 : FVec F S128x128 .fp8e4m3) (v4997 : FVec F S16x4x128 .fp8e4m3), Moves defs 𝒱 (c : Thread nD τ) E (St c R i) Any (R.app (k0_part206 (F := F) g) v4645 v4995 v4997)) ∧
    (∀ (v4645 : FVec F S1x128 .f32), Moves defs 𝒱 (c : Thread nD τ) E (St c R i) Any (R.app (k0_part207 (F := F) g) v4645)) ∧
    (∀ (v4645 : FVec F S1x128 .f32) (v5055 : FVec F S128x128 .fp8e4m3) (v5057 : FVec F S16x4x128 .fp8e4m3) (v5058 : Vec F S1x16x1x1x4x128 .fp8e4m3), Moves defs 𝒱 (c : Thread nD τ) E (St c R i) Any (R.app (k0_part208 (F := F) g) v4645 v5055 v5057 v5058)) ∧
    (∀ (v4645 : FVec F S1x128 .f32) (v5087 v5088 : FVec F S128x128 .f32), Moves defs 𝒱 (c : Thread nD τ) E (St c R i) Any (R.app (k0_part209 (F := F) g) v4645 v5087 v5088)) ∧
    (∀ (v4645 : FVec F S1x128 .f32) (v5115 : FVec F S128x128 .fp8e4m3), Moves defs 𝒱 (c : Thread nD τ) E (St c R i) Any (R.app (k0_part210 (F := F) g) v4645 v5115)) := by
  refine ⟨?_, ?_, ?_, ?_, ?_, ?_, ?_, ?_, ?_, ?_, ?_, ?_, ?_, ?_, ?_⟩ <;> intros <;> unfold Refs.app <;>
    (first
      | (rw [k0_part196_eq_skeleton]; unfold k0_part196_skel)
      | (rw [k0_part197_eq_skeleton]; unfold k0_part197_skel)
      | (rw [k0_part198_eq_skeleton]; unfold k0_part198_skel)
      | (rw [k0_part199_eq_skeleton]; unfold k0_part199_skel)
      | (rw [k0_part200_eq_skeleton]; unfold k0_part200_skel)
      | (rw [k0_part201_eq_skeleton]; unfold k0_part201_skel)
      | (rw [k0_part202_eq_skeleton]; unfold k0_part202_skel)
      | (rw [k0_part203_eq_skeleton]; unfold k0_part203_skel)
      | (rw [k0_part204_eq_skeleton]; unfold k0_part204_skel)
      | (rw [k0_part205_eq_skeleton]; unfold k0_part205_skel)
      | (rw [k0_part206_eq_skeleton]; unfold k0_part206_skel)
      | (rw [k0_part207_eq_skeleton]; unfold k0_part207_skel)
      | (rw [k0_part208_eq_skeleton]; unfold k0_part208_skel)
      | (rw [k0_part209_eq_skeleton]; unfold k0_part209_skel)
      | (rw [k0_part210_eq_skeleton]; unfold k0_part210_skel)) <;>
    repeat' first
      | with_reducible exact move_ret
      | with_reducible refine move_bind ?_ fun _ => ?_
      | with_reducible exact move_load_o0
      | with_reducible exact move_load_x
      | with_reducible exact move_store_o0 fun _ _ => ⟨⟩
      | split

set_option maxHeartbeats 0 in
/-- Parts 211 to 225 of the body. -/
theorem kernel_parts_211 :
    (∀ (v4645 : FVec F S1x128 .f32) (v5149 : FVec F S128x128 .f32) (cst_3927 cst_3928 : F .f32), Moves defs 𝒱 (c : Thread nD τ) E (St c R i) Any (R.app (k0_part211 (F := F) g) v4645 v5149 cst_3927 cst_3928)) ∧
    (∀ (v4645 : FVec F S1x128 .f32) (v5182 : FVec F S16x4x128 .fp8e4m3), Moves defs 𝒱 (c : Thread nD τ) E (St c R i) Any (R.app (k0_part212 (F := F) g) v4645 v5182)) ∧
    (∀ (v4645 : FVec F S1x128 .f32) (v5211 v5212 : FVec F S128x128 .f32), Moves defs 𝒱 (c : Thread nD τ) E (St c R i) Any (R.app (k0_part213 (F := F) g) v4645 v5211 v5212)) ∧
    (∀ (v4645 : FVec F S1x128 .f32) (v5242 : FVec F S16x4x128 .fp8e4m3), Moves defs 𝒱 (c : Thread nD τ) E (St c R i) Any (R.app (k0_part214 (F := F) g) v4645 v5242)) ∧
    (∀ (v4645 : FVec F S1x128 .f32) (v5275 : FVec F S128x128 .fp8e4m3), Moves defs 𝒱 (c : Thread nD τ) E (St c R i) Any (R.app (k0_part215 (F := F) g) v4645 v5275)) ∧
    (∀ (v4645 : FVec F S1x128 .f32) (v5302 : FVec F S16x4x128 .fp8e4m3) (v5303 : Vec F S1x16x1x1x4x128 .fp8e4m3), Moves defs 𝒱 (c : Thread nD τ) E (St c R i) Any (R.app (k0_part216 (F := F) g) v4645 v5302 v5303)) ∧
    (∀ (v4645 : FVec F S1x128 .f32) (v5335 : FVec F S128x128 .fp8e4m3) (v5337 : FVec F S16x4x128 .fp8e4m3), Moves defs 𝒱 (c : Thread nD τ) E (St c R i) Any (R.app (k0_part217 (F := F) g) v4645 v5335 v5337)) ∧
    (∀ (v4645 : FVec F S1x128 .f32), Moves defs 𝒱 (c : Thread nD τ) E (St c R i) Any (R.app (k0_part218 (F := F) g) v4645)) ∧
    (∀ (v4645 : FVec F S1x128 .f32) (v5395 : FVec F S128x128 .fp8e4m3) (v5397 : FVec F S16x4x128 .fp8e4m3), Moves defs 𝒱 (c : Thread nD τ) E (St c R i) Any (R.app (k0_part219 (F := F) g) v4645 v5395 v5397)) ∧
    (∀ (v4645 : FVec F S1x128 .f32), Moves defs 𝒱 (c : Thread nD τ) E (St c R i) Any (R.app (k0_part220 (F := F) g) v4645)) ∧
    (∀ (v4645 : FVec F S1x128 .f32) (v5455 : FVec F S128x128 .fp8e4m3) (v5457 : FVec F S16x4x128 .fp8e4m3) (v5458 : Vec F S1x16x1x1x4x128 .fp8e4m3), Moves defs 𝒱 (c : Thread nD τ) E (St c R i) Any (R.app (k0_part221 (F := F) g) v4645 v5455 v5457 v5458)) ∧
    (∀ (v4645 : FVec F S1x128 .f32) (v5487 v5488 : FVec F S128x128 .f32), Moves defs 𝒱 (c : Thread nD τ) E (St c R i) Any (R.app (k0_part222 (F := F) g) v4645 v5487 v5488)) ∧
    (∀ (v4645 : FVec F S1x128 .f32) (v5515 : FVec F S128x128 .fp8e4m3), Moves defs 𝒱 (c : Thread nD τ) E (St c R i) Any (R.app (k0_part223 (F := F) g) v4645 v5515)) ∧
    (∀ (v4645 : FVec F S1x128 .f32) (v5549 : FVec F S128x128 .f32) (cst_4267 cst_4268 : F .f32), Moves defs 𝒱 (c : Thread nD τ) E (St c R i) Any (R.app (k0_part224 (F := F) g) v4645 v5549 cst_4267 cst_4268)) ∧
    (∀ (v4645 : FVec F S1x128 .f32) (v5582 : FVec F S16x4x128 .fp8e4m3), Moves defs 𝒱 (c : Thread nD τ) E (St c R i) Any (R.app (k0_part225 (F := F) g) v4645 v5582)) := by
  refine ⟨?_, ?_, ?_, ?_, ?_, ?_, ?_, ?_, ?_, ?_, ?_, ?_, ?_, ?_, ?_⟩ <;> intros <;> unfold Refs.app <;>
    (first
      | (rw [k0_part211_eq_skeleton]; unfold k0_part211_skel)
      | (rw [k0_part212_eq_skeleton]; unfold k0_part212_skel)
      | (rw [k0_part213_eq_skeleton]; unfold k0_part213_skel)
      | (rw [k0_part214_eq_skeleton]; unfold k0_part214_skel)
      | (rw [k0_part215_eq_skeleton]; unfold k0_part215_skel)
      | (rw [k0_part216_eq_skeleton]; unfold k0_part216_skel)
      | (rw [k0_part217_eq_skeleton]; unfold k0_part217_skel)
      | (rw [k0_part218_eq_skeleton]; unfold k0_part218_skel)
      | (rw [k0_part219_eq_skeleton]; unfold k0_part219_skel)
      | (rw [k0_part220_eq_skeleton]; unfold k0_part220_skel)
      | (rw [k0_part221_eq_skeleton]; unfold k0_part221_skel)
      | (rw [k0_part222_eq_skeleton]; unfold k0_part222_skel)
      | (rw [k0_part223_eq_skeleton]; unfold k0_part223_skel)
      | (rw [k0_part224_eq_skeleton]; unfold k0_part224_skel)
      | (rw [k0_part225_eq_skeleton]; unfold k0_part225_skel)) <;>
    repeat' first
      | with_reducible exact move_ret
      | with_reducible refine move_bind ?_ fun _ => ?_
      | with_reducible exact move_load_o0
      | with_reducible exact move_load_x
      | with_reducible exact move_store_o0 fun _ _ => ⟨⟩
      | split

end Cert.Kernel.Own

end
-- ==== Proof.KernelRun6.lean ====
/-
  The parts of the kernel body run from any contents of the buffers (parts 226 to 274).
-/
module

public import proofs.«01_k».proof.Proof.Gen.Kernel.Skeleton
public import proofs.«01_k».proof.Proof.KernelOwn

@[expose] public section

set_option maxRecDepth 65536

noncomputable section

namespace Cert.Kernel.Own

open Idealize.ShloMosaic Idealize.ShloMosaic.TcCoe Idealize.SL Idealize.SL.Sem
open Cert.Steps Cert.Kernel.Gen

variable {F : FTy → Type} [FloatOps F]
variable (defs : Defs nD τ sig (Elt F) Λ₀) (𝒱 : Variants) (c : Dev nD) (E : Set ℕ) (R : Refs) (i : Ins F) (g : grid0.Coords)

set_option maxHeartbeats 0 in
/-- Parts 226 to 240 of the body. -/
theorem kernel_parts_226 :
    (∀ (v4645 : FVec F S1x128 .f32) (v5611 v5612 : FVec F S128x128 .f32), Moves defs 𝒱 (c : Thread nD τ) E (St c R i) Any (R.app (k0_part226 (F := F) g) v4645 v5611 v5612)) ∧
    (∀ (v4645 : FVec F S1x128 .f32) (v5642 : FVec F S16x4x128 .fp8e4m3), Moves defs 𝒱 (c : Thread nD τ) E (St c R i) Any (R.app (k0_part227 (F := F) g) v4645 v5642)) ∧
    (∀ (v4645 : FVec F S1x128 .f32) (v5675 : FVec F S128x128 .fp8e4m3), Moves defs 𝒱 (c : Thread nD τ) E (St c R i) Any (R.app (k0_part228 (F := F) g) v4645 v5675)) ∧
    (∀ (v4645 : FVec F S1x128 .f32) (v5702 : FVec F S16x4x128 .fp8e4m3) (v5703 : Vec F S1x16x1x1x4x128 .fp8e4m3), Moves defs 𝒱 (c : Thread nD τ) E (St c R i) Any (R.app (k0_part229 (F := F) g) v4645 v5702 v5703)) ∧
    (∀ (v4645 : FVec F S1x128 .f32) (v5735 : FVec F S128x128 .fp8e4m3) (v5737 : FVec F S16x4x128 .fp8e4m3), Moves defs 𝒱 (c : Thread nD τ) E (St c R i) Any (R.app (k0_part230 (F := F) g) v4645 v5735 v5737)) ∧
    (∀ (v4645 : FVec F S1x128 .f32), Moves defs 𝒱 (c : Thread nD τ) E (St c R i) Any (R.app (k0_part231 (F := F) g) v4645)) ∧
    (∀ (v4645 : FVec F S1x128 .f32) (v5795 : FVec F S128x128 .fp8e4m3) (v5797 : FVec F S16x4x128 .fp8e4m3), Moves defs 𝒱 (c : Thread nD τ) E (St c R i) Any (R.app (k0_part232 (F := F) g) v4645 v5795 v5797)) ∧
    (∀ (v4645 : FVec F S1x128 .f32), Moves defs 𝒱 (c : Thread nD τ) E (St c R i) Any (R.app (k0_part233 (F := F) g) v4645)) ∧
    (∀ (v4645 : FVec F S1x128 .f32) (v5855 : FVec F S128x128 .fp8e4m3) (v5857 : FVec F S16x4x128 .fp8e4m3) (v5858 : Vec F S1x16x1x1x4x128 .fp8e4m3), Moves defs 𝒱 (c : Thread nD τ) E (St c R i) Any (R.app (k0_part234 (F := F) g) v4645 v5855 v5857 v5858)) ∧
    (∀ (v4645 : FVec F S1x128 .f32) (v5887 v5888 : FVec F S128x128 .f32), Moves defs 𝒱 (c : Thread nD τ) E (St c R i) Any (R.app (k0_part235 (F := F) g) v4645 v5887 v5888)) ∧
    (∀ (v4645 : FVec F S1x128 .f32) (v5915 : FVec F S128x128 .fp8e4m3), Moves defs 𝒱 (c : Thread nD τ) E (St c R i) Any (R.app (k0_part236 (F := F) g) v4645 v5915)) ∧
    (∀ (v4645 : FVec F S1x128 .f32) (v5949 : FVec F S128x128 .f32) (cst_4607 cst_4608 : F .f32), Moves defs 𝒱 (c : Thread nD τ) E (St c R i) Any (R.app (k0_part237 (F := F) g) v4645 v5949 cst_4607 cst_4608)) ∧
    (∀ (v4645 : FVec F S1x128 .f32) (v5982 : FVec F S16x4x128 .fp8e4m3), Moves defs 𝒱 (c : Thread nD τ) E (St c R i) Any (R.app (k0_part238 (F := F) g) v4645 v5982)) ∧
    (∀ (v4645 : FVec F S1x128 .f32) (v6011 v6012 : FVec F S128x128 .f32), Moves defs 𝒱 (c : Thread nD τ) E (St c R i) Any (R.app (k0_part239 (F := F) g) v4645 v6011 v6012)) ∧
    (∀ (v4645 : FVec F S1x128 .f32) (v6042 : FVec F S16x4x128 .fp8e4m3), Moves defs 𝒱 (c : Thread nD τ) E (St c R i) Any (R.app (k0_part240 (F := F) g) v4645 v6042)) := by
  refine ⟨?_, ?_, ?_, ?_, ?_, ?_, ?_, ?_, ?_, ?_, ?_, ?_, ?_, ?_, ?_⟩ <;> intros <;> unfold Refs.app <;>
    (first
      | (rw [k0_part226_eq_skeleton]; unfold k0_part226_skel)
      | (rw [k0_part227_eq_skeleton]; unfold k0_part227_skel)
      | (rw [k0_part228_eq_skeleton]; unfold k0_part228_skel)
      | (rw [k0_part229_eq_skeleton]; unfold k0_part229_skel)
      | (rw [k0_part230_eq_skeleton]; unfold k0_part230_skel)
      | (rw [k0_part231_eq_skeleton]; unfold k0_part231_skel)
      | (rw [k0_part232_eq_skeleton]; unfold k0_part232_skel)
      | (rw [k0_part233_eq_skeleton]; unfold k0_part233_skel)
      | (rw [k0_part234_eq_skeleton]; unfold k0_part234_skel)
      | (rw [k0_part235_eq_skeleton]; unfold k0_part235_skel)
      | (rw [k0_part236_eq_skeleton]; unfold k0_part236_skel)
      | (rw [k0_part237_eq_skeleton]; unfold k0_part237_skel)
      | (rw [k0_part238_eq_skeleton]; unfold k0_part238_skel)
      | (rw [k0_part239_eq_skeleton]; unfold k0_part239_skel)
      | (rw [k0_part240_eq_skeleton]; unfold k0_part240_skel)) <;>
    repeat' first
      | with_reducible exact move_ret
      | with_reducible refine move_bind ?_ fun _ => ?_
      | with_reducible exact move_load_o0
      | with_reducible exact move_load_x
      | with_reducible exact move_store_o0 fun _ _ => ⟨⟩
      | split

set_option maxHeartbeats 0 in
/-- Parts 241 to 255 of the body. -/
theorem kernel_parts_241 :
    (∀ (v4645 : FVec F S1x128 .f32) (v6075 : FVec F S128x128 .fp8e4m3), Moves defs 𝒱 (c : Thread nD τ) E (St c R i) Any (R.app (k0_part241 (F := F) g) v4645 v6075)) ∧
    (∀ (v4645 : FVec F S1x128 .f32) (v6102 : FVec F S16x4x128 .fp8e4m3) (v6103 : Vec F S1x16x1x1x4x128 .fp8e4m3), Moves defs 𝒱 (c : Thread nD τ) E (St c R i) Any (R.app (k0_part242 (F := F) g) v4645 v6102 v6103)) ∧
    (∀ (v4645 : FVec F S1x128 .f32) (v6135 : FVec F S128x128 .fp8e4m3) (v6137 : FVec F S16x4x128 .fp8e4m3), Moves defs 𝒱 (c : Thread nD τ) E (St c R i) Any (R.app (k0_part243 (F := F) g) v4645 v6135 v6137)) ∧
    (∀ (v4645 : FVec F S1x128 .f32), Moves defs 𝒱 (c : Thread nD τ) E (St c R i) Any (R.app (k0_part244 (F := F) g) v4645)) ∧
    (∀ (v4645 : FVec F S1x128 .f32) (v6195 : FVec F S128x128 .fp8e4m3) (v6197 : FVec F S16x4x128 .fp8e4m3), Moves defs 𝒱 (c : Thread nD τ) E (St c R i) Any (R.app (k0_part245 (F := F) g) v4645 v6195 v6197)) ∧
    (∀ (v4645 : FVec F S1x128 .f32), Moves defs 𝒱 (c : Thread nD τ) E (St c R i) Any (R.app (k0_part246 (F := F) g) v4645)) ∧
    (∀ (v4645 : FVec F S1x128 .f32) (v6255 : FVec F S128x128 .fp8e4m3) (v6257 : FVec F S16x4x128 .fp8e4m3) (v6258 : Vec F S1x16x1x1x4x128 .fp8e4m3), Moves defs 𝒱 (c : Thread nD τ) E (St c R i) Any (R.app (k0_part247 (F := F) g) v4645 v6255 v6257 v6258)) ∧
    (∀ (v4645 : FVec F S1x128 .f32) (v6287 v6288 : FVec F S128x128 .f32), Moves defs 𝒱 (c : Thread nD τ) E (St c R i) Any (R.app (k0_part248 (F := F) g) v4645 v6287 v6288)) ∧
    (∀ (v4645 : FVec F S1x128 .f32) (v6315 : FVec F S128x128 .fp8e4m3), Moves defs 𝒱 (c : Thread nD τ) E (St c R i) Any (R.app (k0_part249 (F := F) g) v4645 v6315)) ∧
    (∀ (v4645 : FVec F S1x128 .f32) (v6349 : FVec F S128x128 .f32) (cst_4947 cst_4948 : F .f32), Moves defs 𝒱 (c : Thread nD τ) E (St c R i) Any (R.app (k0_part250 (F := F) g) v4645 v6349 cst_4947 cst_4948)) ∧
    (∀ (v4645 : FVec F S1x128 .f32) (v6382 : FVec F S16x4x128 .fp8e4m3), Moves defs 𝒱 (c : Thread nD τ) E (St c R i) Any (R.app (k0_part251 (F := F) g) v4645 v6382)) ∧
    (∀ (v4645 : FVec F S1x128 .f32) (v6411 v6412 : FVec F S128x128 .f32), Moves defs 𝒱 (c : Thread nD τ) E (St c R i) Any (R.app (k0_part252 (F := F) g) v4645 v6411 v6412)) ∧
    (∀ (arg2 : BitVec 32) (v4637 : FVec F S1x128 .f32) (v6442 : FVec F S16x4x128 .fp8e4m3), Moves defs 𝒱 (c : Thread nD τ) E (St c R i) Any (R.app (k0_part253 (F := F) g) arg2 v4637 v6442)) ∧
    (∀ (arg2 : BitVec 32) (v6458 : FVec F S1x128 .f32) (v6477 : FVec F S64x512 .fp8e4m3) (v6479 : BitVec 32), Moves defs 𝒱 (c : Thread nD τ) E (St c R i) Any (R.app (k0_part254 (F := F) g) arg2 v6458 v6477 v6479)) ∧
    (∀ (arg2 : BitVec 32) (v6458 : FVec F S1x128 .f32) (v6514 : FVec F S512x128 .f32) (cst_5067 : F .f32), Moves defs 𝒱 (c : Thread nD τ) E (St c R i) Any (R.app (k0_part255 (F := F) g) arg2 v6458 v6514 cst_5067)) := by
  refine ⟨?_, ?_, ?_, ?_, ?_, ?_, ?_, ?_, ?_, ?_, ?_, ?_, ?_, ?_, ?_⟩ <;> intros <;> unfold Refs.app <;>
    (first
      | (rw [k0_part241_eq_skeleton]; unfold k0_part241_skel)
      | (rw [k0_part242_eq_skeleton]; unfold k0_part242_skel)
      | (rw [k0_part243_eq_skeleton]; unfold k0_part243_skel)
      | (rw [k0_part244_eq_skeleton]; unfold k0_part244_skel)
      | (rw [k0_part245_eq_skeleton]; unfold k0_part245_skel)
      | (rw [k0_part246_eq_skeleton]; unfold k0_part246_skel)
      | (rw [k0_part247_eq_skeleton]; unfold k0_part247_skel)
      | (rw [k0_part248_eq_skeleton]; unfold k0_part248_skel)
      | (rw [k0_part249_eq_skeleton]; unfold k0_part249_skel)
      | (rw [k0_part250_eq_skeleton]; unfold k0_part250_skel)
      | (rw [k0_part251_eq_skeleton]; unfold k0_part251_skel)
      | (rw [k0_part252_eq_skeleton]; unfold k0_part252_skel)
      | (rw [k0_part253_eq_skeleton]; unfold k0_part253_skel)
      | (rw [k0_part254_eq_skeleton]; unfold k0_part254_skel)
      | (rw [k0_part255_eq_skeleton]; unfold k0_part255_skel)) <;>
    repeat' first
      | with_reducible exact move_ret
      | with_reducible refine move_bind ?_ fun _ => ?_
      | with_reducible exact move_load_o0
      | with_reducible exact move_load_x
      | with_reducible exact move_load_l1
      | with_reducible exact move_load_t1
      | with_reducible exact move_store_o0 fun _ _ => ⟨⟩
      | with_reducible exact move_store_t1 fun _ _ => ⟨⟩
      | split

set_option maxHeartbeats 0 in
/-- Parts 256 to 270 of the body. -/
theorem kernel_parts_256 :
    (∀ (arg2 : BitVec 32) (v6458 : FVec F S1x128 .f32) (v6546 : FVec F S128x512 .fp8e4m3) (v6547 : FVec F S64x512 .fp8e4m3), Moves defs 𝒱 (c : Thread nD τ) E (St c R i) Any (R.app (k0_part256 (F := F) g) arg2 v6458 v6546 v6547)) ∧
    (∀ (arg2 : BitVec 32) (v6458 : FVec F S1x128 .f32) (v6588 : FVec F S1x64x512 .fp8e4m3), Moves defs 𝒱 (c : Thread nD τ) E (St c R i) Any (R.app (k0_part257 (F := F) g) arg2 v6458 v6588)) ∧
    (∀ (v6622 : FVec F S72x128 .f32), Moves defs 𝒱 (c : Thread nD τ) E (St c R i) Any (R.app (k0_part258 (F := F) g) v6622)) ∧
    (∀ (v6648 : FVec F S72x128 .f32), Moves defs 𝒱 (c : Thread nD τ) E (St c R i) Any (R.app (k0_part259 (F := F) g) v6648)) ∧
    (Moves defs 𝒱 (c : Thread nD τ) E (St c R i) Any (R.app (k0_part260 (F := F) g))) ∧
    (∀ (v6704 : FVec F S72x128 .f32) (v6705 : Vec F S1x72x128 .f32), Moves defs 𝒱 (c : Thread nD τ) E (St c R i) Any (R.app (k0_part261 (F := F) g) v6704 v6705)) ∧
    (Moves defs 𝒱 (c : Thread nD τ) E (St c R i) Any (R.app (k0_part262 (F := F) g))) ∧
    (∀ (v4637 : FVec F S1x128 .f32) (v6760 v6762 : FVec F S72x128 .f32), Moves defs 𝒱 (c : Thread nD τ) E (St c R i) Any (R.app (k0_part263 (F := F) g) v4637 v6760 v6762)) ∧
    (∀ (arg2 : BitVec 32) (v6791 : FVec F S1x128 .f32) (v6794 : FVec F S128x128 .f32) (cst_5297 : F .f32) (v6795 : FVec F S128x128 .f32), Moves defs 𝒱 (c : Thread nD τ) E (St c R i) Any (R.app (k0_part264 (F := F) g) arg2 v6791 v6794 cst_5297 v6795)) ∧
    (∀ (arg2 : BitVec 32) (v6791 : FVec F S1x128 .f32) (v6825 : FVec F S128x128 .fp8e4m3), Moves defs 𝒱 (c : Thread nD τ) E (St c R i) Any (R.app (k0_part265 (F := F) g) arg2 v6791 v6825)) ∧
    (∀ (arg2 : BitVec 32) (v6791 : FVec F S1x128 .f32) (v6869 : FVec F S128x128 .f32), Moves defs 𝒱 (c : Thread nD τ) E (St c R i) Any (R.app (k0_part266 (F := F) g) arg2 v6791 v6869)) ∧
    (∀ (arg2 : BitVec 32) (v6791 : FVec F S1x128 .f32) (v6900 : FVec F S128x128 .fp8e4m3) (v6901 : FVec F S64x128 .fp8e4m3) (v6906 : Vec F S1x64x128 .fp8e4m3), Moves defs 𝒱 (c : Thread nD τ) E (St c R i) Any (R.app (k0_part267 (F := F) g) arg2 v6791 v6900 v6901 v6906)) ∧
    (Moves defs 𝒱 (c : Thread nD τ) E (St c R i) Any (R.app (k0_part268 (F := F) g))) ∧
    (Moves defs 𝒱 (c : Thread nD τ) E (St c R i) Any (R.app (k0_part269 (F := F) g))) ∧
    (∀ (v4637 : FVec F S1x128 .f32) (v6996 : FVec F S18x128 .f32) (v6997 : Vec F S18x128 .f32), Moves defs 𝒱 (c : Thread nD τ) E (St c R i) Any (R.app (k0_part270 (F := F) g) v4637 v6996 v6997)) := by
  refine ⟨?_, ?_, ?_, ?_, ?_, ?_, ?_, ?_, ?_, ?_, ?_, ?_, ?_, ?_, ?_⟩ <;> intros <;> unfold Refs.app <;>
    (first
      | (rw [k0_part256_eq_skeleton]; unfold k0_part256_skel)
      | (rw [k0_part257_eq_skeleton]; unfold k0_part257_skel)
      | (rw [k0_part258_eq_skeleton]; unfold k0_part258_skel)
      | (rw [k0_part259_eq_skeleton]; unfold k0_part259_skel)
      | (rw [k0_part260_eq_skeleton]; unfold k0_part260_skel)
      | (rw [k0_part261_eq_skeleton]; unfold k0_part261_skel)
      | (rw [k0_part262_eq_skeleton]; unfold k0_part262_skel)
      | (rw [k0_part263_eq_skeleton]; unfold k0_part263_skel)
      | (rw [k0_part264_eq_skeleton]; unfold k0_part264_skel)
      | (rw [k0_part265_eq_skeleton]; unfold k0_part265_skel)
      | (rw [k0_part266_eq_skeleton]; unfold k0_part266_skel)
      | (rw [k0_part267_eq_skeleton]; unfold k0_part267_skel)
      | (rw [k0_part268_eq_skeleton]; unfold k0_part268_skel)
      | (rw [k0_part269_eq_skeleton]; unfold k0_part269_skel)
      | (rw [k0_part270_eq_skeleton]; unfold k0_part270_skel)) <;>
    repeat' first
      | with_reducible exact move_ret
      | with_reducible refine move_bind ?_ fun _ => ?_
      | with_reducible exact move_load_l1
      | with_reducible exact move_load_v
      | with_reducible exact move_load_l2
      | with_reducible exact move_load_h
      | with_reducible exact move_load_l3
      | with_reducible exact move_load_t1
      | with_reducible exact move_load_t2
      | with_reducible exact move_store_v fun _ _ => ⟨⟩
      | with_reducible exact move_store_l2 fun _ _ => ⟨⟩
      | with_reducible exact move_store_h fun _ _ => ⟨⟩
      | with_reducible exact move_store_l3 fun _ _ => ⟨⟩
      | with_reducible exact move_store_t1 fun _ _ => ⟨⟩
      | with_reducible exact move_store_t2 fun _ _ => ⟨⟩
      | split

set_option maxHeartbeats 0 in
/-- Parts 271 to 274 of the body. -/
theorem kernel_parts_271 :
    (∀ (arg2 : BitVec 32) (v7030 : FVec F S192x128 .fp8e4m3) (v7032 : FVec F S128x128 .fp8e4m3) (v7033 : FVec F S64x128 .fp8e4m3) (c16_i32_5455 : BitVec 32), Moves defs 𝒱 (c : Thread nD τ) E (St c R i) Any (R.app (k0_part271 (F := F) g) arg2 v7030 v7032 v7033 c16_i32_5455)) ∧
    (∀ (arg0 : BitVec 32) (v4637 : FVec F S1x128 .f32) (v7067 : Vec F S720x128 .f32) (cst_5477 : F .f32), Moves defs 𝒱 (c : Thread nD τ) E (St c R i) Any (R.app (k0_part272 (F := F) g) arg0 v4637 v7067 cst_5477)) ∧
    (∀ (v7105 : IVec S1x128 32) (c64_i32_5487 : BitVec 32) (v7107 v7114 : IVec S1x128 32), Moves defs 𝒱 (c : Thread nD τ) E (St c R i) Any (R.app (k0_part273 (F := F) g) v7105 c64_i32_5487 v7107 v7114)) ∧
    (∀ (arg1 arg2 : BitVec 32) (v7102 : FVec F S2x128 .f32) (v7105 v7129 : IVec S1x128 32) (v7155 : BitVec 32) (v7157 : IVec S1x128 32) (v7159 : IVec S1x128 1), Moves defs 𝒱 (c : Thread nD τ) E (St c R i) Any (R.app (k0_part274 (F := F) g) arg1 arg2 v7102 v7105 v7129 v7155 v7157 v7159)) := by
  refine ⟨?_, ?_, ?_, ?_⟩ <;> intros <;> unfold Refs.app <;>
    (first
      | (rw [k0_part271_eq_skeleton]; unfold k0_part271_skel)
      | (rw [k0_part272_eq_skeleton]; unfold k0_part272_skel)
      | (rw [k0_part273_eq_skeleton]; unfold k0_part273_skel)
      | (rw [k0_part274_eq_skeleton]; unfold k0_part274_skel)) <;>
    repeat' first
      | with_reducible exact move_ret
      | with_reducible refine move_bind ?_ fun _ => ?_
      | with_reducible exact move_load_grid
      | with_reducible exact move_load_l2
      | with_reducible exact move_load_t3
      | with_reducible exact move_store_t3 fun _ _ => ⟨⟩
      | exact move_smem_temp
      | split

end Cert.Kernel.Own

end
-- ==== Proof.KernelBody.lean ====
/-
  The kernel body runs from any contents of the buffers.
-/
module

public import proofs.«01_k».proof.Proof.KernelRun1
public import proofs.«01_k».proof.Proof.KernelRun2
public import proofs.«01_k».proof.Proof.KernelRun3
public import proofs.«01_k».proof.Proof.KernelRun4
public import proofs.«01_k».proof.Proof.KernelRun5
public import proofs.«01_k».proof.Proof.KernelRun6

@[expose] public section

set_option maxRecDepth 65536

noncomputable section

namespace Cert.Kernel.Own

open Idealize.ShloMosaic Idealize.ShloMosaic.TcCoe Idealize.SL Idealize.SL.Sem
open Cert.Steps Cert.Kernel.Gen

variable {F : FTy → Type} [FloatOps F]
variable (defs : Defs nD τ sig (Elt F) Λ₀) (𝒱 : Variants) (c : Dev nD) (E : Set ℕ) (R : Refs) (i : Ins F) (g : grid0.Coords)

set_option maxHeartbeats 0 in
/-- The part that writes out the pooled levels. -/
theorem kernel_part_45 :
    Moves defs 𝒱 (c : Thread nD τ) E (St c R i) Any (R.app (k0_part45 (F := F) g)) := by
  obtain ⟨p1, p2, p3, p4, p5, p6, p7, p8, p9, p10, p11, p12, p13, p14, p15⟩ := kernel_parts_1 defs 𝒱 c E R i g
  obtain ⟨p16, p17, p18, p19, p20, p21, p22, p23, p24, p25, p26, p27, p28, p29, p30⟩ := kernel_parts_16 defs 𝒱 c E R i g
  obtain ⟨p31, p32, p33, p34, p35, p36, p37, p38, p39, p40, p41, p42, p43, p44⟩ := kernel_parts_31 defs 𝒱 c E R i g
  unfold Refs.app
  rw [k0_part45_eq_skeleton]; unfold k0_part45_skel
  with_reducible refine move_bind (p1) fun _ => ?_
  with_reducible refine move_bind (p2 _) fun _ => ?_
  with_reducible refine move_bind (p3) fun _ => ?_
  with_reducible refine move_bind (p4 _) fun _ => ?_
  with_reducible refine move_bind (p5) fun _ => ?_
  with_reducible refine move_bind (p6 _) fun _ => ?_
  with_reducible refine move_bind (p7) fun _ => ?_
  with_reducible refine move_bind (p8 _) fun _ => ?_
  with_reducible refine move_bind (p9) fun _ => ?_
  with_reducible refine move_bind (p10 _) fun _ => ?_
  with_reducible refine move_bind (p11) fun _ => ?_
  with_reducible refine move_bind (p12 _) fun _ => ?_
  with_reducible refine move_bind (p13 _) fun _ => ?_
  with_reducible refine move_bind (p14 _) fun _ => ?_
  with_reducible refine move_bind (p15 _) fun _ => ?_
  with_reducible refine move_bind (p16 _) fun _ => ?_
  with_reducible refine move_bind (p17 _) fun _ => ?_
  with_reducible refine move_bind (p18 _) fun _ => ?_
  with_reducible refine move_bind (p19 _) fun _ => ?_
  with_reducible refine move_bind (p20 _) fun _ => ?_
  with_reducible refine move_bind (p21 _) fun _ => ?_
  with_reducible refine move_bind (p22 _) fun _ => ?_
  with_reducible refine move_bind (p23 _) fun _ => ?_
  with_reducible refine move_bind (p24 _) fun _ => ?_
  with_reducible refine move_bind (p25 _) fun _ => ?_
  with_reducible refine move_bind (p26 _) fun _ => ?_
  with_reducible refine move_bind (p27 _) fun _ => ?_
  with_reducible refine move_bind (p28 _) fun _ => ?_
  with_reducible refine move_bind (p29) fun _ => ?_
  with_reducible refine move_bind (p30 _) fun ⟨_, _⟩ => ?_
  with_reducible refine move_bind (p31 _ _) fun _ => ?_
  with_reducible refine move_bind (p32 _) fun _ => ?_
  with_reducible refine move_bind (p33 _) fun ⟨_, _, _, _⟩ => ?_
  with_reducible refine move_bind (p34 _ _ _ _) fun ⟨_, _, _, _⟩ => ?_
  with_reducible refine move_bind (p35 _ _ _ _) fun ⟨_, _, _, _⟩ => ?_
  with_reducible refine move_bind (p36 _ _ _ _) fun ⟨_, _, _, _⟩ => ?_
  with_reducible refine move_bind (p37 _ _ _ _) fun ⟨_, _, _⟩ => ?_
  with_reducible refine move_bind (p38 _ _ _) fun ⟨_, _, _⟩ => ?_
  with_reducible refine move_bind (p39 _ _ _) fun _ => ?_
  with_reducible refine move_bind (p40) fun _ => ?_
  with_reducible refine move_bind (p41 _) fun ⟨_, _, _, _⟩ => ?_
  with_reducible refine move_bind (p42 _ _ _ _) fun ⟨_, _, _, _⟩ => ?_
  with_reducible refine move_bind (p43 _ _ _ _) fun ⟨_, _, _⟩ => ?_
  with_reducible refine move_bind (p44 _ _ _) fun _ => ?_
  with_reducible refine move_bind move_load_t3 fun _ => ?_
  with_reducible exact move_ret

set_option maxHeartbeats 0 in
/-- Part 275 of the body, which is made of smaller ones. -/
theorem kernel_part_275 :
    Moves defs 𝒱 (c : Thread nD τ) E (St c R i) Any (R.app (k0_part275 (F := F) g)) := by
  obtain ⟨p46, p47, p48, p49, p50, p51, p52, p53, p54, p55, p56, p57, p58, p59, p60⟩ := kernel_parts_46 defs 𝒱 c E R i g
  obtain ⟨p61, p62, p63, p64, p65, p66, p67, p68, p69, p70, p71, p72, p73, p74, p75⟩ := kernel_parts_61 defs 𝒱 c E R i g
  obtain ⟨p76, p77, p78, p79, p80, p81, p82, p83, p84, p85, p86, p87, p88, p89, p90⟩ := kernel_parts_76 defs 𝒱 c E R i g
  obtain ⟨p91, p92, p93, p94, p95, p96, p97, p98, p99, p100, p101, p102, p103, p104, p105⟩ := kernel_parts_91 defs 𝒱 c E R i g
  unfold Refs.app
  rw [k0_part275_eq_skeleton]; unfold k0_part275_skel
  with_reducible refine move_bind (p46) fun ⟨_, _, _, _, _, _, _⟩ => ?_
  with_reducible refine move_bind (p47 _ _) fun ⟨_, _, _, _, _⟩ => ?_
  with_reducible refine move_bind (p48 _ _ _ _ _ _) fun ⟨_, _, _, _⟩ => ?_
  with_reducible refine move_bind (p49 _ _ _ _ _) fun ⟨_, _⟩ => ?_
  with_reducible refine move_bind (p50 _ _ _) fun ⟨_, _⟩ => ?_
  with_reducible refine move_bind (p51 _ _) fun ⟨_, _, _, _⟩ => ?_
  with_reducible refine move_bind (p52 _ _ _ _) fun ⟨_, _, _, _, _⟩ => ?_
  with_reducible refine move_bind (p53 _ _ _ _ _ _) fun ⟨_, _, _, _⟩ => ?_
  with_reducible refine move_bind (p54 _ _ _ _ _) fun ⟨_, _⟩ => ?_
  with_reducible refine move_bind (p55 _ _ _) fun ⟨_, _⟩ => ?_
  with_reducible refine move_bind (p56 _ _) fun ⟨_, _, _, _⟩ => ?_
  with_reducible refine move_bind (p57 _ _ _ _) fun ⟨_, _, _, _, _⟩ => ?_
  with_reducible refine move_bind (p58 _ _ _ _ _ _) fun ⟨_, _, _, _⟩ => ?_
  with_reducible refine move_bind (p59 _ _ _ _ _) fun ⟨_, _⟩ => ?_
  with_reducible refine move_bind (p60 _ _ _) fun ⟨_, _⟩ => ?_
  with_reducible refine move_bind (p61 _ _) fun ⟨_, _, _, _⟩ => ?_
  with_reducible refine move_bind (p62 _ _ _ _) fun ⟨_, _, _, _, _⟩ => ?_
  with_reducible refine move_bind (p63 _ _ _ _ _ _) fun ⟨_, _, _, _⟩ => ?_
  with_reducible refine move_bind (p64 _ _ _ _ _) fun ⟨_, _⟩ => ?_
  with_reducible refine move_bind (p65 _ _ _) fun ⟨_, _⟩ => ?_
  with_reducible refine move_bind (p66 _ _) fun ⟨_, _, _, _⟩ => ?_
  with_reducible refine move_bind (p67 _ _ _ _) fun ⟨_, _, _, _, _⟩ => ?_
  with_reducible refine move_bind (p68 _ _ _ _ _ _) fun ⟨_, _, _, _⟩ => ?_
  with_reducible refine move_bind (p69 _ _ _ _ _) fun ⟨_, _⟩ => ?_
  with_reducible refine move_bind (p70 _ _ _) fun ⟨_, _⟩ => ?_
  with_reducible refine move_bind (p71 _ _) fun ⟨_, _, _, _⟩ => ?_
  with_reducible refine move_bind (p72 _ _ _ _) fun ⟨_, _, _, _, _⟩ => ?_
  with_reducible refine move_bind (p73 _ _ _ _ _ _) fun ⟨_, _, _, _⟩ => ?_
  with_reducible refine move_bind (p74 _ _ _ _ _) fun ⟨_, _⟩ => ?_
  with_reducible refine move_bind (p75 _ _ _) fun ⟨_, _⟩ => ?_
  with_reducible refine move_bind (p76 _ _) fun ⟨_, _, _, _⟩ => ?_
  with_reducible refine move_bind (p77 _ _ _ _) fun ⟨_, _, _, _, _⟩ => ?_
  with_reducible refine move_bind (p78 _ _ _ _ _ _) fun ⟨_, _, _, _⟩ => ?_
  with_reducible refine move_bind (p79 _ _ _ _ _) fun ⟨_, _⟩ => ?_
  with_reducible refine move_bind (p80 _ _ _) fun ⟨_, _⟩ => ?_
  with_reducible refine move_bind (p81 _ _) fun ⟨_, _, _, _⟩ => ?_
  with_reducible refine move_bind (p82 _ _ _ _) fun ⟨_, _, _, _, _⟩ => ?_
  with_reducible refine move_bind (p83 _ _ _ _ _ _) fun ⟨_, _, _, _⟩ => ?_
  with_reducible refine move_bind (p84 _ _ _ _ _) fun ⟨_, _⟩ => ?_
  with_reducible refine move_bind (p85 _ _ _) fun ⟨_, _⟩ => ?_
  with_reducible refine move_bind (p86 _ _) fun ⟨_, _, _, _⟩ => ?_
  with_reducible refine move_bind (p87 _ _ _ _) fun ⟨_, _, _, _, _⟩ => ?_
  with_reducible refine move_bind (p88 _ _ _ _ _ _) fun ⟨_, _, _, _⟩ => ?_
  with_reducible refine move_bind (p89 _ _ _ _ _) fun ⟨_, _⟩ => ?_
  with_reducible refine move_bind (p90 _ _ _) fun ⟨_, _⟩ => ?_
  with_reducible refine move_bind (p91 _ _) fun ⟨_, _, _, _⟩ => ?_
  with_reducible refine move_bind (p92 _ _ _ _) fun ⟨_, _, _, _, _⟩ => ?_
  with_reducible refine move_bind (p93 _ _ _ _ _ _) fun ⟨_, _, _, _⟩ => ?_
  with_reducible refine move_bind (p94 _ _ _ _ _) fun ⟨_, _⟩ => ?_
  with_reducible refine move_bind (p95 _ _ _) fun ⟨_, _⟩ => ?_
  with_reducible refine move_bind (p96 _ _) fun ⟨_, _, _, _⟩ => ?_
  with_reducible refine move_bind (p97 _ _ _ _) fun ⟨_, _, _, _, _⟩ => ?_
  with_reducible refine move_bind (p98 _ _ _ _ _ _) fun ⟨_, _, _, _⟩ => ?_
  with_reducible refine move_bind (p99 _ _ _ _ _) fun ⟨_, _⟩ => ?_
  with_reducible refine move_bind (p100 _ _ _) fun ⟨_, _⟩ => ?_
  with_reducible refine move_bind (p101 _ _) fun ⟨_, _, _, _⟩ => ?_
  with_reducible refine move_bind (p102 _ _ _ _) fun ⟨_, _, _, _, _⟩ => ?_
  with_reducible refine move_bind (p103 _ _ _ _ _ _) fun ⟨_, _, _, _⟩ => ?_
  with_reducible refine move_bind (p104 _ _ _ _ _) fun ⟨_, _⟩ => ?_
  with_reducible refine move_bind (p105 _ _ _) fun ⟨_, _⟩ => ?_
  with_reducible exact move_ret

set_option maxHeartbeats 0 in
/-- Part 276 of the body, which is made of smaller ones. -/
theorem kernel_part_276 :
    ∀ (v12 : FVec F S256x256 .fp8e4m3) (v1809 v1832 : FVec F S8x128 .f32), Moves defs 𝒱 (c : Thread nD τ) E (St c R i) Any (R.app (k0_part276 (F := F) g) v12 v1809 v1832) := by
  obtain ⟨p106, p107, p108, p109, p110, p111, p112, p113, p114, p115, p116, p117, p118, p119, p120⟩ := kernel_parts_106 defs 𝒱 c E R i g
  obtain ⟨p121, p122, p123, p124, p125, p126, p127, p128, p129, p130, p131, p132, p133, p134, p135⟩ := kernel_parts_121 defs 𝒱 c E R i g
  obtain ⟨p136, p137, p138, p139, p140, p141, p142, p143, p144, p145, p146, p147, p148, p149, p150⟩ := kernel_parts_136 defs 𝒱 c E R i g
  obtain ⟨p151, p152, p153, p154, p155, p156, p157, p158, p159, p160, p161, p162, p163, p164, p165⟩ := kernel_parts_151 defs 𝒱 c E R i g
  intros
  unfold Refs.app
  rw [k0_part276_eq_skeleton]; unfold k0_part276_skel
  with_reducible refine move_bind (p106 _ _) fun ⟨_, _, _, _⟩ => ?_
  with_reducible refine move_bind (p107 _ _ _ _) fun ⟨_, _, _, _, _⟩ => ?_
  with_reducible refine move_bind (p108 _ _ _ _ _ _) fun ⟨_, _, _, _⟩ => ?_
  with_reducible refine move_bind (p109 _ _ _ _ _) fun ⟨_, _⟩ => ?_
  with_reducible refine move_bind (p110 _ _ _) fun ⟨_, _⟩ => ?_
  with_reducible refine move_bind (p111 _ _) fun ⟨_, _, _, _⟩ => ?_
  with_reducible refine move_bind (p112 _ _ _ _) fun ⟨_, _, _, _, _⟩ => ?_
  with_reducible refine move_bind (p113 _ _ _ _ _) fun ⟨_, _, _, _⟩ => ?_
  with_reducible refine move_bind (p114 _ _) fun ⟨_, _⟩ => ?_
  with_reducible refine move_bind (p115 _ _ _) fun _ => ?_
  with_reducible refine move_bind (p116 _ _) fun _ => ?_
  with_reducible refine move_bind (p117 _ _) fun _ => ?_
  with_reducible refine move_bind (p118 _ _) fun ⟨_, _⟩ => ?_
  with_reducible refine move_bind (p119 _ _ _) fun _ => ?_
  with_reducible refine move_bind (p120 _ _) fun ⟨_, _⟩ => ?_
  with_reducible refine move_bind (p121 _ _ _) fun _ => ?_
  with_reducible refine move_bind (p122 _) fun ⟨_, _⟩ => ?_
  with_reducible refine move_bind (p123 _ _ _) fun _ => ?_
  with_reducible refine move_bind (p124 _ _) fun ⟨_, _⟩ => ?_
  with_reducible refine move_bind (p125 _ _ _) fun ⟨_, _⟩ => ?_
  with_reducible refine move_bind (p126 _ _ _) fun _ => ?_
  with_reducible refine move_bind (p127 _ _) fun ⟨_, _⟩ => ?_
  with_reducible refine move_bind (p128 _ _ _) fun _ => ?_
  with_reducible refine move_bind (p129 _ _) fun _ => ?_
  with_reducible refine move_bind (p130 _ _) fun _ => ?_
  with_reducible refine move_bind (p131 _ _) fun ⟨_, _⟩ => ?_
  with_reducible refine move_bind (p132 _ _ _) fun _ => ?_
  with_reducible refine move_bind (p133 _ _) fun ⟨_, _⟩ => ?_
  with_reducible refine move_bind (p134 _ _ _) fun _ => ?_
  with_reducible refine move_bind (p135 _) fun ⟨_, _⟩ => ?_
  with_reducible refine move_bind (p136 _ _ _) fun _ => ?_
  with_reducible refine move_bind (p137 _ _) fun ⟨_, _⟩ => ?_
  with_reducible refine move_bind (p138 _ _ _) fun ⟨_, _⟩ => ?_
  with_reducible refine move_bind (p139 _ _ _) fun _ => ?_
  with_reducible refine move_bind (p140 _ _) fun ⟨_, _⟩ => ?_
  with_reducible refine move_bind (p141 _ _ _) fun _ => ?_
  with_reducible refine move_bind (p142 _ _) fun _ => ?_
  with_reducible refine move_bind (p143 _ _) fun _ => ?_
  with_reducible refine move_bind (p144 _ _) fun ⟨_, _⟩ => ?_
  with_reducible refine move_bind (p145 _ _ _) fun _ => ?_
  with_reducible refine move_bind (p146 _ _) fun ⟨_, _⟩ => ?_
  with_reducible refine move_bind (p147 _ _ _) fun _ => ?_
  with_reducible refine move_bind (p148 _) fun ⟨_, _⟩ => ?_
  with_reducible refine move_bind (p149 _ _ _) fun _ => ?_
  with_reducible refine move_bind (p150 _ _) fun ⟨_, _⟩ => ?_
  with_reducible refine move_bind (p151 _ _ _) fun ⟨_, _⟩ => ?_
  with_reducible refine move_bind (p152 _ _ _) fun _ => ?_
  with_reducible refine move_bind (p153 _ _) fun ⟨_, _⟩ => ?_
  with_reducible refine move_bind (p154 _ _ _) fun _ => ?_
  with_reducible refine move_bind (p155 _ _) fun _ => ?_
  with_reducible refine move_bind (p156 _ _) fun _ => ?_
  with_reducible refine move_bind (p157 _ _) fun ⟨_, _⟩ => ?_
  with_reducible refine move_bind (p158 _ _ _) fun _ => ?_
  with_reducible refine move_bind (p159 _ _) fun ⟨_, _⟩ => ?_
  with_reducible refine move_bind (p160 _ _ _) fun _ => ?_
  with_reducible refine move_bind (p161 _) fun ⟨_, _⟩ => ?_
  with_reducible refine move_bind (p162 _ _ _) fun _ => ?_
  with_reducible refine move_bind (p163 _ _) fun ⟨_, _⟩ => ?_
  with_reducible refine move_bind (p164 _ _ _) fun ⟨_, _⟩ => ?_
  with_reducible refine move_bind (p165 _ _ _) fun _ => ?_
  with_reducible exact move_ret

set_option maxHeartbeats 0 in
/-- Part 277 of the body, which is made of smaller ones. -/
theorem kernel_part_277 :
    ∀ (arg0 arg1 arg2 : BitVec 32) (v2036 : FVec F S8x128 .f32) (v2054 v2061 v2062 : FVec F S1x128 .f32) (v3679 : FVec F S16x4x128 .fp8e4m3), Moves defs 𝒱 (c : Thread nD τ) E (St c R i) Any (R.app (k0_part277 (F := F) g) arg0 arg1 arg2 v2036 v2054 v2061 v2062 v3679) := by
  obtain ⟨p166, p167, p168, p169, p170, p171, p172, p173, p174, p175, p176, p177, p178, p179, p180⟩ := kernel_parts_166 defs 𝒱 c E R i g
  obtain ⟨p181, p182, p183, p184, p185, p186, p187, p188, p189, p190, p191, p192, p193, p194, p195⟩ := kernel_parts_181 defs 𝒱 c E R i g
  obtain ⟨p196, p197, p198, p199, p200, p201, p202, p203, p204, p205, p206, p207, p208, p209, p210⟩ := kernel_parts_196 defs 𝒱 c E R i g
  obtain ⟨p211, p212, p213, p214, p215, p216, p217, p218, p219, p220, p221, p222, p223, p224, p225⟩ := kernel_parts_211 defs 𝒱 c E R i g
  intros
  unfold Refs.app
  rw [k0_part277_eq_skeleton]; unfold k0_part277_skel
  with_reducible refine move_bind (p166 _ _) fun ⟨_, _⟩ => ?_
  with_reducible refine move_bind (p167 _ _ _) fun _ => ?_
  with_reducible refine move_bind (p168 _ _) fun _ => ?_
  with_reducible refine move_bind (p169 _ _) fun _ => ?_
  with_reducible refine move_bind (p170 _ _) fun ⟨_, _⟩ => ?_
  with_reducible refine move_bind (p171 _ _ _) fun _ => ?_
  with_reducible refine move_bind (p172 _ _ _) fun ⟨_, _, _⟩ => ?_
  with_reducible refine move_bind (p173 _ _ _) fun _ => ?_
  with_reducible refine move_bind (p174 _ _ _) fun _ => ?_
  with_reducible refine move_bind (p175 _ _ _) fun _ => ?_
  with_reducible refine move_bind (p176 _ _ _) fun _ => ?_
  with_reducible refine move_bind (p177 _) fun _ => ?_
  with_reducible refine move_bind (p178 _) fun _ => ?_
  with_reducible refine move_bind (p179 _) fun ⟨_, _⟩ => ?_
  with_reducible refine move_bind (p180 _ _) fun _ => ?_
  with_reducible refine move_bind (p181 _) fun _ => ?_
  with_reducible refine move_bind (p182 _ _) fun ⟨_, _, _⟩ => ?_
  with_reducible refine move_bind (p183 _ _ _) fun ⟨_, _⟩ => ?_
  with_reducible refine move_bind (p184 _ _ _ _) fun ⟨_, _⟩ => ?_
  with_reducible refine move_bind (p185 _ _ _ _) fun ⟨_, _⟩ => ?_
  with_reducible refine move_bind (p186 _ _ _ _) fun _ => ?_
  with_reducible refine move_bind (p187 _) fun _ => ?_
  with_reducible refine move_bind (p188 _) fun _ => ?_
  with_reducible refine move_bind (p189 _ _) fun ⟨_, _, _, _, _⟩ => ?_
  with_reducible refine move_bind (p190 _ _ _ _ _ _) fun ⟨_, _, _⟩ => ?_
  with_reducible refine move_bind (p191 _ _ _ _) fun ⟨_, _, _, _, _, _, _⟩ => ?_
  with_reducible refine move_bind (p192 _ _ _ _ _ _) fun ⟨_, _, _, _, _, _⟩ => ?_
  with_reducible refine move_bind (p193 _ _ _ _ _ _ _ _ _ _) fun ⟨_, _, _, _, _⟩ => ?_
  with_reducible refine move_bind (p194 _ _ _ _ _ _ _ _ _ _) fun ⟨_, _, _, _, _, _⟩ => ?_
  with_reducible refine move_bind (p195 _ _ _ _) fun ⟨_, _⟩ => ?_
  with_reducible refine move_bind (p196 _ _ _) fun _ => ?_
  with_reducible refine move_bind (p197 _ _) fun ⟨_, _, _⟩ => ?_
  with_reducible refine move_bind (p198 _ _ _ _) fun _ => ?_
  with_reducible refine move_bind (p199 _ _) fun ⟨_, _⟩ => ?_
  with_reducible refine move_bind (p200 _ _ _) fun _ => ?_
  with_reducible refine move_bind (p201 _ _) fun _ => ?_
  with_reducible refine move_bind (p202 _ _) fun ⟨_, _⟩ => ?_
  with_reducible refine move_bind (p203 _ _ _) fun ⟨_, _⟩ => ?_
  with_reducible refine move_bind (p204 _ _ _) fun _ => ?_
  with_reducible refine move_bind (p205 _) fun ⟨_, _⟩ => ?_
  with_reducible refine move_bind (p206 _ _ _) fun _ => ?_
  with_reducible refine move_bind (p207 _) fun ⟨_, _, _⟩ => ?_
  with_reducible refine move_bind (p208 _ _ _ _) fun ⟨_, _⟩ => ?_
  with_reducible refine move_bind (p209 _ _ _) fun _ => ?_
  with_reducible refine move_bind (p210 _ _) fun ⟨_, _, _⟩ => ?_
  with_reducible refine move_bind (p211 _ _ _ _) fun _ => ?_
  with_reducible refine move_bind (p212 _ _) fun ⟨_, _⟩ => ?_
  with_reducible refine move_bind (p213 _ _ _) fun _ => ?_
  with_reducible refine move_bind (p214 _ _) fun _ => ?_
  with_reducible refine move_bind (p215 _ _) fun ⟨_, _⟩ => ?_
  with_reducible refine move_bind (p216 _ _ _) fun ⟨_, _⟩ => ?_
  with_reducible refine move_bind (p217 _ _ _) fun _ => ?_
  with_reducible refine move_bind (p218 _) fun ⟨_, _⟩ => ?_
  with_reducible refine move_bind (p219 _ _ _) fun _ => ?_
  with_reducible refine move_bind (p220 _) fun ⟨_, _, _⟩ => ?_
  with_reducible refine move_bind (p221 _ _ _ _) fun ⟨_, _⟩ => ?_
  with_reducible refine move_bind (p222 _ _ _) fun _ => ?_
  with_reducible refine move_bind (p223 _ _) fun ⟨_, _, _⟩ => ?_
  with_reducible refine move_bind (p224 _ _ _ _) fun _ => ?_
  with_reducible refine move_bind (p225 _ _) fun ⟨_, _⟩ => ?_
  with_reducible exact move_ret

set_option maxHeartbeats 0 in
/-- Part 278 of the body, which is made of smaller ones. -/
theorem kernel_part_278 :
    ∀ (arg0 arg1 arg2 : BitVec 32) (v4637 v4644 v4645 : FVec F S1x128 .f32) (v5611 v5612 : FVec F S128x128 .f32), Moves defs 𝒱 (c : Thread nD τ) E (St c R i) Any (R.app (k0_part278 (F := F) g) arg0 arg1 arg2 v4637 v4644 v4645 v5611 v5612) := by
  obtain ⟨p226, p227, p228, p229, p230, p231, p232, p233, p234, p235, p236, p237, p238, p239, p240⟩ := kernel_parts_226 defs 𝒱 c E R i g
  obtain ⟨p241, p242, p243, p244, p245, p246, p247, p248, p249, p250, p251, p252, p253, p254, p255⟩ := kernel_parts_241 defs 𝒱 c E R i g
  obtain ⟨p256, p257, p258, p259, p260, p261, p262, p263, p264, p265, p266, p267, p268, p269, p270⟩ := kernel_parts_256 defs 𝒱 c E R i g
  obtain ⟨p271, p272, p273, p274⟩ := kernel_parts_271 defs 𝒱 c E R i g
  intros
  unfold Refs.app
  rw [k0_part278_eq_skeleton]; unfold k0_part278_skel
  with_reducible refine move_bind (p226 _ _ _) fun _ => ?_
  with_reducible refine move_bind (p227 _ _) fun _ => ?_
  with_reducible refine move_bind (p228 _ _) fun ⟨_, _⟩ => ?_
  with_reducible refine move_bind (p229 _ _ _) fun ⟨_, _⟩ => ?_
  with_reducible refine move_bind (p230 _ _ _) fun _ => ?_
  with_reducible refine move_bind (p231 _) fun ⟨_, _⟩ => ?_
  with_reducible refine move_bind (p232 _ _ _) fun _ => ?_
  with_reducible refine move_bind (p233 _) fun ⟨_, _, _⟩ => ?_
  with_reducible refine move_bind (p234 _ _ _ _) fun ⟨_, _⟩ => ?_
  with_reducible refine move_bind (p235 _ _ _) fun _ => ?_
  with_reducible refine move_bind (p236 _ _) fun ⟨_, _, _⟩ => ?_
  with_reducible refine move_bind (p237 _ _ _ _) fun _ => ?_
  with_reducible refine move_bind (p238 _ _) fun ⟨_, _⟩ => ?_
  with_reducible refine move_bind (p239 _ _ _) fun _ => ?_
  with_reducible refine move_bind (p240 _ _) fun _ => ?_
  with_reducible refine move_bind (p241 _ _) fun ⟨_, _⟩ => ?_
  with_reducible refine move_bind (p242 _ _ _) fun ⟨_, _⟩ => ?_
  with_reducible refine move_bind (p243 _ _ _) fun _ => ?_
  with_reducible refine move_bind (p244 _) fun ⟨_, _⟩ => ?_
  with_reducible refine move_bind (p245 _ _ _) fun _ => ?_
  with_reducible refine move_bind (p246 _) fun ⟨_, _, _⟩ => ?_
  with_reducible refine move_bind (p247 _ _ _ _) fun ⟨_, _⟩ => ?_
  with_reducible refine move_bind (p248 _ _ _) fun _ => ?_
  with_reducible refine move_bind (p249 _ _) fun ⟨_, _, _⟩ => ?_
  with_reducible refine move_bind (p250 _ _ _ _) fun _ => ?_
  with_reducible refine move_bind (p251 _ _) fun ⟨_, _⟩ => ?_
  with_reducible refine move_bind (p252 _ _ _) fun _ => ?_
  with_reducible refine move_bind (p253 _ _ _) fun ⟨_, _, _, _⟩ => ?_
  with_reducible refine move_bind (p254 _ _ _ _) fun ⟨_, _⟩ => ?_
  with_reducible refine move_bind (p255 _ _ _ _) fun ⟨_, _⟩ => ?_
  with_reducible refine move_bind (p256 _ _ _ _) fun _ => ?_
  with_reducible refine move_bind (p257 _ _ _) fun _ => ?_
  with_reducible refine move_bind (p258 _) fun _ => ?_
  with_reducible refine move_bind (p259 _) fun _ => ?_
  with_reducible refine move_bind (p260) fun ⟨_, _⟩ => ?_
  with_reducible refine move_bind (p261 _ _) fun _ => ?_
  with_reducible refine move_bind (p262) fun ⟨_, _⟩ => ?_
  with_reducible refine move_bind (p263 _ _ _) fun ⟨_, _, _, _, _⟩ => ?_
  with_reducible refine move_bind (p264 _ _ _ _ _) fun _ => ?_
  with_reducible refine move_bind (p265 _ _ _) fun _ => ?_
  with_reducible refine move_bind (p266 _ _ _) fun ⟨_, _, _⟩ => ?_
  with_reducible refine move_bind (p267 _ _ _ _ _) fun _ => ?_
  with_reducible refine move_bind (p268) fun _ => ?_
  with_reducible refine move_bind (p269) fun ⟨_, _⟩ => ?_
  with_reducible refine move_bind (p270 _ _ _) fun ⟨_, _, _, _, _⟩ => ?_
  with_reducible refine move_bind (p271 _ _ _ _ _) fun ⟨_, _⟩ => ?_
  with_reducible refine move_bind (p272 _ _ _ _) fun ⟨_, _, _, _, _⟩ => ?_
  with_reducible refine move_bind (p273 _ _ _ _) fun ⟨_, _, _, _⟩ => ?_
  with_reducible refine move_bind (p274 _ _ _ _ _ _ _ _) fun ⟨_, _, _, _, _⟩ => ?_
  with_reducible exact move_ret

set_option maxHeartbeats 0 in
/-- The whole body runs, from any contents of the buffers. -/
theorem kernel_body :
    (Moves defs 𝒱 (c : Thread nD τ) E (St c R i) Any (R.app (cc0_correlation (F := F) g))) := by
  have p45 := kernel_part_45 defs 𝒱 c E R i g
  have p275 := kernel_part_275 defs 𝒱 c E R i g
  have p276 := kernel_part_276 defs 𝒱 c E R i g
  have p277 := kernel_part_277 defs 𝒱 c E R i g
  have p278 := kernel_part_278 defs 𝒱 c E R i g
  unfold Refs.app
  rw [cc0_correlation_eq_skeleton]; unfold cc0_correlation_skel
  repeat' first
      | with_reducible exact move_ret
      | with_reducible refine move_bind ?_ fun _ => ?_
      | with_reducible exact p45
      | with_reducible exact p275
      | with_reducible exact p276 _ _ _
      | with_reducible exact p277 _ _ _ _ _ _ _ _
      | with_reducible exact p278 _ _ _ _ _ _ _ _
      | with_reducible exact move_load_o3
      | with_reducible exact move_load_st
      | with_reducible exact move_store_o3 fun _ _ => ⟨⟩
      | with_reducible exact move_store_st fun _ _ => ⟨⟩
      | split
      | refine Moves.ite (fun _ => ?_) fun _ => ?_

end Cert.Kernel.Own

end
-- ==== Proof.KernelFrame.lean ====
/-
  The launch of the kernel: it runs to the end, every argument unchanged.
-/
module

public import proofs.«01_k».proof.Proof.KernelBody
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Kernel.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Cert.Steps Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memrefs the body is called with at a grid point. -/
def refsAt (t : Fin cfg0.N) : Refs where
  temp := st0_0 t
  w_temp := hstage0_0 ((cfg0.slots t 0).cast nbuf0_0)
  q := st0_1 t
  w_q := hstage0_1 ((cfg0.slots t 1).cast nbuf0_1)
  qs := st0_2 t
  w_qs := hstage0_2 ((cfg0.slots t 2).cast nbuf0_2)
  k := st0_3 t
  w_k := hstage0_3 ((cfg0.slots t 3).cast nbuf0_3)
  ks := st0_4 t
  w_ks := hstage0_4 ((cfg0.slots t 4).cast nbuf0_4)
  grid := st0_5 t
  w_grid := hstage0_5 ((cfg0.slots t 5).cast nbuf0_5)
  o0 := st0_6 t
  w_o0 := hstage0_6 ((cfg0.slots t 6).cast nbuf0_6)
  o1 := st0_7 t
  w_o1 := hstage0_7 ((cfg0.slots t 7).cast nbuf0_7)
  o2 := st0_8 t
  w_o2 := hstage0_8 ((cfg0.slots t 8).cast nbuf0_8)
  o3 := st0_9 t
  w_o3 := hstage0_9 ((cfg0.slots t 9).cast nbuf0_9)
  st := st0_10 t
  w_st := hstage0_10 ((cfg0.slots t 10).cast nbuf0_10)
  x := Memref.whole cc0_scratch0
  w_x := Memref.isWhole_whole _
  l1 := Memref.whole cc0_scratch1
  w_l1 := Memref.isWhole_whole _
  v := Memref.whole cc0_scratch2
  w_v := Memref.isWhole_whole _
  l2 := Memref.whole cc0_scratch3
  w_l2 := Memref.isWhole_whole _
  h := Memref.whole cc0_scratch4
  w_h := Memref.isWhole_whole _
  l3 := Memref.whole cc0_scratch5
  w_l3 := Memref.isWhole_whole _
  t1 := Memref.whole cc0_scratch6
  w_t1 := Memref.isWhole_whole _
  t2 := Memref.whole cc0_scratch7
  w_t2 := Memref.isWhole_whole _
  t3 := Memref.whole cc0_scratch8
  w_t3 := Memref.isWhole_whole _

/-- The blocks of the inputs at a grid point. -/
def insAt (c : Dev nD) (t : Fin cfg0.N) : Ins F where
  temp := iblk m c 0 t
  q := iblk m c 1 t
  qs := iblk m c 2 t
  k := iblk m c 3 t
  ks := iblk m c 4 t
  grid := iblk m c 5 t

/-- The windows whose contents are not named. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true

/-- The proof data: every input's buffer stays at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed 6 t
    | ⟨7, _⟩ => Dat.unnamed 7 t
    | ⟨8, _⟩ => Dat.unnamed 8 t
    | ⟨9, _⟩ => Dat.unnamed 9 t
    | ⟨10, _⟩ => Dat.unnamed 10 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

/-- The scratch buffers, each at some contents. -/
def Scratch (c : Dev nD) : sProp 𝕄 :=
  iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X))

theorem scratch_eq (c : Dev nD) : (Pipeline.scopedRest (Ix := Unit) (Name := ℕ) (U := UR sig nD τ) (Lvl := ℕ) (Val := Elt F) spec0 c : sProp 𝕄) = Scratch c := by
  rw [scopedRest0_eq]
  unfold Scratch
  simp only [owns_whole]

/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).Φ t.succ = (dats m 0 c).Φ t.castSucc from rfl, show (dats m 0 c).Φ t.castSucc = Pipeline.ΦA spec0 c from rfl,
    show (dats m 0 c).owesAt () t.succ = (dats m 0 c).owesAt () t.castSucc from rfl,
    after_0, after_1, after_2, after_3, after_4, after_5]
  unfold Pipeline.ΦA
  rw [scratch_eq]
  unfold Scratch
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernel_body (defs₀ (F := F)) Variants.none c Set.univ (refsAt t) (insAt m c t) (grid0.coords t) ⟨d6, d7, d8, d9, d10, s0, s1, s2, s3, s4, s5, s6, s7, s8⟩ _)
  isplitl [H0 H1 H2 H3 H4 H5 H6 H7 H8 H9 H10 S0 S1 S2 S3 S4 S5 S6 S7 S8]
  · unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  iintro %a %Y %hY HS
  unfold St
  icases HS with ⟨H0, H1, H2, H3, H4, H5, H6, H7, H8, H9, H10, S0, S1, S2, S3, S4, S5, S6, S7, S8⟩
  isplitl [HP S0 S1 S2 S3 S4 S5 S6 S7 S8]
  · isplitl [S0 S1 S2 S3 S4 S5 S6 S7 S8]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      iexists _; iexact S8
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iexists _; iexact H10

theorem row_eq (t : Fin cfg0.N) :
    defs₀ (F := F) .tc cfg0.body (cfg0.bodyArgs t (cfg0.slots t)) = bodyAt0 t := by
  unfold defs₀; rw [Defs.onTc_tc]

/-- The body obligation of the pipeline. -/
theorem body_obligation  (c : Dev nD) :
    BodyObligationLoose (dats m 0 c) (defs₀ (F := F)) Variants.none () Set.univ fgt := fun t => by
  rw [bigSep_W0, bigSep_W0, row_eq]
  exact triple_restated (sound_body m c t) rfl .rfl fun _ => .rfl

set_option backward.isDefEq.respectTransparency.types false in
set_option maxHeartbeats 800000 in
/-- The run of the whole program. -/
theorem run_main  :
    θ_run defs (onTc (τ := τ) (main (F := F))) (s₀ m ρ) (fun r =>
      Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- Every argument ends as it was and no semaphore count is left over. -/
theorem frame  :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun _ h => ⟨fun c => ⟨
      (h.1.arr_in c 1 rfl).trans ((A_eq m c 1).trans (V_main_arg0 m c)),
      ((h.1 c).2 main_arg1 (Pipeline.mem_restRefs_of main_arg1 (by decide) (by decide))).trans (V_main_arg1 m c),
      (h.1.arr_in c 3 rfl).trans ((A_eq m c 3).trans (V_main_arg2 m c)),
      ((h.1 c).2 main_arg3 (Pipeline.mem_restRefs_of main_arg3 (by decide) (by decide))).trans (V_main_arg3 m c),
      (h.1.arr_in c 0 rfl).trans ((A_eq m c 0).trans (V_main_arg4 m c))⟩, h.2⟩) (run_main m ρ)

end Cert.Kernel.Own

end
-- ==== Proof.Own.lean ====
/-
  The buffers of the correlation kernel: the inputs' staging buffers, held at fixed contents, and the
  outputs' and scratch buffers, whose contents are the fields of a `State`. One lemma per buffer takes it
  out of the family, for a load (`see_*`) or a store (`lens_*`).
-/
module

public import proofs.«01_k».proof.Proof.Gen.KernelIdeal
public import proofs.«01_k».proof.Proof.Steps

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Steps

variable {F : FTy → Type} [FloatOps F]

local notation "𝕄" => MT nD τ sig Unit (Elt F) ℕ (UR sig nD τ) ℕ

/-- The memrefs the body is called with, each a whole buffer. -/
structure Refs where
  temp : Memref sig .tc .smem S3 .f32
  w_temp : temp.IsWhole
  q : Memref sig .tc .vmem S1x16x16x256 .fp8e4m3
  w_q : q.IsWhole
  qs : Memref sig .tc .vmem S1x1x1x1x256 .f32
  w_qs : qs.IsWhole
  k : Memref sig .tc .vmem S1x11520x256 .fp8e4m3
  w_k : k.IsWhole
  ks : Memref sig .tc .vmem S1x11520x128 .f32
  w_ks : ks.IsWhole
  grid : Memref sig .tc .vmem S8x720 .bf16
  w_grid : grid.IsWhole
  o0 : Memref sig .tc .vmem S1x16x2x90x8x128 .fp8e4m3
  w_o0 : o0.IsWhole
  o1 : Memref sig .tc .vmem S1x16x2880x80 .fp8e4m3
  w_o1 : o1.IsWhole
  o2 : Memref sig .tc .vmem S1x720x16x80 .fp8e4m3
  w_o2 : o2.IsWhole
  o3 : Memref sig .tc .vmem S1x180x16x80 .fp8e4m3
  w_o3 : o3.IsWhole
  st : Memref sig .tc .vmem S1x1x1x8x256 .f32
  w_st : st.IsWhole
  x : Memref sig .tc .vmem S2x11520x128 .f32
  w_x : x.IsWhole
  l1 : Memref sig .tc .vmem S2x2880x128 .f32
  w_l1 : l1.IsWhole
  v : Memref sig .tc .vmem S1440x128 .f32
  w_v : v.IsWhole
  l2 : Memref sig .tc .vmem S720x128 .f32
  w_l2 : l2.IsWhole
  h : Memref sig .tc .vmem S360x128 .f32
  w_h : h.IsWhole
  l3 : Memref sig .tc .vmem S192x128 .f32
  w_l3 : l3.IsWhole
  t1 : Memref sig .tc .vmem S6x1280x512 .fp8e4m3
  w_t1 : t1.IsWhole
  t2 : Memref sig .tc .vmem S6x1280x128 .fp8e4m3
  w_t2 : t2.IsWhole
  t3 : Memref sig .tc .vmem S2x1280x128 .fp8e4m3
  w_t3 : t3.IsWhole

/-- The contents of the input windows' buffers. -/
structure Ins (F : FTy → Type) where
  temp : Vec F S3 .f32
  q : Vec F S1x16x16x256 .fp8e4m3
  qs : Vec F S1x1x1x1x256 .f32
  k : Vec F S1x11520x256 .fp8e4m3
  ks : Vec F S1x11520x128 .f32
  grid : Vec F S8x720 .bf16

/-- The contents of the buffers the body writes. -/
structure State (F : FTy → Type) where
  o0 : Vec F S1x16x2x90x8x128 .fp8e4m3
  o1 : Vec F S1x16x2880x80 .fp8e4m3
  o2 : Vec F S1x720x16x80 .fp8e4m3
  o3 : Vec F S1x180x16x80 .fp8e4m3
  st : Vec F S1x1x1x8x256 .f32
  x : Vec F S2x11520x128 .f32
  l1 : Vec F S2x2880x128 .f32
  v : Vec F S1440x128 .f32
  l2 : Vec F S720x128 .f32
  h : Vec F S360x128 .f32
  l3 : Vec F S192x128 .f32
  t1 : Vec F S6x1280x512 .fp8e4m3
  t2 : Vec F S6x1280x128 .fp8e4m3
  t3 : Vec F S2x1280x128 .fp8e4m3

/-- A function of the body's memrefs, at these. -/
abbrev Refs.app.{u} {α : Sort u} (R : Refs) (f : ∀ (a0 : Memref sig .tc .smem S3 .f32) (h0 : a0.IsWhole) (a1 : Memref sig .tc .vmem S1x16x16x256 .fp8e4m3) (h1 : a1.IsWhole) (a2 : Memref sig .tc .vmem S1x1x1x1x256 .f32) (h2 : a2.IsWhole) (a3 : Memref sig .tc .vmem S1x11520x256 .fp8e4m3) (h3 : a3.IsWhole) (a4 : Memref sig .tc .vmem S1x11520x128 .f32) (h4 : a4.IsWhole) (a5 : Memref sig .tc .vmem S8x720 .bf16) (h5 : a5.IsWhole) (a6 : Memref sig .tc .vmem S1x16x2x90x8x128 .fp8e4m3) (h6 : a6.IsWhole) (a7 : Memref sig .tc .vmem S1x16x2880x80 .fp8e4m3) (h7 : a7.IsWhole) (a8 : Memref sig .tc .vmem S1x720x16x80 .fp8e4m3) (h8 : a8.IsWhole) (a9 : Memref sig .tc .vmem S1x180x16x80 .fp8e4m3) (h9 : a9.IsWhole) (a10 : Memref sig .tc .vmem S1x1x1x8x256 .f32) (h10 : a10.IsWhole) (a11 : Memref sig .tc .vmem S2x11520x128 .f32) (h11 : a11.IsWhole) (a12 : Memref sig .tc .vmem S2x2880x128 .f32) (h12 : a12.IsWhole) (a13 : Memref sig .tc .vmem S1440x128 .f32) (h13 : a13.IsWhole) (a14 : Memref sig .tc .vmem S720x128 .f32) (h14 : a14.IsWhole) (a15 : Memref sig .tc .vmem S360x128 .f32) (h15 : a15.IsWhole) (a16 : Memref sig .tc .vmem S192x128 .f32) (h16 : a16.IsWhole) (a17 : Memref sig .tc .vmem S6x1280x512 .fp8e4m3) (h17 : a17.IsWhole) (a18 : Memref sig .tc .vmem S6x1280x128 .fp8e4m3) (h18 : a18.IsWhole) (a19 : Memref sig .tc .vmem S2x1280x128 .fp8e4m3) (h19 : a19.IsWhole), α) : α :=
  f R.temp R.w_temp R.q R.w_q R.qs R.w_qs R.k R.w_k R.ks R.w_ks R.grid R.w_grid R.o0 R.w_o0 R.o1 R.w_o1 R.o2 R.w_o2 R.o3 R.w_o3 R.st R.w_st R.x R.w_x R.l1 R.w_l1 R.v R.w_v R.l2 R.w_l2 R.h R.w_h R.l3 R.w_l3 R.t1 R.w_t1 R.t2 R.w_t2 R.t3 R.w_t3

/-- Two states that agree on the scaled products and on the first result's block. -/
structure Same (X Y : State F) : Prop where
  x : Y.x = X.x
  o0 : Y.o0 = X.o0

instance : Std.Refl (Same (F := F)) := ⟨fun _ => ⟨rfl, rfl⟩⟩
instance : IsTrans (State F) Same := ⟨fun _ _ _ h h' => ⟨h'.1.trans h.1, h'.2.trans h.2⟩⟩

variable (c : Dev nD) (R : Refs) (i : Ins F)

/-- The body's buffers, the inputs' at `i` and the others' at `X`. -/
def St (X : State F) : sProp 𝕄 :=
  iprop(owns (c : Thread nD τ) R.temp fullShare i.temp ∗ owns (c : Thread nD τ) R.q fullShare i.q ∗ owns (c : Thread nD τ) R.qs fullShare i.qs ∗ owns (c : Thread nD τ) R.k fullShare i.k ∗ owns (c : Thread nD τ) R.ks fullShare i.ks ∗ owns (c : Thread nD τ) R.grid fullShare i.grid ∗ owns (c : Thread nD τ) R.o0 fullShare X.o0 ∗ owns (c : Thread nD τ) R.o1 fullShare X.o1 ∗ owns (c : Thread nD τ) R.o2 fullShare X.o2 ∗ owns (c : Thread nD τ) R.o3 fullShare X.o3 ∗ owns (c : Thread nD τ) R.st fullShare X.st ∗ owns (c : Thread nD τ) R.x fullShare X.x ∗ owns (c : Thread nD τ) R.l1 fullShare X.l1 ∗ owns (c : Thread nD τ) R.v fullShare X.v ∗ owns (c : Thread nD τ) R.l2 fullShare X.l2 ∗ owns (c : Thread nD τ) R.h fullShare X.h ∗ owns (c : Thread nD τ) R.l3 fullShare X.l3 ∗ owns (c : Thread nD τ) R.t1 fullShare X.t1 ∗ owns (c : Thread nD τ) R.t2 fullShare X.t2 ∗ owns (c : Thread nD τ) R.t3 fullShare X.t3)

theorem see_temp : Sees (c : Thread nD τ) (St c R i) R.temp (fun _ => i.temp) := .here

theorem see_q : Sees (c : Thread nD τ) (St c R i) R.q (fun _ => i.q) := .there (.here)

theorem see_qs : Sees (c : Thread nD τ) (St c R i) R.qs (fun _ => i.qs) := .there (.there (.here))

theorem see_k : Sees (c : Thread nD τ) (St c R i) R.k (fun _ => i.k) := .there (.there (.there (.here)))

theorem see_ks : Sees (c : Thread nD τ) (St c R i) R.ks (fun _ => i.ks) := .there (.there (.there (.there (.here))))

theorem see_grid : Sees (c : Thread nD τ) (St c R i) R.grid (fun _ => i.grid) := .there (.there (.there (.there (.there (.here)))))

theorem lens_o0 : Lens (c : Thread nD τ) (St c R i) R.o0 (fun X => X.o0) (fun X Y => { X with o0 := Y }) :=
  .there (.there (.there (.there (.there (.there (.here (fun _ _ => rfl) (fun _ _ => rfl)) (fun _ _ => rfl)) (fun _ _ => rfl)) (fun _ _ => rfl)) (fun _ _ => rfl)) (fun _ _ => rfl)) (fun _ _ => rfl)
theorem see_o0 : Sees (c : Thread nD τ) (St c R i) R.o0 (fun X => X.o0) := (lens_o0 c R i).sees fun _ => rfl

theorem lens_o1 : Lens (c : Thread nD τ) (St c R i) R.o1 (fun X => X.o1) (fun X Y => { X with o1 := Y }) :=
  .there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)
theorem see_o1 : Sees (c : Thread nD τ) (St c R i) R.o1 (fun X => X.o1) := (lens_o1 c R i).sees fun _ => rfl

theorem lens_o2 : Lens (c : Thread nD τ) (St c R i) R.o2 (fun X => X.o2) (fun X Y => { X with o2 := Y }) :=
  .there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)
theorem see_o2 : Sees (c : Thread nD τ) (St c R i) R.o2 (fun X => X.o2) := (lens_o2 c R i).sees fun _ => rfl

theorem lens_o3 : Lens (c : Thread nD τ) (St c R i) R.o3 (fun X => X.o3) (fun X Y => { X with o3 := Y }) :=
  .there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_o3 : Sees (c : Thread nD τ) (St c R i) R.o3 (fun X => X.o3) := (lens_o3 c R i).sees fun _ => rfl

theorem lens_st : Lens (c : Thread nD τ) (St c R i) R.st (fun X => X.st) (fun X Y => { X with st := Y }) :=
  .there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_st : Sees (c : Thread nD τ) (St c R i) R.st (fun X => X.st) := (lens_st c R i).sees fun _ => rfl

theorem lens_x : Lens (c : Thread nD τ) (St c R i) R.x (fun X => X.x) (fun X Y => { X with x := Y }) :=
  .there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_x : Sees (c : Thread nD τ) (St c R i) R.x (fun X => X.x) := (lens_x c R i).sees fun _ => rfl

theorem lens_l1 : Lens (c : Thread nD τ) (St c R i) R.l1 (fun X => X.l1) (fun X Y => { X with l1 := Y }) :=
  .there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_l1 : Sees (c : Thread nD τ) (St c R i) R.l1 (fun X => X.l1) := (lens_l1 c R i).sees fun _ => rfl

theorem lens_v : Lens (c : Thread nD τ) (St c R i) R.v (fun X => X.v) (fun X Y => { X with v := Y }) :=
  .there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_v : Sees (c : Thread nD τ) (St c R i) R.v (fun X => X.v) := (lens_v c R i).sees fun _ => rfl

theorem lens_l2 : Lens (c : Thread nD τ) (St c R i) R.l2 (fun X => X.l2) (fun X Y => { X with l2 := Y }) :=
  .there (.there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_l2 : Sees (c : Thread nD τ) (St c R i) R.l2 (fun X => X.l2) := (lens_l2 c R i).sees fun _ => rfl

theorem lens_h : Lens (c : Thread nD τ) (St c R i) R.h (fun X => X.h) (fun X Y => { X with h := Y }) :=
  .there (.there (.there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_h : Sees (c : Thread nD τ) (St c R i) R.h (fun X => X.h) := (lens_h c R i).sees fun _ => rfl

theorem lens_l3 : Lens (c : Thread nD τ) (St c R i) R.l3 (fun X => X.l3) (fun X Y => { X with l3 := Y }) :=
  .there (.there (.there (.there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_l3 : Sees (c : Thread nD τ) (St c R i) R.l3 (fun X => X.l3) := (lens_l3 c R i).sees fun _ => rfl

theorem lens_t1 : Lens (c : Thread nD τ) (St c R i) R.t1 (fun X => X.t1) (fun X Y => { X with t1 := Y }) :=
  .there (.there (.there (.there (.there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_t1 : Sees (c : Thread nD τ) (St c R i) R.t1 (fun X => X.t1) := (lens_t1 c R i).sees fun _ => rfl

theorem lens_t2 : Lens (c : Thread nD τ) (St c R i) R.t2 (fun X => X.t2) (fun X Y => { X with t2 := Y }) :=
  .there (.there (.there (.there (.there (.there (.there (.there (.there (.there (.there (.there (.there (.there (.there (.there (.there (.there (.here (fun _ _ => rfl) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_t2 : Sees (c : Thread nD τ) (St c R i) R.t2 (fun X => X.t2) := (lens_t2 c R i).sees fun _ => rfl

theorem lens_t3 : Lens (c : Thread nD τ) (St c R i) R.t3 (fun X => X.t3) (fun X Y => { X with t3 := Y }) :=
  .there (.there (.there (.there (.there (.there (.there (.there (.there (.there (.there (.there (.there (.there (.there (.there (.there (.there (.there (.last (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)) (fun _ _ => rfl)
theorem see_t3 : Sees (c : Thread nD τ) (St c R i) R.t3 (fun X => X.t3) := (lens_t3 c R i).sees fun _ => rfl

/-! ### Single instructions -/

section
variable {c R i}
variable {defs : Defs nD τ sig (Elt F) Λ₀} {𝒱 : Variants} {E : Set ℕ} {I : State F → State F → Prop}

theorem move_load_temp [Std.Refl I] {r : LoadRect S3} {hl : R.temp.view.LoadsAt r} :
    Moves defs 𝒱 (c : Thread nD τ) E (St c R i) I (Prog.lift (.load R.temp r hl) : Prog (TpuEff nD τ sig (Elt F) Λ₀ .tc) _) :=
  Moves.load (see_temp c R i)

theorem move_load_q [Std.Refl I] {r : LoadRect S1x16x16x256} {hl : R.q.view.LoadsAt r} :
    Moves defs 𝒱 (c : Thread nD τ) E (St c R i) I (Prog.lift (.load R.q r hl) : Prog (TpuEff nD τ sig (Elt F) Λ₀ .tc) _) :=
  Moves.load (see_q c R i)

theorem move_load_qs [Std.Refl I] {r : LoadRect S1x1x1x1x256} {hl : R.qs.view.LoadsAt r} :
    Moves defs 𝒱 (c : Thread nD τ) E (St c R i) I (Prog.lift (.load R.qs r hl) : Prog (TpuEff nD τ sig (Elt F) Λ₀ .tc) _) :=
  Moves.load (see_qs c R i)

theorem move_load_k [Std.Refl I] {r : LoadRect S1x11520x256} {hl : R.k.view.LoadsAt r} :
    Moves defs 𝒱 (c : Thread nD τ) E (St c R i) I (Prog.lift (.load R.k r hl) : Prog (TpuEff nD τ sig (Elt F) Λ₀ .tc) _) :=
  Moves.load (see_k c R i)

theorem move_load_ks [Std.Refl I] {r : LoadRect S1x11520x128} {hl : R.ks.view.LoadsAt r} :
    Moves defs 𝒱 (c : Thread nD τ) E (St c R i) I (Prog.lift (.load R.ks r hl) : Prog (TpuEff nD τ sig (Elt F) Λ₀ .tc) _) :=
  Moves.load (see_ks c R i)

theorem move_load_grid [Std.Refl I] {r : LoadRect S8x720} {hl : R.grid.view.LoadsAt r} :
    Moves defs 𝒱 (c : Thread nD τ) E (St c R i) I (Prog.lift (.load R.grid r hl) : Prog (TpuEff nD τ sig (Elt F) Λ₀ .tc) _) :=
  Moves.load (see_grid c R i)

theorem move_load_o0 [Std.Refl I] {r : LoadRect S1x16x2x90x8x128} {hl : R.o0.view.LoadsAt r} :
    Moves defs 𝒱 (c : Thread nD τ) E (St c R i) I (Prog.lift (.load R.o0 r hl) : Prog (TpuEff nD τ sig (Elt F) Λ₀ .tc) _) :=
  Moves.load (see_o0 c R i)

theorem move_store_o0 (hI : ∀ X Y, I X { X with o0 := Y }) {r : Rect S1x16x2x90x8x128} {w : Vec F r.shape .fp8e4m3} {hx : (R.o0.access r).Stores Finset.univ}
    {hm : Finset.univ = Finset.univ ∨ ∀ a, r.stride a = 1} :
    Moves defs 𝒱 (c : Thread nD τ) E (St c R i) I (Prog.lift (.store R.o0 r w Finset.univ hx hm) : Prog (TpuEff nD τ sig (Elt F) Λ₀ .tc) _) :=
  Moves.store (lens_o0 c R i) hI

theorem move_load_o1 [Std.Refl I] {r : LoadRect S1x16x2880x80} {hl : R.o1.view.LoadsAt r} :
    Moves defs 𝒱 (c : Thread nD τ) E (St c R i) I (Prog.lift (.load R.o1 r hl) : Prog (TpuEff nD τ sig (Elt F) Λ₀ .tc) _) :=
  Moves.load (see_o1 c R i)

theorem move_store_o1 (hI : ∀ X Y, I X { X with o1 := Y }) {r : Rect S1x16x2880x80} {w : Vec F r.shape .fp8e4m3} {hx : (R.o1.access r).Stores Finset.univ}
    {hm : Finset.univ = Finset.univ ∨ ∀ a, r.stride a = 1} :
    Moves defs 𝒱 (c : Thread nD τ) E (St c R i) I (Prog.lift (.store R.o1 r w Finset.univ hx hm) : Prog (TpuEff nD τ sig (Elt F) Λ₀ .tc) _) :=
  Moves.store (lens_o1 c R i) hI

theorem move_load_o2 [Std.Refl I] {r : LoadRect S1x720x16x80} {hl : R.o2.view.LoadsAt r} :
    Moves defs 𝒱 (c : Thread nD τ) E (St c R i) I (Prog.lift (.load R.o2 r hl) : Prog (TpuEff nD τ sig (Elt F) Λ₀ .tc) _) :=
  Moves.load (see_o2 c R i)

theorem move_store_o2 (hI : ∀ X Y, I X { X with o2 := Y }) {r : Rect S1x720x16x80} {w : Vec F r.shape .fp8e4m3} {hx : (R.o2.access r).Stores Finset.univ}
    {hm : Finset.univ = Finset.univ ∨ ∀ a, r.stride a = 1} :
    Moves defs 𝒱 (c : Thread nD τ) E (St c R i) I (Prog.lift (.store R.o2 r w Finset.univ hx hm) : Prog (TpuEff nD τ sig (Elt F) Λ₀ .tc) _) :=
  Moves.store (lens_o2 c R i) hI

theorem move_load_o3 [Std.Refl I] {r : LoadRect S1x180x16x80} {hl : R.o3.view.LoadsAt r} :
    Moves defs 𝒱 (c : Thread nD τ) E (St c R i) I (Prog.lift (.load R.o3 r hl) : Prog (TpuEff nD τ sig (Elt F) Λ₀ .tc) _) :=
  Moves.load (see_o3 c R i)

theorem move_store_o3 (hI : ∀ X Y, I X { X with o3 := Y }) {r : Rect S1x180x16x80} {w : Vec F r.shape .fp8e4m3} {hx : (R.o3.access r).Stores Finset.univ}
    {hm : Finset.univ = Finset.univ ∨ ∀ a, r.stride a = 1} :
    Moves defs 𝒱 (c : Thread nD τ) E (St c R i) I (Prog.lift (.store R.o3 r w Finset.univ hx hm) : Prog (TpuEff nD τ sig (Elt F) Λ₀ .tc) _) :=
  Moves.store (lens_o3 c R i) hI

theorem move_load_st [Std.Refl I] {r : LoadRect S1x1x1x8x256} {hl : R.st.view.LoadsAt r} :
    Moves defs 𝒱 (c : Thread nD τ) E (St c R i) I (Prog.lift (.load R.st r hl) : Prog (TpuEff nD τ sig (Elt F) Λ₀ .tc) _) :=
  Moves.load (see_st c R i)

theorem move_store_st (hI : ∀ X Y, I X { X with st := Y }) {r : Rect S1x1x1x8x256} {w : Vec F r.shape .f32} {hx : (R.st.access r).Stores Finset.univ}
    {hm : Finset.univ = Finset.univ ∨ ∀ a, r.stride a = 1} :
    Moves defs 𝒱 (c : Thread nD τ) E (St c R i) I (Prog.lift (.store R.st r w Finset.univ hx hm) : Prog (TpuEff nD τ sig (Elt F) Λ₀ .tc) _) :=
  Moves.store (lens_st c R i) hI

theorem move_load_x [Std.Refl I] {r : LoadRect S2x11520x128} {hl : R.x.view.LoadsAt r} :
    Moves defs 𝒱 (c : Thread nD τ) E (St c R i) I (Prog.lift (.load R.x r hl) : Prog (TpuEff nD τ sig (Elt F) Λ₀ .tc) _) :=
  Moves.load (see_x c R i)

theorem move_store_x (hI : ∀ X Y, I X { X with x := Y }) {r : Rect S2x11520x128} {w : Vec F r.shape .f32} {hx : (R.x.access r).Stores Finset.univ}
    {hm : Finset.univ = Finset.univ ∨ ∀ a, r.stride a = 1} :
    Moves defs 𝒱 (c : Thread nD τ) E (St c R i) I (Prog.lift (.store R.x r w Finset.univ hx hm) : Prog (TpuEff nD τ sig (Elt F) Λ₀ .tc) _) :=
  Moves.store (lens_x c R i) hI

theorem move_load_l1 [Std.Refl I] {r : LoadRect S2x2880x128} {hl : R.l1.view.LoadsAt r} :
    Moves defs 𝒱 (c : Thread nD τ) E (St c R i) I (Prog.lift (.load R.l1 r hl) : Prog (TpuEff nD τ sig (Elt F) Λ₀ .tc) _) :=
  Moves.load (see_l1 c R i)

theorem move_store_l1 (hI : ∀ X Y, I X { X with l1 := Y }) {r : Rect S2x2880x128} {w : Vec F r.shape .f32} {hx : (R.l1.access r).Stores Finset.univ}
    {hm : Finset.univ = Finset.univ ∨ ∀ a, r.stride a = 1} :
    Moves defs 𝒱 (c : Thread nD τ) E (St c R i) I (Prog.lift (.store R.l1 r w Finset.univ hx hm) : Prog (TpuEff nD τ sig (Elt F) Λ₀ .tc) _) :=
  Moves.store (lens_l1 c R i) hI

theorem move_load_v [Std.Refl I] {r : LoadRect S1440x128} {hl : R.v.view.LoadsAt r} :
    Moves defs 𝒱 (c : Thread nD τ) E (St c R i) I (Prog.lift (.load R.v r hl) : Prog (TpuEff nD τ sig (Elt F) Λ₀ .tc) _) :=
  Moves.load (see_v c R i)

theorem move_store_v (hI : ∀ X Y, I X { X with v := Y }) {r : Rect S1440x128} {w : Vec F r.shape .f32} {hx : (R.v.access r).Stores Finset.univ}
    {hm : Finset.univ = Finset.univ ∨ ∀ a, r.stride a = 1} :
    Moves defs 𝒱 (c : Thread nD τ) E (St c R i) I (Prog.lift (.store R.v r w Finset.univ hx hm) : Prog (TpuEff nD τ sig (Elt F) Λ₀ .tc) _) :=
  Moves.store (lens_v c R i) hI

theorem move_load_l2 [Std.Refl I] {r : LoadRect S720x128} {hl : R.l2.view.LoadsAt r} :
    Moves defs 𝒱 (c : Thread nD τ) E (St c R i) I (Prog.lift (.load R.l2 r hl) : Prog (TpuEff nD τ sig (Elt F) Λ₀ .tc) _) :=
  Moves.load (see_l2 c R i)

theorem move_store_l2 (hI : ∀ X Y, I X { X with l2 := Y }) {r : Rect S720x128} {w : Vec F r.shape .f32} {hx : (R.l2.access r).Stores Finset.univ}
    {hm : Finset.univ = Finset.univ ∨ ∀ a, r.stride a = 1} :
    Moves defs 𝒱 (c : Thread nD τ) E (St c R i) I (Prog.lift (.store R.l2 r w Finset.univ hx hm) : Prog (TpuEff nD τ sig (Elt F) Λ₀ .tc) _) :=
  Moves.store (lens_l2 c R i) hI

theorem move_load_h [Std.Refl I] {r : LoadRect S360x128} {hl : R.h.view.LoadsAt r} :
    Moves defs 𝒱 (c : Thread nD τ) E (St c R i) I (Prog.lift (.load R.h r hl) : Prog (TpuEff nD τ sig (Elt F) Λ₀ .tc) _) :=
  Moves.load (see_h c R i)

theorem move_store_h (hI : ∀ X Y, I X { X with h := Y }) {r : Rect S360x128} {w : Vec F r.shape .f32} {hx : (R.h.access r).Stores Finset.univ}
    {hm : Finset.univ = Finset.univ ∨ ∀ a, r.stride a = 1} :
    Moves defs 𝒱 (c : Thread nD τ) E (St c R i) I (Prog.lift (.store R.h r w Finset.univ hx hm) : Prog (TpuEff nD τ sig (Elt F) Λ₀ .tc) _) :=
  Moves.store (lens_h c R i) hI

theorem move_load_l3 [Std.Refl I] {r : LoadRect S192x128} {hl : R.l3.view.LoadsAt r} :
    Moves defs 𝒱 (c : Thread nD τ) E (St c R i) I (Prog.lift (.load R.l3 r hl) : Prog (TpuEff nD τ sig (Elt F) Λ₀ .tc) _) :=
  Moves.load (see_l3 c R i)

theorem move_store_l3 (hI : ∀ X Y, I X { X with l3 := Y }) {r : Rect S192x128} {w : Vec F r.shape .f32} {hx : (R.l3.access r).Stores Finset.univ}
    {hm : Finset.univ = Finset.univ ∨ ∀ a, r.stride a = 1} :
    Moves defs 𝒱 (c : Thread nD τ) E (St c R i) I (Prog.lift (.store R.l3 r w Finset.univ hx hm) : Prog (TpuEff nD τ sig (Elt F) Λ₀ .tc) _) :=
  Moves.store (lens_l3 c R i) hI

theorem move_load_t1 [Std.Refl I] {r : LoadRect S6x1280x512} {hl : R.t1.view.LoadsAt r} :
    Moves defs 𝒱 (c : Thread nD τ) E (St c R i) I (Prog.lift (.load R.t1 r hl) : Prog (TpuEff nD τ sig (Elt F) Λ₀ .tc) _) :=
  Moves.load (see_t1 c R i)

theorem move_store_t1 (hI : ∀ X Y, I X { X with t1 := Y }) {r : Rect S6x1280x512} {w : Vec F r.shape .fp8e4m3} {hx : (R.t1.access r).Stores Finset.univ}
    {hm : Finset.univ = Finset.univ ∨ ∀ a, r.stride a = 1} :
    Moves defs 𝒱 (c : Thread nD τ) E (St c R i) I (Prog.lift (.store R.t1 r w Finset.univ hx hm) : Prog (TpuEff nD τ sig (Elt F) Λ₀ .tc) _) :=
  Moves.store (lens_t1 c R i) hI

theorem move_load_t2 [Std.Refl I] {r : LoadRect S6x1280x128} {hl : R.t2.view.LoadsAt r} :
    Moves defs 𝒱 (c : Thread nD τ) E (St c R i) I (Prog.lift (.load R.t2 r hl) : Prog (TpuEff nD τ sig (Elt F) Λ₀ .tc) _) :=
  Moves.load (see_t2 c R i)

theorem move_store_t2 (hI : ∀ X Y, I X { X with t2 := Y }) {r : Rect S6x1280x128} {w : Vec F r.shape .fp8e4m3} {hx : (R.t2.access r).Stores Finset.univ}
    {hm : Finset.univ = Finset.univ ∨ ∀ a, r.stride a = 1} :
    Moves defs 𝒱 (c : Thread nD τ) E (St c R i) I (Prog.lift (.store R.t2 r w Finset.univ hx hm) : Prog (TpuEff nD τ sig (Elt F) Λ₀ .tc) _) :=
  Moves.store (lens_t2 c R i) hI

theorem move_load_t3 [Std.Refl I] {r : LoadRect S2x1280x128} {hl : R.t3.view.LoadsAt r} :
    Moves defs 𝒱 (c : Thread nD τ) E (St c R i) I (Prog.lift (.load R.t3 r hl) : Prog (TpuEff nD τ sig (Elt F) Λ₀ .tc) _) :=
  Moves.load (see_t3 c R i)

theorem move_store_t3 (hI : ∀ X Y, I X { X with t3 := Y }) {r : Rect S2x1280x128} {w : Vec F r.shape .fp8e4m3} {hx : (R.t3.access r).Stores Finset.univ}
    {hm : Finset.univ = Finset.univ ∨ ∀ a, r.stride a = 1} :
    Moves defs 𝒱 (c : Thread nD τ) E (St c R i) I (Prog.lift (.store R.t3 r w Finset.univ hx hm) : Prog (TpuEff nD τ sig (Elt F) Λ₀ .tc) _) :=
  Moves.store (lens_t3 c R i) hI

theorem move_smem_temp [Std.Refl I] {r : Rect S3} {h1 : r.shape.numel = 1} {h2 : EltTy.f32.packing = 1} :
    Moves defs 𝒱 (c : Thread nD τ) E (St c R i) I (smemLoad R.temp r h1 h2 : Prog (TpuEff nD τ sig (Elt F) Λ₀ .tc) _) :=
  fun X => Steps.load (see_temp c R i) (.ret (Std.Refl.refl X))

theorem move_ret [Std.Refl I] {α : Type} {a : α} :
    Moves defs 𝒱 (c : Thread nD τ) E (St c R i) I (pure a : Prog (TpuEff nD τ sig (Elt F) Λ₀ .tc) α) := Moves.ret

theorem move_bind [IsTrans (State F) I] {α β : Type} {p : Prog (TpuEff nD τ sig (Elt F) Λ₀ .tc) α}
    {k : α → Prog (TpuEff nD τ sig (Elt F) Λ₀ .tc) β} (h : Moves defs 𝒱 (c : Thread nD τ) E (St c R i) I p)
    (hk : ∀ a, Moves defs 𝒱 (c : Thread nD τ) E (St c R i) I (k a)) :
    Moves defs 𝒱 (c : Thread nD τ) E (St c R i) I (p >>= k) := Moves.bind h hk
end

end Cert.KernelIdeal.Own

end
-- ==== Proof.Frame.lean ====
/-
  The launch of the ideal kernel: its arguments end unchanged, and its first result is, block by block,
  what the body leaves at each grid point.
-/
module

public import proofs.«01_k».proof.Proof.Own
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Cert.Steps Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memrefs the body is called with at a grid point. -/
def refsAt (t : Fin cfg0.N) : Refs where
  temp := st0_0 t
  w_temp := hstage0_0 ((cfg0.slots t 0).cast nbuf0_0)
  q := st0_1 t
  w_q := hstage0_1 ((cfg0.slots t 1).cast nbuf0_1)
  qs := st0_2 t
  w_qs := hstage0_2 ((cfg0.slots t 2).cast nbuf0_2)
  k := st0_3 t
  w_k := hstage0_3 ((cfg0.slots t 3).cast nbuf0_3)
  ks := st0_4 t
  w_ks := hstage0_4 ((cfg0.slots t 4).cast nbuf0_4)
  grid := st0_5 t
  w_grid := hstage0_5 ((cfg0.slots t 5).cast nbuf0_5)
  o0 := st0_6 t
  w_o0 := hstage0_6 ((cfg0.slots t 6).cast nbuf0_6)
  o1 := st0_7 t
  w_o1 := hstage0_7 ((cfg0.slots t 7).cast nbuf0_7)
  o2 := st0_8 t
  w_o2 := hstage0_8 ((cfg0.slots t 8).cast nbuf0_8)
  o3 := st0_9 t
  w_o3 := hstage0_9 ((cfg0.slots t 9).cast nbuf0_9)
  st := st0_10 t
  w_st := hstage0_10 ((cfg0.slots t 10).cast nbuf0_10)
  x := Memref.whole cc0_scratch0
  w_x := Memref.isWhole_whole _
  l1 := Memref.whole cc0_scratch1
  w_l1 := Memref.isWhole_whole _
  v := Memref.whole cc0_scratch2
  w_v := Memref.isWhole_whole _
  l2 := Memref.whole cc0_scratch3
  w_l2 := Memref.isWhole_whole _
  h := Memref.whole cc0_scratch4
  w_h := Memref.isWhole_whole _
  l3 := Memref.whole cc0_scratch5
  w_l3 := Memref.isWhole_whole _
  t1 := Memref.whole cc0_scratch6
  w_t1 := Memref.isWhole_whole _
  t2 := Memref.whole cc0_scratch7
  w_t2 := Memref.isWhole_whole _
  t3 := Memref.whole cc0_scratch8
  w_t3 := Memref.isWhole_whole _

/-- The blocks of the inputs at a grid point. -/
def insAt (c : Dev nD) (t : Fin cfg0.N) : Ins F where
  temp := iblk m c 0 t
  q := iblk m c 1 t
  qs := iblk m c 2 t
  k := iblk m c 3 t
  ks := iblk m c 4 t
  grid := iblk m c 5 t

/-- The windows whose contents are not named. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true

/-- The proof data: every input's buffer stays at its block, the first result's is left at `B`. -/
def dats (B : Dev nD → Fin cfg0.N → Vec F S1x16x2x90x8x128 .fp8e4m3) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => B c t
    | ⟨7, _⟩ => Dat.unnamed 7 t
    | ⟨8, _⟩ => Dat.unnamed 8 t
    | ⟨9, _⟩ => Dat.unnamed 9 t
    | ⟨10, _⟩ => Dat.unnamed 10 t
  Φ _ := Pipeline.ΦA spec0 c
  q _ := fullShare
  owed _ := 0

theorem A_eq (B : Dev nD → Fin cfg0.N → Vec F S1x16x2x90x8x128 .fp8e4m3) (c : Dev nD) (w : Fin cfg0.W) : (dats m B 0 c).A w = V m c (Pipeline.arrRef spec0 w) := by
  dsimp only [dats]

theorem after_0 (B : Dev nD → Fin cfg0.N → Vec F S1x16x2x90x8x128 .fp8e4m3) (c : Dev nD) (t : Fin cfg0.N) : (dats m B 0 c).after 0 t = iblk m c 0 t := by dsimp only [dats]
theorem after_1 (B : Dev nD → Fin cfg0.N → Vec F S1x16x2x90x8x128 .fp8e4m3) (c : Dev nD) (t : Fin cfg0.N) : (dats m B 0 c).after 1 t = iblk m c 1 t := by dsimp only [dats]
theorem after_2 (B : Dev nD → Fin cfg0.N → Vec F S1x16x2x90x8x128 .fp8e4m3) (c : Dev nD) (t : Fin cfg0.N) : (dats m B 0 c).after 2 t = iblk m c 2 t := by dsimp only [dats]
theorem after_3 (B : Dev nD → Fin cfg0.N → Vec F S1x16x2x90x8x128 .fp8e4m3) (c : Dev nD) (t : Fin cfg0.N) : (dats m B 0 c).after 3 t = iblk m c 3 t := by dsimp only [dats]
theorem after_4 (B : Dev nD → Fin cfg0.N → Vec F S1x16x2x90x8x128 .fp8e4m3) (c : Dev nD) (t : Fin cfg0.N) : (dats m B 0 c).after 4 t = iblk m c 4 t := by dsimp only [dats]
theorem after_5 (B : Dev nD → Fin cfg0.N → Vec F S1x16x2x90x8x128 .fp8e4m3) (c : Dev nD) (t : Fin cfg0.N) : (dats m B 0 c).after 5 t = iblk m c 5 t := by dsimp only [dats]
theorem after_6 (B : Dev nD → Fin cfg0.N → Vec F S1x16x2x90x8x128 .fp8e4m3) (c : Dev nD) (t : Fin cfg0.N) : (dats m B 0 c).after 6 t = B c t := by dsimp only [dats]
theorem before_0 (B : Dev nD → Fin cfg0.N → Vec F S1x16x2x90x8x128 .fp8e4m3) (c : Dev nD) (t : Fin cfg0.N) (d) : (dats m B 0 c).before 0 t d = iblk m c 0 t :=
  before0_0_of m (dats m B 0 c) (A_eq m B c 0) (after_0 m B c) t d
theorem before_1 (B : Dev nD → Fin cfg0.N → Vec F S1x16x2x90x8x128 .fp8e4m3) (c : Dev nD) (t : Fin cfg0.N) (d) : (dats m B 0 c).before 1 t d = iblk m c 1 t :=
  before0_1_of m (dats m B 0 c) (A_eq m B c 1) (after_1 m B c) t d
theorem before_2 (B : Dev nD → Fin cfg0.N → Vec F S1x16x2x90x8x128 .fp8e4m3) (c : Dev nD) (t : Fin cfg0.N) (d) : (dats m B 0 c).before 2 t d = iblk m c 2 t :=
  before0_2_of m (dats m B 0 c) (A_eq m B c 2) (after_2 m B c) t d
theorem before_3 (B : Dev nD → Fin cfg0.N → Vec F S1x16x2x90x8x128 .fp8e4m3) (c : Dev nD) (t : Fin cfg0.N) (d) : (dats m B 0 c).before 3 t d = iblk m c 3 t :=
  before0_3_of m (dats m B 0 c) (A_eq m B c 3) (after_3 m B c) t d
theorem before_4 (B : Dev nD → Fin cfg0.N → Vec F S1x16x2x90x8x128 .fp8e4m3) (c : Dev nD) (t : Fin cfg0.N) (d) : (dats m B 0 c).before 4 t d = iblk m c 4 t :=
  before0_4_of m (dats m B 0 c) (A_eq m B c 4) (after_4 m B c) t d
theorem before_5 (B : Dev nD → Fin cfg0.N → Vec F S1x16x2x90x8x128 .fp8e4m3) (c : Dev nD) (t : Fin cfg0.N) (d) : (dats m B 0 c).before 5 t d = iblk m c 5 t :=
  before0_5_of m (dats m B 0 c) (A_eq m B c 5) (after_5 m B c) t d

/-- What the body is called with at a grid point. -/
def bodyPre (B : Dev nD → Fin cfg0.N → Vec F S1x16x2x90x8x128 .fp8e4m3) (c : Dev nD) (t : Fin cfg0.N) : sProp 𝕄 :=
  iprop((dats m B 0 c).Φ t.castSucc ∗ (dats m B 0 c).owesAt () t.castSucc
    ∗ (∃ d, owns (c : Thread nD τ) (st0_0 t) fullShare ((dats m B 0 c).before 0 t d))
    ∗ (∃ d, owns (c : Thread nD τ) (st0_1 t) fullShare ((dats m B 0 c).before 1 t d))
    ∗ (∃ d, owns (c : Thread nD τ) (st0_2 t) fullShare ((dats m B 0 c).before 2 t d))
    ∗ (∃ d, owns (c : Thread nD τ) (st0_3 t) fullShare ((dats m B 0 c).before 3 t d))
    ∗ (∃ d, owns (c : Thread nD τ) (st0_4 t) fullShare ((dats m B 0 c).before 4 t d))
    ∗ (∃ d, owns (c : Thread nD τ) (st0_5 t) fullShare ((dats m B 0 c).before 5 t d))
    ∗ (∃ d, owns (c : Thread nD τ) (st0_6 t) fullShare ((dats m B 0 c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

/-- What it hands back. -/
def bodyPost (B : Dev nD → Fin cfg0.N → Vec F S1x16x2x90x8x128 .fp8e4m3) (c : Dev nD) (t : Fin cfg0.N) : sProp 𝕄 :=
  iprop((dats m B 0 c).Φ t.succ ∗ (dats m B 0 c).owesAt () t.succ
    ∗ owns (c : Thread nD τ) (st0_0 t) fullShare ((dats m B 0 c).after 0 t)
    ∗ owns (c : Thread nD τ) (st0_1 t) fullShare ((dats m B 0 c).after 1 t)
    ∗ owns (c : Thread nD τ) (st0_2 t) fullShare ((dats m B 0 c).after 2 t)
    ∗ owns (c : Thread nD τ) (st0_3 t) fullShare ((dats m B 0 c).after 3 t)
    ∗ owns (c : Thread nD τ) (st0_4 t) fullShare ((dats m B 0 c).after 4 t)
    ∗ owns (c : Thread nD τ) (st0_5 t) fullShare ((dats m B 0 c).after 5 t)
    ∗ owns (c : Thread nD τ) (st0_6 t) fullShare ((dats m B 0 c).after 6 t)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

/-- The scratch buffers, each at some contents. -/
def Scratch (c : Dev nD) : sProp 𝕄 :=
  iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X))

theorem scratch_eq (c : Dev nD) : (Pipeline.scopedRest (Ix := Unit) (Name := ℕ) (U := UR sig nD τ) (Lvl := ℕ) (Val := Elt F) spec0 c : sProp 𝕄) = Scratch c := by
  rw [scopedRest0_eq]
  unfold Scratch
  simp only [owns_whole]

/-- The body at a grid point. -/
theorem sound_body (B : Dev nD → Fin cfg0.N → Vec F S1x16x2x90x8x128 .fp8e4m3) (c : Dev nD) (t : Fin cfg0.N)
    (hB : ∀ X, Steps (defs₀ (F := F)) Variants.none (c : Thread nD τ) Set.univ (St c (refsAt t) (insAt m c t)) X
      ((refsAt t).app (cc0_correlation (F := F) (grid0.coords t)) : Prog (TpuEff nD τ sig (Elt F) Λ₀ .tc) PUnit) fun _ Y => Y.o0 = B c t) :
    bodyPre m B c t ⊢ wp frame (wpE (defs₀ (F := F)) Variants.none c none) Set.univ (bodyAt0 t) (fun _ => bodyPost m B c t) := by
  unfold bodyPre bodyPost
  simp only [before_0, before_1, before_2, before_3, before_4, before_5]
  rw [show (dats m B 0 c).Φ t.succ = (dats m B 0 c).Φ t.castSucc from rfl, show (dats m B 0 c).Φ t.castSucc = Pipeline.ΦA spec0 c from rfl,
    show (dats m B 0 c).owesAt () t.succ = (dats m B 0 c).owesAt () t.castSucc from rfl,
    after_0, after_1, after_2, after_3, after_4, after_5, after_6]
  unfold Pipeline.ΦA
  rw [scratch_eq]
  unfold Scratch
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (hB ⟨((dats m B 0 c).before 6 t d6), d7, d8, d9, d10, s0, s1, s2, s3, s4, s5, s6, s7, s8⟩ _)
  isplitl [H0 H1 H2 H3 H4 H5 H6 H7 H8 H9 H10 S0 S1 S2 S3 S4 S5 S6 S7 S8]
  · unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  iintro %a %Y %hY HS
  unfold St
  icases HS with ⟨H0, H1, H2, H3, H4, H5, H6, H7, H8, H9, H10, S0, S1, S2, S3, S4, S5, S6, S7, S8⟩
  isplitl [HP S0 S1 S2 S3 S4 S5 S6 S7 S8]
  · isplitl [S0 S1 S2 S3 S4 S5 S6 S7 S8]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      iexists _; iexact S8
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [← hY]; iexact H6
  isplitl [H7]; · iexists _; iexact H7
  isplitl [H8]; · iexists _; iexact H8
  isplitl [H9]; · iexists _; iexact H9
  iexists _; iexact H10

theorem row_eq (t : Fin cfg0.N) :
    defs₀ (F := F) .tc cfg0.body (cfg0.bodyArgs t (cfg0.slots t)) = bodyAt0 t := by
  unfold defs₀; rw [Defs.onTc_tc]

/-- The body obligation of the pipeline. -/
theorem body_obligation (B : Dev nD → Fin cfg0.N → Vec F S1x16x2x90x8x128 .fp8e4m3)
    (hB : ∀ (c : Dev nD) t X, Steps (defs₀ (F := F)) Variants.none (c : Thread nD τ) Set.univ (St c (refsAt t) (insAt m c t)) X
      ((refsAt t).app (cc0_correlation (F := F) (grid0.coords t)) : Prog (TpuEff nD τ sig (Elt F) Λ₀ .tc) PUnit) fun _ Y => Y.o0 = B c t) (c : Dev nD) :
    BodyObligationLoose (dats m B 0 c) (defs₀ (F := F)) Variants.none () Set.univ fgt := fun t => by
  rw [bigSep_W0, bigSep_W0, row_eq]
  exact triple_restated (sound_body m B c t (hB c t)) rfl .rfl fun _ => .rfl

set_option backward.isDefEq.respectTransparency.types false in
set_option maxHeartbeats 800000 in
/-- The run of the whole program. -/
theorem run_main (B : Dev nD → Fin cfg0.N → Vec F S1x16x2x90x8x128 .fp8e4m3)
    (hB : ∀ (c : Dev nD) t X, Steps (defs₀ (F := F)) Variants.none (c : Thread nD τ) Set.univ (St c (refsAt t) (insAt m c t)) X
      ((refsAt t).app (cc0_correlation (F := F) (grid0.coords t)) : Prog (TpuEff nD τ sig (Elt F) Λ₀ .tc) PUnit) fun _ Y => Y.o0 = B c t) :
    θ_run defs (onTc (τ := τ) (main (F := F))) (s₀ m ρ) (fun r =>
      Pipeline.RDat.FramePost cfg0 (fun c => (dats m B 0 c).toRForget fgt) (V m) r ∧ r.2.sem = fun _ => 0) :=
  Pipeline.θ_run_frame_forget (Q' := _) cfgs (dats m B) (0 : Fin 1) launch0 defs₀ Variants.none fgt m ρ main
    (hbody := body_obligation m B hB) (hshare := fun c => (dats m B 0 c).share_full fun _ => rfl)
    (howed := fun _ _ => rfl) (V := V m) (hmain := hmain m Variants.none) (hA := A_eq m B) (hΦ := fun _ _ => rfl)

/-- Every argument ends as it was and no semaphore count is left over. -/
theorem frame (B : Dev nD → Fin cfg0.N → Vec F S1x16x2x90x8x128 .fp8e4m3)
    (hB : ∀ (c : Dev nD) t X, Steps (defs₀ (F := F)) Variants.none (c : Thread nD τ) Set.univ (St c (refsAt t) (insAt m c t)) X
      ((refsAt t).app (cc0_correlation (F := F) (grid0.coords t)) : Prog (TpuEff nD τ sig (Elt F) Λ₀ .tc) PUnit) fun _ Y => Y.o0 = B c t) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun _ h => ⟨fun c => ⟨
      (h.1.arr_in c 1 rfl).trans ((A_eq m B c 1).trans (V_main_arg0 m c)),
      ((h.1 c).2 main_arg1 (Pipeline.mem_restRefs_of main_arg1 (by decide) (by decide))).trans (V_main_arg1 m c),
      (h.1.arr_in c 3 rfl).trans ((A_eq m B c 3).trans (V_main_arg2 m c)),
      ((h.1 c).2 main_arg3 (Pipeline.mem_restRefs_of main_arg3 (by decide) (by decide))).trans (V_main_arg3 m c),
      (h.1.arr_in c 0 rfl).trans ((A_eq m B c 0).trans (V_main_arg4 m c))⟩, h.2⟩) (run_main m ρ B hB)

/-- The first result ends at what the blocks `B` make of it. -/
theorem result (B : Dev nD → Fin cfg0.N → Vec F S1x16x2x90x8x128 .fp8e4m3)
    (hB : ∀ (c : Dev nD) t X, Steps (defs₀ (F := F)) Variants.none (c : Thread nD τ) Set.univ (St c (refsAt t) (insAt m c t)) X
      ((refsAt t).app (cc0_correlation (F := F) (grid0.coords t)) : Prog (TpuEff nD τ sig (Elt F) Λ₀ .tc) PUnit) fun _ Y => Y.o0 = B c t) :
    θ_run defs (onTc (τ := τ) (main (F := F))) ⟨m, fun _ => 0, ρ⟩ (fun r => ∀ c : Dev nD,
      r.2.mem ((c.tc : Thread nD τ).loc main_v5_0) = (dats m B 0 c).arrAt 6 cfg0.N) :=
  (θ_run defs _ _).mono (fun _ h c => ((dats m B 0 c).toRForget_arrAt_iff (fgt := fgt) (w := 6) rfl cfg0.N _).mp ((h.1 c).1 6))
    (run_main m ρ B hB)

end Cert.KernelIdeal.Own

end
-- ==== Proof.Spec.lean ====
/-
  What one grid point of the correlation kernel computes, entry by entry over the extended reals:
  the product of a key row with a query pixel, times the key row's scale (`xg`), its greatest absolute value
  over the key rows (`amax`), and the factor that turns it into a code (`invf`).
-/
module

public import Idealize.ShloMosaic.Lib.Pointwise
public import proofs.«01_k».proof.Proof.Own

@[expose] public section

set_option maxRecDepth 16384

noncomputable section

namespace Cert.KernelIdeal.Own

open Idealize.ShloMosaic Idealize.ShloMosaic.TcCoe Idealize.SL.Sem
open Cert.KernelIdeal.Shapes1.Facts₀ Cert.KernelIdeal.Shapes2.Facts₀ Cert.KernelIdeal.Shapes3.Facts₀ Cert.KernelIdeal.K0.Facts₀

/-- The product of key row `p` with query pixel `j`, times the key row's scale (held in each of 128 lanes). The
    query pixel `j` of a block sits at row `j % 64 / 4` and column `4 * (j / 64) + j % 4` of it. -/
def xg (i : Ins Ideal) (p j : ℕ) : EReal :=
  (∑ d : Fin 256, (i.k (ix3 0 (Fin.ofNat 11520 p) d) : EReal)
      * (i.q (ix4 0 (Fin.ofNat 16 (j % 64 / 4)) (Fin.ofNat 16 (4 * (j / 64) + j % 4)) d) : EReal))
    * (i.ks (ix3 0 (Fin.ofNat 11520 p) (Fin.ofNat 128 j)) : EReal)

/-- The block of query rows, as the kernel lays it out: four groups of columns, one below another. -/
def qblk (q0 q1 q2 q3 : FVec Ideal S1x16x4x256 .fp8e4m3) : FVec Ideal S256x256 .fp8e4m3 :=
  concatenate S256x256 0 [
    ⟨S64x256, shapeCast S64x256 (shapeCast S16x4x256 q0 shapeCasts_S1x16x4x256_S16x4x256) shapeCasts_S16x4x256_S64x256⟩,
    ⟨S64x256, shapeCast S64x256 (shapeCast S16x4x256 q1 shapeCasts_S1x16x4x256_S16x4x256) shapeCasts_S16x4x256_S64x256⟩,
    ⟨S64x256, shapeCast S64x256 (shapeCast S16x4x256 q2 shapeCasts_S1x16x4x256_S16x4x256) shapeCasts_S16x4x256_S64x256⟩,
    ⟨S64x256, shapeCast S64x256 (shapeCast S16x4x256 q3 shapeCasts_S1x16x4x256_S16x4x256) shapeCasts_S16x4x256_S64x256⟩]
    concatenates_S64x256_S64x256_S64x256_S64x256_S256x256_d0

theorem qpart_at (q : FVec Ideal S1x16x4x256 .fp8e4m3) (r : Fin 64) (d : Fin 256) :
    shapeCast S64x256 (shapeCast S16x4x256 q shapeCasts_S1x16x4x256_S16x4x256) shapeCasts_S16x4x256_S64x256 (ix2 r d)
      = q (ix4 0 ⟨r / 4, by omega⟩ ⟨r % 4, by omega⟩ d) := by
  pointwise

theorem cat_at (x0 x1 x2 x3 : FVec Ideal S64x256 .fp8e4m3) (j d : Fin 256) :
    concatenate S256x256 0 [⟨S64x256, x0⟩, ⟨S64x256, x1⟩, ⟨S64x256, x2⟩, ⟨S64x256, x3⟩]
      concatenates_S64x256_S64x256_S64x256_S64x256_S256x256_d0 (ix2 j d)
      = if h0 : (j : ℕ) < 64 then x0 (ix2 ⟨j, h0⟩ d) else if h1 : (j : ℕ) - 64 < 64 then x1 (ix2 ⟨j - 64, h1⟩ d)
        else if h2 : (j : ℕ) - 64 - 64 < 64 then x2 (ix2 ⟨j - 64 - 64, h2⟩ d) else x3 (ix2 ⟨j - 64 - 64 - 64, by omega⟩ d) := by
  pointwise

/-- Columns `w … w + 127` of the scaled product of 288 key rows with the block of queries. -/
def slab (k : FVec Ideal S1x288x256 .fp8e4m3) (Q : FVec Ideal S256x256 .fp8e4m3) (s : FVec Ideal S1x288x128 .f32) (w : ℕ)
    (hw : S288x256.Slices ![0, w] S288x128) : FVec Ideal S288x128 .f32 :=
  mulf (extractStridedSlice S288x128 ![0, w]
      (matmul dot_S288x256_S256x256_S288x256_1_1_0_0_n_n none (shapeCast S288x256 k shapeCasts_S1x288x256_S288x256) Q
        (constant S288x256 .f32 0x00000000#32)) hw)
    (shapeCast S288x128 s shapeCasts_S1x288x128_S288x128)

theorem slab_raw (k : FVec Ideal S1x288x256 .fp8e4m3) (Q : FVec Ideal S256x256 .fp8e4m3) (s : FVec Ideal S1x288x128 .f32) (w : ℕ)
    (hw : S288x256.Slices ![0, w] S288x128) (hw' : w ≤ 128) (r : Fin 288) (n : Fin 128) :
    slab k Q s w hw (ix2 r n) = (∑ d : Fin 256, k (ix3 0 r d) * Q (ix2 ⟨w + n, by omega⟩ d)) * s (ix3 0 r n) := by
  pointwise [slab]

/-! ### Loads and stores of rectangles -/

theorem overlay_in {s : Shape} {α : Type} {off sz : Fin s.rank → ℕ} (inb) (X : s.Idx → α) (w : (Rect.unit (s := s) off sz inb).shape.Idx → α)
    (j : s.Idx) (x : (Rect.unit (s := s) off sz inb).shape.Idx) (h : ∀ a, (j a : ℕ) = off a + x a) :
    (Rect.unit (s := s) off sz inb).overlay X w j = w x := by
  have : j = (Rect.unit (s := s) off sz inb).emb x := by
    funext a; apply Fin.ext; rw [h a]; show off a + (x a : ℕ) = off a + 1 * (x a : ℕ); omega
  rw [this, Rect.overlay_emb]

theorem overlay_out {s : Shape} {α : Type} {off sz : Fin s.rank → ℕ} (inb) (X : s.Idx → α) (w : (Rect.unit (s := s) off sz inb).shape.Idx → α)
    (j : s.Idx) (a : Fin s.rank) (h : (j a : ℕ) < off a ∨ off a + sz a ≤ j a) :
    (Rect.unit (s := s) off sz inb).overlay X w j = X j := by
  refine Rect.overlay_of_not_mem _ _ _ ?_
  rw [Rect.mem_set_unit]
  intro h'
  have := h' a
  omega

theorem load_k (f : Vec Ideal S1x11520x256 .fp8e4m3) (o : ℕ) (inb) (r : Fin 288) (d : Fin 256) :
    f ((Rect.unit (s := S1x11520x256) ![0, o, 0] S1x288x256.size inb).toLoadRect.idx (ix3 0 r d))
      = f (ix3 0 (Fin.ofNat 11520 (o + r)) d) := by
  have h1 : o + 288 ≤ 11520 := inb 1
  congr 1; funext a; apply Fin.ext
  fin_cases a
  · rfl
  · show o + 1 * (r : ℕ) = (o + r) % 11520
    omega
  · show 0 + 1 * (d : ℕ) = d
    omega

theorem load_ks (f : Vec Ideal S1x11520x128 .f32) (o : ℕ) (inb) (r : Fin 288) (d : Fin 128) :
    f ((Rect.unit (s := S1x11520x128) ![0, o, 0] S1x288x128.size inb).toLoadRect.idx (ix3 0 r d))
      = f (ix3 0 (Fin.ofNat 11520 (o + r)) d) := by
  have h1 : o + 288 ≤ 11520 := inb 1
  congr 1; funext a; apply Fin.ext
  fin_cases a
  · rfl
  · show o + 1 * (r : ℕ) = (o + r) % 11520
    omega
  · show 0 + 1 * (d : ℕ) = d
    omega

theorem load_q (f : Vec Ideal S1x16x16x256 .fp8e4m3) (o : ℕ) (inb) (a : Fin 16) (b : Fin 4) (d : Fin 256) :
    f ((Rect.unit (s := S1x16x16x256) ![0, 0, o, 0] S1x16x4x256.size inb).toLoadRect.idx (ix4 0 a b d))
      = f (ix4 0 a (Fin.ofNat 16 (o + b)) d) := by
  have h1 : o + 4 ≤ 16 := inb 2
  congr 1; funext a'; apply Fin.ext
  fin_cases a'
  · rfl
  · show 0 + 1 * (a : ℕ) = a
    omega
  · show o + 1 * (b : ℕ) = (o + b) % 16
    omega
  · show 0 + 1 * (d : ℕ) = d
    omega

theorem load_qs (f : Vec Ideal S1x1x1x1x256 .f32) (o : ℕ) (inb) (d : Fin 128) :
    f ((Rect.unit (s := S1x1x1x1x256) ![0, 0, 0, 0, o] S1x1x1x1x128.size inb).toLoadRect.idx (ix5 0 0 0 0 d))
      = f (ix5 0 0 0 0 (Fin.ofNat 256 (o + d))) := by
  have h1 : o + 128 ≤ 256 := inb 4
  congr 1; funext a'; apply Fin.ext
  fin_cases a'
  · rfl
  · rfl
  · rfl
  · rfl
  · show o + 1 * (d : ℕ) = (o + d) % 256
    omega

/-- The block of queries holds, in row `j`, query pixel `j`. -/
theorem qblk_at {i : Ins Ideal} {q0 q1 q2 q3 : FVec Ideal S1x16x4x256 .fp8e4m3}
    (h0 : ∀ a b d, q0 (ix4 0 a b d) = i.q (ix4 0 a (Fin.ofNat 16 (0 + b)) d))
    (h1 : ∀ a b d, q1 (ix4 0 a b d) = i.q (ix4 0 a (Fin.ofNat 16 (4 + b)) d))
    (h2 : ∀ a b d, q2 (ix4 0 a b d) = i.q (ix4 0 a (Fin.ofNat 16 (8 + b)) d))
    (h3 : ∀ a b d, q3 (ix4 0 a b d) = i.q (ix4 0 a (Fin.ofNat 16 (12 + b)) d)) (j d : Fin 256) :
    qblk q0 q1 q2 q3 (ix2 j d) = i.q (ix4 0 (Fin.ofNat 16 (j % 64 / 4)) (Fin.ofNat 16 (4 * (j / 64) + j % 4)) d) := by
  unfold qblk
  rw [cat_at]
  have hj := j.2
  split_ifs with a b c <;> rw [qpart_at] <;> simp only [h0, h1, h2, h3] <;> congr 2 <;> apply Fin.ext <;>
    simp only [Fin.val_ofNat] <;> omega

/-- An entry of 288 rows of the scaled product. -/
theorem slab_at {i : Ins Ideal} {k : FVec Ideal S1x288x256 .fp8e4m3} {Q : FVec Ideal S256x256 .fp8e4m3} {s : FVec Ideal S1x288x128 .f32}
    {o w : ℕ} {hw : S288x256.Slices ![0, w] S288x128}
    (hk : ∀ r d, k (ix3 0 r d) = i.k (ix3 0 (Fin.ofNat 11520 (o + r)) d))
    (hQ : ∀ j d : Fin 256, Q (ix2 j d) = i.q (ix4 0 (Fin.ofNat 16 (j % 64 / 4)) (Fin.ofNat 16 (4 * (j / 64) + j % 4)) d))
    (hs : ∀ r d, s (ix3 0 r d) = i.ks (ix3 0 (Fin.ofNat 11520 (o + r)) d))
    (hw' : w = 0 ∨ w = 128) (r : Fin 288) (n : Fin 128) :
    slab k Q s w hw (ix2 r n) = xg i (o + r) (w + n) := by
  rw [slab_raw _ _ _ _ _ (by omega)]
  unfold xg
  simp only [hk, hQ, hs]
  congr 3
  apply Fin.ext; simp only [Fin.val_ofNat]; have := n.2; omega

end Cert.KernelIdeal.Own

end
-- ==== Proof.Ops.lean ====
/-
  What the vectors of the body hold, one predicate per kind of vector and one lemma per operation that makes one.
-/
module

public import proofs.«01_k».proof.Proof.Spec

@[expose] public section

set_option maxRecDepth 16384

noncomputable section

namespace Cert.KernelIdeal.Own

open Idealize.ShloMosaic Idealize.ShloMosaic.TcCoe Idealize.SL.Sem
open Cert.KernelIdeal.Shapes1.Facts₀ Cert.KernelIdeal.Shapes2.Facts₀ Cert.KernelIdeal.Shapes3.Facts₀ Cert.KernelIdeal.K0.Facts₀

/-- An absolute value. -/
def ab (x : EReal) : EReal := max x (-x)

/-- The greatest absolute value a query pixel's scaled products reach. -/
def amax (i : Ins Ideal) (j : ℕ) : EReal := (Finset.range 11520).sup fun p => ab (xg i p j)

/-- A query pixel's scale, times 1/16. -/
def cq (i : Ins Ideal) (j : ℕ) : EReal := (i.qs (ix5 0 0 0 0 (Fin.ofNat 256 j)) : EReal) * Ideal.ofBits .f32 0x3D800000#32

/-- The scale of a query pixel's codes. -/
def sc (i : Ins Ideal) (j : ℕ) : EReal := Ideal.div (amax i j * cq i j) (Ideal.ofBits .f32 0x43E00000#32)

/-- What a query pixel's scaled products are multiplied by. -/
def invf (i : Ins Ideal) (j : ℕ) : EReal := Ideal.div (cq i j) (sc i j)

/-- The code of key row `p` at query pixel `j`. -/
def code (i : Ins Ideal) (p j : ℕ) : EReal :=
  min (Ideal.ofBits .f32 0x43E00000#32) (max (Ideal.ofBits .f32 0xC3E00000#32) (xg i p j * invf i j))

section
variable (i : Ins Ideal)

def QLd (o : ℕ) (v : FVec Ideal S1x16x4x256 .fp8e4m3) : Prop := ∀ a b d, v (ix4 0 a b d) = i.q (ix4 0 a (Fin.ofNat 16 (o + b)) d)
def KL (o : ℕ) (v : FVec Ideal S1x288x256 .fp8e4m3) : Prop := ∀ r d, v (ix3 0 r d) = i.k (ix3 0 (Fin.ofNat 11520 (o + r)) d)
def SL (o : ℕ) (v : FVec Ideal S1x288x128 .f32) : Prop := ∀ r d, v (ix3 0 r d) = i.ks (ix3 0 (Fin.ofNat 11520 (o + r)) d)
def QB (v : FVec Ideal S256x256 .fp8e4m3) : Prop :=
  ∀ j d : Fin 256, v (ix2 j d) = i.q (ix4 0 (Fin.ofNat 16 (j % 64 / 4)) (Fin.ofNat 16 (4 * (j / 64) + j % 4)) d)
def Raw (o : ℕ) (v : FVec Ideal S288x256 .f32) : Prop := ∀ (r : Fin 288) (j : Fin 256), v (ix2 r j) = (∑ d : Fin 256,
    (i.k (ix3 0 (Fin.ofNat 11520 (o + r)) d) : EReal)
      * (i.q (ix4 0 (Fin.ofNat 16 (j % 64 / 4)) (Fin.ofNat 16 (4 * (j / 64) + j % 4)) d) : EReal))
def Ks (o : ℕ) (v : FVec Ideal S288x128 .f32) : Prop := ∀ (r : Fin 288) (n : Fin 128), v (ix2 r n) = i.ks (ix3 0 (Fin.ofNat 11520 (o + r)) n)
def Sl (t o : ℕ) (v : FVec Ideal S288x128 .f32) : Prop := ∀ (r : Fin 288) (n : Fin 128), v (ix2 r n) = xg i (o + r) (128 * t + n)
def Sx (t o : ℕ) (v : FVec Ideal S1x288x128 .f32) : Prop := ∀ (r : Fin 288) (n : Fin 128), v (ix3 0 r n) = xg i (o + r) (128 * t + n)
def Mr (t o : ℕ) (v : FVec Ideal S8x128 .f32) : Prop := 8 ∣ o → ∀ (s : Fin 8) (n : Fin 128),
  v (ix2 s n) = ((Finset.Ico o (o + 288)).filter (· % 8 = (s : ℕ))).sup fun p => ab (xg i p (128 * t + n))
def Mx (t o : ℕ) (v : FVec Ideal S8x128 .f32) : Prop := 8 ∣ o ∧ ∀ (s : Fin 8) (n : Fin 128),
  v (ix2 s n) = ((Finset.range o).filter (· % 8 = (s : ℕ))).sup fun p => ab (xg i p (128 * t + n))
def M1 (t : ℕ) (v : FVec Ideal S1x128 .f32) : Prop := ∀ n : Fin 128, v (ix2 0 n) = amax i (128 * t + n)
def QS (t : ℕ) (v : FVec Ideal S1x1x1x1x128 .f32) : Prop := ∀ n : Fin 128, v (ix5 0 0 0 0 n) = i.qs (ix5 0 0 0 0 (Fin.ofNat 256 (128 * t + n)))
def QC (t : ℕ) (v : FVec Ideal S1x128 .f32) : Prop := ∀ n : Fin 128, v (ix2 0 n) = cq i (128 * t + n)
def SC (t : ℕ) (v : FVec Ideal S1x128 .f32) : Prop := ∀ n : Fin 128, v (ix2 0 n) = sc i (128 * t + n)
def Inv (t : ℕ) (v : FVec Ideal S1x128 .f32) : Prop := ∀ n : Fin 128, v (ix2 0 n) = invf i (128 * t + n)
def BI (t : ℕ) (v : FVec Ideal S128x128 .f32) : Prop := ∀ r n : Fin 128, v (ix2 r n) = invf i (128 * t + n)
def XB (t o : ℕ) (v : FVec Ideal S1x128x128 .f32) : Prop := ∀ r n : Fin 128, v (ix3 0 r n) = xg i (o + r) (128 * t + n)
def B0 (t o : ℕ) (v : FVec Ideal S128x128 .f32) : Prop := ∀ r n : Fin 128, v (ix2 r n) = xg i (o + r) (128 * t + n)
def B1 (t o : ℕ) (v : FVec Ideal S128x128 .f32) : Prop := ∀ r n : Fin 128, v (ix2 r n) = xg i (o + r) (128 * t + n) * invf i (128 * t + n)
def B2 (t o : ℕ) (v : FVec Ideal S128x128 .f32) : Prop := ∀ r n : Fin 128,
  v (ix2 r n) = max (Ideal.ofBits .f32 0xC3E00000#32) (xg i (o + r) (128 * t + n) * invf i (128 * t + n))
def B3 (t o : ℕ) (v : FVec Ideal S128x128 .f32) : Prop := ∀ r n : Fin 128, v (ix2 r n) = code i (o + r) (128 * t + n)
def CU (t o : ℕ) (v : FVec Ideal S128x128 .fp8e4m3) : Prop := ∀ r n : Fin 128, v (ix2 r n) = code i (o + r) (128 * t + n)
def CT (t o : ℕ) (v : FVec Ideal S128x128 .fp8e4m3) : Prop := ∀ n r : Fin 128, v (ix2 n r) = code i (o + r) (128 * t + n)
def CH (t o s0 : ℕ) (v : FVec Ideal S64x128 .fp8e4m3) : Prop := ∀ (a : Fin 64) (r : Fin 128), v (ix2 a r) = code i (o + r) (128 * t + 16 * s0 + a)
def CR (t o s0 : ℕ) (v : FVec Ideal S16x4x128 .fp8e4m3) : Prop := ∀ (q : Fin 16) (s : Fin 4) (r : Fin 128),
  v (ix3 q s r) = code i (o + r) (128 * t + 16 * s0 + (4 * q + s))
def CS (t o s0 : ℕ) (v : FVec Ideal S1x16x1x1x4x128 .fp8e4m3) : Prop := ∀ (q : Fin 16) (s : Fin 4) (r : Fin 128),
  v (ix6 0 q 0 0 s r) = code i (o + r) (128 * t + 16 * s0 + (4 * q + s))
end

/-- The bounds the codes are cut to, held everywhere. -/
def Lo (v : FVec Ideal S128x128 .f32) : Prop := ∀ r n : Fin 128, v (ix2 r n) = Ideal.ofBits .f32 0xC3E00000#32
def Hi (v : FVec Ideal S128x128 .f32) : Prop := ∀ r n : Fin 128, v (ix2 r n) = Ideal.ofBits .f32 0x43E00000#32
def CHi (v : Ideal .f32) : Prop := v = Ideal.ofBits .f32 0x43E00000#32
def CLo (v : Ideal .f32) : Prop := v = Ideal.ofBits .f32 0xC3E00000#32

variable {i : Ins Ideal} {t o s0 : ℕ}

theorem ofBits_bot : Ideal.ofBits .f32 0xFF800000#32 = ⊥ := by
  simp [Ideal.ofBits, Ideal.ieee]

theorem qb_of {q0 q1 q2 q3 : FVec Ideal S1x16x4x256 .fp8e4m3} (h0 : QLd i 0 q0) (h1 : QLd i 4 q1) (h2 : QLd i 8 q2) (h3 : QLd i 12 q3) :
    QB i (concatenate S256x256 0 [
    ⟨S64x256, shapeCast S64x256 (shapeCast S16x4x256 q0 shapeCasts_S1x16x4x256_S16x4x256) shapeCasts_S16x4x256_S64x256⟩,
    ⟨S64x256, shapeCast S64x256 (shapeCast S16x4x256 q1 shapeCasts_S1x16x4x256_S16x4x256) shapeCasts_S16x4x256_S64x256⟩,
    ⟨S64x256, shapeCast S64x256 (shapeCast S16x4x256 q2 shapeCasts_S1x16x4x256_S16x4x256) shapeCasts_S16x4x256_S64x256⟩,
    ⟨S64x256, shapeCast S64x256 (shapeCast S16x4x256 q3 shapeCasts_S1x16x4x256_S16x4x256) shapeCasts_S16x4x256_S64x256⟩]
    concatenates_S64x256_S64x256_S64x256_S64x256_S256x256_d0) :=
  qblk_at h0 h1 h2 h3

theorem raw_of {k : FVec Ideal S1x288x256 .fp8e4m3} {Q : FVec Ideal S256x256 .fp8e4m3} (hk : KL i o k) (hQ : QB i Q) :
    Raw i o (matmul dot_S288x256_S256x256_S288x256_1_1_0_0_n_n none (shapeCast S288x256 k shapeCasts_S1x288x256_S288x256) Q
        (constant S288x256 .f32 0x00000000#32)) := by
  intro r j
  have h : matmul dot_S288x256_S256x256_S288x256_1_1_0_0_n_n none (shapeCast S288x256 k shapeCasts_S1x288x256_S288x256) Q
        (constant S288x256 .f32 0x00000000#32) (ix2 r j) = ∑ d : Fin 256, k (ix3 0 r d) * Q (ix2 j d) := by pointwise
  rw [h]
  exact Finset.sum_congr rfl fun d _ => by rw [hk, hQ]

theorem ks_of {s : FVec Ideal S1x288x128 .f32} (h : SL i o s) : Ks i o (shapeCast S288x128 s shapeCasts_S1x288x128_S288x128) := by
  intro r n
  rw [← h]
  pointwise

theorem sl0 {R : FVec Ideal S288x256 .f32} {s : FVec Ideal S288x128 .f32} (hR : Raw i o R) (hs : Ks i o s) :
    Sl i 0 o (mulf (extractStridedSlice S288x128 ![0, 0] R slices_S288x256_o0_0_S288x128) s) := by
  intro r n
  have h : mulf (extractStridedSlice S288x128 ![0, 0] R slices_S288x256_o0_0_S288x128) s (ix2 r n) = R (ix2 r ⟨n, by omega⟩) * s (ix2 r n) := by pointwise
  rw [h, hR, hs]
  unfold xg
  simp only [Nat.mul_zero, Nat.zero_add]
  congr 3
  apply Fin.ext; simp only [Fin.val_ofNat]; have := n.2; omega

theorem sl1 {R : FVec Ideal S288x256 .f32} {s : FVec Ideal S288x128 .f32} (hR : Raw i o R) (hs : Ks i o s) :
    Sl i 1 o (mulf (extractStridedSlice S288x128 ![0, 128] R slices_S288x256_o0_128_S288x128) s) := by
  intro r n
  have h : mulf (extractStridedSlice S288x128 ![0, 128] R slices_S288x256_o0_128_S288x128) s (ix2 r n) = R (ix2 r ⟨128 + n, by omega⟩) * s (ix2 r n) := by pointwise
  rw [h, hR, hs]
  unfold xg
  simp only [Nat.mul_one]
  congr 3
  apply Fin.ext; simp only [Fin.val_ofNat]; have := n.2; omega

theorem sx_of {v : FVec Ideal S288x128 .f32} (h : Sl i t o v) : Sx i t o (shapeCast S1x288x128 v shapeCasts_S288x128_S1x288x128) := by
  intro r n
  rw [← h]
  pointwise

theorem red_at (v : FVec Ideal S288x128 .f32) (h) (s : Fin 8) (n : Fin 128) :
    multiReduction .maximumf [0] S8x128 (shapeCast S36x8x128 (absf v) shapeCasts_S288x128_S36x8x128) 0xFF800000#32
        reduces_S36x8x128_S8x128 (.inl rfl) h (ix2 s n)
      = Finset.univ.sup fun k : Fin 36 => ab (v (ix2 ⟨k * 8 + s, by omega⟩ n)) := by
  pointwise
  rw [ofBits_bot]
  rfl

theorem mr_of {v : FVec Ideal S288x128 .f32} (hv : Sl i t o v) :
    Mr i t o (multiReduction .maximumf [0] S8x128 (shapeCast S36x8x128 (absf v) shapeCasts_S288x128_S36x8x128) 0xFF800000#32
        reduces_S36x8x128_S8x128 (.inl rfl) rfl) := by
  intro h8 s n
  refine (red_at v _ s n).trans ?_
  apply le_antisymm
  · refine Finset.sup_le fun k _ => ?_
    rw [hv]
    refine Finset.le_sup (f := fun p => ab (xg i p (128 * t + n))) (Finset.mem_filter.mpr ⟨Finset.mem_Ico.mpr ?_, ?_⟩)
    · show o ≤ o + (k * 8 + s) ∧ o + (k * 8 + s) < o + 288
      omega
    · show (o + (k * 8 + s)) % 8 = s
      omega
  · refine Finset.sup_le fun p hp => ?_
    obtain ⟨hp, hs⟩ := Finset.mem_filter.mp hp
    obtain ⟨hp1, hp2⟩ := Finset.mem_Ico.mp hp
    refine le_trans (le_of_eq ?_) (Finset.le_sup (f := fun k : Fin 36 => ab (v (ix2 ⟨k * 8 + s, by omega⟩ n)))
      (Finset.mem_univ (⟨(p - o) / 8, by omega⟩ : Fin 36)))
    show ab _ = ab _
    rw [hv]
    congr 2
    show p = o + ((p - o) / 8 * 8 + s)
    omega

theorem mx_first {v : FVec Ideal S8x128 .f32} (h : Mr i t 0 v) : Mx i t 288 v := by
  refine ⟨by decide, fun s n => ?_⟩
  rw [h (by decide)]
  rfl

theorem mx_next {x v : FVec Ideal S8x128 .f32} (hx : Mx i t o x) (h : Mr i t o v) : Mx i t (o + 288) (maximumf x v) := by
  refine ⟨by have := hx.1; omega, fun s n => ?_⟩
  show max (x (ix2 s n)) (v (ix2 s n)) = _
  rw [hx.2, h hx.1, show (Finset.range (o + 288)) = Finset.range o ∪ Finset.Ico o (o + 288) by
    ext p; simp only [Finset.mem_union, Finset.mem_range, Finset.mem_Ico]; omega, Finset.filter_union, Finset.sup_union]

theorem max8_at (v : FVec Ideal S8x128 .f32) (h) (n : Fin 128) :
    shapeCast S1x128 (multiReduction .maximumf [0] S128 v 0xFF800000#32
        reduces_S8x128_S128 (.inl rfl) h) shapeCasts_S128_S1x128 (ix2 0 n)
      = Finset.univ.sup fun k : Fin 8 => v (ix2 k n) := by
  pointwise
  rw [ofBits_bot]
  rfl

theorem m1_of {v : FVec Ideal S8x128 .f32} (hv : Mx i t 11520 v) :
    M1 i t (shapeCast S1x128 (multiReduction .maximumf [0] S128 v 0xFF800000#32
        reduces_S8x128_S128 (.inl rfl) rfl) shapeCasts_S128_S1x128) := by
  intro n
  refine (max8_at v _ n).trans ?_
  unfold amax
  apply le_antisymm
  · refine Finset.sup_le fun k _ => ?_
    rw [hv.2]
    exact Finset.sup_mono (Finset.filter_subset _ _)
  · refine Finset.sup_le fun p hp => ?_
    refine le_trans ?_ (Finset.le_sup (f := fun k : Fin 8 => v (ix2 k n)) (Finset.mem_univ (⟨p % 8, by omega⟩ : Fin 8)))
    show _ ≤ v (ix2 ⟨p % 8, _⟩ n)
    rw [hv.2]
    exact Finset.le_sup (f := fun p => ab (xg i p (128 * t + n))) (Finset.mem_filter.mpr ⟨hp, rfl⟩)

theorem qc_of {v : FVec Ideal S1x1x1x1x128 .f32} (h : QS i t v) :
    QC i t (mulf (shapeCast S1x128 v shapeCasts_S1x1x1x1x128_S1x128) (broadcast S1x128 (Scalar.ofBits .f32 0x3D800000#32))) := by
  intro n
  unfold cq
  rw [← h]
  pointwise

theorem qc_one {v : FVec Ideal S1x128 .f32} (h : QC i t v) :
    QC i t (mulf v (broadcast S1x128 (Scalar.ofBits .f32 0x3F800000#32))) := by
  intro n
  rw [← h n]
  show v (ix2 0 n) * Ideal.ofBits .f32 0x3F800000#32 = _
  rw [Ideal.ofBits_one_f32, mul_one]

theorem sc_of {a v : FVec Ideal S1x128 .f32} (ha : M1 i t a) (h : QC i t v) :
    SC i t (divf (mulf a v) (broadcast S1x128 (Scalar.ofBits .f32 0x43E00000#32))) := by
  intro n
  unfold sc
  rw [← h, ← ha]
  rfl

theorem inv_of {a v : FVec Ideal S1x128 .f32} (ha : QC i t a) (h : SC i t v) : Inv i t (divf a v) := by
  intro n
  unfold invf
  rw [← h, ← ha]
  rfl

theorem bi_of {v : FVec Ideal S1x128 .f32} (h : Inv i t v) : BI i t (broadcastTo S128x128 v broadcasts_S1x128_S128x128) := by
  intro r n
  rw [← h]
  pointwise

theorem b0_of {v : FVec Ideal S1x128x128 .f32} (h : XB i t o v) : B0 i t o (shapeCast S128x128 v shapeCasts_S1x128x128_S128x128) := by
  intro r n
  rw [← h]
  pointwise

theorem b1_of {v w : FVec Ideal S128x128 .f32} (h : B0 i t o v) (hw : BI i t w) : B1 i t o (mulf v w) := by
  intro r n
  rw [← h, ← hw r]
  rfl

theorem clo_of : CLo (Scalar.ofBits .f32 0xC3E00000#32) := rfl
theorem chi_of : CHi (Scalar.ofBits .f32 0x43E00000#32) := rfl
theorem lo_of {x : Ideal .f32} (h : CLo x) : Lo (broadcast S128x128 x) := fun _ _ => h
theorem hi_of {x : Ideal .f32} (h : CHi x) : Hi (broadcast S128x128 x) := fun _ _ => h

theorem b2_of {v w : FVec Ideal S128x128 .f32} (h : Lo v) (hw : B1 i t o w) : B2 i t o (maximumf v w) := by
  intro r n
  rw [← h r n, ← hw]
  rfl

theorem b3_of {v w : FVec Ideal S128x128 .f32} (h : Hi v) (hw : B2 i t o w) : B3 i t o (minimumf v w) := by
  intro r n
  unfold code
  rw [← hw, ← h r n]
  rfl

theorem cu_of {v : FVec Ideal S128x128 .f32} (h : B3 i t o v) : CU i t o (truncf .fp8e4m3 v bitsLt_fp8e4m3_f32) := by
  intro r n
  rw [← h]
  rfl

theorem ct_of {v : FVec Ideal S128x128 .fp8e4m3} (h : CU i t o v) : CT i t o (transpose S128x128 [1, 0] v transposes_S128x128_p1_0_S128x128) := by
  intro n r
  rw [← h]
  pointwise

theorem ch0_of {v : FVec Ideal S128x128 .fp8e4m3} (h : CT i t o v) : CH i t o 0 (extractStridedSlice S64x128 ![0, 0] v slices_S128x128_o0_0_S64x128) := by
  intro a r
  have e : extractStridedSlice S64x128 ![0, 0] v slices_S128x128_o0_0_S64x128 (ix2 a r) = v (ix2 ⟨a, by omega⟩ r) := by pointwise
  rw [e, h]
  rfl

theorem ch4_of {v : FVec Ideal S128x128 .fp8e4m3} (h : CT i t o v) : CH i t o 4 (extractStridedSlice S64x128 ![64, 0] v slices_S128x128_o64_0_S64x128) := by
  intro a r
  have e : extractStridedSlice S64x128 ![64, 0] v slices_S128x128_o64_0_S64x128 (ix2 a r) = v (ix2 ⟨64 + a, by omega⟩ r) := by pointwise
  rw [e, h]
  show code i (o + r) (128 * t + (64 + a)) = code i (o + r) (128 * t + 16 * 4 + a)
  congr 1
  omega

theorem cr_of {v : FVec Ideal S64x128 .fp8e4m3} (h : CH i t o s0 v) : CR i t o s0 (shapeCast S16x4x128 v shapeCasts_S64x128_S16x4x128) := by
  intro q s r
  have e : shapeCast S16x4x128 v shapeCasts_S64x128_S16x4x128 (ix3 q s r) = v (ix2 ⟨q * 4 + s, by omega⟩ r) := by pointwise
  rw [e, h]
  show code i (o + r) (128 * t + 16 * s0 + (q * 4 + s)) = _
  rw [Nat.mul_comm (q : ℕ) 4]

theorem cs_of {v : FVec Ideal S16x4x128 .fp8e4m3} (h : CR i t o s0 v) :
    CS i t o s0 (shapeCast S1x16x1x1x4x128 v shapeCasts_S16x4x128_S1x16x1x1x4x128) := by
  intro q s r
  rw [← h]
  pointwise

end Cert.KernelIdeal.Own

end
-- ==== Proof.Follow.lean ====
/-
  Loads and stores of the body, followed: what a load of the inputs, of the scaled products gives, and how far
  the scaled products and the first result's block have been filled.
-/
module

public import proofs.«01_k».proof.Proof.Ops

@[expose] public section

set_option maxRecDepth 16384

noncomputable section

namespace Cert.KernelIdeal.Own

open Idealize.ShloMosaic Idealize.ShloMosaic.TcCoe Idealize.SL Idealize.SL.Sem
open Cert.Steps

/-- How far the body has come: the first `n0` rows of the left half and the first `n1` rows of the right half of
    the scaled products are in place, and so are the first `m` of the 360 pieces of the first result's block. -/
structure XO (i : Ins Ideal) (n0 n1 m : ℕ) (X : State Ideal) : Prop where
  x0 : ∀ (p : Fin 11520) (n : Fin 128), (p : ℕ) < n0 → X.x (ix3 0 p n) = xg i p (128 * 0 + n)
  x1 : ∀ (p : Fin 11520) (n : Fin 128), (p : ℕ) < n1 → X.x (ix3 1 p n) = xg i p (128 * 1 + n)
  o0 : ∀ (q : Fin 16) (t : Fin 2) (kt : Fin 90) (s : Fin 8) (b : Fin 128), 180 * (t : ℕ) + 2 * kt + s / 4 < m →
    X.o0 (ix6 0 q t kt s b) = code i (128 * kt + b) (128 * t + 64 * (s / 4) + (4 * q + s % 4))

theorem XO.start (i : Ins Ideal) (X : State Ideal) : XO i 0 0 0 X :=
  ⟨fun _ _ h => absurd h (Nat.not_lt_zero _), fun _ _ h => absurd h (Nat.not_lt_zero _), fun _ _ _ _ _ h => absurd h (Nat.not_lt_zero _)⟩

theorem XO.of_same {i : Ins Ideal} {n0 n1 m : ℕ} {X Y : State Ideal} (h : XO i n0 n1 m X) (hs : Same X Y) : XO i n0 n1 m Y :=
  ⟨by rw [hs.x]; exact h.x0, by rw [hs.x]; exact h.x1, by rw [hs.o0]; exact h.o0⟩

/-- Writing 288 rows of the scaled products, read at a row. -/
theorem rows_put {t o : ℕ} (inb) (Y : Vec Ideal S2x11520x128 .f32) (w : FVec Ideal S1x288x128 .f32) (u : Fin 2) (p : Fin 11520) (n : Fin 128) :
    (Rect.unit (s := S2x11520x128) ![t, o, 0] S1x288x128.size inb).overlay Y w (ix3 u p n)
      = if h : (u : ℕ) = t ∧ o ≤ p ∧ (p : ℕ) < o + 288 then w (ix3 0 ⟨p - o, by omega⟩ n) else Y (ix3 u p n) := by
  split_ifs with h
  · refine overlay_in inb Y w (ix3 u p n) (ix3 (0 : Fin 1) (⟨p - o, by omega⟩ : Fin 288) n) fun a => ?_
    match a with
    | ⟨0, _⟩ => show (u : ℕ) = t + 0; omega
    | ⟨1, _⟩ => show (p : ℕ) = o + (p - o); omega
    | ⟨2, _⟩ => show (n : ℕ) = 0 + n; omega
  · by_cases hu : (u : ℕ) = t
    · refine overlay_out inb Y w (ix3 u p n) (⟨1, by decide⟩ : Fin 3) ?_
      show (p : ℕ) < o ∨ o + 288 ≤ p
      omega
    · refine overlay_out inb Y w (ix3 u p n) (⟨0, by decide⟩ : Fin 3) ?_
      show (u : ℕ) < t ∨ t + 1 ≤ u
      omega

/-- Writing one piece of the first result's block, read at an entry. -/
theorem piece_put {t kt s0 : ℕ} (inb) (Y : Vec Ideal S1x16x2x90x8x128 .fp8e4m3) (w : FVec Ideal S1x16x1x1x4x128 .fp8e4m3)
    (q : Fin 16) (u : Fin 2) (ku : Fin 90) (s : Fin 8) (b : Fin 128) :
    (Rect.unit (s := S1x16x2x90x8x128) ![0, 0, t, kt, s0, 0] S1x16x1x1x4x128.size inb).overlay Y w (ix6 0 q u ku s b)
      = if h : (u : ℕ) = t ∧ (ku : ℕ) = kt ∧ s0 ≤ s ∧ (s : ℕ) < s0 + 4 then w (ix6 0 q 0 0 ⟨s - s0, by omega⟩ b) else Y (ix6 0 q u ku s b) := by
  split_ifs with h
  · refine overlay_in inb Y w (ix6 0 q u ku s b) (ix6 (0 : Fin 1) q (0 : Fin 1) (0 : Fin 1) (⟨s - s0, by omega⟩ : Fin 4) b) fun a => ?_
    match a with
    | ⟨0, _⟩ => rfl
    | ⟨1, _⟩ => show (q : ℕ) = 0 + q; omega
    | ⟨2, _⟩ => show (u : ℕ) = t + 0; omega
    | ⟨3, _⟩ => show (ku : ℕ) = kt + 0; omega
    | ⟨4, _⟩ => show (s : ℕ) = s0 + (s - s0); omega
    | ⟨5, _⟩ => show (b : ℕ) = 0 + b; omega
  · by_cases hu : (u : ℕ) = t
    · by_cases hk : (ku : ℕ) = kt
      · refine overlay_out inb Y w (ix6 0 q u ku s b) (⟨4, by decide⟩ : Fin 6) ?_
        show (s : ℕ) < s0 ∨ s0 + 4 ≤ s
        omega
      · refine overlay_out inb Y w (ix6 0 q u ku s b) (⟨3, by decide⟩ : Fin 6) ?_
        show (ku : ℕ) < kt ∨ kt + 1 ≤ ku
        omega
    · refine overlay_out inb Y w (ix6 0 q u ku s b) (⟨2, by decide⟩ : Fin 6) ?_
      show (u : ℕ) < t ∨ t + 1 ≤ u
      omega

theorem XO.put0 {i : Ins Ideal} {o n1 m : ℕ} {X : State Ideal} (h : XO i o n1 m X) {w : FVec Ideal S1x288x128 .f32} (hw : Sx i 0 o w) (inb) :
    XO i (o + 288) n1 m { X with x := (Rect.unit (s := S2x11520x128) ![0, o, 0] S1x288x128.size inb).overlay X.x w } := by
  refine ⟨fun p n hp => ?_, fun p n hp => ?_, h.o0⟩ <;> dsimp only <;> rw [rows_put]
  · split_ifs with hc
    · rw [hw]
      show xg i (o + (p - o)) _ = _
      rw [Nat.add_sub_cancel' hc.2.1]
    · exact h.x0 p n (Nat.lt_of_not_le fun hn => hc ⟨rfl, hn, hp⟩)
  · rw [dif_neg fun hc => absurd hc.1 Nat.one_ne_zero]
    exact h.x1 p n hp

theorem XO.put1 {i : Ins Ideal} {o n0 m : ℕ} {X : State Ideal} (h : XO i n0 o m X) {w : FVec Ideal S1x288x128 .f32} (hw : Sx i 1 o w) (inb) :
    XO i n0 (o + 288) m { X with x := (Rect.unit (s := S2x11520x128) ![1, o, 0] S1x288x128.size inb).overlay X.x w } := by
  refine ⟨fun p n hp => ?_, fun p n hp => ?_, h.o0⟩ <;> dsimp only <;> rw [rows_put]
  · rw [dif_neg fun hc => absurd hc.1 Nat.zero_ne_one]
    exact h.x0 p n hp
  · split_ifs with hc
    · rw [hw]
      show xg i (o + (p - o)) _ = _
      rw [Nat.add_sub_cancel' hc.2.1]
    · exact h.x1 p n (Nat.lt_of_not_le fun hn => hc ⟨rfl, hn, hp⟩)

theorem XO.putO {i : Ins Ideal} {n0 n1 t kt s0 : ℕ} {X : State Ideal} (h : XO i n0 n1 (180 * t + 2 * kt + s0 / 4) X)
    {w : FVec Ideal S1x16x1x1x4x128 .fp8e4m3} (hw : CS i t (128 * kt) s0 w) (h4 : s0 = 0 ∨ s0 = 4) (inb) :
    XO i n0 n1 (180 * t + 2 * kt + s0 / 4 + 1)
      { X with o0 := (Rect.unit (s := S1x16x2x90x8x128) ![0, 0, t, kt, s0, 0] S1x16x1x1x4x128.size inb).overlay X.o0 w } := by
  refine ⟨h.x0, h.x1, fun q t' kt' s b hm => ?_⟩
  dsimp only
  rw [piece_put]
  have b1 : kt + 1 ≤ 90 := inb 3
  split_ifs with hc
  · rw [hw]
    obtain ⟨ht, hk, hs⟩ := hc
    show code i (128 * kt + b) (128 * t + 16 * s0 + (4 * q + (s - s0))) = _
    rw [ht, hk]
    congr 1
    clear hw h inb
    omega
  · refine h.o0 q t' kt' s b ?_
    clear hw h inb
    omega

theorem XO.block0 {i : Ins Ideal} {n1 m o : ℕ} {X : State Ideal} (h : XO i 11520 n1 m X) (inb) {v : FVec Ideal S1x128x128 .f32}
    (hv : v = fun x => X.x ((Rect.unit (s := S2x11520x128) ![0, o, 0] S1x128x128.size inb).toLoadRect.idx x)) : XB i 0 o v := by
  intro r n
  have b : o + 128 ≤ 11520 := inb 1
  rw [hv]
  refine Eq.trans (congrArg X.x ?_) (h.x0 ⟨o + r, by omega⟩ n (by show o + (r : ℕ) < 11520; omega))
  funext a; apply Fin.ext
  fin_cases a
  · rfl
  · show o + 1 * (r : ℕ) = o + r; omega
  · show 0 + 1 * (n : ℕ) = n; omega

theorem XO.block1 {i : Ins Ideal} {n0 m o : ℕ} {X : State Ideal} (h : XO i n0 11520 m X) (inb) {v : FVec Ideal S1x128x128 .f32}
    (hv : v = fun x => X.x ((Rect.unit (s := S2x11520x128) ![1, o, 0] S1x128x128.size inb).toLoadRect.idx x)) : XB i 1 o v := by
  intro r n
  have b : o + 128 ≤ 11520 := inb 1
  rw [hv]
  refine Eq.trans (congrArg X.x ?_) (h.x1 ⟨o + r, by omega⟩ n (by show o + (r : ℕ) < 11520; omega))
  funext a; apply Fin.ext
  fin_cases a
  · rfl
  · show o + 1 * (r : ℕ) = o + r; omega
  · show 0 + 1 * (n : ℕ) = n; omega

variable {c : Dev nD} {R : Refs} {i : Ins Ideal} {X : State Ideal} {α : Type} {n0 n1 m o : ℕ}
variable {defs : Defs nD τ sig (Elt Ideal) Λ₀} {𝒱 : Variants} {E : Set ℕ} {Q : α → State Ideal → Prop}

theorem step_part {β : Type} {p : Prog (TpuEff nD τ sig (Elt Ideal) Λ₀ .tc) α} {k : α → Prog (TpuEff nD τ sig (Elt Ideal) Λ₀ .tc) β}
    {Q : β → State Ideal → Prop} {I : α → State Ideal → Prop} (h : Steps defs 𝒱 (c : Thread nD τ) E (St c R i) X p I)
    (hk : ∀ a Y, I a Y → Steps defs 𝒱 (c : Thread nD τ) E (St c R i) Y (k a) Q) :
    Steps defs 𝒱 (c : Thread nD τ) E (St c R i) X (p >>= k) Q := Steps.part h hk

theorem step_move {β : Type} {p : Prog (TpuEff nD τ sig (Elt Ideal) Λ₀ .tc) α} {k : α → Prog (TpuEff nD τ sig (Elt Ideal) Λ₀ .tc) β}
    {Q : β → State Ideal → Prop} (h : Moves defs 𝒱 (c : Thread nD τ) E (St c R i) Same p) (hX : XO i n0 n1 m X)
    (hk : ∀ a Y, XO i n0 n1 m Y → Steps defs 𝒱 (c : Thread nD τ) E (St c R i) Y (k a) Q) :
    Steps defs 𝒱 (c : Thread nD τ) E (St c R i) X (p >>= k) Q := Steps.part (h X) fun a Y hY => hk a Y (hX.of_same hY)

theorem step_ret {a : α} (h : Q a X) :
    Steps defs 𝒱 (c : Thread nD τ) E (St c R i) X (pure a : Prog (TpuEff nD τ sig (Elt Ideal) Λ₀ .tc) α) Q := Steps.pure' h

/-! ### Loads and stores nothing is said of -/

theorem step_any_x {r : LoadRect S2x11520x128} {hl : R.x.view.LoadsAt r} {k : (r.shape.Idx → Elt Ideal .f32) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.x r hl) >>= k) Q := Steps.doLoad (see_x c R i) fun v _ => h v

theorem step_any_o0 {r : LoadRect S1x16x2x90x8x128} {hl : R.o0.view.LoadsAt r} {k : (r.shape.Idx → Elt Ideal .fp8e4m3) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.o0 r hl) >>= k) Q := Steps.doLoad (see_o0 c R i) fun v _ => h v

theorem step_any_l1 {r : LoadRect S2x2880x128} {hl : R.l1.view.LoadsAt r} {k : (r.shape.Idx → Elt Ideal .f32) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.l1 r hl) >>= k) Q := Steps.doLoad (see_l1 c R i) fun v _ => h v

theorem step_keep_l1 {r : Rect S2x2880x128} {w : r.shape.Idx → Elt Ideal .f32} {hx : (R.l1.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.l1 r w Finset.univ hx hmk) >>= k) Q :=
  Steps.doStore (lens_l1 c R i) (XO i n0 n1 m) ⟨hX.x0, hX.x1, hX.o0⟩ h

theorem step_any_qs {r : LoadRect S1x1x1x1x256} {hl : R.qs.view.LoadsAt r} {k : (r.shape.Idx → Elt Ideal .f32) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.qs r hl) >>= k) Q := Steps.doLoad (see_qs c R i) fun v _ => h v

theorem step_any_grid {r : LoadRect S8x720} {hl : R.grid.view.LoadsAt r} {k : (r.shape.Idx → Elt Ideal .bf16) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.grid r hl) >>= k) Q := Steps.doLoad (see_grid c R i) fun v _ => h v

theorem step_any_st {r : LoadRect S1x1x1x8x256} {hl : R.st.view.LoadsAt r} {k : (r.shape.Idx → Elt Ideal .f32) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.st r hl) >>= k) Q := Steps.doLoad (see_st c R i) fun v _ => h v

theorem step_keep_st {r : Rect S1x1x1x8x256} {w : r.shape.Idx → Elt Ideal .f32} {hx : (R.st.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.st r w Finset.univ hx hmk) >>= k) Q :=
  Steps.doStore (lens_st c R i) (XO i n0 n1 m) ⟨hX.x0, hX.x1, hX.o0⟩ h

theorem step_any_t1 {r : LoadRect S6x1280x512} {hl : R.t1.view.LoadsAt r} {k : (r.shape.Idx → Elt Ideal .fp8e4m3) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.t1 r hl) >>= k) Q := Steps.doLoad (see_t1 c R i) fun v _ => h v

theorem step_keep_t1 {r : Rect S6x1280x512} {w : r.shape.Idx → Elt Ideal .fp8e4m3} {hx : (R.t1.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.t1 r w Finset.univ hx hmk) >>= k) Q :=
  Steps.doStore (lens_t1 c R i) (XO i n0 n1 m) ⟨hX.x0, hX.x1, hX.o0⟩ h

theorem step_any_t2 {r : LoadRect S6x1280x128} {hl : R.t2.view.LoadsAt r} {k : (r.shape.Idx → Elt Ideal .fp8e4m3) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.t2 r hl) >>= k) Q := Steps.doLoad (see_t2 c R i) fun v _ => h v

theorem step_keep_t2 {r : Rect S6x1280x128} {w : r.shape.Idx → Elt Ideal .fp8e4m3} {hx : (R.t2.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.t2 r w Finset.univ hx hmk) >>= k) Q :=
  Steps.doStore (lens_t2 c R i) (XO i n0 n1 m) ⟨hX.x0, hX.x1, hX.o0⟩ h

theorem step_any_t3 {r : LoadRect S2x1280x128} {hl : R.t3.view.LoadsAt r} {k : (r.shape.Idx → Elt Ideal .fp8e4m3) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.t3 r hl) >>= k) Q := Steps.doLoad (see_t3 c R i) fun v _ => h v

theorem step_keep_t3 {r : Rect S2x1280x128} {w : r.shape.Idx → Elt Ideal .fp8e4m3} {hx : (R.t3.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.t3 r w Finset.univ hx hmk) >>= k) Q :=
  Steps.doStore (lens_t3 c R i) (XO i n0 n1 m) ⟨hX.x0, hX.x1, hX.o0⟩ h

theorem step_any_v {r : LoadRect S1440x128} {hl : R.v.view.LoadsAt r} {k : (r.shape.Idx → Elt Ideal .f32) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.v r hl) >>= k) Q := Steps.doLoad (see_v c R i) fun v _ => h v

theorem step_keep_v {r : Rect S1440x128} {w : r.shape.Idx → Elt Ideal .f32} {hx : (R.v.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.v r w Finset.univ hx hmk) >>= k) Q :=
  Steps.doStore (lens_v c R i) (XO i n0 n1 m) ⟨hX.x0, hX.x1, hX.o0⟩ h

theorem step_any_l2 {r : LoadRect S720x128} {hl : R.l2.view.LoadsAt r} {k : (r.shape.Idx → Elt Ideal .f32) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.l2 r hl) >>= k) Q := Steps.doLoad (see_l2 c R i) fun v _ => h v

theorem step_keep_l2 {r : Rect S720x128} {w : r.shape.Idx → Elt Ideal .f32} {hx : (R.l2.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.l2 r w Finset.univ hx hmk) >>= k) Q :=
  Steps.doStore (lens_l2 c R i) (XO i n0 n1 m) ⟨hX.x0, hX.x1, hX.o0⟩ h

theorem step_any_h {r : LoadRect S360x128} {hl : R.h.view.LoadsAt r} {k : (r.shape.Idx → Elt Ideal .f32) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.h r hl) >>= k) Q := Steps.doLoad (see_h c R i) fun v _ => h v

theorem step_keep_h {r : Rect S360x128} {w : r.shape.Idx → Elt Ideal .f32} {hx : (R.h.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.h r w Finset.univ hx hmk) >>= k) Q :=
  Steps.doStore (lens_h c R i) (XO i n0 n1 m) ⟨hX.x0, hX.x1, hX.o0⟩ h

theorem step_any_l3 {r : LoadRect S192x128} {hl : R.l3.view.LoadsAt r} {k : (r.shape.Idx → Elt Ideal .f32) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.l3 r hl) >>= k) Q := Steps.doLoad (see_l3 c R i) fun v _ => h v

theorem step_keep_l3 {r : Rect S192x128} {w : r.shape.Idx → Elt Ideal .f32} {hx : (R.l3.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.l3 r w Finset.univ hx hmk) >>= k) Q :=
  Steps.doStore (lens_l3 c R i) (XO i n0 n1 m) ⟨hX.x0, hX.x1, hX.o0⟩ h

theorem step_any_o1 {r : LoadRect S1x16x2880x80} {hl : R.o1.view.LoadsAt r} {k : (r.shape.Idx → Elt Ideal .fp8e4m3) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.o1 r hl) >>= k) Q := Steps.doLoad (see_o1 c R i) fun v _ => h v

theorem step_keep_o1 {r : Rect S1x16x2880x80} {w : r.shape.Idx → Elt Ideal .fp8e4m3} {hx : (R.o1.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.o1 r w Finset.univ hx hmk) >>= k) Q :=
  Steps.doStore (lens_o1 c R i) (XO i n0 n1 m) ⟨hX.x0, hX.x1, hX.o0⟩ h

theorem step_any_o2 {r : LoadRect S1x720x16x80} {hl : R.o2.view.LoadsAt r} {k : (r.shape.Idx → Elt Ideal .fp8e4m3) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.o2 r hl) >>= k) Q := Steps.doLoad (see_o2 c R i) fun v _ => h v

theorem step_keep_o2 {r : Rect S1x720x16x80} {w : r.shape.Idx → Elt Ideal .fp8e4m3} {hx : (R.o2.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.o2 r w Finset.univ hx hmk) >>= k) Q :=
  Steps.doStore (lens_o2 c R i) (XO i n0 n1 m) ⟨hX.x0, hX.x1, hX.o0⟩ h

theorem step_any_o3 {r : LoadRect S1x180x16x80} {hl : R.o3.view.LoadsAt r} {k : (r.shape.Idx → Elt Ideal .fp8e4m3) → Prog (TpuEff nD τ sig (Elt Ideal) Λ₀ .tc) α}
    (h : ∀ v, Steps defs 𝒱 (c : Thread nD τ) E (St c R i) X (k v) Q) :
    Steps defs 𝒱 (c : Thread nD τ) E (St c R i) X (Prog.lift (.load R.o3 r hl) >>= k) Q := Steps.doLoad (see_o3 c R i) fun v _ => h v

theorem step_keep_o3 {r : Rect S1x180x16x80} {w : r.shape.Idx → Elt Ideal .fp8e4m3} {hx : (R.o3.access r).Stores Finset.univ}
    {hmk : Finset.univ = Finset.univ ∨ ∀ a, r.stride a = 1} {k : PUnit → Prog (TpuEff nD τ sig (Elt Ideal) Λ₀ .tc) α} (hX : XO i n0 n1 m X)
    (h : ∀ X, XO i n0 n1 m X → Steps defs 𝒱 (c : Thread nD τ) E (St c R i) X (k ⟨⟩) Q) :
    Steps defs 𝒱 (c : Thread nD τ) E (St c R i) X (Prog.lift (.store R.o3 r w Finset.univ hx hmk) >>= k) Q :=
  Steps.doStore (lens_o3 c R i) (XO i n0 n1 m) ⟨hX.x0, hX.x1, hX.o0⟩ h

/-! ### Loads and stores that are followed -/

theorem step_q {inb} {hl : R.q.view.LoadsAt (Rect.unit (s := S1x16x16x256) ![0, 0, o, 0] S1x16x4x256.size inb).toLoadRect}
    {k : (S1x16x4x256.Idx → Elt Ideal .fp8e4m3) → Prog (TpuEff nD τ sig (Elt Ideal) Λ₀ .tc) α}
    (h : ∀ v, QLd i o v → Steps defs 𝒱 (c : Thread nD τ) E (St c R i) X (k v) Q) :
    Steps defs 𝒱 (c : Thread nD τ) E (St c R i) X
      (Prog.lift (.load R.q (Rect.unit (s := S1x16x16x256) ![0, 0, o, 0] S1x16x4x256.size inb).toLoadRect hl) >>= k) Q :=
  Steps.doLoad (see_q c R i) fun v hv => h v (by subst hv; exact load_q _ _ _)

theorem step_k {inb} {hl : R.k.view.LoadsAt (Rect.unit (s := S1x11520x256) ![0, o, 0] S1x288x256.size inb).toLoadRect}
    {k : (S1x288x256.Idx → Elt Ideal .fp8e4m3) → Prog (TpuEff nD τ sig (Elt Ideal) Λ₀ .tc) α}
    (h : ∀ v, KL i o v → Steps defs 𝒱 (c : Thread nD τ) E (St c R i) X (k v) Q) :
    Steps defs 𝒱 (c : Thread nD τ) E (St c R i) X
      (Prog.lift (.load R.k (Rect.unit (s := S1x11520x256) ![0, o, 0] S1x288x256.size inb).toLoadRect hl) >>= k) Q :=
  Steps.doLoad (see_k c R i) fun v hv => h v (by subst hv; exact load_k _ _ _)

theorem step_ks {inb} {hl : R.ks.view.LoadsAt (Rect.unit (s := S1x11520x128) ![0, o, 0] S1x288x128.size inb).toLoadRect}
    {k : (S1x288x128.Idx → Elt Ideal .f32) → Prog (TpuEff nD τ sig (Elt Ideal) Λ₀ .tc) α}
    (h : ∀ v, SL i o v → Steps defs 𝒱 (c : Thread nD τ) E (St c R i) X (k v) Q) :
    Steps defs 𝒱 (c : Thread nD τ) E (St c R i) X
      (Prog.lift (.load R.ks (Rect.unit (s := S1x11520x128) ![0, o, 0] S1x288x128.size inb).toLoadRect hl) >>= k) Q :=
  Steps.doLoad (see_ks c R i) fun v hv => h v (by subst hv; exact load_ks _ _ _)

theorem step_qs0 {inb} {hl : R.qs.view.LoadsAt (Rect.unit (s := S1x1x1x1x256) ![0, 0, 0, 0, 0] S1x1x1x1x128.size inb).toLoadRect}
    {k : (S1x1x1x1x128.Idx → Elt Ideal .f32) → Prog (TpuEff nD τ sig (Elt Ideal) Λ₀ .tc) α}
    (h : ∀ v, QS i 0 v → Steps defs 𝒱 (c : Thread nD τ) E (St c R i) X (k v) Q) :
    Steps defs 𝒱 (c : Thread nD τ) E (St c R i) X
      (Prog.lift (.load R.qs (Rect.unit (s := S1x1x1x1x256) ![0, 0, 0, 0, 0] S1x1x1x1x128.size inb).toLoadRect hl) >>= k) Q :=
  Steps.doLoad (see_qs c R i) fun v hv => h v (by subst hv; exact load_qs _ _ _)

theorem step_qs1 {inb} {hl : R.qs.view.LoadsAt (Rect.unit (s := S1x1x1x1x256) ![0, 0, 0, 0, 128] S1x1x1x1x128.size inb).toLoadRect}
    {k : (S1x1x1x1x128.Idx → Elt Ideal .f32) → Prog (TpuEff nD τ sig (Elt Ideal) Λ₀ .tc) α}
    (h : ∀ v, QS i 1 v → Steps defs 𝒱 (c : Thread nD τ) E (St c R i) X (k v) Q) :
    Steps defs 𝒱 (c : Thread nD τ) E (St c R i) X
      (Prog.lift (.load R.qs (Rect.unit (s := S1x1x1x1x256) ![0, 0, 0, 0, 128] S1x1x1x1x128.size inb).toLoadRect hl) >>= k) Q :=
  Steps.doLoad (see_qs c R i) fun v hv => h v (by subst hv; exact load_qs _ _ _)

theorem step_x0 {inb} {hl : R.x.view.LoadsAt (Rect.unit (s := S2x11520x128) ![0, o, 0] S1x128x128.size inb).toLoadRect}
    {k : (S1x128x128.Idx → Elt Ideal .f32) → Prog (TpuEff nD τ sig (Elt Ideal) Λ₀ .tc) α} (hX : XO i 11520 n1 m X)
    (h : ∀ v, XB i 0 o v → Steps defs 𝒱 (c : Thread nD τ) E (St c R i) X (k v) Q) :
    Steps defs 𝒱 (c : Thread nD τ) E (St c R i) X
      (Prog.lift (.load R.x (Rect.unit (s := S2x11520x128) ![0, o, 0] S1x128x128.size inb).toLoadRect hl) >>= k) Q :=
  Steps.doLoad (see_x c R i) fun v hv => h v (hX.block0 _ hv)

theorem step_x1 {inb} {hl : R.x.view.LoadsAt (Rect.unit (s := S2x11520x128) ![1, o, 0] S1x128x128.size inb).toLoadRect}
    {k : (S1x128x128.Idx → Elt Ideal .f32) → Prog (TpuEff nD τ sig (Elt Ideal) Λ₀ .tc) α} (hX : XO i n0 11520 m X)
    (h : ∀ v, XB i 1 o v → Steps defs 𝒱 (c : Thread nD τ) E (St c R i) X (k v) Q) :
    Steps defs 𝒱 (c : Thread nD τ) E (St c R i) X
      (Prog.lift (.load R.x (Rect.unit (s := S2x11520x128) ![1, o, 0] S1x128x128.size inb).toLoadRect hl) >>= k) Q :=
  Steps.doLoad (see_x c R i) fun v hv => h v (hX.block1 _ hv)

theorem step_put0 {inb} {w : S1x288x128.Idx → Elt Ideal .f32}
    {hx : (R.x.access (Rect.unit (s := S2x11520x128) ![0, o, 0] S1x288x128.size inb)).Stores Finset.univ}
    {hmk : Finset.univ = Finset.univ ∨ ∀ a, (Rect.unit (s := S2x11520x128) ![0, o, 0] S1x288x128.size inb).stride a = 1}
    {k : PUnit → Prog (TpuEff nD τ sig (Elt Ideal) Λ₀ .tc) α} (hX : XO i o n1 m X) (hw : Sx i 0 o w)
    (h : ∀ X, XO i (o + 288) n1 m X → Steps defs 𝒱 (c : Thread nD τ) E (St c R i) X (k ⟨⟩) Q) :
    Steps defs 𝒱 (c : Thread nD τ) E (St c R i) X
      (Prog.lift (.store R.x (Rect.unit (s := S2x11520x128) ![0, o, 0] S1x288x128.size inb) w Finset.univ hx hmk) >>= k) Q :=
  Steps.doStore (lens_x c R i) (XO i (o + 288) n1 m) (hX.put0 hw _) h

theorem step_put1 {inb} {w : S1x288x128.Idx → Elt Ideal .f32}
    {hx : (R.x.access (Rect.unit (s := S2x11520x128) ![1, o, 0] S1x288x128.size inb)).Stores Finset.univ}
    {hmk : Finset.univ = Finset.univ ∨ ∀ a, (Rect.unit (s := S2x11520x128) ![1, o, 0] S1x288x128.size inb).stride a = 1}
    {k : PUnit → Prog (TpuEff nD τ sig (Elt Ideal) Λ₀ .tc) α} (hX : XO i n0 o m X) (hw : Sx i 1 o w)
    (h : ∀ X, XO i n0 (o + 288) m X → Steps defs 𝒱 (c : Thread nD τ) E (St c R i) X (k ⟨⟩) Q) :
    Steps defs 𝒱 (c : Thread nD τ) E (St c R i) X
      (Prog.lift (.store R.x (Rect.unit (s := S2x11520x128) ![1, o, 0] S1x288x128.size inb) w Finset.univ hx hmk) >>= k) Q :=
  Steps.doStore (lens_x c R i) (XO i n0 (o + 288) m) (hX.put1 hw _) h

theorem step_putO {t kt s0 : ℕ} {inb} {w : S1x16x1x1x4x128.Idx → Elt Ideal .fp8e4m3}
    {hx : (R.o0.access (Rect.unit (s := S1x16x2x90x8x128) ![0, 0, t, kt, s0, 0] S1x16x1x1x4x128.size inb)).Stores Finset.univ}
    {hmk : Finset.univ = Finset.univ ∨ ∀ a, (Rect.unit (s := S1x16x2x90x8x128) ![0, 0, t, kt, s0, 0] S1x16x1x1x4x128.size inb).stride a = 1}
    {k : PUnit → Prog (TpuEff nD τ sig (Elt Ideal) Λ₀ .tc) α} (hX : XO i n0 n1 m X) (hw : CS i t o s0 w)
    (ho : 128 * kt = o) (hm : 180 * t + 2 * kt + s0 / 4 = m) (h4 : s0 = 0 ∨ s0 = 4)
    (h : ∀ X, XO i n0 n1 (m + 1) X → Steps defs 𝒱 (c : Thread nD τ) E (St c R i) X (k ⟨⟩) Q) :
    Steps defs 𝒱 (c : Thread nD τ) E (St c R i) X
      (Prog.lift (.store R.o0 (Rect.unit (s := S1x16x2x90x8x128) ![0, 0, t, kt, s0, 0] S1x16x1x1x4x128.size inb) w Finset.univ hx hmk) >>= k) Q :=
  Steps.doStore (lens_o0 c R i) (XO i n0 n1 (m + 1)) (by subst ho; subst hm; exact hX.putO hw h4 _) h

end Cert.KernelIdeal.Own

end
-- ==== Proof.Parts1.lean ====
/-
  Parts 46 to 77 of the body, followed: what each leaves in the scaled products, in the first result and in its values.
-/
module

public import proofs.«01_k».proof.Proof.Gen.KernelIdeal.Skeleton
public import proofs.«01_k».proof.Proof.Follow

@[expose] public section

set_option maxRecDepth 65536
set_option maxHeartbeats 0

noncomputable section

namespace Cert.KernelIdeal.Own

open Idealize.ShloMosaic Idealize.ShloMosaic.TcCoe Idealize.SL Idealize.SL.Sem
open Cert.Steps Cert.KernelIdeal.Gen

variable (defs : Defs nD τ sig (Elt Ideal) Λ₀) (𝒱 : Variants) (c : Dev nD) (E : Set ℕ) (R : Refs) (i : Ins Ideal) (g : grid0.Coords)

theorem t46   (X : State Ideal) (hX : XO i 0 0 0 X) :
    Steps defs 𝒱 (c : Thread nD τ) E (St c R i) X (R.app (k0_part46 (F := Ideal) g)) fun a Y => XO i 288 0 0 Y ∧ QB i a.2.2.2.1 ∧ Raw i 0 a.2.2.2.2.1 ∧ Ks i 0 a.2.2.2.2.2.1 ∧ Mx i 0 288 a.2.2.2.2.2.2 := by
  unfold Refs.app; rw [k0_part46_eq_skeleton]; unfold k0_part46_skel
  with_reducible refine step_q fun v0 hv0 => ?_
  with_reducible refine step_q fun v3 hv3 => ?_
  with_reducible refine step_q fun v6 hv6 => ?_
  with_reducible refine step_q fun v9 hv9 => ?_
  with_reducible refine step_k fun v13 hv13 => ?_
  with_reducible refine step_ks fun v16 hv16 => ?_
  with_reducible refine step_any_x fun _ => step_put0 hX ?_ fun X hX => ?_
  · exact sx_of (sl0 (raw_of hv13 (qb_of hv0 hv3 hv6 hv9)) (ks_of hv16))
  exact step_ret ⟨hX, (qb_of hv0 hv3 hv6 hv9), (raw_of hv13 (qb_of hv0 hv3 hv6 hv9)), (ks_of hv16), (mx_first (mr_of (sl0 (raw_of hv13 (qb_of hv0 hv3 hv6 hv9)) (ks_of hv16))))⟩

theorem t47 (v15 : FVec Ideal S288x256 .f32) (v17 : FVec Ideal S288x128 .f32) (hv15 : Raw i 0 v15) (hv17 : Ks i 0 v17) (X : State Ideal) (hX : XO i 288 0 0 X) :
    Steps defs 𝒱 (c : Thread nD τ) E (St c R i) X (R.app (k0_part47 (F := Ideal) g) v15 v17) fun a Y => XO i 288 288 0 Y ∧ Mx i 1 288 a.1 := by
  unfold Refs.app; rw [k0_part47_eq_skeleton]; unfold k0_part47_skel
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv15 hv17)
  with_reducible refine step_any_x fun _ => step_any_x fun _ => step_any_x fun _ => step_any_x fun v54 => ?_
  exact step_ret ⟨hX, (mx_first (mr_of (sl1 hv15 hv17)))⟩

theorem t48 (v12 : FVec Ideal S256x256 .fp8e4m3) (v25 : FVec Ideal S8x128 .f32) (v49 v51 v53 v55 : FVec Ideal S72x128 .f32) (hv12 : QB i v12) (hv25 : Mx i 0 288 v25) (X : State Ideal) (hX : XO i 288 288 0 X) :
    Steps defs 𝒱 (c : Thread nD τ) E (St c R i) X (R.app (k0_part48 (F := Ideal) g) v12 v25 v49 v51 v53 v55) fun a Y => XO i 576 288 0 Y ∧ Raw i 288 a.1 ∧ Ks i 288 a.2.1 ∧ Mx i 0 576 a.2.2.1 := by
  unfold Refs.app; rw [k0_part48_eq_skeleton]; unfold k0_part48_skel
  with_reducible refine step_any_l1 fun _ => step_keep_l1 hX fun X hX => ?_
  with_reducible refine step_k fun v62 hv62 => ?_
  with_reducible refine step_ks fun v65 hv65 => ?_
  with_reducible refine step_any_x fun _ => step_put0 hX ?_ fun X hX => ?_
  · exact sx_of (sl0 (raw_of hv62 hv12) (ks_of hv65))
  with_reducible refine step_any_x fun _ => step_any_x fun _ => step_any_x fun _ => step_any_x fun v82 => ?_
  exact step_ret ⟨hX, (raw_of hv62 hv12), (ks_of hv65), (mx_next hv25 (mr_of (sl0 (raw_of hv62 hv12) (ks_of hv65))))⟩

theorem t49 (v12 : FVec Ideal S256x256 .fp8e4m3) (v47 : FVec Ideal S8x128 .f32) (v64 : FVec Ideal S288x256 .f32) (v66 : FVec Ideal S288x128 .f32) (v86 : FVec Ideal S72x128 .f32) (hv12 : QB i v12) (hv47 : Mx i 1 288 v47) (hv64 : Raw i 288 v64) (hv66 : Ks i 288 v66) (X : State Ideal) (hX : XO i 576 288 0 X) :
    Steps defs 𝒱 (c : Thread nD τ) E (St c R i) X (R.app (k0_part49 (F := Ideal) g) v12 v47 v64 v66 v86) fun a Y => XO i 576 576 0 Y ∧ Mx i 1 576 a.1 ∧ Raw i 576 a.2 := by
  unfold Refs.app; rw [k0_part49_eq_skeleton]; unfold k0_part49_skel
  with_reducible refine step_any_l1 fun _ => step_keep_l1 hX fun X hX => ?_
  with_reducible refine step_any_x fun _ => step_put1 hX ?_ fun X hX => ?_
  · exact sx_of (sl1 hv64 hv66)
  with_reducible refine step_any_x fun _ => step_any_x fun _ => step_any_x fun _ => step_any_x fun _ => step_any_l1 fun _ => step_keep_l1 hX fun X hX => ?_
  with_reducible refine step_k fun v113 hv113 => ?_
  exact step_ret ⟨hX, (mx_next hv47 (mr_of (sl1 hv64 hv66))), (raw_of hv113 hv12)⟩

theorem t50 (v75 v98 : FVec Ideal S8x128 .f32) (v115 : FVec Ideal S288x256 .f32) (hv75 : Mx i 0 576 v75) (hv98 : Mx i 1 576 v98) (hv115 : Raw i 576 v115) (X : State Ideal) (hX : XO i 576 576 0 X) :
    Steps defs 𝒱 (c : Thread nD τ) E (St c R i) X (R.app (k0_part50 (F := Ideal) g) v75 v98 v115) fun a Y => XO i 864 864 0 Y ∧ Mx i 0 864 a.1 ∧ Mx i 1 864 a.2 := by
  unfold Refs.app; rw [k0_part50_eq_skeleton]; unfold k0_part50_skel
  with_reducible refine step_ks fun v116 hv116 => ?_
  with_reducible refine step_any_x fun _ => step_put0 hX ?_ fun X hX => ?_
  · exact sx_of (sl0 hv115 (ks_of hv116))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv115 (ks_of hv116))
  exact step_ret ⟨hX, (mx_next hv75 (mr_of (sl0 hv115 (ks_of hv116)))), (mx_next hv98 (mr_of (sl1 hv115 (ks_of hv116))))⟩

theorem t51 (v12 : FVec Ideal S256x256 .fp8e4m3) (v126 : FVec Ideal S8x128 .f32) (hv12 : QB i v12) (hv126 : Mx i 0 864 v126) (X : State Ideal) (hX : XO i 864 864 0 X) :
    Steps defs 𝒱 (c : Thread nD τ) E (St c R i) X (R.app (k0_part51 (F := Ideal) g) v12 v126) fun a Y => XO i 1152 864 0 Y ∧ Raw i 864 a.1 ∧ Ks i 864 a.2.1 ∧ Mx i 0 1152 a.2.2.1 := by
  unfold Refs.app; rw [k0_part51_eq_skeleton]; unfold k0_part51_skel
  with_reducible refine step_any_x fun _ => step_any_x fun _ => step_any_x fun _ => step_any_x fun _ => step_any_l1 fun _ => step_keep_l1 hX fun X hX => ?_
  with_reducible refine step_k fun v164 hv164 => ?_
  with_reducible refine step_ks fun v167 hv167 => ?_
  with_reducible refine step_any_x fun _ => step_put0 hX ?_ fun X hX => ?_
  · exact sx_of (sl0 (raw_of hv164 hv12) (ks_of hv167))
  with_reducible refine step_any_x fun v178 => ?_
  exact step_ret ⟨hX, (raw_of hv164 hv12), (ks_of hv167), (mx_next hv126 (mr_of (sl0 (raw_of hv164 hv12) (ks_of hv167))))⟩

theorem t52 (v149 : FVec Ideal S8x128 .f32) (v166 : FVec Ideal S288x256 .f32) (v168 : FVec Ideal S288x128 .f32) (v178 : Vec Ideal S1x72x128 .f32) (hv149 : Mx i 1 864 v149) (hv166 : Raw i 864 v166) (hv168 : Ks i 864 v168) (X : State Ideal) (hX : XO i 1152 864 0 X) :
    Steps defs 𝒱 (c : Thread nD τ) E (St c R i) X (R.app (k0_part52 (F := Ideal) g) v149 v166 v168 v178) fun a Y => XO i 1152 1152 0 Y ∧ Mx i 1 1152 a.1 := by
  unfold Refs.app; rw [k0_part52_eq_skeleton]; unfold k0_part52_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv166 hv168)
  with_reducible refine step_any_x fun _ => step_any_x fun _ => step_any_x fun _ => step_any_x fun v207 => ?_
  exact step_ret ⟨hX, (mx_next hv149 (mr_of (sl1 hv166 hv168)))⟩

theorem t53 (v12 : FVec Ideal S256x256 .fp8e4m3) (v177 : FVec Ideal S8x128 .f32) (v202 v204 v206 v208 : FVec Ideal S72x128 .f32) (hv12 : QB i v12) (hv177 : Mx i 0 1152 v177) (X : State Ideal) (hX : XO i 1152 1152 0 X) :
    Steps defs 𝒱 (c : Thread nD τ) E (St c R i) X (R.app (k0_part53 (F := Ideal) g) v12 v177 v202 v204 v206 v208) fun a Y => XO i 1440 1152 0 Y ∧ Raw i 1152 a.1 ∧ Ks i 1152 a.2.1 ∧ Mx i 0 1440 a.2.2.1 := by
  unfold Refs.app; rw [k0_part53_eq_skeleton]; unfold k0_part53_skel
  with_reducible refine step_any_l1 fun _ => step_keep_l1 hX fun X hX => ?_
  with_reducible refine step_k fun v215 hv215 => ?_
  with_reducible refine step_ks fun v218 hv218 => ?_
  with_reducible refine step_any_x fun _ => step_put0 hX ?_ fun X hX => ?_
  · exact sx_of (sl0 (raw_of hv215 hv12) (ks_of hv218))
  with_reducible refine step_any_x fun _ => step_any_x fun _ => step_any_x fun _ => step_any_x fun v235 => ?_
  exact step_ret ⟨hX, (raw_of hv215 hv12), (ks_of hv218), (mx_next hv177 (mr_of (sl0 (raw_of hv215 hv12) (ks_of hv218))))⟩

theorem t54 (v12 : FVec Ideal S256x256 .fp8e4m3) (v200 : FVec Ideal S8x128 .f32) (v217 : FVec Ideal S288x256 .f32) (v219 : FVec Ideal S288x128 .f32) (v239 : FVec Ideal S72x128 .f32) (hv12 : QB i v12) (hv200 : Mx i 1 1152 v200) (hv217 : Raw i 1152 v217) (hv219 : Ks i 1152 v219) (X : State Ideal) (hX : XO i 1440 1152 0 X) :
    Steps defs 𝒱 (c : Thread nD τ) E (St c R i) X (R.app (k0_part54 (F := Ideal) g) v12 v200 v217 v219 v239) fun a Y => XO i 1440 1440 0 Y ∧ Mx i 1 1440 a.1 ∧ Raw i 1440 a.2 := by
  unfold Refs.app; rw [k0_part54_eq_skeleton]; unfold k0_part54_skel
  with_reducible refine step_any_l1 fun _ => step_keep_l1 hX fun X hX => ?_
  with_reducible refine step_any_x fun _ => step_put1 hX ?_ fun X hX => ?_
  · exact sx_of (sl1 hv217 hv219)
  with_reducible refine step_any_x fun _ => step_any_x fun _ => step_any_x fun _ => step_any_x fun _ => step_any_l1 fun _ => step_keep_l1 hX fun X hX => ?_
  with_reducible refine step_k fun v266 hv266 => ?_
  exact step_ret ⟨hX, (mx_next hv200 (mr_of (sl1 hv217 hv219))), (raw_of hv266 hv12)⟩

theorem t55 (v228 v251 : FVec Ideal S8x128 .f32) (v268 : FVec Ideal S288x256 .f32) (hv228 : Mx i 0 1440 v228) (hv251 : Mx i 1 1440 v251) (hv268 : Raw i 1440 v268) (X : State Ideal) (hX : XO i 1440 1440 0 X) :
    Steps defs 𝒱 (c : Thread nD τ) E (St c R i) X (R.app (k0_part55 (F := Ideal) g) v228 v251 v268) fun a Y => XO i 1728 1728 0 Y ∧ Mx i 0 1728 a.1 ∧ Mx i 1 1728 a.2 := by
  unfold Refs.app; rw [k0_part55_eq_skeleton]; unfold k0_part55_skel
  with_reducible refine step_ks fun v269 hv269 => ?_
  with_reducible refine step_any_x fun _ => step_put0 hX ?_ fun X hX => ?_
  · exact sx_of (sl0 hv268 (ks_of hv269))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv268 (ks_of hv269))
  exact step_ret ⟨hX, (mx_next hv228 (mr_of (sl0 hv268 (ks_of hv269)))), (mx_next hv251 (mr_of (sl1 hv268 (ks_of hv269))))⟩

theorem t56 (v12 : FVec Ideal S256x256 .fp8e4m3) (v279 : FVec Ideal S8x128 .f32) (hv12 : QB i v12) (hv279 : Mx i 0 1728 v279) (X : State Ideal) (hX : XO i 1728 1728 0 X) :
    Steps defs 𝒱 (c : Thread nD τ) E (St c R i) X (R.app (k0_part56 (F := Ideal) g) v12 v279) fun a Y => XO i 2016 1728 0 Y ∧ Raw i 1728 a.1 ∧ Ks i 1728 a.2.1 ∧ Mx i 0 2016 a.2.2.1 := by
  unfold Refs.app; rw [k0_part56_eq_skeleton]; unfold k0_part56_skel
  with_reducible refine step_any_x fun _ => step_any_x fun _ => step_any_x fun _ => step_any_x fun _ => step_any_l1 fun _ => step_keep_l1 hX fun X hX => ?_
  with_reducible refine step_k fun v317 hv317 => ?_
  with_reducible refine step_ks fun v320 hv320 => ?_
  with_reducible refine step_any_x fun _ => step_put0 hX ?_ fun X hX => ?_
  · exact sx_of (sl0 (raw_of hv317 hv12) (ks_of hv320))
  with_reducible refine step_any_x fun v331 => ?_
  exact step_ret ⟨hX, (raw_of hv317 hv12), (ks_of hv320), (mx_next hv279 (mr_of (sl0 (raw_of hv317 hv12) (ks_of hv320))))⟩

theorem t57 (v302 : FVec Ideal S8x128 .f32) (v319 : FVec Ideal S288x256 .f32) (v321 : FVec Ideal S288x128 .f32) (v331 : Vec Ideal S1x72x128 .f32) (hv302 : Mx i 1 1728 v302) (hv319 : Raw i 1728 v319) (hv321 : Ks i 1728 v321) (X : State Ideal) (hX : XO i 2016 1728 0 X) :
    Steps defs 𝒱 (c : Thread nD τ) E (St c R i) X (R.app (k0_part57 (F := Ideal) g) v302 v319 v321 v331) fun a Y => XO i 2016 2016 0 Y ∧ Mx i 1 2016 a.1 := by
  unfold Refs.app; rw [k0_part57_eq_skeleton]; unfold k0_part57_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv319 hv321)
  with_reducible refine step_any_x fun _ => step_any_x fun _ => step_any_x fun _ => step_any_x fun v360 => ?_
  exact step_ret ⟨hX, (mx_next hv302 (mr_of (sl1 hv319 hv321)))⟩

theorem t58 (v12 : FVec Ideal S256x256 .fp8e4m3) (v330 : FVec Ideal S8x128 .f32) (v355 v357 v359 v361 : FVec Ideal S72x128 .f32) (hv12 : QB i v12) (hv330 : Mx i 0 2016 v330) (X : State Ideal) (hX : XO i 2016 2016 0 X) :
    Steps defs 𝒱 (c : Thread nD τ) E (St c R i) X (R.app (k0_part58 (F := Ideal) g) v12 v330 v355 v357 v359 v361) fun a Y => XO i 2304 2016 0 Y ∧ Raw i 2016 a.1 ∧ Ks i 2016 a.2.1 ∧ Mx i 0 2304 a.2.2.1 := by
  unfold Refs.app; rw [k0_part58_eq_skeleton]; unfold k0_part58_skel
  with_reducible refine step_any_l1 fun _ => step_keep_l1 hX fun X hX => ?_
  with_reducible refine step_k fun v368 hv368 => ?_
  with_reducible refine step_ks fun v371 hv371 => ?_
  with_reducible refine step_any_x fun _ => step_put0 hX ?_ fun X hX => ?_
  · exact sx_of (sl0 (raw_of hv368 hv12) (ks_of hv371))
  with_reducible refine step_any_x fun _ => step_any_x fun _ => step_any_x fun _ => step_any_x fun v388 => ?_
  exact step_ret ⟨hX, (raw_of hv368 hv12), (ks_of hv371), (mx_next hv330 (mr_of (sl0 (raw_of hv368 hv12) (ks_of hv371))))⟩

theorem t59 (v12 : FVec Ideal S256x256 .fp8e4m3) (v353 : FVec Ideal S8x128 .f32) (v370 : FVec Ideal S288x256 .f32) (v372 : FVec Ideal S288x128 .f32) (v392 : FVec Ideal S72x128 .f32) (hv12 : QB i v12) (hv353 : Mx i 1 2016 v353) (hv370 : Raw i 2016 v370) (hv372 : Ks i 2016 v372) (X : State Ideal) (hX : XO i 2304 2016 0 X) :
    Steps defs 𝒱 (c : Thread nD τ) E (St c R i) X (R.app (k0_part59 (F := Ideal) g) v12 v353 v370 v372 v392) fun a Y => XO i 2304 2304 0 Y ∧ Mx i 1 2304 a.1 ∧ Raw i 2304 a.2 := by
  unfold Refs.app; rw [k0_part59_eq_skeleton]; unfold k0_part59_skel
  with_reducible refine step_any_l1 fun _ => step_keep_l1 hX fun X hX => ?_
  with_reducible refine step_any_x fun _ => step_put1 hX ?_ fun X hX => ?_
  · exact sx_of (sl1 hv370 hv372)
  with_reducible refine step_any_x fun _ => step_any_x fun _ => step_any_x fun _ => step_any_x fun _ => step_any_l1 fun _ => step_keep_l1 hX fun X hX => ?_
  with_reducible refine step_k fun v419 hv419 => ?_
  exact step_ret ⟨hX, (mx_next hv353 (mr_of (sl1 hv370 hv372))), (raw_of hv419 hv12)⟩

theorem t60 (v381 v404 : FVec Ideal S8x128 .f32) (v421 : FVec Ideal S288x256 .f32) (hv381 : Mx i 0 2304 v381) (hv404 : Mx i 1 2304 v404) (hv421 : Raw i 2304 v421) (X : State Ideal) (hX : XO i 2304 2304 0 X) :
    Steps defs 𝒱 (c : Thread nD τ) E (St c R i) X (R.app (k0_part60 (F := Ideal) g) v381 v404 v421) fun a Y => XO i 2592 2592 0 Y ∧ Mx i 0 2592 a.1 ∧ Mx i 1 2592 a.2 := by
  unfold Refs.app; rw [k0_part60_eq_skeleton]; unfold k0_part60_skel
  with_reducible refine step_ks fun v422 hv422 => ?_
  with_reducible refine step_any_x fun _ => step_put0 hX ?_ fun X hX => ?_
  · exact sx_of (sl0 hv421 (ks_of hv422))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv421 (ks_of hv422))
  exact step_ret ⟨hX, (mx_next hv381 (mr_of (sl0 hv421 (ks_of hv422)))), (mx_next hv404 (mr_of (sl1 hv421 (ks_of hv422))))⟩

theorem t61 (v12 : FVec Ideal S256x256 .fp8e4m3) (v432 : FVec Ideal S8x128 .f32) (hv12 : QB i v12) (hv432 : Mx i 0 2592 v432) (X : State Ideal) (hX : XO i 2592 2592 0 X) :
    Steps defs 𝒱 (c : Thread nD τ) E (St c R i) X (R.app (k0_part61 (F := Ideal) g) v12 v432) fun a Y => XO i 2880 2592 0 Y ∧ Raw i 2592 a.1 ∧ Ks i 2592 a.2.1 ∧ Mx i 0 2880 a.2.2.1 := by
  unfold Refs.app; rw [k0_part61_eq_skeleton]; unfold k0_part61_skel
  with_reducible refine step_any_x fun _ => step_any_x fun _ => step_any_x fun _ => step_any_x fun _ => step_any_l1 fun _ => step_keep_l1 hX fun X hX => ?_
  with_reducible refine step_k fun v470 hv470 => ?_
  with_reducible refine step_ks fun v473 hv473 => ?_
  with_reducible refine step_any_x fun _ => step_put0 hX ?_ fun X hX => ?_
  · exact sx_of (sl0 (raw_of hv470 hv12) (ks_of hv473))
  with_reducible refine step_any_x fun v484 => ?_
  exact step_ret ⟨hX, (raw_of hv470 hv12), (ks_of hv473), (mx_next hv432 (mr_of (sl0 (raw_of hv470 hv12) (ks_of hv473))))⟩

theorem t62 (v455 : FVec Ideal S8x128 .f32) (v472 : FVec Ideal S288x256 .f32) (v474 : FVec Ideal S288x128 .f32) (v484 : Vec Ideal S1x72x128 .f32) (hv455 : Mx i 1 2592 v455) (hv472 : Raw i 2592 v472) (hv474 : Ks i 2592 v474) (X : State Ideal) (hX : XO i 2880 2592 0 X) :
    Steps defs 𝒱 (c : Thread nD τ) E (St c R i) X (R.app (k0_part62 (F := Ideal) g) v455 v472 v474 v484) fun a Y => XO i 2880 2880 0 Y ∧ Mx i 1 2880 a.1 := by
  unfold Refs.app; rw [k0_part62_eq_skeleton]; unfold k0_part62_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv472 hv474)
  with_reducible refine step_any_x fun _ => step_any_x fun _ => step_any_x fun _ => step_any_x fun v513 => ?_
  exact step_ret ⟨hX, (mx_next hv455 (mr_of (sl1 hv472 hv474)))⟩

theorem t63 (v12 : FVec Ideal S256x256 .fp8e4m3) (v483 : FVec Ideal S8x128 .f32) (v508 v510 v512 v514 : FVec Ideal S72x128 .f32) (hv12 : QB i v12) (hv483 : Mx i 0 2880 v483) (X : State Ideal) (hX : XO i 2880 2880 0 X) :
    Steps defs 𝒱 (c : Thread nD τ) E (St c R i) X (R.app (k0_part63 (F := Ideal) g) v12 v483 v508 v510 v512 v514) fun a Y => XO i 3168 2880 0 Y ∧ Raw i 2880 a.1 ∧ Ks i 2880 a.2.1 ∧ Mx i 0 3168 a.2.2.1 := by
  unfold Refs.app; rw [k0_part63_eq_skeleton]; unfold k0_part63_skel
  with_reducible refine step_any_l1 fun _ => step_keep_l1 hX fun X hX => ?_
  with_reducible refine step_k fun v521 hv521 => ?_
  with_reducible refine step_ks fun v524 hv524 => ?_
  with_reducible refine step_any_x fun _ => step_put0 hX ?_ fun X hX => ?_
  · exact sx_of (sl0 (raw_of hv521 hv12) (ks_of hv524))
  with_reducible refine step_any_x fun _ => step_any_x fun _ => step_any_x fun _ => step_any_x fun v541 => ?_
  exact step_ret ⟨hX, (raw_of hv521 hv12), (ks_of hv524), (mx_next hv483 (mr_of (sl0 (raw_of hv521 hv12) (ks_of hv524))))⟩

theorem t64 (v12 : FVec Ideal S256x256 .fp8e4m3) (v506 : FVec Ideal S8x128 .f32) (v523 : FVec Ideal S288x256 .f32) (v525 : FVec Ideal S288x128 .f32) (v545 : FVec Ideal S72x128 .f32) (hv12 : QB i v12) (hv506 : Mx i 1 2880 v506) (hv523 : Raw i 2880 v523) (hv525 : Ks i 2880 v525) (X : State Ideal) (hX : XO i 3168 2880 0 X) :
    Steps defs 𝒱 (c : Thread nD τ) E (St c R i) X (R.app (k0_part64 (F := Ideal) g) v12 v506 v523 v525 v545) fun a Y => XO i 3168 3168 0 Y ∧ Mx i 1 3168 a.1 ∧ Raw i 3168 a.2 := by
  unfold Refs.app; rw [k0_part64_eq_skeleton]; unfold k0_part64_skel
  with_reducible refine step_any_l1 fun _ => step_keep_l1 hX fun X hX => ?_
  with_reducible refine step_any_x fun _ => step_put1 hX ?_ fun X hX => ?_
  · exact sx_of (sl1 hv523 hv525)
  with_reducible refine step_any_x fun _ => step_any_x fun _ => step_any_x fun _ => step_any_x fun _ => step_any_l1 fun _ => step_keep_l1 hX fun X hX => ?_
  with_reducible refine step_k fun v572 hv572 => ?_
  exact step_ret ⟨hX, (mx_next hv506 (mr_of (sl1 hv523 hv525))), (raw_of hv572 hv12)⟩

theorem t65 (v534 v557 : FVec Ideal S8x128 .f32) (v574 : FVec Ideal S288x256 .f32) (hv534 : Mx i 0 3168 v534) (hv557 : Mx i 1 3168 v557) (hv574 : Raw i 3168 v574) (X : State Ideal) (hX : XO i 3168 3168 0 X) :
    Steps defs 𝒱 (c : Thread nD τ) E (St c R i) X (R.app (k0_part65 (F := Ideal) g) v534 v557 v574) fun a Y => XO i 3456 3456 0 Y ∧ Mx i 0 3456 a.1 ∧ Mx i 1 3456 a.2 := by
  unfold Refs.app; rw [k0_part65_eq_skeleton]; unfold k0_part65_skel
  with_reducible refine step_ks fun v575 hv575 => ?_
  with_reducible refine step_any_x fun _ => step_put0 hX ?_ fun X hX => ?_
  · exact sx_of (sl0 hv574 (ks_of hv575))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv574 (ks_of hv575))
  exact step_ret ⟨hX, (mx_next hv534 (mr_of (sl0 hv574 (ks_of hv575)))), (mx_next hv557 (mr_of (sl1 hv574 (ks_of hv575))))⟩

theorem t66 (v12 : FVec Ideal S256x256 .fp8e4m3) (v585 : FVec Ideal S8x128 .f32) (hv12 : QB i v12) (hv585 : Mx i 0 3456 v585) (X : State Ideal) (hX : XO i 3456 3456 0 X) :
    Steps defs 𝒱 (c : Thread nD τ) E (St c R i) X (R.app (k0_part66 (F := Ideal) g) v12 v585) fun a Y => XO i 3744 3456 0 Y ∧ Raw i 3456 a.1 ∧ Ks i 3456 a.2.1 ∧ Mx i 0 3744 a.2.2.1 := by
  unfold Refs.app; rw [k0_part66_eq_skeleton]; unfold k0_part66_skel
  with_reducible refine step_any_x fun _ => step_any_x fun _ => step_any_x fun _ => step_any_x fun _ => step_any_l1 fun _ => step_keep_l1 hX fun X hX => ?_
  with_reducible refine step_k fun v623 hv623 => ?_
  with_reducible refine step_ks fun v626 hv626 => ?_
  with_reducible refine step_any_x fun _ => step_put0 hX ?_ fun X hX => ?_
  · exact sx_of (sl0 (raw_of hv623 hv12) (ks_of hv626))
  with_reducible refine step_any_x fun v637 => ?_
  exact step_ret ⟨hX, (raw_of hv623 hv12), (ks_of hv626), (mx_next hv585 (mr_of (sl0 (raw_of hv623 hv12) (ks_of hv626))))⟩

theorem t67 (v608 : FVec Ideal S8x128 .f32) (v625 : FVec Ideal S288x256 .f32) (v627 : FVec Ideal S288x128 .f32) (v637 : Vec Ideal S1x72x128 .f32) (hv608 : Mx i 1 3456 v608) (hv625 : Raw i 3456 v625) (hv627 : Ks i 3456 v627) (X : State Ideal) (hX : XO i 3744 3456 0 X) :
    Steps defs 𝒱 (c : Thread nD τ) E (St c R i) X (R.app (k0_part67 (F := Ideal) g) v608 v625 v627 v637) fun a Y => XO i 3744 3744 0 Y ∧ Mx i 1 3744 a.1 := by
  unfold Refs.app; rw [k0_part67_eq_skeleton]; unfold k0_part67_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv625 hv627)
  with_reducible refine step_any_x fun _ => step_any_x fun _ => step_any_x fun _ => step_any_x fun v666 => ?_
  exact step_ret ⟨hX, (mx_next hv608 (mr_of (sl1 hv625 hv627)))⟩

theorem t68 (v12 : FVec Ideal S256x256 .fp8e4m3) (v636 : FVec Ideal S8x128 .f32) (v661 v663 v665 v667 : FVec Ideal S72x128 .f32) (hv12 : QB i v12) (hv636 : Mx i 0 3744 v636) (X : State Ideal) (hX : XO i 3744 3744 0 X) :
    Steps defs 𝒱 (c : Thread nD τ) E (St c R i) X (R.app (k0_part68 (F := Ideal) g) v12 v636 v661 v663 v665 v667) fun a Y => XO i 4032 3744 0 Y ∧ Raw i 3744 a.1 ∧ Ks i 3744 a.2.1 ∧ Mx i 0 4032 a.2.2.1 := by
  unfold Refs.app; rw [k0_part68_eq_skeleton]; unfold k0_part68_skel
  with_reducible refine step_any_l1 fun _ => step_keep_l1 hX fun X hX => ?_
  with_reducible refine step_k fun v674 hv674 => ?_
  with_reducible refine step_ks fun v677 hv677 => ?_
  with_reducible refine step_any_x fun _ => step_put0 hX ?_ fun X hX => ?_
  · exact sx_of (sl0 (raw_of hv674 hv12) (ks_of hv677))
  with_reducible refine step_any_x fun _ => step_any_x fun _ => step_any_x fun _ => step_any_x fun v694 => ?_
  exact step_ret ⟨hX, (raw_of hv674 hv12), (ks_of hv677), (mx_next hv636 (mr_of (sl0 (raw_of hv674 hv12) (ks_of hv677))))⟩

theorem t69 (v12 : FVec Ideal S256x256 .fp8e4m3) (v659 : FVec Ideal S8x128 .f32) (v676 : FVec Ideal S288x256 .f32) (v678 : FVec Ideal S288x128 .f32) (v698 : FVec Ideal S72x128 .f32) (hv12 : QB i v12) (hv659 : Mx i 1 3744 v659) (hv676 : Raw i 3744 v676) (hv678 : Ks i 3744 v678) (X : State Ideal) (hX : XO i 4032 3744 0 X) :
    Steps defs 𝒱 (c : Thread nD τ) E (St c R i) X (R.app (k0_part69 (F := Ideal) g) v12 v659 v676 v678 v698) fun a Y => XO i 4032 4032 0 Y ∧ Mx i 1 4032 a.1 ∧ Raw i 4032 a.2 := by
  unfold Refs.app; rw [k0_part69_eq_skeleton]; unfold k0_part69_skel
  with_reducible refine step_any_l1 fun _ => step_keep_l1 hX fun X hX => ?_
  with_reducible refine step_any_x fun _ => step_put1 hX ?_ fun X hX => ?_
  · exact sx_of (sl1 hv676 hv678)
  with_reducible refine step_any_x fun _ => step_any_x fun _ => step_any_x fun _ => step_any_x fun _ => step_any_l1 fun _ => step_keep_l1 hX fun X hX => ?_
  with_reducible refine step_k fun v725 hv725 => ?_
  exact step_ret ⟨hX, (mx_next hv659 (mr_of (sl1 hv676 hv678))), (raw_of hv725 hv12)⟩

theorem t70 (v687 v710 : FVec Ideal S8x128 .f32) (v727 : FVec Ideal S288x256 .f32) (hv687 : Mx i 0 4032 v687) (hv710 : Mx i 1 4032 v710) (hv727 : Raw i 4032 v727) (X : State Ideal) (hX : XO i 4032 4032 0 X) :
    Steps defs 𝒱 (c : Thread nD τ) E (St c R i) X (R.app (k0_part70 (F := Ideal) g) v687 v710 v727) fun a Y => XO i 4320 4320 0 Y ∧ Mx i 0 4320 a.1 ∧ Mx i 1 4320 a.2 := by
  unfold Refs.app; rw [k0_part70_eq_skeleton]; unfold k0_part70_skel
  with_reducible refine step_ks fun v728 hv728 => ?_
  with_reducible refine step_any_x fun _ => step_put0 hX ?_ fun X hX => ?_
  · exact sx_of (sl0 hv727 (ks_of hv728))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv727 (ks_of hv728))
  exact step_ret ⟨hX, (mx_next hv687 (mr_of (sl0 hv727 (ks_of hv728)))), (mx_next hv710 (mr_of (sl1 hv727 (ks_of hv728))))⟩

theorem t71 (v12 : FVec Ideal S256x256 .fp8e4m3) (v738 : FVec Ideal S8x128 .f32) (hv12 : QB i v12) (hv738 : Mx i 0 4320 v738) (X : State Ideal) (hX : XO i 4320 4320 0 X) :
    Steps defs 𝒱 (c : Thread nD τ) E (St c R i) X (R.app (k0_part71 (F := Ideal) g) v12 v738) fun a Y => XO i 4608 4320 0 Y ∧ Raw i 4320 a.1 ∧ Ks i 4320 a.2.1 ∧ Mx i 0 4608 a.2.2.1 := by
  unfold Refs.app; rw [k0_part71_eq_skeleton]; unfold k0_part71_skel
  with_reducible refine step_any_x fun _ => step_any_x fun _ => step_any_x fun _ => step_any_x fun _ => step_any_l1 fun _ => step_keep_l1 hX fun X hX => ?_
  with_reducible refine step_k fun v776 hv776 => ?_
  with_reducible refine step_ks fun v779 hv779 => ?_
  with_reducible refine step_any_x fun _ => step_put0 hX ?_ fun X hX => ?_
  · exact sx_of (sl0 (raw_of hv776 hv12) (ks_of hv779))
  with_reducible refine step_any_x fun v790 => ?_
  exact step_ret ⟨hX, (raw_of hv776 hv12), (ks_of hv779), (mx_next hv738 (mr_of (sl0 (raw_of hv776 hv12) (ks_of hv779))))⟩

theorem t72 (v761 : FVec Ideal S8x128 .f32) (v778 : FVec Ideal S288x256 .f32) (v780 : FVec Ideal S288x128 .f32) (v790 : Vec Ideal S1x72x128 .f32) (hv761 : Mx i 1 4320 v761) (hv778 : Raw i 4320 v778) (hv780 : Ks i 4320 v780) (X : State Ideal) (hX : XO i 4608 4320 0 X) :
    Steps defs 𝒱 (c : Thread nD τ) E (St c R i) X (R.app (k0_part72 (F := Ideal) g) v761 v778 v780 v790) fun a Y => XO i 4608 4608 0 Y ∧ Mx i 1 4608 a.1 := by
  unfold Refs.app; rw [k0_part72_eq_skeleton]; unfold k0_part72_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv778 hv780)
  with_reducible refine step_any_x fun _ => step_any_x fun _ => step_any_x fun _ => step_any_x fun v819 => ?_
  exact step_ret ⟨hX, (mx_next hv761 (mr_of (sl1 hv778 hv780)))⟩

theorem t73 (v12 : FVec Ideal S256x256 .fp8e4m3) (v789 : FVec Ideal S8x128 .f32) (v814 v816 v818 v820 : FVec Ideal S72x128 .f32) (hv12 : QB i v12) (hv789 : Mx i 0 4608 v789) (X : State Ideal) (hX : XO i 4608 4608 0 X) :
    Steps defs 𝒱 (c : Thread nD τ) E (St c R i) X (R.app (k0_part73 (F := Ideal) g) v12 v789 v814 v816 v818 v820) fun a Y => XO i 4896 4608 0 Y ∧ Raw i 4608 a.1 ∧ Ks i 4608 a.2.1 ∧ Mx i 0 4896 a.2.2.1 := by
  unfold Refs.app; rw [k0_part73_eq_skeleton]; unfold k0_part73_skel
  with_reducible refine step_any_l1 fun _ => step_keep_l1 hX fun X hX => ?_
  with_reducible refine step_k fun v827 hv827 => ?_
  with_reducible refine step_ks fun v830 hv830 => ?_
  with_reducible refine step_any_x fun _ => step_put0 hX ?_ fun X hX => ?_
  · exact sx_of (sl0 (raw_of hv827 hv12) (ks_of hv830))
  with_reducible refine step_any_x fun _ => step_any_x fun _ => step_any_x fun _ => step_any_x fun v847 => ?_
  exact step_ret ⟨hX, (raw_of hv827 hv12), (ks_of hv830), (mx_next hv789 (mr_of (sl0 (raw_of hv827 hv12) (ks_of hv830))))⟩

theorem t74 (v12 : FVec Ideal S256x256 .fp8e4m3) (v812 : FVec Ideal S8x128 .f32) (v829 : FVec Ideal S288x256 .f32) (v831 : FVec Ideal S288x128 .f32) (v851 : FVec Ideal S72x128 .f32) (hv12 : QB i v12) (hv812 : Mx i 1 4608 v812) (hv829 : Raw i 4608 v829) (hv831 : Ks i 4608 v831) (X : State Ideal) (hX : XO i 4896 4608 0 X) :
    Steps defs 𝒱 (c : Thread nD τ) E (St c R i) X (R.app (k0_part74 (F := Ideal) g) v12 v812 v829 v831 v851) fun a Y => XO i 4896 4896 0 Y ∧ Mx i 1 4896 a.1 ∧ Raw i 4896 a.2 := by
  unfold Refs.app; rw [k0_part74_eq_skeleton]; unfold k0_part74_skel
  with_reducible refine step_any_l1 fun _ => step_keep_l1 hX fun X hX => ?_
  with_reducible refine step_any_x fun _ => step_put1 hX ?_ fun X hX => ?_
  · exact sx_of (sl1 hv829 hv831)
  with_reducible refine step_any_x fun _ => step_any_x fun _ => step_any_x fun _ => step_any_x fun _ => step_any_l1 fun _ => step_keep_l1 hX fun X hX => ?_
  with_reducible refine step_k fun v878 hv878 => ?_
  exact step_ret ⟨hX, (mx_next hv812 (mr_of (sl1 hv829 hv831))), (raw_of hv878 hv12)⟩

theorem t75 (v840 v863 : FVec Ideal S8x128 .f32) (v880 : FVec Ideal S288x256 .f32) (hv840 : Mx i 0 4896 v840) (hv863 : Mx i 1 4896 v863) (hv880 : Raw i 4896 v880) (X : State Ideal) (hX : XO i 4896 4896 0 X) :
    Steps defs 𝒱 (c : Thread nD τ) E (St c R i) X (R.app (k0_part75 (F := Ideal) g) v840 v863 v880) fun a Y => XO i 5184 5184 0 Y ∧ Mx i 0 5184 a.1 ∧ Mx i 1 5184 a.2 := by
  unfold Refs.app; rw [k0_part75_eq_skeleton]; unfold k0_part75_skel
  with_reducible refine step_ks fun v881 hv881 => ?_
  with_reducible refine step_any_x fun _ => step_put0 hX ?_ fun X hX => ?_
  · exact sx_of (sl0 hv880 (ks_of hv881))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv880 (ks_of hv881))
  exact step_ret ⟨hX, (mx_next hv840 (mr_of (sl0 hv880 (ks_of hv881)))), (mx_next hv863 (mr_of (sl1 hv880 (ks_of hv881))))⟩

theorem t76 (v12 : FVec Ideal S256x256 .fp8e4m3) (v891 : FVec Ideal S8x128 .f32) (hv12 : QB i v12) (hv891 : Mx i 0 5184 v891) (X : State Ideal) (hX : XO i 5184 5184 0 X) :
    Steps defs 𝒱 (c : Thread nD τ) E (St c R i) X (R.app (k0_part76 (F := Ideal) g) v12 v891) fun a Y => XO i 5472 5184 0 Y ∧ Raw i 5184 a.1 ∧ Ks i 5184 a.2.1 ∧ Mx i 0 5472 a.2.2.1 := by
  unfold Refs.app; rw [k0_part76_eq_skeleton]; unfold k0_part76_skel
  with_reducible refine step_any_x fun _ => step_any_x fun _ => step_any_x fun _ => step_any_x fun _ => step_any_l1 fun _ => step_keep_l1 hX fun X hX => ?_
  with_reducible refine step_k fun v929 hv929 => ?_
  with_reducible refine step_ks fun v932 hv932 => ?_
  with_reducible refine step_any_x fun _ => step_put0 hX ?_ fun X hX => ?_
  · exact sx_of (sl0 (raw_of hv929 hv12) (ks_of hv932))
  with_reducible refine step_any_x fun v943 => ?_
  exact step_ret ⟨hX, (raw_of hv929 hv12), (ks_of hv932), (mx_next hv891 (mr_of (sl0 (raw_of hv929 hv12) (ks_of hv932))))⟩

theorem t77 (v914 : FVec Ideal S8x128 .f32) (v931 : FVec Ideal S288x256 .f32) (v933 : FVec Ideal S288x128 .f32) (v943 : Vec Ideal S1x72x128 .f32) (hv914 : Mx i 1 5184 v914) (hv931 : Raw i 5184 v931) (hv933 : Ks i 5184 v933) (X : State Ideal) (hX : XO i 5472 5184 0 X) :
    Steps defs 𝒱 (c : Thread nD τ) E (St c R i) X (R.app (k0_part77 (F := Ideal) g) v914 v931 v933 v943) fun a Y => XO i 5472 5472 0 Y ∧ Mx i 1 5472 a.1 := by
  unfold Refs.app; rw [k0_part77_eq_skeleton]; unfold k0_part77_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv931 hv933)
  with_reducible refine step_any_x fun _ => step_any_x fun _ => step_any_x fun _ => step_any_x fun v972 => ?_
  exact step_ret ⟨hX, (mx_next hv914 (mr_of (sl1 hv931 hv933)))⟩

end Cert.KernelIdeal.Own

end
-- ==== Proof.Parts2.lean ====
/-
  Parts 78 to 109 of the body, followed: what each leaves in the scaled products, in the first result and in its values.
-/
module

public import proofs.«01_k».proof.Proof.Gen.KernelIdeal.Skeleton
public import proofs.«01_k».proof.Proof.Follow

@[expose] public section

set_option maxRecDepth 65536
set_option maxHeartbeats 0

noncomputable section

namespace Cert.KernelIdeal.Own

open Idealize.ShloMosaic Idealize.ShloMosaic.TcCoe Idealize.SL Idealize.SL.Sem
open Cert.Steps Cert.KernelIdeal.Gen

variable (defs : Defs nD τ sig (Elt Ideal) Λ₀) (𝒱 : Variants) (c : Dev nD) (E : Set ℕ) (R : Refs) (i : Ins Ideal) (g : grid0.Coords)

theorem t78 (v12 : FVec Ideal S256x256 .fp8e4m3) (v942 : FVec Ideal S8x128 .f32) (v967 v969 v971 v973 : FVec Ideal S72x128 .f32) (hv12 : QB i v12) (hv942 : Mx i 0 5472 v942) (X : State Ideal) (hX : XO i 5472 5472 0 X) :
    Steps defs 𝒱 (c : Thread nD τ) E (St c R i) X (R.app (k0_part78 (F := Ideal) g) v12 v942 v967 v969 v971 v973) fun a Y => XO i 5760 5472 0 Y ∧ Raw i 5472 a.1 ∧ Ks i 5472 a.2.1 ∧ Mx i 0 5760 a.2.2.1 := by
  unfold Refs.app; rw [k0_part78_eq_skeleton]; unfold k0_part78_skel
  with_reducible refine step_any_l1 fun _ => step_keep_l1 hX fun X hX => ?_
  with_reducible refine step_k fun v980 hv980 => ?_
  with_reducible refine step_ks fun v983 hv983 => ?_
  with_reducible refine step_any_x fun _ => step_put0 hX ?_ fun X hX => ?_
  · exact sx_of (sl0 (raw_of hv980 hv12) (ks_of hv983))
  with_reducible refine step_any_x fun _ => step_any_x fun _ => step_any_x fun _ => step_any_x fun v1000 => ?_
  exact step_ret ⟨hX, (raw_of hv980 hv12), (ks_of hv983), (mx_next hv942 (mr_of (sl0 (raw_of hv980 hv12) (ks_of hv983))))⟩

theorem t79 (v12 : FVec Ideal S256x256 .fp8e4m3) (v965 : FVec Ideal S8x128 .f32) (v982 : FVec Ideal S288x256 .f32) (v984 : FVec Ideal S288x128 .f32) (v1004 : FVec Ideal S72x128 .f32) (hv12 : QB i v12) (hv965 : Mx i 1 5472 v965) (hv982 : Raw i 5472 v982) (hv984 : Ks i 5472 v984) (X : State Ideal) (hX : XO i 5760 5472 0 X) :
    Steps defs 𝒱 (c : Thread nD τ) E (St c R i) X (R.app (k0_part79 (F := Ideal) g) v12 v965 v982 v984 v1004) fun a Y => XO i 5760 5760 0 Y ∧ Mx i 1 5760 a.1 ∧ Raw i 5760 a.2 := by
  unfold Refs.app; rw [k0_part79_eq_skeleton]; unfold k0_part79_skel
  with_reducible refine step_any_l1 fun _ => step_keep_l1 hX fun X hX => ?_
  with_reducible refine step_any_x fun _ => step_put1 hX ?_ fun X hX => ?_
  · exact sx_of (sl1 hv982 hv984)
  with_reducible refine step_any_x fun _ => step_any_x fun _ => step_any_x fun _ => step_any_x fun _ => step_any_l1 fun _ => step_keep_l1 hX fun X hX => ?_
  with_reducible refine step_k fun v1031 hv1031 => ?_
  exact step_ret ⟨hX, (mx_next hv965 (mr_of (sl1 hv982 hv984))), (raw_of hv1031 hv12)⟩

theorem t80 (v993 v1016 : FVec Ideal S8x128 .f32) (v1033 : FVec Ideal S288x256 .f32) (hv993 : Mx i 0 5760 v993) (hv1016 : Mx i 1 5760 v1016) (hv1033 : Raw i 5760 v1033) (X : State Ideal) (hX : XO i 5760 5760 0 X) :
    Steps defs 𝒱 (c : Thread nD τ) E (St c R i) X (R.app (k0_part80 (F := Ideal) g) v993 v1016 v1033) fun a Y => XO i 6048 6048 0 Y ∧ Mx i 0 6048 a.1 ∧ Mx i 1 6048 a.2 := by
  unfold Refs.app; rw [k0_part80_eq_skeleton]; unfold k0_part80_skel
  with_reducible refine step_ks fun v1034 hv1034 => ?_
  with_reducible refine step_any_x fun _ => step_put0 hX ?_ fun X hX => ?_
  · exact sx_of (sl0 hv1033 (ks_of hv1034))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv1033 (ks_of hv1034))
  exact step_ret ⟨hX, (mx_next hv993 (mr_of (sl0 hv1033 (ks_of hv1034)))), (mx_next hv1016 (mr_of (sl1 hv1033 (ks_of hv1034))))⟩

theorem t81 (v12 : FVec Ideal S256x256 .fp8e4m3) (v1044 : FVec Ideal S8x128 .f32) (hv12 : QB i v12) (hv1044 : Mx i 0 6048 v1044) (X : State Ideal) (hX : XO i 6048 6048 0 X) :
    Steps defs 𝒱 (c : Thread nD τ) E (St c R i) X (R.app (k0_part81 (F := Ideal) g) v12 v1044) fun a Y => XO i 6336 6048 0 Y ∧ Raw i 6048 a.1 ∧ Ks i 6048 a.2.1 ∧ Mx i 0 6336 a.2.2.1 := by
  unfold Refs.app; rw [k0_part81_eq_skeleton]; unfold k0_part81_skel
  with_reducible refine step_any_x fun _ => step_any_x fun _ => step_any_x fun _ => step_any_x fun _ => step_any_l1 fun _ => step_keep_l1 hX fun X hX => ?_
  with_reducible refine step_k fun v1082 hv1082 => ?_
  with_reducible refine step_ks fun v1085 hv1085 => ?_
  with_reducible refine step_any_x fun _ => step_put0 hX ?_ fun X hX => ?_
  · exact sx_of (sl0 (raw_of hv1082 hv12) (ks_of hv1085))
  with_reducible refine step_any_x fun v1096 => ?_
  exact step_ret ⟨hX, (raw_of hv1082 hv12), (ks_of hv1085), (mx_next hv1044 (mr_of (sl0 (raw_of hv1082 hv12) (ks_of hv1085))))⟩

theorem t82 (v1067 : FVec Ideal S8x128 .f32) (v1084 : FVec Ideal S288x256 .f32) (v1086 : FVec Ideal S288x128 .f32) (v1096 : Vec Ideal S1x72x128 .f32) (hv1067 : Mx i 1 6048 v1067) (hv1084 : Raw i 6048 v1084) (hv1086 : Ks i 6048 v1086) (X : State Ideal) (hX : XO i 6336 6048 0 X) :
    Steps defs 𝒱 (c : Thread nD τ) E (St c R i) X (R.app (k0_part82 (F := Ideal) g) v1067 v1084 v1086 v1096) fun a Y => XO i 6336 6336 0 Y ∧ Mx i 1 6336 a.1 := by
  unfold Refs.app; rw [k0_part82_eq_skeleton]; unfold k0_part82_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv1084 hv1086)
  with_reducible refine step_any_x fun _ => step_any_x fun _ => step_any_x fun _ => step_any_x fun v1125 => ?_
  exact step_ret ⟨hX, (mx_next hv1067 (mr_of (sl1 hv1084 hv1086)))⟩

theorem t83 (v12 : FVec Ideal S256x256 .fp8e4m3) (v1095 : FVec Ideal S8x128 .f32) (v1120 v1122 v1124 v1126 : FVec Ideal S72x128 .f32) (hv12 : QB i v12) (hv1095 : Mx i 0 6336 v1095) (X : State Ideal) (hX : XO i 6336 6336 0 X) :
    Steps defs 𝒱 (c : Thread nD τ) E (St c R i) X (R.app (k0_part83 (F := Ideal) g) v12 v1095 v1120 v1122 v1124 v1126) fun a Y => XO i 6624 6336 0 Y ∧ Raw i 6336 a.1 ∧ Ks i 6336 a.2.1 ∧ Mx i 0 6624 a.2.2.1 := by
  unfold Refs.app; rw [k0_part83_eq_skeleton]; unfold k0_part83_skel
  with_reducible refine step_any_l1 fun _ => step_keep_l1 hX fun X hX => ?_
  with_reducible refine step_k fun v1133 hv1133 => ?_
  with_reducible refine step_ks fun v1136 hv1136 => ?_
  with_reducible refine step_any_x fun _ => step_put0 hX ?_ fun X hX => ?_
  · exact sx_of (sl0 (raw_of hv1133 hv12) (ks_of hv1136))
  with_reducible refine step_any_x fun _ => step_any_x fun _ => step_any_x fun _ => step_any_x fun v1153 => ?_
  exact step_ret ⟨hX, (raw_of hv1133 hv12), (ks_of hv1136), (mx_next hv1095 (mr_of (sl0 (raw_of hv1133 hv12) (ks_of hv1136))))⟩

theorem t84 (v12 : FVec Ideal S256x256 .fp8e4m3) (v1118 : FVec Ideal S8x128 .f32) (v1135 : FVec Ideal S288x256 .f32) (v1137 : FVec Ideal S288x128 .f32) (v1157 : FVec Ideal S72x128 .f32) (hv12 : QB i v12) (hv1118 : Mx i 1 6336 v1118) (hv1135 : Raw i 6336 v1135) (hv1137 : Ks i 6336 v1137) (X : State Ideal) (hX : XO i 6624 6336 0 X) :
    Steps defs 𝒱 (c : Thread nD τ) E (St c R i) X (R.app (k0_part84 (F := Ideal) g) v12 v1118 v1135 v1137 v1157) fun a Y => XO i 6624 6624 0 Y ∧ Mx i 1 6624 a.1 ∧ Raw i 6624 a.2 := by
  unfold Refs.app; rw [k0_part84_eq_skeleton]; unfold k0_part84_skel
  with_reducible refine step_any_l1 fun _ => step_keep_l1 hX fun X hX => ?_
  with_reducible refine step_any_x fun _ => step_put1 hX ?_ fun X hX => ?_
  · exact sx_of (sl1 hv1135 hv1137)
  with_reducible refine step_any_x fun _ => step_any_x fun _ => step_any_x fun _ => step_any_x fun _ => step_any_l1 fun _ => step_keep_l1 hX fun X hX => ?_
  with_reducible refine step_k fun v1184 hv1184 => ?_
  exact step_ret ⟨hX, (mx_next hv1118 (mr_of (sl1 hv1135 hv1137))), (raw_of hv1184 hv12)⟩

theorem t85 (v1146 v1169 : FVec Ideal S8x128 .f32) (v1186 : FVec Ideal S288x256 .f32) (hv1146 : Mx i 0 6624 v1146) (hv1169 : Mx i 1 6624 v1169) (hv1186 : Raw i 6624 v1186) (X : State Ideal) (hX : XO i 6624 6624 0 X) :
    Steps defs 𝒱 (c : Thread nD τ) E (St c R i) X (R.app (k0_part85 (F := Ideal) g) v1146 v1169 v1186) fun a Y => XO i 6912 6912 0 Y ∧ Mx i 0 6912 a.1 ∧ Mx i 1 6912 a.2 := by
  unfold Refs.app; rw [k0_part85_eq_skeleton]; unfold k0_part85_skel
  with_reducible refine step_ks fun v1187 hv1187 => ?_
  with_reducible refine step_any_x fun _ => step_put0 hX ?_ fun X hX => ?_
  · exact sx_of (sl0 hv1186 (ks_of hv1187))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv1186 (ks_of hv1187))
  exact step_ret ⟨hX, (mx_next hv1146 (mr_of (sl0 hv1186 (ks_of hv1187)))), (mx_next hv1169 (mr_of (sl1 hv1186 (ks_of hv1187))))⟩

theorem t86 (v12 : FVec Ideal S256x256 .fp8e4m3) (v1197 : FVec Ideal S8x128 .f32) (hv12 : QB i v12) (hv1197 : Mx i 0 6912 v1197) (X : State Ideal) (hX : XO i 6912 6912 0 X) :
    Steps defs 𝒱 (c : Thread nD τ) E (St c R i) X (R.app (k0_part86 (F := Ideal) g) v12 v1197) fun a Y => XO i 7200 6912 0 Y ∧ Raw i 6912 a.1 ∧ Ks i 6912 a.2.1 ∧ Mx i 0 7200 a.2.2.1 := by
  unfold Refs.app; rw [k0_part86_eq_skeleton]; unfold k0_part86_skel
  with_reducible refine step_any_x fun _ => step_any_x fun _ => step_any_x fun _ => step_any_x fun _ => step_any_l1 fun _ => step_keep_l1 hX fun X hX => ?_
  with_reducible refine step_k fun v1235 hv1235 => ?_
  with_reducible refine step_ks fun v1238 hv1238 => ?_
  with_reducible refine step_any_x fun _ => step_put0 hX ?_ fun X hX => ?_
  · exact sx_of (sl0 (raw_of hv1235 hv12) (ks_of hv1238))
  with_reducible refine step_any_x fun v1249 => ?_
  exact step_ret ⟨hX, (raw_of hv1235 hv12), (ks_of hv1238), (mx_next hv1197 (mr_of (sl0 (raw_of hv1235 hv12) (ks_of hv1238))))⟩

theorem t87 (v1220 : FVec Ideal S8x128 .f32) (v1237 : FVec Ideal S288x256 .f32) (v1239 : FVec Ideal S288x128 .f32) (v1249 : Vec Ideal S1x72x128 .f32) (hv1220 : Mx i 1 6912 v1220) (hv1237 : Raw i 6912 v1237) (hv1239 : Ks i 6912 v1239) (X : State Ideal) (hX : XO i 7200 6912 0 X) :
    Steps defs 𝒱 (c : Thread nD τ) E (St c R i) X (R.app (k0_part87 (F := Ideal) g) v1220 v1237 v1239 v1249) fun a Y => XO i 7200 7200 0 Y ∧ Mx i 1 7200 a.1 := by
  unfold Refs.app; rw [k0_part87_eq_skeleton]; unfold k0_part87_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv1237 hv1239)
  with_reducible refine step_any_x fun _ => step_any_x fun _ => step_any_x fun _ => step_any_x fun v1278 => ?_
  exact step_ret ⟨hX, (mx_next hv1220 (mr_of (sl1 hv1237 hv1239)))⟩

theorem t88 (v12 : FVec Ideal S256x256 .fp8e4m3) (v1248 : FVec Ideal S8x128 .f32) (v1273 v1275 v1277 v1279 : FVec Ideal S72x128 .f32) (hv12 : QB i v12) (hv1248 : Mx i 0 7200 v1248) (X : State Ideal) (hX : XO i 7200 7200 0 X) :
    Steps defs 𝒱 (c : Thread nD τ) E (St c R i) X (R.app (k0_part88 (F := Ideal) g) v12 v1248 v1273 v1275 v1277 v1279) fun a Y => XO i 7488 7200 0 Y ∧ Raw i 7200 a.1 ∧ Ks i 7200 a.2.1 ∧ Mx i 0 7488 a.2.2.1 := by
  unfold Refs.app; rw [k0_part88_eq_skeleton]; unfold k0_part88_skel
  with_reducible refine step_any_l1 fun _ => step_keep_l1 hX fun X hX => ?_
  with_reducible refine step_k fun v1286 hv1286 => ?_
  with_reducible refine step_ks fun v1289 hv1289 => ?_
  with_reducible refine step_any_x fun _ => step_put0 hX ?_ fun X hX => ?_
  · exact sx_of (sl0 (raw_of hv1286 hv12) (ks_of hv1289))
  with_reducible refine step_any_x fun _ => step_any_x fun _ => step_any_x fun _ => step_any_x fun v1306 => ?_
  exact step_ret ⟨hX, (raw_of hv1286 hv12), (ks_of hv1289), (mx_next hv1248 (mr_of (sl0 (raw_of hv1286 hv12) (ks_of hv1289))))⟩

theorem t89 (v12 : FVec Ideal S256x256 .fp8e4m3) (v1271 : FVec Ideal S8x128 .f32) (v1288 : FVec Ideal S288x256 .f32) (v1290 : FVec Ideal S288x128 .f32) (v1310 : FVec Ideal S72x128 .f32) (hv12 : QB i v12) (hv1271 : Mx i 1 7200 v1271) (hv1288 : Raw i 7200 v1288) (hv1290 : Ks i 7200 v1290) (X : State Ideal) (hX : XO i 7488 7200 0 X) :
    Steps defs 𝒱 (c : Thread nD τ) E (St c R i) X (R.app (k0_part89 (F := Ideal) g) v12 v1271 v1288 v1290 v1310) fun a Y => XO i 7488 7488 0 Y ∧ Mx i 1 7488 a.1 ∧ Raw i 7488 a.2 := by
  unfold Refs.app; rw [k0_part89_eq_skeleton]; unfold k0_part89_skel
  with_reducible refine step_any_l1 fun _ => step_keep_l1 hX fun X hX => ?_
  with_reducible refine step_any_x fun _ => step_put1 hX ?_ fun X hX => ?_
  · exact sx_of (sl1 hv1288 hv1290)
  with_reducible refine step_any_x fun _ => step_any_x fun _ => step_any_x fun _ => step_any_x fun _ => step_any_l1 fun _ => step_keep_l1 hX fun X hX => ?_
  with_reducible refine step_k fun v1337 hv1337 => ?_
  exact step_ret ⟨hX, (mx_next hv1271 (mr_of (sl1 hv1288 hv1290))), (raw_of hv1337 hv12)⟩

theorem t90 (v1299 v1322 : FVec Ideal S8x128 .f32) (v1339 : FVec Ideal S288x256 .f32) (hv1299 : Mx i 0 7488 v1299) (hv1322 : Mx i 1 7488 v1322) (hv1339 : Raw i 7488 v1339) (X : State Ideal) (hX : XO i 7488 7488 0 X) :
    Steps defs 𝒱 (c : Thread nD τ) E (St c R i) X (R.app (k0_part90 (F := Ideal) g) v1299 v1322 v1339) fun a Y => XO i 7776 7776 0 Y ∧ Mx i 0 7776 a.1 ∧ Mx i 1 7776 a.2 := by
  unfold Refs.app; rw [k0_part90_eq_skeleton]; unfold k0_part90_skel
  with_reducible refine step_ks fun v1340 hv1340 => ?_
  with_reducible refine step_any_x fun _ => step_put0 hX ?_ fun X hX => ?_
  · exact sx_of (sl0 hv1339 (ks_of hv1340))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv1339 (ks_of hv1340))
  exact step_ret ⟨hX, (mx_next hv1299 (mr_of (sl0 hv1339 (ks_of hv1340)))), (mx_next hv1322 (mr_of (sl1 hv1339 (ks_of hv1340))))⟩

theorem t91 (v12 : FVec Ideal S256x256 .fp8e4m3) (v1350 : FVec Ideal S8x128 .f32) (hv12 : QB i v12) (hv1350 : Mx i 0 7776 v1350) (X : State Ideal) (hX : XO i 7776 7776 0 X) :
    Steps defs 𝒱 (c : Thread nD τ) E (St c R i) X (R.app (k0_part91 (F := Ideal) g) v12 v1350) fun a Y => XO i 8064 7776 0 Y ∧ Raw i 7776 a.1 ∧ Ks i 7776 a.2.1 ∧ Mx i 0 8064 a.2.2.1 := by
  unfold Refs.app; rw [k0_part91_eq_skeleton]; unfold k0_part91_skel
  with_reducible refine step_any_x fun _ => step_any_x fun _ => step_any_x fun _ => step_any_x fun _ => step_any_l1 fun _ => step_keep_l1 hX fun X hX => ?_
  with_reducible refine step_k fun v1388 hv1388 => ?_
  with_reducible refine step_ks fun v1391 hv1391 => ?_
  with_reducible refine step_any_x fun _ => step_put0 hX ?_ fun X hX => ?_
  · exact sx_of (sl0 (raw_of hv1388 hv12) (ks_of hv1391))
  with_reducible refine step_any_x fun v1402 => ?_
  exact step_ret ⟨hX, (raw_of hv1388 hv12), (ks_of hv1391), (mx_next hv1350 (mr_of (sl0 (raw_of hv1388 hv12) (ks_of hv1391))))⟩

theorem t92 (v1373 : FVec Ideal S8x128 .f32) (v1390 : FVec Ideal S288x256 .f32) (v1392 : FVec Ideal S288x128 .f32) (v1402 : Vec Ideal S1x72x128 .f32) (hv1373 : Mx i 1 7776 v1373) (hv1390 : Raw i 7776 v1390) (hv1392 : Ks i 7776 v1392) (X : State Ideal) (hX : XO i 8064 7776 0 X) :
    Steps defs 𝒱 (c : Thread nD τ) E (St c R i) X (R.app (k0_part92 (F := Ideal) g) v1373 v1390 v1392 v1402) fun a Y => XO i 8064 8064 0 Y ∧ Mx i 1 8064 a.1 := by
  unfold Refs.app; rw [k0_part92_eq_skeleton]; unfold k0_part92_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv1390 hv1392)
  with_reducible refine step_any_x fun _ => step_any_x fun _ => step_any_x fun _ => step_any_x fun v1431 => ?_
  exact step_ret ⟨hX, (mx_next hv1373 (mr_of (sl1 hv1390 hv1392)))⟩

theorem t93 (v12 : FVec Ideal S256x256 .fp8e4m3) (v1401 : FVec Ideal S8x128 .f32) (v1426 v1428 v1430 v1432 : FVec Ideal S72x128 .f32) (hv12 : QB i v12) (hv1401 : Mx i 0 8064 v1401) (X : State Ideal) (hX : XO i 8064 8064 0 X) :
    Steps defs 𝒱 (c : Thread nD τ) E (St c R i) X (R.app (k0_part93 (F := Ideal) g) v12 v1401 v1426 v1428 v1430 v1432) fun a Y => XO i 8352 8064 0 Y ∧ Raw i 8064 a.1 ∧ Ks i 8064 a.2.1 ∧ Mx i 0 8352 a.2.2.1 := by
  unfold Refs.app; rw [k0_part93_eq_skeleton]; unfold k0_part93_skel
  with_reducible refine step_any_l1 fun _ => step_keep_l1 hX fun X hX => ?_
  with_reducible refine step_k fun v1439 hv1439 => ?_
  with_reducible refine step_ks fun v1442 hv1442 => ?_
  with_reducible refine step_any_x fun _ => step_put0 hX ?_ fun X hX => ?_
  · exact sx_of (sl0 (raw_of hv1439 hv12) (ks_of hv1442))
  with_reducible refine step_any_x fun _ => step_any_x fun _ => step_any_x fun _ => step_any_x fun v1459 => ?_
  exact step_ret ⟨hX, (raw_of hv1439 hv12), (ks_of hv1442), (mx_next hv1401 (mr_of (sl0 (raw_of hv1439 hv12) (ks_of hv1442))))⟩

theorem t94 (v12 : FVec Ideal S256x256 .fp8e4m3) (v1424 : FVec Ideal S8x128 .f32) (v1441 : FVec Ideal S288x256 .f32) (v1443 : FVec Ideal S288x128 .f32) (v1463 : FVec Ideal S72x128 .f32) (hv12 : QB i v12) (hv1424 : Mx i 1 8064 v1424) (hv1441 : Raw i 8064 v1441) (hv1443 : Ks i 8064 v1443) (X : State Ideal) (hX : XO i 8352 8064 0 X) :
    Steps defs 𝒱 (c : Thread nD τ) E (St c R i) X (R.app (k0_part94 (F := Ideal) g) v12 v1424 v1441 v1443 v1463) fun a Y => XO i 8352 8352 0 Y ∧ Mx i 1 8352 a.1 ∧ Raw i 8352 a.2 := by
  unfold Refs.app; rw [k0_part94_eq_skeleton]; unfold k0_part94_skel
  with_reducible refine step_any_l1 fun _ => step_keep_l1 hX fun X hX => ?_
  with_reducible refine step_any_x fun _ => step_put1 hX ?_ fun X hX => ?_
  · exact sx_of (sl1 hv1441 hv1443)
  with_reducible refine step_any_x fun _ => step_any_x fun _ => step_any_x fun _ => step_any_x fun _ => step_any_l1 fun _ => step_keep_l1 hX fun X hX => ?_
  with_reducible refine step_k fun v1490 hv1490 => ?_
  exact step_ret ⟨hX, (mx_next hv1424 (mr_of (sl1 hv1441 hv1443))), (raw_of hv1490 hv12)⟩

theorem t95 (v1452 v1475 : FVec Ideal S8x128 .f32) (v1492 : FVec Ideal S288x256 .f32) (hv1452 : Mx i 0 8352 v1452) (hv1475 : Mx i 1 8352 v1475) (hv1492 : Raw i 8352 v1492) (X : State Ideal) (hX : XO i 8352 8352 0 X) :
    Steps defs 𝒱 (c : Thread nD τ) E (St c R i) X (R.app (k0_part95 (F := Ideal) g) v1452 v1475 v1492) fun a Y => XO i 8640 8640 0 Y ∧ Mx i 0 8640 a.1 ∧ Mx i 1 8640 a.2 := by
  unfold Refs.app; rw [k0_part95_eq_skeleton]; unfold k0_part95_skel
  with_reducible refine step_ks fun v1493 hv1493 => ?_
  with_reducible refine step_any_x fun _ => step_put0 hX ?_ fun X hX => ?_
  · exact sx_of (sl0 hv1492 (ks_of hv1493))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv1492 (ks_of hv1493))
  exact step_ret ⟨hX, (mx_next hv1452 (mr_of (sl0 hv1492 (ks_of hv1493)))), (mx_next hv1475 (mr_of (sl1 hv1492 (ks_of hv1493))))⟩

theorem t96 (v12 : FVec Ideal S256x256 .fp8e4m3) (v1503 : FVec Ideal S8x128 .f32) (hv12 : QB i v12) (hv1503 : Mx i 0 8640 v1503) (X : State Ideal) (hX : XO i 8640 8640 0 X) :
    Steps defs 𝒱 (c : Thread nD τ) E (St c R i) X (R.app (k0_part96 (F := Ideal) g) v12 v1503) fun a Y => XO i 8928 8640 0 Y ∧ Raw i 8640 a.1 ∧ Ks i 8640 a.2.1 ∧ Mx i 0 8928 a.2.2.1 := by
  unfold Refs.app; rw [k0_part96_eq_skeleton]; unfold k0_part96_skel
  with_reducible refine step_any_x fun _ => step_any_x fun _ => step_any_x fun _ => step_any_x fun _ => step_any_l1 fun _ => step_keep_l1 hX fun X hX => ?_
  with_reducible refine step_k fun v1541 hv1541 => ?_
  with_reducible refine step_ks fun v1544 hv1544 => ?_
  with_reducible refine step_any_x fun _ => step_put0 hX ?_ fun X hX => ?_
  · exact sx_of (sl0 (raw_of hv1541 hv12) (ks_of hv1544))
  with_reducible refine step_any_x fun v1555 => ?_
  exact step_ret ⟨hX, (raw_of hv1541 hv12), (ks_of hv1544), (mx_next hv1503 (mr_of (sl0 (raw_of hv1541 hv12) (ks_of hv1544))))⟩

theorem t97 (v1526 : FVec Ideal S8x128 .f32) (v1543 : FVec Ideal S288x256 .f32) (v1545 : FVec Ideal S288x128 .f32) (v1555 : Vec Ideal S1x72x128 .f32) (hv1526 : Mx i 1 8640 v1526) (hv1543 : Raw i 8640 v1543) (hv1545 : Ks i 8640 v1545) (X : State Ideal) (hX : XO i 8928 8640 0 X) :
    Steps defs 𝒱 (c : Thread nD τ) E (St c R i) X (R.app (k0_part97 (F := Ideal) g) v1526 v1543 v1545 v1555) fun a Y => XO i 8928 8928 0 Y ∧ Mx i 1 8928 a.1 := by
  unfold Refs.app; rw [k0_part97_eq_skeleton]; unfold k0_part97_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv1543 hv1545)
  with_reducible refine step_any_x fun _ => step_any_x fun _ => step_any_x fun _ => step_any_x fun v1584 => ?_
  exact step_ret ⟨hX, (mx_next hv1526 (mr_of (sl1 hv1543 hv1545)))⟩

theorem t98 (v12 : FVec Ideal S256x256 .fp8e4m3) (v1554 : FVec Ideal S8x128 .f32) (v1579 v1581 v1583 v1585 : FVec Ideal S72x128 .f32) (hv12 : QB i v12) (hv1554 : Mx i 0 8928 v1554) (X : State Ideal) (hX : XO i 8928 8928 0 X) :
    Steps defs 𝒱 (c : Thread nD τ) E (St c R i) X (R.app (k0_part98 (F := Ideal) g) v12 v1554 v1579 v1581 v1583 v1585) fun a Y => XO i 9216 8928 0 Y ∧ Raw i 8928 a.1 ∧ Ks i 8928 a.2.1 ∧ Mx i 0 9216 a.2.2.1 := by
  unfold Refs.app; rw [k0_part98_eq_skeleton]; unfold k0_part98_skel
  with_reducible refine step_any_l1 fun _ => step_keep_l1 hX fun X hX => ?_
  with_reducible refine step_k fun v1592 hv1592 => ?_
  with_reducible refine step_ks fun v1595 hv1595 => ?_
  with_reducible refine step_any_x fun _ => step_put0 hX ?_ fun X hX => ?_
  · exact sx_of (sl0 (raw_of hv1592 hv12) (ks_of hv1595))
  with_reducible refine step_any_x fun _ => step_any_x fun _ => step_any_x fun _ => step_any_x fun v1612 => ?_
  exact step_ret ⟨hX, (raw_of hv1592 hv12), (ks_of hv1595), (mx_next hv1554 (mr_of (sl0 (raw_of hv1592 hv12) (ks_of hv1595))))⟩

theorem t99 (v12 : FVec Ideal S256x256 .fp8e4m3) (v1577 : FVec Ideal S8x128 .f32) (v1594 : FVec Ideal S288x256 .f32) (v1596 : FVec Ideal S288x128 .f32) (v1616 : FVec Ideal S72x128 .f32) (hv12 : QB i v12) (hv1577 : Mx i 1 8928 v1577) (hv1594 : Raw i 8928 v1594) (hv1596 : Ks i 8928 v1596) (X : State Ideal) (hX : XO i 9216 8928 0 X) :
    Steps defs 𝒱 (c : Thread nD τ) E (St c R i) X (R.app (k0_part99 (F := Ideal) g) v12 v1577 v1594 v1596 v1616) fun a Y => XO i 9216 9216 0 Y ∧ Mx i 1 9216 a.1 ∧ Raw i 9216 a.2 := by
  unfold Refs.app; rw [k0_part99_eq_skeleton]; unfold k0_part99_skel
  with_reducible refine step_any_l1 fun _ => step_keep_l1 hX fun X hX => ?_
  with_reducible refine step_any_x fun _ => step_put1 hX ?_ fun X hX => ?_
  · exact sx_of (sl1 hv1594 hv1596)
  with_reducible refine step_any_x fun _ => step_any_x fun _ => step_any_x fun _ => step_any_x fun _ => step_any_l1 fun _ => step_keep_l1 hX fun X hX => ?_
  with_reducible refine step_k fun v1643 hv1643 => ?_
  exact step_ret ⟨hX, (mx_next hv1577 (mr_of (sl1 hv1594 hv1596))), (raw_of hv1643 hv12)⟩

theorem t100 (v1605 v1628 : FVec Ideal S8x128 .f32) (v1645 : FVec Ideal S288x256 .f32) (hv1605 : Mx i 0 9216 v1605) (hv1628 : Mx i 1 9216 v1628) (hv1645 : Raw i 9216 v1645) (X : State Ideal) (hX : XO i 9216 9216 0 X) :
    Steps defs 𝒱 (c : Thread nD τ) E (St c R i) X (R.app (k0_part100 (F := Ideal) g) v1605 v1628 v1645) fun a Y => XO i 9504 9504 0 Y ∧ Mx i 0 9504 a.1 ∧ Mx i 1 9504 a.2 := by
  unfold Refs.app; rw [k0_part100_eq_skeleton]; unfold k0_part100_skel
  with_reducible refine step_ks fun v1646 hv1646 => ?_
  with_reducible refine step_any_x fun _ => step_put0 hX ?_ fun X hX => ?_
  · exact sx_of (sl0 hv1645 (ks_of hv1646))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv1645 (ks_of hv1646))
  exact step_ret ⟨hX, (mx_next hv1605 (mr_of (sl0 hv1645 (ks_of hv1646)))), (mx_next hv1628 (mr_of (sl1 hv1645 (ks_of hv1646))))⟩

theorem t101 (v12 : FVec Ideal S256x256 .fp8e4m3) (v1656 : FVec Ideal S8x128 .f32) (hv12 : QB i v12) (hv1656 : Mx i 0 9504 v1656) (X : State Ideal) (hX : XO i 9504 9504 0 X) :
    Steps defs 𝒱 (c : Thread nD τ) E (St c R i) X (R.app (k0_part101 (F := Ideal) g) v12 v1656) fun a Y => XO i 9792 9504 0 Y ∧ Raw i 9504 a.1 ∧ Ks i 9504 a.2.1 ∧ Mx i 0 9792 a.2.2.1 := by
  unfold Refs.app; rw [k0_part101_eq_skeleton]; unfold k0_part101_skel
  with_reducible refine step_any_x fun _ => step_any_x fun _ => step_any_x fun _ => step_any_x fun _ => step_any_l1 fun _ => step_keep_l1 hX fun X hX => ?_
  with_reducible refine step_k fun v1694 hv1694 => ?_
  with_reducible refine step_ks fun v1697 hv1697 => ?_
  with_reducible refine step_any_x fun _ => step_put0 hX ?_ fun X hX => ?_
  · exact sx_of (sl0 (raw_of hv1694 hv12) (ks_of hv1697))
  with_reducible refine step_any_x fun v1708 => ?_
  exact step_ret ⟨hX, (raw_of hv1694 hv12), (ks_of hv1697), (mx_next hv1656 (mr_of (sl0 (raw_of hv1694 hv12) (ks_of hv1697))))⟩

theorem t102 (v1679 : FVec Ideal S8x128 .f32) (v1696 : FVec Ideal S288x256 .f32) (v1698 : FVec Ideal S288x128 .f32) (v1708 : Vec Ideal S1x72x128 .f32) (hv1679 : Mx i 1 9504 v1679) (hv1696 : Raw i 9504 v1696) (hv1698 : Ks i 9504 v1698) (X : State Ideal) (hX : XO i 9792 9504 0 X) :
    Steps defs 𝒱 (c : Thread nD τ) E (St c R i) X (R.app (k0_part102 (F := Ideal) g) v1679 v1696 v1698 v1708) fun a Y => XO i 9792 9792 0 Y ∧ Mx i 1 9792 a.1 := by
  unfold Refs.app; rw [k0_part102_eq_skeleton]; unfold k0_part102_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv1696 hv1698)
  with_reducible refine step_any_x fun _ => step_any_x fun _ => step_any_x fun _ => step_any_x fun v1737 => ?_
  exact step_ret ⟨hX, (mx_next hv1679 (mr_of (sl1 hv1696 hv1698)))⟩

theorem t103 (v12 : FVec Ideal S256x256 .fp8e4m3) (v1707 : FVec Ideal S8x128 .f32) (v1732 v1734 v1736 v1738 : FVec Ideal S72x128 .f32) (hv12 : QB i v12) (hv1707 : Mx i 0 9792 v1707) (X : State Ideal) (hX : XO i 9792 9792 0 X) :
    Steps defs 𝒱 (c : Thread nD τ) E (St c R i) X (R.app (k0_part103 (F := Ideal) g) v12 v1707 v1732 v1734 v1736 v1738) fun a Y => XO i 10080 9792 0 Y ∧ Raw i 9792 a.1 ∧ Ks i 9792 a.2.1 ∧ Mx i 0 10080 a.2.2.1 := by
  unfold Refs.app; rw [k0_part103_eq_skeleton]; unfold k0_part103_skel
  with_reducible refine step_any_l1 fun _ => step_keep_l1 hX fun X hX => ?_
  with_reducible refine step_k fun v1745 hv1745 => ?_
  with_reducible refine step_ks fun v1748 hv1748 => ?_
  with_reducible refine step_any_x fun _ => step_put0 hX ?_ fun X hX => ?_
  · exact sx_of (sl0 (raw_of hv1745 hv12) (ks_of hv1748))
  with_reducible refine step_any_x fun _ => step_any_x fun _ => step_any_x fun _ => step_any_x fun v1765 => ?_
  exact step_ret ⟨hX, (raw_of hv1745 hv12), (ks_of hv1748), (mx_next hv1707 (mr_of (sl0 (raw_of hv1745 hv12) (ks_of hv1748))))⟩

theorem t104 (v12 : FVec Ideal S256x256 .fp8e4m3) (v1730 : FVec Ideal S8x128 .f32) (v1747 : FVec Ideal S288x256 .f32) (v1749 : FVec Ideal S288x128 .f32) (v1769 : FVec Ideal S72x128 .f32) (hv12 : QB i v12) (hv1730 : Mx i 1 9792 v1730) (hv1747 : Raw i 9792 v1747) (hv1749 : Ks i 9792 v1749) (X : State Ideal) (hX : XO i 10080 9792 0 X) :
    Steps defs 𝒱 (c : Thread nD τ) E (St c R i) X (R.app (k0_part104 (F := Ideal) g) v12 v1730 v1747 v1749 v1769) fun a Y => XO i 10080 10080 0 Y ∧ Mx i 1 10080 a.1 ∧ Raw i 10080 a.2 := by
  unfold Refs.app; rw [k0_part104_eq_skeleton]; unfold k0_part104_skel
  with_reducible refine step_any_l1 fun _ => step_keep_l1 hX fun X hX => ?_
  with_reducible refine step_any_x fun _ => step_put1 hX ?_ fun X hX => ?_
  · exact sx_of (sl1 hv1747 hv1749)
  with_reducible refine step_any_x fun _ => step_any_x fun _ => step_any_x fun _ => step_any_x fun _ => step_any_l1 fun _ => step_keep_l1 hX fun X hX => ?_
  with_reducible refine step_k fun v1796 hv1796 => ?_
  exact step_ret ⟨hX, (mx_next hv1730 (mr_of (sl1 hv1747 hv1749))), (raw_of hv1796 hv12)⟩

theorem t105 (v1758 v1781 : FVec Ideal S8x128 .f32) (v1798 : FVec Ideal S288x256 .f32) (hv1758 : Mx i 0 10080 v1758) (hv1781 : Mx i 1 10080 v1781) (hv1798 : Raw i 10080 v1798) (X : State Ideal) (hX : XO i 10080 10080 0 X) :
    Steps defs 𝒱 (c : Thread nD τ) E (St c R i) X (R.app (k0_part105 (F := Ideal) g) v1758 v1781 v1798) fun a Y => XO i 10368 10368 0 Y ∧ Mx i 0 10368 a.1 ∧ Mx i 1 10368 a.2 := by
  unfold Refs.app; rw [k0_part105_eq_skeleton]; unfold k0_part105_skel
  with_reducible refine step_ks fun v1799 hv1799 => ?_
  with_reducible refine step_any_x fun _ => step_put0 hX ?_ fun X hX => ?_
  · exact sx_of (sl0 hv1798 (ks_of hv1799))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv1798 (ks_of hv1799))
  exact step_ret ⟨hX, (mx_next hv1758 (mr_of (sl0 hv1798 (ks_of hv1799)))), (mx_next hv1781 (mr_of (sl1 hv1798 (ks_of hv1799))))⟩

theorem t106 (v12 : FVec Ideal S256x256 .fp8e4m3) (v1809 : FVec Ideal S8x128 .f32) (hv12 : QB i v12) (hv1809 : Mx i 0 10368 v1809) (X : State Ideal) (hX : XO i 10368 10368 0 X) :
    Steps defs 𝒱 (c : Thread nD τ) E (St c R i) X (R.app (k0_part106 (F := Ideal) g) v12 v1809) fun a Y => XO i 10656 10368 0 Y ∧ Raw i 10368 a.1 ∧ Ks i 10368 a.2.1 ∧ Mx i 0 10656 a.2.2.1 := by
  unfold Refs.app; rw [k0_part106_eq_skeleton]; unfold k0_part106_skel
  with_reducible refine step_any_x fun _ => step_any_x fun _ => step_any_x fun _ => step_any_x fun _ => step_any_l1 fun _ => step_keep_l1 hX fun X hX => ?_
  with_reducible refine step_k fun v1847 hv1847 => ?_
  with_reducible refine step_ks fun v1850 hv1850 => ?_
  with_reducible refine step_any_x fun _ => step_put0 hX ?_ fun X hX => ?_
  · exact sx_of (sl0 (raw_of hv1847 hv12) (ks_of hv1850))
  with_reducible refine step_any_x fun v1861 => ?_
  exact step_ret ⟨hX, (raw_of hv1847 hv12), (ks_of hv1850), (mx_next hv1809 (mr_of (sl0 (raw_of hv1847 hv12) (ks_of hv1850))))⟩

theorem t107 (v1832 : FVec Ideal S8x128 .f32) (v1849 : FVec Ideal S288x256 .f32) (v1851 : FVec Ideal S288x128 .f32) (v1861 : Vec Ideal S1x72x128 .f32) (hv1832 : Mx i 1 10368 v1832) (hv1849 : Raw i 10368 v1849) (hv1851 : Ks i 10368 v1851) (X : State Ideal) (hX : XO i 10656 10368 0 X) :
    Steps defs 𝒱 (c : Thread nD τ) E (St c R i) X (R.app (k0_part107 (F := Ideal) g) v1832 v1849 v1851 v1861) fun a Y => XO i 10656 10656 0 Y ∧ Mx i 1 10656 a.1 := by
  unfold Refs.app; rw [k0_part107_eq_skeleton]; unfold k0_part107_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv1849 hv1851)
  with_reducible refine step_any_x fun _ => step_any_x fun _ => step_any_x fun _ => step_any_x fun v1890 => ?_
  exact step_ret ⟨hX, (mx_next hv1832 (mr_of (sl1 hv1849 hv1851)))⟩

theorem t108 (v12 : FVec Ideal S256x256 .fp8e4m3) (v1860 : FVec Ideal S8x128 .f32) (v1885 v1887 v1889 v1891 : FVec Ideal S72x128 .f32) (hv12 : QB i v12) (hv1860 : Mx i 0 10656 v1860) (X : State Ideal) (hX : XO i 10656 10656 0 X) :
    Steps defs 𝒱 (c : Thread nD τ) E (St c R i) X (R.app (k0_part108 (F := Ideal) g) v12 v1860 v1885 v1887 v1889 v1891) fun a Y => XO i 10944 10656 0 Y ∧ Raw i 10656 a.1 ∧ Ks i 10656 a.2.1 ∧ Mx i 0 10944 a.2.2.1 := by
  unfold Refs.app; rw [k0_part108_eq_skeleton]; unfold k0_part108_skel
  with_reducible refine step_any_l1 fun _ => step_keep_l1 hX fun X hX => ?_
  with_reducible refine step_k fun v1898 hv1898 => ?_
  with_reducible refine step_ks fun v1901 hv1901 => ?_
  with_reducible refine step_any_x fun _ => step_put0 hX ?_ fun X hX => ?_
  · exact sx_of (sl0 (raw_of hv1898 hv12) (ks_of hv1901))
  with_reducible refine step_any_x fun _ => step_any_x fun _ => step_any_x fun _ => step_any_x fun v1918 => ?_
  exact step_ret ⟨hX, (raw_of hv1898 hv12), (ks_of hv1901), (mx_next hv1860 (mr_of (sl0 (raw_of hv1898 hv12) (ks_of hv1901))))⟩

theorem t109 (v12 : FVec Ideal S256x256 .fp8e4m3) (v1883 : FVec Ideal S8x128 .f32) (v1900 : FVec Ideal S288x256 .f32) (v1902 : FVec Ideal S288x128 .f32) (v1922 : FVec Ideal S72x128 .f32) (hv12 : QB i v12) (hv1883 : Mx i 1 10656 v1883) (hv1900 : Raw i 10656 v1900) (hv1902 : Ks i 10656 v1902) (X : State Ideal) (hX : XO i 10944 10656 0 X) :
    Steps defs 𝒱 (c : Thread nD τ) E (St c R i) X (R.app (k0_part109 (F := Ideal) g) v12 v1883 v1900 v1902 v1922) fun a Y => XO i 10944 10944 0 Y ∧ Mx i 1 10944 a.1 ∧ Raw i 10944 a.2 := by
  unfold Refs.app; rw [k0_part109_eq_skeleton]; unfold k0_part109_skel
  with_reducible refine step_any_l1 fun _ => step_keep_l1 hX fun X hX => ?_
  with_reducible refine step_any_x fun _ => step_put1 hX ?_ fun X hX => ?_
  · exact sx_of (sl1 hv1900 hv1902)
  with_reducible refine step_any_x fun _ => step_any_x fun _ => step_any_x fun _ => step_any_x fun _ => step_any_l1 fun _ => step_keep_l1 hX fun X hX => ?_
  with_reducible refine step_k fun v1949 hv1949 => ?_
  exact step_ret ⟨hX, (mx_next hv1883 (mr_of (sl1 hv1900 hv1902))), (raw_of hv1949 hv12)⟩

end Cert.KernelIdeal.Own

end
-- ==== Proof.Parts3.lean ====
/-
  Parts 110 to 141 of the body, followed: what each leaves in the scaled products, in the first result and in its values.
-/
module

public import proofs.«01_k».proof.Proof.Gen.KernelIdeal.Skeleton
public import proofs.«01_k».proof.Proof.Follow

@[expose] public section

set_option maxRecDepth 65536
set_option maxHeartbeats 0

noncomputable section

namespace Cert.KernelIdeal.Own

open Idealize.ShloMosaic Idealize.ShloMosaic.TcCoe Idealize.SL Idealize.SL.Sem
open Cert.Steps Cert.KernelIdeal.Gen

variable (defs : Defs nD τ sig (Elt Ideal) Λ₀) (𝒱 : Variants) (c : Dev nD) (E : Set ℕ) (R : Refs) (i : Ins Ideal) (g : grid0.Coords)

theorem t110 (v1911 v1934 : FVec Ideal S8x128 .f32) (v1951 : FVec Ideal S288x256 .f32) (hv1911 : Mx i 0 10944 v1911) (hv1934 : Mx i 1 10944 v1934) (hv1951 : Raw i 10944 v1951) (X : State Ideal) (hX : XO i 10944 10944 0 X) :
    Steps defs 𝒱 (c : Thread nD τ) E (St c R i) X (R.app (k0_part110 (F := Ideal) g) v1911 v1934 v1951) fun a Y => XO i 11232 11232 0 Y ∧ Mx i 0 11232 a.1 ∧ Mx i 1 11232 a.2 := by
  unfold Refs.app; rw [k0_part110_eq_skeleton]; unfold k0_part110_skel
  with_reducible refine step_ks fun v1952 hv1952 => ?_
  with_reducible refine step_any_x fun _ => step_put0 hX ?_ fun X hX => ?_
  · exact sx_of (sl0 hv1951 (ks_of hv1952))
  with_reducible refine step_any_x fun _ => step_any_x fun _ => step_any_x fun _ => step_any_x fun _ => step_any_l1 fun _ => step_keep_l1 hX fun X hX => ?_
  with_reducible refine step_any_x fun _ => step_put1 hX ?_ fun X hX => ?_
  · exact sx_of (sl1 hv1951 (ks_of hv1952))
  exact step_ret ⟨hX, (mx_next hv1911 (mr_of (sl0 hv1951 (ks_of hv1952)))), (mx_next hv1934 (mr_of (sl1 hv1951 (ks_of hv1952))))⟩

theorem t111 (v12 : FVec Ideal S256x256 .fp8e4m3) (v1962 : FVec Ideal S8x128 .f32) (hv12 : QB i v12) (hv1962 : Mx i 0 11232 v1962) (X : State Ideal) (hX : XO i 11232 11232 0 X) :
    Steps defs 𝒱 (c : Thread nD τ) E (St c R i) X (R.app (k0_part111 (F := Ideal) g) v12 v1962) fun a Y => XO i 11520 11232 0 Y ∧ Raw i 11232 a.1 ∧ Ks i 11232 a.2.1 ∧ Mx i 0 11520 a.2.2.1 := by
  unfold Refs.app; rw [k0_part111_eq_skeleton]; unfold k0_part111_skel
  with_reducible refine step_any_x fun _ => step_any_x fun _ => step_any_x fun _ => step_any_x fun _ => step_any_l1 fun _ => step_keep_l1 hX fun X hX => ?_
  with_reducible refine step_k fun v2000 hv2000 => ?_
  with_reducible refine step_ks fun v2003 hv2003 => ?_
  with_reducible refine step_any_x fun _ => step_put0 hX ?_ fun X hX => ?_
  · exact sx_of (sl0 (raw_of hv2000 hv12) (ks_of hv2003))
  with_reducible refine step_any_x fun v2014 => ?_
  exact step_ret ⟨hX, (raw_of hv2000 hv12), (ks_of hv2003), (mx_next hv1962 (mr_of (sl0 (raw_of hv2000 hv12) (ks_of hv2003))))⟩

theorem t112 (v1985 : FVec Ideal S8x128 .f32) (v2002 : FVec Ideal S288x256 .f32) (v2004 : FVec Ideal S288x128 .f32) (v2014 : Vec Ideal S1x72x128 .f32) (hv1985 : Mx i 1 11232 v1985) (hv2002 : Raw i 11232 v2002) (hv2004 : Ks i 11232 v2004) (X : State Ideal) (hX : XO i 11520 11232 0 X) :
    Steps defs 𝒱 (c : Thread nD τ) E (St c R i) X (R.app (k0_part112 (F := Ideal) g) v1985 v2002 v2004 v2014) fun a Y => XO i 11520 11520 0 Y ∧ Mx i 1 11520 a.1 := by
  unfold Refs.app; rw [k0_part112_eq_skeleton]; unfold k0_part112_skel
  with_reducible refine step_any_x fun _ => step_any_x fun _ => step_any_x fun _ => step_any_l1 fun _ => step_keep_l1 hX fun X hX => ?_
  with_reducible refine step_any_x fun _ => step_put1 hX ?_ fun X hX => ?_
  · exact sx_of (sl1 hv2002 hv2004)
  with_reducible refine step_any_x fun _ => step_any_x fun _ => step_any_x fun _ => step_any_x fun v2043 => ?_
  exact step_ret ⟨hX, (mx_next hv1985 (mr_of (sl1 hv2002 hv2004)))⟩

theorem t113 (v2013 : FVec Ideal S8x128 .f32) (v2038 v2040 v2042 v2044 : FVec Ideal S72x128 .f32) (hv2013 : Mx i 0 11520 v2013) (X : State Ideal) (hX : XO i 11520 11520 0 X) :
    Steps defs 𝒱 (c : Thread nD τ) E (St c R i) X (R.app (k0_part113 (F := Ideal) g) v2013 v2038 v2040 v2042 v2044) fun a Y => XO i 11520 11520 1 Y ∧ QC i 0 a.1 ∧ SC i 0 a.2.1 ∧ Inv i 0 a.2.2.1 ∧ CR i 0 0 4 a.2.2.2 := by
  unfold Refs.app; rw [k0_part113_eq_skeleton]; unfold k0_part113_skel
  with_reducible refine step_any_l1 fun _ => step_keep_l1 hX fun X hX => ?_
  with_reducible refine step_qs0 fun v2051 hv2051 => ?_
  with_reducible refine step_x0 hX fun v2063 hv2063 => ?_
  with_reducible refine step_any_o0 fun _ => step_putO (t := 0) (kt := 0) (s0 := 0) (m := 0) (o := 0) hX ?_ (by decide) (by decide) (by decide) fun X hX => ?_
  · exact cs_of (cr_of (ch0_of (ct_of (cu_of (b3_of (hi_of chi_of) (b2_of (lo_of clo_of) (b1_of (b0_of hv2063) (bi_of (inv_of (qc_one (qc_of hv2051)) (sc_of (m1_of hv2013) (qc_one (qc_of hv2051))))))))))))
  exact step_ret ⟨hX, (qc_of hv2051), (sc_of (m1_of hv2013) (qc_one (qc_of hv2051))), (inv_of (qc_one (qc_of hv2051)) (sc_of (m1_of hv2013) (qc_one (qc_of hv2051)))), (cr_of (ch4_of (ct_of (cu_of (b3_of (hi_of chi_of) (b2_of (lo_of clo_of) (b1_of (b0_of hv2063) (bi_of (inv_of (qc_one (qc_of hv2051)) (sc_of (m1_of hv2013) (qc_one (qc_of hv2051))))))))))))⟩

theorem t114 (v2062 : FVec Ideal S1x128 .f32) (v2079 : FVec Ideal S16x4x128 .fp8e4m3) (hv2062 : Inv i 0 v2062) (hv2079 : CR i 0 0 4 v2079) (X : State Ideal) (hX : XO i 11520 11520 1 X) :
    Steps defs 𝒱 (c : Thread nD τ) E (St c R i) X (R.app (k0_part114 (F := Ideal) g) v2062 v2079) fun a Y => XO i 11520 11520 4 Y ∧ CHi a.1 ∧ B2 i 0 256 a.2 := by
  unfold Refs.app; rw [k0_part114_eq_skeleton]; unfold k0_part114_skel
  with_reducible refine step_any_o0 fun _ => step_putO (t := 0) (kt := 0) (s0 := 4) (m := 1) (o := 0) hX ?_ (by decide) (by decide) (by decide) fun X hX => ?_
  · exact cs_of hv2079
  with_reducible refine step_x0 hX fun v2083 hv2083 => ?_
  with_reducible refine step_any_o0 fun _ => step_putO (t := 0) (kt := 1) (s0 := 0) (m := 2) (o := 128) hX ?_ (by decide) (by decide) (by decide) fun X hX => ?_
  · exact cs_of (cr_of (ch0_of (ct_of (cu_of (b3_of (hi_of chi_of) (b2_of (lo_of clo_of) (b1_of (b0_of hv2083) (bi_of hv2062))))))))
  with_reducible refine step_any_o0 fun _ => step_putO (t := 0) (kt := 1) (s0 := 4) (m := 3) (o := 128) hX ?_ (by decide) (by decide) (by decide) fun X hX => ?_
  · exact cs_of (cr_of (ch4_of (ct_of (cu_of (b3_of (hi_of chi_of) (b2_of (lo_of clo_of) (b1_of (b0_of hv2083) (bi_of hv2062))))))))
  with_reducible refine step_x0 hX fun v2103 hv2103 => ?_
  exact step_ret ⟨hX, chi_of, (b2_of (lo_of clo_of) (b1_of (b0_of hv2103) (bi_of hv2062)))⟩

theorem t115 (v2062 : FVec Ideal S1x128 .f32) (cst_1677 : Ideal .f32) (v2108 : FVec Ideal S128x128 .f32) (hv2062 : Inv i 0 v2062) (hcst_1677 : CHi cst_1677) (hv2108 : B2 i 0 256 v2108) (X : State Ideal) (hX : XO i 11520 11520 4 X) :
    Steps defs 𝒱 (c : Thread nD τ) E (St c R i) X (R.app (k0_part115 (F := Ideal) g) v2062 cst_1677 v2108) fun a Y => XO i 11520 11520 7 Y ∧ CR i 0 384 4 a := by
  unfold Refs.app; rw [k0_part115_eq_skeleton]; unfold k0_part115_skel
  with_reducible refine step_any_o0 fun _ => step_putO (t := 0) (kt := 2) (s0 := 0) (m := 4) (o := 256) hX ?_ (by decide) (by decide) (by decide) fun X hX => ?_
  · exact cs_of (cr_of (ch0_of (ct_of (cu_of (b3_of (hi_of hcst_1677) hv2108)))))
  with_reducible refine step_any_o0 fun _ => step_putO (t := 0) (kt := 2) (s0 := 4) (m := 5) (o := 256) hX ?_ (by decide) (by decide) (by decide) fun X hX => ?_
  · exact cs_of (cr_of (ch4_of (ct_of (cu_of (b3_of (hi_of hcst_1677) hv2108)))))
  with_reducible refine step_x0 hX fun v2123 hv2123 => ?_
  with_reducible refine step_any_o0 fun _ => step_putO (t := 0) (kt := 3) (s0 := 0) (m := 6) (o := 384) hX ?_ (by decide) (by decide) (by decide) fun X hX => ?_
  · exact cs_of (cr_of (ch0_of (ct_of (cu_of (b3_of (hi_of chi_of) (b2_of (lo_of clo_of) (b1_of (b0_of hv2123) (bi_of hv2062))))))))
  exact step_ret ⟨hX, (cr_of (ch4_of (ct_of (cu_of (b3_of (hi_of chi_of) (b2_of (lo_of clo_of) (b1_of (b0_of hv2123) (bi_of hv2062))))))))⟩

theorem t116 (v2062 : FVec Ideal S1x128 .f32) (v2139 : FVec Ideal S16x4x128 .fp8e4m3) (hv2062 : Inv i 0 v2062) (hv2139 : CR i 0 384 4 v2139) (X : State Ideal) (hX : XO i 11520 11520 7 X) :
    Steps defs 𝒱 (c : Thread nD τ) E (St c R i) X (R.app (k0_part116 (F := Ideal) g) v2062 v2139) fun a Y => XO i 11520 11520 10 Y ∧ CU i 0 640 a := by
  unfold Refs.app; rw [k0_part116_eq_skeleton]; unfold k0_part116_skel
  with_reducible refine step_any_o0 fun _ => step_putO (t := 0) (kt := 3) (s0 := 4) (m := 7) (o := 384) hX ?_ (by decide) (by decide) (by decide) fun X hX => ?_
  · exact cs_of hv2139
  with_reducible refine step_x0 hX fun v2143 hv2143 => ?_
  with_reducible refine step_any_o0 fun _ => step_putO (t := 0) (kt := 4) (s0 := 0) (m := 8) (o := 512) hX ?_ (by decide) (by decide) (by decide) fun X hX => ?_
  · exact cs_of (cr_of (ch0_of (ct_of (cu_of (b3_of (hi_of chi_of) (b2_of (lo_of clo_of) (b1_of (b0_of hv2143) (bi_of hv2062))))))))
  with_reducible refine step_any_o0 fun _ => step_putO (t := 0) (kt := 4) (s0 := 4) (m := 9) (o := 512) hX ?_ (by decide) (by decide) (by decide) fun X hX => ?_
  · exact cs_of (cr_of (ch4_of (ct_of (cu_of (b3_of (hi_of chi_of) (b2_of (lo_of clo_of) (b1_of (b0_of hv2143) (bi_of hv2062))))))))
  with_reducible refine step_x0 hX fun v2163 hv2163 => ?_
  exact step_ret ⟨hX, (cu_of (b3_of (hi_of chi_of) (b2_of (lo_of clo_of) (b1_of (b0_of hv2163) (bi_of hv2062)))))⟩

theorem t117 (v2062 : FVec Ideal S1x128 .f32) (v2171 : FVec Ideal S128x128 .fp8e4m3) (hv2062 : Inv i 0 v2062) (hv2171 : CU i 0 640 v2171) (X : State Ideal) (hX : XO i 11520 11520 10 X) :
    Steps defs 𝒱 (c : Thread nD τ) E (St c R i) X (R.app (k0_part117 (F := Ideal) g) v2062 v2171) fun a Y => XO i 11520 11520 13 Y ∧ CR i 0 768 4 a := by
  unfold Refs.app; rw [k0_part117_eq_skeleton]; unfold k0_part117_skel
  with_reducible refine step_any_o0 fun _ => step_putO (t := 0) (kt := 5) (s0 := 0) (m := 10) (o := 640) hX ?_ (by decide) (by decide) (by decide) fun X hX => ?_
  · exact cs_of (cr_of (ch0_of (ct_of hv2171)))
  with_reducible refine step_any_o0 fun _ => step_putO (t := 0) (kt := 5) (s0 := 4) (m := 11) (o := 640) hX ?_ (by decide) (by decide) (by decide) fun X hX => ?_
  · exact cs_of (cr_of (ch4_of (ct_of hv2171)))
  with_reducible refine step_x0 hX fun v2183 hv2183 => ?_
  with_reducible refine step_any_o0 fun _ => step_putO (t := 0) (kt := 6) (s0 := 0) (m := 12) (o := 768) hX ?_ (by decide) (by decide) (by decide) fun X hX => ?_
  · exact cs_of (cr_of (ch0_of (ct_of (cu_of (b3_of (hi_of chi_of) (b2_of (lo_of clo_of) (b1_of (b0_of hv2183) (bi_of hv2062))))))))
  exact step_ret ⟨hX, (cr_of (ch4_of (ct_of (cu_of (b3_of (hi_of chi_of) (b2_of (lo_of clo_of) (b1_of (b0_of hv2183) (bi_of hv2062))))))))⟩

theorem t118 (v2062 : FVec Ideal S1x128 .f32) (v2199 : FVec Ideal S16x4x128 .fp8e4m3) (hv2062 : Inv i 0 v2062) (hv2199 : CR i 0 768 4 v2199) (X : State Ideal) (hX : XO i 11520 11520 13 X) :
    Steps defs 𝒱 (c : Thread nD τ) E (St c R i) X (R.app (k0_part118 (F := Ideal) g) v2062 v2199) fun a Y => XO i 11520 11520 16 Y ∧ CT i 0 1024 a.1 ∧ CR i 0 1024 0 a.2 := by
  unfold Refs.app; rw [k0_part118_eq_skeleton]; unfold k0_part118_skel
  with_reducible refine step_any_o0 fun _ => step_putO (t := 0) (kt := 6) (s0 := 4) (m := 13) (o := 768) hX ?_ (by decide) (by decide) (by decide) fun X hX => ?_
  · exact cs_of hv2199
  with_reducible refine step_x0 hX fun v2203 hv2203 => ?_
  with_reducible refine step_any_o0 fun _ => step_putO (t := 0) (kt := 7) (s0 := 0) (m := 14) (o := 896) hX ?_ (by decide) (by decide) (by decide) fun X hX => ?_
  · exact cs_of (cr_of (ch0_of (ct_of (cu_of (b3_of (hi_of chi_of) (b2_of (lo_of clo_of) (b1_of (b0_of hv2203) (bi_of hv2062))))))))
  with_reducible refine step_any_o0 fun _ => step_putO (t := 0) (kt := 7) (s0 := 4) (m := 15) (o := 896) hX ?_ (by decide) (by decide) (by decide) fun X hX => ?_
  · exact cs_of (cr_of (ch4_of (ct_of (cu_of (b3_of (hi_of chi_of) (b2_of (lo_of clo_of) (b1_of (b0_of hv2203) (bi_of hv2062))))))))
  with_reducible refine step_x0 hX fun v2223 hv2223 => ?_
  exact step_ret ⟨hX, (ct_of (cu_of (b3_of (hi_of chi_of) (b2_of (lo_of clo_of) (b1_of (b0_of hv2223) (bi_of hv2062)))))), (cr_of (ch0_of (ct_of (cu_of (b3_of (hi_of chi_of) (b2_of (lo_of clo_of) (b1_of (b0_of hv2223) (bi_of hv2062))))))))⟩

theorem t119 (v2062 : FVec Ideal S1x128 .f32) (v2232 : FVec Ideal S128x128 .fp8e4m3) (v2234 : FVec Ideal S16x4x128 .fp8e4m3) (hv2062 : Inv i 0 v2062) (hv2232 : CT i 0 1024 v2232) (hv2234 : CR i 0 1024 0 v2234) (X : State Ideal) (hX : XO i 11520 11520 16 X) :
    Steps defs 𝒱 (c : Thread nD τ) E (St c R i) X (R.app (k0_part119 (F := Ideal) g) v2062 v2232 v2234) fun a Y => XO i 11520 11520 19 Y ∧ CS i 0 1152 4 a := by
  unfold Refs.app; rw [k0_part119_eq_skeleton]; unfold k0_part119_skel
  with_reducible refine step_any_o0 fun _ => step_putO (t := 0) (kt := 8) (s0 := 0) (m := 16) (o := 1024) hX ?_ (by decide) (by decide) (by decide) fun X hX => ?_
  · exact cs_of hv2234
  with_reducible refine step_any_o0 fun _ => step_putO (t := 0) (kt := 8) (s0 := 4) (m := 17) (o := 1024) hX ?_ (by decide) (by decide) (by decide) fun X hX => ?_
  · exact cs_of (cr_of (ch4_of hv2232))
  with_reducible refine step_x0 hX fun v2243 hv2243 => ?_
  with_reducible refine step_any_o0 fun _ => step_putO (t := 0) (kt := 9) (s0 := 0) (m := 18) (o := 1152) hX ?_ (by decide) (by decide) (by decide) fun X hX => ?_
  · exact cs_of (cr_of (ch0_of (ct_of (cu_of (b3_of (hi_of chi_of) (b2_of (lo_of clo_of) (b1_of (b0_of hv2243) (bi_of hv2062))))))))
  with_reducible refine step_any_o0 fun v2260 => ?_
  exact step_ret ⟨hX, (cs_of (cr_of (ch4_of (ct_of (cu_of (b3_of (hi_of chi_of) (b2_of (lo_of clo_of) (b1_of (b0_of hv2243) (bi_of hv2062)))))))))⟩

theorem t120 (v2062 : FVec Ideal S1x128 .f32) (v2262 : FVec Ideal S1x16x1x1x4x128 .fp8e4m3) (hv2062 : Inv i 0 v2062) (hv2262 : CS i 0 1152 4 v2262) (X : State Ideal) (hX : XO i 11520 11520 19 X) :
    Steps defs 𝒱 (c : Thread nD τ) E (St c R i) X (R.app (k0_part120 (F := Ideal) g) v2062 v2262) fun a Y => XO i 11520 11520 22 Y ∧ CT i 0 1408 a.1 ∧ CR i 0 1408 0 a.2 := by
  unfold Refs.app; rw [k0_part120_eq_skeleton]; unfold k0_part120_skel
  with_reducible refine step_putO (t := 0) (kt := 9) (s0 := 4) (m := 19) (o := 1152) hX ?_ (by decide) (by decide) (by decide) fun X hX => ?_
  · exact hv2262
  with_reducible refine step_x0 hX fun v2263 hv2263 => ?_
  with_reducible refine step_any_o0 fun _ => step_putO (t := 0) (kt := 10) (s0 := 0) (m := 20) (o := 1280) hX ?_ (by decide) (by decide) (by decide) fun X hX => ?_
  · exact cs_of (cr_of (ch0_of (ct_of (cu_of (b3_of (hi_of chi_of) (b2_of (lo_of clo_of) (b1_of (b0_of hv2263) (bi_of hv2062))))))))
  with_reducible refine step_any_o0 fun _ => step_putO (t := 0) (kt := 10) (s0 := 4) (m := 21) (o := 1280) hX ?_ (by decide) (by decide) (by decide) fun X hX => ?_
  · exact cs_of (cr_of (ch4_of (ct_of (cu_of (b3_of (hi_of chi_of) (b2_of (lo_of clo_of) (b1_of (b0_of hv2263) (bi_of hv2062))))))))
  with_reducible refine step_x0 hX fun v2283 hv2283 => ?_
  exact step_ret ⟨hX, (ct_of (cu_of (b3_of (hi_of chi_of) (b2_of (lo_of clo_of) (b1_of (b0_of hv2283) (bi_of hv2062)))))), (cr_of (ch0_of (ct_of (cu_of (b3_of (hi_of chi_of) (b2_of (lo_of clo_of) (b1_of (b0_of hv2283) (bi_of hv2062))))))))⟩

theorem t121 (v2062 : FVec Ideal S1x128 .f32) (v2292 : FVec Ideal S128x128 .fp8e4m3) (v2294 : FVec Ideal S16x4x128 .fp8e4m3) (hv2062 : Inv i 0 v2062) (hv2292 : CT i 0 1408 v2292) (hv2294 : CR i 0 1408 0 v2294) (X : State Ideal) (hX : XO i 11520 11520 22 X) :
    Steps defs 𝒱 (c : Thread nD τ) E (St c R i) X (R.app (k0_part121 (F := Ideal) g) v2062 v2292 v2294) fun _ Y => XO i 11520 11520 26 Y := by
  unfold Refs.app; rw [k0_part121_eq_skeleton]; unfold k0_part121_skel
  with_reducible refine step_any_o0 fun _ => step_putO (t := 0) (kt := 11) (s0 := 0) (m := 22) (o := 1408) hX ?_ (by decide) (by decide) (by decide) fun X hX => ?_
  · exact cs_of hv2294
  with_reducible refine step_any_o0 fun _ => step_putO (t := 0) (kt := 11) (s0 := 4) (m := 23) (o := 1408) hX ?_ (by decide) (by decide) (by decide) fun X hX => ?_
  · exact cs_of (cr_of (ch4_of hv2292))
  with_reducible refine step_x0 hX fun v2303 hv2303 => ?_
  with_reducible refine step_any_o0 fun _ => step_putO (t := 0) (kt := 12) (s0 := 0) (m := 24) (o := 1536) hX ?_ (by decide) (by decide) (by decide) fun X hX => ?_
  · exact cs_of (cr_of (ch0_of (ct_of (cu_of (b3_of (hi_of chi_of) (b2_of (lo_of clo_of) (b1_of (b0_of hv2303) (bi_of hv2062))))))))
  with_reducible refine step_any_o0 fun _ => step_putO (t := 0) (kt := 12) (s0 := 4) (m := 25) (o := 1536) hX ?_ (by decide) (by decide) (by decide) fun X hX => ?_
  · exact cs_of (cr_of (ch4_of (ct_of (cu_of (b3_of (hi_of chi_of) (b2_of (lo_of clo_of) (b1_of (b0_of hv2303) (bi_of hv2062))))))))
  exact step_ret hX

theorem t122 (v2062 : FVec Ideal S1x128 .f32) (hv2062 : Inv i 0 v2062) (X : State Ideal) (hX : XO i 11520 11520 26 X) :
    Steps defs 𝒱 (c : Thread nD τ) E (St c R i) X (R.app (k0_part122 (F := Ideal) g) v2062) fun a Y => XO i 11520 11520 28 Y ∧ CT i 0 1792 a.1 ∧ CR i 0 1792 0 a.2 := by
  unfold Refs.app; rw [k0_part122_eq_skeleton]; unfold k0_part122_skel
  with_reducible refine step_x0 hX fun v2323 hv2323 => ?_
  with_reducible refine step_any_o0 fun _ => step_putO (t := 0) (kt := 13) (s0 := 0) (m := 26) (o := 1664) hX ?_ (by decide) (by decide) (by decide) fun X hX => ?_
  · exact cs_of (cr_of (ch0_of (ct_of (cu_of (b3_of (hi_of chi_of) (b2_of (lo_of clo_of) (b1_of (b0_of hv2323) (bi_of hv2062))))))))
  with_reducible refine step_any_o0 fun _ => step_putO (t := 0) (kt := 13) (s0 := 4) (m := 27) (o := 1664) hX ?_ (by decide) (by decide) (by decide) fun X hX => ?_
  · exact cs_of (cr_of (ch4_of (ct_of (cu_of (b3_of (hi_of chi_of) (b2_of (lo_of clo_of) (b1_of (b0_of hv2323) (bi_of hv2062))))))))
  with_reducible refine step_x0 hX fun v2343 hv2343 => ?_
  exact step_ret ⟨hX, (ct_of (cu_of (b3_of (hi_of chi_of) (b2_of (lo_of clo_of) (b1_of (b0_of hv2343) (bi_of hv2062)))))), (cr_of (ch0_of (ct_of (cu_of (b3_of (hi_of chi_of) (b2_of (lo_of clo_of) (b1_of (b0_of hv2343) (bi_of hv2062))))))))⟩

theorem t123 (v2062 : FVec Ideal S1x128 .f32) (v2352 : FVec Ideal S128x128 .fp8e4m3) (v2354 : FVec Ideal S16x4x128 .fp8e4m3) (hv2062 : Inv i 0 v2062) (hv2352 : CT i 0 1792 v2352) (hv2354 : CR i 0 1792 0 v2354) (X : State Ideal) (hX : XO i 11520 11520 28 X) :
    Steps defs 𝒱 (c : Thread nD τ) E (St c R i) X (R.app (k0_part123 (F := Ideal) g) v2062 v2352 v2354) fun a Y => XO i 11520 11520 32 Y ∧ B0 i 0 2048 a := by
  unfold Refs.app; rw [k0_part123_eq_skeleton]; unfold k0_part123_skel
  with_reducible refine step_any_o0 fun _ => step_putO (t := 0) (kt := 14) (s0 := 0) (m := 28) (o := 1792) hX ?_ (by decide) (by decide) (by decide) fun X hX => ?_
  · exact cs_of hv2354
  with_reducible refine step_any_o0 fun _ => step_putO (t := 0) (kt := 14) (s0 := 4) (m := 29) (o := 1792) hX ?_ (by decide) (by decide) (by decide) fun X hX => ?_
  · exact cs_of (cr_of (ch4_of hv2352))
  with_reducible refine step_x0 hX fun v2363 hv2363 => ?_
  with_reducible refine step_any_o0 fun _ => step_putO (t := 0) (kt := 15) (s0 := 0) (m := 30) (o := 1920) hX ?_ (by decide) (by decide) (by decide) fun X hX => ?_
  · exact cs_of (cr_of (ch0_of (ct_of (cu_of (b3_of (hi_of chi_of) (b2_of (lo_of clo_of) (b1_of (b0_of hv2363) (bi_of hv2062))))))))
  with_reducible refine step_any_o0 fun _ => step_putO (t := 0) (kt := 15) (s0 := 4) (m := 31) (o := 1920) hX ?_ (by decide) (by decide) (by decide) fun X hX => ?_
  · exact cs_of (cr_of (ch4_of (ct_of (cu_of (b3_of (hi_of chi_of) (b2_of (lo_of clo_of) (b1_of (b0_of hv2363) (bi_of hv2062))))))))
  with_reducible refine step_x0 hX fun v2383 hv2383 => ?_
  exact step_ret ⟨hX, (b0_of hv2383)⟩

theorem t124 (v2062 : FVec Ideal S1x128 .f32) (v2384 : FVec Ideal S128x128 .f32) (hv2062 : Inv i 0 v2062) (hv2384 : B0 i 0 2048 v2384) (X : State Ideal) (hX : XO i 11520 11520 32 X) :
    Steps defs 𝒱 (c : Thread nD τ) E (St c R i) X (R.app (k0_part124 (F := Ideal) g) v2062 v2384) fun a Y => XO i 11520 11520 34 Y ∧ CT i 0 2176 a.1 ∧ CS i 0 2176 0 a.2 := by
  unfold Refs.app; rw [k0_part124_eq_skeleton]; unfold k0_part124_skel
  with_reducible refine step_any_o0 fun _ => step_putO (t := 0) (kt := 16) (s0 := 0) (m := 32) (o := 2048) hX ?_ (by decide) (by decide) (by decide) fun X hX => ?_
  · exact cs_of (cr_of (ch0_of (ct_of (cu_of (b3_of (hi_of chi_of) (b2_of (lo_of clo_of) (b1_of hv2384 (bi_of hv2062))))))))
  with_reducible refine step_any_o0 fun _ => step_putO (t := 0) (kt := 16) (s0 := 4) (m := 33) (o := 2048) hX ?_ (by decide) (by decide) (by decide) fun X hX => ?_
  · exact cs_of (cr_of (ch4_of (ct_of (cu_of (b3_of (hi_of chi_of) (b2_of (lo_of clo_of) (b1_of hv2384 (bi_of hv2062))))))))
  with_reducible refine step_x0 hX fun v2403 hv2403 => ?_
  with_reducible refine step_any_o0 fun v2415 => ?_
  exact step_ret ⟨hX, (ct_of (cu_of (b3_of (hi_of chi_of) (b2_of (lo_of clo_of) (b1_of (b0_of hv2403) (bi_of hv2062)))))), (cs_of (cr_of (ch0_of (ct_of (cu_of (b3_of (hi_of chi_of) (b2_of (lo_of clo_of) (b1_of (b0_of hv2403) (bi_of hv2062)))))))))⟩

theorem t125 (v2062 : FVec Ideal S1x128 .f32) (v2412 : FVec Ideal S128x128 .fp8e4m3) (v2417 : FVec Ideal S1x16x1x1x4x128 .fp8e4m3) (hv2062 : Inv i 0 v2062) (hv2412 : CT i 0 2176 v2412) (hv2417 : CS i 0 2176 0 v2417) (X : State Ideal) (hX : XO i 11520 11520 34 X) :
    Steps defs 𝒱 (c : Thread nD τ) E (St c R i) X (R.app (k0_part125 (F := Ideal) g) v2062 v2412 v2417) fun a Y => XO i 11520 11520 38 Y ∧ B1 i 0 2432 a.1 ∧ CLo a.2 := by
  unfold Refs.app; rw [k0_part125_eq_skeleton]; unfold k0_part125_skel
  with_reducible refine step_putO (t := 0) (kt := 17) (s0 := 0) (m := 34) (o := 2176) hX ?_ (by decide) (by decide) (by decide) fun X hX => ?_
  · exact hv2417
  with_reducible refine step_any_o0 fun _ => step_putO (t := 0) (kt := 17) (s0 := 4) (m := 35) (o := 2176) hX ?_ (by decide) (by decide) (by decide) fun X hX => ?_
  · exact cs_of (cr_of (ch4_of hv2412))
  with_reducible refine step_x0 hX fun v2423 hv2423 => ?_
  with_reducible refine step_any_o0 fun _ => step_putO (t := 0) (kt := 18) (s0 := 0) (m := 36) (o := 2304) hX ?_ (by decide) (by decide) (by decide) fun X hX => ?_
  · exact cs_of (cr_of (ch0_of (ct_of (cu_of (b3_of (hi_of chi_of) (b2_of (lo_of clo_of) (b1_of (b0_of hv2423) (bi_of hv2062))))))))
  with_reducible refine step_any_o0 fun _ => step_putO (t := 0) (kt := 18) (s0 := 4) (m := 37) (o := 2304) hX ?_ (by decide) (by decide) (by decide) fun X hX => ?_
  · exact cs_of (cr_of (ch4_of (ct_of (cu_of (b3_of (hi_of chi_of) (b2_of (lo_of clo_of) (b1_of (b0_of hv2423) (bi_of hv2062))))))))
  with_reducible refine step_x0 hX fun v2443 hv2443 => ?_
  exact step_ret ⟨hX, (b1_of (b0_of hv2443) (bi_of hv2062)), clo_of⟩

theorem t126 (v2062 : FVec Ideal S1x128 .f32) (v2446 : FVec Ideal S128x128 .f32) (cst_1936 : Ideal .f32) (hv2062 : Inv i 0 v2062) (hv2446 : B1 i 0 2432 v2446) (hcst_1936 : CLo cst_1936) (X : State Ideal) (hX : XO i 11520 11520 38 X) :
    Steps defs 𝒱 (c : Thread nD τ) E (St c R i) X (R.app (k0_part126 (F := Ideal) g) v2062 v2446 cst_1936) fun a Y => XO i 11520 11520 41 Y ∧ CR i 0 2560 4 a := by
  unfold Refs.app; rw [k0_part126_eq_skeleton]; unfold k0_part126_skel
  with_reducible refine step_any_o0 fun _ => step_putO (t := 0) (kt := 19) (s0 := 0) (m := 38) (o := 2432) hX ?_ (by decide) (by decide) (by decide) fun X hX => ?_
  · exact cs_of (cr_of (ch0_of (ct_of (cu_of (b3_of (hi_of chi_of) (b2_of (lo_of hcst_1936) hv2446))))))
  with_reducible refine step_any_o0 fun _ => step_putO (t := 0) (kt := 19) (s0 := 4) (m := 39) (o := 2432) hX ?_ (by decide) (by decide) (by decide) fun X hX => ?_
  · exact cs_of (cr_of (ch4_of (ct_of (cu_of (b3_of (hi_of chi_of) (b2_of (lo_of hcst_1936) hv2446))))))
  with_reducible refine step_x0 hX fun v2463 hv2463 => ?_
  with_reducible refine step_any_o0 fun _ => step_putO (t := 0) (kt := 20) (s0 := 0) (m := 40) (o := 2560) hX ?_ (by decide) (by decide) (by decide) fun X hX => ?_
  · exact cs_of (cr_of (ch0_of (ct_of (cu_of (b3_of (hi_of chi_of) (b2_of (lo_of clo_of) (b1_of (b0_of hv2463) (bi_of hv2062))))))))
  exact step_ret ⟨hX, (cr_of (ch4_of (ct_of (cu_of (b3_of (hi_of chi_of) (b2_of (lo_of clo_of) (b1_of (b0_of hv2463) (bi_of hv2062))))))))⟩

theorem t127 (v2062 : FVec Ideal S1x128 .f32) (v2479 : FVec Ideal S16x4x128 .fp8e4m3) (hv2062 : Inv i 0 v2062) (hv2479 : CR i 0 2560 4 v2479) (X : State Ideal) (hX : XO i 11520 11520 41 X) :
    Steps defs 𝒱 (c : Thread nD τ) E (St c R i) X (R.app (k0_part127 (F := Ideal) g) v2062 v2479) fun a Y => XO i 11520 11520 44 Y ∧ CHi a.1 ∧ B2 i 0 2816 a.2 := by
  unfold Refs.app; rw [k0_part127_eq_skeleton]; unfold k0_part127_skel
  with_reducible refine step_any_o0 fun _ => step_putO (t := 0) (kt := 20) (s0 := 4) (m := 41) (o := 2560) hX ?_ (by decide) (by decide) (by decide) fun X hX => ?_
  · exact cs_of hv2479
  with_reducible refine step_x0 hX fun v2483 hv2483 => ?_
  with_reducible refine step_any_o0 fun _ => step_putO (t := 0) (kt := 21) (s0 := 0) (m := 42) (o := 2688) hX ?_ (by decide) (by decide) (by decide) fun X hX => ?_
  · exact cs_of (cr_of (ch0_of (ct_of (cu_of (b3_of (hi_of chi_of) (b2_of (lo_of clo_of) (b1_of (b0_of hv2483) (bi_of hv2062))))))))
  with_reducible refine step_any_o0 fun _ => step_putO (t := 0) (kt := 21) (s0 := 4) (m := 43) (o := 2688) hX ?_ (by decide) (by decide) (by decide) fun X hX => ?_
  · exact cs_of (cr_of (ch4_of (ct_of (cu_of (b3_of (hi_of chi_of) (b2_of (lo_of clo_of) (b1_of (b0_of hv2483) (bi_of hv2062))))))))
  with_reducible refine step_x0 hX fun v2503 hv2503 => ?_
  exact step_ret ⟨hX, chi_of, (b2_of (lo_of clo_of) (b1_of (b0_of hv2503) (bi_of hv2062)))⟩

theorem t128 (v2062 : FVec Ideal S1x128 .f32) (cst_1982 : Ideal .f32) (v2508 : FVec Ideal S128x128 .f32) (hv2062 : Inv i 0 v2062) (hcst_1982 : CHi cst_1982) (hv2508 : B2 i 0 2816 v2508) (X : State Ideal) (hX : XO i 11520 11520 44 X) :
    Steps defs 𝒱 (c : Thread nD τ) E (St c R i) X (R.app (k0_part128 (F := Ideal) g) v2062 cst_1982 v2508) fun a Y => XO i 11520 11520 47 Y ∧ CR i 0 2944 4 a := by
  unfold Refs.app; rw [k0_part128_eq_skeleton]; unfold k0_part128_skel
  with_reducible refine step_any_o0 fun _ => step_putO (t := 0) (kt := 22) (s0 := 0) (m := 44) (o := 2816) hX ?_ (by decide) (by decide) (by decide) fun X hX => ?_
  · exact cs_of (cr_of (ch0_of (ct_of (cu_of (b3_of (hi_of hcst_1982) hv2508)))))
  with_reducible refine step_any_o0 fun _ => step_putO (t := 0) (kt := 22) (s0 := 4) (m := 45) (o := 2816) hX ?_ (by decide) (by decide) (by decide) fun X hX => ?_
  · exact cs_of (cr_of (ch4_of (ct_of (cu_of (b3_of (hi_of hcst_1982) hv2508)))))
  with_reducible refine step_x0 hX fun v2523 hv2523 => ?_
  with_reducible refine step_any_o0 fun _ => step_putO (t := 0) (kt := 23) (s0 := 0) (m := 46) (o := 2944) hX ?_ (by decide) (by decide) (by decide) fun X hX => ?_
  · exact cs_of (cr_of (ch0_of (ct_of (cu_of (b3_of (hi_of chi_of) (b2_of (lo_of clo_of) (b1_of (b0_of hv2523) (bi_of hv2062))))))))
  exact step_ret ⟨hX, (cr_of (ch4_of (ct_of (cu_of (b3_of (hi_of chi_of) (b2_of (lo_of clo_of) (b1_of (b0_of hv2523) (bi_of hv2062))))))))⟩

theorem t129 (v2062 : FVec Ideal S1x128 .f32) (v2539 : FVec Ideal S16x4x128 .fp8e4m3) (hv2062 : Inv i 0 v2062) (hv2539 : CR i 0 2944 4 v2539) (X : State Ideal) (hX : XO i 11520 11520 47 X) :
    Steps defs 𝒱 (c : Thread nD τ) E (St c R i) X (R.app (k0_part129 (F := Ideal) g) v2062 v2539) fun a Y => XO i 11520 11520 50 Y ∧ CU i 0 3200 a := by
  unfold Refs.app; rw [k0_part129_eq_skeleton]; unfold k0_part129_skel
  with_reducible refine step_any_o0 fun _ => step_putO (t := 0) (kt := 23) (s0 := 4) (m := 47) (o := 2944) hX ?_ (by decide) (by decide) (by decide) fun X hX => ?_
  · exact cs_of hv2539
  with_reducible refine step_x0 hX fun v2543 hv2543 => ?_
  with_reducible refine step_any_o0 fun _ => step_putO (t := 0) (kt := 24) (s0 := 0) (m := 48) (o := 3072) hX ?_ (by decide) (by decide) (by decide) fun X hX => ?_
  · exact cs_of (cr_of (ch0_of (ct_of (cu_of (b3_of (hi_of chi_of) (b2_of (lo_of clo_of) (b1_of (b0_of hv2543) (bi_of hv2062))))))))
  with_reducible refine step_any_o0 fun _ => step_putO (t := 0) (kt := 24) (s0 := 4) (m := 49) (o := 3072) hX ?_ (by decide) (by decide) (by decide) fun X hX => ?_
  · exact cs_of (cr_of (ch4_of (ct_of (cu_of (b3_of (hi_of chi_of) (b2_of (lo_of clo_of) (b1_of (b0_of hv2543) (bi_of hv2062))))))))
  with_reducible refine step_x0 hX fun v2563 hv2563 => ?_
  exact step_ret ⟨hX, (cu_of (b3_of (hi_of chi_of) (b2_of (lo_of clo_of) (b1_of (b0_of hv2563) (bi_of hv2062)))))⟩

theorem t130 (v2062 : FVec Ideal S1x128 .f32) (v2571 : FVec Ideal S128x128 .fp8e4m3) (hv2062 : Inv i 0 v2062) (hv2571 : CU i 0 3200 v2571) (X : State Ideal) (hX : XO i 11520 11520 50 X) :
    Steps defs 𝒱 (c : Thread nD τ) E (St c R i) X (R.app (k0_part130 (F := Ideal) g) v2062 v2571) fun a Y => XO i 11520 11520 53 Y ∧ CR i 0 3328 4 a := by
  unfold Refs.app; rw [k0_part130_eq_skeleton]; unfold k0_part130_skel
  with_reducible refine step_any_o0 fun _ => step_putO (t := 0) (kt := 25) (s0 := 0) (m := 50) (o := 3200) hX ?_ (by decide) (by decide) (by decide) fun X hX => ?_
  · exact cs_of (cr_of (ch0_of (ct_of hv2571)))
  with_reducible refine step_any_o0 fun _ => step_putO (t := 0) (kt := 25) (s0 := 4) (m := 51) (o := 3200) hX ?_ (by decide) (by decide) (by decide) fun X hX => ?_
  · exact cs_of (cr_of (ch4_of (ct_of hv2571)))
  with_reducible refine step_x0 hX fun v2583 hv2583 => ?_
  with_reducible refine step_any_o0 fun _ => step_putO (t := 0) (kt := 26) (s0 := 0) (m := 52) (o := 3328) hX ?_ (by decide) (by decide) (by decide) fun X hX => ?_
  · exact cs_of (cr_of (ch0_of (ct_of (cu_of (b3_of (hi_of chi_of) (b2_of (lo_of clo_of) (b1_of (b0_of hv2583) (bi_of hv2062))))))))
  exact step_ret ⟨hX, (cr_of (ch4_of (ct_of (cu_of (b3_of (hi_of chi_of) (b2_of (lo_of clo_of) (b1_of (b0_of hv2583) (bi_of hv2062))))))))⟩

theorem t131 (v2062 : FVec Ideal S1x128 .f32) (v2599 : FVec Ideal S16x4x128 .fp8e4m3) (hv2062 : Inv i 0 v2062) (hv2599 : CR i 0 3328 4 v2599) (X : State Ideal) (hX : XO i 11520 11520 53 X) :
    Steps defs 𝒱 (c : Thread nD τ) E (St c R i) X (R.app (k0_part131 (F := Ideal) g) v2062 v2599) fun a Y => XO i 11520 11520 56 Y ∧ CT i 0 3584 a.1 ∧ CR i 0 3584 0 a.2 := by
  unfold Refs.app; rw [k0_part131_eq_skeleton]; unfold k0_part131_skel
  with_reducible refine step_any_o0 fun _ => step_putO (t := 0) (kt := 26) (s0 := 4) (m := 53) (o := 3328) hX ?_ (by decide) (by decide) (by decide) fun X hX => ?_
  · exact cs_of hv2599
  with_reducible refine step_x0 hX fun v2603 hv2603 => ?_
  with_reducible refine step_any_o0 fun _ => step_putO (t := 0) (kt := 27) (s0 := 0) (m := 54) (o := 3456) hX ?_ (by decide) (by decide) (by decide) fun X hX => ?_
  · exact cs_of (cr_of (ch0_of (ct_of (cu_of (b3_of (hi_of chi_of) (b2_of (lo_of clo_of) (b1_of (b0_of hv2603) (bi_of hv2062))))))))
  with_reducible refine step_any_o0 fun _ => step_putO (t := 0) (kt := 27) (s0 := 4) (m := 55) (o := 3456) hX ?_ (by decide) (by decide) (by decide) fun X hX => ?_
  · exact cs_of (cr_of (ch4_of (ct_of (cu_of (b3_of (hi_of chi_of) (b2_of (lo_of clo_of) (b1_of (b0_of hv2603) (bi_of hv2062))))))))
  with_reducible refine step_x0 hX fun v2623 hv2623 => ?_
  exact step_ret ⟨hX, (ct_of (cu_of (b3_of (hi_of chi_of) (b2_of (lo_of clo_of) (b1_of (b0_of hv2623) (bi_of hv2062)))))), (cr_of (ch0_of (ct_of (cu_of (b3_of (hi_of chi_of) (b2_of (lo_of clo_of) (b1_of (b0_of hv2623) (bi_of hv2062))))))))⟩

theorem t132 (v2062 : FVec Ideal S1x128 .f32) (v2632 : FVec Ideal S128x128 .fp8e4m3) (v2634 : FVec Ideal S16x4x128 .fp8e4m3) (hv2062 : Inv i 0 v2062) (hv2632 : CT i 0 3584 v2632) (hv2634 : CR i 0 3584 0 v2634) (X : State Ideal) (hX : XO i 11520 11520 56 X) :
    Steps defs 𝒱 (c : Thread nD τ) E (St c R i) X (R.app (k0_part132 (F := Ideal) g) v2062 v2632 v2634) fun a Y => XO i 11520 11520 59 Y ∧ CS i 0 3712 4 a := by
  unfold Refs.app; rw [k0_part132_eq_skeleton]; unfold k0_part132_skel
  with_reducible refine step_any_o0 fun _ => step_putO (t := 0) (kt := 28) (s0 := 0) (m := 56) (o := 3584) hX ?_ (by decide) (by decide) (by decide) fun X hX => ?_
  · exact cs_of hv2634
  with_reducible refine step_any_o0 fun _ => step_putO (t := 0) (kt := 28) (s0 := 4) (m := 57) (o := 3584) hX ?_ (by decide) (by decide) (by decide) fun X hX => ?_
  · exact cs_of (cr_of (ch4_of hv2632))
  with_reducible refine step_x0 hX fun v2643 hv2643 => ?_
  with_reducible refine step_any_o0 fun _ => step_putO (t := 0) (kt := 29) (s0 := 0) (m := 58) (o := 3712) hX ?_ (by decide) (by decide) (by decide) fun X hX => ?_
  · exact cs_of (cr_of (ch0_of (ct_of (cu_of (b3_of (hi_of chi_of) (b2_of (lo_of clo_of) (b1_of (b0_of hv2643) (bi_of hv2062))))))))
  with_reducible refine step_any_o0 fun v2660 => ?_
  exact step_ret ⟨hX, (cs_of (cr_of (ch4_of (ct_of (cu_of (b3_of (hi_of chi_of) (b2_of (lo_of clo_of) (b1_of (b0_of hv2643) (bi_of hv2062)))))))))⟩

theorem t133 (v2062 : FVec Ideal S1x128 .f32) (v2662 : FVec Ideal S1x16x1x1x4x128 .fp8e4m3) (hv2062 : Inv i 0 v2062) (hv2662 : CS i 0 3712 4 v2662) (X : State Ideal) (hX : XO i 11520 11520 59 X) :
    Steps defs 𝒱 (c : Thread nD τ) E (St c R i) X (R.app (k0_part133 (F := Ideal) g) v2062 v2662) fun a Y => XO i 11520 11520 62 Y ∧ CT i 0 3968 a.1 ∧ CR i 0 3968 0 a.2 := by
  unfold Refs.app; rw [k0_part133_eq_skeleton]; unfold k0_part133_skel
  with_reducible refine step_putO (t := 0) (kt := 29) (s0 := 4) (m := 59) (o := 3712) hX ?_ (by decide) (by decide) (by decide) fun X hX => ?_
  · exact hv2662
  with_reducible refine step_x0 hX fun v2663 hv2663 => ?_
  with_reducible refine step_any_o0 fun _ => step_putO (t := 0) (kt := 30) (s0 := 0) (m := 60) (o := 3840) hX ?_ (by decide) (by decide) (by decide) fun X hX => ?_
  · exact cs_of (cr_of (ch0_of (ct_of (cu_of (b3_of (hi_of chi_of) (b2_of (lo_of clo_of) (b1_of (b0_of hv2663) (bi_of hv2062))))))))
  with_reducible refine step_any_o0 fun _ => step_putO (t := 0) (kt := 30) (s0 := 4) (m := 61) (o := 3840) hX ?_ (by decide) (by decide) (by decide) fun X hX => ?_
  · exact cs_of (cr_of (ch4_of (ct_of (cu_of (b3_of (hi_of chi_of) (b2_of (lo_of clo_of) (b1_of (b0_of hv2663) (bi_of hv2062))))))))
  with_reducible refine step_x0 hX fun v2683 hv2683 => ?_
  exact step_ret ⟨hX, (ct_of (cu_of (b3_of (hi_of chi_of) (b2_of (lo_of clo_of) (b1_of (b0_of hv2683) (bi_of hv2062)))))), (cr_of (ch0_of (ct_of (cu_of (b3_of (hi_of chi_of) (b2_of (lo_of clo_of) (b1_of (b0_of hv2683) (bi_of hv2062))))))))⟩

theorem t134 (v2062 : FVec Ideal S1x128 .f32) (v2692 : FVec Ideal S128x128 .fp8e4m3) (v2694 : FVec Ideal S16x4x128 .fp8e4m3) (hv2062 : Inv i 0 v2062) (hv2692 : CT i 0 3968 v2692) (hv2694 : CR i 0 3968 0 v2694) (X : State Ideal) (hX : XO i 11520 11520 62 X) :
    Steps defs 𝒱 (c : Thread nD τ) E (St c R i) X (R.app (k0_part134 (F := Ideal) g) v2062 v2692 v2694) fun _ Y => XO i 11520 11520 66 Y := by
  unfold Refs.app; rw [k0_part134_eq_skeleton]; unfold k0_part134_skel
  with_reducible refine step_any_o0 fun _ => step_putO (t := 0) (kt := 31) (s0 := 0) (m := 62) (o := 3968) hX ?_ (by decide) (by decide) (by decide) fun X hX => ?_
  · exact cs_of hv2694
  with_reducible refine step_any_o0 fun _ => step_putO (t := 0) (kt := 31) (s0 := 4) (m := 63) (o := 3968) hX ?_ (by decide) (by decide) (by decide) fun X hX => ?_
  · exact cs_of (cr_of (ch4_of hv2692))
  with_reducible refine step_x0 hX fun v2703 hv2703 => ?_
  with_reducible refine step_any_o0 fun _ => step_putO (t := 0) (kt := 32) (s0 := 0) (m := 64) (o := 4096) hX ?_ (by decide) (by decide) (by decide) fun X hX => ?_
  · exact cs_of (cr_of (ch0_of (ct_of (cu_of (b3_of (hi_of chi_of) (b2_of (lo_of clo_of) (b1_of (b0_of hv2703) (bi_of hv2062))))))))
  with_reducible refine step_any_o0 fun _ => step_putO (t := 0) (kt := 32) (s0 := 4) (m := 65) (o := 4096) hX ?_ (by decide) (by decide) (by decide) fun X hX => ?_
  · exact cs_of (cr_of (ch4_of (ct_of (cu_of (b3_of (hi_of chi_of) (b2_of (lo_of clo_of) (b1_of (b0_of hv2703) (bi_of hv2062))))))))
  exact step_ret hX

theorem t135 (v2062 : FVec Ideal S1x128 .f32) (hv2062 : Inv i 0 v2062) (X : State Ideal) (hX : XO i 11520 11520 66 X) :
    Steps defs 𝒱 (c : Thread nD τ) E (St c R i) X (R.app (k0_part135 (F := Ideal) g) v2062) fun a Y => XO i 11520 11520 68 Y ∧ CT i 0 4352 a.1 ∧ CR i 0 4352 0 a.2 := by
  unfold Refs.app; rw [k0_part135_eq_skeleton]; unfold k0_part135_skel
  with_reducible refine step_x0 hX fun v2723 hv2723 => ?_
  with_reducible refine step_any_o0 fun _ => step_putO (t := 0) (kt := 33) (s0 := 0) (m := 66) (o := 4224) hX ?_ (by decide) (by decide) (by decide) fun X hX => ?_
  · exact cs_of (cr_of (ch0_of (ct_of (cu_of (b3_of (hi_of chi_of) (b2_of (lo_of clo_of) (b1_of (b0_of hv2723) (bi_of hv2062))))))))
  with_reducible refine step_any_o0 fun _ => step_putO (t := 0) (kt := 33) (s0 := 4) (m := 67) (o := 4224) hX ?_ (by decide) (by decide) (by decide) fun X hX => ?_
  · exact cs_of (cr_of (ch4_of (ct_of (cu_of (b3_of (hi_of chi_of) (b2_of (lo_of clo_of) (b1_of (b0_of hv2723) (bi_of hv2062))))))))
  with_reducible refine step_x0 hX fun v2743 hv2743 => ?_
  exact step_ret ⟨hX, (ct_of (cu_of (b3_of (hi_of chi_of) (b2_of (lo_of clo_of) (b1_of (b0_of hv2743) (bi_of hv2062)))))), (cr_of (ch0_of (ct_of (cu_of (b3_of (hi_of chi_of) (b2_of (lo_of clo_of) (b1_of (b0_of hv2743) (bi_of hv2062))))))))⟩

theorem t136 (v2062 : FVec Ideal S1x128 .f32) (v2752 : FVec Ideal S128x128 .fp8e4m3) (v2754 : FVec Ideal S16x4x128 .fp8e4m3) (hv2062 : Inv i 0 v2062) (hv2752 : CT i 0 4352 v2752) (hv2754 : CR i 0 4352 0 v2754) (X : State Ideal) (hX : XO i 11520 11520 68 X) :
    Steps defs 𝒱 (c : Thread nD τ) E (St c R i) X (R.app (k0_part136 (F := Ideal) g) v2062 v2752 v2754) fun a Y => XO i 11520 11520 72 Y ∧ B0 i 0 4608 a := by
  unfold Refs.app; rw [k0_part136_eq_skeleton]; unfold k0_part136_skel
  with_reducible refine step_any_o0 fun _ => step_putO (t := 0) (kt := 34) (s0 := 0) (m := 68) (o := 4352) hX ?_ (by decide) (by decide) (by decide) fun X hX => ?_
  · exact cs_of hv2754
  with_reducible refine step_any_o0 fun _ => step_putO (t := 0) (kt := 34) (s0 := 4) (m := 69) (o := 4352) hX ?_ (by decide) (by decide) (by decide) fun X hX => ?_
  · exact cs_of (cr_of (ch4_of hv2752))
  with_reducible refine step_x0 hX fun v2763 hv2763 => ?_
  with_reducible refine step_any_o0 fun _ => step_putO (t := 0) (kt := 35) (s0 := 0) (m := 70) (o := 4480) hX ?_ (by decide) (by decide) (by decide) fun X hX => ?_
  · exact cs_of (cr_of (ch0_of (ct_of (cu_of (b3_of (hi_of chi_of) (b2_of (lo_of clo_of) (b1_of (b0_of hv2763) (bi_of hv2062))))))))
  with_reducible refine step_any_o0 fun _ => step_putO (t := 0) (kt := 35) (s0 := 4) (m := 71) (o := 4480) hX ?_ (by decide) (by decide) (by decide) fun X hX => ?_
  · exact cs_of (cr_of (ch4_of (ct_of (cu_of (b3_of (hi_of chi_of) (b2_of (lo_of clo_of) (b1_of (b0_of hv2763) (bi_of hv2062))))))))
  with_reducible refine step_x0 hX fun v2783 hv2783 => ?_
  exact step_ret ⟨hX, (b0_of hv2783)⟩

theorem t137 (v2062 : FVec Ideal S1x128 .f32) (v2784 : FVec Ideal S128x128 .f32) (hv2062 : Inv i 0 v2062) (hv2784 : B0 i 0 4608 v2784) (X : State Ideal) (hX : XO i 11520 11520 72 X) :
    Steps defs 𝒱 (c : Thread nD τ) E (St c R i) X (R.app (k0_part137 (F := Ideal) g) v2062 v2784) fun a Y => XO i 11520 11520 74 Y ∧ CT i 0 4736 a.1 ∧ CS i 0 4736 0 a.2 := by
  unfold Refs.app; rw [k0_part137_eq_skeleton]; unfold k0_part137_skel
  with_reducible refine step_any_o0 fun _ => step_putO (t := 0) (kt := 36) (s0 := 0) (m := 72) (o := 4608) hX ?_ (by decide) (by decide) (by decide) fun X hX => ?_
  · exact cs_of (cr_of (ch0_of (ct_of (cu_of (b3_of (hi_of chi_of) (b2_of (lo_of clo_of) (b1_of hv2784 (bi_of hv2062))))))))
  with_reducible refine step_any_o0 fun _ => step_putO (t := 0) (kt := 36) (s0 := 4) (m := 73) (o := 4608) hX ?_ (by decide) (by decide) (by decide) fun X hX => ?_
  · exact cs_of (cr_of (ch4_of (ct_of (cu_of (b3_of (hi_of chi_of) (b2_of (lo_of clo_of) (b1_of hv2784 (bi_of hv2062))))))))
  with_reducible refine step_x0 hX fun v2803 hv2803 => ?_
  with_reducible refine step_any_o0 fun v2815 => ?_
  exact step_ret ⟨hX, (ct_of (cu_of (b3_of (hi_of chi_of) (b2_of (lo_of clo_of) (b1_of (b0_of hv2803) (bi_of hv2062)))))), (cs_of (cr_of (ch0_of (ct_of (cu_of (b3_of (hi_of chi_of) (b2_of (lo_of clo_of) (b1_of (b0_of hv2803) (bi_of hv2062)))))))))⟩

theorem t138 (v2062 : FVec Ideal S1x128 .f32) (v2812 : FVec Ideal S128x128 .fp8e4m3) (v2817 : FVec Ideal S1x16x1x1x4x128 .fp8e4m3) (hv2062 : Inv i 0 v2062) (hv2812 : CT i 0 4736 v2812) (hv2817 : CS i 0 4736 0 v2817) (X : State Ideal) (hX : XO i 11520 11520 74 X) :
    Steps defs 𝒱 (c : Thread nD τ) E (St c R i) X (R.app (k0_part138 (F := Ideal) g) v2062 v2812 v2817) fun a Y => XO i 11520 11520 78 Y ∧ B1 i 0 4992 a.1 ∧ CLo a.2 := by
  unfold Refs.app; rw [k0_part138_eq_skeleton]; unfold k0_part138_skel
  with_reducible refine step_putO (t := 0) (kt := 37) (s0 := 0) (m := 74) (o := 4736) hX ?_ (by decide) (by decide) (by decide) fun X hX => ?_
  · exact hv2817
  with_reducible refine step_any_o0 fun _ => step_putO (t := 0) (kt := 37) (s0 := 4) (m := 75) (o := 4736) hX ?_ (by decide) (by decide) (by decide) fun X hX => ?_
  · exact cs_of (cr_of (ch4_of hv2812))
  with_reducible refine step_x0 hX fun v2823 hv2823 => ?_
  with_reducible refine step_any_o0 fun _ => step_putO (t := 0) (kt := 38) (s0 := 0) (m := 76) (o := 4864) hX ?_ (by decide) (by decide) (by decide) fun X hX => ?_
  · exact cs_of (cr_of (ch0_of (ct_of (cu_of (b3_of (hi_of chi_of) (b2_of (lo_of clo_of) (b1_of (b0_of hv2823) (bi_of hv2062))))))))
  with_reducible refine step_any_o0 fun _ => step_putO (t := 0) (kt := 38) (s0 := 4) (m := 77) (o := 4864) hX ?_ (by decide) (by decide) (by decide) fun X hX => ?_
  · exact cs_of (cr_of (ch4_of (ct_of (cu_of (b3_of (hi_of chi_of) (b2_of (lo_of clo_of) (b1_of (b0_of hv2823) (bi_of hv2062))))))))
  with_reducible refine step_x0 hX fun v2843 hv2843 => ?_
  exact step_ret ⟨hX, (b1_of (b0_of hv2843) (bi_of hv2062)), clo_of⟩

theorem t139 (v2062 : FVec Ideal S1x128 .f32) (v2846 : FVec Ideal S128x128 .f32) (cst_2238 : Ideal .f32) (hv2062 : Inv i 0 v2062) (hv2846 : B1 i 0 4992 v2846) (hcst_2238 : CLo cst_2238) (X : State Ideal) (hX : XO i 11520 11520 78 X) :
    Steps defs 𝒱 (c : Thread nD τ) E (St c R i) X (R.app (k0_part139 (F := Ideal) g) v2062 v2846 cst_2238) fun a Y => XO i 11520 11520 81 Y ∧ CR i 0 5120 4 a := by
  unfold Refs.app; rw [k0_part139_eq_skeleton]; unfold k0_part139_skel
  with_reducible refine step_any_o0 fun _ => step_putO (t := 0) (kt := 39) (s0 := 0) (m := 78) (o := 4992) hX ?_ (by decide) (by decide) (by decide) fun X hX => ?_
  · exact cs_of (cr_of (ch0_of (ct_of (cu_of (b3_of (hi_of chi_of) (b2_of (lo_of hcst_2238) hv2846))))))
  with_reducible refine step_any_o0 fun _ => step_putO (t := 0) (kt := 39) (s0 := 4) (m := 79) (o := 4992) hX ?_ (by decide) (by decide) (by decide) fun X hX => ?_
  · exact cs_of (cr_of (ch4_of (ct_of (cu_of (b3_of (hi_of chi_of) (b2_of (lo_of hcst_2238) hv2846))))))
  with_reducible refine step_x0 hX fun v2863 hv2863 => ?_
  with_reducible refine step_any_o0 fun _ => step_putO (t := 0) (kt := 40) (s0 := 0) (m := 80) (o := 5120) hX ?_ (by decide) (by decide) (by decide) fun X hX => ?_
  · exact cs_of (cr_of (ch0_of (ct_of (cu_of (b3_of (hi_of chi_of) (b2_of (lo_of clo_of) (b1_of (b0_of hv2863) (bi_of hv2062))))))))
  exact step_ret ⟨hX, (cr_of (ch4_of (ct_of (cu_of (b3_of (hi_of chi_of) (b2_of (lo_of clo_of) (b1_of (b0_of hv2863) (bi_of hv2062))))))))⟩

theorem t140 (v2062 : FVec Ideal S1x128 .f32) (v2879 : FVec Ideal S16x4x128 .fp8e4m3) (hv2062 : Inv i 0 v2062) (hv2879 : CR i 0 5120 4 v2879) (X : State Ideal) (hX : XO i 11520 11520 81 X) :
    Steps defs 𝒱 (c : Thread nD τ) E (St c R i) X (R.app (k0_part140 (F := Ideal) g) v2062 v2879) fun a Y => XO i 11520 11520 84 Y ∧ CHi a.1 ∧ B2 i 0 5376 a.2 := by
  unfold Refs.app; rw [k0_part140_eq_skeleton]; unfold k0_part140_skel
  with_reducible refine step_any_o0 fun _ => step_putO (t := 0) (kt := 40) (s0 := 4) (m := 81) (o := 5120) hX ?_ (by decide) (by decide) (by decide) fun X hX => ?_
  · exact cs_of hv2879
  with_reducible refine step_x0 hX fun v2883 hv2883 => ?_
  with_reducible refine step_any_o0 fun _ => step_putO (t := 0) (kt := 41) (s0 := 0) (m := 82) (o := 5248) hX ?_ (by decide) (by decide) (by decide) fun X hX => ?_
  · exact cs_of (cr_of (ch0_of (ct_of (cu_of (b3_of (hi_of chi_of) (b2_of (lo_of clo_of) (b1_of (b0_of hv2883) (bi_of hv2062))))))))
  with_reducible refine step_any_o0 fun _ => step_putO (t := 0) (kt := 41) (s0 := 4) (m := 83) (o := 5248) hX ?_ (by decide) (by decide) (by decide) fun X hX => ?_
  · exact cs_of (cr_of (ch4_of (ct_of (cu_of (b3_of (hi_of chi_of) (b2_of (lo_of clo_of) (b1_of (b0_of hv2883) (bi_of hv2062))))))))
  with_reducible refine step_x0 hX fun v2903 hv2903 => ?_
  exact step_ret ⟨hX, chi_of, (b2_of (lo_of clo_of) (b1_of (b0_of hv2903) (bi_of hv2062)))⟩

theorem t141 (v2062 : FVec Ideal S1x128 .f32) (cst_2284 : Ideal .f32) (v2908 : FVec Ideal S128x128 .f32) (hv2062 : Inv i 0 v2062) (hcst_2284 : CHi cst_2284) (hv2908 : B2 i 0 5376 v2908) (X : State Ideal) (hX : XO i 11520 11520 84 X) :
    Steps defs 𝒱 (c : Thread nD τ) E (St c R i) X (R.app (k0_part141 (F := Ideal) g) v2062 cst_2284 v2908) fun a Y => XO i 11520 11520 87 Y ∧ CR i 0 5504 4 a := by
  unfold Refs.app; rw [k0_part141_eq_skeleton]; unfold k0_part141_skel
  with_reducible refine step_any_o0 fun _ => step_putO (t := 0) (kt := 42) (s0 := 0) (m := 84) (o := 5376) hX ?_ (by decide) (by decide) (by decide) fun X hX => ?_
  · exact cs_of (cr_of (ch0_of (ct_of (cu_of (b3_of (hi_of hcst_2284) hv2908)))))
  with_reducible refine step_any_o0 fun _ => step_putO (t := 0) (kt := 42) (s0 := 4) (m := 85) (o := 5376) hX ?_ (by decide) (by decide) (by decide) fun X hX => ?_
  · exact cs_of (cr_of (ch4_of (ct_of (cu_of (b3_of (hi_of hcst_2284) hv2908)))))
  with_reducible refine step_x0 hX fun v2923 hv2923 => ?_
  with_reducible refine step_any_o0 fun _ => step_putO (t := 0) (kt := 43) (s0 := 0) (m := 86) (o := 5504) hX ?_ (by decide) (by decide) (by decide) fun X hX => ?_
  · exact cs_of (cr_of (ch0_of (ct_of (cu_of (b3_of (hi_of chi_of) (b2_of (lo_of clo_of) (b1_of (b0_of hv2923) (bi_of hv2062))))))))
  exact step_ret ⟨hX, (cr_of (ch4_of (ct_of (cu_of (b3_of (hi_of chi_of) (b2_of (lo_of clo_of) (b1_of (b0_of hv2923) (bi_of hv2062))))))))⟩

end Cert.KernelIdeal.Own

end
-- ==== Proof.Parts4.lean ====
/-
  Parts 142 to 194 of the body, followed: what each leaves in the scaled products, in the first result and in its values.
-/
module

public import proofs.«01_k».proof.Proof.Gen.KernelIdeal.Skeleton
public import proofs.«01_k».proof.Proof.Follow

@[expose] public section

set_option maxRecDepth 65536
set_option maxHeartbeats 0

noncomputable section

namespace Cert.KernelIdeal.Own

open Idealize.ShloMosaic Idealize.ShloMosaic.TcCoe Idealize.SL Idealize.SL.Sem
open Cert.Steps Cert.KernelIdeal.Gen

variable (defs : Defs nD τ sig (Elt Ideal) Λ₀) (𝒱 : Variants) (c : Dev nD) (E : Set ℕ) (R : Refs) (i : Ins Ideal) (g : grid0.Coords)

theorem t142 (v2062 : FVec Ideal S1x128 .f32) (v2939 : FVec Ideal S16x4x128 .fp8e4m3) (hv2062 : Inv i 0 v2062) (hv2939 : CR i 0 5504 4 v2939) (X : State Ideal) (hX : XO i 11520 11520 87 X) :
    Steps defs 𝒱 (c : Thread nD τ) E (St c R i) X (R.app (k0_part142 (F := Ideal) g) v2062 v2939) fun a Y => XO i 11520 11520 90 Y ∧ CU i 0 5760 a := by
  unfold Refs.app; rw [k0_part142_eq_skeleton]; unfold k0_part142_skel
  with_reducible refine step_any_o0 fun _ => step_putO (t := 0) (kt := 43) (s0 := 4) (m := 87) (o := 5504) hX ?_ (by decide) (by decide) (by decide) fun X hX => ?_
  · exact cs_of hv2939
  with_reducible refine step_x0 hX fun v2943 hv2943 => ?_
  with_reducible refine step_any_o0 fun _ => step_putO (t := 0) (kt := 44) (s0 := 0) (m := 88) (o := 5632) hX ?_ (by decide) (by decide) (by decide) fun X hX => ?_
  · exact cs_of (cr_of (ch0_of (ct_of (cu_of (b3_of (hi_of chi_of) (b2_of (lo_of clo_of) (b1_of (b0_of hv2943) (bi_of hv2062))))))))
  with_reducible refine step_any_o0 fun _ => step_putO (t := 0) (kt := 44) (s0 := 4) (m := 89) (o := 5632) hX ?_ (by decide) (by decide) (by decide) fun X hX => ?_
  · exact cs_of (cr_of (ch4_of (ct_of (cu_of (b3_of (hi_of chi_of) (b2_of (lo_of clo_of) (b1_of (b0_of hv2943) (bi_of hv2062))))))))
  with_reducible refine step_x0 hX fun v2963 hv2963 => ?_
  exact step_ret ⟨hX, (cu_of (b3_of (hi_of chi_of) (b2_of (lo_of clo_of) (b1_of (b0_of hv2963) (bi_of hv2062)))))⟩

theorem t143 (v2062 : FVec Ideal S1x128 .f32) (v2971 : FVec Ideal S128x128 .fp8e4m3) (hv2062 : Inv i 0 v2062) (hv2971 : CU i 0 5760 v2971) (X : State Ideal) (hX : XO i 11520 11520 90 X) :
    Steps defs 𝒱 (c : Thread nD τ) E (St c R i) X (R.app (k0_part143 (F := Ideal) g) v2062 v2971) fun a Y => XO i 11520 11520 93 Y ∧ CR i 0 5888 4 a := by
  unfold Refs.app; rw [k0_part143_eq_skeleton]; unfold k0_part143_skel
  with_reducible refine step_any_o0 fun _ => step_putO (t := 0) (kt := 45) (s0 := 0) (m := 90) (o := 5760) hX ?_ (by decide) (by decide) (by decide) fun X hX => ?_
  · exact cs_of (cr_of (ch0_of (ct_of hv2971)))
  with_reducible refine step_any_o0 fun _ => step_putO (t := 0) (kt := 45) (s0 := 4) (m := 91) (o := 5760) hX ?_ (by decide) (by decide) (by decide) fun X hX => ?_
  · exact cs_of (cr_of (ch4_of (ct_of hv2971)))
  with_reducible refine step_x0 hX fun v2983 hv2983 => ?_
  with_reducible refine step_any_o0 fun _ => step_putO (t := 0) (kt := 46) (s0 := 0) (m := 92) (o := 5888) hX ?_ (by decide) (by decide) (by decide) fun X hX => ?_
  · exact cs_of (cr_of (ch0_of (ct_of (cu_of (b3_of (hi_of chi_of) (b2_of (lo_of clo_of) (b1_of (b0_of hv2983) (bi_of hv2062))))))))
  exact step_ret ⟨hX, (cr_of (ch4_of (ct_of (cu_of (b3_of (hi_of chi_of) (b2_of (lo_of clo_of) (b1_of (b0_of hv2983) (bi_of hv2062))))))))⟩

theorem t144 (v2062 : FVec Ideal S1x128 .f32) (v2999 : FVec Ideal S16x4x128 .fp8e4m3) (hv2062 : Inv i 0 v2062) (hv2999 : CR i 0 5888 4 v2999) (X : State Ideal) (hX : XO i 11520 11520 93 X) :
    Steps defs 𝒱 (c : Thread nD τ) E (St c R i) X (R.app (k0_part144 (F := Ideal) g) v2062 v2999) fun a Y => XO i 11520 11520 96 Y ∧ CT i 0 6144 a.1 ∧ CR i 0 6144 0 a.2 := by
  unfold Refs.app; rw [k0_part144_eq_skeleton]; unfold k0_part144_skel
  with_reducible refine step_any_o0 fun _ => step_putO (t := 0) (kt := 46) (s0 := 4) (m := 93) (o := 5888) hX ?_ (by decide) (by decide) (by decide) fun X hX => ?_
  · exact cs_of hv2999
  with_reducible refine step_x0 hX fun v3003 hv3003 => ?_
  with_reducible refine step_any_o0 fun _ => step_putO (t := 0) (kt := 47) (s0 := 0) (m := 94) (o := 6016) hX ?_ (by decide) (by decide) (by decide) fun X hX => ?_
  · exact cs_of (cr_of (ch0_of (ct_of (cu_of (b3_of (hi_of chi_of) (b2_of (lo_of clo_of) (b1_of (b0_of hv3003) (bi_of hv2062))))))))
  with_reducible refine step_any_o0 fun _ => step_putO (t := 0) (kt := 47) (s0 := 4) (m := 95) (o := 6016) hX ?_ (by decide) (by decide) (by decide) fun X hX => ?_
  · exact cs_of (cr_of (ch4_of (ct_of (cu_of (b3_of (hi_of chi_of) (b2_of (lo_of clo_of) (b1_of (b0_of hv3003) (bi_of hv2062))))))))
  with_reducible refine step_x0 hX fun v3023 hv3023 => ?_
  exact step_ret ⟨hX, (ct_of (cu_of (b3_of (hi_of chi_of) (b2_of (lo_of clo_of) (b1_of (b0_of hv3023) (bi_of hv2062)))))), (cr_of (ch0_of (ct_of (cu_of (b3_of (hi_of chi_of) (b2_of (lo_of clo_of) (b1_of (b0_of hv3023) (bi_of hv2062))))))))⟩

theorem t145 (v2062 : FVec Ideal S1x128 .f32) (v3032 : FVec Ideal S128x128 .fp8e4m3) (v3034 : FVec Ideal S16x4x128 .fp8e4m3) (hv2062 : Inv i 0 v2062) (hv3032 : CT i 0 6144 v3032) (hv3034 : CR i 0 6144 0 v3034) (X : State Ideal) (hX : XO i 11520 11520 96 X) :
    Steps defs 𝒱 (c : Thread nD τ) E (St c R i) X (R.app (k0_part145 (F := Ideal) g) v2062 v3032 v3034) fun a Y => XO i 11520 11520 99 Y ∧ CS i 0 6272 4 a := by
  unfold Refs.app; rw [k0_part145_eq_skeleton]; unfold k0_part145_skel
  with_reducible refine step_any_o0 fun _ => step_putO (t := 0) (kt := 48) (s0 := 0) (m := 96) (o := 6144) hX ?_ (by decide) (by decide) (by decide) fun X hX => ?_
  · exact cs_of hv3034
  with_reducible refine step_any_o0 fun _ => step_putO (t := 0) (kt := 48) (s0 := 4) (m := 97) (o := 6144) hX ?_ (by decide) (by decide) (by decide) fun X hX => ?_
  · exact cs_of (cr_of (ch4_of hv3032))
  with_reducible refine step_x0 hX fun v3043 hv3043 => ?_
  with_reducible refine step_any_o0 fun _ => step_putO (t := 0) (kt := 49) (s0 := 0) (m := 98) (o := 6272) hX ?_ (by decide) (by decide) (by decide) fun X hX => ?_
  · exact cs_of (cr_of (ch0_of (ct_of (cu_of (b3_of (hi_of chi_of) (b2_of (lo_of clo_of) (b1_of (b0_of hv3043) (bi_of hv2062))))))))
  with_reducible refine step_any_o0 fun v3060 => ?_
  exact step_ret ⟨hX, (cs_of (cr_of (ch4_of (ct_of (cu_of (b3_of (hi_of chi_of) (b2_of (lo_of clo_of) (b1_of (b0_of hv3043) (bi_of hv2062)))))))))⟩

theorem t146 (v2062 : FVec Ideal S1x128 .f32) (v3062 : FVec Ideal S1x16x1x1x4x128 .fp8e4m3) (hv2062 : Inv i 0 v2062) (hv3062 : CS i 0 6272 4 v3062) (X : State Ideal) (hX : XO i 11520 11520 99 X) :
    Steps defs 𝒱 (c : Thread nD τ) E (St c R i) X (R.app (k0_part146 (F := Ideal) g) v2062 v3062) fun a Y => XO i 11520 11520 102 Y ∧ CT i 0 6528 a.1 ∧ CR i 0 6528 0 a.2 := by
  unfold Refs.app; rw [k0_part146_eq_skeleton]; unfold k0_part146_skel
  with_reducible refine step_putO (t := 0) (kt := 49) (s0 := 4) (m := 99) (o := 6272) hX ?_ (by decide) (by decide) (by decide) fun X hX => ?_
  · exact hv3062
  with_reducible refine step_x0 hX fun v3063 hv3063 => ?_
  with_reducible refine step_any_o0 fun _ => step_putO (t := 0) (kt := 50) (s0 := 0) (m := 100) (o := 6400) hX ?_ (by decide) (by decide) (by decide) fun X hX => ?_
  · exact cs_of (cr_of (ch0_of (ct_of (cu_of (b3_of (hi_of chi_of) (b2_of (lo_of clo_of) (b1_of (b0_of hv3063) (bi_of hv2062))))))))
  with_reducible refine step_any_o0 fun _ => step_putO (t := 0) (kt := 50) (s0 := 4) (m := 101) (o := 6400) hX ?_ (by decide) (by decide) (by decide) fun X hX => ?_
  · exact cs_of (cr_of (ch4_of (ct_of (cu_of (b3_of (hi_of chi_of) (b2_of (lo_of clo_of) (b1_of (b0_of hv3063) (bi_of hv2062))))))))
  with_reducible refine step_x0 hX fun v3083 hv3083 => ?_
  exact step_ret ⟨hX, (ct_of (cu_of (b3_of (hi_of chi_of) (b2_of (lo_of clo_of) (b1_of (b0_of hv3083) (bi_of hv2062)))))), (cr_of (ch0_of (ct_of (cu_of (b3_of (hi_of chi_of) (b2_of (lo_of clo_of) (b1_of (b0_of hv3083) (bi_of hv2062))))))))⟩

theorem t147 (v2062 : FVec Ideal S1x128 .f32) (v3092 : FVec Ideal S128x128 .fp8e4m3) (v3094 : FVec Ideal S16x4x128 .fp8e4m3) (hv2062 : Inv i 0 v2062) (hv3092 : CT i 0 6528 v3092) (hv3094 : CR i 0 6528 0 v3094) (X : State Ideal) (hX : XO i 11520 11520 102 X) :
    Steps defs 𝒱 (c : Thread nD τ) E (St c R i) X (R.app (k0_part147 (F := Ideal) g) v2062 v3092 v3094) fun _ Y => XO i 11520 11520 106 Y := by
  unfold Refs.app; rw [k0_part147_eq_skeleton]; unfold k0_part147_skel
  with_reducible refine step_any_o0 fun _ => step_putO (t := 0) (kt := 51) (s0 := 0) (m := 102) (o := 6528) hX ?_ (by decide) (by decide) (by decide) fun X hX => ?_
  · exact cs_of hv3094
  with_reducible refine step_any_o0 fun _ => step_putO (t := 0) (kt := 51) (s0 := 4) (m := 103) (o := 6528) hX ?_ (by decide) (by decide) (by decide) fun X hX => ?_
  · exact cs_of (cr_of (ch4_of hv3092))
  with_reducible refine step_x0 hX fun v3103 hv3103 => ?_
  with_reducible refine step_any_o0 fun _ => step_putO (t := 0) (kt := 52) (s0 := 0) (m := 104) (o := 6656) hX ?_ (by decide) (by decide) (by decide) fun X hX => ?_
  · exact cs_of (cr_of (ch0_of (ct_of (cu_of (b3_of (hi_of chi_of) (b2_of (lo_of clo_of) (b1_of (b0_of hv3103) (bi_of hv2062))))))))
  with_reducible refine step_any_o0 fun _ => step_putO (t := 0) (kt := 52) (s0 := 4) (m := 105) (o := 6656) hX ?_ (by decide) (by decide) (by decide) fun X hX => ?_
  · exact cs_of (cr_of (ch4_of (ct_of (cu_of (b3_of (hi_of chi_of) (b2_of (lo_of clo_of) (b1_of (b0_of hv3103) (bi_of hv2062))))))))
  exact step_ret hX

theorem t148 (v2062 : FVec Ideal S1x128 .f32) (hv2062 : Inv i 0 v2062) (X : State Ideal) (hX : XO i 11520 11520 106 X) :
    Steps defs 𝒱 (c : Thread nD τ) E (St c R i) X (R.app (k0_part148 (F := Ideal) g) v2062) fun a Y => XO i 11520 11520 108 Y ∧ CT i 0 6912 a.1 ∧ CR i 0 6912 0 a.2 := by
  unfold Refs.app; rw [k0_part148_eq_skeleton]; unfold k0_part148_skel
  with_reducible refine step_x0 hX fun v3123 hv3123 => ?_
  with_reducible refine step_any_o0 fun _ => step_putO (t := 0) (kt := 53) (s0 := 0) (m := 106) (o := 6784) hX ?_ (by decide) (by decide) (by decide) fun X hX => ?_
  · exact cs_of (cr_of (ch0_of (ct_of (cu_of (b3_of (hi_of chi_of) (b2_of (lo_of clo_of) (b1_of (b0_of hv3123) (bi_of hv2062))))))))
  with_reducible refine step_any_o0 fun _ => step_putO (t := 0) (kt := 53) (s0 := 4) (m := 107) (o := 6784) hX ?_ (by decide) (by decide) (by decide) fun X hX => ?_
  · exact cs_of (cr_of (ch4_of (ct_of (cu_of (b3_of (hi_of chi_of) (b2_of (lo_of clo_of) (b1_of (b0_of hv3123) (bi_of hv2062))))))))
  with_reducible refine step_x0 hX fun v3143 hv3143 => ?_
  exact step_ret ⟨hX, (ct_of (cu_of (b3_of (hi_of chi_of) (b2_of (lo_of clo_of) (b1_of (b0_of hv3143) (bi_of hv2062)))))), (cr_of (ch0_of (ct_of (cu_of (b3_of (hi_of chi_of) (b2_of (lo_of clo_of) (b1_of (b0_of hv3143) (bi_of hv2062))))))))⟩

theorem t149 (v2062 : FVec Ideal S1x128 .f32) (v3152 : FVec Ideal S128x128 .fp8e4m3) (v3154 : FVec Ideal S16x4x128 .fp8e4m3) (hv2062 : Inv i 0 v2062) (hv3152 : CT i 0 6912 v3152) (hv3154 : CR i 0 6912 0 v3154) (X : State Ideal) (hX : XO i 11520 11520 108 X) :
    Steps defs 𝒱 (c : Thread nD τ) E (St c R i) X (R.app (k0_part149 (F := Ideal) g) v2062 v3152 v3154) fun a Y => XO i 11520 11520 112 Y ∧ B0 i 0 7168 a := by
  unfold Refs.app; rw [k0_part149_eq_skeleton]; unfold k0_part149_skel
  with_reducible refine step_any_o0 fun _ => step_putO (t := 0) (kt := 54) (s0 := 0) (m := 108) (o := 6912) hX ?_ (by decide) (by decide) (by decide) fun X hX => ?_
  · exact cs_of hv3154
  with_reducible refine step_any_o0 fun _ => step_putO (t := 0) (kt := 54) (s0 := 4) (m := 109) (o := 6912) hX ?_ (by decide) (by decide) (by decide) fun X hX => ?_
  · exact cs_of (cr_of (ch4_of hv3152))
  with_reducible refine step_x0 hX fun v3163 hv3163 => ?_
  with_reducible refine step_any_o0 fun _ => step_putO (t := 0) (kt := 55) (s0 := 0) (m := 110) (o := 7040) hX ?_ (by decide) (by decide) (by decide) fun X hX => ?_
  · exact cs_of (cr_of (ch0_of (ct_of (cu_of (b3_of (hi_of chi_of) (b2_of (lo_of clo_of) (b1_of (b0_of hv3163) (bi_of hv2062))))))))
  with_reducible refine step_any_o0 fun _ => step_putO (t := 0) (kt := 55) (s0 := 4) (m := 111) (o := 7040) hX ?_ (by decide) (by decide) (by decide) fun X hX => ?_
  · exact cs_of (cr_of (ch4_of (ct_of (cu_of (b3_of (hi_of chi_of) (b2_of (lo_of clo_of) (b1_of (b0_of hv3163) (bi_of hv2062))))))))
  with_reducible refine step_x0 hX fun v3183 hv3183 => ?_
  exact step_ret ⟨hX, (b0_of hv3183)⟩

theorem t150 (v2062 : FVec Ideal S1x128 .f32) (v3184 : FVec Ideal S128x128 .f32) (hv2062 : Inv i 0 v2062) (hv3184 : B0 i 0 7168 v3184) (X : State Ideal) (hX : XO i 11520 11520 112 X) :
    Steps defs 𝒱 (c : Thread nD τ) E (St c R i) X (R.app (k0_part150 (F := Ideal) g) v2062 v3184) fun a Y => XO i 11520 11520 114 Y ∧ CT i 0 7296 a.1 ∧ CS i 0 7296 0 a.2 := by
  unfold Refs.app; rw [k0_part150_eq_skeleton]; unfold k0_part150_skel
  with_reducible refine step_any_o0 fun _ => step_putO (t := 0) (kt := 56) (s0 := 0) (m := 112) (o := 7168) hX ?_ (by decide) (by decide) (by decide) fun X hX => ?_
  · exact cs_of (cr_of (ch0_of (ct_of (cu_of (b3_of (hi_of chi_of) (b2_of (lo_of clo_of) (b1_of hv3184 (bi_of hv2062))))))))
  with_reducible refine step_any_o0 fun _ => step_putO (t := 0) (kt := 56) (s0 := 4) (m := 113) (o := 7168) hX ?_ (by decide) (by decide) (by decide) fun X hX => ?_
  · exact cs_of (cr_of (ch4_of (ct_of (cu_of (b3_of (hi_of chi_of) (b2_of (lo_of clo_of) (b1_of hv3184 (bi_of hv2062))))))))
  with_reducible refine step_x0 hX fun v3203 hv3203 => ?_
  with_reducible refine step_any_o0 fun v3215 => ?_
  exact step_ret ⟨hX, (ct_of (cu_of (b3_of (hi_of chi_of) (b2_of (lo_of clo_of) (b1_of (b0_of hv3203) (bi_of hv2062)))))), (cs_of (cr_of (ch0_of (ct_of (cu_of (b3_of (hi_of chi_of) (b2_of (lo_of clo_of) (b1_of (b0_of hv3203) (bi_of hv2062)))))))))⟩

theorem t151 (v2062 : FVec Ideal S1x128 .f32) (v3212 : FVec Ideal S128x128 .fp8e4m3) (v3217 : FVec Ideal S1x16x1x1x4x128 .fp8e4m3) (hv2062 : Inv i 0 v2062) (hv3212 : CT i 0 7296 v3212) (hv3217 : CS i 0 7296 0 v3217) (X : State Ideal) (hX : XO i 11520 11520 114 X) :
    Steps defs 𝒱 (c : Thread nD τ) E (St c R i) X (R.app (k0_part151 (F := Ideal) g) v2062 v3212 v3217) fun a Y => XO i 11520 11520 118 Y ∧ B1 i 0 7552 a.1 ∧ CLo a.2 := by
  unfold Refs.app; rw [k0_part151_eq_skeleton]; unfold k0_part151_skel
  with_reducible refine step_putO (t := 0) (kt := 57) (s0 := 0) (m := 114) (o := 7296) hX ?_ (by decide) (by decide) (by decide) fun X hX => ?_
  · exact hv3217
  with_reducible refine step_any_o0 fun _ => step_putO (t := 0) (kt := 57) (s0 := 4) (m := 115) (o := 7296) hX ?_ (by decide) (by decide) (by decide) fun X hX => ?_
  · exact cs_of (cr_of (ch4_of hv3212))
  with_reducible refine step_x0 hX fun v3223 hv3223 => ?_
  with_reducible refine step_any_o0 fun _ => step_putO (t := 0) (kt := 58) (s0 := 0) (m := 116) (o := 7424) hX ?_ (by decide) (by decide) (by decide) fun X hX => ?_
  · exact cs_of (cr_of (ch0_of (ct_of (cu_of (b3_of (hi_of chi_of) (b2_of (lo_of clo_of) (b1_of (b0_of hv3223) (bi_of hv2062))))))))
  with_reducible refine step_any_o0 fun _ => step_putO (t := 0) (kt := 58) (s0 := 4) (m := 117) (o := 7424) hX ?_ (by decide) (by decide) (by decide) fun X hX => ?_
  · exact cs_of (cr_of (ch4_of (ct_of (cu_of (b3_of (hi_of chi_of) (b2_of (lo_of clo_of) (b1_of (b0_of hv3223) (bi_of hv2062))))))))
  with_reducible refine step_x0 hX fun v3243 hv3243 => ?_
  exact step_ret ⟨hX, (b1_of (b0_of hv3243) (bi_of hv2062)), clo_of⟩

theorem t152 (v2062 : FVec Ideal S1x128 .f32) (v3246 : FVec Ideal S128x128 .f32) (cst_2540 : Ideal .f32) (hv2062 : Inv i 0 v2062) (hv3246 : B1 i 0 7552 v3246) (hcst_2540 : CLo cst_2540) (X : State Ideal) (hX : XO i 11520 11520 118 X) :
    Steps defs 𝒱 (c : Thread nD τ) E (St c R i) X (R.app (k0_part152 (F := Ideal) g) v2062 v3246 cst_2540) fun a Y => XO i 11520 11520 121 Y ∧ CR i 0 7680 4 a := by
  unfold Refs.app; rw [k0_part152_eq_skeleton]; unfold k0_part152_skel
  with_reducible refine step_any_o0 fun _ => step_putO (t := 0) (kt := 59) (s0 := 0) (m := 118) (o := 7552) hX ?_ (by decide) (by decide) (by decide) fun X hX => ?_
  · exact cs_of (cr_of (ch0_of (ct_of (cu_of (b3_of (hi_of chi_of) (b2_of (lo_of hcst_2540) hv3246))))))
  with_reducible refine step_any_o0 fun _ => step_putO (t := 0) (kt := 59) (s0 := 4) (m := 119) (o := 7552) hX ?_ (by decide) (by decide) (by decide) fun X hX => ?_
  · exact cs_of (cr_of (ch4_of (ct_of (cu_of (b3_of (hi_of chi_of) (b2_of (lo_of hcst_2540) hv3246))))))
  with_reducible refine step_x0 hX fun v3263 hv3263 => ?_
  with_reducible refine step_any_o0 fun _ => step_putO (t := 0) (kt := 60) (s0 := 0) (m := 120) (o := 7680) hX ?_ (by decide) (by decide) (by decide) fun X hX => ?_
  · exact cs_of (cr_of (ch0_of (ct_of (cu_of (b3_of (hi_of chi_of) (b2_of (lo_of clo_of) (b1_of (b0_of hv3263) (bi_of hv2062))))))))
  exact step_ret ⟨hX, (cr_of (ch4_of (ct_of (cu_of (b3_of (hi_of chi_of) (b2_of (lo_of clo_of) (b1_of (b0_of hv3263) (bi_of hv2062))))))))⟩

theorem t153 (v2062 : FVec Ideal S1x128 .f32) (v3279 : FVec Ideal S16x4x128 .fp8e4m3) (hv2062 : Inv i 0 v2062) (hv3279 : CR i 0 7680 4 v3279) (X : State Ideal) (hX : XO i 11520 11520 121 X) :
    Steps defs 𝒱 (c : Thread nD τ) E (St c R i) X (R.app (k0_part153 (F := Ideal) g) v2062 v3279) fun a Y => XO i 11520 11520 124 Y ∧ CHi a.1 ∧ B2 i 0 7936 a.2 := by
  unfold Refs.app; rw [k0_part153_eq_skeleton]; unfold k0_part153_skel
  with_reducible refine step_any_o0 fun _ => step_putO (t := 0) (kt := 60) (s0 := 4) (m := 121) (o := 7680) hX ?_ (by decide) (by decide) (by decide) fun X hX => ?_
  · exact cs_of hv3279
  with_reducible refine step_x0 hX fun v3283 hv3283 => ?_
  with_reducible refine step_any_o0 fun _ => step_putO (t := 0) (kt := 61) (s0 := 0) (m := 122) (o := 7808) hX ?_ (by decide) (by decide) (by decide) fun X hX => ?_
  · exact cs_of (cr_of (ch0_of (ct_of (cu_of (b3_of (hi_of chi_of) (b2_of (lo_of clo_of) (b1_of (b0_of hv3283) (bi_of hv2062))))))))
  with_reducible refine step_any_o0 fun _ => step_putO (t := 0) (kt := 61) (s0 := 4) (m := 123) (o := 7808) hX ?_ (by decide) (by decide) (by decide) fun X hX => ?_
  · exact cs_of (cr_of (ch4_of (ct_of (cu_of (b3_of (hi_of chi_of) (b2_of (lo_of clo_of) (b1_of (b0_of hv3283) (bi_of hv2062))))))))
  with_reducible refine step_x0 hX fun v3303 hv3303 => ?_
  exact step_ret ⟨hX, chi_of, (b2_of (lo_of clo_of) (b1_of (b0_of hv3303) (bi_of hv2062)))⟩

theorem t154 (v2062 : FVec Ideal S1x128 .f32) (cst_2586 : Ideal .f32) (v3308 : FVec Ideal S128x128 .f32) (hv2062 : Inv i 0 v2062) (hcst_2586 : CHi cst_2586) (hv3308 : B2 i 0 7936 v3308) (X : State Ideal) (hX : XO i 11520 11520 124 X) :
    Steps defs 𝒱 (c : Thread nD τ) E (St c R i) X (R.app (k0_part154 (F := Ideal) g) v2062 cst_2586 v3308) fun a Y => XO i 11520 11520 127 Y ∧ CR i 0 8064 4 a := by
  unfold Refs.app; rw [k0_part154_eq_skeleton]; unfold k0_part154_skel
  with_reducible refine step_any_o0 fun _ => step_putO (t := 0) (kt := 62) (s0 := 0) (m := 124) (o := 7936) hX ?_ (by decide) (by decide) (by decide) fun X hX => ?_
  · exact cs_of (cr_of (ch0_of (ct_of (cu_of (b3_of (hi_of hcst_2586) hv3308)))))
  with_reducible refine step_any_o0 fun _ => step_putO (t := 0) (kt := 62) (s0 := 4) (m := 125) (o := 7936) hX ?_ (by decide) (by decide) (by decide) fun X hX => ?_
  · exact cs_of (cr_of (ch4_of (ct_of (cu_of (b3_of (hi_of hcst_2586) hv3308)))))
  with_reducible refine step_x0 hX fun v3323 hv3323 => ?_
  with_reducible refine step_any_o0 fun _ => step_putO (t := 0) (kt := 63) (s0 := 0) (m := 126) (o := 8064) hX ?_ (by decide) (by decide) (by decide) fun X hX => ?_
  · exact cs_of (cr_of (ch0_of (ct_of (cu_of (b3_of (hi_of chi_of) (b2_of (lo_of clo_of) (b1_of (b0_of hv3323) (bi_of hv2062))))))))
  exact step_ret ⟨hX, (cr_of (ch4_of (ct_of (cu_of (b3_of (hi_of chi_of) (b2_of (lo_of clo_of) (b1_of (b0_of hv3323) (bi_of hv2062))))))))⟩

theorem t155 (v2062 : FVec Ideal S1x128 .f32) (v3339 : FVec Ideal S16x4x128 .fp8e4m3) (hv2062 : Inv i 0 v2062) (hv3339 : CR i 0 8064 4 v3339) (X : State Ideal) (hX : XO i 11520 11520 127 X) :
    Steps defs 𝒱 (c : Thread nD τ) E (St c R i) X (R.app (k0_part155 (F := Ideal) g) v2062 v3339) fun a Y => XO i 11520 11520 130 Y ∧ CU i 0 8320 a := by
  unfold Refs.app; rw [k0_part155_eq_skeleton]; unfold k0_part155_skel
  with_reducible refine step_any_o0 fun _ => step_putO (t := 0) (kt := 63) (s0 := 4) (m := 127) (o := 8064) hX ?_ (by decide) (by decide) (by decide) fun X hX => ?_
  · exact cs_of hv3339
  with_reducible refine step_x0 hX fun v3343 hv3343 => ?_
  with_reducible refine step_any_o0 fun _ => step_putO (t := 0) (kt := 64) (s0 := 0) (m := 128) (o := 8192) hX ?_ (by decide) (by decide) (by decide) fun X hX => ?_
  · exact cs_of (cr_of (ch0_of (ct_of (cu_of (b3_of (hi_of chi_of) (b2_of (lo_of clo_of) (b1_of (b0_of hv3343) (bi_of hv2062))))))))
  with_reducible refine step_any_o0 fun _ => step_putO (t := 0) (kt := 64) (s0 := 4) (m := 129) (o := 8192) hX ?_ (by decide) (by decide) (by decide) fun X hX => ?_
  · exact cs_of (cr_of (ch4_of (ct_of (cu_of (b3_of (hi_of chi_of) (b2_of (lo_of clo_of) (b1_of (b0_of hv3343) (bi_of hv2062))))))))
  with_reducible refine step_x0 hX fun v3363 hv3363 => ?_
  exact step_ret ⟨hX, (cu_of (b3_of (hi_of chi_of) (b2_of (lo_of clo_of) (b1_of (b0_of hv3363) (bi_of hv2062)))))⟩

theorem t156 (v2062 : FVec Ideal S1x128 .f32) (v3371 : FVec Ideal S128x128 .fp8e4m3) (hv2062 : Inv i 0 v2062) (hv3371 : CU i 0 8320 v3371) (X : State Ideal) (hX : XO i 11520 11520 130 X) :
    Steps defs 𝒱 (c : Thread nD τ) E (St c R i) X (R.app (k0_part156 (F := Ideal) g) v2062 v3371) fun a Y => XO i 11520 11520 133 Y ∧ CR i 0 8448 4 a := by
  unfold Refs.app; rw [k0_part156_eq_skeleton]; unfold k0_part156_skel
  with_reducible refine step_any_o0 fun _ => step_putO (t := 0) (kt := 65) (s0 := 0) (m := 130) (o := 8320) hX ?_ (by decide) (by decide) (by decide) fun X hX => ?_
  · exact cs_of (cr_of (ch0_of (ct_of hv3371)))
  with_reducible refine step_any_o0 fun _ => step_putO (t := 0) (kt := 65) (s0 := 4) (m := 131) (o := 8320) hX ?_ (by decide) (by decide) (by decide) fun X hX => ?_
  · exact cs_of (cr_of (ch4_of (ct_of hv3371)))
  with_reducible refine step_x0 hX fun v3383 hv3383 => ?_
  with_reducible refine step_any_o0 fun _ => step_putO (t := 0) (kt := 66) (s0 := 0) (m := 132) (o := 8448) hX ?_ (by decide) (by decide) (by decide) fun X hX => ?_
  · exact cs_of (cr_of (ch0_of (ct_of (cu_of (b3_of (hi_of chi_of) (b2_of (lo_of clo_of) (b1_of (b0_of hv3383) (bi_of hv2062))))))))
  exact step_ret ⟨hX, (cr_of (ch4_of (ct_of (cu_of (b3_of (hi_of chi_of) (b2_of (lo_of clo_of) (b1_of (b0_of hv3383) (bi_of hv2062))))))))⟩

theorem t157 (v2062 : FVec Ideal S1x128 .f32) (v3399 : FVec Ideal S16x4x128 .fp8e4m3) (hv2062 : Inv i 0 v2062) (hv3399 : CR i 0 8448 4 v3399) (X : State Ideal) (hX : XO i 11520 11520 133 X) :
    Steps defs 𝒱 (c : Thread nD τ) E (St c R i) X (R.app (k0_part157 (F := Ideal) g) v2062 v3399) fun a Y => XO i 11520 11520 136 Y ∧ CT i 0 8704 a.1 ∧ CR i 0 8704 0 a.2 := by
  unfold Refs.app; rw [k0_part157_eq_skeleton]; unfold k0_part157_skel
  with_reducible refine step_any_o0 fun _ => step_putO (t := 0) (kt := 66) (s0 := 4) (m := 133) (o := 8448) hX ?_ (by decide) (by decide) (by decide) fun X hX => ?_
  · exact cs_of hv3399
  with_reducible refine step_x0 hX fun v3403 hv3403 => ?_
  with_reducible refine step_any_o0 fun _ => step_putO (t := 0) (kt := 67) (s0 := 0) (m := 134) (o := 8576) hX ?_ (by decide) (by decide) (by decide) fun X hX => ?_
  · exact cs_of (cr_of (ch0_of (ct_of (cu_of (b3_of (hi_of chi_of) (b2_of (lo_of clo_of) (b1_of (b0_of hv3403) (bi_of hv2062))))))))
  with_reducible refine step_any_o0 fun _ => step_putO (t := 0) (kt := 67) (s0 := 4) (m := 135) (o := 8576) hX ?_ (by decide) (by decide) (by decide) fun X hX => ?_
  · exact cs_of (cr_of (ch4_of (ct_of (cu_of (b3_of (hi_of chi_of) (b2_of (lo_of clo_of) (b1_of (b0_of hv3403) (bi_of hv2062))))))))
  with_reducible refine step_x0 hX fun v3423 hv3423 => ?_
  exact step_ret ⟨hX, (ct_of (cu_of (b3_of (hi_of chi_of) (b2_of (lo_of clo_of) (b1_of (b0_of hv3423) (bi_of hv2062)))))), (cr_of (ch0_of (ct_of (cu_of (b3_of (hi_of chi_of) (b2_of (lo_of clo_of) (b1_of (b0_of hv3423) (bi_of hv2062))))))))⟩

theorem t158 (v2062 : FVec Ideal S1x128 .f32) (v3432 : FVec Ideal S128x128 .fp8e4m3) (v3434 : FVec Ideal S16x4x128 .fp8e4m3) (hv2062 : Inv i 0 v2062) (hv3432 : CT i 0 8704 v3432) (hv3434 : CR i 0 8704 0 v3434) (X : State Ideal) (hX : XO i 11520 11520 136 X) :
    Steps defs 𝒱 (c : Thread nD τ) E (St c R i) X (R.app (k0_part158 (F := Ideal) g) v2062 v3432 v3434) fun a Y => XO i 11520 11520 139 Y ∧ CS i 0 8832 4 a := by
  unfold Refs.app; rw [k0_part158_eq_skeleton]; unfold k0_part158_skel
  with_reducible refine step_any_o0 fun _ => step_putO (t := 0) (kt := 68) (s0 := 0) (m := 136) (o := 8704) hX ?_ (by decide) (by decide) (by decide) fun X hX => ?_
  · exact cs_of hv3434
  with_reducible refine step_any_o0 fun _ => step_putO (t := 0) (kt := 68) (s0 := 4) (m := 137) (o := 8704) hX ?_ (by decide) (by decide) (by decide) fun X hX => ?_
  · exact cs_of (cr_of (ch4_of hv3432))
  with_reducible refine step_x0 hX fun v3443 hv3443 => ?_
  with_reducible refine step_any_o0 fun _ => step_putO (t := 0) (kt := 69) (s0 := 0) (m := 138) (o := 8832) hX ?_ (by decide) (by decide) (by decide) fun X hX => ?_
  · exact cs_of (cr_of (ch0_of (ct_of (cu_of (b3_of (hi_of chi_of) (b2_of (lo_of clo_of) (b1_of (b0_of hv3443) (bi_of hv2062))))))))
  with_reducible refine step_any_o0 fun v3460 => ?_
  exact step_ret ⟨hX, (cs_of (cr_of (ch4_of (ct_of (cu_of (b3_of (hi_of chi_of) (b2_of (lo_of clo_of) (b1_of (b0_of hv3443) (bi_of hv2062)))))))))⟩

theorem t159 (v2062 : FVec Ideal S1x128 .f32) (v3462 : FVec Ideal S1x16x1x1x4x128 .fp8e4m3) (hv2062 : Inv i 0 v2062) (hv3462 : CS i 0 8832 4 v3462) (X : State Ideal) (hX : XO i 11520 11520 139 X) :
    Steps defs 𝒱 (c : Thread nD τ) E (St c R i) X (R.app (k0_part159 (F := Ideal) g) v2062 v3462) fun a Y => XO i 11520 11520 142 Y ∧ CT i 0 9088 a.1 ∧ CR i 0 9088 0 a.2 := by
  unfold Refs.app; rw [k0_part159_eq_skeleton]; unfold k0_part159_skel
  with_reducible refine step_putO (t := 0) (kt := 69) (s0 := 4) (m := 139) (o := 8832) hX ?_ (by decide) (by decide) (by decide) fun X hX => ?_
  · exact hv3462
  with_reducible refine step_x0 hX fun v3463 hv3463 => ?_
  with_reducible refine step_any_o0 fun _ => step_putO (t := 0) (kt := 70) (s0 := 0) (m := 140) (o := 8960) hX ?_ (by decide) (by decide) (by decide) fun X hX => ?_
  · exact cs_of (cr_of (ch0_of (ct_of (cu_of (b3_of (hi_of chi_of) (b2_of (lo_of clo_of) (b1_of (b0_of hv3463) (bi_of hv2062))))))))
  with_reducible refine step_any_o0 fun _ => step_putO (t := 0) (kt := 70) (s0 := 4) (m := 141) (o := 8960) hX ?_ (by decide) (by decide) (by decide) fun X hX => ?_
  · exact cs_of (cr_of (ch4_of (ct_of (cu_of (b3_of (hi_of chi_of) (b2_of (lo_of clo_of) (b1_of (b0_of hv3463) (bi_of hv2062))))))))
  with_reducible refine step_x0 hX fun v3483 hv3483 => ?_
  exact step_ret ⟨hX, (ct_of (cu_of (b3_of (hi_of chi_of) (b2_of (lo_of clo_of) (b1_of (b0_of hv3483) (bi_of hv2062)))))), (cr_of (ch0_of (ct_of (cu_of (b3_of (hi_of chi_of) (b2_of (lo_of clo_of) (b1_of (b0_of hv3483) (bi_of hv2062))))))))⟩

theorem t160 (v2062 : FVec Ideal S1x128 .f32) (v3492 : FVec Ideal S128x128 .fp8e4m3) (v3494 : FVec Ideal S16x4x128 .fp8e4m3) (hv2062 : Inv i 0 v2062) (hv3492 : CT i 0 9088 v3492) (hv3494 : CR i 0 9088 0 v3494) (X : State Ideal) (hX : XO i 11520 11520 142 X) :
    Steps defs 𝒱 (c : Thread nD τ) E (St c R i) X (R.app (k0_part160 (F := Ideal) g) v2062 v3492 v3494) fun _ Y => XO i 11520 11520 146 Y := by
  unfold Refs.app; rw [k0_part160_eq_skeleton]; unfold k0_part160_skel
  with_reducible refine step_any_o0 fun _ => step_putO (t := 0) (kt := 71) (s0 := 0) (m := 142) (o := 9088) hX ?_ (by decide) (by decide) (by decide) fun X hX => ?_
  · exact cs_of hv3494
  with_reducible refine step_any_o0 fun _ => step_putO (t := 0) (kt := 71) (s0 := 4) (m := 143) (o := 9088) hX ?_ (by decide) (by decide) (by decide) fun X hX => ?_
  · exact cs_of (cr_of (ch4_of hv3492))
  with_reducible refine step_x0 hX fun v3503 hv3503 => ?_
  with_reducible refine step_any_o0 fun _ => step_putO (t := 0) (kt := 72) (s0 := 0) (m := 144) (o := 9216) hX ?_ (by decide) (by decide) (by decide) fun X hX => ?_
  · exact cs_of (cr_of (ch0_of (ct_of (cu_of (b3_of (hi_of chi_of) (b2_of (lo_of clo_of) (b1_of (b0_of hv3503) (bi_of hv2062))))))))
  with_reducible refine step_any_o0 fun _ => step_putO (t := 0) (kt := 72) (s0 := 4) (m := 145) (o := 9216) hX ?_ (by decide) (by decide) (by decide) fun X hX => ?_
  · exact cs_of (cr_of (ch4_of (ct_of (cu_of (b3_of (hi_of chi_of) (b2_of (lo_of clo_of) (b1_of (b0_of hv3503) (bi_of hv2062))))))))
  exact step_ret hX

theorem t161 (v2062 : FVec Ideal S1x128 .f32) (hv2062 : Inv i 0 v2062) (X : State Ideal) (hX : XO i 11520 11520 146 X) :
    Steps defs 𝒱 (c : Thread nD τ) E (St c R i) X (R.app (k0_part161 (F := Ideal) g) v2062) fun a Y => XO i 11520 11520 148 Y ∧ CT i 0 9472 a.1 ∧ CR i 0 9472 0 a.2 := by
  unfold Refs.app; rw [k0_part161_eq_skeleton]; unfold k0_part161_skel
  with_reducible refine step_x0 hX fun v3523 hv3523 => ?_
  with_reducible refine step_any_o0 fun _ => step_putO (t := 0) (kt := 73) (s0 := 0) (m := 146) (o := 9344) hX ?_ (by decide) (by decide) (by decide) fun X hX => ?_
  · exact cs_of (cr_of (ch0_of (ct_of (cu_of (b3_of (hi_of chi_of) (b2_of (lo_of clo_of) (b1_of (b0_of hv3523) (bi_of hv2062))))))))
  with_reducible refine step_any_o0 fun _ => step_putO (t := 0) (kt := 73) (s0 := 4) (m := 147) (o := 9344) hX ?_ (by decide) (by decide) (by decide) fun X hX => ?_
  · exact cs_of (cr_of (ch4_of (ct_of (cu_of (b3_of (hi_of chi_of) (b2_of (lo_of clo_of) (b1_of (b0_of hv3523) (bi_of hv2062))))))))
  with_reducible refine step_x0 hX fun v3543 hv3543 => ?_
  exact step_ret ⟨hX, (ct_of (cu_of (b3_of (hi_of chi_of) (b2_of (lo_of clo_of) (b1_of (b0_of hv3543) (bi_of hv2062)))))), (cr_of (ch0_of (ct_of (cu_of (b3_of (hi_of chi_of) (b2_of (lo_of clo_of) (b1_of (b0_of hv3543) (bi_of hv2062))))))))⟩

theorem t162 (v2062 : FVec Ideal S1x128 .f32) (v3552 : FVec Ideal S128x128 .fp8e4m3) (v3554 : FVec Ideal S16x4x128 .fp8e4m3) (hv2062 : Inv i 0 v2062) (hv3552 : CT i 0 9472 v3552) (hv3554 : CR i 0 9472 0 v3554) (X : State Ideal) (hX : XO i 11520 11520 148 X) :
    Steps defs 𝒱 (c : Thread nD τ) E (St c R i) X (R.app (k0_part162 (F := Ideal) g) v2062 v3552 v3554) fun a Y => XO i 11520 11520 152 Y ∧ B0 i 0 9728 a := by
  unfold Refs.app; rw [k0_part162_eq_skeleton]; unfold k0_part162_skel
  with_reducible refine step_any_o0 fun _ => step_putO (t := 0) (kt := 74) (s0 := 0) (m := 148) (o := 9472) hX ?_ (by decide) (by decide) (by decide) fun X hX => ?_
  · exact cs_of hv3554
  with_reducible refine step_any_o0 fun _ => step_putO (t := 0) (kt := 74) (s0 := 4) (m := 149) (o := 9472) hX ?_ (by decide) (by decide) (by decide) fun X hX => ?_
  · exact cs_of (cr_of (ch4_of hv3552))
  with_reducible refine step_x0 hX fun v3563 hv3563 => ?_
  with_reducible refine step_any_o0 fun _ => step_putO (t := 0) (kt := 75) (s0 := 0) (m := 150) (o := 9600) hX ?_ (by decide) (by decide) (by decide) fun X hX => ?_
  · exact cs_of (cr_of (ch0_of (ct_of (cu_of (b3_of (hi_of chi_of) (b2_of (lo_of clo_of) (b1_of (b0_of hv3563) (bi_of hv2062))))))))
  with_reducible refine step_any_o0 fun _ => step_putO (t := 0) (kt := 75) (s0 := 4) (m := 151) (o := 9600) hX ?_ (by decide) (by decide) (by decide) fun X hX => ?_
  · exact cs_of (cr_of (ch4_of (ct_of (cu_of (b3_of (hi_of chi_of) (b2_of (lo_of clo_of) (b1_of (b0_of hv3563) (bi_of hv2062))))))))
  with_reducible refine step_x0 hX fun v3583 hv3583 => ?_
  exact step_ret ⟨hX, (b0_of hv3583)⟩

theorem t163 (v2062 : FVec Ideal S1x128 .f32) (v3584 : FVec Ideal S128x128 .f32) (hv2062 : Inv i 0 v2062) (hv3584 : B0 i 0 9728 v3584) (X : State Ideal) (hX : XO i 11520 11520 152 X) :
    Steps defs 𝒱 (c : Thread nD τ) E (St c R i) X (R.app (k0_part163 (F := Ideal) g) v2062 v3584) fun a Y => XO i 11520 11520 154 Y ∧ CT i 0 9856 a.1 ∧ CS i 0 9856 0 a.2 := by
  unfold Refs.app; rw [k0_part163_eq_skeleton]; unfold k0_part163_skel
  with_reducible refine step_any_o0 fun _ => step_putO (t := 0) (kt := 76) (s0 := 0) (m := 152) (o := 9728) hX ?_ (by decide) (by decide) (by decide) fun X hX => ?_
  · exact cs_of (cr_of (ch0_of (ct_of (cu_of (b3_of (hi_of chi_of) (b2_of (lo_of clo_of) (b1_of hv3584 (bi_of hv2062))))))))
  with_reducible refine step_any_o0 fun _ => step_putO (t := 0) (kt := 76) (s0 := 4) (m := 153) (o := 9728) hX ?_ (by decide) (by decide) (by decide) fun X hX => ?_
  · exact cs_of (cr_of (ch4_of (ct_of (cu_of (b3_of (hi_of chi_of) (b2_of (lo_of clo_of) (b1_of hv3584 (bi_of hv2062))))))))
  with_reducible refine step_x0 hX fun v3603 hv3603 => ?_
  with_reducible refine step_any_o0 fun v3615 => ?_
  exact step_ret ⟨hX, (ct_of (cu_of (b3_of (hi_of chi_of) (b2_of (lo_of clo_of) (b1_of (b0_of hv3603) (bi_of hv2062)))))), (cs_of (cr_of (ch0_of (ct_of (cu_of (b3_of (hi_of chi_of) (b2_of (lo_of clo_of) (b1_of (b0_of hv3603) (bi_of hv2062)))))))))⟩

theorem t164 (v2062 : FVec Ideal S1x128 .f32) (v3612 : FVec Ideal S128x128 .fp8e4m3) (v3617 : FVec Ideal S1x16x1x1x4x128 .fp8e4m3) (hv2062 : Inv i 0 v2062) (hv3612 : CT i 0 9856 v3612) (hv3617 : CS i 0 9856 0 v3617) (X : State Ideal) (hX : XO i 11520 11520 154 X) :
    Steps defs 𝒱 (c : Thread nD τ) E (St c R i) X (R.app (k0_part164 (F := Ideal) g) v2062 v3612 v3617) fun a Y => XO i 11520 11520 158 Y ∧ B1 i 0 10112 a.1 ∧ CLo a.2 := by
  unfold Refs.app; rw [k0_part164_eq_skeleton]; unfold k0_part164_skel
  with_reducible refine step_putO (t := 0) (kt := 77) (s0 := 0) (m := 154) (o := 9856) hX ?_ (by decide) (by decide) (by decide) fun X hX => ?_
  · exact hv3617
  with_reducible refine step_any_o0 fun _ => step_putO (t := 0) (kt := 77) (s0 := 4) (m := 155) (o := 9856) hX ?_ (by decide) (by decide) (by decide) fun X hX => ?_
  · exact cs_of (cr_of (ch4_of hv3612))
  with_reducible refine step_x0 hX fun v3623 hv3623 => ?_
  with_reducible refine step_any_o0 fun _ => step_putO (t := 0) (kt := 78) (s0 := 0) (m := 156) (o := 9984) hX ?_ (by decide) (by decide) (by decide) fun X hX => ?_
  · exact cs_of (cr_of (ch0_of (ct_of (cu_of (b3_of (hi_of chi_of) (b2_of (lo_of clo_of) (b1_of (b0_of hv3623) (bi_of hv2062))))))))
  with_reducible refine step_any_o0 fun _ => step_putO (t := 0) (kt := 78) (s0 := 4) (m := 157) (o := 9984) hX ?_ (by decide) (by decide) (by decide) fun X hX => ?_
  · exact cs_of (cr_of (ch4_of (ct_of (cu_of (b3_of (hi_of chi_of) (b2_of (lo_of clo_of) (b1_of (b0_of hv3623) (bi_of hv2062))))))))
  with_reducible refine step_x0 hX fun v3643 hv3643 => ?_
  exact step_ret ⟨hX, (b1_of (b0_of hv3643) (bi_of hv2062)), clo_of⟩

theorem t165 (v2062 : FVec Ideal S1x128 .f32) (v3646 : FVec Ideal S128x128 .f32) (cst_2843 : Ideal .f32) (hv2062 : Inv i 0 v2062) (hv3646 : B1 i 0 10112 v3646) (hcst_2843 : CLo cst_2843) (X : State Ideal) (hX : XO i 11520 11520 158 X) :
    Steps defs 𝒱 (c : Thread nD τ) E (St c R i) X (R.app (k0_part165 (F := Ideal) g) v2062 v3646 cst_2843) fun a Y => XO i 11520 11520 161 Y ∧ CR i 0 10240 4 a := by
  unfold Refs.app; rw [k0_part165_eq_skeleton]; unfold k0_part165_skel
  with_reducible refine step_any_o0 fun _ => step_putO (t := 0) (kt := 79) (s0 := 0) (m := 158) (o := 10112) hX ?_ (by decide) (by decide) (by decide) fun X hX => ?_
  · exact cs_of (cr_of (ch0_of (ct_of (cu_of (b3_of (hi_of chi_of) (b2_of (lo_of hcst_2843) hv3646))))))
  with_reducible refine step_any_o0 fun _ => step_putO (t := 0) (kt := 79) (s0 := 4) (m := 159) (o := 10112) hX ?_ (by decide) (by decide) (by decide) fun X hX => ?_
  · exact cs_of (cr_of (ch4_of (ct_of (cu_of (b3_of (hi_of chi_of) (b2_of (lo_of hcst_2843) hv3646))))))
  with_reducible refine step_x0 hX fun v3663 hv3663 => ?_
  with_reducible refine step_any_o0 fun _ => step_putO (t := 0) (kt := 80) (s0 := 0) (m := 160) (o := 10240) hX ?_ (by decide) (by decide) (by decide) fun X hX => ?_
  · exact cs_of (cr_of (ch0_of (ct_of (cu_of (b3_of (hi_of chi_of) (b2_of (lo_of clo_of) (b1_of (b0_of hv3663) (bi_of hv2062))))))))
  exact step_ret ⟨hX, (cr_of (ch4_of (ct_of (cu_of (b3_of (hi_of chi_of) (b2_of (lo_of clo_of) (b1_of (b0_of hv3663) (bi_of hv2062))))))))⟩

theorem t166 (v2062 : FVec Ideal S1x128 .f32) (v3679 : FVec Ideal S16x4x128 .fp8e4m3) (hv2062 : Inv i 0 v2062) (hv3679 : CR i 0 10240 4 v3679) (X : State Ideal) (hX : XO i 11520 11520 161 X) :
    Steps defs 𝒱 (c : Thread nD τ) E (St c R i) X (R.app (k0_part166 (F := Ideal) g) v2062 v3679) fun a Y => XO i 11520 11520 164 Y ∧ CHi a.1 ∧ B2 i 0 10496 a.2 := by
  unfold Refs.app; rw [k0_part166_eq_skeleton]; unfold k0_part166_skel
  with_reducible refine step_any_o0 fun _ => step_putO (t := 0) (kt := 80) (s0 := 4) (m := 161) (o := 10240) hX ?_ (by decide) (by decide) (by decide) fun X hX => ?_
  · exact cs_of hv3679
  with_reducible refine step_x0 hX fun v3683 hv3683 => ?_
  with_reducible refine step_any_o0 fun _ => step_putO (t := 0) (kt := 81) (s0 := 0) (m := 162) (o := 10368) hX ?_ (by decide) (by decide) (by decide) fun X hX => ?_
  · exact cs_of (cr_of (ch0_of (ct_of (cu_of (b3_of (hi_of chi_of) (b2_of (lo_of clo_of) (b1_of (b0_of hv3683) (bi_of hv2062))))))))
  with_reducible refine step_any_o0 fun _ => step_putO (t := 0) (kt := 81) (s0 := 4) (m := 163) (o := 10368) hX ?_ (by decide) (by decide) (by decide) fun X hX => ?_
  · exact cs_of (cr_of (ch4_of (ct_of (cu_of (b3_of (hi_of chi_of) (b2_of (lo_of clo_of) (b1_of (b0_of hv3683) (bi_of hv2062))))))))
  with_reducible refine step_x0 hX fun v3703 hv3703 => ?_
  exact step_ret ⟨hX, chi_of, (b2_of (lo_of clo_of) (b1_of (b0_of hv3703) (bi_of hv2062)))⟩

theorem t167 (v2062 : FVec Ideal S1x128 .f32) (cst_2890 : Ideal .f32) (v3708 : FVec Ideal S128x128 .f32) (hv2062 : Inv i 0 v2062) (hcst_2890 : CHi cst_2890) (hv3708 : B2 i 0 10496 v3708) (X : State Ideal) (hX : XO i 11520 11520 164 X) :
    Steps defs 𝒱 (c : Thread nD τ) E (St c R i) X (R.app (k0_part167 (F := Ideal) g) v2062 cst_2890 v3708) fun a Y => XO i 11520 11520 167 Y ∧ CR i 0 10624 4 a := by
  unfold Refs.app; rw [k0_part167_eq_skeleton]; unfold k0_part167_skel
  with_reducible refine step_any_o0 fun _ => step_putO (t := 0) (kt := 82) (s0 := 0) (m := 164) (o := 10496) hX ?_ (by decide) (by decide) (by decide) fun X hX => ?_
  · exact cs_of (cr_of (ch0_of (ct_of (cu_of (b3_of (hi_of hcst_2890) hv3708)))))
  with_reducible refine step_any_o0 fun _ => step_putO (t := 0) (kt := 82) (s0 := 4) (m := 165) (o := 10496) hX ?_ (by decide) (by decide) (by decide) fun X hX => ?_
  · exact cs_of (cr_of (ch4_of (ct_of (cu_of (b3_of (hi_of hcst_2890) hv3708)))))
  with_reducible refine step_x0 hX fun v3723 hv3723 => ?_
  with_reducible refine step_any_o0 fun _ => step_putO (t := 0) (kt := 83) (s0 := 0) (m := 166) (o := 10624) hX ?_ (by decide) (by decide) (by decide) fun X hX => ?_
  · exact cs_of (cr_of (ch0_of (ct_of (cu_of (b3_of (hi_of chi_of) (b2_of (lo_of clo_of) (b1_of (b0_of hv3723) (bi_of hv2062))))))))
  exact step_ret ⟨hX, (cr_of (ch4_of (ct_of (cu_of (b3_of (hi_of chi_of) (b2_of (lo_of clo_of) (b1_of (b0_of hv3723) (bi_of hv2062))))))))⟩

theorem t168 (v2062 : FVec Ideal S1x128 .f32) (v3739 : FVec Ideal S16x4x128 .fp8e4m3) (hv2062 : Inv i 0 v2062) (hv3739 : CR i 0 10624 4 v3739) (X : State Ideal) (hX : XO i 11520 11520 167 X) :
    Steps defs 𝒱 (c : Thread nD τ) E (St c R i) X (R.app (k0_part168 (F := Ideal) g) v2062 v3739) fun a Y => XO i 11520 11520 170 Y ∧ CU i 0 10880 a := by
  unfold Refs.app; rw [k0_part168_eq_skeleton]; unfold k0_part168_skel
  with_reducible refine step_any_o0 fun _ => step_putO (t := 0) (kt := 83) (s0 := 4) (m := 167) (o := 10624) hX ?_ (by decide) (by decide) (by decide) fun X hX => ?_
  · exact cs_of hv3739
  with_reducible refine step_x0 hX fun v3743 hv3743 => ?_
  with_reducible refine step_any_o0 fun _ => step_putO (t := 0) (kt := 84) (s0 := 0) (m := 168) (o := 10752) hX ?_ (by decide) (by decide) (by decide) fun X hX => ?_
  · exact cs_of (cr_of (ch0_of (ct_of (cu_of (b3_of (hi_of chi_of) (b2_of (lo_of clo_of) (b1_of (b0_of hv3743) (bi_of hv2062))))))))
  with_reducible refine step_any_o0 fun _ => step_putO (t := 0) (kt := 84) (s0 := 4) (m := 169) (o := 10752) hX ?_ (by decide) (by decide) (by decide) fun X hX => ?_
  · exact cs_of (cr_of (ch4_of (ct_of (cu_of (b3_of (hi_of chi_of) (b2_of (lo_of clo_of) (b1_of (b0_of hv3743) (bi_of hv2062))))))))
  with_reducible refine step_x0 hX fun v3763 hv3763 => ?_
  exact step_ret ⟨hX, (cu_of (b3_of (hi_of chi_of) (b2_of (lo_of clo_of) (b1_of (b0_of hv3763) (bi_of hv2062)))))⟩

theorem t169 (v2062 : FVec Ideal S1x128 .f32) (v3771 : FVec Ideal S128x128 .fp8e4m3) (hv2062 : Inv i 0 v2062) (hv3771 : CU i 0 10880 v3771) (X : State Ideal) (hX : XO i 11520 11520 170 X) :
    Steps defs 𝒱 (c : Thread nD τ) E (St c R i) X (R.app (k0_part169 (F := Ideal) g) v2062 v3771) fun a Y => XO i 11520 11520 173 Y ∧ CR i 0 11008 4 a := by
  unfold Refs.app; rw [k0_part169_eq_skeleton]; unfold k0_part169_skel
  with_reducible refine step_any_o0 fun _ => step_putO (t := 0) (kt := 85) (s0 := 0) (m := 170) (o := 10880) hX ?_ (by decide) (by decide) (by decide) fun X hX => ?_
  · exact cs_of (cr_of (ch0_of (ct_of hv3771)))
  with_reducible refine step_any_o0 fun _ => step_putO (t := 0) (kt := 85) (s0 := 4) (m := 171) (o := 10880) hX ?_ (by decide) (by decide) (by decide) fun X hX => ?_
  · exact cs_of (cr_of (ch4_of (ct_of hv3771)))
  with_reducible refine step_x0 hX fun v3783 hv3783 => ?_
  with_reducible refine step_any_o0 fun _ => step_putO (t := 0) (kt := 86) (s0 := 0) (m := 172) (o := 11008) hX ?_ (by decide) (by decide) (by decide) fun X hX => ?_
  · exact cs_of (cr_of (ch0_of (ct_of (cu_of (b3_of (hi_of chi_of) (b2_of (lo_of clo_of) (b1_of (b0_of hv3783) (bi_of hv2062))))))))
  exact step_ret ⟨hX, (cr_of (ch4_of (ct_of (cu_of (b3_of (hi_of chi_of) (b2_of (lo_of clo_of) (b1_of (b0_of hv3783) (bi_of hv2062))))))))⟩

theorem t170 (v2062 : FVec Ideal S1x128 .f32) (v3799 : FVec Ideal S16x4x128 .fp8e4m3) (hv2062 : Inv i 0 v2062) (hv3799 : CR i 0 11008 4 v3799) (X : State Ideal) (hX : XO i 11520 11520 173 X) :
    Steps defs 𝒱 (c : Thread nD τ) E (St c R i) X (R.app (k0_part170 (F := Ideal) g) v2062 v3799) fun a Y => XO i 11520 11520 176 Y ∧ CT i 0 11264 a.1 ∧ CR i 0 11264 0 a.2 := by
  unfold Refs.app; rw [k0_part170_eq_skeleton]; unfold k0_part170_skel
  with_reducible refine step_any_o0 fun _ => step_putO (t := 0) (kt := 86) (s0 := 4) (m := 173) (o := 11008) hX ?_ (by decide) (by decide) (by decide) fun X hX => ?_
  · exact cs_of hv3799
  with_reducible refine step_x0 hX fun v3803 hv3803 => ?_
  with_reducible refine step_any_o0 fun _ => step_putO (t := 0) (kt := 87) (s0 := 0) (m := 174) (o := 11136) hX ?_ (by decide) (by decide) (by decide) fun X hX => ?_
  · exact cs_of (cr_of (ch0_of (ct_of (cu_of (b3_of (hi_of chi_of) (b2_of (lo_of clo_of) (b1_of (b0_of hv3803) (bi_of hv2062))))))))
  with_reducible refine step_any_o0 fun _ => step_putO (t := 0) (kt := 87) (s0 := 4) (m := 175) (o := 11136) hX ?_ (by decide) (by decide) (by decide) fun X hX => ?_
  · exact cs_of (cr_of (ch4_of (ct_of (cu_of (b3_of (hi_of chi_of) (b2_of (lo_of clo_of) (b1_of (b0_of hv3803) (bi_of hv2062))))))))
  with_reducible refine step_x0 hX fun v3823 hv3823 => ?_
  exact step_ret ⟨hX, (ct_of (cu_of (b3_of (hi_of chi_of) (b2_of (lo_of clo_of) (b1_of (b0_of hv3823) (bi_of hv2062)))))), (cr_of (ch0_of (ct_of (cu_of (b3_of (hi_of chi_of) (b2_of (lo_of clo_of) (b1_of (b0_of hv3823) (bi_of hv2062))))))))⟩

theorem t171 (v2062 : FVec Ideal S1x128 .f32) (v3832 : FVec Ideal S128x128 .fp8e4m3) (v3834 : FVec Ideal S16x4x128 .fp8e4m3) (hv2062 : Inv i 0 v2062) (hv3832 : CT i 0 11264 v3832) (hv3834 : CR i 0 11264 0 v3834) (X : State Ideal) (hX : XO i 11520 11520 176 X) :
    Steps defs 𝒱 (c : Thread nD τ) E (St c R i) X (R.app (k0_part171 (F := Ideal) g) v2062 v3832 v3834) fun a Y => XO i 11520 11520 179 Y ∧ CS i 0 11392 4 a := by
  unfold Refs.app; rw [k0_part171_eq_skeleton]; unfold k0_part171_skel
  with_reducible refine step_any_o0 fun _ => step_putO (t := 0) (kt := 88) (s0 := 0) (m := 176) (o := 11264) hX ?_ (by decide) (by decide) (by decide) fun X hX => ?_
  · exact cs_of hv3834
  with_reducible refine step_any_o0 fun _ => step_putO (t := 0) (kt := 88) (s0 := 4) (m := 177) (o := 11264) hX ?_ (by decide) (by decide) (by decide) fun X hX => ?_
  · exact cs_of (cr_of (ch4_of hv3832))
  with_reducible refine step_x0 hX fun v3843 hv3843 => ?_
  with_reducible refine step_any_o0 fun _ => step_putO (t := 0) (kt := 89) (s0 := 0) (m := 178) (o := 11392) hX ?_ (by decide) (by decide) (by decide) fun X hX => ?_
  · exact cs_of (cr_of (ch0_of (ct_of (cu_of (b3_of (hi_of chi_of) (b2_of (lo_of clo_of) (b1_of (b0_of hv3843) (bi_of hv2062))))))))
  with_reducible refine step_any_o0 fun v3860 => ?_
  exact step_ret ⟨hX, (cs_of (cr_of (ch4_of (ct_of (cu_of (b3_of (hi_of chi_of) (b2_of (lo_of clo_of) (b1_of (b0_of hv3843) (bi_of hv2062)))))))))⟩

theorem t172 (arg2 : BitVec 32) (v2054 : FVec Ideal S1x128 .f32) (v3862 : FVec Ideal S1x16x1x1x4x128 .fp8e4m3) (hv2054 : QC i 0 v2054) (hv3862 : CS i 0 11392 4 v3862) (X : State Ideal) (hX : XO i 11520 11520 179 X) :
    Steps defs 𝒱 (c : Thread nD τ) E (St c R i) X (R.app (k0_part172 (F := Ideal) g) arg2 v2054 v3862) fun _ Y => XO i 11520 11520 180 Y := by
  unfold Refs.app; rw [k0_part172_eq_skeleton]; unfold k0_part172_skel
  with_reducible refine step_putO (t := 0) (kt := 89) (s0 := 4) (m := 179) (o := 11392) hX ?_ (by decide) (by decide) (by decide) fun X hX => ?_
  · exact hv3862
  with_reducible refine step_any_l1 fun _ => step_any_l1 fun _ => step_any_t1 fun _ => step_keep_t1 hX fun X hX => ?_
  exact step_ret hX

theorem t194 (v2036 : FVec Ideal S8x128 .f32) (v2061 v3874 v4207 v4439 v4614 v4615 v4620 v4625 : FVec Ideal S1x128 .f32) (cst_3483 : Ideal .f32) (hv2036 : Mx i 1 11520 v2036) (hv2061 : SC i 0 v2061) (X : State Ideal) (hX : XO i 11520 11520 180 X) :
    Steps defs 𝒱 (c : Thread nD τ) E (St c R i) X (R.app (k0_part194 (F := Ideal) g) v2036 v2061 v3874 v4207 v4439 v4614 v4615 v4620 v4625 cst_3483) fun a Y => XO i 11520 11520 180 Y ∧ QC i 1 a.1 ∧ SC i 1 a.2.1 ∧ Inv i 1 a.2.2.1 ∧ CT i 1 0 a.2.2.2.1 ∧ CR i 1 0 0 a.2.2.2.2.1 := by
  unfold Refs.app; rw [k0_part194_eq_skeleton]; unfold k0_part194_skel
  with_reducible refine step_any_st fun _ => step_keep_st hX fun X hX => ?_
  with_reducible refine step_qs1 fun v4634 hv4634 => ?_
  with_reducible refine step_x1 hX fun v4646 hv4646 => ?_
  with_reducible refine step_any_o0 fun v4658 => ?_
  exact step_ret ⟨hX, (qc_of hv4634), (sc_of (m1_of hv2036) (qc_one (qc_of hv4634))), (inv_of (qc_one (qc_of hv4634)) (sc_of (m1_of hv2036) (qc_one (qc_of hv4634)))), (ct_of (cu_of (b3_of (hi_of chi_of) (b2_of (lo_of clo_of) (b1_of (b0_of hv4646) (bi_of (inv_of (qc_one (qc_of hv4634)) (sc_of (m1_of hv2036) (qc_one (qc_of hv4634)))))))))), (cr_of (ch0_of (ct_of (cu_of (b3_of (hi_of chi_of) (b2_of (lo_of clo_of) (b1_of (b0_of hv4646) (bi_of (inv_of (qc_one (qc_of hv4634)) (sc_of (m1_of hv2036) (qc_one (qc_of hv4634))))))))))))⟩

end Cert.KernelIdeal.Own

end
-- ==== Proof.Parts5.lean ====
/-
  Parts 195 to 226 of the body, followed: what each leaves in the scaled products, in the first result and in its values.
-/
module

public import proofs.«01_k».proof.Proof.Gen.KernelIdeal.Skeleton
public import proofs.«01_k».proof.Proof.Follow

@[expose] public section

set_option maxRecDepth 65536
set_option maxHeartbeats 0

noncomputable section

namespace Cert.KernelIdeal.Own

open Idealize.ShloMosaic Idealize.ShloMosaic.TcCoe Idealize.SL Idealize.SL.Sem
open Cert.Steps Cert.KernelIdeal.Gen

variable (defs : Defs nD τ sig (Elt Ideal) Λ₀) (𝒱 : Variants) (c : Dev nD) (E : Set ℕ) (R : Refs) (i : Ins Ideal) (g : grid0.Coords)

theorem t195 (v4645 : FVec Ideal S1x128 .f32) (v4655 : FVec Ideal S128x128 .fp8e4m3) (v4657 : FVec Ideal S16x4x128 .fp8e4m3) (v4658 : Vec Ideal S1x16x1x1x4x128 .fp8e4m3) (hv4645 : Inv i 1 v4645) (hv4655 : CT i 1 0 v4655) (hv4657 : CR i 1 0 0 v4657) (X : State Ideal) (hX : XO i 11520 11520 180 X) :
    Steps defs 𝒱 (c : Thread nD τ) E (St c R i) X (R.app (k0_part195 (F := Ideal) g) v4645 v4655 v4657 v4658) fun a Y => XO i 11520 11520 184 Y ∧ B0 i 1 256 a.1 ∧ BI i 1 a.2 := by
  unfold Refs.app; rw [k0_part195_eq_skeleton]; unfold k0_part195_skel
  with_reducible refine step_putO (t := 1) (kt := 0) (s0 := 0) (m := 180) (o := 0) hX ?_ (by decide) (by decide) (by decide) fun X hX => ?_
  · exact cs_of hv4657
  with_reducible refine step_any_o0 fun _ => step_putO (t := 1) (kt := 0) (s0 := 4) (m := 181) (o := 0) hX ?_ (by decide) (by decide) (by decide) fun X hX => ?_
  · exact cs_of (cr_of (ch4_of hv4655))
  with_reducible refine step_x1 hX fun v4666 hv4666 => ?_
  with_reducible refine step_any_o0 fun _ => step_putO (t := 1) (kt := 1) (s0 := 0) (m := 182) (o := 128) hX ?_ (by decide) (by decide) (by decide) fun X hX => ?_
  · exact cs_of (cr_of (ch0_of (ct_of (cu_of (b3_of (hi_of chi_of) (b2_of (lo_of clo_of) (b1_of (b0_of hv4666) (bi_of hv4645))))))))
  with_reducible refine step_any_o0 fun _ => step_putO (t := 1) (kt := 1) (s0 := 4) (m := 183) (o := 128) hX ?_ (by decide) (by decide) (by decide) fun X hX => ?_
  · exact cs_of (cr_of (ch4_of (ct_of (cu_of (b3_of (hi_of chi_of) (b2_of (lo_of clo_of) (b1_of (b0_of hv4666) (bi_of hv4645))))))))
  with_reducible refine step_x1 hX fun v4686 hv4686 => ?_
  exact step_ret ⟨hX, (b0_of hv4686), (bi_of hv4645)⟩

theorem t196 (v4645 : FVec Ideal S1x128 .f32) (v4687 v4688 : FVec Ideal S128x128 .f32) (hv4645 : Inv i 1 v4645) (hv4687 : B0 i 1 256 v4687) (hv4688 : BI i 1 v4688) (X : State Ideal) (hX : XO i 11520 11520 184 X) :
    Steps defs 𝒱 (c : Thread nD τ) E (St c R i) X (R.app (k0_part196 (F := Ideal) g) v4645 v4687 v4688) fun a Y => XO i 11520 11520 187 Y ∧ CT i 1 384 a := by
  unfold Refs.app; rw [k0_part196_eq_skeleton]; unfold k0_part196_skel
  with_reducible refine step_any_o0 fun _ => step_putO (t := 1) (kt := 2) (s0 := 0) (m := 184) (o := 256) hX ?_ (by decide) (by decide) (by decide) fun X hX => ?_
  · exact cs_of (cr_of (ch0_of (ct_of (cu_of (b3_of (hi_of chi_of) (b2_of (lo_of clo_of) (b1_of hv4687 hv4688)))))))
  with_reducible refine step_any_o0 fun _ => step_putO (t := 1) (kt := 2) (s0 := 4) (m := 185) (o := 256) hX ?_ (by decide) (by decide) (by decide) fun X hX => ?_
  · exact cs_of (cr_of (ch4_of (ct_of (cu_of (b3_of (hi_of chi_of) (b2_of (lo_of clo_of) (b1_of hv4687 hv4688)))))))
  with_reducible refine step_x1 hX fun v4706 hv4706 => ?_
  with_reducible refine step_any_o0 fun _ => step_putO (t := 1) (kt := 3) (s0 := 0) (m := 186) (o := 384) hX ?_ (by decide) (by decide) (by decide) fun X hX => ?_
  · exact cs_of (cr_of (ch0_of (ct_of (cu_of (b3_of (hi_of chi_of) (b2_of (lo_of clo_of) (b1_of (b0_of hv4706) (bi_of hv4645))))))))
  exact step_ret ⟨hX, (ct_of (cu_of (b3_of (hi_of chi_of) (b2_of (lo_of clo_of) (b1_of (b0_of hv4706) (bi_of hv4645))))))⟩

theorem t197 (v4645 : FVec Ideal S1x128 .f32) (v4715 : FVec Ideal S128x128 .fp8e4m3) (hv4645 : Inv i 1 v4645) (hv4715 : CT i 1 384 v4715) (X : State Ideal) (hX : XO i 11520 11520 187 X) :
    Steps defs 𝒱 (c : Thread nD τ) E (St c R i) X (R.app (k0_part197 (F := Ideal) g) v4645 v4715) fun a Y => XO i 11520 11520 190 Y ∧ B1 i 1 640 a.1 ∧ CLo a.2.1 ∧ CHi a.2.2 := by
  unfold Refs.app; rw [k0_part197_eq_skeleton]; unfold k0_part197_skel
  with_reducible refine step_any_o0 fun _ => step_putO (t := 1) (kt := 3) (s0 := 4) (m := 187) (o := 384) hX ?_ (by decide) (by decide) (by decide) fun X hX => ?_
  · exact cs_of (cr_of (ch4_of hv4715))
  with_reducible refine step_x1 hX fun v4726 hv4726 => ?_
  with_reducible refine step_any_o0 fun _ => step_putO (t := 1) (kt := 4) (s0 := 0) (m := 188) (o := 512) hX ?_ (by decide) (by decide) (by decide) fun X hX => ?_
  · exact cs_of (cr_of (ch0_of (ct_of (cu_of (b3_of (hi_of chi_of) (b2_of (lo_of clo_of) (b1_of (b0_of hv4726) (bi_of hv4645))))))))
  with_reducible refine step_any_o0 fun _ => step_putO (t := 1) (kt := 4) (s0 := 4) (m := 189) (o := 512) hX ?_ (by decide) (by decide) (by decide) fun X hX => ?_
  · exact cs_of (cr_of (ch4_of (ct_of (cu_of (b3_of (hi_of chi_of) (b2_of (lo_of clo_of) (b1_of (b0_of hv4726) (bi_of hv4645))))))))
  with_reducible refine step_x1 hX fun v4746 hv4746 => ?_
  exact step_ret ⟨hX, (b1_of (b0_of hv4746) (bi_of hv4645)), clo_of, chi_of⟩

theorem t198 (v4645 : FVec Ideal S1x128 .f32) (v4749 : FVec Ideal S128x128 .f32) (cst_3587 cst_3588 : Ideal .f32) (hv4645 : Inv i 1 v4645) (hv4749 : B1 i 1 640 v4749) (hcst_3587 : CLo cst_3587) (hcst_3588 : CHi cst_3588) (X : State Ideal) (hX : XO i 11520 11520 190 X) :
    Steps defs 𝒱 (c : Thread nD τ) E (St c R i) X (R.app (k0_part198 (F := Ideal) g) v4645 v4749 cst_3587 cst_3588) fun a Y => XO i 11520 11520 193 Y ∧ CR i 1 768 4 a := by
  unfold Refs.app; rw [k0_part198_eq_skeleton]; unfold k0_part198_skel
  with_reducible refine step_any_o0 fun _ => step_putO (t := 1) (kt := 5) (s0 := 0) (m := 190) (o := 640) hX ?_ (by decide) (by decide) (by decide) fun X hX => ?_
  · exact cs_of (cr_of (ch0_of (ct_of (cu_of (b3_of (hi_of hcst_3588) (b2_of (lo_of hcst_3587) hv4749))))))
  with_reducible refine step_any_o0 fun _ => step_putO (t := 1) (kt := 5) (s0 := 4) (m := 191) (o := 640) hX ?_ (by decide) (by decide) (by decide) fun X hX => ?_
  · exact cs_of (cr_of (ch4_of (ct_of (cu_of (b3_of (hi_of hcst_3588) (b2_of (lo_of hcst_3587) hv4749))))))
  with_reducible refine step_x1 hX fun v4766 hv4766 => ?_
  with_reducible refine step_any_o0 fun _ => step_putO (t := 1) (kt := 6) (s0 := 0) (m := 192) (o := 768) hX ?_ (by decide) (by decide) (by decide) fun X hX => ?_
  · exact cs_of (cr_of (ch0_of (ct_of (cu_of (b3_of (hi_of chi_of) (b2_of (lo_of clo_of) (b1_of (b0_of hv4766) (bi_of hv4645))))))))
  exact step_ret ⟨hX, (cr_of (ch4_of (ct_of (cu_of (b3_of (hi_of chi_of) (b2_of (lo_of clo_of) (b1_of (b0_of hv4766) (bi_of hv4645))))))))⟩

theorem t199 (v4645 : FVec Ideal S1x128 .f32) (v4782 : FVec Ideal S16x4x128 .fp8e4m3) (hv4645 : Inv i 1 v4645) (hv4782 : CR i 1 768 4 v4782) (X : State Ideal) (hX : XO i 11520 11520 193 X) :
    Steps defs 𝒱 (c : Thread nD τ) E (St c R i) X (R.app (k0_part199 (F := Ideal) g) v4645 v4782) fun a Y => XO i 11520 11520 196 Y ∧ B2 i 1 1024 a.1 ∧ Hi a.2 := by
  unfold Refs.app; rw [k0_part199_eq_skeleton]; unfold k0_part199_skel
  with_reducible refine step_any_o0 fun _ => step_putO (t := 1) (kt := 6) (s0 := 4) (m := 193) (o := 768) hX ?_ (by decide) (by decide) (by decide) fun X hX => ?_
  · exact cs_of hv4782
  with_reducible refine step_x1 hX fun v4786 hv4786 => ?_
  with_reducible refine step_any_o0 fun _ => step_putO (t := 1) (kt := 7) (s0 := 0) (m := 194) (o := 896) hX ?_ (by decide) (by decide) (by decide) fun X hX => ?_
  · exact cs_of (cr_of (ch0_of (ct_of (cu_of (b3_of (hi_of chi_of) (b2_of (lo_of clo_of) (b1_of (b0_of hv4786) (bi_of hv4645))))))))
  with_reducible refine step_any_o0 fun _ => step_putO (t := 1) (kt := 7) (s0 := 4) (m := 195) (o := 896) hX ?_ (by decide) (by decide) (by decide) fun X hX => ?_
  · exact cs_of (cr_of (ch4_of (ct_of (cu_of (b3_of (hi_of chi_of) (b2_of (lo_of clo_of) (b1_of (b0_of hv4786) (bi_of hv4645))))))))
  with_reducible refine step_x1 hX fun v4806 hv4806 => ?_
  exact step_ret ⟨hX, (b2_of (lo_of clo_of) (b1_of (b0_of hv4806) (bi_of hv4645))), (hi_of chi_of)⟩

theorem t200 (v4645 : FVec Ideal S1x128 .f32) (v4811 v4812 : FVec Ideal S128x128 .f32) (hv4645 : Inv i 1 v4645) (hv4811 : B2 i 1 1024 v4811) (hv4812 : Hi v4812) (X : State Ideal) (hX : XO i 11520 11520 196 X) :
    Steps defs 𝒱 (c : Thread nD τ) E (St c R i) X (R.app (k0_part200 (F := Ideal) g) v4645 v4811 v4812) fun a Y => XO i 11520 11520 199 Y ∧ CR i 1 1152 4 a := by
  unfold Refs.app; rw [k0_part200_eq_skeleton]; unfold k0_part200_skel
  with_reducible refine step_any_o0 fun _ => step_putO (t := 1) (kt := 8) (s0 := 0) (m := 196) (o := 1024) hX ?_ (by decide) (by decide) (by decide) fun X hX => ?_
  · exact cs_of (cr_of (ch0_of (ct_of (cu_of (b3_of hv4812 hv4811)))))
  with_reducible refine step_any_o0 fun _ => step_putO (t := 1) (kt := 8) (s0 := 4) (m := 197) (o := 1024) hX ?_ (by decide) (by decide) (by decide) fun X hX => ?_
  · exact cs_of (cr_of (ch4_of (ct_of (cu_of (b3_of hv4812 hv4811)))))
  with_reducible refine step_x1 hX fun v4826 hv4826 => ?_
  with_reducible refine step_any_o0 fun _ => step_putO (t := 1) (kt := 9) (s0 := 0) (m := 198) (o := 1152) hX ?_ (by decide) (by decide) (by decide) fun X hX => ?_
  · exact cs_of (cr_of (ch0_of (ct_of (cu_of (b3_of (hi_of chi_of) (b2_of (lo_of clo_of) (b1_of (b0_of hv4826) (bi_of hv4645))))))))
  exact step_ret ⟨hX, (cr_of (ch4_of (ct_of (cu_of (b3_of (hi_of chi_of) (b2_of (lo_of clo_of) (b1_of (b0_of hv4826) (bi_of hv4645))))))))⟩

theorem t201 (v4645 : FVec Ideal S1x128 .f32) (v4842 : FVec Ideal S16x4x128 .fp8e4m3) (hv4645 : Inv i 1 v4645) (hv4842 : CR i 1 1152 4 v4842) (X : State Ideal) (hX : XO i 11520 11520 199 X) :
    Steps defs 𝒱 (c : Thread nD τ) E (St c R i) X (R.app (k0_part201 (F := Ideal) g) v4645 v4842) fun a Y => XO i 11520 11520 202 Y ∧ CT i 1 1408 a := by
  unfold Refs.app; rw [k0_part201_eq_skeleton]; unfold k0_part201_skel
  with_reducible refine step_any_o0 fun _ => step_putO (t := 1) (kt := 9) (s0 := 4) (m := 199) (o := 1152) hX ?_ (by decide) (by decide) (by decide) fun X hX => ?_
  · exact cs_of hv4842
  with_reducible refine step_x1 hX fun v4846 hv4846 => ?_
  with_reducible refine step_any_o0 fun _ => step_putO (t := 1) (kt := 10) (s0 := 0) (m := 200) (o := 1280) hX ?_ (by decide) (by decide) (by decide) fun X hX => ?_
  · exact cs_of (cr_of (ch0_of (ct_of (cu_of (b3_of (hi_of chi_of) (b2_of (lo_of clo_of) (b1_of (b0_of hv4846) (bi_of hv4645))))))))
  with_reducible refine step_any_o0 fun _ => step_putO (t := 1) (kt := 10) (s0 := 4) (m := 201) (o := 1280) hX ?_ (by decide) (by decide) (by decide) fun X hX => ?_
  · exact cs_of (cr_of (ch4_of (ct_of (cu_of (b3_of (hi_of chi_of) (b2_of (lo_of clo_of) (b1_of (b0_of hv4846) (bi_of hv4645))))))))
  with_reducible refine step_x1 hX fun v4866 hv4866 => ?_
  exact step_ret ⟨hX, (ct_of (cu_of (b3_of (hi_of chi_of) (b2_of (lo_of clo_of) (b1_of (b0_of hv4866) (bi_of hv4645))))))⟩

theorem t202 (v4645 : FVec Ideal S1x128 .f32) (v4875 : FVec Ideal S128x128 .fp8e4m3) (hv4645 : Inv i 1 v4645) (hv4875 : CT i 1 1408 v4875) (X : State Ideal) (hX : XO i 11520 11520 202 X) :
    Steps defs 𝒱 (c : Thread nD τ) E (St c R i) X (R.app (k0_part202 (F := Ideal) g) v4645 v4875) fun a Y => XO i 11520 11520 205 Y ∧ CR i 1 1536 4 a.1 := by
  unfold Refs.app; rw [k0_part202_eq_skeleton]; unfold k0_part202_skel
  with_reducible refine step_any_o0 fun _ => step_putO (t := 1) (kt := 11) (s0 := 0) (m := 202) (o := 1408) hX ?_ (by decide) (by decide) (by decide) fun X hX => ?_
  · exact cs_of (cr_of (ch0_of hv4875))
  with_reducible refine step_any_o0 fun _ => step_putO (t := 1) (kt := 11) (s0 := 4) (m := 203) (o := 1408) hX ?_ (by decide) (by decide) (by decide) fun X hX => ?_
  · exact cs_of (cr_of (ch4_of hv4875))
  with_reducible refine step_x1 hX fun v4886 hv4886 => ?_
  with_reducible refine step_any_o0 fun _ => step_putO (t := 1) (kt := 12) (s0 := 0) (m := 204) (o := 1536) hX ?_ (by decide) (by decide) (by decide) fun X hX => ?_
  · exact cs_of (cr_of (ch0_of (ct_of (cu_of (b3_of (hi_of chi_of) (b2_of (lo_of clo_of) (b1_of (b0_of hv4886) (bi_of hv4645))))))))
  with_reducible refine step_any_o0 fun v4903 => ?_
  exact step_ret ⟨hX, (cr_of (ch4_of (ct_of (cu_of (b3_of (hi_of chi_of) (b2_of (lo_of clo_of) (b1_of (b0_of hv4886) (bi_of hv4645))))))))⟩

theorem t203 (v4645 : FVec Ideal S1x128 .f32) (v4902 : FVec Ideal S16x4x128 .fp8e4m3) (v4903 : Vec Ideal S1x16x1x1x4x128 .fp8e4m3) (hv4645 : Inv i 1 v4645) (hv4902 : CR i 1 1536 4 v4902) (X : State Ideal) (hX : XO i 11520 11520 205 X) :
    Steps defs 𝒱 (c : Thread nD τ) E (St c R i) X (R.app (k0_part203 (F := Ideal) g) v4645 v4902 v4903) fun a Y => XO i 11520 11520 208 Y ∧ CT i 1 1792 a.1 ∧ CR i 1 1792 0 a.2 := by
  unfold Refs.app; rw [k0_part203_eq_skeleton]; unfold k0_part203_skel
  with_reducible refine step_putO (t := 1) (kt := 12) (s0 := 4) (m := 205) (o := 1536) hX ?_ (by decide) (by decide) (by decide) fun X hX => ?_
  · exact cs_of hv4902
  with_reducible refine step_x1 hX fun v4906 hv4906 => ?_
  with_reducible refine step_any_o0 fun _ => step_putO (t := 1) (kt := 13) (s0 := 0) (m := 206) (o := 1664) hX ?_ (by decide) (by decide) (by decide) fun X hX => ?_
  · exact cs_of (cr_of (ch0_of (ct_of (cu_of (b3_of (hi_of chi_of) (b2_of (lo_of clo_of) (b1_of (b0_of hv4906) (bi_of hv4645))))))))
  with_reducible refine step_any_o0 fun _ => step_putO (t := 1) (kt := 13) (s0 := 4) (m := 207) (o := 1664) hX ?_ (by decide) (by decide) (by decide) fun X hX => ?_
  · exact cs_of (cr_of (ch4_of (ct_of (cu_of (b3_of (hi_of chi_of) (b2_of (lo_of clo_of) (b1_of (b0_of hv4906) (bi_of hv4645))))))))
  with_reducible refine step_x1 hX fun v4926 hv4926 => ?_
  exact step_ret ⟨hX, (ct_of (cu_of (b3_of (hi_of chi_of) (b2_of (lo_of clo_of) (b1_of (b0_of hv4926) (bi_of hv4645)))))), (cr_of (ch0_of (ct_of (cu_of (b3_of (hi_of chi_of) (b2_of (lo_of clo_of) (b1_of (b0_of hv4926) (bi_of hv4645))))))))⟩

theorem t204 (v4645 : FVec Ideal S1x128 .f32) (v4935 : FVec Ideal S128x128 .fp8e4m3) (v4937 : FVec Ideal S16x4x128 .fp8e4m3) (hv4645 : Inv i 1 v4645) (hv4935 : CT i 1 1792 v4935) (hv4937 : CR i 1 1792 0 v4937) (X : State Ideal) (hX : XO i 11520 11520 208 X) :
    Steps defs 𝒱 (c : Thread nD τ) E (St c R i) X (R.app (k0_part204 (F := Ideal) g) v4645 v4935 v4937) fun _ Y => XO i 11520 11520 212 Y := by
  unfold Refs.app; rw [k0_part204_eq_skeleton]; unfold k0_part204_skel
  with_reducible refine step_any_o0 fun _ => step_putO (t := 1) (kt := 14) (s0 := 0) (m := 208) (o := 1792) hX ?_ (by decide) (by decide) (by decide) fun X hX => ?_
  · exact cs_of hv4937
  with_reducible refine step_any_o0 fun _ => step_putO (t := 1) (kt := 14) (s0 := 4) (m := 209) (o := 1792) hX ?_ (by decide) (by decide) (by decide) fun X hX => ?_
  · exact cs_of (cr_of (ch4_of hv4935))
  with_reducible refine step_x1 hX fun v4946 hv4946 => ?_
  with_reducible refine step_any_o0 fun _ => step_putO (t := 1) (kt := 15) (s0 := 0) (m := 210) (o := 1920) hX ?_ (by decide) (by decide) (by decide) fun X hX => ?_
  · exact cs_of (cr_of (ch0_of (ct_of (cu_of (b3_of (hi_of chi_of) (b2_of (lo_of clo_of) (b1_of (b0_of hv4946) (bi_of hv4645))))))))
  with_reducible refine step_any_o0 fun _ => step_putO (t := 1) (kt := 15) (s0 := 4) (m := 211) (o := 1920) hX ?_ (by decide) (by decide) (by decide) fun X hX => ?_
  · exact cs_of (cr_of (ch4_of (ct_of (cu_of (b3_of (hi_of chi_of) (b2_of (lo_of clo_of) (b1_of (b0_of hv4946) (bi_of hv4645))))))))
  exact step_ret hX

theorem t205 (v4645 : FVec Ideal S1x128 .f32) (hv4645 : Inv i 1 v4645) (X : State Ideal) (hX : XO i 11520 11520 212 X) :
    Steps defs 𝒱 (c : Thread nD τ) E (St c R i) X (R.app (k0_part205 (F := Ideal) g) v4645) fun a Y => XO i 11520 11520 214 Y ∧ CT i 1 2176 a.1 ∧ CR i 1 2176 0 a.2 := by
  unfold Refs.app; rw [k0_part205_eq_skeleton]; unfold k0_part205_skel
  with_reducible refine step_x1 hX fun v4966 hv4966 => ?_
  with_reducible refine step_any_o0 fun _ => step_putO (t := 1) (kt := 16) (s0 := 0) (m := 212) (o := 2048) hX ?_ (by decide) (by decide) (by decide) fun X hX => ?_
  · exact cs_of (cr_of (ch0_of (ct_of (cu_of (b3_of (hi_of chi_of) (b2_of (lo_of clo_of) (b1_of (b0_of hv4966) (bi_of hv4645))))))))
  with_reducible refine step_any_o0 fun _ => step_putO (t := 1) (kt := 16) (s0 := 4) (m := 213) (o := 2048) hX ?_ (by decide) (by decide) (by decide) fun X hX => ?_
  · exact cs_of (cr_of (ch4_of (ct_of (cu_of (b3_of (hi_of chi_of) (b2_of (lo_of clo_of) (b1_of (b0_of hv4966) (bi_of hv4645))))))))
  with_reducible refine step_x1 hX fun v4986 hv4986 => ?_
  exact step_ret ⟨hX, (ct_of (cu_of (b3_of (hi_of chi_of) (b2_of (lo_of clo_of) (b1_of (b0_of hv4986) (bi_of hv4645)))))), (cr_of (ch0_of (ct_of (cu_of (b3_of (hi_of chi_of) (b2_of (lo_of clo_of) (b1_of (b0_of hv4986) (bi_of hv4645))))))))⟩

theorem t206 (v4645 : FVec Ideal S1x128 .f32) (v4995 : FVec Ideal S128x128 .fp8e4m3) (v4997 : FVec Ideal S16x4x128 .fp8e4m3) (hv4645 : Inv i 1 v4645) (hv4995 : CT i 1 2176 v4995) (hv4997 : CR i 1 2176 0 v4997) (X : State Ideal) (hX : XO i 11520 11520 214 X) :
    Steps defs 𝒱 (c : Thread nD τ) E (St c R i) X (R.app (k0_part206 (F := Ideal) g) v4645 v4995 v4997) fun _ Y => XO i 11520 11520 218 Y := by
  unfold Refs.app; rw [k0_part206_eq_skeleton]; unfold k0_part206_skel
  with_reducible refine step_any_o0 fun _ => step_putO (t := 1) (kt := 17) (s0 := 0) (m := 214) (o := 2176) hX ?_ (by decide) (by decide) (by decide) fun X hX => ?_
  · exact cs_of hv4997
  with_reducible refine step_any_o0 fun _ => step_putO (t := 1) (kt := 17) (s0 := 4) (m := 215) (o := 2176) hX ?_ (by decide) (by decide) (by decide) fun X hX => ?_
  · exact cs_of (cr_of (ch4_of hv4995))
  with_reducible refine step_x1 hX fun v5006 hv5006 => ?_
  with_reducible refine step_any_o0 fun _ => step_putO (t := 1) (kt := 18) (s0 := 0) (m := 216) (o := 2304) hX ?_ (by decide) (by decide) (by decide) fun X hX => ?_
  · exact cs_of (cr_of (ch0_of (ct_of (cu_of (b3_of (hi_of chi_of) (b2_of (lo_of clo_of) (b1_of (b0_of hv5006) (bi_of hv4645))))))))
  with_reducible refine step_any_o0 fun _ => step_putO (t := 1) (kt := 18) (s0 := 4) (m := 217) (o := 2304) hX ?_ (by decide) (by decide) (by decide) fun X hX => ?_
  · exact cs_of (cr_of (ch4_of (ct_of (cu_of (b3_of (hi_of chi_of) (b2_of (lo_of clo_of) (b1_of (b0_of hv5006) (bi_of hv4645))))))))
  exact step_ret hX

theorem t207 (v4645 : FVec Ideal S1x128 .f32) (hv4645 : Inv i 1 v4645) (X : State Ideal) (hX : XO i 11520 11520 218 X) :
    Steps defs 𝒱 (c : Thread nD τ) E (St c R i) X (R.app (k0_part207 (F := Ideal) g) v4645) fun a Y => XO i 11520 11520 220 Y ∧ CT i 1 2560 a.1 ∧ CR i 1 2560 0 a.2.1 := by
  unfold Refs.app; rw [k0_part207_eq_skeleton]; unfold k0_part207_skel
  with_reducible refine step_x1 hX fun v5026 hv5026 => ?_
  with_reducible refine step_any_o0 fun _ => step_putO (t := 1) (kt := 19) (s0 := 0) (m := 218) (o := 2432) hX ?_ (by decide) (by decide) (by decide) fun X hX => ?_
  · exact cs_of (cr_of (ch0_of (ct_of (cu_of (b3_of (hi_of chi_of) (b2_of (lo_of clo_of) (b1_of (b0_of hv5026) (bi_of hv4645))))))))
  with_reducible refine step_any_o0 fun _ => step_putO (t := 1) (kt := 19) (s0 := 4) (m := 219) (o := 2432) hX ?_ (by decide) (by decide) (by decide) fun X hX => ?_
  · exact cs_of (cr_of (ch4_of (ct_of (cu_of (b3_of (hi_of chi_of) (b2_of (lo_of clo_of) (b1_of (b0_of hv5026) (bi_of hv4645))))))))
  with_reducible refine step_x1 hX fun v5046 hv5046 => ?_
  with_reducible refine step_any_o0 fun v5058 => ?_
  exact step_ret ⟨hX, (ct_of (cu_of (b3_of (hi_of chi_of) (b2_of (lo_of clo_of) (b1_of (b0_of hv5046) (bi_of hv4645)))))), (cr_of (ch0_of (ct_of (cu_of (b3_of (hi_of chi_of) (b2_of (lo_of clo_of) (b1_of (b0_of hv5046) (bi_of hv4645))))))))⟩

theorem t208 (v4645 : FVec Ideal S1x128 .f32) (v5055 : FVec Ideal S128x128 .fp8e4m3) (v5057 : FVec Ideal S16x4x128 .fp8e4m3) (v5058 : Vec Ideal S1x16x1x1x4x128 .fp8e4m3) (hv4645 : Inv i 1 v4645) (hv5055 : CT i 1 2560 v5055) (hv5057 : CR i 1 2560 0 v5057) (X : State Ideal) (hX : XO i 11520 11520 220 X) :
    Steps defs 𝒱 (c : Thread nD τ) E (St c R i) X (R.app (k0_part208 (F := Ideal) g) v4645 v5055 v5057 v5058) fun a Y => XO i 11520 11520 224 Y ∧ B0 i 1 2816 a.1 ∧ BI i 1 a.2 := by
  unfold Refs.app; rw [k0_part208_eq_skeleton]; unfold k0_part208_skel
  with_reducible refine step_putO (t := 1) (kt := 20) (s0 := 0) (m := 220) (o := 2560) hX ?_ (by decide) (by decide) (by decide) fun X hX => ?_
  · exact cs_of hv5057
  with_reducible refine step_any_o0 fun _ => step_putO (t := 1) (kt := 20) (s0 := 4) (m := 221) (o := 2560) hX ?_ (by decide) (by decide) (by decide) fun X hX => ?_
  · exact cs_of (cr_of (ch4_of hv5055))
  with_reducible refine step_x1 hX fun v5066 hv5066 => ?_
  with_reducible refine step_any_o0 fun _ => step_putO (t := 1) (kt := 21) (s0 := 0) (m := 222) (o := 2688) hX ?_ (by decide) (by decide) (by decide) fun X hX => ?_
  · exact cs_of (cr_of (ch0_of (ct_of (cu_of (b3_of (hi_of chi_of) (b2_of (lo_of clo_of) (b1_of (b0_of hv5066) (bi_of hv4645))))))))
  with_reducible refine step_any_o0 fun _ => step_putO (t := 1) (kt := 21) (s0 := 4) (m := 223) (o := 2688) hX ?_ (by decide) (by decide) (by decide) fun X hX => ?_
  · exact cs_of (cr_of (ch4_of (ct_of (cu_of (b3_of (hi_of chi_of) (b2_of (lo_of clo_of) (b1_of (b0_of hv5066) (bi_of hv4645))))))))
  with_reducible refine step_x1 hX fun v5086 hv5086 => ?_
  exact step_ret ⟨hX, (b0_of hv5086), (bi_of hv4645)⟩

theorem t209 (v4645 : FVec Ideal S1x128 .f32) (v5087 v5088 : FVec Ideal S128x128 .f32) (hv4645 : Inv i 1 v4645) (hv5087 : B0 i 1 2816 v5087) (hv5088 : BI i 1 v5088) (X : State Ideal) (hX : XO i 11520 11520 224 X) :
    Steps defs 𝒱 (c : Thread nD τ) E (St c R i) X (R.app (k0_part209 (F := Ideal) g) v4645 v5087 v5088) fun a Y => XO i 11520 11520 227 Y ∧ CT i 1 2944 a := by
  unfold Refs.app; rw [k0_part209_eq_skeleton]; unfold k0_part209_skel
  with_reducible refine step_any_o0 fun _ => step_putO (t := 1) (kt := 22) (s0 := 0) (m := 224) (o := 2816) hX ?_ (by decide) (by decide) (by decide) fun X hX => ?_
  · exact cs_of (cr_of (ch0_of (ct_of (cu_of (b3_of (hi_of chi_of) (b2_of (lo_of clo_of) (b1_of hv5087 hv5088)))))))
  with_reducible refine step_any_o0 fun _ => step_putO (t := 1) (kt := 22) (s0 := 4) (m := 225) (o := 2816) hX ?_ (by decide) (by decide) (by decide) fun X hX => ?_
  · exact cs_of (cr_of (ch4_of (ct_of (cu_of (b3_of (hi_of chi_of) (b2_of (lo_of clo_of) (b1_of hv5087 hv5088)))))))
  with_reducible refine step_x1 hX fun v5106 hv5106 => ?_
  with_reducible refine step_any_o0 fun _ => step_putO (t := 1) (kt := 23) (s0 := 0) (m := 226) (o := 2944) hX ?_ (by decide) (by decide) (by decide) fun X hX => ?_
  · exact cs_of (cr_of (ch0_of (ct_of (cu_of (b3_of (hi_of chi_of) (b2_of (lo_of clo_of) (b1_of (b0_of hv5106) (bi_of hv4645))))))))
  exact step_ret ⟨hX, (ct_of (cu_of (b3_of (hi_of chi_of) (b2_of (lo_of clo_of) (b1_of (b0_of hv5106) (bi_of hv4645))))))⟩

theorem t210 (v4645 : FVec Ideal S1x128 .f32) (v5115 : FVec Ideal S128x128 .fp8e4m3) (hv4645 : Inv i 1 v4645) (hv5115 : CT i 1 2944 v5115) (X : State Ideal) (hX : XO i 11520 11520 227 X) :
    Steps defs 𝒱 (c : Thread nD τ) E (St c R i) X (R.app (k0_part210 (F := Ideal) g) v4645 v5115) fun a Y => XO i 11520 11520 230 Y ∧ B1 i 1 3200 a.1 ∧ CLo a.2.1 ∧ CHi a.2.2 := by
  unfold Refs.app; rw [k0_part210_eq_skeleton]; unfold k0_part210_skel
  with_reducible refine step_any_o0 fun _ => step_putO (t := 1) (kt := 23) (s0 := 4) (m := 227) (o := 2944) hX ?_ (by decide) (by decide) (by decide) fun X hX => ?_
  · exact cs_of (cr_of (ch4_of hv5115))
  with_reducible refine step_x1 hX fun v5126 hv5126 => ?_
  with_reducible refine step_any_o0 fun _ => step_putO (t := 1) (kt := 24) (s0 := 0) (m := 228) (o := 3072) hX ?_ (by decide) (by decide) (by decide) fun X hX => ?_
  · exact cs_of (cr_of (ch0_of (ct_of (cu_of (b3_of (hi_of chi_of) (b2_of (lo_of clo_of) (b1_of (b0_of hv5126) (bi_of hv4645))))))))
  with_reducible refine step_any_o0 fun _ => step_putO (t := 1) (kt := 24) (s0 := 4) (m := 229) (o := 3072) hX ?_ (by decide) (by decide) (by decide) fun X hX => ?_
  · exact cs_of (cr_of (ch4_of (ct_of (cu_of (b3_of (hi_of chi_of) (b2_of (lo_of clo_of) (b1_of (b0_of hv5126) (bi_of hv4645))))))))
  with_reducible refine step_x1 hX fun v5146 hv5146 => ?_
  exact step_ret ⟨hX, (b1_of (b0_of hv5146) (bi_of hv4645)), clo_of, chi_of⟩

theorem t211 (v4645 : FVec Ideal S1x128 .f32) (v5149 : FVec Ideal S128x128 .f32) (cst_3927 cst_3928 : Ideal .f32) (hv4645 : Inv i 1 v4645) (hv5149 : B1 i 1 3200 v5149) (hcst_3927 : CLo cst_3927) (hcst_3928 : CHi cst_3928) (X : State Ideal) (hX : XO i 11520 11520 230 X) :
    Steps defs 𝒱 (c : Thread nD τ) E (St c R i) X (R.app (k0_part211 (F := Ideal) g) v4645 v5149 cst_3927 cst_3928) fun a Y => XO i 11520 11520 233 Y ∧ CR i 1 3328 4 a := by
  unfold Refs.app; rw [k0_part211_eq_skeleton]; unfold k0_part211_skel
  with_reducible refine step_any_o0 fun _ => step_putO (t := 1) (kt := 25) (s0 := 0) (m := 230) (o := 3200) hX ?_ (by decide) (by decide) (by decide) fun X hX => ?_
  · exact cs_of (cr_of (ch0_of (ct_of (cu_of (b3_of (hi_of hcst_3928) (b2_of (lo_of hcst_3927) hv5149))))))
  with_reducible refine step_any_o0 fun _ => step_putO (t := 1) (kt := 25) (s0 := 4) (m := 231) (o := 3200) hX ?_ (by decide) (by decide) (by decide) fun X hX => ?_
  · exact cs_of (cr_of (ch4_of (ct_of (cu_of (b3_of (hi_of hcst_3928) (b2_of (lo_of hcst_3927) hv5149))))))
  with_reducible refine step_x1 hX fun v5166 hv5166 => ?_
  with_reducible refine step_any_o0 fun _ => step_putO (t := 1) (kt := 26) (s0 := 0) (m := 232) (o := 3328) hX ?_ (by decide) (by decide) (by decide) fun X hX => ?_
  · exact cs_of (cr_of (ch0_of (ct_of (cu_of (b3_of (hi_of chi_of) (b2_of (lo_of clo_of) (b1_of (b0_of hv5166) (bi_of hv4645))))))))
  exact step_ret ⟨hX, (cr_of (ch4_of (ct_of (cu_of (b3_of (hi_of chi_of) (b2_of (lo_of clo_of) (b1_of (b0_of hv5166) (bi_of hv4645))))))))⟩

theorem t212 (v4645 : FVec Ideal S1x128 .f32) (v5182 : FVec Ideal S16x4x128 .fp8e4m3) (hv4645 : Inv i 1 v4645) (hv5182 : CR i 1 3328 4 v5182) (X : State Ideal) (hX : XO i 11520 11520 233 X) :
    Steps defs 𝒱 (c : Thread nD τ) E (St c R i) X (R.app (k0_part212 (F := Ideal) g) v4645 v5182) fun a Y => XO i 11520 11520 236 Y ∧ B2 i 1 3584 a.1 ∧ Hi a.2 := by
  unfold Refs.app; rw [k0_part212_eq_skeleton]; unfold k0_part212_skel
  with_reducible refine step_any_o0 fun _ => step_putO (t := 1) (kt := 26) (s0 := 4) (m := 233) (o := 3328) hX ?_ (by decide) (by decide) (by decide) fun X hX => ?_
  · exact cs_of hv5182
  with_reducible refine step_x1 hX fun v5186 hv5186 => ?_
  with_reducible refine step_any_o0 fun _ => step_putO (t := 1) (kt := 27) (s0 := 0) (m := 234) (o := 3456) hX ?_ (by decide) (by decide) (by decide) fun X hX => ?_
  · exact cs_of (cr_of (ch0_of (ct_of (cu_of (b3_of (hi_of chi_of) (b2_of (lo_of clo_of) (b1_of (b0_of hv5186) (bi_of hv4645))))))))
  with_reducible refine step_any_o0 fun _ => step_putO (t := 1) (kt := 27) (s0 := 4) (m := 235) (o := 3456) hX ?_ (by decide) (by decide) (by decide) fun X hX => ?_
  · exact cs_of (cr_of (ch4_of (ct_of (cu_of (b3_of (hi_of chi_of) (b2_of (lo_of clo_of) (b1_of (b0_of hv5186) (bi_of hv4645))))))))
  with_reducible refine step_x1 hX fun v5206 hv5206 => ?_
  exact step_ret ⟨hX, (b2_of (lo_of clo_of) (b1_of (b0_of hv5206) (bi_of hv4645))), (hi_of chi_of)⟩

theorem t213 (v4645 : FVec Ideal S1x128 .f32) (v5211 v5212 : FVec Ideal S128x128 .f32) (hv4645 : Inv i 1 v4645) (hv5211 : B2 i 1 3584 v5211) (hv5212 : Hi v5212) (X : State Ideal) (hX : XO i 11520 11520 236 X) :
    Steps defs 𝒱 (c : Thread nD τ) E (St c R i) X (R.app (k0_part213 (F := Ideal) g) v4645 v5211 v5212) fun a Y => XO i 11520 11520 239 Y ∧ CR i 1 3712 4 a := by
  unfold Refs.app; rw [k0_part213_eq_skeleton]; unfold k0_part213_skel
  with_reducible refine step_any_o0 fun _ => step_putO (t := 1) (kt := 28) (s0 := 0) (m := 236) (o := 3584) hX ?_ (by decide) (by decide) (by decide) fun X hX => ?_
  · exact cs_of (cr_of (ch0_of (ct_of (cu_of (b3_of hv5212 hv5211)))))
  with_reducible refine step_any_o0 fun _ => step_putO (t := 1) (kt := 28) (s0 := 4) (m := 237) (o := 3584) hX ?_ (by decide) (by decide) (by decide) fun X hX => ?_
  · exact cs_of (cr_of (ch4_of (ct_of (cu_of (b3_of hv5212 hv5211)))))
  with_reducible refine step_x1 hX fun v5226 hv5226 => ?_
  with_reducible refine step_any_o0 fun _ => step_putO (t := 1) (kt := 29) (s0 := 0) (m := 238) (o := 3712) hX ?_ (by decide) (by decide) (by decide) fun X hX => ?_
  · exact cs_of (cr_of (ch0_of (ct_of (cu_of (b3_of (hi_of chi_of) (b2_of (lo_of clo_of) (b1_of (b0_of hv5226) (bi_of hv4645))))))))
  exact step_ret ⟨hX, (cr_of (ch4_of (ct_of (cu_of (b3_of (hi_of chi_of) (b2_of (lo_of clo_of) (b1_of (b0_of hv5226) (bi_of hv4645))))))))⟩

theorem t214 (v4645 : FVec Ideal S1x128 .f32) (v5242 : FVec Ideal S16x4x128 .fp8e4m3) (hv4645 : Inv i 1 v4645) (hv5242 : CR i 1 3712 4 v5242) (X : State Ideal) (hX : XO i 11520 11520 239 X) :
    Steps defs 𝒱 (c : Thread nD τ) E (St c R i) X (R.app (k0_part214 (F := Ideal) g) v4645 v5242) fun a Y => XO i 11520 11520 242 Y ∧ CT i 1 3968 a := by
  unfold Refs.app; rw [k0_part214_eq_skeleton]; unfold k0_part214_skel
  with_reducible refine step_any_o0 fun _ => step_putO (t := 1) (kt := 29) (s0 := 4) (m := 239) (o := 3712) hX ?_ (by decide) (by decide) (by decide) fun X hX => ?_
  · exact cs_of hv5242
  with_reducible refine step_x1 hX fun v5246 hv5246 => ?_
  with_reducible refine step_any_o0 fun _ => step_putO (t := 1) (kt := 30) (s0 := 0) (m := 240) (o := 3840) hX ?_ (by decide) (by decide) (by decide) fun X hX => ?_
  · exact cs_of (cr_of (ch0_of (ct_of (cu_of (b3_of (hi_of chi_of) (b2_of (lo_of clo_of) (b1_of (b0_of hv5246) (bi_of hv4645))))))))
  with_reducible refine step_any_o0 fun _ => step_putO (t := 1) (kt := 30) (s0 := 4) (m := 241) (o := 3840) hX ?_ (by decide) (by decide) (by decide) fun X hX => ?_
  · exact cs_of (cr_of (ch4_of (ct_of (cu_of (b3_of (hi_of chi_of) (b2_of (lo_of clo_of) (b1_of (b0_of hv5246) (bi_of hv4645))))))))
  with_reducible refine step_x1 hX fun v5266 hv5266 => ?_
  exact step_ret ⟨hX, (ct_of (cu_of (b3_of (hi_of chi_of) (b2_of (lo_of clo_of) (b1_of (b0_of hv5266) (bi_of hv4645))))))⟩

theorem t215 (v4645 : FVec Ideal S1x128 .f32) (v5275 : FVec Ideal S128x128 .fp8e4m3) (hv4645 : Inv i 1 v4645) (hv5275 : CT i 1 3968 v5275) (X : State Ideal) (hX : XO i 11520 11520 242 X) :
    Steps defs 𝒱 (c : Thread nD τ) E (St c R i) X (R.app (k0_part215 (F := Ideal) g) v4645 v5275) fun a Y => XO i 11520 11520 245 Y ∧ CR i 1 4096 4 a.1 := by
  unfold Refs.app; rw [k0_part215_eq_skeleton]; unfold k0_part215_skel
  with_reducible refine step_any_o0 fun _ => step_putO (t := 1) (kt := 31) (s0 := 0) (m := 242) (o := 3968) hX ?_ (by decide) (by decide) (by decide) fun X hX => ?_
  · exact cs_of (cr_of (ch0_of hv5275))
  with_reducible refine step_any_o0 fun _ => step_putO (t := 1) (kt := 31) (s0 := 4) (m := 243) (o := 3968) hX ?_ (by decide) (by decide) (by decide) fun X hX => ?_
  · exact cs_of (cr_of (ch4_of hv5275))
  with_reducible refine step_x1 hX fun v5286 hv5286 => ?_
  with_reducible refine step_any_o0 fun _ => step_putO (t := 1) (kt := 32) (s0 := 0) (m := 244) (o := 4096) hX ?_ (by decide) (by decide) (by decide) fun X hX => ?_
  · exact cs_of (cr_of (ch0_of (ct_of (cu_of (b3_of (hi_of chi_of) (b2_of (lo_of clo_of) (b1_of (b0_of hv5286) (bi_of hv4645))))))))
  with_reducible refine step_any_o0 fun v5303 => ?_
  exact step_ret ⟨hX, (cr_of (ch4_of (ct_of (cu_of (b3_of (hi_of chi_of) (b2_of (lo_of clo_of) (b1_of (b0_of hv5286) (bi_of hv4645))))))))⟩

theorem t216 (v4645 : FVec Ideal S1x128 .f32) (v5302 : FVec Ideal S16x4x128 .fp8e4m3) (v5303 : Vec Ideal S1x16x1x1x4x128 .fp8e4m3) (hv4645 : Inv i 1 v4645) (hv5302 : CR i 1 4096 4 v5302) (X : State Ideal) (hX : XO i 11520 11520 245 X) :
    Steps defs 𝒱 (c : Thread nD τ) E (St c R i) X (R.app (k0_part216 (F := Ideal) g) v4645 v5302 v5303) fun a Y => XO i 11520 11520 248 Y ∧ CT i 1 4352 a.1 ∧ CR i 1 4352 0 a.2 := by
  unfold Refs.app; rw [k0_part216_eq_skeleton]; unfold k0_part216_skel
  with_reducible refine step_putO (t := 1) (kt := 32) (s0 := 4) (m := 245) (o := 4096) hX ?_ (by decide) (by decide) (by decide) fun X hX => ?_
  · exact cs_of hv5302
  with_reducible refine step_x1 hX fun v5306 hv5306 => ?_
  with_reducible refine step_any_o0 fun _ => step_putO (t := 1) (kt := 33) (s0 := 0) (m := 246) (o := 4224) hX ?_ (by decide) (by decide) (by decide) fun X hX => ?_
  · exact cs_of (cr_of (ch0_of (ct_of (cu_of (b3_of (hi_of chi_of) (b2_of (lo_of clo_of) (b1_of (b0_of hv5306) (bi_of hv4645))))))))
  with_reducible refine step_any_o0 fun _ => step_putO (t := 1) (kt := 33) (s0 := 4) (m := 247) (o := 4224) hX ?_ (by decide) (by decide) (by decide) fun X hX => ?_
  · exact cs_of (cr_of (ch4_of (ct_of (cu_of (b3_of (hi_of chi_of) (b2_of (lo_of clo_of) (b1_of (b0_of hv5306) (bi_of hv4645))))))))
  with_reducible refine step_x1 hX fun v5326 hv5326 => ?_
  exact step_ret ⟨hX, (ct_of (cu_of (b3_of (hi_of chi_of) (b2_of (lo_of clo_of) (b1_of (b0_of hv5326) (bi_of hv4645)))))), (cr_of (ch0_of (ct_of (cu_of (b3_of (hi_of chi_of) (b2_of (lo_of clo_of) (b1_of (b0_of hv5326) (bi_of hv4645))))))))⟩

theorem t217 (v4645 : FVec Ideal S1x128 .f32) (v5335 : FVec Ideal S128x128 .fp8e4m3) (v5337 : FVec Ideal S16x4x128 .fp8e4m3) (hv4645 : Inv i 1 v4645) (hv5335 : CT i 1 4352 v5335) (hv5337 : CR i 1 4352 0 v5337) (X : State Ideal) (hX : XO i 11520 11520 248 X) :
    Steps defs 𝒱 (c : Thread nD τ) E (St c R i) X (R.app (k0_part217 (F := Ideal) g) v4645 v5335 v5337) fun _ Y => XO i 11520 11520 252 Y := by
  unfold Refs.app; rw [k0_part217_eq_skeleton]; unfold k0_part217_skel
  with_reducible refine step_any_o0 fun _ => step_putO (t := 1) (kt := 34) (s0 := 0) (m := 248) (o := 4352) hX ?_ (by decide) (by decide) (by decide) fun X hX => ?_
  · exact cs_of hv5337
  with_reducible refine step_any_o0 fun _ => step_putO (t := 1) (kt := 34) (s0 := 4) (m := 249) (o := 4352) hX ?_ (by decide) (by decide) (by decide) fun X hX => ?_
  · exact cs_of (cr_of (ch4_of hv5335))
  with_reducible refine step_x1 hX fun v5346 hv5346 => ?_
  with_reducible refine step_any_o0 fun _ => step_putO (t := 1) (kt := 35) (s0 := 0) (m := 250) (o := 4480) hX ?_ (by decide) (by decide) (by decide) fun X hX => ?_
  · exact cs_of (cr_of (ch0_of (ct_of (cu_of (b3_of (hi_of chi_of) (b2_of (lo_of clo_of) (b1_of (b0_of hv5346) (bi_of hv4645))))))))
  with_reducible refine step_any_o0 fun _ => step_putO (t := 1) (kt := 35) (s0 := 4) (m := 251) (o := 4480) hX ?_ (by decide) (by decide) (by decide) fun X hX => ?_
  · exact cs_of (cr_of (ch4_of (ct_of (cu_of (b3_of (hi_of chi_of) (b2_of (lo_of clo_of) (b1_of (b0_of hv5346) (bi_of hv4645))))))))
  exact step_ret hX

theorem t218 (v4645 : FVec Ideal S1x128 .f32) (hv4645 : Inv i 1 v4645) (X : State Ideal) (hX : XO i 11520 11520 252 X) :
    Steps defs 𝒱 (c : Thread nD τ) E (St c R i) X (R.app (k0_part218 (F := Ideal) g) v4645) fun a Y => XO i 11520 11520 254 Y ∧ CT i 1 4736 a.1 ∧ CR i 1 4736 0 a.2 := by
  unfold Refs.app; rw [k0_part218_eq_skeleton]; unfold k0_part218_skel
  with_reducible refine step_x1 hX fun v5366 hv5366 => ?_
  with_reducible refine step_any_o0 fun _ => step_putO (t := 1) (kt := 36) (s0 := 0) (m := 252) (o := 4608) hX ?_ (by decide) (by decide) (by decide) fun X hX => ?_
  · exact cs_of (cr_of (ch0_of (ct_of (cu_of (b3_of (hi_of chi_of) (b2_of (lo_of clo_of) (b1_of (b0_of hv5366) (bi_of hv4645))))))))
  with_reducible refine step_any_o0 fun _ => step_putO (t := 1) (kt := 36) (s0 := 4) (m := 253) (o := 4608) hX ?_ (by decide) (by decide) (by decide) fun X hX => ?_
  · exact cs_of (cr_of (ch4_of (ct_of (cu_of (b3_of (hi_of chi_of) (b2_of (lo_of clo_of) (b1_of (b0_of hv5366) (bi_of hv4645))))))))
  with_reducible refine step_x1 hX fun v5386 hv5386 => ?_
  exact step_ret ⟨hX, (ct_of (cu_of (b3_of (hi_of chi_of) (b2_of (lo_of clo_of) (b1_of (b0_of hv5386) (bi_of hv4645)))))), (cr_of (ch0_of (ct_of (cu_of (b3_of (hi_of chi_of) (b2_of (lo_of clo_of) (b1_of (b0_of hv5386) (bi_of hv4645))))))))⟩

theorem t219 (v4645 : FVec Ideal S1x128 .f32) (v5395 : FVec Ideal S128x128 .fp8e4m3) (v5397 : FVec Ideal S16x4x128 .fp8e4m3) (hv4645 : Inv i 1 v4645) (hv5395 : CT i 1 4736 v5395) (hv5397 : CR i 1 4736 0 v5397) (X : State Ideal) (hX : XO i 11520 11520 254 X) :
    Steps defs 𝒱 (c : Thread nD τ) E (St c R i) X (R.app (k0_part219 (F := Ideal) g) v4645 v5395 v5397) fun _ Y => XO i 11520 11520 258 Y := by
  unfold Refs.app; rw [k0_part219_eq_skeleton]; unfold k0_part219_skel
  with_reducible refine step_any_o0 fun _ => step_putO (t := 1) (kt := 37) (s0 := 0) (m := 254) (o := 4736) hX ?_ (by decide) (by decide) (by decide) fun X hX => ?_
  · exact cs_of hv5397
  with_reducible refine step_any_o0 fun _ => step_putO (t := 1) (kt := 37) (s0 := 4) (m := 255) (o := 4736) hX ?_ (by decide) (by decide) (by decide) fun X hX => ?_
  · exact cs_of (cr_of (ch4_of hv5395))
  with_reducible refine step_x1 hX fun v5406 hv5406 => ?_
  with_reducible refine step_any_o0 fun _ => step_putO (t := 1) (kt := 38) (s0 := 0) (m := 256) (o := 4864) hX ?_ (by decide) (by decide) (by decide) fun X hX => ?_
  · exact cs_of (cr_of (ch0_of (ct_of (cu_of (b3_of (hi_of chi_of) (b2_of (lo_of clo_of) (b1_of (b0_of hv5406) (bi_of hv4645))))))))
  with_reducible refine step_any_o0 fun _ => step_putO (t := 1) (kt := 38) (s0 := 4) (m := 257) (o := 4864) hX ?_ (by decide) (by decide) (by decide) fun X hX => ?_
  · exact cs_of (cr_of (ch4_of (ct_of (cu_of (b3_of (hi_of chi_of) (b2_of (lo_of clo_of) (b1_of (b0_of hv5406) (bi_of hv4645))))))))
  exact step_ret hX

theorem t220 (v4645 : FVec Ideal S1x128 .f32) (hv4645 : Inv i 1 v4645) (X : State Ideal) (hX : XO i 11520 11520 258 X) :
    Steps defs 𝒱 (c : Thread nD τ) E (St c R i) X (R.app (k0_part220 (F := Ideal) g) v4645) fun a Y => XO i 11520 11520 260 Y ∧ CT i 1 5120 a.1 ∧ CR i 1 5120 0 a.2.1 := by
  unfold Refs.app; rw [k0_part220_eq_skeleton]; unfold k0_part220_skel
  with_reducible refine step_x1 hX fun v5426 hv5426 => ?_
  with_reducible refine step_any_o0 fun _ => step_putO (t := 1) (kt := 39) (s0 := 0) (m := 258) (o := 4992) hX ?_ (by decide) (by decide) (by decide) fun X hX => ?_
  · exact cs_of (cr_of (ch0_of (ct_of (cu_of (b3_of (hi_of chi_of) (b2_of (lo_of clo_of) (b1_of (b0_of hv5426) (bi_of hv4645))))))))
  with_reducible refine step_any_o0 fun _ => step_putO (t := 1) (kt := 39) (s0 := 4) (m := 259) (o := 4992) hX ?_ (by decide) (by decide) (by decide) fun X hX => ?_
  · exact cs_of (cr_of (ch4_of (ct_of (cu_of (b3_of (hi_of chi_of) (b2_of (lo_of clo_of) (b1_of (b0_of hv5426) (bi_of hv4645))))))))
  with_reducible refine step_x1 hX fun v5446 hv5446 => ?_
  with_reducible refine step_any_o0 fun v5458 => ?_
  exact step_ret ⟨hX, (ct_of (cu_of (b3_of (hi_of chi_of) (b2_of (lo_of clo_of) (b1_of (b0_of hv5446) (bi_of hv4645)))))), (cr_of (ch0_of (ct_of (cu_of (b3_of (hi_of chi_of) (b2_of (lo_of clo_of) (b1_of (b0_of hv5446) (bi_of hv4645))))))))⟩

theorem t221 (v4645 : FVec Ideal S1x128 .f32) (v5455 : FVec Ideal S128x128 .fp8e4m3) (v5457 : FVec Ideal S16x4x128 .fp8e4m3) (v5458 : Vec Ideal S1x16x1x1x4x128 .fp8e4m3) (hv4645 : Inv i 1 v4645) (hv5455 : CT i 1 5120 v5455) (hv5457 : CR i 1 5120 0 v5457) (X : State Ideal) (hX : XO i 11520 11520 260 X) :
    Steps defs 𝒱 (c : Thread nD τ) E (St c R i) X (R.app (k0_part221 (F := Ideal) g) v4645 v5455 v5457 v5458) fun a Y => XO i 11520 11520 264 Y ∧ B0 i 1 5376 a.1 ∧ BI i 1 a.2 := by
  unfold Refs.app; rw [k0_part221_eq_skeleton]; unfold k0_part221_skel
  with_reducible refine step_putO (t := 1) (kt := 40) (s0 := 0) (m := 260) (o := 5120) hX ?_ (by decide) (by decide) (by decide) fun X hX => ?_
  · exact cs_of hv5457
  with_reducible refine step_any_o0 fun _ => step_putO (t := 1) (kt := 40) (s0 := 4) (m := 261) (o := 5120) hX ?_ (by decide) (by decide) (by decide) fun X hX => ?_
  · exact cs_of (cr_of (ch4_of hv5455))
  with_reducible refine step_x1 hX fun v5466 hv5466 => ?_
  with_reducible refine step_any_o0 fun _ => step_putO (t := 1) (kt := 41) (s0 := 0) (m := 262) (o := 5248) hX ?_ (by decide) (by decide) (by decide) fun X hX => ?_
  · exact cs_of (cr_of (ch0_of (ct_of (cu_of (b3_of (hi_of chi_of) (b2_of (lo_of clo_of) (b1_of (b0_of hv5466) (bi_of hv4645))))))))
  with_reducible refine step_any_o0 fun _ => step_putO (t := 1) (kt := 41) (s0 := 4) (m := 263) (o := 5248) hX ?_ (by decide) (by decide) (by decide) fun X hX => ?_
  · exact cs_of (cr_of (ch4_of (ct_of (cu_of (b3_of (hi_of chi_of) (b2_of (lo_of clo_of) (b1_of (b0_of hv5466) (bi_of hv4645))))))))
  with_reducible refine step_x1 hX fun v5486 hv5486 => ?_
  exact step_ret ⟨hX, (b0_of hv5486), (bi_of hv4645)⟩

theorem t222 (v4645 : FVec Ideal S1x128 .f32) (v5487 v5488 : FVec Ideal S128x128 .f32) (hv4645 : Inv i 1 v4645) (hv5487 : B0 i 1 5376 v5487) (hv5488 : BI i 1 v5488) (X : State Ideal) (hX : XO i 11520 11520 264 X) :
    Steps defs 𝒱 (c : Thread nD τ) E (St c R i) X (R.app (k0_part222 (F := Ideal) g) v4645 v5487 v5488) fun a Y => XO i 11520 11520 267 Y ∧ CT i 1 5504 a := by
  unfold Refs.app; rw [k0_part222_eq_skeleton]; unfold k0_part222_skel
  with_reducible refine step_any_o0 fun _ => step_putO (t := 1) (kt := 42) (s0 := 0) (m := 264) (o := 5376) hX ?_ (by decide) (by decide) (by decide) fun X hX => ?_
  · exact cs_of (cr_of (ch0_of (ct_of (cu_of (b3_of (hi_of chi_of) (b2_of (lo_of clo_of) (b1_of hv5487 hv5488)))))))
  with_reducible refine step_any_o0 fun _ => step_putO (t := 1) (kt := 42) (s0 := 4) (m := 265) (o := 5376) hX ?_ (by decide) (by decide) (by decide) fun X hX => ?_
  · exact cs_of (cr_of (ch4_of (ct_of (cu_of (b3_of (hi_of chi_of) (b2_of (lo_of clo_of) (b1_of hv5487 hv5488)))))))
  with_reducible refine step_x1 hX fun v5506 hv5506 => ?_
  with_reducible refine step_any_o0 fun _ => step_putO (t := 1) (kt := 43) (s0 := 0) (m := 266) (o := 5504) hX ?_ (by decide) (by decide) (by decide) fun X hX => ?_
  · exact cs_of (cr_of (ch0_of (ct_of (cu_of (b3_of (hi_of chi_of) (b2_of (lo_of clo_of) (b1_of (b0_of hv5506) (bi_of hv4645))))))))
  exact step_ret ⟨hX, (ct_of (cu_of (b3_of (hi_of chi_of) (b2_of (lo_of clo_of) (b1_of (b0_of hv5506) (bi_of hv4645))))))⟩

theorem t223 (v4645 : FVec Ideal S1x128 .f32) (v5515 : FVec Ideal S128x128 .fp8e4m3) (hv4645 : Inv i 1 v4645) (hv5515 : CT i 1 5504 v5515) (X : State Ideal) (hX : XO i 11520 11520 267 X) :
    Steps defs 𝒱 (c : Thread nD τ) E (St c R i) X (R.app (k0_part223 (F := Ideal) g) v4645 v5515) fun a Y => XO i 11520 11520 270 Y ∧ B1 i 1 5760 a.1 ∧ CLo a.2.1 ∧ CHi a.2.2 := by
  unfold Refs.app; rw [k0_part223_eq_skeleton]; unfold k0_part223_skel
  with_reducible refine step_any_o0 fun _ => step_putO (t := 1) (kt := 43) (s0 := 4) (m := 267) (o := 5504) hX ?_ (by decide) (by decide) (by decide) fun X hX => ?_
  · exact cs_of (cr_of (ch4_of hv5515))
  with_reducible refine step_x1 hX fun v5526 hv5526 => ?_
  with_reducible refine step_any_o0 fun _ => step_putO (t := 1) (kt := 44) (s0 := 0) (m := 268) (o := 5632) hX ?_ (by decide) (by decide) (by decide) fun X hX => ?_
  · exact cs_of (cr_of (ch0_of (ct_of (cu_of (b3_of (hi_of chi_of) (b2_of (lo_of clo_of) (b1_of (b0_of hv5526) (bi_of hv4645))))))))
  with_reducible refine step_any_o0 fun _ => step_putO (t := 1) (kt := 44) (s0 := 4) (m := 269) (o := 5632) hX ?_ (by decide) (by decide) (by decide) fun X hX => ?_
  · exact cs_of (cr_of (ch4_of (ct_of (cu_of (b3_of (hi_of chi_of) (b2_of (lo_of clo_of) (b1_of (b0_of hv5526) (bi_of hv4645))))))))
  with_reducible refine step_x1 hX fun v5546 hv5546 => ?_
  exact step_ret ⟨hX, (b1_of (b0_of hv5546) (bi_of hv4645)), clo_of, chi_of⟩

theorem t224 (v4645 : FVec Ideal S1x128 .f32) (v5549 : FVec Ideal S128x128 .f32) (cst_4267 cst_4268 : Ideal .f32) (hv4645 : Inv i 1 v4645) (hv5549 : B1 i 1 5760 v5549) (hcst_4267 : CLo cst_4267) (hcst_4268 : CHi cst_4268) (X : State Ideal) (hX : XO i 11520 11520 270 X) :
    Steps defs 𝒱 (c : Thread nD τ) E (St c R i) X (R.app (k0_part224 (F := Ideal) g) v4645 v5549 cst_4267 cst_4268) fun a Y => XO i 11520 11520 273 Y ∧ CR i 1 5888 4 a := by
  unfold Refs.app; rw [k0_part224_eq_skeleton]; unfold k0_part224_skel
  with_reducible refine step_any_o0 fun _ => step_putO (t := 1) (kt := 45) (s0 := 0) (m := 270) (o := 5760) hX ?_ (by decide) (by decide) (by decide) fun X hX => ?_
  · exact cs_of (cr_of (ch0_of (ct_of (cu_of (b3_of (hi_of hcst_4268) (b2_of (lo_of hcst_4267) hv5549))))))
  with_reducible refine step_any_o0 fun _ => step_putO (t := 1) (kt := 45) (s0 := 4) (m := 271) (o := 5760) hX ?_ (by decide) (by decide) (by decide) fun X hX => ?_
  · exact cs_of (cr_of (ch4_of (ct_of (cu_of (b3_of (hi_of hcst_4268) (b2_of (lo_of hcst_4267) hv5549))))))
  with_reducible refine step_x1 hX fun v5566 hv5566 => ?_
  with_reducible refine step_any_o0 fun _ => step_putO (t := 1) (kt := 46) (s0 := 0) (m := 272) (o := 5888) hX ?_ (by decide) (by decide) (by decide) fun X hX => ?_
  · exact cs_of (cr_of (ch0_of (ct_of (cu_of (b3_of (hi_of chi_of) (b2_of (lo_of clo_of) (b1_of (b0_of hv5566) (bi_of hv4645))))))))
  exact step_ret ⟨hX, (cr_of (ch4_of (ct_of (cu_of (b3_of (hi_of chi_of) (b2_of (lo_of clo_of) (b1_of (b0_of hv5566) (bi_of hv4645))))))))⟩

theorem t225 (v4645 : FVec Ideal S1x128 .f32) (v5582 : FVec Ideal S16x4x128 .fp8e4m3) (hv4645 : Inv i 1 v4645) (hv5582 : CR i 1 5888 4 v5582) (X : State Ideal) (hX : XO i 11520 11520 273 X) :
    Steps defs 𝒱 (c : Thread nD τ) E (St c R i) X (R.app (k0_part225 (F := Ideal) g) v4645 v5582) fun a Y => XO i 11520 11520 276 Y ∧ B2 i 1 6144 a.1 ∧ Hi a.2 := by
  unfold Refs.app; rw [k0_part225_eq_skeleton]; unfold k0_part225_skel
  with_reducible refine step_any_o0 fun _ => step_putO (t := 1) (kt := 46) (s0 := 4) (m := 273) (o := 5888) hX ?_ (by decide) (by decide) (by decide) fun X hX => ?_
  · exact cs_of hv5582
  with_reducible refine step_x1 hX fun v5586 hv5586 => ?_
  with_reducible refine step_any_o0 fun _ => step_putO (t := 1) (kt := 47) (s0 := 0) (m := 274) (o := 6016) hX ?_ (by decide) (by decide) (by decide) fun X hX => ?_
  · exact cs_of (cr_of (ch0_of (ct_of (cu_of (b3_of (hi_of chi_of) (b2_of (lo_of clo_of) (b1_of (b0_of hv5586) (bi_of hv4645))))))))
  with_reducible refine step_any_o0 fun _ => step_putO (t := 1) (kt := 47) (s0 := 4) (m := 275) (o := 6016) hX ?_ (by decide) (by decide) (by decide) fun X hX => ?_
  · exact cs_of (cr_of (ch4_of (ct_of (cu_of (b3_of (hi_of chi_of) (b2_of (lo_of clo_of) (b1_of (b0_of hv5586) (bi_of hv4645))))))))
  with_reducible refine step_x1 hX fun v5606 hv5606 => ?_
  exact step_ret ⟨hX, (b2_of (lo_of clo_of) (b1_of (b0_of hv5606) (bi_of hv4645))), (hi_of chi_of)⟩

theorem t226 (v4645 : FVec Ideal S1x128 .f32) (v5611 v5612 : FVec Ideal S128x128 .f32) (hv4645 : Inv i 1 v4645) (hv5611 : B2 i 1 6144 v5611) (hv5612 : Hi v5612) (X : State Ideal) (hX : XO i 11520 11520 276 X) :
    Steps defs 𝒱 (c : Thread nD τ) E (St c R i) X (R.app (k0_part226 (F := Ideal) g) v4645 v5611 v5612) fun a Y => XO i 11520 11520 279 Y ∧ CR i 1 6272 4 a := by
  unfold Refs.app; rw [k0_part226_eq_skeleton]; unfold k0_part226_skel
  with_reducible refine step_any_o0 fun _ => step_putO (t := 1) (kt := 48) (s0 := 0) (m := 276) (o := 6144) hX ?_ (by decide) (by decide) (by decide) fun X hX => ?_
  · exact cs_of (cr_of (ch0_of (ct_of (cu_of (b3_of hv5612 hv5611)))))
  with_reducible refine step_any_o0 fun _ => step_putO (t := 1) (kt := 48) (s0 := 4) (m := 277) (o := 6144) hX ?_ (by decide) (by decide) (by decide) fun X hX => ?_
  · exact cs_of (cr_of (ch4_of (ct_of (cu_of (b3_of hv5612 hv5611)))))
  with_reducible refine step_x1 hX fun v5626 hv5626 => ?_
  with_reducible refine step_any_o0 fun _ => step_putO (t := 1) (kt := 49) (s0 := 0) (m := 278) (o := 6272) hX ?_ (by decide) (by decide) (by decide) fun X hX => ?_
  · exact cs_of (cr_of (ch0_of (ct_of (cu_of (b3_of (hi_of chi_of) (b2_of (lo_of clo_of) (b1_of (b0_of hv5626) (bi_of hv4645))))))))
  exact step_ret ⟨hX, (cr_of (ch4_of (ct_of (cu_of (b3_of (hi_of chi_of) (b2_of (lo_of clo_of) (b1_of (b0_of hv5626) (bi_of hv4645))))))))⟩

end Cert.KernelIdeal.Own

end
-- ==== Proof.Parts6.lean ====
/-
  Parts 227 to 253 of the body, followed: what each leaves in the scaled products, in the first result and in its values.
-/
module

public import proofs.«01_k».proof.Proof.Gen.KernelIdeal.Skeleton
public import proofs.«01_k».proof.Proof.Follow

@[expose] public section

set_option maxRecDepth 65536
set_option maxHeartbeats 0

noncomputable section

namespace Cert.KernelIdeal.Own

open Idealize.ShloMosaic Idealize.ShloMosaic.TcCoe Idealize.SL Idealize.SL.Sem
open Cert.Steps Cert.KernelIdeal.Gen

variable (defs : Defs nD τ sig (Elt Ideal) Λ₀) (𝒱 : Variants) (c : Dev nD) (E : Set ℕ) (R : Refs) (i : Ins Ideal) (g : grid0.Coords)

theorem t227 (v4645 : FVec Ideal S1x128 .f32) (v5642 : FVec Ideal S16x4x128 .fp8e4m3) (hv4645 : Inv i 1 v4645) (hv5642 : CR i 1 6272 4 v5642) (X : State Ideal) (hX : XO i 11520 11520 279 X) :
    Steps defs 𝒱 (c : Thread nD τ) E (St c R i) X (R.app (k0_part227 (F := Ideal) g) v4645 v5642) fun a Y => XO i 11520 11520 282 Y ∧ CT i 1 6528 a := by
  unfold Refs.app; rw [k0_part227_eq_skeleton]; unfold k0_part227_skel
  with_reducible refine step_any_o0 fun _ => step_putO (t := 1) (kt := 49) (s0 := 4) (m := 279) (o := 6272) hX ?_ (by decide) (by decide) (by decide) fun X hX => ?_
  · exact cs_of hv5642
  with_reducible refine step_x1 hX fun v5646 hv5646 => ?_
  with_reducible refine step_any_o0 fun _ => step_putO (t := 1) (kt := 50) (s0 := 0) (m := 280) (o := 6400) hX ?_ (by decide) (by decide) (by decide) fun X hX => ?_
  · exact cs_of (cr_of (ch0_of (ct_of (cu_of (b3_of (hi_of chi_of) (b2_of (lo_of clo_of) (b1_of (b0_of hv5646) (bi_of hv4645))))))))
  with_reducible refine step_any_o0 fun _ => step_putO (t := 1) (kt := 50) (s0 := 4) (m := 281) (o := 6400) hX ?_ (by decide) (by decide) (by decide) fun X hX => ?_
  · exact cs_of (cr_of (ch4_of (ct_of (cu_of (b3_of (hi_of chi_of) (b2_of (lo_of clo_of) (b1_of (b0_of hv5646) (bi_of hv4645))))))))
  with_reducible refine step_x1 hX fun v5666 hv5666 => ?_
  exact step_ret ⟨hX, (ct_of (cu_of (b3_of (hi_of chi_of) (b2_of (lo_of clo_of) (b1_of (b0_of hv5666) (bi_of hv4645))))))⟩

theorem t228 (v4645 : FVec Ideal S1x128 .f32) (v5675 : FVec Ideal S128x128 .fp8e4m3) (hv4645 : Inv i 1 v4645) (hv5675 : CT i 1 6528 v5675) (X : State Ideal) (hX : XO i 11520 11520 282 X) :
    Steps defs 𝒱 (c : Thread nD τ) E (St c R i) X (R.app (k0_part228 (F := Ideal) g) v4645 v5675) fun a Y => XO i 11520 11520 285 Y ∧ CR i 1 6656 4 a.1 := by
  unfold Refs.app; rw [k0_part228_eq_skeleton]; unfold k0_part228_skel
  with_reducible refine step_any_o0 fun _ => step_putO (t := 1) (kt := 51) (s0 := 0) (m := 282) (o := 6528) hX ?_ (by decide) (by decide) (by decide) fun X hX => ?_
  · exact cs_of (cr_of (ch0_of hv5675))
  with_reducible refine step_any_o0 fun _ => step_putO (t := 1) (kt := 51) (s0 := 4) (m := 283) (o := 6528) hX ?_ (by decide) (by decide) (by decide) fun X hX => ?_
  · exact cs_of (cr_of (ch4_of hv5675))
  with_reducible refine step_x1 hX fun v5686 hv5686 => ?_
  with_reducible refine step_any_o0 fun _ => step_putO (t := 1) (kt := 52) (s0 := 0) (m := 284) (o := 6656) hX ?_ (by decide) (by decide) (by decide) fun X hX => ?_
  · exact cs_of (cr_of (ch0_of (ct_of (cu_of (b3_of (hi_of chi_of) (b2_of (lo_of clo_of) (b1_of (b0_of hv5686) (bi_of hv4645))))))))
  with_reducible refine step_any_o0 fun v5703 => ?_
  exact step_ret ⟨hX, (cr_of (ch4_of (ct_of (cu_of (b3_of (hi_of chi_of) (b2_of (lo_of clo_of) (b1_of (b0_of hv5686) (bi_of hv4645))))))))⟩

theorem t229 (v4645 : FVec Ideal S1x128 .f32) (v5702 : FVec Ideal S16x4x128 .fp8e4m3) (v5703 : Vec Ideal S1x16x1x1x4x128 .fp8e4m3) (hv4645 : Inv i 1 v4645) (hv5702 : CR i 1 6656 4 v5702) (X : State Ideal) (hX : XO i 11520 11520 285 X) :
    Steps defs 𝒱 (c : Thread nD τ) E (St c R i) X (R.app (k0_part229 (F := Ideal) g) v4645 v5702 v5703) fun a Y => XO i 11520 11520 288 Y ∧ CT i 1 6912 a.1 ∧ CR i 1 6912 0 a.2 := by
  unfold Refs.app; rw [k0_part229_eq_skeleton]; unfold k0_part229_skel
  with_reducible refine step_putO (t := 1) (kt := 52) (s0 := 4) (m := 285) (o := 6656) hX ?_ (by decide) (by decide) (by decide) fun X hX => ?_
  · exact cs_of hv5702
  with_reducible refine step_x1 hX fun v5706 hv5706 => ?_
  with_reducible refine step_any_o0 fun _ => step_putO (t := 1) (kt := 53) (s0 := 0) (m := 286) (o := 6784) hX ?_ (by decide) (by decide) (by decide) fun X hX => ?_
  · exact cs_of (cr_of (ch0_of (ct_of (cu_of (b3_of (hi_of chi_of) (b2_of (lo_of clo_of) (b1_of (b0_of hv5706) (bi_of hv4645))))))))
  with_reducible refine step_any_o0 fun _ => step_putO (t := 1) (kt := 53) (s0 := 4) (m := 287) (o := 6784) hX ?_ (by decide) (by decide) (by decide) fun X hX => ?_
  · exact cs_of (cr_of (ch4_of (ct_of (cu_of (b3_of (hi_of chi_of) (b2_of (lo_of clo_of) (b1_of (b0_of hv5706) (bi_of hv4645))))))))
  with_reducible refine step_x1 hX fun v5726 hv5726 => ?_
  exact step_ret ⟨hX, (ct_of (cu_of (b3_of (hi_of chi_of) (b2_of (lo_of clo_of) (b1_of (b0_of hv5726) (bi_of hv4645)))))), (cr_of (ch0_of (ct_of (cu_of (b3_of (hi_of chi_of) (b2_of (lo_of clo_of) (b1_of (b0_of hv5726) (bi_of hv4645))))))))⟩

theorem t230 (v4645 : FVec Ideal S1x128 .f32) (v5735 : FVec Ideal S128x128 .fp8e4m3) (v5737 : FVec Ideal S16x4x128 .fp8e4m3) (hv4645 : Inv i 1 v4645) (hv5735 : CT i 1 6912 v5735) (hv5737 : CR i 1 6912 0 v5737) (X : State Ideal) (hX : XO i 11520 11520 288 X) :
    Steps defs 𝒱 (c : Thread nD τ) E (St c R i) X (R.app (k0_part230 (F := Ideal) g) v4645 v5735 v5737) fun _ Y => XO i 11520 11520 292 Y := by
  unfold Refs.app; rw [k0_part230_eq_skeleton]; unfold k0_part230_skel
  with_reducible refine step_any_o0 fun _ => step_putO (t := 1) (kt := 54) (s0 := 0) (m := 288) (o := 6912) hX ?_ (by decide) (by decide) (by decide) fun X hX => ?_
  · exact cs_of hv5737
  with_reducible refine step_any_o0 fun _ => step_putO (t := 1) (kt := 54) (s0 := 4) (m := 289) (o := 6912) hX ?_ (by decide) (by decide) (by decide) fun X hX => ?_
  · exact cs_of (cr_of (ch4_of hv5735))
  with_reducible refine step_x1 hX fun v5746 hv5746 => ?_
  with_reducible refine step_any_o0 fun _ => step_putO (t := 1) (kt := 55) (s0 := 0) (m := 290) (o := 7040) hX ?_ (by decide) (by decide) (by decide) fun X hX => ?_
  · exact cs_of (cr_of (ch0_of (ct_of (cu_of (b3_of (hi_of chi_of) (b2_of (lo_of clo_of) (b1_of (b0_of hv5746) (bi_of hv4645))))))))
  with_reducible refine step_any_o0 fun _ => step_putO (t := 1) (kt := 55) (s0 := 4) (m := 291) (o := 7040) hX ?_ (by decide) (by decide) (by decide) fun X hX => ?_
  · exact cs_of (cr_of (ch4_of (ct_of (cu_of (b3_of (hi_of chi_of) (b2_of (lo_of clo_of) (b1_of (b0_of hv5746) (bi_of hv4645))))))))
  exact step_ret hX

theorem t231 (v4645 : FVec Ideal S1x128 .f32) (hv4645 : Inv i 1 v4645) (X : State Ideal) (hX : XO i 11520 11520 292 X) :
    Steps defs 𝒱 (c : Thread nD τ) E (St c R i) X (R.app (k0_part231 (F := Ideal) g) v4645) fun a Y => XO i 11520 11520 294 Y ∧ CT i 1 7296 a.1 ∧ CR i 1 7296 0 a.2 := by
  unfold Refs.app; rw [k0_part231_eq_skeleton]; unfold k0_part231_skel
  with_reducible refine step_x1 hX fun v5766 hv5766 => ?_
  with_reducible refine step_any_o0 fun _ => step_putO (t := 1) (kt := 56) (s0 := 0) (m := 292) (o := 7168) hX ?_ (by decide) (by decide) (by decide) fun X hX => ?_
  · exact cs_of (cr_of (ch0_of (ct_of (cu_of (b3_of (hi_of chi_of) (b2_of (lo_of clo_of) (b1_of (b0_of hv5766) (bi_of hv4645))))))))
  with_reducible refine step_any_o0 fun _ => step_putO (t := 1) (kt := 56) (s0 := 4) (m := 293) (o := 7168) hX ?_ (by decide) (by decide) (by decide) fun X hX => ?_
  · exact cs_of (cr_of (ch4_of (ct_of (cu_of (b3_of (hi_of chi_of) (b2_of (lo_of clo_of) (b1_of (b0_of hv5766) (bi_of hv4645))))))))
  with_reducible refine step_x1 hX fun v5786 hv5786 => ?_
  exact step_ret ⟨hX, (ct_of (cu_of (b3_of (hi_of chi_of) (b2_of (lo_of clo_of) (b1_of (b0_of hv5786) (bi_of hv4645)))))), (cr_of (ch0_of (ct_of (cu_of (b3_of (hi_of chi_of) (b2_of (lo_of clo_of) (b1_of (b0_of hv5786) (bi_of hv4645))))))))⟩

theorem t232 (v4645 : FVec Ideal S1x128 .f32) (v5795 : FVec Ideal S128x128 .fp8e4m3) (v5797 : FVec Ideal S16x4x128 .fp8e4m3) (hv4645 : Inv i 1 v4645) (hv5795 : CT i 1 7296 v5795) (hv5797 : CR i 1 7296 0 v5797) (X : State Ideal) (hX : XO i 11520 11520 294 X) :
    Steps defs 𝒱 (c : Thread nD τ) E (St c R i) X (R.app (k0_part232 (F := Ideal) g) v4645 v5795 v5797) fun _ Y => XO i 11520 11520 298 Y := by
  unfold Refs.app; rw [k0_part232_eq_skeleton]; unfold k0_part232_skel
  with_reducible refine step_any_o0 fun _ => step_putO (t := 1) (kt := 57) (s0 := 0) (m := 294) (o := 7296) hX ?_ (by decide) (by decide) (by decide) fun X hX => ?_
  · exact cs_of hv5797
  with_reducible refine step_any_o0 fun _ => step_putO (t := 1) (kt := 57) (s0 := 4) (m := 295) (o := 7296) hX ?_ (by decide) (by decide) (by decide) fun X hX => ?_
  · exact cs_of (cr_of (ch4_of hv5795))
  with_reducible refine step_x1 hX fun v5806 hv5806 => ?_
  with_reducible refine step_any_o0 fun _ => step_putO (t := 1) (kt := 58) (s0 := 0) (m := 296) (o := 7424) hX ?_ (by decide) (by decide) (by decide) fun X hX => ?_
  · exact cs_of (cr_of (ch0_of (ct_of (cu_of (b3_of (hi_of chi_of) (b2_of (lo_of clo_of) (b1_of (b0_of hv5806) (bi_of hv4645))))))))
  with_reducible refine step_any_o0 fun _ => step_putO (t := 1) (kt := 58) (s0 := 4) (m := 297) (o := 7424) hX ?_ (by decide) (by decide) (by decide) fun X hX => ?_
  · exact cs_of (cr_of (ch4_of (ct_of (cu_of (b3_of (hi_of chi_of) (b2_of (lo_of clo_of) (b1_of (b0_of hv5806) (bi_of hv4645))))))))
  exact step_ret hX

theorem t233 (v4645 : FVec Ideal S1x128 .f32) (hv4645 : Inv i 1 v4645) (X : State Ideal) (hX : XO i 11520 11520 298 X) :
    Steps defs 𝒱 (c : Thread nD τ) E (St c R i) X (R.app (k0_part233 (F := Ideal) g) v4645) fun a Y => XO i 11520 11520 300 Y ∧ CT i 1 7680 a.1 ∧ CR i 1 7680 0 a.2.1 := by
  unfold Refs.app; rw [k0_part233_eq_skeleton]; unfold k0_part233_skel
  with_reducible refine step_x1 hX fun v5826 hv5826 => ?_
  with_reducible refine step_any_o0 fun _ => step_putO (t := 1) (kt := 59) (s0 := 0) (m := 298) (o := 7552) hX ?_ (by decide) (by decide) (by decide) fun X hX => ?_
  · exact cs_of (cr_of (ch0_of (ct_of (cu_of (b3_of (hi_of chi_of) (b2_of (lo_of clo_of) (b1_of (b0_of hv5826) (bi_of hv4645))))))))
  with_reducible refine step_any_o0 fun _ => step_putO (t := 1) (kt := 59) (s0 := 4) (m := 299) (o := 7552) hX ?_ (by decide) (by decide) (by decide) fun X hX => ?_
  · exact cs_of (cr_of (ch4_of (ct_of (cu_of (b3_of (hi_of chi_of) (b2_of (lo_of clo_of) (b1_of (b0_of hv5826) (bi_of hv4645))))))))
  with_reducible refine step_x1 hX fun v5846 hv5846 => ?_
  with_reducible refine step_any_o0 fun v5858 => ?_
  exact step_ret ⟨hX, (ct_of (cu_of (b3_of (hi_of chi_of) (b2_of (lo_of clo_of) (b1_of (b0_of hv5846) (bi_of hv4645)))))), (cr_of (ch0_of (ct_of (cu_of (b3_of (hi_of chi_of) (b2_of (lo_of clo_of) (b1_of (b0_of hv5846) (bi_of hv4645))))))))⟩

theorem t234 (v4645 : FVec Ideal S1x128 .f32) (v5855 : FVec Ideal S128x128 .fp8e4m3) (v5857 : FVec Ideal S16x4x128 .fp8e4m3) (v5858 : Vec Ideal S1x16x1x1x4x128 .fp8e4m3) (hv4645 : Inv i 1 v4645) (hv5855 : CT i 1 7680 v5855) (hv5857 : CR i 1 7680 0 v5857) (X : State Ideal) (hX : XO i 11520 11520 300 X) :
    Steps defs 𝒱 (c : Thread nD τ) E (St c R i) X (R.app (k0_part234 (F := Ideal) g) v4645 v5855 v5857 v5858) fun a Y => XO i 11520 11520 304 Y ∧ B0 i 1 7936 a.1 ∧ BI i 1 a.2 := by
  unfold Refs.app; rw [k0_part234_eq_skeleton]; unfold k0_part234_skel
  with_reducible refine step_putO (t := 1) (kt := 60) (s0 := 0) (m := 300) (o := 7680) hX ?_ (by decide) (by decide) (by decide) fun X hX => ?_
  · exact cs_of hv5857
  with_reducible refine step_any_o0 fun _ => step_putO (t := 1) (kt := 60) (s0 := 4) (m := 301) (o := 7680) hX ?_ (by decide) (by decide) (by decide) fun X hX => ?_
  · exact cs_of (cr_of (ch4_of hv5855))
  with_reducible refine step_x1 hX fun v5866 hv5866 => ?_
  with_reducible refine step_any_o0 fun _ => step_putO (t := 1) (kt := 61) (s0 := 0) (m := 302) (o := 7808) hX ?_ (by decide) (by decide) (by decide) fun X hX => ?_
  · exact cs_of (cr_of (ch0_of (ct_of (cu_of (b3_of (hi_of chi_of) (b2_of (lo_of clo_of) (b1_of (b0_of hv5866) (bi_of hv4645))))))))
  with_reducible refine step_any_o0 fun _ => step_putO (t := 1) (kt := 61) (s0 := 4) (m := 303) (o := 7808) hX ?_ (by decide) (by decide) (by decide) fun X hX => ?_
  · exact cs_of (cr_of (ch4_of (ct_of (cu_of (b3_of (hi_of chi_of) (b2_of (lo_of clo_of) (b1_of (b0_of hv5866) (bi_of hv4645))))))))
  with_reducible refine step_x1 hX fun v5886 hv5886 => ?_
  exact step_ret ⟨hX, (b0_of hv5886), (bi_of hv4645)⟩

theorem t235 (v4645 : FVec Ideal S1x128 .f32) (v5887 v5888 : FVec Ideal S128x128 .f32) (hv4645 : Inv i 1 v4645) (hv5887 : B0 i 1 7936 v5887) (hv5888 : BI i 1 v5888) (X : State Ideal) (hX : XO i 11520 11520 304 X) :
    Steps defs 𝒱 (c : Thread nD τ) E (St c R i) X (R.app (k0_part235 (F := Ideal) g) v4645 v5887 v5888) fun a Y => XO i 11520 11520 307 Y ∧ CT i 1 8064 a := by
  unfold Refs.app; rw [k0_part235_eq_skeleton]; unfold k0_part235_skel
  with_reducible refine step_any_o0 fun _ => step_putO (t := 1) (kt := 62) (s0 := 0) (m := 304) (o := 7936) hX ?_ (by decide) (by decide) (by decide) fun X hX => ?_
  · exact cs_of (cr_of (ch0_of (ct_of (cu_of (b3_of (hi_of chi_of) (b2_of (lo_of clo_of) (b1_of hv5887 hv5888)))))))
  with_reducible refine step_any_o0 fun _ => step_putO (t := 1) (kt := 62) (s0 := 4) (m := 305) (o := 7936) hX ?_ (by decide) (by decide) (by decide) fun X hX => ?_
  · exact cs_of (cr_of (ch4_of (ct_of (cu_of (b3_of (hi_of chi_of) (b2_of (lo_of clo_of) (b1_of hv5887 hv5888)))))))
  with_reducible refine step_x1 hX fun v5906 hv5906 => ?_
  with_reducible refine step_any_o0 fun _ => step_putO (t := 1) (kt := 63) (s0 := 0) (m := 306) (o := 8064) hX ?_ (by decide) (by decide) (by decide) fun X hX => ?_
  · exact cs_of (cr_of (ch0_of (ct_of (cu_of (b3_of (hi_of chi_of) (b2_of (lo_of clo_of) (b1_of (b0_of hv5906) (bi_of hv4645))))))))
  exact step_ret ⟨hX, (ct_of (cu_of (b3_of (hi_of chi_of) (b2_of (lo_of clo_of) (b1_of (b0_of hv5906) (bi_of hv4645))))))⟩

theorem t236 (v4645 : FVec Ideal S1x128 .f32) (v5915 : FVec Ideal S128x128 .fp8e4m3) (hv4645 : Inv i 1 v4645) (hv5915 : CT i 1 8064 v5915) (X : State Ideal) (hX : XO i 11520 11520 307 X) :
    Steps defs 𝒱 (c : Thread nD τ) E (St c R i) X (R.app (k0_part236 (F := Ideal) g) v4645 v5915) fun a Y => XO i 11520 11520 310 Y ∧ B1 i 1 8320 a.1 ∧ CLo a.2.1 ∧ CHi a.2.2 := by
  unfold Refs.app; rw [k0_part236_eq_skeleton]; unfold k0_part236_skel
  with_reducible refine step_any_o0 fun _ => step_putO (t := 1) (kt := 63) (s0 := 4) (m := 307) (o := 8064) hX ?_ (by decide) (by decide) (by decide) fun X hX => ?_
  · exact cs_of (cr_of (ch4_of hv5915))
  with_reducible refine step_x1 hX fun v5926 hv5926 => ?_
  with_reducible refine step_any_o0 fun _ => step_putO (t := 1) (kt := 64) (s0 := 0) (m := 308) (o := 8192) hX ?_ (by decide) (by decide) (by decide) fun X hX => ?_
  · exact cs_of (cr_of (ch0_of (ct_of (cu_of (b3_of (hi_of chi_of) (b2_of (lo_of clo_of) (b1_of (b0_of hv5926) (bi_of hv4645))))))))
  with_reducible refine step_any_o0 fun _ => step_putO (t := 1) (kt := 64) (s0 := 4) (m := 309) (o := 8192) hX ?_ (by decide) (by decide) (by decide) fun X hX => ?_
  · exact cs_of (cr_of (ch4_of (ct_of (cu_of (b3_of (hi_of chi_of) (b2_of (lo_of clo_of) (b1_of (b0_of hv5926) (bi_of hv4645))))))))
  with_reducible refine step_x1 hX fun v5946 hv5946 => ?_
  exact step_ret ⟨hX, (b1_of (b0_of hv5946) (bi_of hv4645)), clo_of, chi_of⟩

theorem t237 (v4645 : FVec Ideal S1x128 .f32) (v5949 : FVec Ideal S128x128 .f32) (cst_4607 cst_4608 : Ideal .f32) (hv4645 : Inv i 1 v4645) (hv5949 : B1 i 1 8320 v5949) (hcst_4607 : CLo cst_4607) (hcst_4608 : CHi cst_4608) (X : State Ideal) (hX : XO i 11520 11520 310 X) :
    Steps defs 𝒱 (c : Thread nD τ) E (St c R i) X (R.app (k0_part237 (F := Ideal) g) v4645 v5949 cst_4607 cst_4608) fun a Y => XO i 11520 11520 313 Y ∧ CR i 1 8448 4 a := by
  unfold Refs.app; rw [k0_part237_eq_skeleton]; unfold k0_part237_skel
  with_reducible refine step_any_o0 fun _ => step_putO (t := 1) (kt := 65) (s0 := 0) (m := 310) (o := 8320) hX ?_ (by decide) (by decide) (by decide) fun X hX => ?_
  · exact cs_of (cr_of (ch0_of (ct_of (cu_of (b3_of (hi_of hcst_4608) (b2_of (lo_of hcst_4607) hv5949))))))
  with_reducible refine step_any_o0 fun _ => step_putO (t := 1) (kt := 65) (s0 := 4) (m := 311) (o := 8320) hX ?_ (by decide) (by decide) (by decide) fun X hX => ?_
  · exact cs_of (cr_of (ch4_of (ct_of (cu_of (b3_of (hi_of hcst_4608) (b2_of (lo_of hcst_4607) hv5949))))))
  with_reducible refine step_x1 hX fun v5966 hv5966 => ?_
  with_reducible refine step_any_o0 fun _ => step_putO (t := 1) (kt := 66) (s0 := 0) (m := 312) (o := 8448) hX ?_ (by decide) (by decide) (by decide) fun X hX => ?_
  · exact cs_of (cr_of (ch0_of (ct_of (cu_of (b3_of (hi_of chi_of) (b2_of (lo_of clo_of) (b1_of (b0_of hv5966) (bi_of hv4645))))))))
  exact step_ret ⟨hX, (cr_of (ch4_of (ct_of (cu_of (b3_of (hi_of chi_of) (b2_of (lo_of clo_of) (b1_of (b0_of hv5966) (bi_of hv4645))))))))⟩

theorem t238 (v4645 : FVec Ideal S1x128 .f32) (v5982 : FVec Ideal S16x4x128 .fp8e4m3) (hv4645 : Inv i 1 v4645) (hv5982 : CR i 1 8448 4 v5982) (X : State Ideal) (hX : XO i 11520 11520 313 X) :
    Steps defs 𝒱 (c : Thread nD τ) E (St c R i) X (R.app (k0_part238 (F := Ideal) g) v4645 v5982) fun a Y => XO i 11520 11520 316 Y ∧ B2 i 1 8704 a.1 ∧ Hi a.2 := by
  unfold Refs.app; rw [k0_part238_eq_skeleton]; unfold k0_part238_skel
  with_reducible refine step_any_o0 fun _ => step_putO (t := 1) (kt := 66) (s0 := 4) (m := 313) (o := 8448) hX ?_ (by decide) (by decide) (by decide) fun X hX => ?_
  · exact cs_of hv5982
  with_reducible refine step_x1 hX fun v5986 hv5986 => ?_
  with_reducible refine step_any_o0 fun _ => step_putO (t := 1) (kt := 67) (s0 := 0) (m := 314) (o := 8576) hX ?_ (by decide) (by decide) (by decide) fun X hX => ?_
  · exact cs_of (cr_of (ch0_of (ct_of (cu_of (b3_of (hi_of chi_of) (b2_of (lo_of clo_of) (b1_of (b0_of hv5986) (bi_of hv4645))))))))
  with_reducible refine step_any_o0 fun _ => step_putO (t := 1) (kt := 67) (s0 := 4) (m := 315) (o := 8576) hX ?_ (by decide) (by decide) (by decide) fun X hX => ?_
  · exact cs_of (cr_of (ch4_of (ct_of (cu_of (b3_of (hi_of chi_of) (b2_of (lo_of clo_of) (b1_of (b0_of hv5986) (bi_of hv4645))))))))
  with_reducible refine step_x1 hX fun v6006 hv6006 => ?_
  exact step_ret ⟨hX, (b2_of (lo_of clo_of) (b1_of (b0_of hv6006) (bi_of hv4645))), (hi_of chi_of)⟩

theorem t239 (v4645 : FVec Ideal S1x128 .f32) (v6011 v6012 : FVec Ideal S128x128 .f32) (hv4645 : Inv i 1 v4645) (hv6011 : B2 i 1 8704 v6011) (hv6012 : Hi v6012) (X : State Ideal) (hX : XO i 11520 11520 316 X) :
    Steps defs 𝒱 (c : Thread nD τ) E (St c R i) X (R.app (k0_part239 (F := Ideal) g) v4645 v6011 v6012) fun a Y => XO i 11520 11520 319 Y ∧ CR i 1 8832 4 a := by
  unfold Refs.app; rw [k0_part239_eq_skeleton]; unfold k0_part239_skel
  with_reducible refine step_any_o0 fun _ => step_putO (t := 1) (kt := 68) (s0 := 0) (m := 316) (o := 8704) hX ?_ (by decide) (by decide) (by decide) fun X hX => ?_
  · exact cs_of (cr_of (ch0_of (ct_of (cu_of (b3_of hv6012 hv6011)))))
  with_reducible refine step_any_o0 fun _ => step_putO (t := 1) (kt := 68) (s0 := 4) (m := 317) (o := 8704) hX ?_ (by decide) (by decide) (by decide) fun X hX => ?_
  · exact cs_of (cr_of (ch4_of (ct_of (cu_of (b3_of hv6012 hv6011)))))
  with_reducible refine step_x1 hX fun v6026 hv6026 => ?_
  with_reducible refine step_any_o0 fun _ => step_putO (t := 1) (kt := 69) (s0 := 0) (m := 318) (o := 8832) hX ?_ (by decide) (by decide) (by decide) fun X hX => ?_
  · exact cs_of (cr_of (ch0_of (ct_of (cu_of (b3_of (hi_of chi_of) (b2_of (lo_of clo_of) (b1_of (b0_of hv6026) (bi_of hv4645))))))))
  exact step_ret ⟨hX, (cr_of (ch4_of (ct_of (cu_of (b3_of (hi_of chi_of) (b2_of (lo_of clo_of) (b1_of (b0_of hv6026) (bi_of hv4645))))))))⟩

theorem t240 (v4645 : FVec Ideal S1x128 .f32) (v6042 : FVec Ideal S16x4x128 .fp8e4m3) (hv4645 : Inv i 1 v4645) (hv6042 : CR i 1 8832 4 v6042) (X : State Ideal) (hX : XO i 11520 11520 319 X) :
    Steps defs 𝒱 (c : Thread nD τ) E (St c R i) X (R.app (k0_part240 (F := Ideal) g) v4645 v6042) fun a Y => XO i 11520 11520 322 Y ∧ CT i 1 9088 a := by
  unfold Refs.app; rw [k0_part240_eq_skeleton]; unfold k0_part240_skel
  with_reducible refine step_any_o0 fun _ => step_putO (t := 1) (kt := 69) (s0 := 4) (m := 319) (o := 8832) hX ?_ (by decide) (by decide) (by decide) fun X hX => ?_
  · exact cs_of hv6042
  with_reducible refine step_x1 hX fun v6046 hv6046 => ?_
  with_reducible refine step_any_o0 fun _ => step_putO (t := 1) (kt := 70) (s0 := 0) (m := 320) (o := 8960) hX ?_ (by decide) (by decide) (by decide) fun X hX => ?_
  · exact cs_of (cr_of (ch0_of (ct_of (cu_of (b3_of (hi_of chi_of) (b2_of (lo_of clo_of) (b1_of (b0_of hv6046) (bi_of hv4645))))))))
  with_reducible refine step_any_o0 fun _ => step_putO (t := 1) (kt := 70) (s0 := 4) (m := 321) (o := 8960) hX ?_ (by decide) (by decide) (by decide) fun X hX => ?_
  · exact cs_of (cr_of (ch4_of (ct_of (cu_of (b3_of (hi_of chi_of) (b2_of (lo_of clo_of) (b1_of (b0_of hv6046) (bi_of hv4645))))))))
  with_reducible refine step_x1 hX fun v6066 hv6066 => ?_
  exact step_ret ⟨hX, (ct_of (cu_of (b3_of (hi_of chi_of) (b2_of (lo_of clo_of) (b1_of (b0_of hv6066) (bi_of hv4645))))))⟩

theorem t241 (v4645 : FVec Ideal S1x128 .f32) (v6075 : FVec Ideal S128x128 .fp8e4m3) (hv4645 : Inv i 1 v4645) (hv6075 : CT i 1 9088 v6075) (X : State Ideal) (hX : XO i 11520 11520 322 X) :
    Steps defs 𝒱 (c : Thread nD τ) E (St c R i) X (R.app (k0_part241 (F := Ideal) g) v4645 v6075) fun a Y => XO i 11520 11520 325 Y ∧ CR i 1 9216 4 a.1 := by
  unfold Refs.app; rw [k0_part241_eq_skeleton]; unfold k0_part241_skel
  with_reducible refine step_any_o0 fun _ => step_putO (t := 1) (kt := 71) (s0 := 0) (m := 322) (o := 9088) hX ?_ (by decide) (by decide) (by decide) fun X hX => ?_
  · exact cs_of (cr_of (ch0_of hv6075))
  with_reducible refine step_any_o0 fun _ => step_putO (t := 1) (kt := 71) (s0 := 4) (m := 323) (o := 9088) hX ?_ (by decide) (by decide) (by decide) fun X hX => ?_
  · exact cs_of (cr_of (ch4_of hv6075))
  with_reducible refine step_x1 hX fun v6086 hv6086 => ?_
  with_reducible refine step_any_o0 fun _ => step_putO (t := 1) (kt := 72) (s0 := 0) (m := 324) (o := 9216) hX ?_ (by decide) (by decide) (by decide) fun X hX => ?_
  · exact cs_of (cr_of (ch0_of (ct_of (cu_of (b3_of (hi_of chi_of) (b2_of (lo_of clo_of) (b1_of (b0_of hv6086) (bi_of hv4645))))))))
  with_reducible refine step_any_o0 fun v6103 => ?_
  exact step_ret ⟨hX, (cr_of (ch4_of (ct_of (cu_of (b3_of (hi_of chi_of) (b2_of (lo_of clo_of) (b1_of (b0_of hv6086) (bi_of hv4645))))))))⟩

theorem t242 (v4645 : FVec Ideal S1x128 .f32) (v6102 : FVec Ideal S16x4x128 .fp8e4m3) (v6103 : Vec Ideal S1x16x1x1x4x128 .fp8e4m3) (hv4645 : Inv i 1 v4645) (hv6102 : CR i 1 9216 4 v6102) (X : State Ideal) (hX : XO i 11520 11520 325 X) :
    Steps defs 𝒱 (c : Thread nD τ) E (St c R i) X (R.app (k0_part242 (F := Ideal) g) v4645 v6102 v6103) fun a Y => XO i 11520 11520 328 Y ∧ CT i 1 9472 a.1 ∧ CR i 1 9472 0 a.2 := by
  unfold Refs.app; rw [k0_part242_eq_skeleton]; unfold k0_part242_skel
  with_reducible refine step_putO (t := 1) (kt := 72) (s0 := 4) (m := 325) (o := 9216) hX ?_ (by decide) (by decide) (by decide) fun X hX => ?_
  · exact cs_of hv6102
  with_reducible refine step_x1 hX fun v6106 hv6106 => ?_
  with_reducible refine step_any_o0 fun _ => step_putO (t := 1) (kt := 73) (s0 := 0) (m := 326) (o := 9344) hX ?_ (by decide) (by decide) (by decide) fun X hX => ?_
  · exact cs_of (cr_of (ch0_of (ct_of (cu_of (b3_of (hi_of chi_of) (b2_of (lo_of clo_of) (b1_of (b0_of hv6106) (bi_of hv4645))))))))
  with_reducible refine step_any_o0 fun _ => step_putO (t := 1) (kt := 73) (s0 := 4) (m := 327) (o := 9344) hX ?_ (by decide) (by decide) (by decide) fun X hX => ?_
  · exact cs_of (cr_of (ch4_of (ct_of (cu_of (b3_of (hi_of chi_of) (b2_of (lo_of clo_of) (b1_of (b0_of hv6106) (bi_of hv4645))))))))
  with_reducible refine step_x1 hX fun v6126 hv6126 => ?_
  exact step_ret ⟨hX, (ct_of (cu_of (b3_of (hi_of chi_of) (b2_of (lo_of clo_of) (b1_of (b0_of hv6126) (bi_of hv4645)))))), (cr_of (ch0_of (ct_of (cu_of (b3_of (hi_of chi_of) (b2_of (lo_of clo_of) (b1_of (b0_of hv6126) (bi_of hv4645))))))))⟩

theorem t243 (v4645 : FVec Ideal S1x128 .f32) (v6135 : FVec Ideal S128x128 .fp8e4m3) (v6137 : FVec Ideal S16x4x128 .fp8e4m3) (hv4645 : Inv i 1 v4645) (hv6135 : CT i 1 9472 v6135) (hv6137 : CR i 1 9472 0 v6137) (X : State Ideal) (hX : XO i 11520 11520 328 X) :
    Steps defs 𝒱 (c : Thread nD τ) E (St c R i) X (R.app (k0_part243 (F := Ideal) g) v4645 v6135 v6137) fun _ Y => XO i 11520 11520 332 Y := by
  unfold Refs.app; rw [k0_part243_eq_skeleton]; unfold k0_part243_skel
  with_reducible refine step_any_o0 fun _ => step_putO (t := 1) (kt := 74) (s0 := 0) (m := 328) (o := 9472) hX ?_ (by decide) (by decide) (by decide) fun X hX => ?_
  · exact cs_of hv6137
  with_reducible refine step_any_o0 fun _ => step_putO (t := 1) (kt := 74) (s0 := 4) (m := 329) (o := 9472) hX ?_ (by decide) (by decide) (by decide) fun X hX => ?_
  · exact cs_of (cr_of (ch4_of hv6135))
  with_reducible refine step_x1 hX fun v6146 hv6146 => ?_
  with_reducible refine step_any_o0 fun _ => step_putO (t := 1) (kt := 75) (s0 := 0) (m := 330) (o := 9600) hX ?_ (by decide) (by decide) (by decide) fun X hX => ?_
  · exact cs_of (cr_of (ch0_of (ct_of (cu_of (b3_of (hi_of chi_of) (b2_of (lo_of clo_of) (b1_of (b0_of hv6146) (bi_of hv4645))))))))
  with_reducible refine step_any_o0 fun _ => step_putO (t := 1) (kt := 75) (s0 := 4) (m := 331) (o := 9600) hX ?_ (by decide) (by decide) (by decide) fun X hX => ?_
  · exact cs_of (cr_of (ch4_of (ct_of (cu_of (b3_of (hi_of chi_of) (b2_of (lo_of clo_of) (b1_of (b0_of hv6146) (bi_of hv4645))))))))
  exact step_ret hX

theorem t244 (v4645 : FVec Ideal S1x128 .f32) (hv4645 : Inv i 1 v4645) (X : State Ideal) (hX : XO i 11520 11520 332 X) :
    Steps defs 𝒱 (c : Thread nD τ) E (St c R i) X (R.app (k0_part244 (F := Ideal) g) v4645) fun a Y => XO i 11520 11520 334 Y ∧ CT i 1 9856 a.1 ∧ CR i 1 9856 0 a.2 := by
  unfold Refs.app; rw [k0_part244_eq_skeleton]; unfold k0_part244_skel
  with_reducible refine step_x1 hX fun v6166 hv6166 => ?_
  with_reducible refine step_any_o0 fun _ => step_putO (t := 1) (kt := 76) (s0 := 0) (m := 332) (o := 9728) hX ?_ (by decide) (by decide) (by decide) fun X hX => ?_
  · exact cs_of (cr_of (ch0_of (ct_of (cu_of (b3_of (hi_of chi_of) (b2_of (lo_of clo_of) (b1_of (b0_of hv6166) (bi_of hv4645))))))))
  with_reducible refine step_any_o0 fun _ => step_putO (t := 1) (kt := 76) (s0 := 4) (m := 333) (o := 9728) hX ?_ (by decide) (by decide) (by decide) fun X hX => ?_
  · exact cs_of (cr_of (ch4_of (ct_of (cu_of (b3_of (hi_of chi_of) (b2_of (lo_of clo_of) (b1_of (b0_of hv6166) (bi_of hv4645))))))))
  with_reducible refine step_x1 hX fun v6186 hv6186 => ?_
  exact step_ret ⟨hX, (ct_of (cu_of (b3_of (hi_of chi_of) (b2_of (lo_of clo_of) (b1_of (b0_of hv6186) (bi_of hv4645)))))), (cr_of (ch0_of (ct_of (cu_of (b3_of (hi_of chi_of) (b2_of (lo_of clo_of) (b1_of (b0_of hv6186) (bi_of hv4645))))))))⟩

theorem t245 (v4645 : FVec Ideal S1x128 .f32) (v6195 : FVec Ideal S128x128 .fp8e4m3) (v6197 : FVec Ideal S16x4x128 .fp8e4m3) (hv4645 : Inv i 1 v4645) (hv6195 : CT i 1 9856 v6195) (hv6197 : CR i 1 9856 0 v6197) (X : State Ideal) (hX : XO i 11520 11520 334 X) :
    Steps defs 𝒱 (c : Thread nD τ) E (St c R i) X (R.app (k0_part245 (F := Ideal) g) v4645 v6195 v6197) fun _ Y => XO i 11520 11520 338 Y := by
  unfold Refs.app; rw [k0_part245_eq_skeleton]; unfold k0_part245_skel
  with_reducible refine step_any_o0 fun _ => step_putO (t := 1) (kt := 77) (s0 := 0) (m := 334) (o := 9856) hX ?_ (by decide) (by decide) (by decide) fun X hX => ?_
  · exact cs_of hv6197
  with_reducible refine step_any_o0 fun _ => step_putO (t := 1) (kt := 77) (s0 := 4) (m := 335) (o := 9856) hX ?_ (by decide) (by decide) (by decide) fun X hX => ?_
  · exact cs_of (cr_of (ch4_of hv6195))
  with_reducible refine step_x1 hX fun v6206 hv6206 => ?_
  with_reducible refine step_any_o0 fun _ => step_putO (t := 1) (kt := 78) (s0 := 0) (m := 336) (o := 9984) hX ?_ (by decide) (by decide) (by decide) fun X hX => ?_
  · exact cs_of (cr_of (ch0_of (ct_of (cu_of (b3_of (hi_of chi_of) (b2_of (lo_of clo_of) (b1_of (b0_of hv6206) (bi_of hv4645))))))))
  with_reducible refine step_any_o0 fun _ => step_putO (t := 1) (kt := 78) (s0 := 4) (m := 337) (o := 9984) hX ?_ (by decide) (by decide) (by decide) fun X hX => ?_
  · exact cs_of (cr_of (ch4_of (ct_of (cu_of (b3_of (hi_of chi_of) (b2_of (lo_of clo_of) (b1_of (b0_of hv6206) (bi_of hv4645))))))))
  exact step_ret hX

theorem t246 (v4645 : FVec Ideal S1x128 .f32) (hv4645 : Inv i 1 v4645) (X : State Ideal) (hX : XO i 11520 11520 338 X) :
    Steps defs 𝒱 (c : Thread nD τ) E (St c R i) X (R.app (k0_part246 (F := Ideal) g) v4645) fun a Y => XO i 11520 11520 340 Y ∧ CT i 1 10240 a.1 ∧ CR i 1 10240 0 a.2.1 := by
  unfold Refs.app; rw [k0_part246_eq_skeleton]; unfold k0_part246_skel
  with_reducible refine step_x1 hX fun v6226 hv6226 => ?_
  with_reducible refine step_any_o0 fun _ => step_putO (t := 1) (kt := 79) (s0 := 0) (m := 338) (o := 10112) hX ?_ (by decide) (by decide) (by decide) fun X hX => ?_
  · exact cs_of (cr_of (ch0_of (ct_of (cu_of (b3_of (hi_of chi_of) (b2_of (lo_of clo_of) (b1_of (b0_of hv6226) (bi_of hv4645))))))))
  with_reducible refine step_any_o0 fun _ => step_putO (t := 1) (kt := 79) (s0 := 4) (m := 339) (o := 10112) hX ?_ (by decide) (by decide) (by decide) fun X hX => ?_
  · exact cs_of (cr_of (ch4_of (ct_of (cu_of (b3_of (hi_of chi_of) (b2_of (lo_of clo_of) (b1_of (b0_of hv6226) (bi_of hv4645))))))))
  with_reducible refine step_x1 hX fun v6246 hv6246 => ?_
  with_reducible refine step_any_o0 fun v6258 => ?_
  exact step_ret ⟨hX, (ct_of (cu_of (b3_of (hi_of chi_of) (b2_of (lo_of clo_of) (b1_of (b0_of hv6246) (bi_of hv4645)))))), (cr_of (ch0_of (ct_of (cu_of (b3_of (hi_of chi_of) (b2_of (lo_of clo_of) (b1_of (b0_of hv6246) (bi_of hv4645))))))))⟩

theorem t247 (v4645 : FVec Ideal S1x128 .f32) (v6255 : FVec Ideal S128x128 .fp8e4m3) (v6257 : FVec Ideal S16x4x128 .fp8e4m3) (v6258 : Vec Ideal S1x16x1x1x4x128 .fp8e4m3) (hv4645 : Inv i 1 v4645) (hv6255 : CT i 1 10240 v6255) (hv6257 : CR i 1 10240 0 v6257) (X : State Ideal) (hX : XO i 11520 11520 340 X) :
    Steps defs 𝒱 (c : Thread nD τ) E (St c R i) X (R.app (k0_part247 (F := Ideal) g) v4645 v6255 v6257 v6258) fun a Y => XO i 11520 11520 344 Y ∧ B0 i 1 10496 a.1 ∧ BI i 1 a.2 := by
  unfold Refs.app; rw [k0_part247_eq_skeleton]; unfold k0_part247_skel
  with_reducible refine step_putO (t := 1) (kt := 80) (s0 := 0) (m := 340) (o := 10240) hX ?_ (by decide) (by decide) (by decide) fun X hX => ?_
  · exact cs_of hv6257
  with_reducible refine step_any_o0 fun _ => step_putO (t := 1) (kt := 80) (s0 := 4) (m := 341) (o := 10240) hX ?_ (by decide) (by decide) (by decide) fun X hX => ?_
  · exact cs_of (cr_of (ch4_of hv6255))
  with_reducible refine step_x1 hX fun v6266 hv6266 => ?_
  with_reducible refine step_any_o0 fun _ => step_putO (t := 1) (kt := 81) (s0 := 0) (m := 342) (o := 10368) hX ?_ (by decide) (by decide) (by decide) fun X hX => ?_
  · exact cs_of (cr_of (ch0_of (ct_of (cu_of (b3_of (hi_of chi_of) (b2_of (lo_of clo_of) (b1_of (b0_of hv6266) (bi_of hv4645))))))))
  with_reducible refine step_any_o0 fun _ => step_putO (t := 1) (kt := 81) (s0 := 4) (m := 343) (o := 10368) hX ?_ (by decide) (by decide) (by decide) fun X hX => ?_
  · exact cs_of (cr_of (ch4_of (ct_of (cu_of (b3_of (hi_of chi_of) (b2_of (lo_of clo_of) (b1_of (b0_of hv6266) (bi_of hv4645))))))))
  with_reducible refine step_x1 hX fun v6286 hv6286 => ?_
  exact step_ret ⟨hX, (b0_of hv6286), (bi_of hv4645)⟩

theorem t248 (v4645 : FVec Ideal S1x128 .f32) (v6287 v6288 : FVec Ideal S128x128 .f32) (hv4645 : Inv i 1 v4645) (hv6287 : B0 i 1 10496 v6287) (hv6288 : BI i 1 v6288) (X : State Ideal) (hX : XO i 11520 11520 344 X) :
    Steps defs 𝒱 (c : Thread nD τ) E (St c R i) X (R.app (k0_part248 (F := Ideal) g) v4645 v6287 v6288) fun a Y => XO i 11520 11520 347 Y ∧ CT i 1 10624 a := by
  unfold Refs.app; rw [k0_part248_eq_skeleton]; unfold k0_part248_skel
  with_reducible refine step_any_o0 fun _ => step_putO (t := 1) (kt := 82) (s0 := 0) (m := 344) (o := 10496) hX ?_ (by decide) (by decide) (by decide) fun X hX => ?_
  · exact cs_of (cr_of (ch0_of (ct_of (cu_of (b3_of (hi_of chi_of) (b2_of (lo_of clo_of) (b1_of hv6287 hv6288)))))))
  with_reducible refine step_any_o0 fun _ => step_putO (t := 1) (kt := 82) (s0 := 4) (m := 345) (o := 10496) hX ?_ (by decide) (by decide) (by decide) fun X hX => ?_
  · exact cs_of (cr_of (ch4_of (ct_of (cu_of (b3_of (hi_of chi_of) (b2_of (lo_of clo_of) (b1_of hv6287 hv6288)))))))
  with_reducible refine step_x1 hX fun v6306 hv6306 => ?_
  with_reducible refine step_any_o0 fun _ => step_putO (t := 1) (kt := 83) (s0 := 0) (m := 346) (o := 10624) hX ?_ (by decide) (by decide) (by decide) fun X hX => ?_
  · exact cs_of (cr_of (ch0_of (ct_of (cu_of (b3_of (hi_of chi_of) (b2_of (lo_of clo_of) (b1_of (b0_of hv6306) (bi_of hv4645))))))))
  exact step_ret ⟨hX, (ct_of (cu_of (b3_of (hi_of chi_of) (b2_of (lo_of clo_of) (b1_of (b0_of hv6306) (bi_of hv4645))))))⟩

theorem t249 (v4645 : FVec Ideal S1x128 .f32) (v6315 : FVec Ideal S128x128 .fp8e4m3) (hv4645 : Inv i 1 v4645) (hv6315 : CT i 1 10624 v6315) (X : State Ideal) (hX : XO i 11520 11520 347 X) :
    Steps defs 𝒱 (c : Thread nD τ) E (St c R i) X (R.app (k0_part249 (F := Ideal) g) v4645 v6315) fun a Y => XO i 11520 11520 350 Y ∧ B1 i 1 10880 a.1 ∧ CLo a.2.1 ∧ CHi a.2.2 := by
  unfold Refs.app; rw [k0_part249_eq_skeleton]; unfold k0_part249_skel
  with_reducible refine step_any_o0 fun _ => step_putO (t := 1) (kt := 83) (s0 := 4) (m := 347) (o := 10624) hX ?_ (by decide) (by decide) (by decide) fun X hX => ?_
  · exact cs_of (cr_of (ch4_of hv6315))
  with_reducible refine step_x1 hX fun v6326 hv6326 => ?_
  with_reducible refine step_any_o0 fun _ => step_putO (t := 1) (kt := 84) (s0 := 0) (m := 348) (o := 10752) hX ?_ (by decide) (by decide) (by decide) fun X hX => ?_
  · exact cs_of (cr_of (ch0_of (ct_of (cu_of (b3_of (hi_of chi_of) (b2_of (lo_of clo_of) (b1_of (b0_of hv6326) (bi_of hv4645))))))))
  with_reducible refine step_any_o0 fun _ => step_putO (t := 1) (kt := 84) (s0 := 4) (m := 349) (o := 10752) hX ?_ (by decide) (by decide) (by decide) fun X hX => ?_
  · exact cs_of (cr_of (ch4_of (ct_of (cu_of (b3_of (hi_of chi_of) (b2_of (lo_of clo_of) (b1_of (b0_of hv6326) (bi_of hv4645))))))))
  with_reducible refine step_x1 hX fun v6346 hv6346 => ?_
  exact step_ret ⟨hX, (b1_of (b0_of hv6346) (bi_of hv4645)), clo_of, chi_of⟩

theorem t250 (v4645 : FVec Ideal S1x128 .f32) (v6349 : FVec Ideal S128x128 .f32) (cst_4947 cst_4948 : Ideal .f32) (hv4645 : Inv i 1 v4645) (hv6349 : B1 i 1 10880 v6349) (hcst_4947 : CLo cst_4947) (hcst_4948 : CHi cst_4948) (X : State Ideal) (hX : XO i 11520 11520 350 X) :
    Steps defs 𝒱 (c : Thread nD τ) E (St c R i) X (R.app (k0_part250 (F := Ideal) g) v4645 v6349 cst_4947 cst_4948) fun a Y => XO i 11520 11520 353 Y ∧ CR i 1 11008 4 a := by
  unfold Refs.app; rw [k0_part250_eq_skeleton]; unfold k0_part250_skel
  with_reducible refine step_any_o0 fun _ => step_putO (t := 1) (kt := 85) (s0 := 0) (m := 350) (o := 10880) hX ?_ (by decide) (by decide) (by decide) fun X hX => ?_
  · exact cs_of (cr_of (ch0_of (ct_of (cu_of (b3_of (hi_of hcst_4948) (b2_of (lo_of hcst_4947) hv6349))))))
  with_reducible refine step_any_o0 fun _ => step_putO (t := 1) (kt := 85) (s0 := 4) (m := 351) (o := 10880) hX ?_ (by decide) (by decide) (by decide) fun X hX => ?_
  · exact cs_of (cr_of (ch4_of (ct_of (cu_of (b3_of (hi_of hcst_4948) (b2_of (lo_of hcst_4947) hv6349))))))
  with_reducible refine step_x1 hX fun v6366 hv6366 => ?_
  with_reducible refine step_any_o0 fun _ => step_putO (t := 1) (kt := 86) (s0 := 0) (m := 352) (o := 11008) hX ?_ (by decide) (by decide) (by decide) fun X hX => ?_
  · exact cs_of (cr_of (ch0_of (ct_of (cu_of (b3_of (hi_of chi_of) (b2_of (lo_of clo_of) (b1_of (b0_of hv6366) (bi_of hv4645))))))))
  exact step_ret ⟨hX, (cr_of (ch4_of (ct_of (cu_of (b3_of (hi_of chi_of) (b2_of (lo_of clo_of) (b1_of (b0_of hv6366) (bi_of hv4645))))))))⟩

theorem t251 (v4645 : FVec Ideal S1x128 .f32) (v6382 : FVec Ideal S16x4x128 .fp8e4m3) (hv4645 : Inv i 1 v4645) (hv6382 : CR i 1 11008 4 v6382) (X : State Ideal) (hX : XO i 11520 11520 353 X) :
    Steps defs 𝒱 (c : Thread nD τ) E (St c R i) X (R.app (k0_part251 (F := Ideal) g) v4645 v6382) fun a Y => XO i 11520 11520 356 Y ∧ B2 i 1 11264 a.1 ∧ Hi a.2 := by
  unfold Refs.app; rw [k0_part251_eq_skeleton]; unfold k0_part251_skel
  with_reducible refine step_any_o0 fun _ => step_putO (t := 1) (kt := 86) (s0 := 4) (m := 353) (o := 11008) hX ?_ (by decide) (by decide) (by decide) fun X hX => ?_
  · exact cs_of hv6382
  with_reducible refine step_x1 hX fun v6386 hv6386 => ?_
  with_reducible refine step_any_o0 fun _ => step_putO (t := 1) (kt := 87) (s0 := 0) (m := 354) (o := 11136) hX ?_ (by decide) (by decide) (by decide) fun X hX => ?_
  · exact cs_of (cr_of (ch0_of (ct_of (cu_of (b3_of (hi_of chi_of) (b2_of (lo_of clo_of) (b1_of (b0_of hv6386) (bi_of hv4645))))))))
  with_reducible refine step_any_o0 fun _ => step_putO (t := 1) (kt := 87) (s0 := 4) (m := 355) (o := 11136) hX ?_ (by decide) (by decide) (by decide) fun X hX => ?_
  · exact cs_of (cr_of (ch4_of (ct_of (cu_of (b3_of (hi_of chi_of) (b2_of (lo_of clo_of) (b1_of (b0_of hv6386) (bi_of hv4645))))))))
  with_reducible refine step_x1 hX fun v6406 hv6406 => ?_
  exact step_ret ⟨hX, (b2_of (lo_of clo_of) (b1_of (b0_of hv6406) (bi_of hv4645))), (hi_of chi_of)⟩

theorem t252 (v4645 : FVec Ideal S1x128 .f32) (v6411 v6412 : FVec Ideal S128x128 .f32) (hv4645 : Inv i 1 v4645) (hv6411 : B2 i 1 11264 v6411) (hv6412 : Hi v6412) (X : State Ideal) (hX : XO i 11520 11520 356 X) :
    Steps defs 𝒱 (c : Thread nD τ) E (St c R i) X (R.app (k0_part252 (F := Ideal) g) v4645 v6411 v6412) fun a Y => XO i 11520 11520 359 Y ∧ CR i 1 11392 4 a := by
  unfold Refs.app; rw [k0_part252_eq_skeleton]; unfold k0_part252_skel
  with_reducible refine step_any_o0 fun _ => step_putO (t := 1) (kt := 88) (s0 := 0) (m := 356) (o := 11264) hX ?_ (by decide) (by decide) (by decide) fun X hX => ?_
  · exact cs_of (cr_of (ch0_of (ct_of (cu_of (b3_of hv6412 hv6411)))))
  with_reducible refine step_any_o0 fun _ => step_putO (t := 1) (kt := 88) (s0 := 4) (m := 357) (o := 11264) hX ?_ (by decide) (by decide) (by decide) fun X hX => ?_
  · exact cs_of (cr_of (ch4_of (ct_of (cu_of (b3_of hv6412 hv6411)))))
  with_reducible refine step_x1 hX fun v6426 hv6426 => ?_
  with_reducible refine step_any_o0 fun _ => step_putO (t := 1) (kt := 89) (s0 := 0) (m := 358) (o := 11392) hX ?_ (by decide) (by decide) (by decide) fun X hX => ?_
  · exact cs_of (cr_of (ch0_of (ct_of (cu_of (b3_of (hi_of chi_of) (b2_of (lo_of clo_of) (b1_of (b0_of hv6426) (bi_of hv4645))))))))
  exact step_ret ⟨hX, (cr_of (ch4_of (ct_of (cu_of (b3_of (hi_of chi_of) (b2_of (lo_of clo_of) (b1_of (b0_of hv6426) (bi_of hv4645))))))))⟩

theorem t253 (arg2 : BitVec 32) (v4637 : FVec Ideal S1x128 .f32) (v6442 : FVec Ideal S16x4x128 .fp8e4m3) (hv4637 : QC i 1 v4637) (hv6442 : CR i 1 11392 4 v6442) (X : State Ideal) (hX : XO i 11520 11520 359 X) :
    Steps defs 𝒱 (c : Thread nD τ) E (St c R i) X (R.app (k0_part253 (F := Ideal) g) arg2 v4637 v6442) fun _ Y => XO i 11520 11520 360 Y := by
  unfold Refs.app; rw [k0_part253_eq_skeleton]; unfold k0_part253_skel
  with_reducible refine step_any_o0 fun _ => step_putO (t := 1) (kt := 89) (s0 := 4) (m := 359) (o := 11392) hX ?_ (by decide) (by decide) (by decide) fun X hX => ?_
  · exact cs_of hv6442
  with_reducible refine step_any_l1 fun _ => step_any_l1 fun _ => step_any_t1 fun _ => step_keep_t1 hX fun X hX => ?_
  exact step_ret hX

end Cert.KernelIdeal.Own

end
-- ==== Proof.KeepRun1.lean ====
/-
  The parts of the body that touch neither the scaled products nor the first result (parts 1 to 44).
-/
module

public import proofs.«01_k».proof.Proof.Gen.KernelIdeal.Skeleton
public import proofs.«01_k».proof.Proof.Own

@[expose] public section

set_option maxRecDepth 65536

noncomputable section

namespace Cert.KernelIdeal.Own

open Idealize.ShloMosaic Idealize.ShloMosaic.TcCoe Idealize.SL Idealize.SL.Sem
open Cert.Steps Cert.KernelIdeal.Gen

variable {F : FTy → Type} [FloatOps F]
variable (defs : Defs nD τ sig (Elt F) Λ₀) (𝒱 : Variants) (c : Dev nD) (E : Set ℕ) (R : Refs) (i : Ins F) (g : grid0.Coords)

set_option maxHeartbeats 0 in
/-- Parts 1 to 15 of the body. -/
theorem keep_parts_1 :
    (Moves defs 𝒱 (c : Thread nD τ) E (St c R i) Same (R.app (k0_part1 (F := F) g))) ∧
    (∀ (v7252 : FVec F S512x80 .fp8e4m3), Moves defs 𝒱 (c : Thread nD τ) E (St c R i) Same (R.app (k0_part2 (F := F) g) v7252)) ∧
    (Moves defs 𝒱 (c : Thread nD τ) E (St c R i) Same (R.app (k0_part3 (F := F) g))) ∧
    (∀ (v7316 : FVec F S512x80 .fp8e4m3), Moves defs 𝒱 (c : Thread nD τ) E (St c R i) Same (R.app (k0_part4 (F := F) g) v7316)) ∧
    (Moves defs 𝒱 (c : Thread nD τ) E (St c R i) Same (R.app (k0_part5 (F := F) g))) ∧
    (∀ (v7380 : FVec F S512x80 .fp8e4m3), Moves defs 𝒱 (c : Thread nD τ) E (St c R i) Same (R.app (k0_part6 (F := F) g) v7380)) ∧
    (Moves defs 𝒱 (c : Thread nD τ) E (St c R i) Same (R.app (k0_part7 (F := F) g))) ∧
    (∀ (v7444 : FVec F S80x512 .fp8e4m3), Moves defs 𝒱 (c : Thread nD τ) E (St c R i) Same (R.app (k0_part8 (F := F) g) v7444)) ∧
    (Moves defs 𝒱 (c : Thread nD τ) E (St c R i) Same (R.app (k0_part9 (F := F) g))) ∧
    (∀ (v7508 : FVec F S80x512 .fp8e4m3), Moves defs 𝒱 (c : Thread nD τ) E (St c R i) Same (R.app (k0_part10 (F := F) g) v7508)) ∧
    (Moves defs 𝒱 (c : Thread nD τ) E (St c R i) Same (R.app (k0_part11 (F := F) g))) ∧
    (∀ (v7572 : FVec F S80x512 .fp8e4m3), Moves defs 𝒱 (c : Thread nD τ) E (St c R i) Same (R.app (k0_part12 (F := F) g) v7572)) ∧
    (∀ (v7604 : FVec F S1x1x320x80 .fp8e4m3), Moves defs 𝒱 (c : Thread nD τ) E (St c R i) Same (R.app (k0_part13 (F := F) g) v7604)) ∧
    (∀ (v7636 : FVec F S80x512 .fp8e4m3), Moves defs 𝒱 (c : Thread nD τ) E (St c R i) Same (R.app (k0_part14 (F := F) g) v7636)) ∧
    (∀ (v7668 : FVec F S1x1x512x80 .fp8e4m3), Moves defs 𝒱 (c : Thread nD τ) E (St c R i) Same (R.app (k0_part15 (F := F) g) v7668)) := by
  refine ⟨?_, ?_, ?_, ?_, ?_, ?_, ?_, ?_, ?_, ?_, ?_, ?_, ?_, ?_, ?_⟩ <;> intros <;> unfold Refs.app <;>
    (first
      | (rw [k0_part1_eq_skeleton]; unfold k0_part1_skel)
      | (rw [k0_part2_eq_skeleton]; unfold k0_part2_skel)
      | (rw [k0_part3_eq_skeleton]; unfold k0_part3_skel)
      | (rw [k0_part4_eq_skeleton]; unfold k0_part4_skel)
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)) <;>
    repeat' first
      | with_reducible exact move_ret
      | with_reducible refine move_bind ?_ fun _ => ?_
      | with_reducible exact move_load_o1
      | with_reducible exact move_load_t1
      | with_reducible exact move_store_o1 fun _ _ => ⟨rfl, rfl⟩
      | split

set_option maxHeartbeats 0 in
/-- Parts 16 to 30 of the body. -/
theorem keep_parts_16 :
    (∀ (v7700 : FVec F S80x512 .fp8e4m3), Moves defs 𝒱 (c : Thread nD τ) E (St c R i) Same (R.app (k0_part16 (F := F) g) v7700)) ∧
    (∀ (v7732 : FVec F S1x1x512x80 .fp8e4m3), Moves defs 𝒱 (c : Thread nD τ) E (St c R i) Same (R.app (k0_part17 (F := F) g) v7732)) ∧
    (∀ (v7764 : FVec F S80x512 .fp8e4m3), Moves defs 𝒱 (c : Thread nD τ) E (St c R i) Same (R.app (k0_part18 (F := F) g) v7764)) ∧
    (∀ (v7796 : FVec F S1x1x512x80 .fp8e4m3), Moves defs 𝒱 (c : Thread nD τ) E (St c R i) Same (R.app (k0_part19 (F := F) g) v7796)) ∧
    (∀ (v7828 : FVec F S80x1x512 .fp8e4m3), Moves defs 𝒱 (c : Thread nD τ) E (St c R i) Same (R.app (k0_part20 (F := F) g) v7828)) ∧
    (∀ (v7860 : FVec F S1x1x512x80 .fp8e4m3), Moves defs 𝒱 (c : Thread nD τ) E (St c R i) Same (R.app (k0_part21 (F := F) g) v7860)) ∧
    (∀ (v7892 : FVec F S80x1x512 .fp8e4m3), Moves defs 𝒱 (c : Thread nD τ) E (St c R i) Same (R.app (k0_part22 (F := F) g) v7892)) ∧
    (∀ (v7924 : FVec F S1x1x512x80 .fp8e4m3), Moves defs 𝒱 (c : Thread nD τ) E (St c R i) Same (R.app (k0_part23 (F := F) g) v7924)) ∧
    (∀ (v7956 : FVec F S80x1x512 .fp8e4m3), Moves defs 𝒱 (c : Thread nD τ) E (St c R i) Same (R.app (k0_part24 (F := F) g) v7956)) ∧
    (∀ (v7986 : FVec F S320x80 .fp8e4m3), Moves defs 𝒱 (c : Thread nD τ) E (St c R i) Same (R.app (k0_part25 (F := F) g) v7986)) ∧
    (∀ (v8020 : FVec F S80x1x512 .fp8e4m3), Moves defs 𝒱 (c : Thread nD τ) E (St c R i) Same (R.app (k0_part26 (F := F) g) v8020)) ∧
    (∀ (v8050 : FVec F S512x80 .fp8e4m3), Moves defs 𝒱 (c : Thread nD τ) E (St c R i) Same (R.app (k0_part27 (F := F) g) v8050)) ∧
    (∀ (v8084 : FVec F S80x1x512 .fp8e4m3), Moves defs 𝒱 (c : Thread nD τ) E (St c R i) Same (R.app (k0_part28 (F := F) g) v8084)) ∧
    (Moves defs 𝒱 (c : Thread nD τ) E (St c R i) Same (R.app (k0_part29 (F := F) g))) ∧
    (∀ (v8168 : FVec F S1x128x4x80 .fp8e4m3), Moves defs 𝒱 (c : Thread nD τ) E (St c R i) Same (R.app (k0_part30 (F := F) g) v8168)) := by
  refine ⟨?_, ?_, ?_, ?_, ?_, ?_, ?_, ?_, ?_, ?_, ?_, ?_, ?_, ?_, ?_⟩ <;> intros <;> unfold Refs.app <;>
    (first
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
      | (rw [k0_part20_eq_skeleton]; unfold k0_part20_skel)
      | (rw [k0_part21_eq_skeleton]; unfold k0_part21_skel)
      | (rw [k0_part22_eq_skeleton]; unfold k0_part22_skel)
      | (rw [k0_part23_eq_skeleton]; unfold k0_part23_skel)
      | (rw [k0_part24_eq_skeleton]; unfold k0_part24_skel)
      | (rw [k0_part25_eq_skeleton]; unfold k0_part25_skel)
      | (rw [k0_part26_eq_skeleton]; unfold k0_part26_skel)
      | (rw [k0_part27_eq_skeleton]; unfold k0_part27_skel)
      | (rw [k0_part28_eq_skeleton]; unfold k0_part28_skel)
      | (rw [k0_part29_eq_skeleton]; unfold k0_part29_skel)
      | (rw [k0_part30_eq_skeleton]; unfold k0_part30_skel)) <;>
    repeat' first
      | with_reducible exact move_ret
      | with_reducible refine move_bind ?_ fun _ => ?_
      | with_reducible exact move_load_o1
      | with_reducible exact move_load_o2
      | with_reducible exact move_load_t1
      | with_reducible exact move_load_t2
      | with_reducible exact move_store_o1 fun _ _ => ⟨rfl, rfl⟩
      | with_reducible exact move_store_o2 fun _ _ => ⟨rfl, rfl⟩
      | split

set_option maxHeartbeats 0 in
/-- Parts 31 to 44 of the body. -/
theorem keep_parts_31 :
    (∀ (v8211 : FVec F S128x4x80 .fp8e4m3) (v8212 : Vec F S1x128x4x80 .fp8e4m3), Moves defs 𝒱 (c : Thread nD τ) E (St c R i) Same (R.app (k0_part31 (F := F) g) v8211 v8212)) ∧
    (∀ (v8257 : FVec F S128x4x80 .fp8e4m3), Moves defs 𝒱 (c : Thread nD τ) E (St c R i) Same (R.app (k0_part32 (F := F) g) v8257)) ∧
    (∀ (v8303 : FVec F S128x4x80 .fp8e4m3), Moves defs 𝒱 (c : Thread nD τ) E (St c R i) Same (R.app (k0_part33 (F := F) g) v8303)) ∧
    (∀ (v8336 v8340 v8344 v8348 : FVec F S128x1x80 .fp8e4m3), Moves defs 𝒱 (c : Thread nD τ) E (St c R i) Same (R.app (k0_part34 (F := F) g) v8336 v8340 v8344 v8348)) ∧
    (∀ (v8382 v8386 v8390 : FVec F S128x1x80 .fp8e4m3) (v8392 : FVec F S80x128 .fp8e4m3), Moves defs 𝒱 (c : Thread nD τ) E (St c R i) Same (R.app (k0_part35 (F := F) g) v8382 v8386 v8390 v8392)) ∧
    (∀ (v8424 : FVec F S80x4x128 .fp8e4m3) (v8428 v8432 v8436 : FVec F S128x1x80 .fp8e4m3), Moves defs 𝒱 (c : Thread nD τ) E (St c R i) Same (R.app (k0_part36 (F := F) g) v8424 v8428 v8432 v8436)) ∧
    (∀ (v8470 : FVec F S80x4x128 .fp8e4m3) (v8474 v8478 : FVec F S128x1x80 .fp8e4m3) (v8480 : FVec F S80x128 .fp8e4m3), Moves defs 𝒱 (c : Thread nD τ) E (St c R i) Same (R.app (k0_part37 (F := F) g) v8470 v8474 v8478 v8480)) ∧
    (∀ (v8516 : FVec F S80x4x128 .fp8e4m3) (v8520 v8524 : FVec F S128x1x80 .fp8e4m3), Moves defs 𝒱 (c : Thread nD τ) E (St c R i) Same (R.app (k0_part38 (F := F) g) v8516 v8520 v8524)) ∧
    (∀ (v8562 : FVec F S80x4x128 .fp8e4m3) (v8567 : FVec F S80x1x80 .fp8e4m3) (v8568 : FVec F S80x1x128 .fp8e4m3), Moves defs 𝒱 (c : Thread nD τ) E (St c R i) Same (R.app (k0_part39 (F := F) g) v8562 v8567 v8568)) ∧
    (Moves defs 𝒱 (c : Thread nD τ) E (St c R i) Same (R.app (k0_part40 (F := F) g))) ∧
    (∀ (v8664 : FVec F S80x4x80 .fp8e4m3), Moves defs 𝒱 (c : Thread nD τ) E (St c R i) Same (R.app (k0_part41 (F := F) g) v8664)) ∧
    (∀ (v8697 v8701 v8705 : FVec F S128x1x80 .fp8e4m3) (v8708 : FVec F S128x80 .fp8e4m3), Moves defs 𝒱 (c : Thread nD τ) E (St c R i) Same (R.app (k0_part42 (F := F) g) v8697 v8701 v8705 v8708)) ∧
    (∀ (v8743 v8747 v8751 : FVec F S128x1x80 .fp8e4m3) (v8752 : FVec F S80x1x128 .fp8e4m3), Moves defs 𝒱 (c : Thread nD τ) E (St c R i) Same (R.app (k0_part43 (F := F) g) v8743 v8747 v8751 v8752)) ∧
    (∀ (v8789 : FVec F S80x4x128 .fp8e4m3) (v8794 : FVec F S52x1x80 .fp8e4m3) (v8796 : FVec F S80x128 .fp8e4m3), Moves defs 𝒱 (c : Thread nD τ) E (St c R i) Same (R.app (k0_part44 (F := F) g) v8789 v8794 v8796)) := by
  refine ⟨?_, ?_, ?_, ?_, ?_, ?_, ?_, ?_, ?_, ?_, ?_, ?_, ?_, ?_⟩ <;> intros <;> unfold Refs.app <;>
    (first
      | (rw [k0_part31_eq_skeleton]; unfold k0_part31_skel)
      | (rw [k0_part32_eq_skeleton]; unfold k0_part32_skel)
      | (rw [k0_part33_eq_skeleton]; unfold k0_part33_skel)
      | (rw [k0_part34_eq_skeleton]; unfold k0_part34_skel)
      | (rw [k0_part35_eq_skeleton]; unfold k0_part35_skel)
      | (rw [k0_part36_eq_skeleton]; unfold k0_part36_skel)
      | (rw [k0_part37_eq_skeleton]; unfold k0_part37_skel)
      | (rw [k0_part38_eq_skeleton]; unfold k0_part38_skel)
      | (rw [k0_part39_eq_skeleton]; unfold k0_part39_skel)
      | (rw [k0_part40_eq_skeleton]; unfold k0_part40_skel)
      | (rw [k0_part41_eq_skeleton]; unfold k0_part41_skel)
      | (rw [k0_part42_eq_skeleton]; unfold k0_part42_skel)
      | (rw [k0_part43_eq_skeleton]; unfold k0_part43_skel)
      | (rw [k0_part44_eq_skeleton]; unfold k0_part44_skel)) <;>
    repeat' first
      | with_reducible exact move_ret
      | with_reducible refine move_bind ?_ fun _ => ?_
      | with_reducible exact move_load_o2
      | with_reducible exact move_load_o3
      | with_reducible exact move_load_t2
      | with_reducible exact move_load_t3
      | with_reducible exact move_store_o2 fun _ _ => ⟨rfl, rfl⟩
      | with_reducible exact move_store_o3 fun _ _ => ⟨rfl, rfl⟩
      | split

end Cert.KernelIdeal.Own

end
-- ==== Proof.KeepRun2.lean ====
/-
  The parts of the body that touch neither the scaled products nor the first result (parts 173 to 274).
-/
module

public import proofs.«01_k».proof.Proof.Gen.KernelIdeal.Skeleton
public import proofs.«01_k».proof.Proof.Own

@[expose] public section

set_option maxRecDepth 65536

noncomputable section

namespace Cert.KernelIdeal.Own

open Idealize.ShloMosaic Idealize.ShloMosaic.TcCoe Idealize.SL Idealize.SL.Sem
open Cert.Steps Cert.KernelIdeal.Gen

variable {F : FTy → Type} [FloatOps F]
variable (defs : Defs nD τ sig (Elt F) Λ₀) (𝒱 : Variants) (c : Dev nD) (E : Set ℕ) (R : Refs) (i : Ins F) (g : grid0.Coords)

set_option maxHeartbeats 0 in
/-- Parts 173 to 187 of the body. -/
theorem keep_parts_173 :
    (∀ (arg2 : BitVec 32) (v3875 : FVec F S1x128 .f32) (v3894 : FVec F S64x512 .fp8e4m3), Moves defs 𝒱 (c : Thread nD τ) E (St c R i) Same (R.app (k0_part173 (F := F) g) arg2 v3875 v3894)) ∧
    (∀ (arg2 : BitVec 32) (v3875 : FVec F S1x128 .f32) (v3935 : FVec F S512x128 .f32), Moves defs 𝒱 (c : Thread nD τ) E (St c R i) Same (R.app (k0_part174 (F := F) g) arg2 v3875 v3935)) ∧
    (∀ (arg2 : BitVec 32) (v3875 : FVec F S1x128 .f32) (v3972 : FVec F S64x512 .fp8e4m3), Moves defs 𝒱 (c : Thread nD τ) E (St c R i) Same (R.app (k0_part175 (F := F) g) arg2 v3875 v3972)) ∧
    (∀ (arg2 : BitVec 32) (v3875 : FVec F S1x128 .f32) (v4006 : Vec F S1x320x128 .f32), Moves defs 𝒱 (c : Thread nD τ) E (St c R i) Same (R.app (k0_part176 (F := F) g) arg2 v3875 v4006)) ∧
    (∀ (v4040 : Vec F S1x72x128 .f32), Moves defs 𝒱 (c : Thread nD τ) E (St c R i) Same (R.app (k0_part177 (F := F) g) v4040)) ∧
    (∀ (v4068 : FVec F S72x128 .f32), Moves defs 𝒱 (c : Thread nD τ) E (St c R i) Same (R.app (k0_part178 (F := F) g) v4068)) ∧
    (∀ (v4097 : FVec F S72x128 .f32), Moves defs 𝒱 (c : Thread nD τ) E (St c R i) Same (R.app (k0_part179 (F := F) g) v4097)) ∧
    (∀ (v4124 : FVec F S72x128 .f32) (v4125 : Vec F S72x128 .f32), Moves defs 𝒱 (c : Thread nD τ) E (St c R i) Same (R.app (k0_part180 (F := F) g) v4124 v4125)) ∧
    (∀ (v4153 : FVec F S72x128 .f32), Moves defs 𝒱 (c : Thread nD τ) E (St c R i) Same (R.app (k0_part181 (F := F) g) v4153)) ∧
    (∀ (v2054 : FVec F S1x128 .f32) (v4180 : FVec F S72x128 .f32), Moves defs 𝒱 (c : Thread nD τ) E (St c R i) Same (R.app (k0_part182 (F := F) g) v2054 v4180)) ∧
    (∀ (arg2 : BitVec 32) (v4208 : FVec F S1x128 .f32) (v4217 : FVec F S128x128 .fp8e4m3), Moves defs 𝒱 (c : Thread nD τ) E (St c R i) Same (R.app (k0_part183 (F := F) g) arg2 v4208 v4217)) ∧
    (∀ (arg2 : BitVec 32) (v4208 : FVec F S1x128 .f32) (v4251 : FVec F S64x128 .fp8e4m3) (v4253 : BitVec 32), Moves defs 𝒱 (c : Thread nD τ) E (St c R i) Same (R.app (k0_part184 (F := F) g) arg2 v4208 v4251 v4253)) ∧
    (∀ (arg2 : BitVec 32) (v4208 : FVec F S1x128 .f32) (v4288 v4289 : FVec F S128x128 .f32), Moves defs 𝒱 (c : Thread nD τ) E (St c R i) Same (R.app (k0_part185 (F := F) g) arg2 v4208 v4288 v4289)) ∧
    (∀ (arg2 : BitVec 32) (v4208 : FVec F S1x128 .f32) (v4326 : FVec F S64x128 .fp8e4m3) (c16_i32_3335 : BitVec 32), Moves defs 𝒱 (c : Thread nD τ) E (St c R i) Same (R.app (k0_part186 (F := F) g) arg2 v4208 v4326 c16_i32_3335)) ∧
    (∀ (v4361 : FVec F S360x128 .f32), Moves defs 𝒱 (c : Thread nD τ) E (St c R i) Same (R.app (k0_part187 (F := F) g) v4361)) := by
  refine ⟨?_, ?_, ?_, ?_, ?_, ?_, ?_, ?_, ?_, ?_, ?_, ?_, ?_, ?_, ?_⟩ <;> intros <;> unfold Refs.app <;>
    (first
      | (rw [k0_part173_eq_skeleton]; unfold k0_part173_skel)
      | (rw [k0_part174_eq_skeleton]; unfold k0_part174_skel)
      | (rw [k0_part175_eq_skeleton]; unfold k0_part175_skel)
      | (rw [k0_part176_eq_skeleton]; unfold k0_part176_skel)
      | (rw [k0_part177_eq_skeleton]; unfold k0_part177_skel)
      | (rw [k0_part178_eq_skeleton]; unfold k0_part178_skel)
      | (rw [k0_part179_eq_skeleton]; unfold k0_part179_skel)
      | (rw [k0_part180_eq_skeleton]; unfold k0_part180_skel)
      | (rw [k0_part181_eq_skeleton]; unfold k0_part181_skel)
      | (rw [k0_part182_eq_skeleton]; unfold k0_part182_skel)
      | (rw [k0_part183_eq_skeleton]; unfold k0_part183_skel)
      | (rw [k0_part184_eq_skeleton]; unfold k0_part184_skel)
      | (rw [k0_part185_eq_skeleton]; unfold k0_part185_skel)
      | (rw [k0_part186_eq_skeleton]; unfold k0_part186_skel)
      | (rw [k0_part187_eq_skeleton]; unfold k0_part187_skel)) <;>
    repeat' first
      | with_reducible exact move_ret
      | with_reducible refine move_bind ?_ fun _ => ?_
      | with_reducible exact move_load_l1
      | with_reducible exact move_load_v
      | with_reducible exact move_load_l2
      | with_reducible exact move_load_h
      | with_reducible exact move_load_l3
      | with_reducible exact move_load_t1
      | with_reducible exact move_load_t2
      | with_reducible exact move_store_v fun _ _ => ⟨rfl, rfl⟩
      | with_reducible exact move_store_l2 fun _ _ => ⟨rfl, rfl⟩
      | with_reducible exact move_store_h fun _ _ => ⟨rfl, rfl⟩
      | with_reducible exact move_store_l3 fun _ _ => ⟨rfl, rfl⟩
      | with_reducible exact move_store_t1 fun _ _ => ⟨rfl, rfl⟩
      | with_reducible exact move_store_t2 fun _ _ => ⟨rfl, rfl⟩
      | split

set_option maxHeartbeats 0 in
/-- Parts 188 to 262 of the body. -/
theorem keep_parts_188 :
    (∀ (v4389 : FVec F S18x128 .f32), Moves defs 𝒱 (c : Thread nD τ) E (St c R i) Same (R.app (k0_part188 (F := F) g) v4389)) ∧
    (∀ (arg2 : BitVec 32) (v2054 : FVec F S1x128 .f32), Moves defs 𝒱 (c : Thread nD τ) E (St c R i) Same (R.app (k0_part189 (F := F) g) arg2 v2054)) ∧
    (∀ (arg2 : BitVec 32) (v2054 : FVec F S1x128 .f32) (v4447 : FVec F S192x128 .fp8e4m3) (v4449 : FVec F S128x128 .fp8e4m3) (v4450 : FVec F S64x128 .fp8e4m3) (v4453 : BitVec 32), Moves defs 𝒱 (c : Thread nD τ) E (St c R i) Same (R.app (k0_part190 (F := F) g) arg2 v2054 v4447 v4449 v4450 v4453)) ∧
    (∀ (arg0 : BitVec 32) (v4484 : Vec F S720x128 .f32) (v4486 : FVec F S1x128 .f32) (v4488 : FVec F S128 .f32), Moves defs 𝒱 (c : Thread nD τ) E (St c R i) Same (R.app (k0_part191 (F := F) g) arg0 v4484 v4486 v4488)) ∧
    (∀ (v4522 : IVec S1x128 32) (c64_i32 : BitVec 32) (v4524 v4531 : IVec S1x128 32) (v4533 : BitVec 32) (v4534 : BitVec 1), Moves defs 𝒱 (c : Thread nD τ) E (St c R i) Same (R.app (k0_part192 (F := F) g) v4522 c64_i32 v4524 v4531 v4533 v4534)) ∧
    (∀ (arg1 arg2 : BitVec 32) (v4519 : FVec F S2x128 .f32) (v4522 v4546 : IVec S1x128 32) (v4572 : BitVec 32) (v4574 : IVec S1x128 32) (v4576 v4578 : IVec S1x128 1) (v4579 : BitVec 1), Moves defs 𝒱 (c : Thread nD τ) E (St c R i) Same (R.app (k0_part193 (F := F) g) arg1 arg2 v4519 v4522 v4546 v4572 v4574 v4576 v4578 v4579)) ∧
    (∀ (arg2 : BitVec 32) (v6458 : FVec F S1x128 .f32) (v6477 : FVec F S64x512 .fp8e4m3) (v6479 : BitVec 32), Moves defs 𝒱 (c : Thread nD τ) E (St c R i) Same (R.app (k0_part254 (F := F) g) arg2 v6458 v6477 v6479)) ∧
    (∀ (arg2 : BitVec 32) (v6458 : FVec F S1x128 .f32) (v6514 : FVec F S512x128 .f32) (cst_5067 : F .f32), Moves defs 𝒱 (c : Thread nD τ) E (St c R i) Same (R.app (k0_part255 (F := F) g) arg2 v6458 v6514 cst_5067)) ∧
    (∀ (arg2 : BitVec 32) (v6458 : FVec F S1x128 .f32) (v6546 : FVec F S128x512 .fp8e4m3) (v6547 : FVec F S64x512 .fp8e4m3), Moves defs 𝒱 (c : Thread nD τ) E (St c R i) Same (R.app (k0_part256 (F := F) g) arg2 v6458 v6546 v6547)) ∧
    (∀ (arg2 : BitVec 32) (v6458 : FVec F S1x128 .f32) (v6588 : FVec F S1x64x512 .fp8e4m3), Moves defs 𝒱 (c : Thread nD τ) E (St c R i) Same (R.app (k0_part257 (F := F) g) arg2 v6458 v6588)) ∧
    (∀ (v6622 : FVec F S72x128 .f32), Moves defs 𝒱 (c : Thread nD τ) E (St c R i) Same (R.app (k0_part258 (F := F) g) v6622)) ∧
    (∀ (v6648 : FVec F S72x128 .f32), Moves defs 𝒱 (c : Thread nD τ) E (St c R i) Same (R.app (k0_part259 (F := F) g) v6648)) ∧
    (Moves defs 𝒱 (c : Thread nD τ) E (St c R i) Same (R.app (k0_part260 (F := F) g))) ∧
    (∀ (v6704 : FVec F S72x128 .f32) (v6705 : Vec F S1x72x128 .f32), Moves defs 𝒱 (c : Thread nD τ) E (St c R i) Same (R.app (k0_part261 (F := F) g) v6704 v6705)) ∧
    (Moves defs 𝒱 (c : Thread nD τ) E (St c R i) Same (R.app (k0_part262 (F := F) g))) := by
  refine ⟨?_, ?_, ?_, ?_, ?_, ?_, ?_, ?_, ?_, ?_, ?_, ?_, ?_, ?_, ?_⟩ <;> intros <;> unfold Refs.app <;>
    (first
      | (rw [k0_part188_eq_skeleton]; unfold k0_part188_skel)
      | (rw [k0_part189_eq_skeleton]; unfold k0_part189_skel)
      | (rw [k0_part190_eq_skeleton]; unfold k0_part190_skel)
      | (rw [k0_part191_eq_skeleton]; unfold k0_part191_skel)
      | (rw [k0_part192_eq_skeleton]; unfold k0_part192_skel)
      | (rw [k0_part193_eq_skeleton]; unfold k0_part193_skel)
      | (rw [k0_part254_eq_skeleton]; unfold k0_part254_skel)
      | (rw [k0_part255_eq_skeleton]; unfold k0_part255_skel)
      | (rw [k0_part256_eq_skeleton]; unfold k0_part256_skel)
      | (rw [k0_part257_eq_skeleton]; unfold k0_part257_skel)
      | (rw [k0_part258_eq_skeleton]; unfold k0_part258_skel)
      | (rw [k0_part259_eq_skeleton]; unfold k0_part259_skel)
      | (rw [k0_part260_eq_skeleton]; unfold k0_part260_skel)
      | (rw [k0_part261_eq_skeleton]; unfold k0_part261_skel)
      | (rw [k0_part262_eq_skeleton]; unfold k0_part262_skel)) <;>
    repeat' first
      | with_reducible exact move_ret
      | with_reducible refine move_bind ?_ fun _ => ?_
      | with_reducible exact move_load_grid
      | with_reducible exact move_load_l1
      | with_reducible exact move_load_v
      | with_reducible exact move_load_l2
      | with_reducible exact move_load_h
      | with_reducible exact move_load_l3
      | with_reducible exact move_load_t1
      | with_reducible exact move_load_t3
      | with_reducible exact move_store_v fun _ _ => ⟨rfl, rfl⟩
      | with_reducible exact move_store_l3 fun _ _ => ⟨rfl, rfl⟩
      | with_reducible exact move_store_t1 fun _ _ => ⟨rfl, rfl⟩
      | with_reducible exact move_store_t3 fun _ _ => ⟨rfl, rfl⟩
      | exact move_smem_temp
      | split

set_option maxHeartbeats 0 in
/-- Parts 263 to 274 of the body. -/
theorem keep_parts_263 :
    (∀ (v4637 : FVec F S1x128 .f32) (v6760 v6762 : FVec F S72x128 .f32), Moves defs 𝒱 (c : Thread nD τ) E (St c R i) Same (R.app (k0_part263 (F := F) g) v4637 v6760 v6762)) ∧
    (∀ (arg2 : BitVec 32) (v6791 : FVec F S1x128 .f32) (v6794 : FVec F S128x128 .f32) (cst_5297 : F .f32) (v6795 : FVec F S128x128 .f32), Moves defs 𝒱 (c : Thread nD τ) E (St c R i) Same (R.app (k0_part264 (F := F) g) arg2 v6791 v6794 cst_5297 v6795)) ∧
    (∀ (arg2 : BitVec 32) (v6791 : FVec F S1x128 .f32) (v6825 : FVec F S128x128 .fp8e4m3), Moves defs 𝒱 (c : Thread nD τ) E (St c R i) Same (R.app (k0_part265 (F := F) g) arg2 v6791 v6825)) ∧
    (∀ (arg2 : BitVec 32) (v6791 : FVec F S1x128 .f32) (v6869 : FVec F S128x128 .f32), Moves defs 𝒱 (c : Thread nD τ) E (St c R i) Same (R.app (k0_part266 (F := F) g) arg2 v6791 v6869)) ∧
    (∀ (arg2 : BitVec 32) (v6791 : FVec F S1x128 .f32) (v6900 : FVec F S128x128 .fp8e4m3) (v6901 : FVec F S64x128 .fp8e4m3) (v6906 : Vec F S1x64x128 .fp8e4m3), Moves defs 𝒱 (c : Thread nD τ) E (St c R i) Same (R.app (k0_part267 (F := F) g) arg2 v6791 v6900 v6901 v6906)) ∧
    (Moves defs 𝒱 (c : Thread nD τ) E (St c R i) Same (R.app (k0_part268 (F := F) g))) ∧
    (Moves defs 𝒱 (c : Thread nD τ) E (St c R i) Same (R.app (k0_part269 (F := F) g))) ∧
    (∀ (v4637 : FVec F S1x128 .f32) (v6996 : FVec F S18x128 .f32) (v6997 : Vec F S18x128 .f32), Moves defs 𝒱 (c : Thread nD τ) E (St c R i) Same (R.app (k0_part270 (F := F) g) v4637 v6996 v6997)) ∧
    (∀ (arg2 : BitVec 32) (v7030 : FVec F S192x128 .fp8e4m3) (v7032 : FVec F S128x128 .fp8e4m3) (v7033 : FVec F S64x128 .fp8e4m3) (c16_i32_5455 : BitVec 32), Moves defs 𝒱 (c : Thread nD τ) E (St c R i) Same (R.app (k0_part271 (F := F) g) arg2 v7030 v7032 v7033 c16_i32_5455)) ∧
    (∀ (arg0 : BitVec 32) (v4637 : FVec F S1x128 .f32) (v7067 : Vec F S720x128 .f32) (cst_5477 : F .f32), Moves defs 𝒱 (c : Thread nD τ) E (St c R i) Same (R.app (k0_part272 (F := F) g) arg0 v4637 v7067 cst_5477)) ∧
    (∀ (v7105 : IVec S1x128 32) (c64_i32_5487 : BitVec 32) (v7107 v7114 : IVec S1x128 32), Moves defs 𝒱 (c : Thread nD τ) E (St c R i) Same (R.app (k0_part273 (F := F) g) v7105 c64_i32_5487 v7107 v7114)) ∧
    (∀ (arg1 arg2 : BitVec 32) (v7102 : FVec F S2x128 .f32) (v7105 v7129 : IVec S1x128 32) (v7155 : BitVec 32) (v7157 : IVec S1x128 32) (v7159 : IVec S1x128 1), Moves defs 𝒱 (c : Thread nD τ) E (St c R i) Same (R.app (k0_part274 (F := F) g) arg1 arg2 v7102 v7105 v7129 v7155 v7157 v7159)) := by
  refine ⟨?_, ?_, ?_, ?_, ?_, ?_, ?_, ?_, ?_, ?_, ?_, ?_⟩ <;> intros <;> unfold Refs.app <;>
    (first
      | (rw [k0_part263_eq_skeleton]; unfold k0_part263_skel)
      | (rw [k0_part264_eq_skeleton]; unfold k0_part264_skel)
      | (rw [k0_part265_eq_skeleton]; unfold k0_part265_skel)
      | (rw [k0_part266_eq_skeleton]; unfold k0_part266_skel)
      | (rw [k0_part267_eq_skeleton]; unfold k0_part267_skel)
      | (rw [k0_part268_eq_skeleton]; unfold k0_part268_skel)
      | (rw [k0_part269_eq_skeleton]; unfold k0_part269_skel)
      | (rw [k0_part270_eq_skeleton]; unfold k0_part270_skel)
      | (rw [k0_part271_eq_skeleton]; unfold k0_part271_skel)
      | (rw [k0_part272_eq_skeleton]; unfold k0_part272_skel)
      | (rw [k0_part273_eq_skeleton]; unfold k0_part273_skel)
      | (rw [k0_part274_eq_skeleton]; unfold k0_part274_skel)) <;>
    repeat' first
      | with_reducible exact move_ret
      | with_reducible refine move_bind ?_ fun _ => ?_
      | with_reducible exact move_load_grid
      | with_reducible exact move_load_l1
      | with_reducible exact move_load_v
      | with_reducible exact move_load_l2
      | with_reducible exact move_load_h
      | with_reducible exact move_load_l3
      | with_reducible exact move_load_t2
      | with_reducible exact move_load_t3
      | with_reducible exact move_store_v fun _ _ => ⟨rfl, rfl⟩
      | with_reducible exact move_store_l2 fun _ _ => ⟨rfl, rfl⟩
      | with_reducible exact move_store_h fun _ _ => ⟨rfl, rfl⟩
      | with_reducible exact move_store_l3 fun _ _ => ⟨rfl, rfl⟩
      | with_reducible exact move_store_t2 fun _ _ => ⟨rfl, rfl⟩
      | with_reducible exact move_store_t3 fun _ _ => ⟨rfl, rfl⟩
      | exact move_smem_temp
      | split

end Cert.KernelIdeal.Own

end
-- ==== Proof.Keep.lean ====
/-
  The part of the body that writes out the pooled levels.
-/
module

public import proofs.«01_k».proof.Proof.KeepRun1
public import proofs.«01_k».proof.Proof.KeepRun2

@[expose] public section

set_option maxRecDepth 65536

noncomputable section

namespace Cert.KernelIdeal.Own

open Idealize.ShloMosaic Idealize.ShloMosaic.TcCoe Idealize.SL Idealize.SL.Sem
open Cert.Steps Cert.KernelIdeal.Gen

variable {F : FTy → Type} [FloatOps F]
variable (defs : Defs nD τ sig (Elt F) Λ₀) (𝒱 : Variants) (c : Dev nD) (E : Set ℕ) (R : Refs) (i : Ins F) (g : grid0.Coords)

set_option maxHeartbeats 0 in
/-- The part that writes out the pooled levels. -/
theorem keep_part_45 :
    Moves defs 𝒱 (c : Thread nD τ) E (St c R i) Same (R.app (k0_part45 (F := F) g)) := by
  obtain ⟨p1, p2, p3, p4, p5, p6, p7, p8, p9, p10, p11, p12, p13, p14, p15⟩ := keep_parts_1 defs 𝒱 c E R i g
  obtain ⟨p16, p17, p18, p19, p20, p21, p22, p23, p24, p25, p26, p27, p28, p29, p30⟩ := keep_parts_16 defs 𝒱 c E R i g
  obtain ⟨p31, p32, p33, p34, p35, p36, p37, p38, p39, p40, p41, p42, p43, p44⟩ := keep_parts_31 defs 𝒱 c E R i g
  unfold Refs.app
  rw [k0_part45_eq_skeleton]; unfold k0_part45_skel
  with_reducible refine move_bind (p1) fun _ => ?_
  with_reducible refine move_bind (p2 _) fun _ => ?_
  with_reducible refine move_bind (p3) fun _ => ?_
  with_reducible refine move_bind (p4 _) fun _ => ?_
  with_reducible refine move_bind (p5) fun _ => ?_
  with_reducible refine move_bind (p6 _) fun _ => ?_
  with_reducible refine move_bind (p7) fun _ => ?_
  with_reducible refine move_bind (p8 _) fun _ => ?_
  with_reducible refine move_bind (p9) fun _ => ?_
  with_reducible refine move_bind (p10 _) fun _ => ?_
  with_reducible refine move_bind (p11) fun _ => ?_
  with_reducible refine move_bind (p12 _) fun _ => ?_
  with_reducible refine move_bind (p13 _) fun _ => ?_
  with_reducible refine move_bind (p14 _) fun _ => ?_
  with_reducible refine move_bind (p15 _) fun _ => ?_
  with_reducible refine move_bind (p16 _) fun _ => ?_
  with_reducible refine move_bind (p17 _) fun _ => ?_
  with_reducible refine move_bind (p18 _) fun _ => ?_
  with_reducible refine move_bind (p19 _) fun _ => ?_
  with_reducible refine move_bind (p20 _) fun _ => ?_
  with_reducible refine move_bind (p21 _) fun _ => ?_
  with_reducible refine move_bind (p22 _) fun _ => ?_
  with_reducible refine move_bind (p23 _) fun _ => ?_
  with_reducible refine move_bind (p24 _) fun _ => ?_
  with_reducible refine move_bind (p25 _) fun _ => ?_
  with_reducible refine move_bind (p26 _) fun _ => ?_
  with_reducible refine move_bind (p27 _) fun _ => ?_
  with_reducible refine move_bind (p28 _) fun _ => ?_
  with_reducible refine move_bind (p29) fun _ => ?_
  with_reducible refine move_bind (p30 _) fun ⟨_, _⟩ => ?_
  with_reducible refine move_bind (p31 _ _) fun _ => ?_
  with_reducible refine move_bind (p32 _) fun _ => ?_
  with_reducible refine move_bind (p33 _) fun ⟨_, _, _, _⟩ => ?_
  with_reducible refine move_bind (p34 _ _ _ _) fun ⟨_, _, _, _⟩ => ?_
  with_reducible refine move_bind (p35 _ _ _ _) fun ⟨_, _, _, _⟩ => ?_
  with_reducible refine move_bind (p36 _ _ _ _) fun ⟨_, _, _, _⟩ => ?_
  with_reducible refine move_bind (p37 _ _ _ _) fun ⟨_, _, _⟩ => ?_
  with_reducible refine move_bind (p38 _ _ _) fun ⟨_, _, _⟩ => ?_
  with_reducible refine move_bind (p39 _ _ _) fun _ => ?_
  with_reducible refine move_bind (p40) fun _ => ?_
  with_reducible refine move_bind (p41 _) fun ⟨_, _, _, _⟩ => ?_
  with_reducible refine move_bind (p42 _ _ _ _) fun ⟨_, _, _, _⟩ => ?_
  with_reducible refine move_bind (p43 _ _ _ _) fun ⟨_, _, _⟩ => ?_
  with_reducible refine move_bind (p44 _ _ _) fun _ => ?_
  with_reducible refine move_bind move_load_t3 fun _ => ?_
  with_reducible exact move_ret

end Cert.KernelIdeal.Own

end
-- ==== Proof.Whole.lean ====
/-
  The whole body, followed.
-/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Keep

@[expose] public section

set_option maxRecDepth 65536
set_option maxHeartbeats 0

noncomputable section

namespace Cert.KernelIdeal.Own

open Idealize.ShloMosaic Idealize.ShloMosaic.TcCoe Idealize.SL Idealize.SL.Sem
open Cert.Steps Cert.KernelIdeal.Gen

variable (defs : Defs nD τ sig (Elt Ideal) Λ₀) (𝒱 : Variants) (c : Dev nD) (E : Set ℕ) (R : Refs) (i : Ins Ideal) (g : grid0.Coords)

/-- Part 275, followed. -/
theorem t275   (X : State Ideal) (hX : XO i 0 0 0 X) :
    Steps defs 𝒱 (c : Thread nD τ) E (St c R i) X (R.app (k0_part275 (F := Ideal) g)) fun a Y => XO i 10368 10368 0 Y ∧ QB i a.2.2.2.1 ∧ Mx i 0 10368 a.2.2.2.2.1 ∧ Mx i 1 10368 a.2.2.2.2.2 := by
  unfold Refs.app; rw [k0_part275_eq_skeleton]; unfold k0_part275_skel
  with_reducible refine step_part (t46 defs 𝒱 c E R i g  _ hX) fun ⟨arg0, arg1, arg2, v12, v15, v17, v25⟩ X ⟨hX, hv12, hv15, hv17, hv25⟩ => ?_
  with_reducible refine step_part (t47 defs 𝒱 c E R i g _ _ hv15 hv17 _ hX) fun ⟨v47, v49, v51, v53, v55⟩ X ⟨hX, hv47⟩ => ?_
  with_reducible refine step_part (t48 defs 𝒱 c E R i g _ _ _ _ _ _ hv12 hv25 _ hX) fun ⟨v64, v66, v75, v86⟩ X ⟨hX, hv64, hv66, hv75⟩ => ?_
  with_reducible refine step_part (t49 defs 𝒱 c E R i g _ _ _ _ _ hv12 hv47 hv64 hv66 _ hX) fun ⟨v98, v115⟩ X ⟨hX, hv98, hv115⟩ => ?_
  with_reducible refine step_part (t50 defs 𝒱 c E R i g _ _ _ hv75 hv98 hv115 _ hX) fun ⟨v126, v149⟩ X ⟨hX, hv126, hv149⟩ => ?_
  with_reducible refine step_part (t51 defs 𝒱 c E R i g _ _ hv12 hv126 _ hX) fun ⟨v166, v168, v177, v178⟩ X ⟨hX, hv166, hv168, hv177⟩ => ?_
  with_reducible refine step_part (t52 defs 𝒱 c E R i g _ _ _ _ hv149 hv166 hv168 _ hX) fun ⟨v200, v202, v204, v206, v208⟩ X ⟨hX, hv200⟩ => ?_
  with_reducible refine step_part (t53 defs 𝒱 c E R i g _ _ _ _ _ _ hv12 hv177 _ hX) fun ⟨v217, v219, v228, v239⟩ X ⟨hX, hv217, hv219, hv228⟩ => ?_
  with_reducible refine step_part (t54 defs 𝒱 c E R i g _ _ _ _ _ hv12 hv200 hv217 hv219 _ hX) fun ⟨v251, v268⟩ X ⟨hX, hv251, hv268⟩ => ?_
  with_reducible refine step_part (t55 defs 𝒱 c E R i g _ _ _ hv228 hv251 hv268 _ hX) fun ⟨v279, v302⟩ X ⟨hX, hv279, hv302⟩ => ?_
  with_reducible refine step_part (t56 defs 𝒱 c E R i g _ _ hv12 hv279 _ hX) fun ⟨v319, v321, v330, v331⟩ X ⟨hX, hv319, hv321, hv330⟩ => ?_
  with_reducible refine step_part (t57 defs 𝒱 c E R i g _ _ _ _ hv302 hv319 hv321 _ hX) fun ⟨v353, v355, v357, v359, v361⟩ X ⟨hX, hv353⟩ => ?_
  with_reducible refine step_part (t58 defs 𝒱 c E R i g _ _ _ _ _ _ hv12 hv330 _ hX) fun ⟨v370, v372, v381, v392⟩ X ⟨hX, hv370, hv372, hv381⟩ => ?_
  with_reducible refine step_part (t59 defs 𝒱 c E R i g _ _ _ _ _ hv12 hv353 hv370 hv372 _ hX) fun ⟨v404, v421⟩ X ⟨hX, hv404, hv421⟩ => ?_
  with_reducible refine step_part (t60 defs 𝒱 c E R i g _ _ _ hv381 hv404 hv421 _ hX) fun ⟨v432, v455⟩ X ⟨hX, hv432, hv455⟩ => ?_
  with_reducible refine step_part (t61 defs 𝒱 c E R i g _ _ hv12 hv432 _ hX) fun ⟨v472, v474, v483, v484⟩ X ⟨hX, hv472, hv474, hv483⟩ => ?_
  with_reducible refine step_part (t62 defs 𝒱 c E R i g _ _ _ _ hv455 hv472 hv474 _ hX) fun ⟨v506, v508, v510, v512, v514⟩ X ⟨hX, hv506⟩ => ?_
  with_reducible refine step_part (t63 defs 𝒱 c E R i g _ _ _ _ _ _ hv12 hv483 _ hX) fun ⟨v523, v525, v534, v545⟩ X ⟨hX, hv523, hv525, hv534⟩ => ?_
  with_reducible refine step_part (t64 defs 𝒱 c E R i g _ _ _ _ _ hv12 hv506 hv523 hv525 _ hX) fun ⟨v557, v574⟩ X ⟨hX, hv557, hv574⟩ => ?_
  with_reducible refine step_part (t65 defs 𝒱 c E R i g _ _ _ hv534 hv557 hv574 _ hX) fun ⟨v585, v608⟩ X ⟨hX, hv585, hv608⟩ => ?_
  with_reducible refine step_part (t66 defs 𝒱 c E R i g _ _ hv12 hv585 _ hX) fun ⟨v625, v627, v636, v637⟩ X ⟨hX, hv625, hv627, hv636⟩ => ?_
  with_reducible refine step_part (t67 defs 𝒱 c E R i g _ _ _ _ hv608 hv625 hv627 _ hX) fun ⟨v659, v661, v663, v665, v667⟩ X ⟨hX, hv659⟩ => ?_
  with_reducible refine step_part (t68 defs 𝒱 c E R i g _ _ _ _ _ _ hv12 hv636 _ hX) fun ⟨v676, v678, v687, v698⟩ X ⟨hX, hv676, hv678, hv687⟩ => ?_
  with_reducible refine step_part (t69 defs 𝒱 c E R i g _ _ _ _ _ hv12 hv659 hv676 hv678 _ hX) fun ⟨v710, v727⟩ X ⟨hX, hv710, hv727⟩ => ?_
  with_reducible refine step_part (t70 defs 𝒱 c E R i g _ _ _ hv687 hv710 hv727 _ hX) fun ⟨v738, v761⟩ X ⟨hX, hv738, hv761⟩ => ?_
  with_reducible refine step_part (t71 defs 𝒱 c E R i g _ _ hv12 hv738 _ hX) fun ⟨v778, v780, v789, v790⟩ X ⟨hX, hv778, hv780, hv789⟩ => ?_
  with_reducible refine step_part (t72 defs 𝒱 c E R i g _ _ _ _ hv761 hv778 hv780 _ hX) fun ⟨v812, v814, v816, v818, v820⟩ X ⟨hX, hv812⟩ => ?_
  with_reducible refine step_part (t73 defs 𝒱 c E R i g _ _ _ _ _ _ hv12 hv789 _ hX) fun ⟨v829, v831, v840, v851⟩ X ⟨hX, hv829, hv831, hv840⟩ => ?_
  with_reducible refine step_part (t74 defs 𝒱 c E R i g _ _ _ _ _ hv12 hv812 hv829 hv831 _ hX) fun ⟨v863, v880⟩ X ⟨hX, hv863, hv880⟩ => ?_
  with_reducible refine step_part (t75 defs 𝒱 c E R i g _ _ _ hv840 hv863 hv880 _ hX) fun ⟨v891, v914⟩ X ⟨hX, hv891, hv914⟩ => ?_
  with_reducible refine step_part (t76 defs 𝒱 c E R i g _ _ hv12 hv891 _ hX) fun ⟨v931, v933, v942, v943⟩ X ⟨hX, hv931, hv933, hv942⟩ => ?_
  with_reducible refine step_part (t77 defs 𝒱 c E R i g _ _ _ _ hv914 hv931 hv933 _ hX) fun ⟨v965, v967, v969, v971, v973⟩ X ⟨hX, hv965⟩ => ?_
  with_reducible refine step_part (t78 defs 𝒱 c E R i g _ _ _ _ _ _ hv12 hv942 _ hX) fun ⟨v982, v984, v993, v1004⟩ X ⟨hX, hv982, hv984, hv993⟩ => ?_
  with_reducible refine step_part (t79 defs 𝒱 c E R i g _ _ _ _ _ hv12 hv965 hv982 hv984 _ hX) fun ⟨v1016, v1033⟩ X ⟨hX, hv1016, hv1033⟩ => ?_
  with_reducible refine step_part (t80 defs 𝒱 c E R i g _ _ _ hv993 hv1016 hv1033 _ hX) fun ⟨v1044, v1067⟩ X ⟨hX, hv1044, hv1067⟩ => ?_
  with_reducible refine step_part (t81 defs 𝒱 c E R i g _ _ hv12 hv1044 _ hX) fun ⟨v1084, v1086, v1095, v1096⟩ X ⟨hX, hv1084, hv1086, hv1095⟩ => ?_
  with_reducible refine step_part (t82 defs 𝒱 c E R i g _ _ _ _ hv1067 hv1084 hv1086 _ hX) fun ⟨v1118, v1120, v1122, v1124, v1126⟩ X ⟨hX, hv1118⟩ => ?_
  with_reducible refine step_part (t83 defs 𝒱 c E R i g _ _ _ _ _ _ hv12 hv1095 _ hX) fun ⟨v1135, v1137, v1146, v1157⟩ X ⟨hX, hv1135, hv1137, hv1146⟩ => ?_
  with_reducible refine step_part (t84 defs 𝒱 c E R i g _ _ _ _ _ hv12 hv1118 hv1135 hv1137 _ hX) fun ⟨v1169, v1186⟩ X ⟨hX, hv1169, hv1186⟩ => ?_
  with_reducible refine step_part (t85 defs 𝒱 c E R i g _ _ _ hv1146 hv1169 hv1186 _ hX) fun ⟨v1197, v1220⟩ X ⟨hX, hv1197, hv1220⟩ => ?_
  with_reducible refine step_part (t86 defs 𝒱 c E R i g _ _ hv12 hv1197 _ hX) fun ⟨v1237, v1239, v1248, v1249⟩ X ⟨hX, hv1237, hv1239, hv1248⟩ => ?_
  with_reducible refine step_part (t87 defs 𝒱 c E R i g _ _ _ _ hv1220 hv1237 hv1239 _ hX) fun ⟨v1271, v1273, v1275, v1277, v1279⟩ X ⟨hX, hv1271⟩ => ?_
  with_reducible refine step_part (t88 defs 𝒱 c E R i g _ _ _ _ _ _ hv12 hv1248 _ hX) fun ⟨v1288, v1290, v1299, v1310⟩ X ⟨hX, hv1288, hv1290, hv1299⟩ => ?_
  with_reducible refine step_part (t89 defs 𝒱 c E R i g _ _ _ _ _ hv12 hv1271 hv1288 hv1290 _ hX) fun ⟨v1322, v1339⟩ X ⟨hX, hv1322, hv1339⟩ => ?_
  with_reducible refine step_part (t90 defs 𝒱 c E R i g _ _ _ hv1299 hv1322 hv1339 _ hX) fun ⟨v1350, v1373⟩ X ⟨hX, hv1350, hv1373⟩ => ?_
  with_reducible refine step_part (t91 defs 𝒱 c E R i g _ _ hv12 hv1350 _ hX) fun ⟨v1390, v1392, v1401, v1402⟩ X ⟨hX, hv1390, hv1392, hv1401⟩ => ?_
  with_reducible refine step_part (t92 defs 𝒱 c E R i g _ _ _ _ hv1373 hv1390 hv1392 _ hX) fun ⟨v1424, v1426, v1428, v1430, v1432⟩ X ⟨hX, hv1424⟩ => ?_
  with_reducible refine step_part (t93 defs 𝒱 c E R i g _ _ _ _ _ _ hv12 hv1401 _ hX) fun ⟨v1441, v1443, v1452, v1463⟩ X ⟨hX, hv1441, hv1443, hv1452⟩ => ?_
  with_reducible refine step_part (t94 defs 𝒱 c E R i g _ _ _ _ _ hv12 hv1424 hv1441 hv1443 _ hX) fun ⟨v1475, v1492⟩ X ⟨hX, hv1475, hv1492⟩ => ?_
  with_reducible refine step_part (t95 defs 𝒱 c E R i g _ _ _ hv1452 hv1475 hv1492 _ hX) fun ⟨v1503, v1526⟩ X ⟨hX, hv1503, hv1526⟩ => ?_
  with_reducible refine step_part (t96 defs 𝒱 c E R i g _ _ hv12 hv1503 _ hX) fun ⟨v1543, v1545, v1554, v1555⟩ X ⟨hX, hv1543, hv1545, hv1554⟩ => ?_
  with_reducible refine step_part (t97 defs 𝒱 c E R i g _ _ _ _ hv1526 hv1543 hv1545 _ hX) fun ⟨v1577, v1579, v1581, v1583, v1585⟩ X ⟨hX, hv1577⟩ => ?_
  with_reducible refine step_part (t98 defs 𝒱 c E R i g _ _ _ _ _ _ hv12 hv1554 _ hX) fun ⟨v1594, v1596, v1605, v1616⟩ X ⟨hX, hv1594, hv1596, hv1605⟩ => ?_
  with_reducible refine step_part (t99 defs 𝒱 c E R i g _ _ _ _ _ hv12 hv1577 hv1594 hv1596 _ hX) fun ⟨v1628, v1645⟩ X ⟨hX, hv1628, hv1645⟩ => ?_
  with_reducible refine step_part (t100 defs 𝒱 c E R i g _ _ _ hv1605 hv1628 hv1645 _ hX) fun ⟨v1656, v1679⟩ X ⟨hX, hv1656, hv1679⟩ => ?_
  with_reducible refine step_part (t101 defs 𝒱 c E R i g _ _ hv12 hv1656 _ hX) fun ⟨v1696, v1698, v1707, v1708⟩ X ⟨hX, hv1696, hv1698, hv1707⟩ => ?_
  with_reducible refine step_part (t102 defs 𝒱 c E R i g _ _ _ _ hv1679 hv1696 hv1698 _ hX) fun ⟨v1730, v1732, v1734, v1736, v1738⟩ X ⟨hX, hv1730⟩ => ?_
  with_reducible refine step_part (t103 defs 𝒱 c E R i g _ _ _ _ _ _ hv12 hv1707 _ hX) fun ⟨v1747, v1749, v1758, v1769⟩ X ⟨hX, hv1747, hv1749, hv1758⟩ => ?_
  with_reducible refine step_part (t104 defs 𝒱 c E R i g _ _ _ _ _ hv12 hv1730 hv1747 hv1749 _ hX) fun ⟨v1781, v1798⟩ X ⟨hX, hv1781, hv1798⟩ => ?_
  with_reducible refine step_part (t105 defs 𝒱 c E R i g _ _ _ hv1758 hv1781 hv1798 _ hX) fun ⟨v1809, v1832⟩ X ⟨hX, hv1809, hv1832⟩ => ?_
  exact step_ret ⟨hX, hv12, hv1809, hv1832⟩

/-- Part 276, followed. -/
theorem t276 (v12 : FVec Ideal S256x256 .fp8e4m3) (v1809 v1832 : FVec Ideal S8x128 .f32) (hv12 : QB i v12) (hv1809 : Mx i 0 10368 v1809) (hv1832 : Mx i 1 10368 v1832) (X : State Ideal) (hX : XO i 10368 10368 0 X) :
    Steps defs 𝒱 (c : Thread nD τ) E (St c R i) X (R.app (k0_part276 (F := Ideal) g) v12 v1809 v1832) fun a Y => XO i 11520 11520 161 Y ∧ Mx i 1 11520 a.1 ∧ QC i 0 a.2.1 ∧ SC i 0 a.2.2.1 ∧ Inv i 0 a.2.2.2.1 ∧ CR i 0 10240 4 a.2.2.2.2 := by
  unfold Refs.app; rw [k0_part276_eq_skeleton]; unfold k0_part276_skel
  with_reducible refine step_part (t106 defs 𝒱 c E R i g _ _ hv12 hv1809 _ hX) fun ⟨v1849, v1851, v1860, v1861⟩ X ⟨hX, hv1849, hv1851, hv1860⟩ => ?_
  with_reducible refine step_part (t107 defs 𝒱 c E R i g _ _ _ _ hv1832 hv1849 hv1851 _ hX) fun ⟨v1883, v1885, v1887, v1889, v1891⟩ X ⟨hX, hv1883⟩ => ?_
  with_reducible refine step_part (t108 defs 𝒱 c E R i g _ _ _ _ _ _ hv12 hv1860 _ hX) fun ⟨v1900, v1902, v1911, v1922⟩ X ⟨hX, hv1900, hv1902, hv1911⟩ => ?_
  with_reducible refine step_part (t109 defs 𝒱 c E R i g _ _ _ _ _ hv12 hv1883 hv1900 hv1902 _ hX) fun ⟨v1934, v1951⟩ X ⟨hX, hv1934, hv1951⟩ => ?_
  with_reducible refine step_part (t110 defs 𝒱 c E R i g _ _ _ hv1911 hv1934 hv1951 _ hX) fun ⟨v1962, v1985⟩ X ⟨hX, hv1962, hv1985⟩ => ?_
  with_reducible refine step_part (t111 defs 𝒱 c E R i g _ _ hv12 hv1962 _ hX) fun ⟨v2002, v2004, v2013, v2014⟩ X ⟨hX, hv2002, hv2004, hv2013⟩ => ?_
  with_reducible refine step_part (t112 defs 𝒱 c E R i g _ _ _ _ hv1985 hv2002 hv2004 _ hX) fun ⟨v2036, v2038, v2040, v2042, v2044⟩ X ⟨hX, hv2036⟩ => ?_
  with_reducible refine step_part (t113 defs 𝒱 c E R i g _ _ _ _ _ hv2013 _ hX) fun ⟨v2054, v2061, v2062, v2079⟩ X ⟨hX, hv2054, hv2061, hv2062, hv2079⟩ => ?_
  with_reducible refine step_part (t114 defs 𝒱 c E R i g _ _ hv2062 hv2079 _ hX) fun ⟨cst_1677, v2108⟩ X ⟨hX, hcst_1677, hv2108⟩ => ?_
  with_reducible refine step_part (t115 defs 𝒱 c E R i g _ _ _ hv2062 hcst_1677 hv2108 _ hX) fun v2139 X ⟨hX, hv2139⟩ => ?_
  with_reducible refine step_part (t116 defs 𝒱 c E R i g _ _ hv2062 hv2139 _ hX) fun v2171 X ⟨hX, hv2171⟩ => ?_
  with_reducible refine step_part (t117 defs 𝒱 c E R i g _ _ hv2062 hv2171 _ hX) fun v2199 X ⟨hX, hv2199⟩ => ?_
  with_reducible refine step_part (t118 defs 𝒱 c E R i g _ _ hv2062 hv2199 _ hX) fun ⟨v2232, v2234⟩ X ⟨hX, hv2232, hv2234⟩ => ?_
  with_reducible refine step_part (t119 defs 𝒱 c E R i g _ _ _ hv2062 hv2232 hv2234 _ hX) fun v2262 X ⟨hX, hv2262⟩ => ?_
  with_reducible refine step_part (t120 defs 𝒱 c E R i g _ _ hv2062 hv2262 _ hX) fun ⟨v2292, v2294⟩ X ⟨hX, hv2292, hv2294⟩ => ?_
  with_reducible refine step_part (t121 defs 𝒱 c E R i g _ _ _ hv2062 hv2292 hv2294 _ hX) fun _ X hX => ?_
  with_reducible refine step_part (t122 defs 𝒱 c E R i g _ hv2062 _ hX) fun ⟨v2352, v2354⟩ X ⟨hX, hv2352, hv2354⟩ => ?_
  with_reducible refine step_part (t123 defs 𝒱 c E R i g _ _ _ hv2062 hv2352 hv2354 _ hX) fun v2384 X ⟨hX, hv2384⟩ => ?_
  with_reducible refine step_part (t124 defs 𝒱 c E R i g _ _ hv2062 hv2384 _ hX) fun ⟨v2412, v2417⟩ X ⟨hX, hv2412, hv2417⟩ => ?_
  with_reducible refine step_part (t125 defs 𝒱 c E R i g _ _ _ hv2062 hv2412 hv2417 _ hX) fun ⟨v2446, cst_1936⟩ X ⟨hX, hv2446, hcst_1936⟩ => ?_
  with_reducible refine step_part (t126 defs 𝒱 c E R i g _ _ _ hv2062 hv2446 hcst_1936 _ hX) fun v2479 X ⟨hX, hv2479⟩ => ?_
  with_reducible refine step_part (t127 defs 𝒱 c E R i g _ _ hv2062 hv2479 _ hX) fun ⟨cst_1982, v2508⟩ X ⟨hX, hcst_1982, hv2508⟩ => ?_
  with_reducible refine step_part (t128 defs 𝒱 c E R i g _ _ _ hv2062 hcst_1982 hv2508 _ hX) fun v2539 X ⟨hX, hv2539⟩ => ?_
  with_reducible refine step_part (t129 defs 𝒱 c E R i g _ _ hv2062 hv2539 _ hX) fun v2571 X ⟨hX, hv2571⟩ => ?_
  with_reducible refine step_part (t130 defs 𝒱 c E R i g _ _ hv2062 hv2571 _ hX) fun v2599 X ⟨hX, hv2599⟩ => ?_
  with_reducible refine step_part (t131 defs 𝒱 c E R i g _ _ hv2062 hv2599 _ hX) fun ⟨v2632, v2634⟩ X ⟨hX, hv2632, hv2634⟩ => ?_
  with_reducible refine step_part (t132 defs 𝒱 c E R i g _ _ _ hv2062 hv2632 hv2634 _ hX) fun v2662 X ⟨hX, hv2662⟩ => ?_
  with_reducible refine step_part (t133 defs 𝒱 c E R i g _ _ hv2062 hv2662 _ hX) fun ⟨v2692, v2694⟩ X ⟨hX, hv2692, hv2694⟩ => ?_
  with_reducible refine step_part (t134 defs 𝒱 c E R i g _ _ _ hv2062 hv2692 hv2694 _ hX) fun _ X hX => ?_
  with_reducible refine step_part (t135 defs 𝒱 c E R i g _ hv2062 _ hX) fun ⟨v2752, v2754⟩ X ⟨hX, hv2752, hv2754⟩ => ?_
  with_reducible refine step_part (t136 defs 𝒱 c E R i g _ _ _ hv2062 hv2752 hv2754 _ hX) fun v2784 X ⟨hX, hv2784⟩ => ?_
  with_reducible refine step_part (t137 defs 𝒱 c E R i g _ _ hv2062 hv2784 _ hX) fun ⟨v2812, v2817⟩ X ⟨hX, hv2812, hv2817⟩ => ?_
  with_reducible refine step_part (t138 defs 𝒱 c E R i g _ _ _ hv2062 hv2812 hv2817 _ hX) fun ⟨v2846, cst_2238⟩ X ⟨hX, hv2846, hcst_2238⟩ => ?_
  with_reducible refine step_part (t139 defs 𝒱 c E R i g _ _ _ hv2062 hv2846 hcst_2238 _ hX) fun v2879 X ⟨hX, hv2879⟩ => ?_
  with_reducible refine step_part (t140 defs 𝒱 c E R i g _ _ hv2062 hv2879 _ hX) fun ⟨cst_2284, v2908⟩ X ⟨hX, hcst_2284, hv2908⟩ => ?_
  with_reducible refine step_part (t141 defs 𝒱 c E R i g _ _ _ hv2062 hcst_2284 hv2908 _ hX) fun v2939 X ⟨hX, hv2939⟩ => ?_
  with_reducible refine step_part (t142 defs 𝒱 c E R i g _ _ hv2062 hv2939 _ hX) fun v2971 X ⟨hX, hv2971⟩ => ?_
  with_reducible refine step_part (t143 defs 𝒱 c E R i g _ _ hv2062 hv2971 _ hX) fun v2999 X ⟨hX, hv2999⟩ => ?_
  with_reducible refine step_part (t144 defs 𝒱 c E R i g _ _ hv2062 hv2999 _ hX) fun ⟨v3032, v3034⟩ X ⟨hX, hv3032, hv3034⟩ => ?_
  with_reducible refine step_part (t145 defs 𝒱 c E R i g _ _ _ hv2062 hv3032 hv3034 _ hX) fun v3062 X ⟨hX, hv3062⟩ => ?_
  with_reducible refine step_part (t146 defs 𝒱 c E R i g _ _ hv2062 hv3062 _ hX) fun ⟨v3092, v3094⟩ X ⟨hX, hv3092, hv3094⟩ => ?_
  with_reducible refine step_part (t147 defs 𝒱 c E R i g _ _ _ hv2062 hv3092 hv3094 _ hX) fun _ X hX => ?_
  with_reducible refine step_part (t148 defs 𝒱 c E R i g _ hv2062 _ hX) fun ⟨v3152, v3154⟩ X ⟨hX, hv3152, hv3154⟩ => ?_
  with_reducible refine step_part (t149 defs 𝒱 c E R i g _ _ _ hv2062 hv3152 hv3154 _ hX) fun v3184 X ⟨hX, hv3184⟩ => ?_
  with_reducible refine step_part (t150 defs 𝒱 c E R i g _ _ hv2062 hv3184 _ hX) fun ⟨v3212, v3217⟩ X ⟨hX, hv3212, hv3217⟩ => ?_
  with_reducible refine step_part (t151 defs 𝒱 c E R i g _ _ _ hv2062 hv3212 hv3217 _ hX) fun ⟨v3246, cst_2540⟩ X ⟨hX, hv3246, hcst_2540⟩ => ?_
  with_reducible refine step_part (t152 defs 𝒱 c E R i g _ _ _ hv2062 hv3246 hcst_2540 _ hX) fun v3279 X ⟨hX, hv3279⟩ => ?_
  with_reducible refine step_part (t153 defs 𝒱 c E R i g _ _ hv2062 hv3279 _ hX) fun ⟨cst_2586, v3308⟩ X ⟨hX, hcst_2586, hv3308⟩ => ?_
  with_reducible refine step_part (t154 defs 𝒱 c E R i g _ _ _ hv2062 hcst_2586 hv3308 _ hX) fun v3339 X ⟨hX, hv3339⟩ => ?_
  with_reducible refine step_part (t155 defs 𝒱 c E R i g _ _ hv2062 hv3339 _ hX) fun v3371 X ⟨hX, hv3371⟩ => ?_
  with_reducible refine step_part (t156 defs 𝒱 c E R i g _ _ hv2062 hv3371 _ hX) fun v3399 X ⟨hX, hv3399⟩ => ?_
  with_reducible refine step_part (t157 defs 𝒱 c E R i g _ _ hv2062 hv3399 _ hX) fun ⟨v3432, v3434⟩ X ⟨hX, hv3432, hv3434⟩ => ?_
  with_reducible refine step_part (t158 defs 𝒱 c E R i g _ _ _ hv2062 hv3432 hv3434 _ hX) fun v3462 X ⟨hX, hv3462⟩ => ?_
  with_reducible refine step_part (t159 defs 𝒱 c E R i g _ _ hv2062 hv3462 _ hX) fun ⟨v3492, v3494⟩ X ⟨hX, hv3492, hv3494⟩ => ?_
  with_reducible refine step_part (t160 defs 𝒱 c E R i g _ _ _ hv2062 hv3492 hv3494 _ hX) fun _ X hX => ?_
  with_reducible refine step_part (t161 defs 𝒱 c E R i g _ hv2062 _ hX) fun ⟨v3552, v3554⟩ X ⟨hX, hv3552, hv3554⟩ => ?_
  with_reducible refine step_part (t162 defs 𝒱 c E R i g _ _ _ hv2062 hv3552 hv3554 _ hX) fun v3584 X ⟨hX, hv3584⟩ => ?_
  with_reducible refine step_part (t163 defs 𝒱 c E R i g _ _ hv2062 hv3584 _ hX) fun ⟨v3612, v3617⟩ X ⟨hX, hv3612, hv3617⟩ => ?_
  with_reducible refine step_part (t164 defs 𝒱 c E R i g _ _ _ hv2062 hv3612 hv3617 _ hX) fun ⟨v3646, cst_2843⟩ X ⟨hX, hv3646, hcst_2843⟩ => ?_
  with_reducible refine step_part (t165 defs 𝒱 c E R i g _ _ _ hv2062 hv3646 hcst_2843 _ hX) fun v3679 X ⟨hX, hv3679⟩ => ?_
  exact step_ret ⟨hX, hv2036, hv2054, hv2061, hv2062, hv3679⟩

/-- Part 277, followed. -/
theorem t277 (arg0 arg1 arg2 : BitVec 32) (v2036 : FVec Ideal S8x128 .f32) (v2054 v2061 v2062 : FVec Ideal S1x128 .f32) (v3679 : FVec Ideal S16x4x128 .fp8e4m3) (hv2036 : Mx i 1 11520 v2036) (hv2054 : QC i 0 v2054) (hv2061 : SC i 0 v2061) (hv2062 : Inv i 0 v2062) (hv3679 : CR i 0 10240 4 v3679) (X : State Ideal) (hX : XO i 11520 11520 161 X) :
    Steps defs 𝒱 (c : Thread nD τ) E (St c R i) X (R.app (k0_part277 (F := Ideal) g) arg0 arg1 arg2 v2036 v2054 v2061 v2062 v3679) fun a Y => XO i 11520 11520 276 Y ∧ QC i 1 a.1 ∧ SC i 1 a.2.1 ∧ Inv i 1 a.2.2.1 ∧ B2 i 1 6144 a.2.2.2.1 ∧ Hi a.2.2.2.2 := by
  obtain ⟨p173, p174, p175, p176, p177, p178, p179, p180, p181, p182, p183, p184, p185, p186, p187⟩ := keep_parts_173 defs 𝒱 c E R i g
  obtain ⟨p188, p189, p190, p191, p192, p193, _, _, _, _, _, _, _, _, _⟩ := keep_parts_188 defs 𝒱 c E R i g
  unfold Refs.app; rw [k0_part277_eq_skeleton]; unfold k0_part277_skel
  with_reducible refine step_part (t166 defs 𝒱 c E R i g _ _ hv2062 hv3679 _ hX) fun ⟨cst_2890, v3708⟩ X ⟨hX, hcst_2890, hv3708⟩ => ?_
  with_reducible refine step_part (t167 defs 𝒱 c E R i g _ _ _ hv2062 hcst_2890 hv3708 _ hX) fun v3739 X ⟨hX, hv3739⟩ => ?_
  with_reducible refine step_part (t168 defs 𝒱 c E R i g _ _ hv2062 hv3739 _ hX) fun v3771 X ⟨hX, hv3771⟩ => ?_
  with_reducible refine step_part (t169 defs 𝒱 c E R i g _ _ hv2062 hv3771 _ hX) fun v3799 X ⟨hX, hv3799⟩ => ?_
  with_reducible refine step_part (t170 defs 𝒱 c E R i g _ _ hv2062 hv3799 _ hX) fun ⟨v3832, v3834⟩ X ⟨hX, hv3832, hv3834⟩ => ?_
  with_reducible refine step_part (t171 defs 𝒱 c E R i g _ _ _ hv2062 hv3832 hv3834 _ hX) fun v3862 X ⟨hX, hv3862⟩ => ?_
  with_reducible refine step_part (t172 defs 𝒱 c E R i g _ _ _ hv2054 hv3862 _ hX) fun ⟨v3874, v3875, v3894⟩ X hX => ?_
  with_reducible refine step_move (p173 _ _ _) hX fun v3935 X hX => ?_
  with_reducible refine step_move (p174 _ _ _) hX fun v3972 X hX => ?_
  with_reducible refine step_move (p175 _ _ _) hX fun v4006 X hX => ?_
  with_reducible refine step_move (p176 _ _ _) hX fun v4040 X hX => ?_
  with_reducible refine step_move (p177 _) hX fun v4068 X hX => ?_
  with_reducible refine step_move (p178 _) hX fun v4097 X hX => ?_
  with_reducible refine step_move (p179 _) hX fun ⟨v4124, v4125⟩ X hX => ?_
  with_reducible refine step_move (p180 _ _) hX fun v4153 X hX => ?_
  with_reducible refine step_move (p181 _) hX fun v4180 X hX => ?_
  with_reducible refine step_move (p182 _ _) hX fun ⟨v4207, v4208, v4217⟩ X hX => ?_
  with_reducible refine step_move (p183 _ _ _) hX fun ⟨v4251, v4253⟩ X hX => ?_
  with_reducible refine step_move (p184 _ _ _ _) hX fun ⟨v4288, v4289⟩ X hX => ?_
  with_reducible refine step_move (p185 _ _ _ _) hX fun ⟨v4326, c16_i32_3335⟩ X hX => ?_
  with_reducible refine step_move (p186 _ _ _ _) hX fun v4361 X hX => ?_
  with_reducible refine step_move (p187 _) hX fun v4389 X hX => ?_
  with_reducible refine step_move (p188 _) hX fun _ X hX => ?_
  with_reducible refine step_move (p189 _ _) hX fun ⟨v4439, v4447, v4449, v4450, v4453⟩ X hX => ?_
  with_reducible refine step_move (p190 _ _ _ _ _ _) hX fun ⟨v4484, v4486, v4488⟩ X hX => ?_
  with_reducible refine step_move (p191 _ _ _ _) hX fun ⟨v4519, v4522, c64_i32, v4524, v4531, v4533, v4534⟩ X hX => ?_
  with_reducible refine step_move (p192 _ _ _ _ _ _) hX fun ⟨v4546, v4572, v4574, v4576, v4578, v4579⟩ X hX => ?_
  with_reducible refine step_move (p193 _ _ _ _ _ _ _ _ _ _) hX fun ⟨v4614, v4615, v4620, v4625, cst_3483⟩ X hX => ?_
  with_reducible refine step_part (t194 defs 𝒱 c E R i g _ _ _ _ _ _ _ _ _ _ hv2036 hv2061 _ hX) fun ⟨v4637, v4644, v4645, v4655, v4657, v4658⟩ X ⟨hX, hv4637, hv4644, hv4645, hv4655, hv4657⟩ => ?_
  with_reducible refine step_part (t195 defs 𝒱 c E R i g _ _ _ _ hv4645 hv4655 hv4657 _ hX) fun ⟨v4687, v4688⟩ X ⟨hX, hv4687, hv4688⟩ => ?_
  with_reducible refine step_part (t196 defs 𝒱 c E R i g _ _ _ hv4645 hv4687 hv4688 _ hX) fun v4715 X ⟨hX, hv4715⟩ => ?_
  with_reducible refine step_part (t197 defs 𝒱 c E R i g _ _ hv4645 hv4715 _ hX) fun ⟨v4749, cst_3587, cst_3588⟩ X ⟨hX, hv4749, hcst_3587, hcst_3588⟩ => ?_
  with_reducible refine step_part (t198 defs 𝒱 c E R i g _ _ _ _ hv4645 hv4749 hcst_3587 hcst_3588 _ hX) fun v4782 X ⟨hX, hv4782⟩ => ?_
  with_reducible refine step_part (t199 defs 𝒱 c E R i g _ _ hv4645 hv4782 _ hX) fun ⟨v4811, v4812⟩ X ⟨hX, hv4811, hv4812⟩ => ?_
  with_reducible refine step_part (t200 defs 𝒱 c E R i g _ _ _ hv4645 hv4811 hv4812 _ hX) fun v4842 X ⟨hX, hv4842⟩ => ?_
  with_reducible refine step_part (t201 defs 𝒱 c E R i g _ _ hv4645 hv4842 _ hX) fun v4875 X ⟨hX, hv4875⟩ => ?_
  with_reducible refine step_part (t202 defs 𝒱 c E R i g _ _ hv4645 hv4875 _ hX) fun ⟨v4902, v4903⟩ X ⟨hX, hv4902⟩ => ?_
  with_reducible refine step_part (t203 defs 𝒱 c E R i g _ _ _ hv4645 hv4902 _ hX) fun ⟨v4935, v4937⟩ X ⟨hX, hv4935, hv4937⟩ => ?_
  with_reducible refine step_part (t204 defs 𝒱 c E R i g _ _ _ hv4645 hv4935 hv4937 _ hX) fun _ X hX => ?_
  with_reducible refine step_part (t205 defs 𝒱 c E R i g _ hv4645 _ hX) fun ⟨v4995, v4997⟩ X ⟨hX, hv4995, hv4997⟩ => ?_
  with_reducible refine step_part (t206 defs 𝒱 c E R i g _ _ _ hv4645 hv4995 hv4997 _ hX) fun _ X hX => ?_
  with_reducible refine step_part (t207 defs 𝒱 c E R i g _ hv4645 _ hX) fun ⟨v5055, v5057, v5058⟩ X ⟨hX, hv5055, hv5057⟩ => ?_
  with_reducible refine step_part (t208 defs 𝒱 c E R i g _ _ _ _ hv4645 hv5055 hv5057 _ hX) fun ⟨v5087, v5088⟩ X ⟨hX, hv5087, hv5088⟩ => ?_
  with_reducible refine step_part (t209 defs 𝒱 c E R i g _ _ _ hv4645 hv5087 hv5088 _ hX) fun v5115 X ⟨hX, hv5115⟩ => ?_
  with_reducible refine step_part (t210 defs 𝒱 c E R i g _ _ hv4645 hv5115 _ hX) fun ⟨v5149, cst_3927, cst_3928⟩ X ⟨hX, hv5149, hcst_3927, hcst_3928⟩ => ?_
  with_reducible refine step_part (t211 defs 𝒱 c E R i g _ _ _ _ hv4645 hv5149 hcst_3927 hcst_3928 _ hX) fun v5182 X ⟨hX, hv5182⟩ => ?_
  with_reducible refine step_part (t212 defs 𝒱 c E R i g _ _ hv4645 hv5182 _ hX) fun ⟨v5211, v5212⟩ X ⟨hX, hv5211, hv5212⟩ => ?_
  with_reducible refine step_part (t213 defs 𝒱 c E R i g _ _ _ hv4645 hv5211 hv5212 _ hX) fun v5242 X ⟨hX, hv5242⟩ => ?_
  with_reducible refine step_part (t214 defs 𝒱 c E R i g _ _ hv4645 hv5242 _ hX) fun v5275 X ⟨hX, hv5275⟩ => ?_
  with_reducible refine step_part (t215 defs 𝒱 c E R i g _ _ hv4645 hv5275 _ hX) fun ⟨v5302, v5303⟩ X ⟨hX, hv5302⟩ => ?_
  with_reducible refine step_part (t216 defs 𝒱 c E R i g _ _ _ hv4645 hv5302 _ hX) fun ⟨v5335, v5337⟩ X ⟨hX, hv5335, hv5337⟩ => ?_
  with_reducible refine step_part (t217 defs 𝒱 c E R i g _ _ _ hv4645 hv5335 hv5337 _ hX) fun _ X hX => ?_
  with_reducible refine step_part (t218 defs 𝒱 c E R i g _ hv4645 _ hX) fun ⟨v5395, v5397⟩ X ⟨hX, hv5395, hv5397⟩ => ?_
  with_reducible refine step_part (t219 defs 𝒱 c E R i g _ _ _ hv4645 hv5395 hv5397 _ hX) fun _ X hX => ?_
  with_reducible refine step_part (t220 defs 𝒱 c E R i g _ hv4645 _ hX) fun ⟨v5455, v5457, v5458⟩ X ⟨hX, hv5455, hv5457⟩ => ?_
  with_reducible refine step_part (t221 defs 𝒱 c E R i g _ _ _ _ hv4645 hv5455 hv5457 _ hX) fun ⟨v5487, v5488⟩ X ⟨hX, hv5487, hv5488⟩ => ?_
  with_reducible refine step_part (t222 defs 𝒱 c E R i g _ _ _ hv4645 hv5487 hv5488 _ hX) fun v5515 X ⟨hX, hv5515⟩ => ?_
  with_reducible refine step_part (t223 defs 𝒱 c E R i g _ _ hv4645 hv5515 _ hX) fun ⟨v5549, cst_4267, cst_4268⟩ X ⟨hX, hv5549, hcst_4267, hcst_4268⟩ => ?_
  with_reducible refine step_part (t224 defs 𝒱 c E R i g _ _ _ _ hv4645 hv5549 hcst_4267 hcst_4268 _ hX) fun v5582 X ⟨hX, hv5582⟩ => ?_
  with_reducible refine step_part (t225 defs 𝒱 c E R i g _ _ hv4645 hv5582 _ hX) fun ⟨v5611, v5612⟩ X ⟨hX, hv5611, hv5612⟩ => ?_
  exact step_ret ⟨hX, hv4637, hv4644, hv4645, hv5611, hv5612⟩

/-- Part 278, followed. -/
theorem t278 (arg0 arg1 arg2 : BitVec 32) (v4637 v4644 v4645 : FVec Ideal S1x128 .f32) (v5611 v5612 : FVec Ideal S128x128 .f32) (hv4637 : QC i 1 v4637) (hv4644 : SC i 1 v4644) (hv4645 : Inv i 1 v4645) (hv5611 : B2 i 1 6144 v5611) (hv5612 : Hi v5612) (X : State Ideal) (hX : XO i 11520 11520 276 X) :
    Steps defs 𝒱 (c : Thread nD τ) E (St c R i) X (R.app (k0_part278 (F := Ideal) g) arg0 arg1 arg2 v4637 v4644 v4645 v5611 v5612) fun _ Y => XO i 11520 11520 360 Y := by
  obtain ⟨_, _, _, _, _, _, p254, p255, p256, p257, p258, p259, p260, p261, p262⟩ := keep_parts_188 defs 𝒱 c E R i g
  obtain ⟨p263, p264, p265, p266, p267, p268, p269, p270, p271, p272, p273, p274⟩ := keep_parts_263 defs 𝒱 c E R i g
  unfold Refs.app; rw [k0_part278_eq_skeleton]; unfold k0_part278_skel
  with_reducible refine step_part (t226 defs 𝒱 c E R i g _ _ _ hv4645 hv5611 hv5612 _ hX) fun v5642 X ⟨hX, hv5642⟩ => ?_
  with_reducible refine step_part (t227 defs 𝒱 c E R i g _ _ hv4645 hv5642 _ hX) fun v5675 X ⟨hX, hv5675⟩ => ?_
  with_reducible refine step_part (t228 defs 𝒱 c E R i g _ _ hv4645 hv5675 _ hX) fun ⟨v5702, v5703⟩ X ⟨hX, hv5702⟩ => ?_
  with_reducible refine step_part (t229 defs 𝒱 c E R i g _ _ _ hv4645 hv5702 _ hX) fun ⟨v5735, v5737⟩ X ⟨hX, hv5735, hv5737⟩ => ?_
  with_reducible refine step_part (t230 defs 𝒱 c E R i g _ _ _ hv4645 hv5735 hv5737 _ hX) fun _ X hX => ?_
  with_reducible refine step_part (t231 defs 𝒱 c E R i g _ hv4645 _ hX) fun ⟨v5795, v5797⟩ X ⟨hX, hv5795, hv5797⟩ => ?_
  with_reducible refine step_part (t232 defs 𝒱 c E R i g _ _ _ hv4645 hv5795 hv5797 _ hX) fun _ X hX => ?_
  with_reducible refine step_part (t233 defs 𝒱 c E R i g _ hv4645 _ hX) fun ⟨v5855, v5857, v5858⟩ X ⟨hX, hv5855, hv5857⟩ => ?_
  with_reducible refine step_part (t234 defs 𝒱 c E R i g _ _ _ _ hv4645 hv5855 hv5857 _ hX) fun ⟨v5887, v5888⟩ X ⟨hX, hv5887, hv5888⟩ => ?_
  with_reducible refine step_part (t235 defs 𝒱 c E R i g _ _ _ hv4645 hv5887 hv5888 _ hX) fun v5915 X ⟨hX, hv5915⟩ => ?_
  with_reducible refine step_part (t236 defs 𝒱 c E R i g _ _ hv4645 hv5915 _ hX) fun ⟨v5949, cst_4607, cst_4608⟩ X ⟨hX, hv5949, hcst_4607, hcst_4608⟩ => ?_
  with_reducible refine step_part (t237 defs 𝒱 c E R i g _ _ _ _ hv4645 hv5949 hcst_4607 hcst_4608 _ hX) fun v5982 X ⟨hX, hv5982⟩ => ?_
  with_reducible refine step_part (t238 defs 𝒱 c E R i g _ _ hv4645 hv5982 _ hX) fun ⟨v6011, v6012⟩ X ⟨hX, hv6011, hv6012⟩ => ?_
  with_reducible refine step_part (t239 defs 𝒱 c E R i g _ _ _ hv4645 hv6011 hv6012 _ hX) fun v6042 X ⟨hX, hv6042⟩ => ?_
  with_reducible refine step_part (t240 defs 𝒱 c E R i g _ _ hv4645 hv6042 _ hX) fun v6075 X ⟨hX, hv6075⟩ => ?_
  with_reducible refine step_part (t241 defs 𝒱 c E R i g _ _ hv4645 hv6075 _ hX) fun ⟨v6102, v6103⟩ X ⟨hX, hv6102⟩ => ?_
  with_reducible refine step_part (t242 defs 𝒱 c E R i g _ _ _ hv4645 hv6102 _ hX) fun ⟨v6135, v6137⟩ X ⟨hX, hv6135, hv6137⟩ => ?_
  with_reducible refine step_part (t243 defs 𝒱 c E R i g _ _ _ hv4645 hv6135 hv6137 _ hX) fun _ X hX => ?_
  with_reducible refine step_part (t244 defs 𝒱 c E R i g _ hv4645 _ hX) fun ⟨v6195, v6197⟩ X ⟨hX, hv6195, hv6197⟩ => ?_
  with_reducible refine step_part (t245 defs 𝒱 c E R i g _ _ _ hv4645 hv6195 hv6197 _ hX) fun _ X hX => ?_
  with_reducible refine step_part (t246 defs 𝒱 c E R i g _ hv4645 _ hX) fun ⟨v6255, v6257, v6258⟩ X ⟨hX, hv6255, hv6257⟩ => ?_
  with_reducible refine step_part (t247 defs 𝒱 c E R i g _ _ _ _ hv4645 hv6255 hv6257 _ hX) fun ⟨v6287, v6288⟩ X ⟨hX, hv6287, hv6288⟩ => ?_
  with_reducible refine step_part (t248 defs 𝒱 c E R i g _ _ _ hv4645 hv6287 hv6288 _ hX) fun v6315 X ⟨hX, hv6315⟩ => ?_
  with_reducible refine step_part (t249 defs 𝒱 c E R i g _ _ hv4645 hv6315 _ hX) fun ⟨v6349, cst_4947, cst_4948⟩ X ⟨hX, hv6349, hcst_4947, hcst_4948⟩ => ?_
  with_reducible refine step_part (t250 defs 𝒱 c E R i g _ _ _ _ hv4645 hv6349 hcst_4947 hcst_4948 _ hX) fun v6382 X ⟨hX, hv6382⟩ => ?_
  with_reducible refine step_part (t251 defs 𝒱 c E R i g _ _ hv4645 hv6382 _ hX) fun ⟨v6411, v6412⟩ X ⟨hX, hv6411, hv6412⟩ => ?_
  with_reducible refine step_part (t252 defs 𝒱 c E R i g _ _ _ hv4645 hv6411 hv6412 _ hX) fun v6442 X ⟨hX, hv6442⟩ => ?_
  with_reducible refine step_part (t253 defs 𝒱 c E R i g _ _ _ hv4637 hv6442 _ hX) fun ⟨v6457, v6458, v6477, v6479⟩ X hX => ?_
  with_reducible refine step_move (p254 _ _ _ _) hX fun ⟨v6514, cst_5067⟩ X hX => ?_
  with_reducible refine step_move (p255 _ _ _ _) hX fun ⟨v6546, v6547⟩ X hX => ?_
  with_reducible refine step_move (p256 _ _ _ _) hX fun v6588 X hX => ?_
  with_reducible refine step_move (p257 _ _ _) hX fun v6622 X hX => ?_
  with_reducible refine step_move (p258 _) hX fun v6648 X hX => ?_
  with_reducible refine step_move (p259 _) hX fun _ X hX => ?_
  with_reducible refine step_move (p260) hX fun ⟨v6704, v6705⟩ X hX => ?_
  with_reducible refine step_move (p261 _ _) hX fun _ X hX => ?_
  with_reducible refine step_move (p262) hX fun ⟨v6760, v6762⟩ X hX => ?_
  with_reducible refine step_move (p263 _ _ _) hX fun ⟨v6790, v6791, v6794, cst_5297, v6795⟩ X hX => ?_
  with_reducible refine step_move (p264 _ _ _ _ _) hX fun v6825 X hX => ?_
  with_reducible refine step_move (p265 _ _ _) hX fun v6869 X hX => ?_
  with_reducible refine step_move (p266 _ _ _) hX fun ⟨v6900, v6901, v6906⟩ X hX => ?_
  with_reducible refine step_move (p267 _ _ _ _ _) hX fun _ X hX => ?_
  with_reducible refine step_move (p268) hX fun _ X hX => ?_
  with_reducible refine step_move (p269) hX fun ⟨v6996, v6997⟩ X hX => ?_
  with_reducible refine step_move (p270 _ _ _) hX fun ⟨v7022, v7030, v7032, v7033, c16_i32_5455⟩ X hX => ?_
  with_reducible refine step_move (p271 _ _ _ _ _) hX fun ⟨v7067, cst_5477⟩ X hX => ?_
  with_reducible refine step_move (p272 _ _ _ _) hX fun ⟨v7102, v7105, c64_i32_5487, v7107, v7114⟩ X hX => ?_
  with_reducible refine step_move (p273 _ _ _ _) hX fun ⟨v7129, v7155, v7157, v7159⟩ X hX => ?_
  with_reducible refine step_move (p274 _ _ _ _ _ _ _ _) hX fun ⟨v7196, v7197, v7198, v7203, v7205⟩ X hX => ?_
  exact step_ret hX

/-- The whole body: the 360 pieces of the first result's block are in place. -/
theorem body_follow (X : State Ideal) :
    Steps defs 𝒱 (c : Thread nD τ) E (St c R i) X (R.app (cc0_correlation (F := Ideal) g)) fun _ Y => XO i 11520 11520 360 Y := by
  have hX := XO.start i X
  have keep_part_45 := keep_part_45 defs 𝒱 c E R i g
  unfold Refs.app; rw [cc0_correlation_eq_skeleton]; unfold cc0_correlation_skel
  with_reducible refine step_part (t275 defs 𝒱 c E R i g  _ hX) fun ⟨arg0, arg1, arg2, v12, v1809, v1832⟩ X ⟨hX, hv12, hv1809, hv1832⟩ => ?_
  with_reducible refine step_part (t276 defs 𝒱 c E R i g _ _ _ hv12 hv1809 hv1832 _ hX) fun ⟨v2036, v2054, v2061, v2062, v3679⟩ X ⟨hX, hv2036, hv2054, hv2061, hv2062, hv3679⟩ => ?_
  with_reducible refine step_part (t277 defs 𝒱 c E R i g _ _ _ _ _ _ _ _ hv2036 hv2054 hv2061 hv2062 hv3679 _ hX) fun ⟨v4637, v4644, v4645, v5611, v5612⟩ X ⟨hX, hv4637, hv4644, hv4645, hv5611, hv5612⟩ => ?_
  with_reducible refine step_part (t278 defs 𝒱 c E R i g _ _ _ _ _ _ _ _ hv4637 hv4644 hv4645 hv5611 hv5612 _ hX) fun v7213 X hX => ?_
  with_reducible refine step_any_st fun _ => ?_
  with_reducible refine step_keep_st hX fun X hX => ?_
  dsimp only
  split
  swap; · exact step_ret hX
  with_reducible refine step_move keep_part_45 hX fun ⟨_, _, _, _⟩ X hX => ?_
  with_reducible refine step_any_o3 fun _ => ?_
  with_reducible refine step_keep_o3 hX fun X hX => ?_
  exact step_ret hX

end Cert.KernelIdeal.Own

end
-- ==== Proof.Block.lean ====
/-
  The first result of the kernel, entry by entry, from the arguments: which blocks a grid point reads and
  writes, what it leaves in its block of the result, and the whole array put together.
-/
module

public import proofs.«01_k».proof.Proof.Frame
public import proofs.«01_k».proof.Proof.Whole
public import Idealize.ShloMosaic.Lib.Pipeline.Value

@[expose] public section

set_option maxRecDepth 16384

noncomputable section

namespace Cert.KernelIdeal.Own

open Idealize.ShloMosaic Idealize.ShloMosaic.TcCoe Idealize.SL Idealize.SL.Sem
open Cert.Steps Cert.KernelIdeal Cert.KernelIdeal.Gen
open Idealize.ShloMosaic.Pipeline (Dat)

variable (m : (ℓ : Loc nD τ sig) → Buf (Elt Ideal) ℓ)

/-- What a grid point leaves in its block of the first result. -/
def B (c : Dev nD) (t : Fin cfg0.N) : Vec Ideal S1x16x2x90x8x128 .fp8e4m3 := fun j =>
  code (insAt m c t) (128 * (j 3 : ℕ) + (j 5 : ℕ)) (128 * (j 2 : ℕ) + 64 * ((j 4 : ℕ) / 4) + (4 * (j 1 : ℕ) + (j 4 : ℕ) % 4))

/-- The body leaves it there, from any contents of the buffers. -/
theorem hB (c : Dev nD) (t : Fin cfg0.N) (X : State Ideal) :
    Steps (defs₀ (F := Ideal)) Variants.none (c : Thread nD τ) Set.univ (St c (refsAt t) (insAt m c t)) X
      ((refsAt t).app (cc0_correlation (F := Ideal) (grid0.coords t)) : Prog (TpuEff nD τ sig (Elt Ideal) Λ₀ .tc) PUnit) fun _ Y => Y.o0 = B m c t :=
  (body_follow defs₀ Variants.none c Set.univ (refsAt t) (insAt m c t) (grid0.coords t) X).mono fun _ Y h => by
    funext j
    have e : j = ix6 (0 : Fin 1) (j 1) (j 2) (j 3) (j 4) (j 5) := by
      funext a
      match a with
      | ⟨0, _⟩ => exact Subsingleton.elim (α := Fin 1) _ _
      | ⟨1, _⟩ => rfl
      | ⟨2, _⟩ => rfl
      | ⟨3, _⟩ => rfl
      | ⟨4, _⟩ => rfl
      | ⟨5, _⟩ => rfl
    rw [e]
    refine h.o0 (j 1) (j 2) (j 3) (j 4) (j 5) ?_
    have h2 : (j 2 : ℕ) < 2 := (j 2).2
    have h3 : (j 3 : ℕ) < 90 := (j 3).2
    have h4 : (j 4 : ℕ) < 8 := (j 4).2
    omega

/-! ### Which blocks a grid point reads and writes -/

theorem idx1 : ∀ t : Fin cfg0.N, win0_1.index t (0 : Fin 4) = t / 45 ∧ win0_1.index t (1 : Fin 4) = t % 5 ∧ win0_1.index t (2 : Fin 4) = t / 5 % 9 ∧ win0_1.index t (3 : Fin 4) = 0 :=
  (by decide +kernel : ∀ t : Fin grid0.N, _)
theorem idx2 : ∀ t : Fin cfg0.N, win0_2.index t (0 : Fin 5) = t / 45 ∧ win0_2.index t (1 : Fin 5) = t / 5 % 9 ∧ win0_2.index t (2 : Fin 5) = t % 5 ∧ win0_2.index t (3 : Fin 5) = 0 ∧ win0_2.index t (4 : Fin 5) = 0 :=
  (by decide +kernel : ∀ t : Fin grid0.N, _)
theorem idx3 : ∀ t : Fin cfg0.N, win0_3.index t (0 : Fin 3) = t / 45 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t / 45 ∧ win0_4.index t (1 : Fin 3) = 0 ∧ win0_4.index t (2 : Fin 3) = 0 :=
  (by decide +kernel : ∀ t : Fin grid0.N, _)
theorem idx6 : ∀ t : Fin cfg0.N, win0_6.index t (0 : Fin 6) = t / 45 ∧ win0_6.index t (1 : Fin 6) = t % 5 ∧ win0_6.index t (2 : Fin 6) = t / 5 % 9 ∧ win0_6.index t (3 : Fin 6) = 0 ∧ win0_6.index t (4 : Fin 6) = 0 ∧ win0_6.index t (5 : Fin 6) = 0 :=
  (by decide +kernel : ∀ t : Fin grid0.N, _)

theorem N_lt (t : Fin cfg0.N) : (t : ℕ) < 135 := lt_of_lt_of_eq t.2 (by decide +kernel : grid0.N = 135)

theorem q_at (c : Dev nD) (t : Fin cfg0.N) (a b : Fin 16) (d : Fin 256) :
    (insAt m c t).q (ix4 0 a b d) = m ((c : Thread nD τ).loc main_arg0)
      (ix4 (Fin.ofNat 3 (t / 45)) (Fin.ofNat 80 (16 * (t % 5) + a)) (Fin.ofNat 144 (16 * (t / 5 % 9) + b)) d) := by
  rw [← V_main_arg0 m c]
  show V m c main_arg0 (((cfg0.win 1).blk t).view.emb (ix4 0 a b d)) = _
  congr 1
  obtain ⟨e0, e1, e2, e3⟩ := idx1 t
  have ht := N_lt t
  funext x; apply Fin.ext
  match x with
  | ⟨0, _⟩ => show win0_1.index t (0 : Fin 4) * 1 + 1 * 0 = (t / 45 : ℕ) % 3; omega
  | ⟨1, _⟩ => show win0_1.index t (1 : Fin 4) * 16 + 1 * (a : ℕ) = (16 * (t % 5) + a : ℕ) % 80; omega
  | ⟨2, _⟩ => show win0_1.index t (2 : Fin 4) * 16 + 1 * (b : ℕ) = (16 * (t / 5 % 9) + b : ℕ) % 144; omega
  | ⟨3, _⟩ => show win0_1.index t (3 : Fin 4) * 256 + 1 * (d : ℕ) = d; omega

theorem k_at (c : Dev nD) (t : Fin cfg0.N) (p : Fin 11520) (d : Fin 256) :
    (insAt m c t).k (ix3 0 p d) = m ((c : Thread nD τ).loc main_arg2) (ix3 (Fin.ofNat 3 (t / 45)) p d) := by
  rw [← V_main_arg2 m c]
  show V m c main_arg2 (((cfg0.win 3).blk t).view.emb (ix3 0 p d)) = _
  congr 1
  obtain ⟨e0, e1, e2⟩ := idx3 t
  have ht := N_lt t
  funext x; apply Fin.ext
  match x with
  | ⟨0, _⟩ => show win0_3.index t (0 : Fin 3) * 1 + 1 * 0 = (t / 45 : ℕ) % 3; omega
  | ⟨1, _⟩ => show win0_3.index t (1 : Fin 3) * 11520 + 1 * (p : ℕ) = p; omega
  | ⟨2, _⟩ => show win0_3.index t (2 : Fin 3) * 256 + 1 * (d : ℕ) = d; omega

/-- The key rows' scales as the region finds them: each repeated over 128 lanes. -/
theorem V_ks (c : Dev nD) : (V m c main_v1 : S3x11520x128.Idx → Elt Ideal .f32) =
    broadcastInDim S3x11520x128 ![0, 1, 2] bcast_S3x11520x1_S3x11520x128_0_1_2
      (broadcastInDim S3x11520x1 ![0, 1] bcast_S3x11520_S3x11520x1_0_1 (m ((c : Thread nD τ).loc main_arg3))) := by
  rfl

/-- The query pixels' scales as the region finds them: laid out as the kernel takes its query pixels. -/
theorem V_qs (c : Dev nD) : (V m c main_v4 : S3x9x5x1x256.Idx → Elt Ideal .f32) =
    shapeCast S3x9x5x1x256 (transpose S3x9x5x4x16x4 [0, 3, 1, 4, 2, 5]
      (shapeCast S3x5x16x9x4x4 (m ((c : Thread nD τ).loc main_arg1)) shapeCasts_S3x80x144_S3x5x16x9x4x4)
      transposes_S3x5x16x9x4x4_S3x9x5x4x16x4_0_3_1_4_2_5) shapeCasts_S3x9x5x4x16x4_S3x9x5x1x256 := by
  rfl

theorem lanes_at (x : FVec Ideal S3x11520 .f32) (b : Fin 3) (p : Fin 11520) (l : Fin 128) :
    broadcastInDim S3x11520x128 ![0, 1, 2] bcast_S3x11520x1_S3x11520x128_0_1_2
      (broadcastInDim S3x11520x1 ![0, 1] bcast_S3x11520_S3x11520x1_0_1 x) (ix3 b p l) = x (ix2 b p) := by
  pointwise

theorem relay_at (x : FVec Ideal S3x80x144 .f32) (b : Fin 3) (w : Fin 9) (h : Fin 5) (j : Fin 256) :
    shapeCast S3x9x5x1x256 (transpose S3x9x5x4x16x4 [0, 3, 1, 4, 2, 5]
      (shapeCast S3x5x16x9x4x4 x shapeCasts_S3x80x144_S3x5x16x9x4x4)
      transposes_S3x5x16x9x4x4_S3x9x5x4x16x4_0_3_1_4_2_5) shapeCasts_S3x9x5x4x16x4_S3x9x5x1x256 (ix5 b w h 0 j)
      = x (ix3 b ⟨16 * h + j % 64 / 4, by omega⟩ ⟨16 * w + (4 * (j / 64) + j % 4), by omega⟩) := by
  pointwise
  congr 2 <;> apply Fin.ext <;> dsimp only <;> omega

theorem ks_at (c : Dev nD) (t : Fin cfg0.N) (p : Fin 11520) (l : Fin 128) :
    (insAt m c t).ks (ix3 0 p l) = m ((c : Thread nD τ).loc main_arg3) (ix2 (Fin.ofNat 3 (t / 45)) p) := by
  have e : ((cfg0.win 4).blk t).view.emb (ix3 0 p l) = ix3 (Fin.ofNat 3 (t / 45)) p l := by
    obtain ⟨e0, e1, e2⟩ := idx4 t
    have ht := N_lt t
    funext x; apply Fin.ext
    match x with
    | ⟨0, _⟩ => show win0_4.index t (0 : Fin 3) * 1 + 1 * 0 = (t / 45 : ℕ) % 3; omega
    | ⟨1, _⟩ => show win0_4.index t (1 : Fin 3) * 11520 + 1 * (p : ℕ) = p; omega
    | ⟨2, _⟩ => show win0_4.index t (2 : Fin 3) * 128 + 1 * (l : ℕ) = l; omega
  show V m c main_v1 (((cfg0.win 4).blk t).view.emb (ix3 0 p l)) = _
  rw [e, V_ks]
  exact lanes_at _ _ _ _

theorem qs_at (c : Dev nD) (t : Fin cfg0.N) (j : Fin 256) :
    (insAt m c t).qs (ix5 0 0 0 0 j) = m ((c : Thread nD τ).loc main_arg1)
      (ix3 (Fin.ofNat 3 (t / 45)) (Fin.ofNat 80 (16 * (t % 5) + j % 64 / 4)) (Fin.ofNat 144 (16 * (t / 5 % 9) + (4 * (j / 64) + j % 4)))) := by
  have ht := N_lt t
  have e : ((cfg0.win 2).blk t).view.emb (ix5 0 0 0 0 j) = ix5 (Fin.ofNat 3 (t / 45)) (⟨t / 5 % 9, by omega⟩ : Fin 9) (⟨t % 5, by omega⟩ : Fin 5) 0 j := by
    obtain ⟨e0, e1, e2, e3, e4⟩ := idx2 t
    funext x; apply Fin.ext
    match x with
    | ⟨0, _⟩ => show win0_2.index t (0 : Fin 5) * 1 + 1 * 0 = (t / 45 : ℕ) % 3; omega
    | ⟨1, _⟩ => show win0_2.index t (1 : Fin 5) * 1 + 1 * 0 = (t / 5 % 9 : ℕ); omega
    | ⟨2, _⟩ => show win0_2.index t (2 : Fin 5) * 1 + 1 * 0 = (t % 5 : ℕ); omega
    | ⟨3, _⟩ => show win0_2.index t (3 : Fin 5) * 1 + 1 * 0 = 0; omega
    | ⟨4, _⟩ => show win0_2.index t (4 : Fin 5) * 256 + 1 * (j : ℕ) = j; omega
  show V m c main_v4 (((cfg0.win 2).blk t).view.emb (ix5 0 0 0 0 j)) = _
  rw [e, V_qs, relay_at]
  congr 1
  have hj := j.2
  funext x; apply Fin.ext
  match x with
  | ⟨0, _⟩ => rfl
  | ⟨1, _⟩ => show 16 * ((t : ℕ) % 5) + (j : ℕ) % 64 / 4 = (16 * (t % 5) + j % 64 / 4 : ℕ) % 80; omega
  | ⟨2, _⟩ => show 16 * ((t : ℕ) / 5 % 9) + (4 * ((j : ℕ) / 64) + (j : ℕ) % 4) = (16 * (t / 5 % 9) + (4 * (j / 64) + j % 4) : ℕ) % 144; omega

/-! ### The result, from the arguments -/

section
variable (q : FVec Ideal S3x80x144x256 .fp8e4m3) (qs : FVec Ideal S3x80x144 .f32) (k : FVec Ideal S3x11520x256 .fp8e4m3) (ks : FVec Ideal S3x11520 .f32)

/-- The product of key row `p` with the query pixel at `(y, x)`, times the key row's scale. -/
def prod (b : Fin 3) (y : Fin 80) (x : Fin 144) (p : ℕ) : EReal :=
  (∑ d : Fin 256, (k (ix3 b (Fin.ofNat 11520 p) d) : EReal) * (q (ix4 b y x d) : EReal)) * (ks (ix2 b (Fin.ofNat 11520 p)) : EReal)

/-- The query pixel's scale, times 1/16. -/
def fac (b : Fin 3) (y : Fin 80) (x : Fin 144) : EReal := (qs (ix3 b y x) : EReal) * Ideal.ofBits .f32 0x3D800000#32

/-- The code of key row `p` at the query pixel at `(y, x)`. -/
def kcode (b : Fin 3) (y : Fin 80) (x : Fin 144) (p : ℕ) : EReal :=
  min (Ideal.ofBits .f32 0x43E00000#32) (max (Ideal.ofBits .f32 0xC3E00000#32)
    (prod q k ks b y x p * Ideal.div (fac qs b y x)
      (Ideal.div (((Finset.range 11520).sup fun p => ab (prod q k ks b y x p)) * fac qs b y x) (Ideal.ofBits .f32 0x43E00000#32))))

/-- The first result: pixel column `8 X + s`, key row `128 kt + l`. -/
def G : Vec Ideal S3x80x18x90x8x128 .fp8e4m3 := fun j =>
  kcode q qs k ks (j 0) (j 1) (Fin.ofNat 144 (8 * (j 2 : ℕ) + (j 4 : ℕ))) (128 * (j 3 : ℕ) + (j 5 : ℕ))
end

/-- The codes of a grid point are those of the pixels of its block. -/
theorem code_pixel (c : Dev nD) (t : Fin cfg0.N) (p j : ℕ) (hj : j < 256) :
    code (insAt m c t) p j = kcode (m ((c : Thread nD τ).loc main_arg0)) (m ((c : Thread nD τ).loc main_arg1)) (m ((c : Thread nD τ).loc main_arg2)) (m ((c : Thread nD τ).loc main_arg3))
      (Fin.ofNat 3 (t / 45)) (Fin.ofNat 80 (16 * (t % 5) + j % 64 / 4)) (Fin.ofNat 144 (16 * (t / 5 % 9) + (4 * (j / 64) + j % 4))) p := by
  have hx : ∀ p, xg (insAt m c t) p j = prod (m ((c : Thread nD τ).loc main_arg0)) (m ((c : Thread nD τ).loc main_arg2)) (m ((c : Thread nD τ).loc main_arg3))
      (Fin.ofNat 3 (t / 45)) (Fin.ofNat 80 (16 * (t % 5) + j % 64 / 4)) (Fin.ofNat 144 (16 * (t / 5 % 9) + (4 * (j / 64) + j % 4))) p := by
    intro p
    unfold xg prod
    rw [ks_at]
    congr 1
    refine Finset.sum_congr rfl fun d _ => ?_
    rw [k_at, q_at]
    congr 4 <;> simp only [Fin.val_ofNat] <;> omega
  have hc : cq (insAt m c t) j = fac (m ((c : Thread nD τ).loc main_arg1))
      (Fin.ofNat 3 (t / 45)) (Fin.ofNat 80 (16 * (t % 5) + j % 64 / 4)) (Fin.ofNat 144 (16 * (t / 5 % 9) + (4 * (j / 64) + j % 4))) := by
    unfold cq fac
    rw [qs_at]
    simp only [Fin.val_ofNat, Nat.mod_eq_of_lt hj]
  unfold code invf sc amax kcode
  simp only [hx, hc]

theorem emb6 (t : Fin cfg0.N) (j : S1x16x2x90x8x128.Idx) : ((cfg0.win 6).blk t).view.emb j
    = ix6 (Fin.ofNat 3 (t / 45)) (Fin.ofNat 80 (16 * (t % 5) + (j 1 : ℕ))) (Fin.ofNat 18 (2 * (t / 5 % 9) + (j 2 : ℕ))) (j 3) (j 4) (j 5) := by
  obtain ⟨e0, e1, e2, e3, e4, e5⟩ := idx6 t
  have ht := N_lt t
  have h0 : (j 0 : ℕ) < 1 := (j 0).2
  have h1 : (j 1 : ℕ) < 16 := (j 1).2
  have h2 : (j 2 : ℕ) < 2 := (j 2).2
  funext x; apply Fin.ext
  match x with
  | ⟨0, _⟩ => show win0_6.index t (0 : Fin 6) * 1 + 1 * (j 0 : ℕ) = (t / 45 : ℕ) % 3; omega
  | ⟨1, _⟩ => show win0_6.index t (1 : Fin 6) * 16 + 1 * (j 1 : ℕ) = (16 * (t % 5) + (j 1 : ℕ) : ℕ) % 80; omega
  | ⟨2, _⟩ => show win0_6.index t (2 : Fin 6) * 2 + 1 * (j 2 : ℕ) = (2 * (t / 5 % 9) + (j 2 : ℕ) : ℕ) % 18; omega
  | ⟨3, _⟩ => show win0_6.index t (3 : Fin 6) * 90 + 1 * (j 3 : ℕ) = (j 3 : ℕ); omega
  | ⟨4, _⟩ => show win0_6.index t (4 : Fin 6) * 8 + 1 * (j 4 : ℕ) = (j 4 : ℕ); omega
  | ⟨5, _⟩ => show win0_6.index t (5 : Fin 6) * 128 + 1 * (j 5 : ℕ) = (j 5 : ℕ); omega

/-- The result of the launch arguments. -/
abbrev Gm (c : Dev nD) : Vec Ideal S3x80x18x90x8x128 .fp8e4m3 :=
  G (m ((c : Thread nD τ).loc main_arg0)) (m ((c : Thread nD τ).loc main_arg1)) (m ((c : Thread nD τ).loc main_arg2)) (m ((c : Thread nD τ).loc main_arg3))

/-- A grid point leaves its block of the result. -/
theorem block6 (c : Dev nD) (t : Fin cfg0.N) :
    (dats m (B m) 0 c).flushed 6 t = ((cfg0.win 6).blk t).view.read (Elt Ideal) (Gm m c) := by
  show (cfg0.win 6).cut (grid0.coords t) ((dats m (B m) 0 c).after 6 t) = _
  rw [after_6]
  funext j
  show B m c t j = Gm m c (((cfg0.win 6).blk t).view.emb j)
  rw [emb6]
  have ht := N_lt t
  have h1 : (j 1 : ℕ) < 16 := (j 1).2
  have h2 : (j 2 : ℕ) < 2 := (j 2).2
  have h4 : (j 4 : ℕ) < 8 := (j 4).2
  unfold B
  rw [code_pixel m c t _ _ (by omega)]
  show kcode _ _ _ _ _ _ _ _ = kcode _ _ _ _ (Fin.ofNat 3 (t / 45)) (Fin.ofNat 80 (16 * (t % 5) + (j 1 : ℕ)))
    (Fin.ofNat 144 (8 * ((2 * (t / 5 % 9) + (j 2 : ℕ) : ℕ) % 18) + (j 4 : ℕ))) (128 * (j 3 : ℕ) + (j 5 : ℕ))
  congr 2
  · apply congrArg; omega
  · omega

theorem covered6 (i : S3x80x18x90x8x128.Idx) : ∃ t : Fin cfg0.N, (cfg0.win 6).flush t = true ∧ i ∈ ((cfg0.win 6).blk t).view.set := by
  have h0 : (i 0 : ℕ) < 3 := (i 0).2
  have h1 : (i 1 : ℕ) < 80 := (i 1).2
  have h2 : (i 2 : ℕ) < 18 := (i 2).2
  have hN : cfg0.N = 135 := (by decide +kernel : grid0.N = 135)
  refine ⟨⟨45 * (i 0 : ℕ) + 5 * ((i 2 : ℕ) / 2) + (i 1 : ℕ) / 16, by omega⟩, flush0_6 _, ?_⟩
  have h := ((cfg0.win 6).blk (⟨45 * (i 0 : ℕ) + 5 * ((i 2 : ℕ) / 2) + (i 1 : ℕ) / 16, by omega⟩ : Fin cfg0.N)).view.emb_mem_set
    (ix6 (0 : Fin 1) (⟨(i 1 : ℕ) % 16, by omega⟩ : Fin 16) (⟨(i 2 : ℕ) % 2, by omega⟩ : Fin 2) (i 3) (i 4) (i 5))
  refine Eq.mp (congrArg (· ∈ _) ?_) h
  rw [emb6]
  funext x; apply Fin.ext
  match x with
  | ⟨0, _⟩ => show (45 * (i 0 : ℕ) + 5 * ((i 2 : ℕ) / 2) + (i 1 : ℕ) / 16) / 45 % 3 = (i 0 : ℕ); omega
  | ⟨1, _⟩ => show (16 * ((45 * (i 0 : ℕ) + 5 * ((i 2 : ℕ) / 2) + (i 1 : ℕ) / 16) % 5) + (i 1 : ℕ) % 16) % 80 = (i 1 : ℕ); omega
  | ⟨2, _⟩ => show (2 * ((45 * (i 0 : ℕ) + 5 * ((i 2 : ℕ) / 2) + (i 1 : ℕ) / 16) / 5 % 9) + (i 2 : ℕ) % 2) % 18 = (i 2 : ℕ); omega
  | ⟨3, _⟩ => rfl
  | ⟨4, _⟩ => rfl
  | ⟨5, _⟩ => rfl

/-- The run of the whole program leaves the result of the launch arguments. -/
theorem final6 (c : Dev nD) : (dats m (B m) 0 c).arrAt 6 cfg0.N = Gm m c :=
  (dats m (B m) 0 c).arrAt_eq_of_cover 6 (Gm m c) (fun t _ => block6 m c t) covered6

end Cert.KernelIdeal.Own

end
-- ==== Proof.Scale.lean ====
/-
  The two orders of the requantisation agree: scaling the products by a positive factor and then
  dividing by the row's scale gives the codes of the unscaled products times the factor over the scale.
-/
module

public import Idealize.ShloMosaic.PureOps.Ideal
public import Idealize.ShloMosaic.Lib.IdealHost

@[expose] public section

noncomputable section

namespace Cert.Scale

open Idealize.ShloMosaic

/-- The absolute value, written with the larger of a number and its opposite. -/
def ab (x : EReal) : EReal := max x (-x)

theorem ab_mul {c : EReal} (hc : 0 ≤ c) (x : EReal) : ab (x * c) = ab x * c := by
  have hm : Monotone fun y : EReal => y * c := fun a b h => mul_le_mul_of_nonneg_right h hc
  have := hm.map_max (a := x) (b := -x)
  simp only [EReal.neg_mul] at this
  exact this.symm

theorem le_zero_of_ab {x : EReal} (h : ab x ≤ 0) : x = 0 := by
  apply le_antisymm (le_trans (le_max_left _ _) h)
  have := le_trans (le_max_right x (-x)) h
  exact EReal.neg_le_zero.mp this

/-- The largest absolute value of the scaled products is the scaled largest absolute value. -/
theorem sup_mul {c : EReal} (hc : 0 < c) (n : ℕ) (x : ℕ → EReal) :
    ((Finset.range n).sup fun p => ab (x p * c)) = ((Finset.range n).sup fun p => ab (x p)) * c := by
  have hm : Monotone fun y : EReal => y * c := fun a b h => mul_le_mul_of_nonneg_right h hc.le
  rw [Finset.comp_sup_eq_sup_comp_of_is_total (fun y : EReal => y * c) hm (EReal.bot_mul_of_pos hc)]
  exact Finset.sup_congr rfl fun p _ => ab_mul hc.le _

theorem lit448 : Ideal.ofBits .f32 0x43E00000#32 = ((448 : ℝ) : EReal) := by
  simp [Ideal.ofBits, Ideal.ieee]
  rw [← EReal.coe_mul]
  norm_num

theorem lit16 : Ideal.ofBits .f32 0x3D800000#32 = ((1 / 16 : ℝ) : EReal) := by
  simp [Ideal.ofBits, Ideal.ieee]
  rw [← EReal.coe_mul]
  norm_num

theorem factor_pos {s : EReal} (h : 0 < s) : 0 < s * Ideal.ofBits .f32 0x3D800000#32 := by
  rw [lit16]
  exact EReal.mul_pos h (by exact_mod_cast (by norm_num : (0 : ℝ) < 1 / 16))

/-- The codes: the product times the factor over the scale is the scaled product times the
    reciprocal of the scale of the scaled products. -/
theorem code_eq {c : EReal} (hc : 0 < c) {n : ℕ} (x : ℕ → EReal) {p : ℕ} (hp : p < n) :
    x p * Ideal.div c (Ideal.div (((Finset.range n).sup fun p => ab (x p)) * c) (Ideal.ofBits .f32 0x43E00000#32))
      = x p * c * Ideal.div (Ideal.ofBits .f32 0x3F800000#32)
          (Ideal.div ((Finset.range n).sup fun p => ab (x p * c)) (Ideal.ofBits .f32 0x43E00000#32)) := by
  rw [sup_mul hc, lit448, Ideal.ofBits_one_f32]
  generalize hA : ((Finset.range n).sup fun p => ab (x p)) = A
  have hx : ab (x p) ≤ A := hA ▸ Finset.le_sup (f := fun p => ab (x p)) (Finset.mem_range.mpr hp)
  have h448 : ((448 : ℝ) : EReal) ≠ 0 := by exact_mod_cast (by norm_num : (448 : ℝ) ≠ 0)
  by_cases hs : Ideal.div (A * c) ((448 : ℝ) : EReal) = 0
  · have hA0 : A = 0 := by
      rw [Ideal.div, if_neg h448, ← EReal.coe_inv] at hs
      rcases mul_eq_zero.mp hs with h | h
      · rcases mul_eq_zero.mp h with h | h
        · exact h
        · exact absurd h hc.ne'
      · exact absurd h (by exact_mod_cast (by norm_num : ((448 : ℝ)⁻¹) ≠ 0))
    have h0 : x p = 0 := le_zero_of_ab (hA0 ▸ hx)
    rw [h0, zero_mul, zero_mul, zero_mul]
  · generalize Ideal.div (A * c) ((448 : ℝ) : EReal) = z at hs
    rw [Ideal.div, if_neg hs, Ideal.div, if_neg hs, one_mul, mul_assoc]

end Cert.Scale

end
-- ==== Proof.Plain.lean ====
/-
  The reference's result, entry by entry, from the arguments.
-/
module

public import proofs.«01_k».proof.Proof.Gen.ReferenceIdeal.Value
public import proofs.«01_k».proof.Proof.Scale
public import Idealize.ShloMosaic.Lib.Pointwise
public import Idealize.ShloMosaic.Lib.Pipeline.Value

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.Scale

section
variable (v0 : FVec Ideal S1x80x144x256 .fp8e4m3) (v3 : FVec Ideal S1x80x144 .f32) (v6 : FVec Ideal S1x11520x256 .fp8e4m3) (v8 : FVec Ideal S1x11520 .f32)

/-- The scaled correlation of every query pixel with every key row. -/
def corr : FVec Ideal S11520x11520 .f32 :=
  mulf (mulf (mulf (matmul dot_S11520x256_S11520x256_S11520x11520_1_1_0_0_n_n none
        (shapeCast S11520x256 (shapeCast S80x144x256 v0 shapeCasts_S1x80x144x256_S80x144x256) shapeCasts_S80x144x256_S11520x256)
        (shapeCast S11520x256 v6 shapeCasts_S1x11520x256_S11520x256) (constant S11520x11520 .f32 0x00000000#32))
      (broadcastTo S11520x11520 (shapeCast S11520x1 (shapeCast S80x144 v3 shapeCasts_S1x80x144_S80x144) shapeCasts_S80x144_S11520x1) broadcasts_S11520x1_S11520x11520))
      (broadcastTo S11520x11520 (shapeCast S1x11520 (shapeCast S11520 v8 shapeCasts_S1x11520_S11520) shapeCasts_S11520_S1x11520) broadcasts_S1x11520_S11520x11520))
    (broadcast S11520x11520 (Scalar.ofBits .f32 0x3D800000#32 : Ideal .f32))

/-- The scale of every query pixel's codes. -/
def scl (x : FVec Ideal S11520x11520 .f32) : FVec Ideal S11520x1 .f32 :=
  divf (shapeCast S11520x1 (multiReduction .maximumf [1] S11520 (absf x) 0xFF800000#32 reduces_S11520x11520_S11520 (.inl rfl) rfl) shapeCasts_S11520_S11520x1)
    (broadcast S11520x1 (Scalar.ofBits .f32 0x43E00000#32 : Ideal .f32))

/-- The codes. -/
def quant (x : FVec Ideal S11520x11520 .f32) : FVec Ideal S11520x11520 .fp8e4m3 :=
  truncf .fp8e4m3 (minimumf (broadcast S11520x11520 (Scalar.ofBits .f32 0x43E00000#32 : Ideal .f32))
    (maximumf (broadcast S11520x11520 (Scalar.ofBits .f32 0xC3E00000#32 : Ideal .f32))
      (mulf x (broadcastTo S11520x11520 (divf (broadcast S11520x1 (Scalar.ofBits .f32 0x3F800000#32 : Ideal .f32)) (scl x)) broadcasts_S11520x1_S11520x11520)))) bitsLt_fp8e4m3_f32

/-- The codes in the result's order. -/
def lay (z : FVec Ideal S11520x11520 .fp8e4m3) : FVec Ideal S80x18x90x8x128 .fp8e4m3 :=
  transpose S80x18x90x8x128 [0, 1, 3, 2, 4] (shapeCast S80x18x8x90x128 z shapeCasts_S11520x11520_S80x18x8x90x128) transposes_S80x18x8x90x128_p0_1_3_2_4_S80x18x90x8x128

theorem pay2_eq : k0_pay2 v0 v3 v6 v8 = lay (quant (corr v0 v3 v6 v8)) := rfl
theorem pay4_eq : k0_pay4 v0 v3 v6 v8 = lay (quant (corr v0 v3 v6 v8)) := rfl
theorem pay6_eq : k0_pay6 v0 v3 v6 v8 = lay (quant (corr v0 v3 v6 v8)) := rfl

theorem pay1_eq (z : FVec Ideal S80x18x90x8x128 .fp8e4m3) : k0_pay1 z = shapeCast S1x80x18x90x8x128 z shapeCasts_S80x18x90x8x128_S1x80x18x90x8x128 := rfl
theorem pay5_eq (z : FVec Ideal S80x18x90x8x128 .fp8e4m3) : k0_pay5 z = shapeCast S1x80x18x90x8x128 z shapeCasts_S80x18x90x8x128_S1x80x18x90x8x128 := rfl
theorem pay3_eq (z : FVec Ideal S80x18x90x8x128 .fp8e4m3) : k0_pay3 z = shapeCast S1x80x18x90x8x128 z shapeCasts_S80x18x90x8x128_S1x80x18x90x8x128 := rfl

theorem corr_at (r p : Fin 11520) : corr v0 v3 v6 v8 (ix2 r p) =
    (∑ d : Fin 256, v0 (ix4 0 ⟨r / 144, by omega⟩ ⟨r % 144, by omega⟩ d) * v6 (ix3 0 p d)) * v3 (ix3 0 ⟨r / 144, by omega⟩ ⟨r % 144, by omega⟩)
      * v8 (ix2 0 p) * Ideal.ofBits .f32 0x3D800000#32 := by
  pointwise [corr]

theorem ofBits_bot : Ideal.ofBits .f32 0xFF800000#32 = ⊥ := by
  simp [Ideal.ofBits, Ideal.ieee]

theorem max_at (x : FVec Ideal S11520x11520 .f32) (h) (r : Fin 11520) :
    shapeCast S11520x1 (multiReduction .maximumf [1] S11520 (absf x) 0xFF800000#32 reduces_S11520x11520_S11520 (.inl rfl) h) shapeCasts_S11520_S11520x1 (ix2 r 0)
      = Finset.univ.sup fun p : Fin 11520 => ab (x (ix2 r p)) := by
  pointwise
  rw [ofBits_bot]
  rfl

theorem scl_at (x : FVec Ideal S11520x11520 .f32) (r : Fin 11520) :
    scl x (ix2 r 0) = Ideal.div (Finset.univ.sup fun p : Fin 11520 => ab (x (ix2 r p))) (Ideal.ofBits .f32 0x43E00000#32) := by
  rw [← max_at x rfl r]
  rfl

theorem quant_at (x : FVec Ideal S11520x11520 .f32) (r p : Fin 11520) :
    quant x (ix2 r p) = min (Ideal.ofBits .f32 0x43E00000#32) (max (Ideal.ofBits .f32 0xC3E00000#32)
      (x (ix2 r p) * Ideal.div (Ideal.ofBits .f32 0x3F800000#32) (scl x (ix2 r 0)))) := by
  have h : broadcastTo S11520x11520 (divf (broadcast S11520x1 (Scalar.ofBits .f32 0x3F800000#32 : Ideal .f32)) (scl x)) broadcasts_S11520x1_S11520x11520 (ix2 r p)
      = Ideal.div (Ideal.ofBits .f32 0x3F800000#32) (scl x (ix2 r 0)) := by
    generalize scl x = y
    pointwise
  rw [← h]
  rfl

theorem lay_at (z : FVec Ideal S11520x11520 .fp8e4m3) (y : Fin 80) (X : Fin 18) (kt : Fin 90) (s : Fin 8) (l : Fin 128) :
    shapeCast S1x80x18x90x8x128 (lay z) shapeCasts_S80x18x90x8x128_S1x80x18x90x8x128 (ix6 0 y X kt s l)
      = z (ix2 ⟨y * 144 + X * 8 + s, by omega⟩ ⟨kt * 128 + l, by omega⟩) := by
  pointwise [lay]

end

section
variable (q : FVec Ideal S3x80x144x256 .fp8e4m3) (qs : FVec Ideal S3x80x144 .f32) (k : FVec Ideal S3x11520x256 .fp8e4m3) (ks : FVec Ideal S3x11520 .f32)

/-- The scaled correlation of key row `p` with the query pixel at `(y, x)`. -/
def cor (b : Fin 3) (y : Fin 80) (x : Fin 144) (p : ℕ) : EReal :=
  (∑ d : Fin 256, (q (ix4 b y x d) : EReal) * (k (ix3 b (Fin.ofNat 11520 p) d) : EReal)) * (qs (ix3 b y x) : EReal)
    * (ks (ix2 b (Fin.ofNat 11520 p)) : EReal) * Ideal.ofBits .f32 0x3D800000#32

/-- Its code. -/
def rcode (b : Fin 3) (y : Fin 80) (x : Fin 144) (p : ℕ) : EReal :=
  min (Ideal.ofBits .f32 0x43E00000#32) (max (Ideal.ofBits .f32 0xC3E00000#32)
    (cor q qs k ks b y x p * Ideal.div (Ideal.ofBits .f32 0x3F800000#32)
      (Ideal.div ((Finset.range 11520).sup fun p => ab (cor q qs k ks b y x p)) (Ideal.ofBits .f32 0x43E00000#32))))

theorem sup_fin (f : ℕ → EReal) : (Finset.univ.sup fun p : Fin 11520 => f p) = (Finset.range 11520).sup f := by
  apply le_antisymm
  · exact Finset.sup_le fun p _ => Finset.le_sup (f := f) (Finset.mem_range.mpr p.2)
  · exact Finset.sup_le fun p hp => Finset.le_sup (f := fun p : Fin 11520 => f p) (Finset.mem_univ (⟨p, Finset.mem_range.mp hp⟩ : Fin 11520))

/-- One store of the reference: the codes of one batch entry. -/
theorem store_at (b : Fin 3) (v0 : FVec Ideal S1x80x144x256 .fp8e4m3) (v3 : FVec Ideal S1x80x144 .f32) (v6 : FVec Ideal S1x11520x256 .fp8e4m3) (v8 : FVec Ideal S1x11520 .f32)
    (h0 : ∀ y x d, v0 (ix4 0 y x d) = q (ix4 b y x d)) (h3 : ∀ y x, v3 (ix3 0 y x) = qs (ix3 b y x))
    (h6 : ∀ p d, v6 (ix3 0 p d) = k (ix3 b p d)) (h8 : ∀ p, v8 (ix2 0 p) = ks (ix2 b p))
    (y : Fin 80) (X : Fin 18) (kt : Fin 90) (s : Fin 8) (l : Fin 128) :
    shapeCast S1x80x18x90x8x128 (lay (quant (corr v0 v3 v6 v8))) shapeCasts_S80x18x90x8x128_S1x80x18x90x8x128 (ix6 0 y X kt s l)
      = rcode q qs k ks b y (Fin.ofNat 144 (8 * X + s)) (128 * kt + l) := by
  have hc : ∀ p : Fin 11520, corr v0 v3 v6 v8 (ix2 ⟨y * 144 + X * 8 + s, by omega⟩ p) = cor q qs k ks b y (Fin.ofNat 144 (8 * X + s)) p := by
    intro p
    have e1 : (⟨(y * 144 + X * 8 + s : ℕ) / 144, by omega⟩ : Fin 80) = y := by apply Fin.ext; show (y * 144 + X * 8 + s : ℕ) / 144 = y; omega
    have e2 : (⟨(y * 144 + X * 8 + s : ℕ) % 144, by omega⟩ : Fin 144) = Fin.ofNat 144 (8 * X + s) := by
      apply Fin.ext; show (y * 144 + X * 8 + s : ℕ) % 144 = (8 * X + s : ℕ) % 144; omega
    have e3 : Fin.ofNat 11520 (p : ℕ) = p := by apply Fin.ext; show (p : ℕ) % 11520 = p; omega
    rw [corr_at]
    unfold cor
    simp only [e1, e2, e3, h0, h3, h6, h8]
  rw [lay_at, quant_at, scl_at]
  simp only [hc]
  rw [show (kt * 128 + l : ℕ) = 128 * kt + l by omega]
  rw [sup_fin fun p => ab (cor q qs k ks b y (Fin.ofNat 144 (8 * X + s)) p)]
  rfl

section
variable (b : Fin 3) (y : Fin 80) (X : Fin 18) (kt : Fin 90) (s : Fin 8) (l : Fin 128)

theorem emb_r0_14 (hb : (b : ℕ) = 2) : ix6 b y X kt s l = r0_14.emb (ix6 (0 : Fin 1) y X kt s l) := by
  funext a; apply Fin.ext
  match a with
  | ⟨0, _⟩ => show (b : ℕ) = 2 + 1 * 0; omega
  | ⟨1, _⟩ => show (y : ℕ) = 0 + 1 * (y : ℕ); omega
  | ⟨2, _⟩ => show (X : ℕ) = 0 + 1 * (X : ℕ); omega
  | ⟨3, _⟩ => show (kt : ℕ) = 0 + 1 * (kt : ℕ); omega
  | ⟨4, _⟩ => show (s : ℕ) = 0 + 1 * (s : ℕ); omega
  | ⟨5, _⟩ => show (l : ℕ) = 0 + 1 * (l : ℕ); omega

theorem out_r0_14 (hb : (b : ℕ) ≠ 2) : ix6 b y X kt s l ∉ r0_14.set := by
  intro h
  unfold r0_14 at h
  rw [Rect.mem_set_unit] at h
  have := h (⟨0, by decide⟩ : Fin 6)
  have h1 : 2 ≤ (b : ℕ) := this.1
  have h2 : (b : ℕ) < 2 + 1 := this.2
  omega

theorem emb_r0_9 (hb : (b : ℕ) = 1) : ix6 b y X kt s l = r0_9.emb (ix6 (0 : Fin 1) y X kt s l) := by
  funext a; apply Fin.ext
  match a with
  | ⟨0, _⟩ => show (b : ℕ) = 1 + 1 * 0; omega
  | ⟨1, _⟩ => show (y : ℕ) = 0 + 1 * (y : ℕ); omega
  | ⟨2, _⟩ => show (X : ℕ) = 0 + 1 * (X : ℕ); omega
  | ⟨3, _⟩ => show (kt : ℕ) = 0 + 1 * (kt : ℕ); omega
  | ⟨4, _⟩ => show (s : ℕ) = 0 + 1 * (s : ℕ); omega
  | ⟨5, _⟩ => show (l : ℕ) = 0 + 1 * (l : ℕ); omega

theorem out_r0_9 (hb : (b : ℕ) ≠ 1) : ix6 b y X kt s l ∉ r0_9.set := by
  intro h
  unfold r0_9 at h
  rw [Rect.mem_set_unit] at h
  have := h (⟨0, by decide⟩ : Fin 6)
  have h1 : 1 ≤ (b : ℕ) := this.1
  have h2 : (b : ℕ) < 1 + 1 := this.2
  omega

theorem emb_r0_4 (hb : (b : ℕ) = 0) : ix6 b y X kt s l = r0_4.emb (ix6 (0 : Fin 1) y X kt s l) := by
  funext a; apply Fin.ext
  match a with
  | ⟨0, _⟩ => show (b : ℕ) = 0 + 1 * 0; omega
  | ⟨1, _⟩ => show (y : ℕ) = 0 + 1 * (y : ℕ); omega
  | ⟨2, _⟩ => show (X : ℕ) = 0 + 1 * (X : ℕ); omega
  | ⟨3, _⟩ => show (kt : ℕ) = 0 + 1 * (kt : ℕ); omega
  | ⟨4, _⟩ => show (s : ℕ) = 0 + 1 * (s : ℕ); omega
  | ⟨5, _⟩ => show (l : ℕ) = 0 + 1 * (l : ℕ); omega

theorem out_r0_4 (hb : (b : ℕ) ≠ 0) : ix6 b y X kt s l ∉ r0_4.set := by
  intro h
  unfold r0_4 at h
  rw [Rect.mem_set_unit] at h
  have := h (⟨0, by decide⟩ : Fin 6)
  have h1 : 0 ≤ (b : ℕ) := this.1
  have h2 : (b : ℕ) < 0 + 1 := this.2
  omega

end

theorem pick {Val : EltTy → Type} [∀ e, Nonempty (Val e)] {s : Shape} {e : EltTy} (r2 r1 r0 : Rect s) (w2 : r2.shape.Idx → Val e) (w1 : r1.shape.Idx → Val e)
    (w0 : r0.shape.Idx → Val e) (j : s.Idx) (z : Val e)
    (h : (∃ x, j = r2.emb x ∧ w2 x = z) ∨ (j ∉ r2.set ∧ ∃ x, j = r1.emb x ∧ w1 x = z) ∨ (j ∉ r2.set ∧ j ∉ r1.set ∧ ∃ x, j = r0.emb x ∧ w0 x = z)) :
    View.canon (Val := Val) (s := s) (e := e) [⟨r2, w2⟩, ⟨r1, w1⟩, ⟨r0, w0⟩] j = z := by
  rcases h with ⟨x, hx, hz⟩ | ⟨n2, x, hx, hz⟩ | ⟨n2, n1, x, hx, hz⟩
  · rw [hx, View.canon_cons_emb, hz]
  · rw [View.canon_cons_of_not_mem _ _ n2, hx, View.canon_cons_emb, hz]
  · rw [View.canon_cons_of_not_mem _ _ n2, View.canon_cons_of_not_mem _ _ n1, hx, View.canon_cons_emb, hz]

section
variable (q : FVec Ideal S3x80x144x256 .fp8e4m3) (qs : FVec Ideal S3x80x144 .f32) (k : FVec Ideal S3x11520x256 .fp8e4m3) (ks : FVec Ideal S3x11520 .f32) (b : Fin 3)

theorem ld_r0_10 (hb : (b : ℕ) = 2) (y : Fin 80) (x : Fin 144) (d : Fin 256) :
    (View.ld (Val := Elt Ideal) (e' := .fp8e4m3) q r0_10 : FVec Ideal S1x80x144x256 .fp8e4m3) (ix4 (0 : Fin 1) y x d) = q (ix4 b y x d) := by
  refine congrArg q ?_
  funext a; apply Fin.ext
  match a with
  | ⟨0, _⟩ => show 2 + 1 * 0 = (b : ℕ); omega
  | ⟨1, _⟩ => show 0 + 1 * (y : ℕ) = (y : ℕ); omega
  | ⟨2, _⟩ => show 0 + 1 * (x : ℕ) = (x : ℕ); omega
  | ⟨3, _⟩ => show 0 + 1 * (d : ℕ) = (d : ℕ); omega

theorem ld_r0_11 (hb : (b : ℕ) = 2) (y : Fin 80) (x : Fin 144) :
    (View.ld (Val := Elt Ideal) (e' := .f32) qs r0_11 : FVec Ideal S1x80x144 .f32) (ix3 (0 : Fin 1) y x) = qs (ix3 b y x) := by
  refine congrArg qs ?_
  funext a; apply Fin.ext
  match a with
  | ⟨0, _⟩ => show 2 + 1 * 0 = (b : ℕ); omega
  | ⟨1, _⟩ => show 0 + 1 * (y : ℕ) = (y : ℕ); omega
  | ⟨2, _⟩ => show 0 + 1 * (x : ℕ) = (x : ℕ); omega

theorem ld_r0_12 (hb : (b : ℕ) = 2) (p : Fin 11520) (d : Fin 256) :
    (View.ld (Val := Elt Ideal) (e' := .fp8e4m3) k r0_12 : FVec Ideal S1x11520x256 .fp8e4m3) (ix3 (0 : Fin 1) p d) = k (ix3 b p d) := by
  refine congrArg k ?_
  funext a; apply Fin.ext
  match a with
  | ⟨0, _⟩ => show 2 + 1 * 0 = (b : ℕ); omega
  | ⟨1, _⟩ => show 0 + 1 * (p : ℕ) = (p : ℕ); omega
  | ⟨2, _⟩ => show 0 + 1 * (d : ℕ) = (d : ℕ); omega

theorem ld_r0_13 (hb : (b : ℕ) = 2) (p : Fin 11520) :
    (View.ld (Val := Elt Ideal) (e' := .f32) ks r0_13 : FVec Ideal S1x11520 .f32) (ix2 (0 : Fin 1) p) = ks (ix2 b p) := by
  refine congrArg ks ?_
  funext a; apply Fin.ext
  match a with
  | ⟨0, _⟩ => show 2 + 1 * 0 = (b : ℕ); omega
  | ⟨1, _⟩ => show 0 + 1 * (p : ℕ) = (p : ℕ); omega

theorem ld_r0_5 (hb : (b : ℕ) = 1) (y : Fin 80) (x : Fin 144) (d : Fin 256) :
    (View.ld (Val := Elt Ideal) (e' := .fp8e4m3) q r0_5 : FVec Ideal S1x80x144x256 .fp8e4m3) (ix4 (0 : Fin 1) y x d) = q (ix4 b y x d) := by
  refine congrArg q ?_
  funext a; apply Fin.ext
  match a with
  | ⟨0, _⟩ => show 1 + 1 * 0 = (b : ℕ); omega
  | ⟨1, _⟩ => show 0 + 1 * (y : ℕ) = (y : ℕ); omega
  | ⟨2, _⟩ => show 0 + 1 * (x : ℕ) = (x : ℕ); omega
  | ⟨3, _⟩ => show 0 + 1 * (d : ℕ) = (d : ℕ); omega

theorem ld_r0_6 (hb : (b : ℕ) = 1) (y : Fin 80) (x : Fin 144) :
    (View.ld (Val := Elt Ideal) (e' := .f32) qs r0_6 : FVec Ideal S1x80x144 .f32) (ix3 (0 : Fin 1) y x) = qs (ix3 b y x) := by
  refine congrArg qs ?_
  funext a; apply Fin.ext
  match a with
  | ⟨0, _⟩ => show 1 + 1 * 0 = (b : ℕ); omega
  | ⟨1, _⟩ => show 0 + 1 * (y : ℕ) = (y : ℕ); omega
  | ⟨2, _⟩ => show 0 + 1 * (x : ℕ) = (x : ℕ); omega

theorem ld_r0_7 (hb : (b : ℕ) = 1) (p : Fin 11520) (d : Fin 256) :
    (View.ld (Val := Elt Ideal) (e' := .fp8e4m3) k r0_7 : FVec Ideal S1x11520x256 .fp8e4m3) (ix3 (0 : Fin 1) p d) = k (ix3 b p d) := by
  refine congrArg k ?_
  funext a; apply Fin.ext
  match a with
  | ⟨0, _⟩ => show 1 + 1 * 0 = (b : ℕ); omega
  | ⟨1, _⟩ => show 0 + 1 * (p : ℕ) = (p : ℕ); omega
  | ⟨2, _⟩ => show 0 + 1 * (d : ℕ) = (d : ℕ); omega

theorem ld_r0_8 (hb : (b : ℕ) = 1) (p : Fin 11520) :
    (View.ld (Val := Elt Ideal) (e' := .f32) ks r0_8 : FVec Ideal S1x11520 .f32) (ix2 (0 : Fin 1) p) = ks (ix2 b p) := by
  refine congrArg ks ?_
  funext a; apply Fin.ext
  match a with
  | ⟨0, _⟩ => show 1 + 1 * 0 = (b : ℕ); omega
  | ⟨1, _⟩ => show 0 + 1 * (p : ℕ) = (p : ℕ); omega

theorem ld_r0_0 (hb : (b : ℕ) = 0) (y : Fin 80) (x : Fin 144) (d : Fin 256) :
    (View.ld (Val := Elt Ideal) (e' := .fp8e4m3) q r0_0 : FVec Ideal S1x80x144x256 .fp8e4m3) (ix4 (0 : Fin 1) y x d) = q (ix4 b y x d) := by
  refine congrArg q ?_
  funext a; apply Fin.ext
  match a with
  | ⟨0, _⟩ => show 0 + 1 * 0 = (b : ℕ); omega
  | ⟨1, _⟩ => show 0 + 1 * (y : ℕ) = (y : ℕ); omega
  | ⟨2, _⟩ => show 0 + 1 * (x : ℕ) = (x : ℕ); omega
  | ⟨3, _⟩ => show 0 + 1 * (d : ℕ) = (d : ℕ); omega

theorem ld_r0_1 (hb : (b : ℕ) = 0) (y : Fin 80) (x : Fin 144) :
    (View.ld (Val := Elt Ideal) (e' := .f32) qs r0_1 : FVec Ideal S1x80x144 .f32) (ix3 (0 : Fin 1) y x) = qs (ix3 b y x) := by
  refine congrArg qs ?_
  funext a; apply Fin.ext
  match a with
  | ⟨0, _⟩ => show 0 + 1 * 0 = (b : ℕ); omega
  | ⟨1, _⟩ => show 0 + 1 * (y : ℕ) = (y : ℕ); omega
  | ⟨2, _⟩ => show 0 + 1 * (x : ℕ) = (x : ℕ); omega

theorem ld_r0_2 (hb : (b : ℕ) = 0) (p : Fin 11520) (d : Fin 256) :
    (View.ld (Val := Elt Ideal) (e' := .fp8e4m3) k r0_2 : FVec Ideal S1x11520x256 .fp8e4m3) (ix3 (0 : Fin 1) p d) = k (ix3 b p d) := by
  refine congrArg k ?_
  funext a; apply Fin.ext
  match a with
  | ⟨0, _⟩ => show 0 + 1 * 0 = (b : ℕ); omega
  | ⟨1, _⟩ => show 0 + 1 * (p : ℕ) = (p : ℕ); omega
  | ⟨2, _⟩ => show 0 + 1 * (d : ℕ) = (d : ℕ); omega

theorem ld_r0_3 (hb : (b : ℕ) = 0) (p : Fin 11520) :
    (View.ld (Val := Elt Ideal) (e' := .f32) ks r0_3 : FVec Ideal S1x11520 .f32) (ix2 (0 : Fin 1) p) = ks (ix2 b p) := by
  refine congrArg ks ?_
  funext a; apply Fin.ext
  match a with
  | ⟨0, _⟩ => show 0 + 1 * 0 = (b : ℕ); omega
  | ⟨1, _⟩ => show 0 + 1 * (p : ℕ) = (p : ℕ); omega

end

section
variable (q : FVec Ideal S3x80x144x256 .fp8e4m3) (qs : FVec Ideal S3x80x144 .f32) (k : FVec Ideal S3x11520x256 .fp8e4m3) (ks : FVec Ideal S3x11520 .f32)
  (b : Fin 3) (y : Fin 80) (X : Fin 18) (kt : Fin 90) (s : Fin 8) (l : Fin 128)

theorem st_2 (h : (b : ℕ) = 2) :
    (k0_pay1 (k0_pay6 (View.ld (Val := Elt Ideal) (e' := .fp8e4m3) q r0_10) (View.ld (Val := Elt Ideal) (e' := .f32) qs r0_11) (View.ld (Val := Elt Ideal) (e' := .fp8e4m3) k r0_12) (View.ld (Val := Elt Ideal) (e' := .f32) ks r0_13)) : FVec Ideal S1x80x18x90x8x128 .fp8e4m3)
      (ix6 (0 : Fin 1) y X kt s l) = rcode q qs k ks b y (Fin.ofNat 144 (8 * X + s)) (128 * kt + l) := by
  rw [pay1_eq, pay6_eq]
  exact store_at q qs k ks b (View.ld (Val := Elt Ideal) (e' := .fp8e4m3) q r0_10) (View.ld (Val := Elt Ideal) (e' := .f32) qs r0_11) (View.ld (Val := Elt Ideal) (e' := .fp8e4m3) k r0_12) (View.ld (Val := Elt Ideal) (e' := .f32) ks r0_13)
    (ld_r0_10 q b h) (ld_r0_11 qs b h) (ld_r0_12 k b h) (ld_r0_13 ks b h) y X kt s l

theorem st_1 (h : (b : ℕ) = 1) :
    (k0_pay5 (k0_pay4 (View.ld (Val := Elt Ideal) (e' := .fp8e4m3) q r0_5) (View.ld (Val := Elt Ideal) (e' := .f32) qs r0_6) (View.ld (Val := Elt Ideal) (e' := .fp8e4m3) k r0_7) (View.ld (Val := Elt Ideal) (e' := .f32) ks r0_8)) : FVec Ideal S1x80x18x90x8x128 .fp8e4m3)
      (ix6 (0 : Fin 1) y X kt s l) = rcode q qs k ks b y (Fin.ofNat 144 (8 * X + s)) (128 * kt + l) := by
  rw [pay5_eq, pay4_eq]
  exact store_at q qs k ks b (View.ld (Val := Elt Ideal) (e' := .fp8e4m3) q r0_5) (View.ld (Val := Elt Ideal) (e' := .f32) qs r0_6) (View.ld (Val := Elt Ideal) (e' := .fp8e4m3) k r0_7) (View.ld (Val := Elt Ideal) (e' := .f32) ks r0_8)
    (ld_r0_5 q b h) (ld_r0_6 qs b h) (ld_r0_7 k b h) (ld_r0_8 ks b h) y X kt s l

theorem st_0 (h : (b : ℕ) = 0) :
    (k0_pay3 (k0_pay2 (View.ld (Val := Elt Ideal) (e' := .fp8e4m3) q r0_0) (View.ld (Val := Elt Ideal) (e' := .f32) qs r0_1) (View.ld (Val := Elt Ideal) (e' := .fp8e4m3) k r0_2) (View.ld (Val := Elt Ideal) (e' := .f32) ks r0_3)) : FVec Ideal S1x80x18x90x8x128 .fp8e4m3)
      (ix6 (0 : Fin 1) y X kt s l) = rcode q qs k ks b y (Fin.ofNat 144 (8 * X + s)) (128 * kt + l) := by
  rw [pay3_eq, pay2_eq]
  exact store_at q qs k ks b (View.ld (Val := Elt Ideal) (e' := .fp8e4m3) q r0_0) (View.ld (Val := Elt Ideal) (e' := .f32) qs r0_1) (View.ld (Val := Elt Ideal) (e' := .fp8e4m3) k r0_2) (View.ld (Val := Elt Ideal) (e' := .f32) ks r0_3)
    (ld_r0_0 q b h) (ld_r0_1 qs b h) (ld_r0_2 k b h) (ld_r0_3 ks b h) y X kt s l

theorem cases3 : (b : ℕ) = 2 ∨ ((b : ℕ) ≠ 2 ∧ (b : ℕ) = 1) ∨ ((b : ℕ) ≠ 2 ∧ (b : ℕ) ≠ 1 ∧ (b : ℕ) = 0) := by
  have := b.2
  omega

/-- The result of the reference. -/
theorem G5_at (a4 : Vec Ideal S3 .f32) :
    Value.G5 q qs k ks a4 (ix6 b y X kt s l) = rcode q qs k ks b y (Fin.ofNat 144 (8 * X + s)) (128 * kt + l) := by
  refine pick r0_14 r0_9 r0_4 _ _ _ _ _ ?_
  rcases cases3 b with h | ⟨n2, h⟩ | ⟨n2, n1, h⟩
  · exact Or.inl ⟨_, emb_r0_14 b y X kt s l h, st_2 q qs k ks b y X kt s l h⟩
  · exact Or.inr (Or.inl ⟨out_r0_14 b y X kt s l n2, _, emb_r0_9 b y X kt s l h, st_1 q qs k ks b y X kt s l h⟩)
  · exact Or.inr (Or.inr ⟨out_r0_14 b y X kt s l n2, out_r0_9 b y X kt s l n1, _, emb_r0_4 b y X kt s l h, st_0 q qs k ks b y X kt s l h⟩)
end

end

end Cert.ReferenceIdeal.Own

end
-- ==== Proof.Equal.lean ====
/-
  The kernel and the reference compute the same codes when the query scales are positive.
-/
module

public import proofs.«01_k».proof.Proof.Block
public import proofs.«01_k».proof.Proof.Plain
public import proofs.«01_k».proof.Proof.Scale

@[expose] public section

set_option maxRecDepth 16384

noncomputable section

namespace Cert.KernelIdeal.Own

open Idealize.ShloMosaic Idealize.ShloMosaic.TcCoe Idealize.SL.Sem
open Cert.Steps Cert.KernelIdeal.Gen

section
variable (q : FVec Ideal S3x80x144x256 .fp8e4m3) (qs : FVec Ideal S3x80x144 .f32) (k : FVec Ideal S3x11520x256 .fp8e4m3) (ks : FVec Ideal S3x11520 .f32)

theorem cor_eq (b : Fin 3) (y : Fin 80) (x : Fin 144) (p : ℕ) :
    Cert.ReferenceIdeal.Own.cor q qs k ks b y x p = prod q k ks b y x p * fac qs b y x := by
  have e : (∑ d : Fin 256, (q (ix4 b y x d) : EReal) * (k (ix3 b (Fin.ofNat 11520 p) d) : EReal))
      = ∑ d : Fin 256, (k (ix3 b (Fin.ofNat 11520 p) d) : EReal) * (q (ix4 b y x d) : EReal) :=
    Finset.sum_congr rfl fun d _ => mul_comm _ _
  unfold Cert.ReferenceIdeal.Own.cor prod fac
  rw [e]
  generalize (∑ d : Fin 256, (k (ix3 b (Fin.ofNat 11520 p) d) : EReal) * (q (ix4 b y x d) : EReal)) = u
  generalize (qs (ix3 b y x) : EReal) = v
  generalize (ks (ix2 b (Fin.ofNat 11520 p)) : EReal) = w
  rw [mul_assoc u w, mul_assoc u v, mul_assoc u, mul_comm v w, mul_assoc w v]

/-- The code of a pair of pixels is the same in both. -/
theorem kcode_eq (b : Fin 3) (y : Fin 80) (x : Fin 144) (h : (0 : EReal) < qs (ix3 b y x)) {p : ℕ} (hp : p < 11520) :
    kcode q qs k ks b y x p = Cert.ReferenceIdeal.Own.rcode q qs k ks b y x p := by
  unfold kcode Cert.ReferenceIdeal.Own.rcode
  simp only [cor_eq]
  exact congrArg (fun z : EReal => min (Ideal.ofBits .f32 0x43E00000#32) (max (Ideal.ofBits .f32 0xC3E00000#32) z))
    (Cert.Scale.code_eq (c := fac qs b y x) (Cert.Scale.factor_pos h) (fun p => prod q k ks b y x p) hp)

theorem bound (kt : Fin 90) (l : Fin 128) : 128 * (kt : ℕ) + (l : ℕ) < 11520 := by omega

theorem eta6 (j : S3x80x18x90x8x128.Idx) : ∃ (b : Fin 3) (y : Fin 80) (X : Fin 18) (kt : Fin 90) (s : Fin 8) (l : Fin 128), j = ix6 b y X kt s l := by
  refine ⟨j 0, j 1, j 2, j 3, j 4, j 5, ?_⟩
  funext a
  match a with
  | ⟨0, _⟩ => rfl
  | ⟨1, _⟩ => rfl
  | ⟨2, _⟩ => rfl
  | ⟨3, _⟩ => rfl
  | ⟨4, _⟩ => rfl
  | ⟨5, _⟩ => rfl

theorem G_at (b : Fin 3) (y : Fin 80) (X : Fin 18) (kt : Fin 90) (s : Fin 8) (l : Fin 128) :
    G q qs k ks (ix6 b y X kt s l) = kcode q qs k ks b y (Fin.ofNat 144 (8 * (X : ℕ) + (s : ℕ))) (128 * (kt : ℕ) + (l : ℕ)) := rfl

theorem same (a4 : Vec Ideal S3 .f32) (h : ∀ i, (0 : EReal) < qs i) (b : Fin 3) (y : Fin 80) (X : Fin 18) (kt : Fin 90) (s : Fin 8) (l : Fin 128) :
    G q qs k ks (ix6 b y X kt s l) = Cert.ReferenceIdeal.Value.G5 q qs k ks a4 (ix6 b y X kt s l) := by
  rw [G_at, Cert.ReferenceIdeal.Own.G5_at, kcode_eq q qs k ks b y _ (h _) (bound kt l)]

/-- The results agree. -/
theorem G_eq (a4 : Vec Ideal S3 .f32) (h : ∀ i, (0 : EReal) < qs i) : G q qs k ks = Cert.ReferenceIdeal.Value.G5 q qs k ks a4 := by
  funext j
  obtain ⟨b, y, X, kt, s, l, e⟩ := eta6 j
  rw [e]
  exact same q qs k ks a4 h b y X kt s l
end

variable (m : (ℓ : Loc nD τ sig) → Buf (Elt Ideal) ℓ) (ρ : Dev nD → PrngReg)

/-- The run of the kernel: its first result from its arguments, which end unchanged. -/
theorem run : θ_run defs (onTc (τ := τ) (main (F := Ideal))) ⟨m, fun _ => 0, ρ⟩ (fun r => ∀ c : Dev nD,
      r.2.mem ((c.tc : Thread nD τ).loc main_v5_0) = Gm m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun r h c => ⟨(h.1 c).trans (final6 m c), h.2.1 c⟩)
    (θ_run_and (result m ρ (B m) (hB m)) (frame m ρ (B m) (hB m)))

end Cert.KernelIdeal.Own

end
-- ==== Proof.Pre.lean ====
/-
  What the precondition says: every query pixel's scale is positive.
-/
module

public import proofs.«01_k».proof.Pre_positive_scales
public import Idealize.ShloMosaic.Lib.ReduceAll
public import Idealize.ShloMosaic.Lib.IdealHost

@[expose] public section

noncomputable section

namespace Cert.Pre_positive_scales

open Idealize.ShloMosaic

theorem facts : Facts where
  bcast_S_S3x80x144 := by decide
  reducesTo_S3x80x144_S_d0_1_2 := by decide
  h_S_ := by decide

/-- If the predicate holds, every scale is positive. -/
theorem pos [Facts] {a0 : FVec Ideal S3x80x144x256 .fp8e4m3} {a1 : FVec Ideal S3x80x144 .f32} {a2 : FVec Ideal S3x11520x256 .fp8e4m3}
    {a3 : FVec Ideal S3x11520 .f32} {a4 : FVec Ideal S3 .f32} (h : fn a0 a1 a2 a3 a4 = fun _ => 1#1) (i : S3x80x144.Idx) : (0 : EReal) < a1 i := by
  have e : fn a0 a1 a2 a3 a4 (fun a => a.elim0) = 1#1 := by rw [h]
  have : Subsingleton S_.Idx := ⟨fun a b => funext fun x => x.elim0⟩
  have e2 := Host.reduce_andi_all _ _ _ _ _ e i
  have e3 : Ideal.cmp .ogt (a1 i) (Ideal.ofBits .f32 0x00000000#32) = 1#1 := e2
  rw [Ideal.ofBits_zero_f32] at e3
  by_contra hn
  simp [Ideal.cmp, hn] at e3

end Cert.Pre_positive_scales

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.Equal
public import proofs.«01_k».proof.Proof.Pre
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal_pre_positive_scales
    (hKernelIdeal := Cert.KernelIdeal.Gen.facts) (hReferenceIdeal := Cert.ReferenceIdeal.Gen.facts) (hPre_positive_scales := Cert.Pre_positive_scales.facts) := by
  intro m g m' g' hp ha
  haveI := Cert.Pre_positive_scales.facts
  refine ⟨fun c => Cert.KernelIdeal.Own.Gm m c, Cert.KernelIdeal.Own.run m g, ?_⟩
  refine (θ_run Cert.ReferenceIdeal.defs _ _).mono (fun r h c => ⟨(h c).1.trans ?_, (h c).2⟩) (Cert.ReferenceIdeal.Value.run m' g')
  obtain ⟨e0, e1, e2, e3, e4⟩ := ha c
  rw [e0, e1, e2, e3, e4]
  exact (Cert.KernelIdeal.Own.G_eq _ _ _ _ _ fun i => Cert.Pre_positive_scales.pos (hp c) i).symm

theorem claim : Cert.Claim :=
  ⟨Cert.Kernel.Gen.facts, Cert.KernelIdeal.Gen.facts, Cert.ReferenceIdeal.Gen.facts, Cert.Pre_positive_scales.facts,
    fun m ρ _ => Cert.Kernel.Own.frame m ρ,
    fun m ρ _ => Cert.KernelIdeal.Own.frame m ρ (Cert.KernelIdeal.Own.B m) (Cert.KernelIdeal.Own.hB m),
    fun m ρ _ => Cert.KernelIdeal.Own.frame m ρ (Cert.KernelIdeal.Own.B m) (Cert.KernelIdeal.Own.hB m),
    fun m ρ _ => Cert.ReferenceIdeal.Gen.frame m ρ,
    fun m ρ _ => Cert.ReferenceIdeal.Gen.frame m ρ,
    trivial, algebraic⟩

end Cert.Proof

end
